-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_ct_finite [hPre_conv_ct_finite : Cert.Pre_conv_ct_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_ct_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_ct_finite [hPre_conv_ct_finite : Cert.Pre_conv_ct_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_ct_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2))) = (fun _ => 1#1)

def Pre_GatedNormBwd (m : (ℓ : Loc Cert.GatedNormBwd.nD Cert.GatedNormBwd.τ Cert.GatedNormBwd.sig) → Buf (Elt Bits) ℓ) : Prop :=
  True

def Pre_GatedNormBwdIdeal (m : (ℓ : Loc Cert.GatedNormBwdIdeal.nD Cert.GatedNormBwdIdeal.τ Cert.GatedNormBwdIdeal.sig) → Buf (Elt Ideal) ℓ) : Prop :=
  True

def Pre_GatedNormRefIdeal (m : (ℓ : Loc Cert.GatedNormRefIdeal.nD Cert.GatedNormRefIdeal.τ Cert.GatedNormRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_HeadLoss (m : (ℓ : Loc Cert.HeadLoss.nD Cert.HeadLoss.τ Cert.HeadLoss.sig) → Buf (Elt Bits) ℓ) : Prop :=
  True

def Pre_HeadLossIdeal (m : (ℓ : Loc Cert.HeadLossIdeal.nD Cert.HeadLossIdeal.τ Cert.HeadLossIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_finite [hPre_attn_finite : Cert.Pre_attn_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFRefIdeal (m : (ℓ : Loc Cert.AttnFRefIdeal.nD Cert.AttnFRefIdeal.τ Cert.AttnFRefIdeal.sig) → Buf (Elt Ideal) ℓ) : Prop :=
  True

def Pre_AttnFRefIdeal_attn_finite [hPre_attn_finite : Cert.Pre_attn_finite.Facts] (m : (ℓ : Loc Cert.AttnFRefIdeal.nD Cert.AttnFRefIdeal.τ Cert.AttnFRefIdeal.sig) → Buf (Elt Ideal) ℓ) : Prop :=
  ∀ c : Dev Cert.AttnFRefIdeal.nD,
    (Cert.Pre_attn_finite.fn (F := Ideal) (m ((c.tc : Thread Cert.AttnFRefIdeal.nD Cert.AttnFRefIdeal.τ).loc Cert.AttnFRefIdeal.main_arg0)) (m ((c.tc : Thread Cert.AttnFRefIdeal.nD Cert.AttnFRefIdeal.τ).loc Cert.AttnFRefIdeal.main_arg1))) = (fun _ => 1#1)

def Pre_RmsMix (m : (ℓ : Loc Cert.RmsMix.nD Cert.RmsMix.τ Cert.RmsMix.sig) → Buf (Elt Bits) ℓ) : Prop :=
  True

def Pre_RmsMixIdeal (m : (ℓ : Loc Cert.RmsMixIdeal.nD Cert.RmsMixIdeal.τ Cert.RmsMixIdeal.sig) → Buf (Elt Ideal) ℓ) : Prop :=
  True

def Pre_RmsMixRefIdeal (m : (ℓ : Loc Cert.RmsMixRefIdeal.nD Cert.RmsMixRefIdeal.τ Cert.RmsMixRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_GateScalarsFwd (m : (ℓ : Loc Cert.GateScalarsFwd.nD Cert.GateScalarsFwd.τ Cert.GateScalarsFwd.sig) → Buf (Elt Bits) ℓ) : Prop :=
  True

def Pre_GateScalarsFwdIdeal (m : (ℓ : Loc Cert.GateScalarsFwdIdeal.nD Cert.GateScalarsFwdIdeal.τ Cert.GateScalarsFwdIdeal.sig) → Buf (Elt Ideal) ℓ) : Prop :=
  True

def Pre_GateScalarsFRefIdeal (m : (ℓ : Loc Cert.GateScalarsFRefIdeal.nD Cert.GateScalarsFRefIdeal.τ Cert.GateScalarsFRefIdeal.sig) → Buf (Elt Ideal) ℓ) : Prop :=
  True

def Pre_GatedNormFwd (m : (ℓ : Loc Cert.GatedNormFwd.nD Cert.GatedNormFwd.τ Cert.GatedNormFwd.sig) → Buf (Elt Bits) ℓ) : Prop :=
  True

def Pre_GatedNormFwdIdeal (m : (ℓ : Loc Cert.GatedNormFwdIdeal.nD Cert.GatedNormFwdIdeal.τ Cert.GatedNormFwdIdeal.sig) → Buf (Elt Ideal) ℓ) : Prop :=
  True

def Pre_GatedNormFRefIdeal (m : (ℓ : Loc Cert.GatedNormFRefIdeal.nD Cert.GatedNormFRefIdeal.τ Cert.GatedNormFRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_ResidualMix (m : (ℓ : Loc Cert.ResidualMix.nD Cert.ResidualMix.τ Cert.ResidualMix.sig) → Buf (Elt Bits) ℓ) : Prop :=
  True

def Pre_ResidualMixIdeal (m : (ℓ : Loc Cert.ResidualMixIdeal.nD Cert.ResidualMixIdeal.τ Cert.ResidualMixIdeal.sig) → Buf (Elt Ideal) ℓ) : Prop :=
  True

def Pre_ResidualMixRefIdeal (m : (ℓ : Loc Cert.ResidualMixRefIdeal.nD Cert.ResidualMixRefIdeal.τ Cert.ResidualMixRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFRefIdeal (m : (ℓ : Loc Cert.SwigluFRefIdeal.nD Cert.SwigluFRefIdeal.τ Cert.SwigluFRefIdeal.sig) → Buf (Elt Ideal) ℓ) : Prop :=
  True

def Pre_ResidualFfn (m : (ℓ : Loc Cert.ResidualFfn.nD Cert.ResidualFfn.τ Cert.ResidualFfn.sig) → Buf (Elt Bits) ℓ) : Prop :=
  True

def Pre_ResidualFfnIdeal (m : (ℓ : Loc Cert.ResidualFfnIdeal.nD Cert.ResidualFfnIdeal.τ Cert.ResidualFfnIdeal.sig) → Buf (Elt Ideal) ℓ) : Prop :=
  True

def Pre_ResidualFfnRefIdeal (m : (ℓ : Loc Cert.ResidualFfnRefIdeal.nD Cert.ResidualFfnRefIdeal.τ Cert.ResidualFfnRefIdeal.sig) → Buf (Elt Ideal) ℓ) : Prop :=
  True

def Pre_GateScalarsBwd (m : (ℓ : Loc Cert.GateScalarsBwd.nD Cert.GateScalarsBwd.τ Cert.GateScalarsBwd.sig) → Buf (Elt Bits) ℓ) : Prop :=
  True

def Pre_GateScalarsBwdIdeal (m : (ℓ : Loc Cert.GateScalarsBwdIdeal.nD Cert.GateScalarsBwdIdeal.τ Cert.GateScalarsBwdIdeal.sig) → Buf (Elt Ideal) ℓ) : Prop :=
  True

def Pre_GateScalarsBwdIdeal_gate_scalars_ok [hPre_gate_scalars_ok : Cert.Pre_gate_scalars_ok.Facts] (m : (ℓ : Loc Cert.GateScalarsBwdIdeal.nD Cert.GateScalarsBwdIdeal.τ Cert.GateScalarsBwdIdeal.sig) → Buf (Elt Ideal) ℓ) : Prop :=
  ∀ c : Dev Cert.GateScalarsBwdIdeal.nD,
    (Cert.Pre_gate_scalars_ok.fn (F := Ideal) (m ((c.tc : Thread Cert.GateScalarsBwdIdeal.nD Cert.GateScalarsBwdIdeal.τ).loc Cert.GateScalarsBwdIdeal.main_arg0)) (m ((c.tc : Thread Cert.GateScalarsBwdIdeal.nD Cert.GateScalarsBwdIdeal.τ).loc Cert.GateScalarsBwdIdeal.main_arg1)) (m ((c.tc : Thread Cert.GateScalarsBwdIdeal.nD Cert.GateScalarsBwdIdeal.τ).loc Cert.GateScalarsBwdIdeal.main_arg2)) (m ((c.tc : Thread Cert.GateScalarsBwdIdeal.nD Cert.GateScalarsBwdIdeal.τ).loc Cert.GateScalarsBwdIdeal.main_arg3)) (m ((c.tc : Thread Cert.GateScalarsBwdIdeal.nD Cert.GateScalarsBwdIdeal.τ).loc Cert.GateScalarsBwdIdeal.main_arg4))) = (fun _ => 1#1)

def Pre_GateScalarsRefIdeal (m : (ℓ : Loc Cert.GateScalarsRefIdeal.nD Cert.GateScalarsRefIdeal.τ Cert.GateScalarsRefIdeal.sig) → Buf (Elt Ideal) ℓ) : Prop :=
  True

def Pre_GateScalarsRefIdeal_gate_scalars_ok [hPre_gate_scalars_ok : Cert.Pre_gate_scalars_ok.Facts] (m : (ℓ : Loc Cert.GateScalarsRefIdeal.nD Cert.GateScalarsRefIdeal.τ Cert.GateScalarsRefIdeal.sig) → Buf (Elt Ideal) ℓ) : Prop :=
  ∀ c : Dev Cert.GateScalarsRefIdeal.nD,
    (Cert.Pre_gate_scalars_ok.fn (F := Ideal) (m ((c.tc : Thread Cert.GateScalarsRefIdeal.nD Cert.GateScalarsRefIdeal.τ).loc Cert.GateScalarsRefIdeal.main_arg0)) (m ((c.tc : Thread Cert.GateScalarsRefIdeal.nD Cert.GateScalarsRefIdeal.τ).loc Cert.GateScalarsRefIdeal.main_arg1)) (m ((c.tc : Thread Cert.GateScalarsRefIdeal.nD Cert.GateScalarsRefIdeal.τ).loc Cert.GateScalarsRefIdeal.main_arg2)) (m ((c.tc : Thread Cert.GateScalarsRefIdeal.nD Cert.GateScalarsRefIdeal.τ).loc Cert.GateScalarsRefIdeal.main_arg3)) (m ((c.tc : Thread Cert.GateScalarsRefIdeal.nD Cert.GateScalarsRefIdeal.τ).loc Cert.GateScalarsRefIdeal.main_arg4))) = (fun _ => 1#1)

def Pre_WeightBwd (m : (ℓ : Loc Cert.WeightBwd.nD Cert.WeightBwd.τ Cert.WeightBwd.sig) → Buf (Elt Bits) ℓ) : Prop :=
  True

def Pre_WeightBwdIdeal (m : (ℓ : Loc Cert.WeightBwdIdeal.nD Cert.WeightBwdIdeal.τ Cert.WeightBwdIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_InputBwd (m : (ℓ : Loc Cert.InputBwd.nD Cert.InputBwd.τ Cert.InputBwd.sig) → Buf (Elt Bits) ℓ) : Prop :=
  True

def Pre_InputBwdIdeal (m : (ℓ : Loc Cert.InputBwdIdeal.nD Cert.InputBwdIdeal.τ Cert.InputBwdIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdIdeal_pre_conv_ct_finite [hConvBwdIdeal : Cert.ConvBwdIdeal.Facts] [hPre_conv_ct_finite : Cert.Pre_conv_ct_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_ct_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_ConvRefIdeal_pre_conv_ct_finite [hConvRefIdeal : Cert.ConvRefIdeal.Facts] [hPre_conv_ct_finite : Cert.Pre_conv_ct_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_ct_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_GatedNormBwd [hGatedNormBwd : Cert.GatedNormBwd.Facts] : Prop :=
  ∀ (m : (ℓ : Loc Cert.GatedNormBwd.nD Cert.GatedNormBwd.τ Cert.GatedNormBwd.sig) → Buf (Elt Bits) ℓ) (g : Dev Cert.GatedNormBwd.nD → PrngReg), Pre_GatedNormBwd m →
    θ_run (Cert.GatedNormBwd.defs (F := Bits)) (onTc (τ := Cert.GatedNormBwd.τ) (Cert.GatedNormBwd.main (F := Bits))) ⟨m, fun _ => 0, g⟩ (fun r => (∀ c : Dev Cert.GatedNormBwd.nD,
      r.2.mem ((c.tc : Thread Cert.GatedNormBwd.nD Cert.GatedNormBwd.τ).loc Cert.GatedNormBwd.main_arg0) = m ((c.tc : Thread Cert.GatedNormBwd.nD Cert.GatedNormBwd.τ).loc Cert.GatedNormBwd.main_arg0)
      ∧ r.2.mem ((c.tc : Thread Cert.GatedNormBwd.nD Cert.GatedNormBwd.τ).loc Cert.GatedNormBwd.main_arg1) = m ((c.tc : Thread Cert.GatedNormBwd.nD Cert.GatedNormBwd.τ).loc Cert.GatedNormBwd.main_arg1)
      ∧ r.2.mem ((c.tc : Thread Cert.GatedNormBwd.nD Cert.GatedNormBwd.τ).loc Cert.GatedNormBwd.main_arg2) = m ((c.tc : Thread Cert.GatedNormBwd.nD Cert.GatedNormBwd.τ).loc Cert.GatedNormBwd.main_arg2)
      ∧ r.2.mem ((c.tc : Thread Cert.GatedNormBwd.nD Cert.GatedNormBwd.τ).loc Cert.GatedNormBwd.main_arg3) = m ((c.tc : Thread Cert.GatedNormBwd.nD Cert.GatedNormBwd.τ).loc Cert.GatedNormBwd.main_arg3))
      ∧ r.2.sem = fun _ => 0)

def quiescent_GatedNormBwdIdeal [hGatedNormBwdIdeal : Cert.GatedNormBwdIdeal.Facts] : Prop :=
  ∀ (m : (ℓ : Loc Cert.GatedNormBwdIdeal.nD Cert.GatedNormBwdIdeal.τ Cert.GatedNormBwdIdeal.sig) → Buf (Elt Ideal) ℓ) (g : Dev Cert.GatedNormBwdIdeal.nD → PrngReg), Pre_GatedNormBwdIdeal m →
    θ_run (Cert.GatedNormBwdIdeal.defs (F := Ideal)) (onTc (τ := Cert.GatedNormBwdIdeal.τ) (Cert.GatedNormBwdIdeal.main (F := Ideal))) ⟨m, fun _ => 0, g⟩ (fun r => (∀ c : Dev Cert.GatedNormBwdIdeal.nD,
      r.2.mem ((c.tc : Thread Cert.GatedNormBwdIdeal.nD Cert.GatedNormBwdIdeal.τ).loc Cert.GatedNormBwdIdeal.main_arg0) = m ((c.tc : Thread Cert.GatedNormBwdIdeal.nD Cert.GatedNormBwdIdeal.τ).loc Cert.GatedNormBwdIdeal.main_arg0)
      ∧ r.2.mem ((c.tc : Thread Cert.GatedNormBwdIdeal.nD Cert.GatedNormBwdIdeal.τ).loc Cert.GatedNormBwdIdeal.main_arg1) = m ((c.tc : Thread Cert.GatedNormBwdIdeal.nD Cert.GatedNormBwdIdeal.τ).loc Cert.GatedNormBwdIdeal.main_arg1)
      ∧ r.2.mem ((c.tc : Thread Cert.GatedNormBwdIdeal.nD Cert.GatedNormBwdIdeal.τ).loc Cert.GatedNormBwdIdeal.main_arg2) = m ((c.tc : Thread Cert.GatedNormBwdIdeal.nD Cert.GatedNormBwdIdeal.τ).loc Cert.GatedNormBwdIdeal.main_arg2)
      ∧ r.2.mem ((c.tc : Thread Cert.GatedNormBwdIdeal.nD Cert.GatedNormBwdIdeal.τ).loc Cert.GatedNormBwdIdeal.main_arg3) = m ((c.tc : Thread Cert.GatedNormBwdIdeal.nD Cert.GatedNormBwdIdeal.τ).loc Cert.GatedNormBwdIdeal.main_arg3))
      ∧ r.2.sem = fun _ => 0)

def quiescent_GatedNormRefIdeal [hGatedNormRefIdeal : Cert.GatedNormRefIdeal.Facts] : Prop :=
  ∀ (m : (ℓ : Loc Cert.GatedNormRefIdeal.nD Cert.GatedNormRefIdeal.τ Cert.GatedNormRefIdeal.sig) → Buf (Elt Ideal) ℓ) (g : Dev Cert.GatedNormRefIdeal.nD → PrngReg), Pre_GatedNormRefIdeal m →
    θ_run (Cert.GatedNormRefIdeal.defs (F := Ideal)) (onTc (τ := Cert.GatedNormRefIdeal.τ) (Cert.GatedNormRefIdeal.main (F := Ideal))) ⟨m, fun _ => 0, g⟩ (fun r => (∀ c : Dev Cert.GatedNormRefIdeal.nD,
      r.2.mem ((c.tc : Thread Cert.GatedNormRefIdeal.nD Cert.GatedNormRefIdeal.τ).loc Cert.GatedNormRefIdeal.main_arg0) = m ((c.tc : Thread Cert.GatedNormRefIdeal.nD Cert.GatedNormRefIdeal.τ).loc Cert.GatedNormRefIdeal.main_arg0)
      ∧ r.2.mem ((c.tc : Thread Cert.GatedNormRefIdeal.nD Cert.GatedNormRefIdeal.τ).loc Cert.GatedNormRefIdeal.main_arg1) = m ((c.tc : Thread Cert.GatedNormRefIdeal.nD Cert.GatedNormRefIdeal.τ).loc Cert.GatedNormRefIdeal.main_arg1)
      ∧ r.2.mem ((c.tc : Thread Cert.GatedNormRefIdeal.nD Cert.GatedNormRefIdeal.τ).loc Cert.GatedNormRefIdeal.main_arg2) = m ((c.tc : Thread Cert.GatedNormRefIdeal.nD Cert.GatedNormRefIdeal.τ).loc Cert.GatedNormRefIdeal.main_arg2)
      ∧ r.2.mem ((c.tc : Thread Cert.GatedNormRefIdeal.nD Cert.GatedNormRefIdeal.τ).loc Cert.GatedNormRefIdeal.main_arg3) = m ((c.tc : Thread Cert.GatedNormRefIdeal.nD Cert.GatedNormRefIdeal.τ).loc Cert.GatedNormRefIdeal.main_arg3))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3)
      ∧ r.2.mem ((c.tc : Thread Cert.RmsBwd.nD Cert.RmsBwd.τ).loc Cert.RmsBwd.main_arg4) = m ((c.tc : Thread Cert.RmsBwd.nD Cert.RmsBwd.τ).loc Cert.RmsBwd.main_arg4))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
      ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3)
      ∧ r.2.mem ((c.tc : Thread Cert.RmsRefIdeal.nD Cert.RmsRefIdeal.τ).loc Cert.RmsRefIdeal.main_arg4) = m ((c.tc : Thread Cert.RmsRefIdeal.nD Cert.RmsRefIdeal.τ).loc Cert.RmsRefIdeal.main_arg4))
      ∧ r.2.sem = fun _ => 0)

def quiescent_HeadLoss [hHeadLoss : Cert.HeadLoss.Facts] : Prop :=
  ∀ (m : (ℓ : Loc Cert.HeadLoss.nD Cert.HeadLoss.τ Cert.HeadLoss.sig) → Buf (Elt Bits) ℓ) (g : Dev Cert.HeadLoss.nD → PrngReg), Pre_HeadLoss m →
    θ_run (Cert.HeadLoss.defs (F := Bits)) (onTc (τ := Cert.HeadLoss.τ) (Cert.HeadLoss.main (F := Bits))) ⟨m, fun _ => 0, g⟩ (fun r => (∀ c : Dev Cert.HeadLoss.nD,
      r.2.mem ((c.tc : Thread Cert.HeadLoss.nD Cert.HeadLoss.τ).loc Cert.HeadLoss.main_arg0) = m ((c.tc : Thread Cert.HeadLoss.nD Cert.HeadLoss.τ).loc Cert.HeadLoss.main_arg0)
      ∧ r.2.mem ((c.tc : Thread Cert.HeadLoss.nD Cert.HeadLoss.τ).loc Cert.HeadLoss.main_arg1) = m ((c.tc : Thread Cert.HeadLoss.nD Cert.HeadLoss.τ).loc Cert.HeadLoss.main_arg1)
      ∧ r.2.mem ((c.tc : Thread Cert.HeadLoss.nD Cert.HeadLoss.τ).loc Cert.HeadLoss.main_arg2) = m ((c.tc : Thread Cert.HeadLoss.nD Cert.HeadLoss.τ).loc Cert.HeadLoss.main_arg2)
      ∧ r.2.mem ((c.tc : Thread Cert.HeadLoss.nD Cert.HeadLoss.τ).loc Cert.HeadLoss.main_arg3) = m ((c.tc : Thread Cert.HeadLoss.nD Cert.HeadLoss.τ).loc Cert.HeadLoss.main_arg3)
      ∧ r.2.mem ((c.tc : Thread Cert.HeadLoss.nD Cert.HeadLoss.τ).loc Cert.HeadLoss.main_arg4) = m ((c.tc : Thread Cert.HeadLoss.nD Cert.HeadLoss.τ).loc Cert.HeadLoss.main_arg4)
      ∧ r.2.mem ((c.tc : Thread Cert.HeadLoss.nD Cert.HeadLoss.τ).loc Cert.HeadLoss.main_arg5) = m ((c.tc : Thread Cert.HeadLoss.nD Cert.HeadLoss.τ).loc Cert.HeadLoss.main_arg5))
      ∧ r.2.sem = fun _ => 0)

def quiescent_HeadLossIdeal [hHeadLossIdeal : Cert.HeadLossIdeal.Facts] : Prop :=
  ∀ (m : (ℓ : Loc Cert.HeadLossIdeal.nD Cert.HeadLossIdeal.τ Cert.HeadLossIdeal.sig) → Buf (Elt Ideal) ℓ) (g : Dev Cert.HeadLossIdeal.nD → PrngReg), Pre_HeadLossIdeal m →
    θ_run (Cert.HeadLossIdeal.defs (F := Ideal)) (onTc (τ := Cert.HeadLossIdeal.τ) (Cert.HeadLossIdeal.main (F := Ideal))) ⟨m, fun _ => 0, g⟩ (fun r => (∀ c : Dev Cert.HeadLossIdeal.nD,
      r.2.mem ((c.tc : Thread Cert.HeadLossIdeal.nD Cert.HeadLossIdeal.τ).loc Cert.HeadLossIdeal.main_arg0) = m ((c.tc : Thread Cert.HeadLossIdeal.nD Cert.HeadLossIdeal.τ).loc Cert.HeadLossIdeal.main_arg0)
      ∧ r.2.mem ((c.tc : Thread Cert.HeadLossIdeal.nD Cert.HeadLossIdeal.τ).loc Cert.HeadLossIdeal.main_arg1) = m ((c.tc : Thread Cert.HeadLossIdeal.nD Cert.HeadLossIdeal.τ).loc Cert.HeadLossIdeal.main_arg1)
      ∧ r.2.mem ((c.tc : Thread Cert.HeadLossIdeal.nD Cert.HeadLossIdeal.τ).loc Cert.HeadLossIdeal.main_arg2) = m ((c.tc : Thread Cert.HeadLossIdeal.nD Cert.HeadLossIdeal.τ).loc Cert.HeadLossIdeal.main_arg2)
      ∧ r.2.mem ((c.tc : Thread Cert.HeadLossIdeal.nD Cert.HeadLossIdeal.τ).loc Cert.HeadLossIdeal.main_arg3) = m ((c.tc : Thread Cert.HeadLossIdeal.nD Cert.HeadLossIdeal.τ).loc Cert.HeadLossIdeal.main_arg3)
      ∧ r.2.mem ((c.tc : Thread Cert.HeadLossIdeal.nD Cert.HeadLossIdeal.τ).loc Cert.HeadLossIdeal.main_arg4) = m ((c.tc : Thread Cert.HeadLossIdeal.nD Cert.HeadLossIdeal.τ).loc Cert.HeadLossIdeal.main_arg4)
      ∧ r.2.mem ((c.tc : Thread Cert.HeadLossIdeal.nD Cert.HeadLossIdeal.τ).loc Cert.HeadLossIdeal.main_arg5) = m ((c.tc : Thread Cert.HeadLossIdeal.nD Cert.HeadLossIdeal.τ).loc Cert.HeadLossIdeal.main_arg5))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_finite [hAttnFwdIdeal : Cert.AttnFwdIdeal.Facts] [hPre_attn_finite : Cert.Pre_attn_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1))
      ∧ r.2.sem = fun _ => 0)

def quiescent_AttnFRefIdeal_pre_attn_finite [hAttnFRefIdeal : Cert.AttnFRefIdeal.Facts] [hPre_attn_finite : Cert.Pre_attn_finite.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal_attn_finite m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1))
      ∧ r.2.sem = fun _ => 0)

def quiescent_RmsMix [hRmsMix : Cert.RmsMix.Facts] : Prop :=
  ∀ (m : (ℓ : Loc Cert.RmsMix.nD Cert.RmsMix.τ Cert.RmsMix.sig) → Buf (Elt Bits) ℓ) (g : Dev Cert.RmsMix.nD → PrngReg), Pre_RmsMix m →
    θ_run (Cert.RmsMix.defs (F := Bits)) (onTc (τ := Cert.RmsMix.τ) (Cert.RmsMix.main (F := Bits))) ⟨m, fun _ => 0, g⟩ (fun r => (∀ c : Dev Cert.RmsMix.nD,
      r.2.mem ((c.tc : Thread Cert.RmsMix.nD Cert.RmsMix.τ).loc Cert.RmsMix.main_arg0) = m ((c.tc : Thread Cert.RmsMix.nD Cert.RmsMix.τ).loc Cert.RmsMix.main_arg0)
      ∧ r.2.mem ((c.tc : Thread Cert.RmsMix.nD Cert.RmsMix.τ).loc Cert.RmsMix.main_arg1) = m ((c.tc : Thread Cert.RmsMix.nD Cert.RmsMix.τ).loc Cert.RmsMix.main_arg1))
      ∧ r.2.sem = fun _ => 0)

def quiescent_RmsMixIdeal [hRmsMixIdeal : Cert.RmsMixIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg), Pre_RmsMixIdeal m →
    θ_run (Cert.RmsMixIdeal.defs (F := Ideal)) (onTc (τ := Cert.RmsMixIdeal.τ) (Cert.RmsMixIdeal.main (F := Ideal))) ⟨m, fun _ => 0, g⟩ (fun r => (∀ c : Dev Cert.RmsMixIdeal.nD,
      r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
      ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ r.2.sem = fun _ => 0)

def quiescent_RmsMixRefIdeal [hRmsMixRefIdeal : Cert.RmsMixRefIdeal.Facts] : Prop :=
  ∀ (m : (ℓ : Loc Cert.RmsMixRefIdeal.nD Cert.RmsMixRefIdeal.τ Cert.RmsMixRefIdeal.sig) → Buf (Elt Ideal) ℓ) (g : Dev Cert.RmsMixRefIdeal.nD → PrngReg), Pre_RmsMixRefIdeal m →
    θ_run (Cert.RmsMixRefIdeal.defs (F := Ideal)) (onTc (τ := Cert.RmsMixRefIdeal.τ) (Cert.RmsMixRefIdeal.main (F := Ideal))) ⟨m, fun _ => 0, g⟩ (fun r => (∀ c : Dev Cert.RmsMixRefIdeal.nD,
      r.2.mem ((c.tc : Thread Cert.RmsMixRefIdeal.nD Cert.RmsMixRefIdeal.τ).loc Cert.RmsMixRefIdeal.main_arg0) = m ((c.tc : Thread Cert.RmsMixRefIdeal.nD Cert.RmsMixRefIdeal.τ).loc Cert.RmsMixRefIdeal.main_arg0)
      ∧ r.2.mem ((c.tc : Thread Cert.RmsMixRefIdeal.nD Cert.RmsMixRefIdeal.τ).loc Cert.RmsMixRefIdeal.main_arg1) = m ((c.tc : Thread Cert.RmsMixRefIdeal.nD Cert.RmsMixRefIdeal.τ).loc Cert.RmsMixRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1))
      ∧ r.2.sem = fun _ => 0)

def quiescent_GateScalarsFwd [hGateScalarsFwd : Cert.GateScalarsFwd.Facts] : Prop :=
  ∀ (m : (ℓ : Loc Cert.GateScalarsFwd.nD Cert.GateScalarsFwd.τ Cert.GateScalarsFwd.sig) → Buf (Elt Bits) ℓ) (g : Dev Cert.GateScalarsFwd.nD → PrngReg), Pre_GateScalarsFwd m →
    θ_run (Cert.GateScalarsFwd.defs (F := Bits)) (onTc (τ := Cert.GateScalarsFwd.τ) (Cert.GateScalarsFwd.main (F := Bits))) ⟨m, fun _ => 0, g⟩ (fun r => (∀ c : Dev Cert.GateScalarsFwd.nD,
      r.2.mem ((c.tc : Thread Cert.GateScalarsFwd.nD Cert.GateScalarsFwd.τ).loc Cert.GateScalarsFwd.main_arg0) = m ((c.tc : Thread Cert.GateScalarsFwd.nD Cert.GateScalarsFwd.τ).loc Cert.GateScalarsFwd.main_arg0)
      ∧ r.2.mem ((c.tc : Thread Cert.GateScalarsFwd.nD Cert.GateScalarsFwd.τ).loc Cert.GateScalarsFwd.main_arg1) = m ((c.tc : Thread Cert.GateScalarsFwd.nD Cert.GateScalarsFwd.τ).loc Cert.GateScalarsFwd.main_arg1)
      ∧ r.2.mem ((c.tc : Thread Cert.GateScalarsFwd.nD Cert.GateScalarsFwd.τ).loc Cert.GateScalarsFwd.main_arg2) = m ((c.tc : Thread Cert.GateScalarsFwd.nD Cert.GateScalarsFwd.τ).loc Cert.GateScalarsFwd.main_arg2))
      ∧ r.2.sem = fun _ => 0)

def quiescent_GateScalarsFwdIdeal [hGateScalarsFwdIdeal : Cert.GateScalarsFwdIdeal.Facts] : Prop :=
  ∀ (m : (ℓ : Loc Cert.GateScalarsFwdIdeal.nD Cert.GateScalarsFwdIdeal.τ Cert.GateScalarsFwdIdeal.sig) → Buf (Elt Ideal) ℓ) (g : Dev Cert.GateScalarsFwdIdeal.nD → PrngReg), Pre_GateScalarsFwdIdeal m →
    θ_run (Cert.GateScalarsFwdIdeal.defs (F := Ideal)) (onTc (τ := Cert.GateScalarsFwdIdeal.τ) (Cert.GateScalarsFwdIdeal.main (F := Ideal))) ⟨m, fun _ => 0, g⟩ (fun r => (∀ c : Dev Cert.GateScalarsFwdIdeal.nD,
      r.2.mem ((c.tc : Thread Cert.GateScalarsFwdIdeal.nD Cert.GateScalarsFwdIdeal.τ).loc Cert.GateScalarsFwdIdeal.main_arg0) = m ((c.tc : Thread Cert.GateScalarsFwdIdeal.nD Cert.GateScalarsFwdIdeal.τ).loc Cert.GateScalarsFwdIdeal.main_arg0)
      ∧ r.2.mem ((c.tc : Thread Cert.GateScalarsFwdIdeal.nD Cert.GateScalarsFwdIdeal.τ).loc Cert.GateScalarsFwdIdeal.main_arg1) = m ((c.tc : Thread Cert.GateScalarsFwdIdeal.nD Cert.GateScalarsFwdIdeal.τ).loc Cert.GateScalarsFwdIdeal.main_arg1)
      ∧ r.2.mem ((c.tc : Thread Cert.GateScalarsFwdIdeal.nD Cert.GateScalarsFwdIdeal.τ).loc Cert.GateScalarsFwdIdeal.main_arg2) = m ((c.tc : Thread Cert.GateScalarsFwdIdeal.nD Cert.GateScalarsFwdIdeal.τ).loc Cert.GateScalarsFwdIdeal.main_arg2))
      ∧ r.2.sem = fun _ => 0)

def quiescent_GateScalarsFRefIdeal [hGateScalarsFRefIdeal : Cert.GateScalarsFRefIdeal.Facts] : Prop :=
  ∀ (m : (ℓ : Loc Cert.GateScalarsFRefIdeal.nD Cert.GateScalarsFRefIdeal.τ Cert.GateScalarsFRefIdeal.sig) → Buf (Elt Ideal) ℓ) (g : Dev Cert.GateScalarsFRefIdeal.nD → PrngReg), Pre_GateScalarsFRefIdeal m →
    θ_run (Cert.GateScalarsFRefIdeal.defs (F := Ideal)) (onTc (τ := Cert.GateScalarsFRefIdeal.τ) (Cert.GateScalarsFRefIdeal.main (F := Ideal))) ⟨m, fun _ => 0, g⟩ (fun r => (∀ c : Dev Cert.GateScalarsFRefIdeal.nD,
      r.2.mem ((c.tc : Thread Cert.GateScalarsFRefIdeal.nD Cert.GateScalarsFRefIdeal.τ).loc Cert.GateScalarsFRefIdeal.main_arg0) = m ((c.tc : Thread Cert.GateScalarsFRefIdeal.nD Cert.GateScalarsFRefIdeal.τ).loc Cert.GateScalarsFRefIdeal.main_arg0)
      ∧ r.2.mem ((c.tc : Thread Cert.GateScalarsFRefIdeal.nD Cert.GateScalarsFRefIdeal.τ).loc Cert.GateScalarsFRefIdeal.main_arg1) = m ((c.tc : Thread Cert.GateScalarsFRefIdeal.nD Cert.GateScalarsFRefIdeal.τ).loc Cert.GateScalarsFRefIdeal.main_arg1)
      ∧ r.2.mem ((c.tc : Thread Cert.GateScalarsFRefIdeal.nD Cert.GateScalarsFRefIdeal.τ).loc Cert.GateScalarsFRefIdeal.main_arg2) = m ((c.tc : Thread Cert.GateScalarsFRefIdeal.nD Cert.GateScalarsFRefIdeal.τ).loc Cert.GateScalarsFRefIdeal.main_arg2))
      ∧ r.2.sem = fun _ => 0)

def quiescent_GatedNormFwd [hGatedNormFwd : Cert.GatedNormFwd.Facts] : Prop :=
  ∀ (m : (ℓ : Loc Cert.GatedNormFwd.nD Cert.GatedNormFwd.τ Cert.GatedNormFwd.sig) → Buf (Elt Bits) ℓ) (g : Dev Cert.GatedNormFwd.nD → PrngReg), Pre_GatedNormFwd m →
    θ_run (Cert.GatedNormFwd.defs (F := Bits)) (onTc (τ := Cert.GatedNormFwd.τ) (Cert.GatedNormFwd.main (F := Bits))) ⟨m, fun _ => 0, g⟩ (fun r => (∀ c : Dev Cert.GatedNormFwd.nD,
      r.2.mem ((c.tc : Thread Cert.GatedNormFwd.nD Cert.GatedNormFwd.τ).loc Cert.GatedNormFwd.main_arg0) = m ((c.tc : Thread Cert.GatedNormFwd.nD Cert.GatedNormFwd.τ).loc Cert.GatedNormFwd.main_arg0)
      ∧ r.2.mem ((c.tc : Thread Cert.GatedNormFwd.nD Cert.GatedNormFwd.τ).loc Cert.GatedNormFwd.main_arg1) = m ((c.tc : Thread Cert.GatedNormFwd.nD Cert.GatedNormFwd.τ).loc Cert.GatedNormFwd.main_arg1)
      ∧ r.2.mem ((c.tc : Thread Cert.GatedNormFwd.nD Cert.GatedNormFwd.τ).loc Cert.GatedNormFwd.main_arg2) = m ((c.tc : Thread Cert.GatedNormFwd.nD Cert.GatedNormFwd.τ).loc Cert.GatedNormFwd.main_arg2))
      ∧ r.2.sem = fun _ => 0)

def quiescent_GatedNormFwdIdeal [hGatedNormFwdIdeal : Cert.GatedNormFwdIdeal.Facts] : Prop :=
  ∀ (m : (ℓ : Loc Cert.GatedNormFwdIdeal.nD Cert.GatedNormFwdIdeal.τ Cert.GatedNormFwdIdeal.sig) → Buf (Elt Ideal) ℓ) (g : Dev Cert.GatedNormFwdIdeal.nD → PrngReg), Pre_GatedNormFwdIdeal m →
    θ_run (Cert.GatedNormFwdIdeal.defs (F := Ideal)) (onTc (τ := Cert.GatedNormFwdIdeal.τ) (Cert.GatedNormFwdIdeal.main (F := Ideal))) ⟨m, fun _ => 0, g⟩ (fun r => (∀ c : Dev Cert.GatedNormFwdIdeal.nD,
      r.2.mem ((c.tc : Thread Cert.GatedNormFwdIdeal.nD Cert.GatedNormFwdIdeal.τ).loc Cert.GatedNormFwdIdeal.main_arg0) = m ((c.tc : Thread Cert.GatedNormFwdIdeal.nD Cert.GatedNormFwdIdeal.τ).loc Cert.GatedNormFwdIdeal.main_arg0)
      ∧ r.2.mem ((c.tc : Thread Cert.GatedNormFwdIdeal.nD Cert.GatedNormFwdIdeal.τ).loc Cert.GatedNormFwdIdeal.main_arg1) = m ((c.tc : Thread Cert.GatedNormFwdIdeal.nD Cert.GatedNormFwdIdeal.τ).loc Cert.GatedNormFwdIdeal.main_arg1)
      ∧ r.2.mem ((c.tc : Thread Cert.GatedNormFwdIdeal.nD Cert.GatedNormFwdIdeal.τ).loc Cert.GatedNormFwdIdeal.main_arg2) = m ((c.tc : Thread Cert.GatedNormFwdIdeal.nD Cert.GatedNormFwdIdeal.τ).loc Cert.GatedNormFwdIdeal.main_arg2))
      ∧ r.2.sem = fun _ => 0)

def quiescent_GatedNormFRefIdeal [hGatedNormFRefIdeal : Cert.GatedNormFRefIdeal.Facts] : Prop :=
  ∀ (m : (ℓ : Loc Cert.GatedNormFRefIdeal.nD Cert.GatedNormFRefIdeal.τ Cert.GatedNormFRefIdeal.sig) → Buf (Elt Ideal) ℓ) (g : Dev Cert.GatedNormFRefIdeal.nD → PrngReg), Pre_GatedNormFRefIdeal m →
    θ_run (Cert.GatedNormFRefIdeal.defs (F := Ideal)) (onTc (τ := Cert.GatedNormFRefIdeal.τ) (Cert.GatedNormFRefIdeal.main (F := Ideal))) ⟨m, fun _ => 0, g⟩ (fun r => (∀ c : Dev Cert.GatedNormFRefIdeal.nD,
      r.2.mem ((c.tc : Thread Cert.GatedNormFRefIdeal.nD Cert.GatedNormFRefIdeal.τ).loc Cert.GatedNormFRefIdeal.main_arg0) = m ((c.tc : Thread Cert.GatedNormFRefIdeal.nD Cert.GatedNormFRefIdeal.τ).loc Cert.GatedNormFRefIdeal.main_arg0)
      ∧ r.2.mem ((c.tc : Thread Cert.GatedNormFRefIdeal.nD Cert.GatedNormFRefIdeal.τ).loc Cert.GatedNormFRefIdeal.main_arg1) = m ((c.tc : Thread Cert.GatedNormFRefIdeal.nD Cert.GatedNormFRefIdeal.τ).loc Cert.GatedNormFRefIdeal.main_arg1)
      ∧ r.2.mem ((c.tc : Thread Cert.GatedNormFRefIdeal.nD Cert.GatedNormFRefIdeal.τ).loc Cert.GatedNormFRefIdeal.main_arg2) = m ((c.tc : Thread Cert.GatedNormFRefIdeal.nD Cert.GatedNormFRefIdeal.τ).loc Cert.GatedNormFRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2))
      ∧ r.2.sem = fun _ => 0)

def quiescent_ResidualMix [hResidualMix : Cert.ResidualMix.Facts] : Prop :=
  ∀ (m : (ℓ : Loc Cert.ResidualMix.nD Cert.ResidualMix.τ Cert.ResidualMix.sig) → Buf (Elt Bits) ℓ) (g : Dev Cert.ResidualMix.nD → PrngReg), Pre_ResidualMix m →
    θ_run (Cert.ResidualMix.defs (F := Bits)) (onTc (τ := Cert.ResidualMix.τ) (Cert.ResidualMix.main (F := Bits))) ⟨m, fun _ => 0, g⟩ (fun r => (∀ c : Dev Cert.ResidualMix.nD,
      r.2.mem ((c.tc : Thread Cert.ResidualMix.nD Cert.ResidualMix.τ).loc Cert.ResidualMix.main_arg0) = m ((c.tc : Thread Cert.ResidualMix.nD Cert.ResidualMix.τ).loc Cert.ResidualMix.main_arg0)
      ∧ r.2.mem ((c.tc : Thread Cert.ResidualMix.nD Cert.ResidualMix.τ).loc Cert.ResidualMix.main_arg1) = m ((c.tc : Thread Cert.ResidualMix.nD Cert.ResidualMix.τ).loc Cert.ResidualMix.main_arg1)
      ∧ r.2.mem ((c.tc : Thread Cert.ResidualMix.nD Cert.ResidualMix.τ).loc Cert.ResidualMix.main_arg2) = m ((c.tc : Thread Cert.ResidualMix.nD Cert.ResidualMix.τ).loc Cert.ResidualMix.main_arg2)
      ∧ r.2.mem ((c.tc : Thread Cert.ResidualMix.nD Cert.ResidualMix.τ).loc Cert.ResidualMix.main_arg3) = m ((c.tc : Thread Cert.ResidualMix.nD Cert.ResidualMix.τ).loc Cert.ResidualMix.main_arg3))
      ∧ r.2.sem = fun _ => 0)

def quiescent_ResidualMixIdeal [hResidualMixIdeal : Cert.ResidualMixIdeal.Facts] : Prop :=
  ∀ (m : (ℓ : Loc Cert.ResidualMixIdeal.nD Cert.ResidualMixIdeal.τ Cert.ResidualMixIdeal.sig) → Buf (Elt Ideal) ℓ) (g : Dev Cert.ResidualMixIdeal.nD → PrngReg), Pre_ResidualMixIdeal m →
    θ_run (Cert.ResidualMixIdeal.defs (F := Ideal)) (onTc (τ := Cert.ResidualMixIdeal.τ) (Cert.ResidualMixIdeal.main (F := Ideal))) ⟨m, fun _ => 0, g⟩ (fun r => (∀ c : Dev Cert.ResidualMixIdeal.nD,
      r.2.mem ((c.tc : Thread Cert.ResidualMixIdeal.nD Cert.ResidualMixIdeal.τ).loc Cert.ResidualMixIdeal.main_arg0) = m ((c.tc : Thread Cert.ResidualMixIdeal.nD Cert.ResidualMixIdeal.τ).loc Cert.ResidualMixIdeal.main_arg0)
      ∧ r.2.mem ((c.tc : Thread Cert.ResidualMixIdeal.nD Cert.ResidualMixIdeal.τ).loc Cert.ResidualMixIdeal.main_arg1) = m ((c.tc : Thread Cert.ResidualMixIdeal.nD Cert.ResidualMixIdeal.τ).loc Cert.ResidualMixIdeal.main_arg1)
      ∧ r.2.mem ((c.tc : Thread Cert.ResidualMixIdeal.nD Cert.ResidualMixIdeal.τ).loc Cert.ResidualMixIdeal.main_arg2) = m ((c.tc : Thread Cert.ResidualMixIdeal.nD Cert.ResidualMixIdeal.τ).loc Cert.ResidualMixIdeal.main_arg2)
      ∧ r.2.mem ((c.tc : Thread Cert.ResidualMixIdeal.nD Cert.ResidualMixIdeal.τ).loc Cert.ResidualMixIdeal.main_arg3) = m ((c.tc : Thread Cert.ResidualMixIdeal.nD Cert.ResidualMixIdeal.τ).loc Cert.ResidualMixIdeal.main_arg3))
      ∧ r.2.sem = fun _ => 0)

def quiescent_ResidualMixRefIdeal [hResidualMixRefIdeal : Cert.ResidualMixRefIdeal.Facts] : Prop :=
  ∀ (m : (ℓ : Loc Cert.ResidualMixRefIdeal.nD Cert.ResidualMixRefIdeal.τ Cert.ResidualMixRefIdeal.sig) → Buf (Elt Ideal) ℓ) (g : Dev Cert.ResidualMixRefIdeal.nD → PrngReg), Pre_ResidualMixRefIdeal m →
    θ_run (Cert.ResidualMixRefIdeal.defs (F := Ideal)) (onTc (τ := Cert.ResidualMixRefIdeal.τ) (Cert.ResidualMixRefIdeal.main (F := Ideal))) ⟨m, fun _ => 0, g⟩ (fun r => (∀ c : Dev Cert.ResidualMixRefIdeal.nD,
      r.2.mem ((c.tc : Thread Cert.ResidualMixRefIdeal.nD Cert.ResidualMixRefIdeal.τ).loc Cert.ResidualMixRefIdeal.main_arg0) = m ((c.tc : Thread Cert.ResidualMixRefIdeal.nD Cert.ResidualMixRefIdeal.τ).loc Cert.ResidualMixRefIdeal.main_arg0)
      ∧ r.2.mem ((c.tc : Thread Cert.ResidualMixRefIdeal.nD Cert.ResidualMixRefIdeal.τ).loc Cert.ResidualMixRefIdeal.main_arg1) = m ((c.tc : Thread Cert.ResidualMixRefIdeal.nD Cert.ResidualMixRefIdeal.τ).loc Cert.ResidualMixRefIdeal.main_arg1)
      ∧ r.2.mem ((c.tc : Thread Cert.ResidualMixRefIdeal.nD Cert.ResidualMixRefIdeal.τ).loc Cert.ResidualMixRefIdeal.main_arg2) = m ((c.tc : Thread Cert.ResidualMixRefIdeal.nD Cert.ResidualMixRefIdeal.τ).loc Cert.ResidualMixRefIdeal.main_arg2)
      ∧ r.2.mem ((c.tc : Thread Cert.ResidualMixRefIdeal.nD Cert.ResidualMixRefIdeal.τ).loc Cert.ResidualMixRefIdeal.main_arg3) = m ((c.tc : Thread Cert.ResidualMixRefIdeal.nD Cert.ResidualMixRefIdeal.τ).loc Cert.ResidualMixRefIdeal.main_arg3))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFRefIdeal [hSwigluFRefIdeal : Cert.SwigluFRefIdeal.Facts] : Prop :=
  ∀ (m : (ℓ : Loc Cert.SwigluFRefIdeal.nD Cert.SwigluFRefIdeal.τ Cert.SwigluFRefIdeal.sig) → Buf (Elt Ideal) ℓ) (g : Dev Cert.SwigluFRefIdeal.nD → PrngReg), Pre_SwigluFRefIdeal m →
    θ_run (Cert.SwigluFRefIdeal.defs (F := Ideal)) (onTc (τ := Cert.SwigluFRefIdeal.τ) (Cert.SwigluFRefIdeal.main (F := Ideal))) ⟨m, fun _ => 0, g⟩ (fun r => (∀ c : Dev Cert.SwigluFRefIdeal.nD,
      r.2.mem ((c.tc : Thread Cert.SwigluFRefIdeal.nD Cert.SwigluFRefIdeal.τ).loc Cert.SwigluFRefIdeal.main_arg0) = m ((c.tc : Thread Cert.SwigluFRefIdeal.nD Cert.SwigluFRefIdeal.τ).loc Cert.SwigluFRefIdeal.main_arg0)
      ∧ r.2.mem ((c.tc : Thread Cert.SwigluFRefIdeal.nD Cert.SwigluFRefIdeal.τ).loc Cert.SwigluFRefIdeal.main_arg1) = m ((c.tc : Thread Cert.SwigluFRefIdeal.nD Cert.SwigluFRefIdeal.τ).loc Cert.SwigluFRefIdeal.main_arg1))
      ∧ r.2.sem = fun _ => 0)

def quiescent_ResidualFfn [hResidualFfn : Cert.ResidualFfn.Facts] : Prop :=
  ∀ (m : (ℓ : Loc Cert.ResidualFfn.nD Cert.ResidualFfn.τ Cert.ResidualFfn.sig) → Buf (Elt Bits) ℓ) (g : Dev Cert.ResidualFfn.nD → PrngReg), Pre_ResidualFfn m →
    θ_run (Cert.ResidualFfn.defs (F := Bits)) (onTc (τ := Cert.ResidualFfn.τ) (Cert.ResidualFfn.main (F := Bits))) ⟨m, fun _ => 0, g⟩ (fun r => (∀ c : Dev Cert.ResidualFfn.nD,
      r.2.mem ((c.tc : Thread Cert.ResidualFfn.nD Cert.ResidualFfn.τ).loc Cert.ResidualFfn.main_arg0) = m ((c.tc : Thread Cert.ResidualFfn.nD Cert.ResidualFfn.τ).loc Cert.ResidualFfn.main_arg0)
      ∧ r.2.mem ((c.tc : Thread Cert.ResidualFfn.nD Cert.ResidualFfn.τ).loc Cert.ResidualFfn.main_arg1) = m ((c.tc : Thread Cert.ResidualFfn.nD Cert.ResidualFfn.τ).loc Cert.ResidualFfn.main_arg1)
      ∧ r.2.mem ((c.tc : Thread Cert.ResidualFfn.nD Cert.ResidualFfn.τ).loc Cert.ResidualFfn.main_arg2) = m ((c.tc : Thread Cert.ResidualFfn.nD Cert.ResidualFfn.τ).loc Cert.ResidualFfn.main_arg2)
      ∧ r.2.mem ((c.tc : Thread Cert.ResidualFfn.nD Cert.ResidualFfn.τ).loc Cert.ResidualFfn.main_arg3) = m ((c.tc : Thread Cert.ResidualFfn.nD Cert.ResidualFfn.τ).loc Cert.ResidualFfn.main_arg3))
      ∧ r.2.sem = fun _ => 0)

def quiescent_ResidualFfnIdeal [hResidualFfnIdeal : Cert.ResidualFfnIdeal.Facts] : Prop :=
  ∀ (m : (ℓ : Loc Cert.ResidualFfnIdeal.nD Cert.ResidualFfnIdeal.τ Cert.ResidualFfnIdeal.sig) → Buf (Elt Ideal) ℓ) (g : Dev Cert.ResidualFfnIdeal.nD → PrngReg), Pre_ResidualFfnIdeal m →
    θ_run (Cert.ResidualFfnIdeal.defs (F := Ideal)) (onTc (τ := Cert.ResidualFfnIdeal.τ) (Cert.ResidualFfnIdeal.main (F := Ideal))) ⟨m, fun _ => 0, g⟩ (fun r => (∀ c : Dev Cert.ResidualFfnIdeal.nD,
      r.2.mem ((c.tc : Thread Cert.ResidualFfnIdeal.nD Cert.ResidualFfnIdeal.τ).loc Cert.ResidualFfnIdeal.main_arg0) = m ((c.tc : Thread Cert.ResidualFfnIdeal.nD Cert.ResidualFfnIdeal.τ).loc Cert.ResidualFfnIdeal.main_arg0)
      ∧ r.2.mem ((c.tc : Thread Cert.ResidualFfnIdeal.nD Cert.ResidualFfnIdeal.τ).loc Cert.ResidualFfnIdeal.main_arg1) = m ((c.tc : Thread Cert.ResidualFfnIdeal.nD Cert.ResidualFfnIdeal.τ).loc Cert.ResidualFfnIdeal.main_arg1)
      ∧ r.2.mem ((c.tc : Thread Cert.ResidualFfnIdeal.nD Cert.ResidualFfnIdeal.τ).loc Cert.ResidualFfnIdeal.main_arg2) = m ((c.tc : Thread Cert.ResidualFfnIdeal.nD Cert.ResidualFfnIdeal.τ).loc Cert.ResidualFfnIdeal.main_arg2)
      ∧ r.2.mem ((c.tc : Thread Cert.ResidualFfnIdeal.nD Cert.ResidualFfnIdeal.τ).loc Cert.ResidualFfnIdeal.main_arg3) = m ((c.tc : Thread Cert.ResidualFfnIdeal.nD Cert.ResidualFfnIdeal.τ).loc Cert.ResidualFfnIdeal.main_arg3))
      ∧ r.2.sem = fun _ => 0)

def quiescent_ResidualFfnRefIdeal [hResidualFfnRefIdeal : Cert.ResidualFfnRefIdeal.Facts] : Prop :=
  ∀ (m : (ℓ : Loc Cert.ResidualFfnRefIdeal.nD Cert.ResidualFfnRefIdeal.τ Cert.ResidualFfnRefIdeal.sig) → Buf (Elt Ideal) ℓ) (g : Dev Cert.ResidualFfnRefIdeal.nD → PrngReg), Pre_ResidualFfnRefIdeal m →
    θ_run (Cert.ResidualFfnRefIdeal.defs (F := Ideal)) (onTc (τ := Cert.ResidualFfnRefIdeal.τ) (Cert.ResidualFfnRefIdeal.main (F := Ideal))) ⟨m, fun _ => 0, g⟩ (fun r => (∀ c : Dev Cert.ResidualFfnRefIdeal.nD,
      r.2.mem ((c.tc : Thread Cert.ResidualFfnRefIdeal.nD Cert.ResidualFfnRefIdeal.τ).loc Cert.ResidualFfnRefIdeal.main_arg0) = m ((c.tc : Thread Cert.ResidualFfnRefIdeal.nD Cert.ResidualFfnRefIdeal.τ).loc Cert.ResidualFfnRefIdeal.main_arg0)
      ∧ r.2.mem ((c.tc : Thread Cert.ResidualFfnRefIdeal.nD Cert.ResidualFfnRefIdeal.τ).loc Cert.ResidualFfnRefIdeal.main_arg1) = m ((c.tc : Thread Cert.ResidualFfnRefIdeal.nD Cert.ResidualFfnRefIdeal.τ).loc Cert.ResidualFfnRefIdeal.main_arg1)
      ∧ r.2.mem ((c.tc : Thread Cert.ResidualFfnRefIdeal.nD Cert.ResidualFfnRefIdeal.τ).loc Cert.ResidualFfnRefIdeal.main_arg2) = m ((c.tc : Thread Cert.ResidualFfnRefIdeal.nD Cert.ResidualFfnRefIdeal.τ).loc Cert.ResidualFfnRefIdeal.main_arg2)
      ∧ r.2.mem ((c.tc : Thread Cert.ResidualFfnRefIdeal.nD Cert.ResidualFfnRefIdeal.τ).loc Cert.ResidualFfnRefIdeal.main_arg3) = m ((c.tc : Thread Cert.ResidualFfnRefIdeal.nD Cert.ResidualFfnRefIdeal.τ).loc Cert.ResidualFfnRefIdeal.main_arg3))
      ∧ r.2.sem = fun _ => 0)

def quiescent_GateScalarsBwd [hGateScalarsBwd : Cert.GateScalarsBwd.Facts] : Prop :=
  ∀ (m : (ℓ : Loc Cert.GateScalarsBwd.nD Cert.GateScalarsBwd.τ Cert.GateScalarsBwd.sig) → Buf (Elt Bits) ℓ) (g : Dev Cert.GateScalarsBwd.nD → PrngReg), Pre_GateScalarsBwd m →
    θ_run (Cert.GateScalarsBwd.defs (F := Bits)) (onTc (τ := Cert.GateScalarsBwd.τ) (Cert.GateScalarsBwd.main (F := Bits))) ⟨m, fun _ => 0, g⟩ (fun r => (∀ c : Dev Cert.GateScalarsBwd.nD,
      r.2.mem ((c.tc : Thread Cert.GateScalarsBwd.nD Cert.GateScalarsBwd.τ).loc Cert.GateScalarsBwd.main_arg0) = m ((c.tc : Thread Cert.GateScalarsBwd.nD Cert.GateScalarsBwd.τ).loc Cert.GateScalarsBwd.main_arg0)
      ∧ r.2.mem ((c.tc : Thread Cert.GateScalarsBwd.nD Cert.GateScalarsBwd.τ).loc Cert.GateScalarsBwd.main_arg1) = m ((c.tc : Thread Cert.GateScalarsBwd.nD Cert.GateScalarsBwd.τ).loc Cert.GateScalarsBwd.main_arg1)
      ∧ r.2.mem ((c.tc : Thread Cert.GateScalarsBwd.nD Cert.GateScalarsBwd.τ).loc Cert.GateScalarsBwd.main_arg2) = m ((c.tc : Thread Cert.GateScalarsBwd.nD Cert.GateScalarsBwd.τ).loc Cert.GateScalarsBwd.main_arg2)
      ∧ r.2.mem ((c.tc : Thread Cert.GateScalarsBwd.nD Cert.GateScalarsBwd.τ).loc Cert.GateScalarsBwd.main_arg3) = m ((c.tc : Thread Cert.GateScalarsBwd.nD Cert.GateScalarsBwd.τ).loc Cert.GateScalarsBwd.main_arg3)
      ∧ r.2.mem ((c.tc : Thread Cert.GateScalarsBwd.nD Cert.GateScalarsBwd.τ).loc Cert.GateScalarsBwd.main_arg4) = m ((c.tc : Thread Cert.GateScalarsBwd.nD Cert.GateScalarsBwd.τ).loc Cert.GateScalarsBwd.main_arg4))
      ∧ r.2.sem = fun _ => 0)

def quiescent_GateScalarsBwdIdeal [hGateScalarsBwdIdeal : Cert.GateScalarsBwdIdeal.Facts] : Prop :=
  ∀ (m : (ℓ : Loc Cert.GateScalarsBwdIdeal.nD Cert.GateScalarsBwdIdeal.τ Cert.GateScalarsBwdIdeal.sig) → Buf (Elt Ideal) ℓ) (g : Dev Cert.GateScalarsBwdIdeal.nD → PrngReg), Pre_GateScalarsBwdIdeal m →
    θ_run (Cert.GateScalarsBwdIdeal.defs (F := Ideal)) (onTc (τ := Cert.GateScalarsBwdIdeal.τ) (Cert.GateScalarsBwdIdeal.main (F := Ideal))) ⟨m, fun _ => 0, g⟩ (fun r => (∀ c : Dev Cert.GateScalarsBwdIdeal.nD,
      r.2.mem ((c.tc : Thread Cert.GateScalarsBwdIdeal.nD Cert.GateScalarsBwdIdeal.τ).loc Cert.GateScalarsBwdIdeal.main_arg0) = m ((c.tc : Thread Cert.GateScalarsBwdIdeal.nD Cert.GateScalarsBwdIdeal.τ).loc Cert.GateScalarsBwdIdeal.main_arg0)
      ∧ r.2.mem ((c.tc : Thread Cert.GateScalarsBwdIdeal.nD Cert.GateScalarsBwdIdeal.τ).loc Cert.GateScalarsBwdIdeal.main_arg1) = m ((c.tc : Thread Cert.GateScalarsBwdIdeal.nD Cert.GateScalarsBwdIdeal.τ).loc Cert.GateScalarsBwdIdeal.main_arg1)
      ∧ r.2.mem ((c.tc : Thread Cert.GateScalarsBwdIdeal.nD Cert.GateScalarsBwdIdeal.τ).loc Cert.GateScalarsBwdIdeal.main_arg2) = m ((c.tc : Thread Cert.GateScalarsBwdIdeal.nD Cert.GateScalarsBwdIdeal.τ).loc Cert.GateScalarsBwdIdeal.main_arg2)
      ∧ r.2.mem ((c.tc : Thread Cert.GateScalarsBwdIdeal.nD Cert.GateScalarsBwdIdeal.τ).loc Cert.GateScalarsBwdIdeal.main_arg3) = m ((c.tc : Thread Cert.GateScalarsBwdIdeal.nD Cert.GateScalarsBwdIdeal.τ).loc Cert.GateScalarsBwdIdeal.main_arg3)
      ∧ r.2.mem ((c.tc : Thread Cert.GateScalarsBwdIdeal.nD Cert.GateScalarsBwdIdeal.τ).loc Cert.GateScalarsBwdIdeal.main_arg4) = m ((c.tc : Thread Cert.GateScalarsBwdIdeal.nD Cert.GateScalarsBwdIdeal.τ).loc Cert.GateScalarsBwdIdeal.main_arg4))
      ∧ r.2.sem = fun _ => 0)

def quiescent_GateScalarsBwdIdeal_pre_gate_scalars_ok [hGateScalarsBwdIdeal : Cert.GateScalarsBwdIdeal.Facts] [hPre_gate_scalars_ok : Cert.Pre_gate_scalars_ok.Facts] : Prop :=
  ∀ (m : (ℓ : Loc Cert.GateScalarsBwdIdeal.nD Cert.GateScalarsBwdIdeal.τ Cert.GateScalarsBwdIdeal.sig) → Buf (Elt Ideal) ℓ) (g : Dev Cert.GateScalarsBwdIdeal.nD → PrngReg), Pre_GateScalarsBwdIdeal_gate_scalars_ok m →
    θ_run (Cert.GateScalarsBwdIdeal.defs (F := Ideal)) (onTc (τ := Cert.GateScalarsBwdIdeal.τ) (Cert.GateScalarsBwdIdeal.main (F := Ideal))) ⟨m, fun _ => 0, g⟩ (fun r => (∀ c : Dev Cert.GateScalarsBwdIdeal.nD,
      r.2.mem ((c.tc : Thread Cert.GateScalarsBwdIdeal.nD Cert.GateScalarsBwdIdeal.τ).loc Cert.GateScalarsBwdIdeal.main_arg0) = m ((c.tc : Thread Cert.GateScalarsBwdIdeal.nD Cert.GateScalarsBwdIdeal.τ).loc Cert.GateScalarsBwdIdeal.main_arg0)
      ∧ r.2.mem ((c.tc : Thread Cert.GateScalarsBwdIdeal.nD Cert.GateScalarsBwdIdeal.τ).loc Cert.GateScalarsBwdIdeal.main_arg1) = m ((c.tc : Thread Cert.GateScalarsBwdIdeal.nD Cert.GateScalarsBwdIdeal.τ).loc Cert.GateScalarsBwdIdeal.main_arg1)
      ∧ r.2.mem ((c.tc : Thread Cert.GateScalarsBwdIdeal.nD Cert.GateScalarsBwdIdeal.τ).loc Cert.GateScalarsBwdIdeal.main_arg2) = m ((c.tc : Thread Cert.GateScalarsBwdIdeal.nD Cert.GateScalarsBwdIdeal.τ).loc Cert.GateScalarsBwdIdeal.main_arg2)
      ∧ r.2.mem ((c.tc : Thread Cert.GateScalarsBwdIdeal.nD Cert.GateScalarsBwdIdeal.τ).loc Cert.GateScalarsBwdIdeal.main_arg3) = m ((c.tc : Thread Cert.GateScalarsBwdIdeal.nD Cert.GateScalarsBwdIdeal.τ).loc Cert.GateScalarsBwdIdeal.main_arg3)
      ∧ r.2.mem ((c.tc : Thread Cert.GateScalarsBwdIdeal.nD Cert.GateScalarsBwdIdeal.τ).loc Cert.GateScalarsBwdIdeal.main_arg4) = m ((c.tc : Thread Cert.GateScalarsBwdIdeal.nD Cert.GateScalarsBwdIdeal.τ).loc Cert.GateScalarsBwdIdeal.main_arg4))
      ∧ r.2.sem = fun _ => 0)

def quiescent_GateScalarsRefIdeal [hGateScalarsRefIdeal : Cert.GateScalarsRefIdeal.Facts] : Prop :=
  ∀ (m : (ℓ : Loc Cert.GateScalarsRefIdeal.nD Cert.GateScalarsRefIdeal.τ Cert.GateScalarsRefIdeal.sig) → Buf (Elt Ideal) ℓ) (g : Dev Cert.GateScalarsRefIdeal.nD → PrngReg), Pre_GateScalarsRefIdeal m →
    θ_run (Cert.GateScalarsRefIdeal.defs (F := Ideal)) (onTc (τ := Cert.GateScalarsRefIdeal.τ) (Cert.GateScalarsRefIdeal.main (F := Ideal))) ⟨m, fun _ => 0, g⟩ (fun r => (∀ c : Dev Cert.GateScalarsRefIdeal.nD,
      r.2.mem ((c.tc : Thread Cert.GateScalarsRefIdeal.nD Cert.GateScalarsRefIdeal.τ).loc Cert.GateScalarsRefIdeal.main_arg0) = m ((c.tc : Thread Cert.GateScalarsRefIdeal.nD Cert.GateScalarsRefIdeal.τ).loc Cert.GateScalarsRefIdeal.main_arg0)
      ∧ r.2.mem ((c.tc : Thread Cert.GateScalarsRefIdeal.nD Cert.GateScalarsRefIdeal.τ).loc Cert.GateScalarsRefIdeal.main_arg1) = m ((c.tc : Thread Cert.GateScalarsRefIdeal.nD Cert.GateScalarsRefIdeal.τ).loc Cert.GateScalarsRefIdeal.main_arg1)
      ∧ r.2.mem ((c.tc : Thread Cert.GateScalarsRefIdeal.nD Cert.GateScalarsRefIdeal.τ).loc Cert.GateScalarsRefIdeal.main_arg2) = m ((c.tc : Thread Cert.GateScalarsRefIdeal.nD Cert.GateScalarsRefIdeal.τ).loc Cert.GateScalarsRefIdeal.main_arg2)
      ∧ r.2.mem ((c.tc : Thread Cert.GateScalarsRefIdeal.nD Cert.GateScalarsRefIdeal.τ).loc Cert.GateScalarsRefIdeal.main_arg3) = m ((c.tc : Thread Cert.GateScalarsRefIdeal.nD Cert.GateScalarsRefIdeal.τ).loc Cert.GateScalarsRefIdeal.main_arg3)
      ∧ r.2.mem ((c.tc : Thread Cert.GateScalarsRefIdeal.nD Cert.GateScalarsRefIdeal.τ).loc Cert.GateScalarsRefIdeal.main_arg4) = m ((c.tc : Thread Cert.GateScalarsRefIdeal.nD Cert.GateScalarsRefIdeal.τ).loc Cert.GateScalarsRefIdeal.main_arg4))
      ∧ r.2.sem = fun _ => 0)

def quiescent_GateScalarsRefIdeal_pre_gate_scalars_ok [hGateScalarsRefIdeal : Cert.GateScalarsRefIdeal.Facts] [hPre_gate_scalars_ok : Cert.Pre_gate_scalars_ok.Facts] : Prop :=
  ∀ (m : (ℓ : Loc Cert.GateScalarsRefIdeal.nD Cert.GateScalarsRefIdeal.τ Cert.GateScalarsRefIdeal.sig) → Buf (Elt Ideal) ℓ) (g : Dev Cert.GateScalarsRefIdeal.nD → PrngReg), Pre_GateScalarsRefIdeal_gate_scalars_ok m →
    θ_run (Cert.GateScalarsRefIdeal.defs (F := Ideal)) (onTc (τ := Cert.GateScalarsRefIdeal.τ) (Cert.GateScalarsRefIdeal.main (F := Ideal))) ⟨m, fun _ => 0, g⟩ (fun r => (∀ c : Dev Cert.GateScalarsRefIdeal.nD,
      r.2.mem ((c.tc : Thread Cert.GateScalarsRefIdeal.nD Cert.GateScalarsRefIdeal.τ).loc Cert.GateScalarsRefIdeal.main_arg0) = m ((c.tc : Thread Cert.GateScalarsRefIdeal.nD Cert.GateScalarsRefIdeal.τ).loc Cert.GateScalarsRefIdeal.main_arg0)
      ∧ r.2.mem ((c.tc : Thread Cert.GateScalarsRefIdeal.nD Cert.GateScalarsRefIdeal.τ).loc Cert.GateScalarsRefIdeal.main_arg1) = m ((c.tc : Thread Cert.GateScalarsRefIdeal.nD Cert.GateScalarsRefIdeal.τ).loc Cert.GateScalarsRefIdeal.main_arg1)
      ∧ r.2.mem ((c.tc : Thread Cert.GateScalarsRefIdeal.nD Cert.GateScalarsRefIdeal.τ).loc Cert.GateScalarsRefIdeal.main_arg2) = m ((c.tc : Thread Cert.GateScalarsRefIdeal.nD Cert.GateScalarsRefIdeal.τ).loc Cert.GateScalarsRefIdeal.main_arg2)
      ∧ r.2.mem ((c.tc : Thread Cert.GateScalarsRefIdeal.nD Cert.GateScalarsRefIdeal.τ).loc Cert.GateScalarsRefIdeal.main_arg3) = m ((c.tc : Thread Cert.GateScalarsRefIdeal.nD Cert.GateScalarsRefIdeal.τ).loc Cert.GateScalarsRefIdeal.main_arg3)
      ∧ r.2.mem ((c.tc : Thread Cert.GateScalarsRefIdeal.nD Cert.GateScalarsRefIdeal.τ).loc Cert.GateScalarsRefIdeal.main_arg4) = m ((c.tc : Thread Cert.GateScalarsRefIdeal.nD Cert.GateScalarsRefIdeal.τ).loc Cert.GateScalarsRefIdeal.main_arg4))
      ∧ r.2.sem = fun _ => 0)

def quiescent_WeightBwd [hWeightBwd : Cert.WeightBwd.Facts] : Prop :=
  ∀ (m : (ℓ : Loc Cert.WeightBwd.nD Cert.WeightBwd.τ Cert.WeightBwd.sig) → Buf (Elt Bits) ℓ) (g : Dev Cert.WeightBwd.nD → PrngReg), Pre_WeightBwd m →
    θ_run (Cert.WeightBwd.defs (F := Bits)) (onTc (τ := Cert.WeightBwd.τ) (Cert.WeightBwd.main (F := Bits))) ⟨m, fun _ => 0, g⟩ (fun r => (∀ c : Dev Cert.WeightBwd.nD,
      r.2.mem ((c.tc : Thread Cert.WeightBwd.nD Cert.WeightBwd.τ).loc Cert.WeightBwd.main_arg0) = m ((c.tc : Thread Cert.WeightBwd.nD Cert.WeightBwd.τ).loc Cert.WeightBwd.main_arg0)
      ∧ r.2.mem ((c.tc : Thread Cert.WeightBwd.nD Cert.WeightBwd.τ).loc Cert.WeightBwd.main_arg1) = m ((c.tc : Thread Cert.WeightBwd.nD Cert.WeightBwd.τ).loc Cert.WeightBwd.main_arg1))
      ∧ r.2.sem = fun _ => 0)

def quiescent_WeightBwdIdeal [hWeightBwdIdeal : Cert.WeightBwdIdeal.Facts] : Prop :=
  ∀ (m : (ℓ : Loc Cert.WeightBwdIdeal.nD Cert.WeightBwdIdeal.τ Cert.WeightBwdIdeal.sig) → Buf (Elt Ideal) ℓ) (g : Dev Cert.WeightBwdIdeal.nD → PrngReg), Pre_WeightBwdIdeal m →
    θ_run (Cert.WeightBwdIdeal.defs (F := Ideal)) (onTc (τ := Cert.WeightBwdIdeal.τ) (Cert.WeightBwdIdeal.main (F := Ideal))) ⟨m, fun _ => 0, g⟩ (fun r => (∀ c : Dev Cert.WeightBwdIdeal.nD,
      r.2.mem ((c.tc : Thread Cert.WeightBwdIdeal.nD Cert.WeightBwdIdeal.τ).loc Cert.WeightBwdIdeal.main_arg0) = m ((c.tc : Thread Cert.WeightBwdIdeal.nD Cert.WeightBwdIdeal.τ).loc Cert.WeightBwdIdeal.main_arg0)
      ∧ r.2.mem ((c.tc : Thread Cert.WeightBwdIdeal.nD Cert.WeightBwdIdeal.τ).loc Cert.WeightBwdIdeal.main_arg1) = m ((c.tc : Thread Cert.WeightBwdIdeal.nD Cert.WeightBwdIdeal.τ).loc Cert.WeightBwdIdeal.main_arg1))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1))
      ∧ r.2.sem = fun _ => 0)

def quiescent_InputBwd [hInputBwd : Cert.InputBwd.Facts] : Prop :=
  ∀ (m : (ℓ : Loc Cert.InputBwd.nD Cert.InputBwd.τ Cert.InputBwd.sig) → Buf (Elt Bits) ℓ) (g : Dev Cert.InputBwd.nD → PrngReg), Pre_InputBwd m →
    θ_run (Cert.InputBwd.defs (F := Bits)) (onTc (τ := Cert.InputBwd.τ) (Cert.InputBwd.main (F := Bits))) ⟨m, fun _ => 0, g⟩ (fun r => (∀ c : Dev Cert.InputBwd.nD,
      r.2.mem ((c.tc : Thread Cert.InputBwd.nD Cert.InputBwd.τ).loc Cert.InputBwd.main_arg0) = m ((c.tc : Thread Cert.InputBwd.nD Cert.InputBwd.τ).loc Cert.InputBwd.main_arg0)
      ∧ r.2.mem ((c.tc : Thread Cert.InputBwd.nD Cert.InputBwd.τ).loc Cert.InputBwd.main_arg1) = m ((c.tc : Thread Cert.InputBwd.nD Cert.InputBwd.τ).loc Cert.InputBwd.main_arg1))
      ∧ r.2.sem = fun _ => 0)

def quiescent_InputBwdIdeal [hInputBwdIdeal : Cert.InputBwdIdeal.Facts] : Prop :=
  ∀ (m : (ℓ : Loc Cert.InputBwdIdeal.nD Cert.InputBwdIdeal.τ Cert.InputBwdIdeal.sig) → Buf (Elt Ideal) ℓ) (g : Dev Cert.InputBwdIdeal.nD → PrngReg), Pre_InputBwdIdeal m →
    θ_run (Cert.InputBwdIdeal.defs (F := Ideal)) (onTc (τ := Cert.InputBwdIdeal.τ) (Cert.InputBwdIdeal.main (F := Ideal))) ⟨m, fun _ => 0, g⟩ (fun r => (∀ c : Dev Cert.InputBwdIdeal.nD,
      r.2.mem ((c.tc : Thread Cert.InputBwdIdeal.nD Cert.InputBwdIdeal.τ).loc Cert.InputBwdIdeal.main_arg0) = m ((c.tc : Thread Cert.InputBwdIdeal.nD Cert.InputBwdIdeal.τ).loc Cert.InputBwdIdeal.main_arg0)
      ∧ r.2.mem ((c.tc : Thread Cert.InputBwdIdeal.nD Cert.InputBwdIdeal.τ).loc Cert.InputBwdIdeal.main_arg1) = m ((c.tc : Thread Cert.InputBwdIdeal.nD Cert.InputBwdIdeal.τ).loc Cert.InputBwdIdeal.main_arg1))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_MergeBwd_MergeBwdIdeal : Prop :=
  True

def algebraic_MergeBwdIdeal_MergeRefIdeal [hMergeBwdIdeal : Cert.MergeBwdIdeal.Facts] [hMergeRefIdeal : Cert.MergeRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeBwdIdeal m →
    (∀ c : Dev Cert.MergeBwdIdeal.nD,
      m' ((c.tc : Thread Cert.MergeRefIdeal.nD Cert.MergeRefIdeal.τ).loc Cert.MergeRefIdeal.main_arg0) = m ((c.tc : Thread Cert.MergeBwdIdeal.nD Cert.MergeBwdIdeal.τ).loc Cert.MergeBwdIdeal.main_arg0)
      ∧ m' ((c.tc : Thread Cert.MergeRefIdeal.nD Cert.MergeRefIdeal.τ).loc Cert.MergeRefIdeal.main_arg1) = m ((c.tc : Thread Cert.MergeBwdIdeal.nD Cert.MergeBwdIdeal.τ).loc Cert.MergeBwdIdeal.main_arg1)
      ∧ m' ((c.tc : Thread Cert.MergeRefIdeal.nD Cert.MergeRefIdeal.τ).loc Cert.MergeRefIdeal.main_arg2) = m ((c.tc : Thread Cert.MergeBwdIdeal.nD Cert.MergeBwdIdeal.τ).loc Cert.MergeBwdIdeal.main_arg2)
      ∧ m' ((c.tc : Thread Cert.MergeRefIdeal.nD Cert.MergeRefIdeal.τ).loc Cert.MergeRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v24_0)) (v1 : (c : Dev Cert.MergeBwdIdeal.nD) → Buf (Elt Ideal) ((c.tc : Thread Cert.MergeBwdIdeal.nD Cert.MergeBwdIdeal.τ).loc Cert.MergeBwdIdeal.main_v24_1)) (v2 : (c : Dev Cert.MergeBwdIdeal.nD) → Buf (Elt Ideal) ((c.tc : Thread Cert.MergeBwdIdeal.nD Cert.MergeBwdIdeal.τ).loc Cert.MergeBwdIdeal.main_v24_2)) (v3 : (c : Dev Cert.MergeBwdIdeal.nD) → Buf (Elt Ideal) ((c.tc : Thread Cert.MergeBwdIdeal.nD Cert.MergeBwdIdeal.τ).loc Cert.MergeBwdIdeal.main_v24_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v24_0) = v0 c
          ∧ r.2.mem ((c.tc : Thread Cert.MergeBwdIdeal.nD Cert.MergeBwdIdeal.τ).loc Cert.MergeBwdIdeal.main_v24_1) = v1 c
          ∧ r.2.mem ((c.tc : Thread Cert.MergeBwdIdeal.nD Cert.MergeBwdIdeal.τ).loc Cert.MergeBwdIdeal.main_v24_2) = v2 c
          ∧ r.2.mem ((c.tc : Thread Cert.MergeBwdIdeal.nD Cert.MergeBwdIdeal.τ).loc Cert.MergeBwdIdeal.main_v24_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v40) = v1 c
          ∧ r.2.mem ((c.tc : Thread Cert.MergeRefIdeal.nD Cert.MergeRefIdeal.τ).loc Cert.MergeRefIdeal.main_v42) = v2 c
          ∧ r.2.mem ((c.tc : Thread Cert.MergeRefIdeal.nD Cert.MergeRefIdeal.τ).loc Cert.MergeRefIdeal.main_v44) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_ConvBwd_ConvBwdIdeal : Prop :=
  True

def algebraic_ConvBwdIdeal_ConvRefIdeal_pre_conv_ct_finite [hConvBwdIdeal : Cert.ConvBwdIdeal.Facts] [hConvRefIdeal : Cert.ConvRefIdeal.Facts] [hPre_conv_ct_finite : Cert.Pre_conv_ct_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal_conv_ct_finite m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v21_0)) (v1 : (c : Dev Cert.ConvBwdIdeal.nD) → Buf (Elt Ideal) ((c.tc : Thread Cert.ConvBwdIdeal.nD Cert.ConvBwdIdeal.τ).loc Cert.ConvBwdIdeal.main_v21_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v21_0) = v0 c
          ∧ r.2.mem ((c.tc : Thread Cert.ConvBwdIdeal.nD Cert.ConvBwdIdeal.τ).loc Cert.ConvBwdIdeal.main_v21_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v80) = v0 c
          ∧ r.2.mem ((c.tc : Thread Cert.ConvRefIdeal.nD Cert.ConvRefIdeal.τ).loc Cert.ConvRefIdeal.main_v81) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_GatedNormBwd_GatedNormBwdIdeal : Prop :=
  True

def algebraic_GatedNormBwdIdeal_GatedNormRefIdeal [hGatedNormBwdIdeal : Cert.GatedNormBwdIdeal.Facts] [hGatedNormRefIdeal : Cert.GatedNormRefIdeal.Facts] : Prop :=
  ∀ (m : (ℓ : Loc Cert.GatedNormBwdIdeal.nD Cert.GatedNormBwdIdeal.τ Cert.GatedNormBwdIdeal.sig) → Buf (Elt Ideal) ℓ) (g : Dev Cert.GatedNormBwdIdeal.nD → PrngReg)
    (m' : (ℓ : Loc Cert.GatedNormRefIdeal.nD Cert.GatedNormRefIdeal.τ Cert.GatedNormRefIdeal.sig) → Buf (Elt Ideal) ℓ) (g' : Dev Cert.GatedNormRefIdeal.nD → PrngReg), Pre_GatedNormBwdIdeal m →
    (∀ c : Dev Cert.GatedNormBwdIdeal.nD,
      m' ((c.tc : Thread Cert.GatedNormRefIdeal.nD Cert.GatedNormRefIdeal.τ).loc Cert.GatedNormRefIdeal.main_arg0) = m ((c.tc : Thread Cert.GatedNormBwdIdeal.nD Cert.GatedNormBwdIdeal.τ).loc Cert.GatedNormBwdIdeal.main_arg0)
      ∧ m' ((c.tc : Thread Cert.GatedNormRefIdeal.nD Cert.GatedNormRefIdeal.τ).loc Cert.GatedNormRefIdeal.main_arg1) = m ((c.tc : Thread Cert.GatedNormBwdIdeal.nD Cert.GatedNormBwdIdeal.τ).loc Cert.GatedNormBwdIdeal.main_arg1)
      ∧ m' ((c.tc : Thread Cert.GatedNormRefIdeal.nD Cert.GatedNormRefIdeal.τ).loc Cert.GatedNormRefIdeal.main_arg2) = m ((c.tc : Thread Cert.GatedNormBwdIdeal.nD Cert.GatedNormBwdIdeal.τ).loc Cert.GatedNormBwdIdeal.main_arg2)
      ∧ m' ((c.tc : Thread Cert.GatedNormRefIdeal.nD Cert.GatedNormRefIdeal.τ).loc Cert.GatedNormRefIdeal.main_arg3) = m ((c.tc : Thread Cert.GatedNormBwdIdeal.nD Cert.GatedNormBwdIdeal.τ).loc Cert.GatedNormBwdIdeal.main_arg3)) →
    ∃ (v0 : (c : Dev Cert.GatedNormBwdIdeal.nD) → Buf (Elt Ideal) ((c.tc : Thread Cert.GatedNormBwdIdeal.nD Cert.GatedNormBwdIdeal.τ).loc Cert.GatedNormBwdIdeal.main_v21_0)) (v1 : (c : Dev Cert.GatedNormBwdIdeal.nD) → Buf (Elt Ideal) ((c.tc : Thread Cert.GatedNormBwdIdeal.nD Cert.GatedNormBwdIdeal.τ).loc Cert.GatedNormBwdIdeal.main_v21_1)) (v2 : (c : Dev Cert.GatedNormBwdIdeal.nD) → Buf (Elt Ideal) ((c.tc : Thread Cert.GatedNormBwdIdeal.nD Cert.GatedNormBwdIdeal.τ).loc Cert.GatedNormBwdIdeal.main_v21_2)),
      θ_run (Cert.GatedNormBwdIdeal.defs (F := Ideal)) (onTc (τ := Cert.GatedNormBwdIdeal.τ) (Cert.GatedNormBwdIdeal.main (F := Ideal))) ⟨m, fun _ => 0, g⟩ (fun r => ∀ c : Dev Cert.GatedNormBwdIdeal.nD,
          r.2.mem ((c.tc : Thread Cert.GatedNormBwdIdeal.nD Cert.GatedNormBwdIdeal.τ).loc Cert.GatedNormBwdIdeal.main_v21_0) = v0 c
          ∧ r.2.mem ((c.tc : Thread Cert.GatedNormBwdIdeal.nD Cert.GatedNormBwdIdeal.τ).loc Cert.GatedNormBwdIdeal.main_v21_1) = v1 c
          ∧ r.2.mem ((c.tc : Thread Cert.GatedNormBwdIdeal.nD Cert.GatedNormBwdIdeal.τ).loc Cert.GatedNormBwdIdeal.main_v21_2) = v2 c
          ∧ r.2.mem ((c.tc : Thread Cert.GatedNormBwdIdeal.nD Cert.GatedNormBwdIdeal.τ).loc Cert.GatedNormBwdIdeal.main_arg0) = m ((c.tc : Thread Cert.GatedNormBwdIdeal.nD Cert.GatedNormBwdIdeal.τ).loc Cert.GatedNormBwdIdeal.main_arg0)
          ∧ r.2.mem ((c.tc : Thread Cert.GatedNormBwdIdeal.nD Cert.GatedNormBwdIdeal.τ).loc Cert.GatedNormBwdIdeal.main_arg1) = m ((c.tc : Thread Cert.GatedNormBwdIdeal.nD Cert.GatedNormBwdIdeal.τ).loc Cert.GatedNormBwdIdeal.main_arg1)
          ∧ r.2.mem ((c.tc : Thread Cert.GatedNormBwdIdeal.nD Cert.GatedNormBwdIdeal.τ).loc Cert.GatedNormBwdIdeal.main_arg2) = m ((c.tc : Thread Cert.GatedNormBwdIdeal.nD Cert.GatedNormBwdIdeal.τ).loc Cert.GatedNormBwdIdeal.main_arg2)
          ∧ r.2.mem ((c.tc : Thread Cert.GatedNormBwdIdeal.nD Cert.GatedNormBwdIdeal.τ).loc Cert.GatedNormBwdIdeal.main_arg3) = m ((c.tc : Thread Cert.GatedNormBwdIdeal.nD Cert.GatedNormBwdIdeal.τ).loc Cert.GatedNormBwdIdeal.main_arg3))
      ∧ θ_run (Cert.GatedNormRefIdeal.defs (F := Ideal)) (onTc (τ := Cert.GatedNormRefIdeal.τ) (Cert.GatedNormRefIdeal.main (F := Ideal))) ⟨m', fun _ => 0, g'⟩ (fun r => ∀ c : Dev Cert.GatedNormRefIdeal.nD,
          r.2.mem ((c.tc : Thread Cert.GatedNormRefIdeal.nD Cert.GatedNormRefIdeal.τ).loc Cert.GatedNormRefIdeal.main_v48) = v0 c
          ∧ r.2.mem ((c.tc : Thread Cert.GatedNormRefIdeal.nD Cert.GatedNormRefIdeal.τ).loc Cert.GatedNormRefIdeal.main_v50) = v1 c
          ∧ r.2.mem ((c.tc : Thread Cert.GatedNormRefIdeal.nD Cert.GatedNormRefIdeal.τ).loc Cert.GatedNormRefIdeal.main_v47) = v2 c
          ∧ r.2.mem ((c.tc : Thread Cert.GatedNormRefIdeal.nD Cert.GatedNormRefIdeal.τ).loc Cert.GatedNormRefIdeal.main_arg0) = m' ((c.tc : Thread Cert.GatedNormRefIdeal.nD Cert.GatedNormRefIdeal.τ).loc Cert.GatedNormRefIdeal.main_arg0)
          ∧ r.2.mem ((c.tc : Thread Cert.GatedNormRefIdeal.nD Cert.GatedNormRefIdeal.τ).loc Cert.GatedNormRefIdeal.main_arg1) = m' ((c.tc : Thread Cert.GatedNormRefIdeal.nD Cert.GatedNormRefIdeal.τ).loc Cert.GatedNormRefIdeal.main_arg1)
          ∧ r.2.mem ((c.tc : Thread Cert.GatedNormRefIdeal.nD Cert.GatedNormRefIdeal.τ).loc Cert.GatedNormRefIdeal.main_arg2) = m' ((c.tc : Thread Cert.GatedNormRefIdeal.nD Cert.GatedNormRefIdeal.τ).loc Cert.GatedNormRefIdeal.main_arg2)
          ∧ r.2.mem ((c.tc : Thread Cert.GatedNormRefIdeal.nD Cert.GatedNormRefIdeal.τ).loc Cert.GatedNormRefIdeal.main_arg3) = m' ((c.tc : Thread Cert.GatedNormRefIdeal.nD Cert.GatedNormRefIdeal.τ).loc Cert.GatedNormRefIdeal.main_arg3))

def preserves_SwigluBwd_SwigluBwdIdeal : Prop :=
  True

def algebraic_SwigluBwdIdeal_SwigluRefIdeal [hSwigluBwdIdeal : Cert.SwigluBwdIdeal.Facts] [hSwigluRefIdeal : Cert.SwigluRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluBwdIdeal m →
    (∀ c : Dev Cert.SwigluBwdIdeal.nD,
      m' ((c.tc : Thread Cert.SwigluRefIdeal.nD Cert.SwigluRefIdeal.τ).loc Cert.SwigluRefIdeal.main_arg0) = m ((c.tc : Thread Cert.SwigluBwdIdeal.nD Cert.SwigluBwdIdeal.τ).loc Cert.SwigluBwdIdeal.main_arg0)
      ∧ m' ((c.tc : Thread Cert.SwigluRefIdeal.nD Cert.SwigluRefIdeal.τ).loc Cert.SwigluRefIdeal.main_arg1) = m ((c.tc : Thread Cert.SwigluBwdIdeal.nD Cert.SwigluBwdIdeal.τ).loc Cert.SwigluBwdIdeal.main_arg1)
      ∧ m' ((c.tc : Thread Cert.SwigluRefIdeal.nD Cert.SwigluRefIdeal.τ).loc Cert.SwigluRefIdeal.main_arg2) = m ((c.tc : Thread Cert.SwigluBwdIdeal.nD Cert.SwigluBwdIdeal.τ).loc Cert.SwigluBwdIdeal.main_arg2)) →
    ∃ (v0 : (c : Dev Cert.SwigluBwdIdeal.nD) → Buf (Elt Ideal) ((c.tc : Thread Cert.SwigluBwdIdeal.nD Cert.SwigluBwdIdeal.τ).loc Cert.SwigluBwdIdeal.main_v5)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v5) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v14) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_RmsBwd_RmsBwdIdeal : Prop :=
  True

def algebraic_RmsBwdIdeal_RmsRefIdeal [hRmsBwdIdeal : Cert.RmsBwdIdeal.Facts] [hRmsRefIdeal : Cert.RmsRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsBwdIdeal m →
    (∀ c : Dev Cert.RmsBwdIdeal.nD,
      m' ((c.tc : Thread Cert.RmsRefIdeal.nD Cert.RmsRefIdeal.τ).loc Cert.RmsRefIdeal.main_arg0) = m ((c.tc : Thread Cert.RmsBwdIdeal.nD Cert.RmsBwdIdeal.τ).loc Cert.RmsBwdIdeal.main_arg0)
      ∧ m' ((c.tc : Thread Cert.RmsRefIdeal.nD Cert.RmsRefIdeal.τ).loc Cert.RmsRefIdeal.main_arg1) = m ((c.tc : Thread Cert.RmsBwdIdeal.nD Cert.RmsBwdIdeal.τ).loc Cert.RmsBwdIdeal.main_arg1)
      ∧ m' ((c.tc : Thread Cert.RmsRefIdeal.nD Cert.RmsRefIdeal.τ).loc Cert.RmsRefIdeal.main_arg2) = m ((c.tc : Thread Cert.RmsBwdIdeal.nD Cert.RmsBwdIdeal.τ).loc Cert.RmsBwdIdeal.main_arg2)
      ∧ m' ((c.tc : Thread Cert.RmsRefIdeal.nD Cert.RmsRefIdeal.τ).loc Cert.RmsRefIdeal.main_arg3) = m ((c.tc : Thread Cert.RmsBwdIdeal.nD Cert.RmsBwdIdeal.τ).loc Cert.RmsBwdIdeal.main_arg3)
      ∧ m' ((c.tc : Thread Cert.RmsRefIdeal.nD Cert.RmsRefIdeal.τ).loc Cert.RmsRefIdeal.main_arg4) = m ((c.tc : Thread Cert.RmsBwdIdeal.nD Cert.RmsBwdIdeal.τ).loc Cert.RmsBwdIdeal.main_arg4)) →
    ∃ (v0 : (c : Dev Cert.RmsBwdIdeal.nD) → Buf (Elt Ideal) ((c.tc : Thread Cert.RmsBwdIdeal.nD Cert.RmsBwdIdeal.τ).loc Cert.RmsBwdIdeal.main_v7_0)) (v1 : (c : Dev Cert.RmsBwdIdeal.nD) → Buf (Elt Ideal) ((c.tc : Thread Cert.RmsBwdIdeal.nD Cert.RmsBwdIdeal.τ).loc Cert.RmsBwdIdeal.main_v7_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v7_0) = v0 c
          ∧ r.2.mem ((c.tc : Thread Cert.RmsBwdIdeal.nD Cert.RmsBwdIdeal.τ).loc Cert.RmsBwdIdeal.main_v7_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3)
          ∧ r.2.mem ((c.tc : Thread Cert.RmsBwdIdeal.nD Cert.RmsBwdIdeal.τ).loc Cert.RmsBwdIdeal.main_arg4) = m ((c.tc : Thread Cert.RmsBwdIdeal.nD Cert.RmsBwdIdeal.τ).loc Cert.RmsBwdIdeal.main_arg4))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v42) = v0 c
          ∧ r.2.mem ((c.tc : Thread Cert.RmsRefIdeal.nD Cert.RmsRefIdeal.τ).loc Cert.RmsRefIdeal.main_v41) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3)
          ∧ r.2.mem ((c.tc : Thread Cert.RmsRefIdeal.nD Cert.RmsRefIdeal.τ).loc Cert.RmsRefIdeal.main_arg4) = m' ((c.tc : Thread Cert.RmsRefIdeal.nD Cert.RmsRefIdeal.τ).loc Cert.RmsRefIdeal.main_arg4))

def preserves_HeadLoss_HeadLossIdeal : Prop :=
  True

def algebraic_HeadLossIdeal_HeadRefIdeal [hHeadLossIdeal : Cert.HeadLossIdeal.Facts] [hHeadRefIdeal : Cert.HeadRefIdeal.Facts] : Prop :=
  ∀ (m : (ℓ : Loc Cert.HeadLossIdeal.nD Cert.HeadLossIdeal.τ Cert.HeadLossIdeal.sig) → Buf (Elt Ideal) ℓ) (g : Dev Cert.HeadLossIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadLossIdeal m →
    (∀ c : Dev Cert.HeadLossIdeal.nD,
      m' ((c.tc : Thread Cert.HeadRefIdeal.nD Cert.HeadRefIdeal.τ).loc Cert.HeadRefIdeal.main_arg0) = m ((c.tc : Thread Cert.HeadLossIdeal.nD Cert.HeadLossIdeal.τ).loc Cert.HeadLossIdeal.main_arg0)
      ∧ m' ((c.tc : Thread Cert.HeadRefIdeal.nD Cert.HeadRefIdeal.τ).loc Cert.HeadRefIdeal.main_arg1) = m ((c.tc : Thread Cert.HeadLossIdeal.nD Cert.HeadLossIdeal.τ).loc Cert.HeadLossIdeal.main_arg1)
      ∧ m' ((c.tc : Thread Cert.HeadRefIdeal.nD Cert.HeadRefIdeal.τ).loc Cert.HeadRefIdeal.main_arg2) = m ((c.tc : Thread Cert.HeadLossIdeal.nD Cert.HeadLossIdeal.τ).loc Cert.HeadLossIdeal.main_arg2)
      ∧ m' ((c.tc : Thread Cert.HeadRefIdeal.nD Cert.HeadRefIdeal.τ).loc Cert.HeadRefIdeal.main_arg3) = m ((c.tc : Thread Cert.HeadLossIdeal.nD Cert.HeadLossIdeal.τ).loc Cert.HeadLossIdeal.main_arg3)
      ∧ m' ((c.tc : Thread Cert.HeadRefIdeal.nD Cert.HeadRefIdeal.τ).loc Cert.HeadRefIdeal.main_arg4) = m ((c.tc : Thread Cert.HeadLossIdeal.nD Cert.HeadLossIdeal.τ).loc Cert.HeadLossIdeal.main_arg4)
      ∧ m' ((c.tc : Thread Cert.HeadRefIdeal.nD Cert.HeadRefIdeal.τ).loc Cert.HeadRefIdeal.main_arg5) = m ((c.tc : Thread Cert.HeadLossIdeal.nD Cert.HeadLossIdeal.τ).loc Cert.HeadLossIdeal.main_arg5)) →
    ∃ (v0 : (c : Dev Cert.HeadLossIdeal.nD) → Buf (Elt Ideal) ((c.tc : Thread Cert.HeadLossIdeal.nD Cert.HeadLossIdeal.τ).loc Cert.HeadLossIdeal.main_v8_0)) (v1 : (c : Dev Cert.HeadLossIdeal.nD) → Buf (Elt Ideal) ((c.tc : Thread Cert.HeadLossIdeal.nD Cert.HeadLossIdeal.τ).loc Cert.HeadLossIdeal.main_v8_1)) (v2 : (c : Dev Cert.HeadLossIdeal.nD) → Buf (Elt Ideal) ((c.tc : Thread Cert.HeadLossIdeal.nD Cert.HeadLossIdeal.τ).loc Cert.HeadLossIdeal.main_v8_2)) (v3 : (c : Dev Cert.HeadLossIdeal.nD) → Buf (Elt Ideal) ((c.tc : Thread Cert.HeadLossIdeal.nD Cert.HeadLossIdeal.τ).loc Cert.HeadLossIdeal.main_v8_3)) (v4 : (c : Dev Cert.HeadLossIdeal.nD) → Buf (Elt Ideal) ((c.tc : Thread Cert.HeadLossIdeal.nD Cert.HeadLossIdeal.τ).loc Cert.HeadLossIdeal.main_v8_4)),
      θ_run (Cert.HeadLossIdeal.defs (F := Ideal)) (onTc (τ := Cert.HeadLossIdeal.τ) (Cert.HeadLossIdeal.main (F := Ideal))) ⟨m, fun _ => 0, g⟩ (fun r => ∀ c : Dev Cert.HeadLossIdeal.nD,
          r.2.mem ((c.tc : Thread Cert.HeadLossIdeal.nD Cert.HeadLossIdeal.τ).loc Cert.HeadLossIdeal.main_v8_0) = v0 c
          ∧ r.2.mem ((c.tc : Thread Cert.HeadLossIdeal.nD Cert.HeadLossIdeal.τ).loc Cert.HeadLossIdeal.main_v8_1) = v1 c
          ∧ r.2.mem ((c.tc : Thread Cert.HeadLossIdeal.nD Cert.HeadLossIdeal.τ).loc Cert.HeadLossIdeal.main_v8_2) = v2 c
          ∧ r.2.mem ((c.tc : Thread Cert.HeadLossIdeal.nD Cert.HeadLossIdeal.τ).loc Cert.HeadLossIdeal.main_v8_3) = v3 c
          ∧ r.2.mem ((c.tc : Thread Cert.HeadLossIdeal.nD Cert.HeadLossIdeal.τ).loc Cert.HeadLossIdeal.main_v8_4) = v4 c
          ∧ r.2.mem ((c.tc : Thread Cert.HeadLossIdeal.nD Cert.HeadLossIdeal.τ).loc Cert.HeadLossIdeal.main_arg0) = m ((c.tc : Thread Cert.HeadLossIdeal.nD Cert.HeadLossIdeal.τ).loc Cert.HeadLossIdeal.main_arg0)
          ∧ r.2.mem ((c.tc : Thread Cert.HeadLossIdeal.nD Cert.HeadLossIdeal.τ).loc Cert.HeadLossIdeal.main_arg1) = m ((c.tc : Thread Cert.HeadLossIdeal.nD Cert.HeadLossIdeal.τ).loc Cert.HeadLossIdeal.main_arg1)
          ∧ r.2.mem ((c.tc : Thread Cert.HeadLossIdeal.nD Cert.HeadLossIdeal.τ).loc Cert.HeadLossIdeal.main_arg2) = m ((c.tc : Thread Cert.HeadLossIdeal.nD Cert.HeadLossIdeal.τ).loc Cert.HeadLossIdeal.main_arg2)
          ∧ r.2.mem ((c.tc : Thread Cert.HeadLossIdeal.nD Cert.HeadLossIdeal.τ).loc Cert.HeadLossIdeal.main_arg3) = m ((c.tc : Thread Cert.HeadLossIdeal.nD Cert.HeadLossIdeal.τ).loc Cert.HeadLossIdeal.main_arg3)
          ∧ r.2.mem ((c.tc : Thread Cert.HeadLossIdeal.nD Cert.HeadLossIdeal.τ).loc Cert.HeadLossIdeal.main_arg4) = m ((c.tc : Thread Cert.HeadLossIdeal.nD Cert.HeadLossIdeal.τ).loc Cert.HeadLossIdeal.main_arg4)
          ∧ r.2.mem ((c.tc : Thread Cert.HeadLossIdeal.nD Cert.HeadLossIdeal.τ).loc Cert.HeadLossIdeal.main_arg5) = m ((c.tc : Thread Cert.HeadLossIdeal.nD Cert.HeadLossIdeal.τ).loc Cert.HeadLossIdeal.main_arg5))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v67) = v0 c
          ∧ r.2.mem ((c.tc : Thread Cert.HeadRefIdeal.nD Cert.HeadRefIdeal.τ).loc Cert.HeadRefIdeal.main_v69) = v1 c
          ∧ r.2.mem ((c.tc : Thread Cert.HeadRefIdeal.nD Cert.HeadRefIdeal.τ).loc Cert.HeadRefIdeal.main_v71) = v2 c
          ∧ r.2.mem ((c.tc : Thread Cert.HeadRefIdeal.nD Cert.HeadRefIdeal.τ).loc Cert.HeadRefIdeal.main_v72) = v3 c
          ∧ r.2.mem ((c.tc : Thread Cert.HeadRefIdeal.nD Cert.HeadRefIdeal.τ).loc Cert.HeadRefIdeal.main_v73) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5))

def preserves_PleBwd_PleBwdIdeal : Prop :=
  True

def algebraic_PleBwdIdeal_PleRefIdeal [hPleBwdIdeal : Cert.PleBwdIdeal.Facts] [hPleRefIdeal : Cert.PleRefIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleBwdIdeal m →
    (∀ c : Dev Cert.PleBwdIdeal.nD,
      m' ((c.tc : Thread Cert.PleRefIdeal.nD Cert.PleRefIdeal.τ).loc Cert.PleRefIdeal.main_arg0) = m ((c.tc : Thread Cert.PleBwdIdeal.nD Cert.PleBwdIdeal.τ).loc Cert.PleBwdIdeal.main_arg0)
      ∧ m' ((c.tc : Thread Cert.PleRefIdeal.nD Cert.PleRefIdeal.τ).loc Cert.PleRefIdeal.main_arg1) = m ((c.tc : Thread Cert.PleBwdIdeal.nD Cert.PleBwdIdeal.τ).loc Cert.PleBwdIdeal.main_arg1)
      ∧ m' ((c.tc : Thread Cert.PleRefIdeal.nD Cert.PleRefIdeal.τ).loc Cert.PleRefIdeal.main_arg2) = m ((c.tc : Thread Cert.PleBwdIdeal.nD Cert.PleBwdIdeal.τ).loc Cert.PleBwdIdeal.main_arg2)
      ∧ m' ((c.tc : Thread Cert.PleRefIdeal.nD Cert.PleRefIdeal.τ).loc Cert.PleRefIdeal.main_arg3) = m ((c.tc : Thread Cert.PleBwdIdeal.nD Cert.PleBwdIdeal.τ).loc Cert.PleBwdIdeal.main_arg3)
      ∧ m' ((c.tc : Thread Cert.PleRefIdeal.nD Cert.PleRefIdeal.τ).loc Cert.PleRefIdeal.main_arg4) = m ((c.tc : Thread Cert.PleBwdIdeal.nD Cert.PleBwdIdeal.τ).loc Cert.PleBwdIdeal.main_arg4)) →
    ∃ (v0 : (c : Dev Cert.PleBwdIdeal.nD) → Buf (Elt Ideal) ((c.tc : Thread Cert.PleBwdIdeal.nD Cert.PleBwdIdeal.τ).loc Cert.PleBwdIdeal.main_v6_0)) (v1 : (c : Dev Cert.PleBwdIdeal.nD) → Buf (Elt Ideal) ((c.tc : Thread Cert.PleBwdIdeal.nD Cert.PleBwdIdeal.τ).loc Cert.PleBwdIdeal.main_v6_1)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v6_0) = v0 c
          ∧ r.2.mem ((c.tc : Thread Cert.PleBwdIdeal.nD Cert.PleBwdIdeal.τ).loc Cert.PleBwdIdeal.main_v6_1) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v42) = v0 c
          ∧ r.2.mem ((c.tc : Thread Cert.PleRefIdeal.nD Cert.PleRefIdeal.τ).loc Cert.PleRefIdeal.main_v41) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_MixBwd_MixBwdIdeal : Prop :=
  True

def algebraic_MixBwdIdeal_MixRefIdeal [hMixBwdIdeal : Cert.MixBwdIdeal.Facts] [hMixRefIdeal : Cert.MixRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)) →
    ∃ (v0 : (c : Dev Cert.MixBwdIdeal.nD) → Buf (Elt Ideal) ((c.tc : Thread Cert.MixBwdIdeal.nD Cert.MixBwdIdeal.τ).loc Cert.MixBwdIdeal.main_v39_0)) (v1 : (c : Dev Cert.MixBwdIdeal.nD) → Buf (Elt Ideal) ((c.tc : Thread Cert.MixBwdIdeal.nD Cert.MixBwdIdeal.τ).loc Cert.MixBwdIdeal.main_v39_1)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v39_0) = v0 c
          ∧ r.2.mem ((c.tc : Thread Cert.MixBwdIdeal.nD Cert.MixBwdIdeal.τ).loc Cert.MixBwdIdeal.main_v39_1) = v1 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v42) = v0 c
          ∧ r.2.mem ((c.tc : Thread Cert.MixRefIdeal.nD Cert.MixRefIdeal.τ).loc Cert.MixRefIdeal.main_v41) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_AttnFwd_AttnFwdIdeal : Prop :=
  True

def algebraic_AttnFwdIdeal_AttnFRefIdeal_pre_attn_finite [hAttnFwdIdeal : Cert.AttnFwdIdeal.Facts] [hAttnFRefIdeal : Cert.AttnFRefIdeal.Facts] [hPre_attn_finite : Cert.Pre_attn_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFwdIdeal_attn_finite m →
    (∀ c : Dev Cert.AttnFwdIdeal.nD,
      m' ((c.tc : Thread Cert.AttnFRefIdeal.nD Cert.AttnFRefIdeal.τ).loc Cert.AttnFRefIdeal.main_arg0) = m ((c.tc : Thread Cert.AttnFwdIdeal.nD Cert.AttnFwdIdeal.τ).loc Cert.AttnFwdIdeal.main_arg0)
      ∧ m' ((c.tc : Thread Cert.AttnFRefIdeal.nD Cert.AttnFRefIdeal.τ).loc Cert.AttnFRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v35)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v35) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v106) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1))

def preserves_RmsMix_RmsMixIdeal : Prop :=
  True

def algebraic_RmsMixIdeal_RmsMixRefIdeal [hRmsMixIdeal : Cert.RmsMixIdeal.Facts] [hRmsMixRefIdeal : Cert.RmsMixRefIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg)
    (m' : (ℓ : Loc Cert.RmsMixRefIdeal.nD Cert.RmsMixRefIdeal.τ Cert.RmsMixRefIdeal.sig) → Buf (Elt Ideal) ℓ) (g' : Dev Cert.RmsMixRefIdeal.nD → PrngReg), Pre_RmsMixIdeal m →
    (∀ c : Dev Cert.RmsMixIdeal.nD,
      m' ((c.tc : Thread Cert.RmsMixRefIdeal.nD Cert.RmsMixRefIdeal.τ).loc Cert.RmsMixRefIdeal.main_arg0) = m ((c.tc : Thread Cert.RmsMixIdeal.nD Cert.RmsMixIdeal.τ).loc Cert.RmsMixIdeal.main_arg0)
      ∧ m' ((c.tc : Thread Cert.RmsMixRefIdeal.nD Cert.RmsMixRefIdeal.τ).loc Cert.RmsMixRefIdeal.main_arg1) = m ((c.tc : Thread Cert.RmsMixIdeal.nD Cert.RmsMixIdeal.τ).loc Cert.RmsMixIdeal.main_arg1)) →
    ∃ (v0 : (c : Dev Cert.RmsMixIdeal.nD) → Buf (Elt Ideal) ((c.tc : Thread Cert.RmsMixIdeal.nD Cert.RmsMixIdeal.τ).loc Cert.RmsMixIdeal.main_v1)),
      θ_run (Cert.RmsMixIdeal.defs (F := Ideal)) (onTc (τ := Cert.RmsMixIdeal.τ) (Cert.RmsMixIdeal.main (F := Ideal))) ⟨m, fun _ => 0, g⟩ (fun r => ∀ c : Dev Cert.RmsMixIdeal.nD,
          r.2.mem ((c.tc : Thread Cert.RmsMixIdeal.nD Cert.RmsMixIdeal.τ).loc Cert.RmsMixIdeal.main_v1) = v0 c
          ∧ r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
          ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ θ_run (Cert.RmsMixRefIdeal.defs (F := Ideal)) (onTc (τ := Cert.RmsMixRefIdeal.τ) (Cert.RmsMixRefIdeal.main (F := Ideal))) ⟨m', fun _ => 0, g'⟩ (fun r => ∀ c : Dev Cert.RmsMixRefIdeal.nD,
          r.2.mem ((c.tc : Thread Cert.RmsMixRefIdeal.nD Cert.RmsMixRefIdeal.τ).loc Cert.RmsMixRefIdeal.main_v15) = v0 c
          ∧ r.2.mem ((c.tc : Thread Cert.RmsMixRefIdeal.nD Cert.RmsMixRefIdeal.τ).loc Cert.RmsMixRefIdeal.main_arg0) = m' ((c.tc : Thread Cert.RmsMixRefIdeal.nD Cert.RmsMixRefIdeal.τ).loc Cert.RmsMixRefIdeal.main_arg0)
          ∧ r.2.mem ((c.tc : Thread Cert.RmsMixRefIdeal.nD Cert.RmsMixRefIdeal.τ).loc Cert.RmsMixRefIdeal.main_arg1) = m' ((c.tc : Thread Cert.RmsMixRefIdeal.nD Cert.RmsMixRefIdeal.τ).loc Cert.RmsMixRefIdeal.main_arg1))

def preserves_ConvFwd_ConvFwdIdeal : Prop :=
  True

def algebraic_ConvFwdIdeal_ConvFRefIdeal [hConvFwdIdeal : Cert.ConvFwdIdeal.Facts] [hConvFRefIdeal : Cert.ConvFRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFwdIdeal m →
    (∀ c : Dev Cert.ConvFwdIdeal.nD,
      m' ((c.tc : Thread Cert.ConvFRefIdeal.nD Cert.ConvFRefIdeal.τ).loc Cert.ConvFRefIdeal.main_arg0) = m ((c.tc : Thread Cert.ConvFwdIdeal.nD Cert.ConvFwdIdeal.τ).loc Cert.ConvFwdIdeal.main_arg0)
      ∧ m' ((c.tc : Thread Cert.ConvFRefIdeal.nD Cert.ConvFRefIdeal.τ).loc Cert.ConvFRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v20)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v20) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v32) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1))

def preserves_GateScalarsFwd_GateScalarsFwdIdeal : Prop :=
  True

def algebraic_GateScalarsFwdIdeal_GateScalarsFRefIdeal [hGateScalarsFwdIdeal : Cert.GateScalarsFwdIdeal.Facts] [hGateScalarsFRefIdeal : Cert.GateScalarsFRefIdeal.Facts] : Prop :=
  ∀ (m : (ℓ : Loc Cert.GateScalarsFwdIdeal.nD Cert.GateScalarsFwdIdeal.τ Cert.GateScalarsFwdIdeal.sig) → Buf (Elt Ideal) ℓ) (g : Dev Cert.GateScalarsFwdIdeal.nD → PrngReg)
    (m' : (ℓ : Loc Cert.GateScalarsFRefIdeal.nD Cert.GateScalarsFRefIdeal.τ Cert.GateScalarsFRefIdeal.sig) → Buf (Elt Ideal) ℓ) (g' : Dev Cert.GateScalarsFRefIdeal.nD → PrngReg), Pre_GateScalarsFwdIdeal m →
    (∀ c : Dev Cert.GateScalarsFwdIdeal.nD,
      m' ((c.tc : Thread Cert.GateScalarsFRefIdeal.nD Cert.GateScalarsFRefIdeal.τ).loc Cert.GateScalarsFRefIdeal.main_arg0) = m ((c.tc : Thread Cert.GateScalarsFwdIdeal.nD Cert.GateScalarsFwdIdeal.τ).loc Cert.GateScalarsFwdIdeal.main_arg0)
      ∧ m' ((c.tc : Thread Cert.GateScalarsFRefIdeal.nD Cert.GateScalarsFRefIdeal.τ).loc Cert.GateScalarsFRefIdeal.main_arg1) = m ((c.tc : Thread Cert.GateScalarsFwdIdeal.nD Cert.GateScalarsFwdIdeal.τ).loc Cert.GateScalarsFwdIdeal.main_arg1)
      ∧ m' ((c.tc : Thread Cert.GateScalarsFRefIdeal.nD Cert.GateScalarsFRefIdeal.τ).loc Cert.GateScalarsFRefIdeal.main_arg2) = m ((c.tc : Thread Cert.GateScalarsFwdIdeal.nD Cert.GateScalarsFwdIdeal.τ).loc Cert.GateScalarsFwdIdeal.main_arg2)) →
    ∃ (v0 : (c : Dev Cert.GateScalarsFwdIdeal.nD) → Buf (Elt Ideal) ((c.tc : Thread Cert.GateScalarsFwdIdeal.nD Cert.GateScalarsFwdIdeal.τ).loc Cert.GateScalarsFwdIdeal.main_v25)),
      θ_run (Cert.GateScalarsFwdIdeal.defs (F := Ideal)) (onTc (τ := Cert.GateScalarsFwdIdeal.τ) (Cert.GateScalarsFwdIdeal.main (F := Ideal))) ⟨m, fun _ => 0, g⟩ (fun r => ∀ c : Dev Cert.GateScalarsFwdIdeal.nD,
          r.2.mem ((c.tc : Thread Cert.GateScalarsFwdIdeal.nD Cert.GateScalarsFwdIdeal.τ).loc Cert.GateScalarsFwdIdeal.main_v25) = v0 c
          ∧ r.2.mem ((c.tc : Thread Cert.GateScalarsFwdIdeal.nD Cert.GateScalarsFwdIdeal.τ).loc Cert.GateScalarsFwdIdeal.main_arg0) = m ((c.tc : Thread Cert.GateScalarsFwdIdeal.nD Cert.GateScalarsFwdIdeal.τ).loc Cert.GateScalarsFwdIdeal.main_arg0)
          ∧ r.2.mem ((c.tc : Thread Cert.GateScalarsFwdIdeal.nD Cert.GateScalarsFwdIdeal.τ).loc Cert.GateScalarsFwdIdeal.main_arg1) = m ((c.tc : Thread Cert.GateScalarsFwdIdeal.nD Cert.GateScalarsFwdIdeal.τ).loc Cert.GateScalarsFwdIdeal.main_arg1)
          ∧ r.2.mem ((c.tc : Thread Cert.GateScalarsFwdIdeal.nD Cert.GateScalarsFwdIdeal.τ).loc Cert.GateScalarsFwdIdeal.main_arg2) = m ((c.tc : Thread Cert.GateScalarsFwdIdeal.nD Cert.GateScalarsFwdIdeal.τ).loc Cert.GateScalarsFwdIdeal.main_arg2))
      ∧ θ_run (Cert.GateScalarsFRefIdeal.defs (F := Ideal)) (onTc (τ := Cert.GateScalarsFRefIdeal.τ) (Cert.GateScalarsFRefIdeal.main (F := Ideal))) ⟨m', fun _ => 0, g'⟩ (fun r => ∀ c : Dev Cert.GateScalarsFRefIdeal.nD,
          r.2.mem ((c.tc : Thread Cert.GateScalarsFRefIdeal.nD Cert.GateScalarsFRefIdeal.τ).loc Cert.GateScalarsFRefIdeal.main_v22) = v0 c
          ∧ r.2.mem ((c.tc : Thread Cert.GateScalarsFRefIdeal.nD Cert.GateScalarsFRefIdeal.τ).loc Cert.GateScalarsFRefIdeal.main_arg0) = m' ((c.tc : Thread Cert.GateScalarsFRefIdeal.nD Cert.GateScalarsFRefIdeal.τ).loc Cert.GateScalarsFRefIdeal.main_arg0)
          ∧ r.2.mem ((c.tc : Thread Cert.GateScalarsFRefIdeal.nD Cert.GateScalarsFRefIdeal.τ).loc Cert.GateScalarsFRefIdeal.main_arg1) = m' ((c.tc : Thread Cert.GateScalarsFRefIdeal.nD Cert.GateScalarsFRefIdeal.τ).loc Cert.GateScalarsFRefIdeal.main_arg1)
          ∧ r.2.mem ((c.tc : Thread Cert.GateScalarsFRefIdeal.nD Cert.GateScalarsFRefIdeal.τ).loc Cert.GateScalarsFRefIdeal.main_arg2) = m' ((c.tc : Thread Cert.GateScalarsFRefIdeal.nD Cert.GateScalarsFRefIdeal.τ).loc Cert.GateScalarsFRefIdeal.main_arg2))

def preserves_GatedNormFwd_GatedNormFwdIdeal : Prop :=
  True

def algebraic_GatedNormFwdIdeal_GatedNormFRefIdeal [hGatedNormFwdIdeal : Cert.GatedNormFwdIdeal.Facts] [hGatedNormFRefIdeal : Cert.GatedNormFRefIdeal.Facts] : Prop :=
  ∀ (m : (ℓ : Loc Cert.GatedNormFwdIdeal.nD Cert.GatedNormFwdIdeal.τ Cert.GatedNormFwdIdeal.sig) → Buf (Elt Ideal) ℓ) (g : Dev Cert.GatedNormFwdIdeal.nD → PrngReg)
    (m' : (ℓ : Loc Cert.GatedNormFRefIdeal.nD Cert.GatedNormFRefIdeal.τ Cert.GatedNormFRefIdeal.sig) → Buf (Elt Ideal) ℓ) (g' : Dev Cert.GatedNormFRefIdeal.nD → PrngReg), Pre_GatedNormFwdIdeal m →
    (∀ c : Dev Cert.GatedNormFwdIdeal.nD,
      m' ((c.tc : Thread Cert.GatedNormFRefIdeal.nD Cert.GatedNormFRefIdeal.τ).loc Cert.GatedNormFRefIdeal.main_arg0) = m ((c.tc : Thread Cert.GatedNormFwdIdeal.nD Cert.GatedNormFwdIdeal.τ).loc Cert.GatedNormFwdIdeal.main_arg0)
      ∧ m' ((c.tc : Thread Cert.GatedNormFRefIdeal.nD Cert.GatedNormFRefIdeal.τ).loc Cert.GatedNormFRefIdeal.main_arg1) = m ((c.tc : Thread Cert.GatedNormFwdIdeal.nD Cert.GatedNormFwdIdeal.τ).loc Cert.GatedNormFwdIdeal.main_arg1)
      ∧ m' ((c.tc : Thread Cert.GatedNormFRefIdeal.nD Cert.GatedNormFRefIdeal.τ).loc Cert.GatedNormFRefIdeal.main_arg2) = m ((c.tc : Thread Cert.GatedNormFwdIdeal.nD Cert.GatedNormFwdIdeal.τ).loc Cert.GatedNormFwdIdeal.main_arg2)) →
    ∃ (v0 : (c : Dev Cert.GatedNormFwdIdeal.nD) → Buf (Elt Ideal) ((c.tc : Thread Cert.GatedNormFwdIdeal.nD Cert.GatedNormFwdIdeal.τ).loc Cert.GatedNormFwdIdeal.main_v20)),
      θ_run (Cert.GatedNormFwdIdeal.defs (F := Ideal)) (onTc (τ := Cert.GatedNormFwdIdeal.τ) (Cert.GatedNormFwdIdeal.main (F := Ideal))) ⟨m, fun _ => 0, g⟩ (fun r => ∀ c : Dev Cert.GatedNormFwdIdeal.nD,
          r.2.mem ((c.tc : Thread Cert.GatedNormFwdIdeal.nD Cert.GatedNormFwdIdeal.τ).loc Cert.GatedNormFwdIdeal.main_v20) = v0 c
          ∧ r.2.mem ((c.tc : Thread Cert.GatedNormFwdIdeal.nD Cert.GatedNormFwdIdeal.τ).loc Cert.GatedNormFwdIdeal.main_arg0) = m ((c.tc : Thread Cert.GatedNormFwdIdeal.nD Cert.GatedNormFwdIdeal.τ).loc Cert.GatedNormFwdIdeal.main_arg0)
          ∧ r.2.mem ((c.tc : Thread Cert.GatedNormFwdIdeal.nD Cert.GatedNormFwdIdeal.τ).loc Cert.GatedNormFwdIdeal.main_arg1) = m ((c.tc : Thread Cert.GatedNormFwdIdeal.nD Cert.GatedNormFwdIdeal.τ).loc Cert.GatedNormFwdIdeal.main_arg1)
          ∧ r.2.mem ((c.tc : Thread Cert.GatedNormFwdIdeal.nD Cert.GatedNormFwdIdeal.τ).loc Cert.GatedNormFwdIdeal.main_arg2) = m ((c.tc : Thread Cert.GatedNormFwdIdeal.nD Cert.GatedNormFwdIdeal.τ).loc Cert.GatedNormFwdIdeal.main_arg2))
      ∧ θ_run (Cert.GatedNormFRefIdeal.defs (F := Ideal)) (onTc (τ := Cert.GatedNormFRefIdeal.τ) (Cert.GatedNormFRefIdeal.main (F := Ideal))) ⟨m', fun _ => 0, g'⟩ (fun r => ∀ c : Dev Cert.GatedNormFRefIdeal.nD,
          r.2.mem ((c.tc : Thread Cert.GatedNormFRefIdeal.nD Cert.GatedNormFRefIdeal.τ).loc Cert.GatedNormFRefIdeal.main_v19) = v0 c
          ∧ r.2.mem ((c.tc : Thread Cert.GatedNormFRefIdeal.nD Cert.GatedNormFRefIdeal.τ).loc Cert.GatedNormFRefIdeal.main_arg0) = m' ((c.tc : Thread Cert.GatedNormFRefIdeal.nD Cert.GatedNormFRefIdeal.τ).loc Cert.GatedNormFRefIdeal.main_arg0)
          ∧ r.2.mem ((c.tc : Thread Cert.GatedNormFRefIdeal.nD Cert.GatedNormFRefIdeal.τ).loc Cert.GatedNormFRefIdeal.main_arg1) = m' ((c.tc : Thread Cert.GatedNormFRefIdeal.nD Cert.GatedNormFRefIdeal.τ).loc Cert.GatedNormFRefIdeal.main_arg1)
          ∧ r.2.mem ((c.tc : Thread Cert.GatedNormFRefIdeal.nD Cert.GatedNormFRefIdeal.τ).loc Cert.GatedNormFRefIdeal.main_arg2) = m' ((c.tc : Thread Cert.GatedNormFRefIdeal.nD Cert.GatedNormFRefIdeal.τ).loc Cert.GatedNormFRefIdeal.main_arg2))

def preserves_MergeFwd_MergeFwdIdeal : Prop :=
  True

def algebraic_MergeFwdIdeal_MergeFRefIdeal [hMergeFwdIdeal : Cert.MergeFwdIdeal.Facts] [hMergeFRefIdeal : Cert.MergeFRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFwdIdeal m →
    (∀ c : Dev Cert.MergeFwdIdeal.nD,
      m' ((c.tc : Thread Cert.MergeFRefIdeal.nD Cert.MergeFRefIdeal.τ).loc Cert.MergeFRefIdeal.main_arg0) = m ((c.tc : Thread Cert.MergeFwdIdeal.nD Cert.MergeFwdIdeal.τ).loc Cert.MergeFwdIdeal.main_arg0)
      ∧ m' ((c.tc : Thread Cert.MergeFRefIdeal.nD Cert.MergeFRefIdeal.τ).loc Cert.MergeFRefIdeal.main_arg1) = m ((c.tc : Thread Cert.MergeFwdIdeal.nD Cert.MergeFwdIdeal.τ).loc Cert.MergeFwdIdeal.main_arg1)
      ∧ m' ((c.tc : Thread Cert.MergeFRefIdeal.nD Cert.MergeFRefIdeal.τ).loc Cert.MergeFRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v23)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v23) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v19) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2))

def preserves_ResidualMix_ResidualMixIdeal : Prop :=
  True

def algebraic_ResidualMixIdeal_ResidualMixRefIdeal [hResidualMixIdeal : Cert.ResidualMixIdeal.Facts] [hResidualMixRefIdeal : Cert.ResidualMixRefIdeal.Facts] : Prop :=
  ∀ (m : (ℓ : Loc Cert.ResidualMixIdeal.nD Cert.ResidualMixIdeal.τ Cert.ResidualMixIdeal.sig) → Buf (Elt Ideal) ℓ) (g : Dev Cert.ResidualMixIdeal.nD → PrngReg)
    (m' : (ℓ : Loc Cert.ResidualMixRefIdeal.nD Cert.ResidualMixRefIdeal.τ Cert.ResidualMixRefIdeal.sig) → Buf (Elt Ideal) ℓ) (g' : Dev Cert.ResidualMixRefIdeal.nD → PrngReg), Pre_ResidualMixIdeal m →
    (∀ c : Dev Cert.ResidualMixIdeal.nD,
      m' ((c.tc : Thread Cert.ResidualMixRefIdeal.nD Cert.ResidualMixRefIdeal.τ).loc Cert.ResidualMixRefIdeal.main_arg0) = m ((c.tc : Thread Cert.ResidualMixIdeal.nD Cert.ResidualMixIdeal.τ).loc Cert.ResidualMixIdeal.main_arg0)
      ∧ m' ((c.tc : Thread Cert.ResidualMixRefIdeal.nD Cert.ResidualMixRefIdeal.τ).loc Cert.ResidualMixRefIdeal.main_arg1) = m ((c.tc : Thread Cert.ResidualMixIdeal.nD Cert.ResidualMixIdeal.τ).loc Cert.ResidualMixIdeal.main_arg1)
      ∧ m' ((c.tc : Thread Cert.ResidualMixRefIdeal.nD Cert.ResidualMixRefIdeal.τ).loc Cert.ResidualMixRefIdeal.main_arg2) = m ((c.tc : Thread Cert.ResidualMixIdeal.nD Cert.ResidualMixIdeal.τ).loc Cert.ResidualMixIdeal.main_arg2)
      ∧ m' ((c.tc : Thread Cert.ResidualMixRefIdeal.nD Cert.ResidualMixRefIdeal.τ).loc Cert.ResidualMixRefIdeal.main_arg3) = m ((c.tc : Thread Cert.ResidualMixIdeal.nD Cert.ResidualMixIdeal.τ).loc Cert.ResidualMixIdeal.main_arg3)) →
    ∃ (v0 : (c : Dev Cert.ResidualMixIdeal.nD) → Buf (Elt Ideal) ((c.tc : Thread Cert.ResidualMixIdeal.nD Cert.ResidualMixIdeal.τ).loc Cert.ResidualMixIdeal.main_v5_0)) (v1 : (c : Dev Cert.ResidualMixIdeal.nD) → Buf (Elt Ideal) ((c.tc : Thread Cert.ResidualMixIdeal.nD Cert.ResidualMixIdeal.τ).loc Cert.ResidualMixIdeal.main_v5_1)),
      θ_run (Cert.ResidualMixIdeal.defs (F := Ideal)) (onTc (τ := Cert.ResidualMixIdeal.τ) (Cert.ResidualMixIdeal.main (F := Ideal))) ⟨m, fun _ => 0, g⟩ (fun r => ∀ c : Dev Cert.ResidualMixIdeal.nD,
          r.2.mem ((c.tc : Thread Cert.ResidualMixIdeal.nD Cert.ResidualMixIdeal.τ).loc Cert.ResidualMixIdeal.main_v5_0) = v0 c
          ∧ r.2.mem ((c.tc : Thread Cert.ResidualMixIdeal.nD Cert.ResidualMixIdeal.τ).loc Cert.ResidualMixIdeal.main_v5_1) = v1 c
          ∧ r.2.mem ((c.tc : Thread Cert.ResidualMixIdeal.nD Cert.ResidualMixIdeal.τ).loc Cert.ResidualMixIdeal.main_arg0) = m ((c.tc : Thread Cert.ResidualMixIdeal.nD Cert.ResidualMixIdeal.τ).loc Cert.ResidualMixIdeal.main_arg0)
          ∧ r.2.mem ((c.tc : Thread Cert.ResidualMixIdeal.nD Cert.ResidualMixIdeal.τ).loc Cert.ResidualMixIdeal.main_arg1) = m ((c.tc : Thread Cert.ResidualMixIdeal.nD Cert.ResidualMixIdeal.τ).loc Cert.ResidualMixIdeal.main_arg1)
          ∧ r.2.mem ((c.tc : Thread Cert.ResidualMixIdeal.nD Cert.ResidualMixIdeal.τ).loc Cert.ResidualMixIdeal.main_arg2) = m ((c.tc : Thread Cert.ResidualMixIdeal.nD Cert.ResidualMixIdeal.τ).loc Cert.ResidualMixIdeal.main_arg2)
          ∧ r.2.mem ((c.tc : Thread Cert.ResidualMixIdeal.nD Cert.ResidualMixIdeal.τ).loc Cert.ResidualMixIdeal.main_arg3) = m ((c.tc : Thread Cert.ResidualMixIdeal.nD Cert.ResidualMixIdeal.τ).loc Cert.ResidualMixIdeal.main_arg3))
      ∧ θ_run (Cert.ResidualMixRefIdeal.defs (F := Ideal)) (onTc (τ := Cert.ResidualMixRefIdeal.τ) (Cert.ResidualMixRefIdeal.main (F := Ideal))) ⟨m', fun _ => 0, g'⟩ (fun r => ∀ c : Dev Cert.ResidualMixRefIdeal.nD,
          r.2.mem ((c.tc : Thread Cert.ResidualMixRefIdeal.nD Cert.ResidualMixRefIdeal.τ).loc Cert.ResidualMixRefIdeal.main_v3) = v0 c
          ∧ r.2.mem ((c.tc : Thread Cert.ResidualMixRefIdeal.nD Cert.ResidualMixRefIdeal.τ).loc Cert.ResidualMixRefIdeal.main_v19) = v1 c
          ∧ r.2.mem ((c.tc : Thread Cert.ResidualMixRefIdeal.nD Cert.ResidualMixRefIdeal.τ).loc Cert.ResidualMixRefIdeal.main_arg0) = m' ((c.tc : Thread Cert.ResidualMixRefIdeal.nD Cert.ResidualMixRefIdeal.τ).loc Cert.ResidualMixRefIdeal.main_arg0)
          ∧ r.2.mem ((c.tc : Thread Cert.ResidualMixRefIdeal.nD Cert.ResidualMixRefIdeal.τ).loc Cert.ResidualMixRefIdeal.main_arg1) = m' ((c.tc : Thread Cert.ResidualMixRefIdeal.nD Cert.ResidualMixRefIdeal.τ).loc Cert.ResidualMixRefIdeal.main_arg1)
          ∧ r.2.mem ((c.tc : Thread Cert.ResidualMixRefIdeal.nD Cert.ResidualMixRefIdeal.τ).loc Cert.ResidualMixRefIdeal.main_arg2) = m' ((c.tc : Thread Cert.ResidualMixRefIdeal.nD Cert.ResidualMixRefIdeal.τ).loc Cert.ResidualMixRefIdeal.main_arg2)
          ∧ r.2.mem ((c.tc : Thread Cert.ResidualMixRefIdeal.nD Cert.ResidualMixRefIdeal.τ).loc Cert.ResidualMixRefIdeal.main_arg3) = m' ((c.tc : Thread Cert.ResidualMixRefIdeal.nD Cert.ResidualMixRefIdeal.τ).loc Cert.ResidualMixRefIdeal.main_arg3))

def preserves_SwigluFwd_SwigluFwdIdeal : Prop :=
  True

def algebraic_SwigluFwdIdeal_SwigluFRefIdeal [hSwigluFwdIdeal : Cert.SwigluFwdIdeal.Facts] [hSwigluFRefIdeal : Cert.SwigluFRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFRefIdeal.nD Cert.SwigluFRefIdeal.τ Cert.SwigluFRefIdeal.sig) → Buf (Elt Ideal) ℓ) (g' : Dev Cert.SwigluFRefIdeal.nD → PrngReg), Pre_SwigluFwdIdeal m →
    (∀ c : Dev Cert.SwigluFwdIdeal.nD,
      m' ((c.tc : Thread Cert.SwigluFRefIdeal.nD Cert.SwigluFRefIdeal.τ).loc Cert.SwigluFRefIdeal.main_arg0) = m ((c.tc : Thread Cert.SwigluFwdIdeal.nD Cert.SwigluFwdIdeal.τ).loc Cert.SwigluFwdIdeal.main_arg0)
      ∧ m' ((c.tc : Thread Cert.SwigluFRefIdeal.nD Cert.SwigluFRefIdeal.τ).loc Cert.SwigluFRefIdeal.main_arg1) = m ((c.tc : Thread Cert.SwigluFwdIdeal.nD Cert.SwigluFwdIdeal.τ).loc Cert.SwigluFwdIdeal.main_arg1)) →
    ∃ (v0 : (c : Dev Cert.SwigluFwdIdeal.nD) → Buf (Elt Ideal) ((c.tc : Thread Cert.SwigluFwdIdeal.nD Cert.SwigluFwdIdeal.τ).loc Cert.SwigluFwdIdeal.main_v5_0)) (v1 : (c : Dev Cert.SwigluFwdIdeal.nD) → Buf (Elt Ideal) ((c.tc : Thread Cert.SwigluFwdIdeal.nD Cert.SwigluFwdIdeal.τ).loc Cert.SwigluFwdIdeal.main_v5_1)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v5_0) = v0 c
          ∧ r.2.mem ((c.tc : Thread Cert.SwigluFwdIdeal.nD Cert.SwigluFwdIdeal.τ).loc Cert.SwigluFwdIdeal.main_v5_1) = v1 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ θ_run (Cert.SwigluFRefIdeal.defs (F := Ideal)) (onTc (τ := Cert.SwigluFRefIdeal.τ) (Cert.SwigluFRefIdeal.main (F := Ideal))) ⟨m', fun _ => 0, g'⟩ (fun r => ∀ c : Dev Cert.SwigluFRefIdeal.nD,
          r.2.mem ((c.tc : Thread Cert.SwigluFRefIdeal.nD Cert.SwigluFRefIdeal.τ).loc Cert.SwigluFRefIdeal.main_v3) = v0 c
          ∧ r.2.mem ((c.tc : Thread Cert.SwigluFRefIdeal.nD Cert.SwigluFRefIdeal.τ).loc Cert.SwigluFRefIdeal.main_v9) = v1 c
          ∧ r.2.mem ((c.tc : Thread Cert.SwigluFRefIdeal.nD Cert.SwigluFRefIdeal.τ).loc Cert.SwigluFRefIdeal.main_arg0) = m' ((c.tc : Thread Cert.SwigluFRefIdeal.nD Cert.SwigluFRefIdeal.τ).loc Cert.SwigluFRefIdeal.main_arg0)
          ∧ r.2.mem ((c.tc : Thread Cert.SwigluFRefIdeal.nD Cert.SwigluFRefIdeal.τ).loc Cert.SwigluFRefIdeal.main_arg1) = m' ((c.tc : Thread Cert.SwigluFRefIdeal.nD Cert.SwigluFRefIdeal.τ).loc Cert.SwigluFRefIdeal.main_arg1))

def preserves_ResidualFfn_ResidualFfnIdeal : Prop :=
  True

def algebraic_ResidualFfnIdeal_ResidualFfnRefIdeal [hResidualFfnIdeal : Cert.ResidualFfnIdeal.Facts] [hResidualFfnRefIdeal : Cert.ResidualFfnRefIdeal.Facts] : Prop :=
  ∀ (m : (ℓ : Loc Cert.ResidualFfnIdeal.nD Cert.ResidualFfnIdeal.τ Cert.ResidualFfnIdeal.sig) → Buf (Elt Ideal) ℓ) (g : Dev Cert.ResidualFfnIdeal.nD → PrngReg)
    (m' : (ℓ : Loc Cert.ResidualFfnRefIdeal.nD Cert.ResidualFfnRefIdeal.τ Cert.ResidualFfnRefIdeal.sig) → Buf (Elt Ideal) ℓ) (g' : Dev Cert.ResidualFfnRefIdeal.nD → PrngReg), Pre_ResidualFfnIdeal m →
    (∀ c : Dev Cert.ResidualFfnIdeal.nD,
      m' ((c.tc : Thread Cert.ResidualFfnRefIdeal.nD Cert.ResidualFfnRefIdeal.τ).loc Cert.ResidualFfnRefIdeal.main_arg0) = m ((c.tc : Thread Cert.ResidualFfnIdeal.nD Cert.ResidualFfnIdeal.τ).loc Cert.ResidualFfnIdeal.main_arg0)
      ∧ m' ((c.tc : Thread Cert.ResidualFfnRefIdeal.nD Cert.ResidualFfnRefIdeal.τ).loc Cert.ResidualFfnRefIdeal.main_arg1) = m ((c.tc : Thread Cert.ResidualFfnIdeal.nD Cert.ResidualFfnIdeal.τ).loc Cert.ResidualFfnIdeal.main_arg1)
      ∧ m' ((c.tc : Thread Cert.ResidualFfnRefIdeal.nD Cert.ResidualFfnRefIdeal.τ).loc Cert.ResidualFfnRefIdeal.main_arg2) = m ((c.tc : Thread Cert.ResidualFfnIdeal.nD Cert.ResidualFfnIdeal.τ).loc Cert.ResidualFfnIdeal.main_arg2)
      ∧ m' ((c.tc : Thread Cert.ResidualFfnRefIdeal.nD Cert.ResidualFfnRefIdeal.τ).loc Cert.ResidualFfnRefIdeal.main_arg3) = m ((c.tc : Thread Cert.ResidualFfnIdeal.nD Cert.ResidualFfnIdeal.τ).loc Cert.ResidualFfnIdeal.main_arg3)) →
    ∃ (v0 : (c : Dev Cert.ResidualFfnIdeal.nD) → Buf (Elt Ideal) ((c.tc : Thread Cert.ResidualFfnIdeal.nD Cert.ResidualFfnIdeal.τ).loc Cert.ResidualFfnIdeal.main_v5_0)) (v1 : (c : Dev Cert.ResidualFfnIdeal.nD) → Buf (Elt Ideal) ((c.tc : Thread Cert.ResidualFfnIdeal.nD Cert.ResidualFfnIdeal.τ).loc Cert.ResidualFfnIdeal.main_v5_1)),
      θ_run (Cert.ResidualFfnIdeal.defs (F := Ideal)) (onTc (τ := Cert.ResidualFfnIdeal.τ) (Cert.ResidualFfnIdeal.main (F := Ideal))) ⟨m, fun _ => 0, g⟩ (fun r => ∀ c : Dev Cert.ResidualFfnIdeal.nD,
          r.2.mem ((c.tc : Thread Cert.ResidualFfnIdeal.nD Cert.ResidualFfnIdeal.τ).loc Cert.ResidualFfnIdeal.main_v5_0) = v0 c
          ∧ r.2.mem ((c.tc : Thread Cert.ResidualFfnIdeal.nD Cert.ResidualFfnIdeal.τ).loc Cert.ResidualFfnIdeal.main_v5_1) = v1 c
          ∧ r.2.mem ((c.tc : Thread Cert.ResidualFfnIdeal.nD Cert.ResidualFfnIdeal.τ).loc Cert.ResidualFfnIdeal.main_arg0) = m ((c.tc : Thread Cert.ResidualFfnIdeal.nD Cert.ResidualFfnIdeal.τ).loc Cert.ResidualFfnIdeal.main_arg0)
          ∧ r.2.mem ((c.tc : Thread Cert.ResidualFfnIdeal.nD Cert.ResidualFfnIdeal.τ).loc Cert.ResidualFfnIdeal.main_arg1) = m ((c.tc : Thread Cert.ResidualFfnIdeal.nD Cert.ResidualFfnIdeal.τ).loc Cert.ResidualFfnIdeal.main_arg1)
          ∧ r.2.mem ((c.tc : Thread Cert.ResidualFfnIdeal.nD Cert.ResidualFfnIdeal.τ).loc Cert.ResidualFfnIdeal.main_arg2) = m ((c.tc : Thread Cert.ResidualFfnIdeal.nD Cert.ResidualFfnIdeal.τ).loc Cert.ResidualFfnIdeal.main_arg2)
          ∧ r.2.mem ((c.tc : Thread Cert.ResidualFfnIdeal.nD Cert.ResidualFfnIdeal.τ).loc Cert.ResidualFfnIdeal.main_arg3) = m ((c.tc : Thread Cert.ResidualFfnIdeal.nD Cert.ResidualFfnIdeal.τ).loc Cert.ResidualFfnIdeal.main_arg3))
      ∧ θ_run (Cert.ResidualFfnRefIdeal.defs (F := Ideal)) (onTc (τ := Cert.ResidualFfnRefIdeal.τ) (Cert.ResidualFfnRefIdeal.main (F := Ideal))) ⟨m', fun _ => 0, g'⟩ (fun r => ∀ c : Dev Cert.ResidualFfnRefIdeal.nD,
          r.2.mem ((c.tc : Thread Cert.ResidualFfnRefIdeal.nD Cert.ResidualFfnRefIdeal.τ).loc Cert.ResidualFfnRefIdeal.main_v3) = v0 c
          ∧ r.2.mem ((c.tc : Thread Cert.ResidualFfnRefIdeal.nD Cert.ResidualFfnRefIdeal.τ).loc Cert.ResidualFfnRefIdeal.main_v19) = v1 c
          ∧ r.2.mem ((c.tc : Thread Cert.ResidualFfnRefIdeal.nD Cert.ResidualFfnRefIdeal.τ).loc Cert.ResidualFfnRefIdeal.main_arg0) = m' ((c.tc : Thread Cert.ResidualFfnRefIdeal.nD Cert.ResidualFfnRefIdeal.τ).loc Cert.ResidualFfnRefIdeal.main_arg0)
          ∧ r.2.mem ((c.tc : Thread Cert.ResidualFfnRefIdeal.nD Cert.ResidualFfnRefIdeal.τ).loc Cert.ResidualFfnRefIdeal.main_arg1) = m' ((c.tc : Thread Cert.ResidualFfnRefIdeal.nD Cert.ResidualFfnRefIdeal.τ).loc Cert.ResidualFfnRefIdeal.main_arg1)
          ∧ r.2.mem ((c.tc : Thread Cert.ResidualFfnRefIdeal.nD Cert.ResidualFfnRefIdeal.τ).loc Cert.ResidualFfnRefIdeal.main_arg2) = m' ((c.tc : Thread Cert.ResidualFfnRefIdeal.nD Cert.ResidualFfnRefIdeal.τ).loc Cert.ResidualFfnRefIdeal.main_arg2)
          ∧ r.2.mem ((c.tc : Thread Cert.ResidualFfnRefIdeal.nD Cert.ResidualFfnRefIdeal.τ).loc Cert.ResidualFfnRefIdeal.main_arg3) = m' ((c.tc : Thread Cert.ResidualFfnRefIdeal.nD Cert.ResidualFfnRefIdeal.τ).loc Cert.ResidualFfnRefIdeal.main_arg3))

def preserves_GateScalarsBwd_GateScalarsBwdIdeal : Prop :=
  True

def algebraic_GateScalarsBwdIdeal_GateScalarsRefIdeal_pre_gate_scalars_ok [hGateScalarsBwdIdeal : Cert.GateScalarsBwdIdeal.Facts] [hGateScalarsRefIdeal : Cert.GateScalarsRefIdeal.Facts] [hPre_gate_scalars_ok : Cert.Pre_gate_scalars_ok.Facts] : Prop :=
  ∀ (m : (ℓ : Loc Cert.GateScalarsBwdIdeal.nD Cert.GateScalarsBwdIdeal.τ Cert.GateScalarsBwdIdeal.sig) → Buf (Elt Ideal) ℓ) (g : Dev Cert.GateScalarsBwdIdeal.nD → PrngReg)
    (m' : (ℓ : Loc Cert.GateScalarsRefIdeal.nD Cert.GateScalarsRefIdeal.τ Cert.GateScalarsRefIdeal.sig) → Buf (Elt Ideal) ℓ) (g' : Dev Cert.GateScalarsRefIdeal.nD → PrngReg), Pre_GateScalarsBwdIdeal_gate_scalars_ok m →
    (∀ c : Dev Cert.GateScalarsBwdIdeal.nD,
      m' ((c.tc : Thread Cert.GateScalarsRefIdeal.nD Cert.GateScalarsRefIdeal.τ).loc Cert.GateScalarsRefIdeal.main_arg0) = m ((c.tc : Thread Cert.GateScalarsBwdIdeal.nD Cert.GateScalarsBwdIdeal.τ).loc Cert.GateScalarsBwdIdeal.main_arg0)
      ∧ m' ((c.tc : Thread Cert.GateScalarsRefIdeal.nD Cert.GateScalarsRefIdeal.τ).loc Cert.GateScalarsRefIdeal.main_arg1) = m ((c.tc : Thread Cert.GateScalarsBwdIdeal.nD Cert.GateScalarsBwdIdeal.τ).loc Cert.GateScalarsBwdIdeal.main_arg1)
      ∧ m' ((c.tc : Thread Cert.GateScalarsRefIdeal.nD Cert.GateScalarsRefIdeal.τ).loc Cert.GateScalarsRefIdeal.main_arg2) = m ((c.tc : Thread Cert.GateScalarsBwdIdeal.nD Cert.GateScalarsBwdIdeal.τ).loc Cert.GateScalarsBwdIdeal.main_arg2)
      ∧ m' ((c.tc : Thread Cert.GateScalarsRefIdeal.nD Cert.GateScalarsRefIdeal.τ).loc Cert.GateScalarsRefIdeal.main_arg3) = m ((c.tc : Thread Cert.GateScalarsBwdIdeal.nD Cert.GateScalarsBwdIdeal.τ).loc Cert.GateScalarsBwdIdeal.main_arg3)
      ∧ m' ((c.tc : Thread Cert.GateScalarsRefIdeal.nD Cert.GateScalarsRefIdeal.τ).loc Cert.GateScalarsRefIdeal.main_arg4) = m ((c.tc : Thread Cert.GateScalarsBwdIdeal.nD Cert.GateScalarsBwdIdeal.τ).loc Cert.GateScalarsBwdIdeal.main_arg4)) →
    ∃ (v0 : (c : Dev Cert.GateScalarsBwdIdeal.nD) → Buf (Elt Ideal) ((c.tc : Thread Cert.GateScalarsBwdIdeal.nD Cert.GateScalarsBwdIdeal.τ).loc Cert.GateScalarsBwdIdeal.main_v29_0)) (v1 : (c : Dev Cert.GateScalarsBwdIdeal.nD) → Buf (Elt Ideal) ((c.tc : Thread Cert.GateScalarsBwdIdeal.nD Cert.GateScalarsBwdIdeal.τ).loc Cert.GateScalarsBwdIdeal.main_v29_1)) (v2 : (c : Dev Cert.GateScalarsBwdIdeal.nD) → Buf (Elt Ideal) ((c.tc : Thread Cert.GateScalarsBwdIdeal.nD Cert.GateScalarsBwdIdeal.τ).loc Cert.GateScalarsBwdIdeal.main_v29_2)),
      θ_run (Cert.GateScalarsBwdIdeal.defs (F := Ideal)) (onTc (τ := Cert.GateScalarsBwdIdeal.τ) (Cert.GateScalarsBwdIdeal.main (F := Ideal))) ⟨m, fun _ => 0, g⟩ (fun r => ∀ c : Dev Cert.GateScalarsBwdIdeal.nD,
          r.2.mem ((c.tc : Thread Cert.GateScalarsBwdIdeal.nD Cert.GateScalarsBwdIdeal.τ).loc Cert.GateScalarsBwdIdeal.main_v29_0) = v0 c
          ∧ r.2.mem ((c.tc : Thread Cert.GateScalarsBwdIdeal.nD Cert.GateScalarsBwdIdeal.τ).loc Cert.GateScalarsBwdIdeal.main_v29_1) = v1 c
          ∧ r.2.mem ((c.tc : Thread Cert.GateScalarsBwdIdeal.nD Cert.GateScalarsBwdIdeal.τ).loc Cert.GateScalarsBwdIdeal.main_v29_2) = v2 c
          ∧ r.2.mem ((c.tc : Thread Cert.GateScalarsBwdIdeal.nD Cert.GateScalarsBwdIdeal.τ).loc Cert.GateScalarsBwdIdeal.main_arg0) = m ((c.tc : Thread Cert.GateScalarsBwdIdeal.nD Cert.GateScalarsBwdIdeal.τ).loc Cert.GateScalarsBwdIdeal.main_arg0)
          ∧ r.2.mem ((c.tc : Thread Cert.GateScalarsBwdIdeal.nD Cert.GateScalarsBwdIdeal.τ).loc Cert.GateScalarsBwdIdeal.main_arg1) = m ((c.tc : Thread Cert.GateScalarsBwdIdeal.nD Cert.GateScalarsBwdIdeal.τ).loc Cert.GateScalarsBwdIdeal.main_arg1)
          ∧ r.2.mem ((c.tc : Thread Cert.GateScalarsBwdIdeal.nD Cert.GateScalarsBwdIdeal.τ).loc Cert.GateScalarsBwdIdeal.main_arg2) = m ((c.tc : Thread Cert.GateScalarsBwdIdeal.nD Cert.GateScalarsBwdIdeal.τ).loc Cert.GateScalarsBwdIdeal.main_arg2)
          ∧ r.2.mem ((c.tc : Thread Cert.GateScalarsBwdIdeal.nD Cert.GateScalarsBwdIdeal.τ).loc Cert.GateScalarsBwdIdeal.main_arg3) = m ((c.tc : Thread Cert.GateScalarsBwdIdeal.nD Cert.GateScalarsBwdIdeal.τ).loc Cert.GateScalarsBwdIdeal.main_arg3)
          ∧ r.2.mem ((c.tc : Thread Cert.GateScalarsBwdIdeal.nD Cert.GateScalarsBwdIdeal.τ).loc Cert.GateScalarsBwdIdeal.main_arg4) = m ((c.tc : Thread Cert.GateScalarsBwdIdeal.nD Cert.GateScalarsBwdIdeal.τ).loc Cert.GateScalarsBwdIdeal.main_arg4))
      ∧ θ_run (Cert.GateScalarsRefIdeal.defs (F := Ideal)) (onTc (τ := Cert.GateScalarsRefIdeal.τ) (Cert.GateScalarsRefIdeal.main (F := Ideal))) ⟨m', fun _ => 0, g'⟩ (fun r => ∀ c : Dev Cert.GateScalarsRefIdeal.nD,
          r.2.mem ((c.tc : Thread Cert.GateScalarsRefIdeal.nD Cert.GateScalarsRefIdeal.τ).loc Cert.GateScalarsRefIdeal.main_v41) = v0 c
          ∧ r.2.mem ((c.tc : Thread Cert.GateScalarsRefIdeal.nD Cert.GateScalarsRefIdeal.τ).loc Cert.GateScalarsRefIdeal.main_v44) = v1 c
          ∧ r.2.mem ((c.tc : Thread Cert.GateScalarsRefIdeal.nD Cert.GateScalarsRefIdeal.τ).loc Cert.GateScalarsRefIdeal.main_v47) = v2 c
          ∧ r.2.mem ((c.tc : Thread Cert.GateScalarsRefIdeal.nD Cert.GateScalarsRefIdeal.τ).loc Cert.GateScalarsRefIdeal.main_arg0) = m' ((c.tc : Thread Cert.GateScalarsRefIdeal.nD Cert.GateScalarsRefIdeal.τ).loc Cert.GateScalarsRefIdeal.main_arg0)
          ∧ r.2.mem ((c.tc : Thread Cert.GateScalarsRefIdeal.nD Cert.GateScalarsRefIdeal.τ).loc Cert.GateScalarsRefIdeal.main_arg1) = m' ((c.tc : Thread Cert.GateScalarsRefIdeal.nD Cert.GateScalarsRefIdeal.τ).loc Cert.GateScalarsRefIdeal.main_arg1)
          ∧ r.2.mem ((c.tc : Thread Cert.GateScalarsRefIdeal.nD Cert.GateScalarsRefIdeal.τ).loc Cert.GateScalarsRefIdeal.main_arg2) = m' ((c.tc : Thread Cert.GateScalarsRefIdeal.nD Cert.GateScalarsRefIdeal.τ).loc Cert.GateScalarsRefIdeal.main_arg2)
          ∧ r.2.mem ((c.tc : Thread Cert.GateScalarsRefIdeal.nD Cert.GateScalarsRefIdeal.τ).loc Cert.GateScalarsRefIdeal.main_arg3) = m' ((c.tc : Thread Cert.GateScalarsRefIdeal.nD Cert.GateScalarsRefIdeal.τ).loc Cert.GateScalarsRefIdeal.main_arg3)
          ∧ r.2.mem ((c.tc : Thread Cert.GateScalarsRefIdeal.nD Cert.GateScalarsRefIdeal.τ).loc Cert.GateScalarsRefIdeal.main_arg4) = m' ((c.tc : Thread Cert.GateScalarsRefIdeal.nD Cert.GateScalarsRefIdeal.τ).loc Cert.GateScalarsRefIdeal.main_arg4))

def preserves_WeightBwd_WeightBwdIdeal : Prop :=
  True

def algebraic_WeightBwdIdeal_WeightRefIdeal [hWeightBwdIdeal : Cert.WeightBwdIdeal.Facts] [hWeightRefIdeal : Cert.WeightRefIdeal.Facts] : Prop :=
  ∀ (m : (ℓ : Loc Cert.WeightBwdIdeal.nD Cert.WeightBwdIdeal.τ Cert.WeightBwdIdeal.sig) → Buf (Elt Ideal) ℓ) (g : Dev Cert.WeightBwdIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightBwdIdeal m →
    (∀ c : Dev Cert.WeightBwdIdeal.nD,
      m' ((c.tc : Thread Cert.WeightRefIdeal.nD Cert.WeightRefIdeal.τ).loc Cert.WeightRefIdeal.main_arg0) = m ((c.tc : Thread Cert.WeightBwdIdeal.nD Cert.WeightBwdIdeal.τ).loc Cert.WeightBwdIdeal.main_arg0)
      ∧ m' ((c.tc : Thread Cert.WeightRefIdeal.nD Cert.WeightRefIdeal.τ).loc Cert.WeightRefIdeal.main_arg1) = m ((c.tc : Thread Cert.WeightBwdIdeal.nD Cert.WeightBwdIdeal.τ).loc Cert.WeightBwdIdeal.main_arg1)) →
    ∃ (v0 : (c : Dev Cert.WeightBwdIdeal.nD) → Buf (Elt Ideal) ((c.tc : Thread Cert.WeightBwdIdeal.nD Cert.WeightBwdIdeal.τ).loc Cert.WeightBwdIdeal.main_v4)),
      θ_run (Cert.WeightBwdIdeal.defs (F := Ideal)) (onTc (τ := Cert.WeightBwdIdeal.τ) (Cert.WeightBwdIdeal.main (F := Ideal))) ⟨m, fun _ => 0, g⟩ (fun r => ∀ c : Dev Cert.WeightBwdIdeal.nD,
          r.2.mem ((c.tc : Thread Cert.WeightBwdIdeal.nD Cert.WeightBwdIdeal.τ).loc Cert.WeightBwdIdeal.main_v4) = v0 c
          ∧ r.2.mem ((c.tc : Thread Cert.WeightBwdIdeal.nD Cert.WeightBwdIdeal.τ).loc Cert.WeightBwdIdeal.main_arg0) = m ((c.tc : Thread Cert.WeightBwdIdeal.nD Cert.WeightBwdIdeal.τ).loc Cert.WeightBwdIdeal.main_arg0)
          ∧ r.2.mem ((c.tc : Thread Cert.WeightBwdIdeal.nD Cert.WeightBwdIdeal.τ).loc Cert.WeightBwdIdeal.main_arg1) = m ((c.tc : Thread Cert.WeightBwdIdeal.nD Cert.WeightBwdIdeal.τ).loc Cert.WeightBwdIdeal.main_arg1))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v5) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1))

def preserves_InputBwd_InputBwdIdeal : Prop :=
  True

def algebraic_InputBwdIdeal_InputRefIdeal [hInputBwdIdeal : Cert.InputBwdIdeal.Facts] [hInputRefIdeal : Cert.InputRefIdeal.Facts] : Prop :=
  ∀ (m : (ℓ : Loc Cert.InputBwdIdeal.nD Cert.InputBwdIdeal.τ Cert.InputBwdIdeal.sig) → Buf (Elt Ideal) ℓ) (g : Dev Cert.InputBwdIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputBwdIdeal m →
    (∀ c : Dev Cert.InputBwdIdeal.nD,
      m' ((c.tc : Thread Cert.InputRefIdeal.nD Cert.InputRefIdeal.τ).loc Cert.InputRefIdeal.main_arg0) = m ((c.tc : Thread Cert.InputBwdIdeal.nD Cert.InputBwdIdeal.τ).loc Cert.InputBwdIdeal.main_arg0)
      ∧ m' ((c.tc : Thread Cert.InputRefIdeal.nD Cert.InputRefIdeal.τ).loc Cert.InputRefIdeal.main_arg1) = m ((c.tc : Thread Cert.InputBwdIdeal.nD Cert.InputBwdIdeal.τ).loc Cert.InputBwdIdeal.main_arg1)) →
    ∃ (v0 : (c : Dev Cert.InputBwdIdeal.nD) → Buf (Elt Ideal) ((c.tc : Thread Cert.InputBwdIdeal.nD Cert.InputBwdIdeal.τ).loc Cert.InputBwdIdeal.main_v4)),
      θ_run (Cert.InputBwdIdeal.defs (F := Ideal)) (onTc (τ := Cert.InputBwdIdeal.τ) (Cert.InputBwdIdeal.main (F := Ideal))) ⟨m, fun _ => 0, g⟩ (fun r => ∀ c : Dev Cert.InputBwdIdeal.nD,
          r.2.mem ((c.tc : Thread Cert.InputBwdIdeal.nD Cert.InputBwdIdeal.τ).loc Cert.InputBwdIdeal.main_v4) = v0 c
          ∧ r.2.mem ((c.tc : Thread Cert.InputBwdIdeal.nD Cert.InputBwdIdeal.τ).loc Cert.InputBwdIdeal.main_arg0) = m ((c.tc : Thread Cert.InputBwdIdeal.nD Cert.InputBwdIdeal.τ).loc Cert.InputBwdIdeal.main_arg0)
          ∧ r.2.mem ((c.tc : Thread Cert.InputBwdIdeal.nD Cert.InputBwdIdeal.τ).loc Cert.InputBwdIdeal.main_arg1) = m ((c.tc : Thread Cert.InputBwdIdeal.nD Cert.InputBwdIdeal.τ).loc Cert.InputBwdIdeal.main_arg1))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v4) = v0 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_arg1) = v0 c
          ∧ r.2.mem ((c.tc : Thread Cert.AdamwRefIdeal.nD Cert.AdamwRefIdeal.τ).loc Cert.AdamwRefIdeal.main_v23) = v1 c
          ∧ r.2.mem ((c.tc : Thread Cert.AdamwRefIdeal.nD Cert.AdamwRefIdeal.τ).loc Cert.AdamwRefIdeal.main_v4) = v2 c
          ∧ r.2.mem ((c.tc : Thread Cert.AdamwRefIdeal.nD Cert.AdamwRefIdeal.τ).loc Cert.AdamwRefIdeal.main_v10) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hMergeBwd : Cert.MergeBwd.Facts) (hMergeBwdIdeal : Cert.MergeBwdIdeal.Facts) (hMergeRefIdeal : Cert.MergeRefIdeal.Facts) (hConvBwd : Cert.ConvBwd.Facts) (hConvBwdIdeal : Cert.ConvBwdIdeal.Facts) (hConvRefIdeal : Cert.ConvRefIdeal.Facts) (hGatedNormBwd : Cert.GatedNormBwd.Facts) (hGatedNormBwdIdeal : Cert.GatedNormBwdIdeal.Facts) (hGatedNormRefIdeal : Cert.GatedNormRefIdeal.Facts) (hSwigluBwd : Cert.SwigluBwd.Facts) (hSwigluBwdIdeal : Cert.SwigluBwdIdeal.Facts) (hSwigluRefIdeal : Cert.SwigluRefIdeal.Facts) (hRmsBwd : Cert.RmsBwd.Facts) (hRmsBwdIdeal : Cert.RmsBwdIdeal.Facts) (hRmsRefIdeal : Cert.RmsRefIdeal.Facts) (hHeadLoss : Cert.HeadLoss.Facts) (hHeadLossIdeal : Cert.HeadLossIdeal.Facts) (hHeadRefIdeal : Cert.HeadRefIdeal.Facts) (hPleBwd : Cert.PleBwd.Facts) (hPleBwdIdeal : Cert.PleBwdIdeal.Facts) (hPleRefIdeal : Cert.PleRefIdeal.Facts) (hMixBwd : Cert.MixBwd.Facts) (hMixBwdIdeal : Cert.MixBwdIdeal.Facts) (hMixRefIdeal : Cert.MixRefIdeal.Facts) (hAttnFwd : Cert.AttnFwd.Facts) (hAttnFwdIdeal : Cert.AttnFwdIdeal.Facts) (hAttnFRefIdeal : Cert.AttnFRefIdeal.Facts) (hRmsMix : Cert.RmsMix.Facts) (hRmsMixIdeal : Cert.RmsMixIdeal.Facts) (hRmsMixRefIdeal : Cert.RmsMixRefIdeal.Facts) (hConvFwd : Cert.ConvFwd.Facts) (hConvFwdIdeal : Cert.ConvFwdIdeal.Facts) (hConvFRefIdeal : Cert.ConvFRefIdeal.Facts) (hGateScalarsFwd : Cert.GateScalarsFwd.Facts) (hGateScalarsFwdIdeal : Cert.GateScalarsFwdIdeal.Facts) (hGateScalarsFRefIdeal : Cert.GateScalarsFRefIdeal.Facts) (hGatedNormFwd : Cert.GatedNormFwd.Facts) (hGatedNormFwdIdeal : Cert.GatedNormFwdIdeal.Facts) (hGatedNormFRefIdeal : Cert.GatedNormFRefIdeal.Facts) (hMergeFwd : Cert.MergeFwd.Facts) (hMergeFwdIdeal : Cert.MergeFwdIdeal.Facts) (hMergeFRefIdeal : Cert.MergeFRefIdeal.Facts) (hResidualMix : Cert.ResidualMix.Facts) (hResidualMixIdeal : Cert.ResidualMixIdeal.Facts) (hResidualMixRefIdeal : Cert.ResidualMixRefIdeal.Facts) (hSwigluFwd : Cert.SwigluFwd.Facts) (hSwigluFwdIdeal : Cert.SwigluFwdIdeal.Facts) (hSwigluFRefIdeal : Cert.SwigluFRefIdeal.Facts) (hResidualFfn : Cert.ResidualFfn.Facts) (hResidualFfnIdeal : Cert.ResidualFfnIdeal.Facts) (hResidualFfnRefIdeal : Cert.ResidualFfnRefIdeal.Facts) (hGateScalarsBwd : Cert.GateScalarsBwd.Facts) (hGateScalarsBwdIdeal : Cert.GateScalarsBwdIdeal.Facts) (hGateScalarsRefIdeal : Cert.GateScalarsRefIdeal.Facts) (hWeightBwd : Cert.WeightBwd.Facts) (hWeightBwdIdeal : Cert.WeightBwdIdeal.Facts) (hWeightRefIdeal : Cert.WeightRefIdeal.Facts) (hInputBwd : Cert.InputBwd.Facts) (hInputBwdIdeal : Cert.InputBwdIdeal.Facts) (hInputRefIdeal : Cert.InputRefIdeal.Facts) (hAdamw : Cert.Adamw.Facts) (hAdamwIdeal : Cert.AdamwIdeal.Facts) (hAdamwRefIdeal : Cert.AdamwRefIdeal.Facts) (hSumSmall : Cert.SumSmall.Facts) (hSumSmallIdeal : Cert.SumSmallIdeal.Facts) (hSumSmallRefIdeal : Cert.SumSmallRefIdeal.Facts) (hPre_conv_ct_finite : Cert.Pre_conv_ct_finite.Facts) (hPre_attn_finite : Cert.Pre_attn_finite.Facts) (hPre_gate_scalars_ok : Cert.Pre_gate_scalars_ok.Facts),
    quiescent_MergeBwd (hMergeBwd := hMergeBwd)
    ∧ quiescent_MergeBwdIdeal (hMergeBwdIdeal := hMergeBwdIdeal)
    ∧ quiescent_MergeRefIdeal (hMergeRefIdeal := hMergeRefIdeal)
    ∧ quiescent_ConvBwd (hConvBwd := hConvBwd)
    ∧ quiescent_ConvBwdIdeal (hConvBwdIdeal := hConvBwdIdeal)
    ∧ quiescent_ConvBwdIdeal_pre_conv_ct_finite (hConvBwdIdeal := hConvBwdIdeal) (hPre_conv_ct_finite := hPre_conv_ct_finite)
    ∧ quiescent_ConvRefIdeal (hConvRefIdeal := hConvRefIdeal)
    ∧ quiescent_ConvRefIdeal_pre_conv_ct_finite (hConvRefIdeal := hConvRefIdeal) (hPre_conv_ct_finite := hPre_conv_ct_finite)
    ∧ quiescent_GatedNormBwd (hGatedNormBwd := hGatedNormBwd)
    ∧ quiescent_GatedNormBwdIdeal (hGatedNormBwdIdeal := hGatedNormBwdIdeal)
    ∧ quiescent_GatedNormRefIdeal (hGatedNormRefIdeal := hGatedNormRefIdeal)
    ∧ quiescent_SwigluBwd (hSwigluBwd := hSwigluBwd)
    ∧ quiescent_SwigluBwdIdeal (hSwigluBwdIdeal := hSwigluBwdIdeal)
    ∧ quiescent_SwigluRefIdeal (hSwigluRefIdeal := hSwigluRefIdeal)
    ∧ quiescent_RmsBwd (hRmsBwd := hRmsBwd)
    ∧ quiescent_RmsBwdIdeal (hRmsBwdIdeal := hRmsBwdIdeal)
    ∧ quiescent_RmsRefIdeal (hRmsRefIdeal := hRmsRefIdeal)
    ∧ quiescent_HeadLoss (hHeadLoss := hHeadLoss)
    ∧ quiescent_HeadLossIdeal (hHeadLossIdeal := hHeadLossIdeal)
    ∧ quiescent_HeadRefIdeal (hHeadRefIdeal := hHeadRefIdeal)
    ∧ quiescent_PleBwd (hPleBwd := hPleBwd)
    ∧ quiescent_PleBwdIdeal (hPleBwdIdeal := hPleBwdIdeal)
    ∧ quiescent_PleRefIdeal (hPleRefIdeal := hPleRefIdeal)
    ∧ quiescent_MixBwd (hMixBwd := hMixBwd)
    ∧ quiescent_MixBwdIdeal (hMixBwdIdeal := hMixBwdIdeal)
    ∧ quiescent_MixRefIdeal (hMixRefIdeal := hMixRefIdeal)
    ∧ quiescent_AttnFwd (hAttnFwd := hAttnFwd)
    ∧ quiescent_AttnFwdIdeal (hAttnFwdIdeal := hAttnFwdIdeal)
    ∧ quiescent_AttnFwdIdeal_pre_attn_finite (hAttnFwdIdeal := hAttnFwdIdeal) (hPre_attn_finite := hPre_attn_finite)
    ∧ quiescent_AttnFRefIdeal (hAttnFRefIdeal := hAttnFRefIdeal)
    ∧ quiescent_AttnFRefIdeal_pre_attn_finite (hAttnFRefIdeal := hAttnFRefIdeal) (hPre_attn_finite := hPre_attn_finite)
    ∧ quiescent_RmsMix (hRmsMix := hRmsMix)
    ∧ quiescent_RmsMixIdeal (hRmsMixIdeal := hRmsMixIdeal)
    ∧ quiescent_RmsMixRefIdeal (hRmsMixRefIdeal := hRmsMixRefIdeal)
    ∧ quiescent_ConvFwd (hConvFwd := hConvFwd)
    ∧ quiescent_ConvFwdIdeal (hConvFwdIdeal := hConvFwdIdeal)
    ∧ quiescent_ConvFRefIdeal (hConvFRefIdeal := hConvFRefIdeal)
    ∧ quiescent_GateScalarsFwd (hGateScalarsFwd := hGateScalarsFwd)
    ∧ quiescent_GateScalarsFwdIdeal (hGateScalarsFwdIdeal := hGateScalarsFwdIdeal)
    ∧ quiescent_GateScalarsFRefIdeal (hGateScalarsFRefIdeal := hGateScalarsFRefIdeal)
    ∧ quiescent_GatedNormFwd (hGatedNormFwd := hGatedNormFwd)
    ∧ quiescent_GatedNormFwdIdeal (hGatedNormFwdIdeal := hGatedNormFwdIdeal)
    ∧ quiescent_GatedNormFRefIdeal (hGatedNormFRefIdeal := hGatedNormFRefIdeal)
    ∧ quiescent_MergeFwd (hMergeFwd := hMergeFwd)
    ∧ quiescent_MergeFwdIdeal (hMergeFwdIdeal := hMergeFwdIdeal)
    ∧ quiescent_MergeFRefIdeal (hMergeFRefIdeal := hMergeFRefIdeal)
    ∧ quiescent_ResidualMix (hResidualMix := hResidualMix)
    ∧ quiescent_ResidualMixIdeal (hResidualMixIdeal := hResidualMixIdeal)
    ∧ quiescent_ResidualMixRefIdeal (hResidualMixRefIdeal := hResidualMixRefIdeal)
    ∧ quiescent_SwigluFwd (hSwigluFwd := hSwigluFwd)
    ∧ quiescent_SwigluFwdIdeal (hSwigluFwdIdeal := hSwigluFwdIdeal)
    ∧ quiescent_SwigluFRefIdeal (hSwigluFRefIdeal := hSwigluFRefIdeal)
    ∧ quiescent_ResidualFfn (hResidualFfn := hResidualFfn)
    ∧ quiescent_ResidualFfnIdeal (hResidualFfnIdeal := hResidualFfnIdeal)
    ∧ quiescent_ResidualFfnRefIdeal (hResidualFfnRefIdeal := hResidualFfnRefIdeal)
    ∧ quiescent_GateScalarsBwd (hGateScalarsBwd := hGateScalarsBwd)
    ∧ quiescent_GateScalarsBwdIdeal (hGateScalarsBwdIdeal := hGateScalarsBwdIdeal)
    ∧ quiescent_GateScalarsBwdIdeal_pre_gate_scalars_ok (hGateScalarsBwdIdeal := hGateScalarsBwdIdeal) (hPre_gate_scalars_ok := hPre_gate_scalars_ok)
    ∧ quiescent_GateScalarsRefIdeal (hGateScalarsRefIdeal := hGateScalarsRefIdeal)
    ∧ quiescent_GateScalarsRefIdeal_pre_gate_scalars_ok (hGateScalarsRefIdeal := hGateScalarsRefIdeal) (hPre_gate_scalars_ok := hPre_gate_scalars_ok)
    ∧ quiescent_WeightBwd (hWeightBwd := hWeightBwd)
    ∧ quiescent_WeightBwdIdeal (hWeightBwdIdeal := hWeightBwdIdeal)
    ∧ quiescent_WeightRefIdeal (hWeightRefIdeal := hWeightRefIdeal)
    ∧ quiescent_InputBwd (hInputBwd := hInputBwd)
    ∧ quiescent_InputBwdIdeal (hInputBwdIdeal := hInputBwdIdeal)
    ∧ quiescent_InputRefIdeal (hInputRefIdeal := hInputRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_MergeBwd_MergeBwdIdeal
    ∧ algebraic_MergeBwdIdeal_MergeRefIdeal (hMergeBwdIdeal := hMergeBwdIdeal) (hMergeRefIdeal := hMergeRefIdeal)
    ∧ preserves_ConvBwd_ConvBwdIdeal
    ∧ algebraic_ConvBwdIdeal_ConvRefIdeal_pre_conv_ct_finite (hConvBwdIdeal := hConvBwdIdeal) (hConvRefIdeal := hConvRefIdeal) (hPre_conv_ct_finite := hPre_conv_ct_finite)
    ∧ preserves_GatedNormBwd_GatedNormBwdIdeal
    ∧ algebraic_GatedNormBwdIdeal_GatedNormRefIdeal (hGatedNormBwdIdeal := hGatedNormBwdIdeal) (hGatedNormRefIdeal := hGatedNormRefIdeal)
    ∧ preserves_SwigluBwd_SwigluBwdIdeal
    ∧ algebraic_SwigluBwdIdeal_SwigluRefIdeal (hSwigluBwdIdeal := hSwigluBwdIdeal) (hSwigluRefIdeal := hSwigluRefIdeal)
    ∧ preserves_RmsBwd_RmsBwdIdeal
    ∧ algebraic_RmsBwdIdeal_RmsRefIdeal (hRmsBwdIdeal := hRmsBwdIdeal) (hRmsRefIdeal := hRmsRefIdeal)
    ∧ preserves_HeadLoss_HeadLossIdeal
    ∧ algebraic_HeadLossIdeal_HeadRefIdeal (hHeadLossIdeal := hHeadLossIdeal) (hHeadRefIdeal := hHeadRefIdeal)
    ∧ preserves_PleBwd_PleBwdIdeal
    ∧ algebraic_PleBwdIdeal_PleRefIdeal (hPleBwdIdeal := hPleBwdIdeal) (hPleRefIdeal := hPleRefIdeal)
    ∧ preserves_MixBwd_MixBwdIdeal
    ∧ algebraic_MixBwdIdeal_MixRefIdeal (hMixBwdIdeal := hMixBwdIdeal) (hMixRefIdeal := hMixRefIdeal)
    ∧ preserves_AttnFwd_AttnFwdIdeal
    ∧ algebraic_AttnFwdIdeal_AttnFRefIdeal_pre_attn_finite (hAttnFwdIdeal := hAttnFwdIdeal) (hAttnFRefIdeal := hAttnFRefIdeal) (hPre_attn_finite := hPre_attn_finite)
    ∧ preserves_RmsMix_RmsMixIdeal
    ∧ algebraic_RmsMixIdeal_RmsMixRefIdeal (hRmsMixIdeal := hRmsMixIdeal) (hRmsMixRefIdeal := hRmsMixRefIdeal)
    ∧ preserves_ConvFwd_ConvFwdIdeal
    ∧ algebraic_ConvFwdIdeal_ConvFRefIdeal (hConvFwdIdeal := hConvFwdIdeal) (hConvFRefIdeal := hConvFRefIdeal)
    ∧ preserves_GateScalarsFwd_GateScalarsFwdIdeal
    ∧ algebraic_GateScalarsFwdIdeal_GateScalarsFRefIdeal (hGateScalarsFwdIdeal := hGateScalarsFwdIdeal) (hGateScalarsFRefIdeal := hGateScalarsFRefIdeal)
    ∧ preserves_GatedNormFwd_GatedNormFwdIdeal
    ∧ algebraic_GatedNormFwdIdeal_GatedNormFRefIdeal (hGatedNormFwdIdeal := hGatedNormFwdIdeal) (hGatedNormFRefIdeal := hGatedNormFRefIdeal)
    ∧ preserves_MergeFwd_MergeFwdIdeal
    ∧ algebraic_MergeFwdIdeal_MergeFRefIdeal (hMergeFwdIdeal := hMergeFwdIdeal) (hMergeFRefIdeal := hMergeFRefIdeal)
    ∧ preserves_ResidualMix_ResidualMixIdeal
    ∧ algebraic_ResidualMixIdeal_ResidualMixRefIdeal (hResidualMixIdeal := hResidualMixIdeal) (hResidualMixRefIdeal := hResidualMixRefIdeal)
    ∧ preserves_SwigluFwd_SwigluFwdIdeal
    ∧ algebraic_SwigluFwdIdeal_SwigluFRefIdeal (hSwigluFwdIdeal := hSwigluFwdIdeal) (hSwigluFRefIdeal := hSwigluFRefIdeal)
    ∧ preserves_ResidualFfn_ResidualFfnIdeal
    ∧ algebraic_ResidualFfnIdeal_ResidualFfnRefIdeal (hResidualFfnIdeal := hResidualFfnIdeal) (hResidualFfnRefIdeal := hResidualFfnRefIdeal)
    ∧ preserves_GateScalarsBwd_GateScalarsBwdIdeal
    ∧ algebraic_GateScalarsBwdIdeal_GateScalarsRefIdeal_pre_gate_scalars_ok (hGateScalarsBwdIdeal := hGateScalarsBwdIdeal) (hGateScalarsRefIdeal := hGateScalarsRefIdeal) (hPre_gate_scalars_ok := hPre_gate_scalars_ok)
    ∧ preserves_WeightBwd_WeightBwdIdeal
    ∧ algebraic_WeightBwdIdeal_WeightRefIdeal (hWeightBwdIdeal := hWeightBwdIdeal) (hWeightRefIdeal := hWeightRefIdeal)
    ∧ preserves_InputBwd_InputBwdIdeal
    ∧ algebraic_InputBwdIdeal_InputRefIdeal (hInputBwdIdeal := hInputBwdIdeal) (hInputRefIdeal := hInputRefIdeal)
    ∧ preserves_Adamw_AdamwIdeal
    ∧ algebraic_AdamwIdeal_AdamwRefIdeal (hAdamwIdeal := hAdamwIdeal) (hAdamwRefIdeal := hAdamwRefIdeal)
    ∧ preserves_SumSmall_SumSmallIdeal
    ∧ algebraic_SumSmallIdeal_SumSmallRefIdeal (hSumSmallIdeal := hSumSmallIdeal) (hSumSmallRefIdeal := hSumSmallRefIdeal)
-- ==== Pre_attn_finite.lean ====
abbrev S2x2048x5640 : Shape := ⟨3, ![2, 2048, 5640]⟩
abbrev S1x8x257 : Shape := ⟨3, ![1, 8, 257]⟩
abbrev S2x2048x1024 : Shape := ⟨3, ![2, 2048, 1024]⟩
abbrev S_ : Shape := ⟨0, ![]⟩

class Facts : Prop where
  slices_S2x2048x5640_S2x2048x1024_0_0_0 : S2x2048x5640.Slices ![0, 0, 0] S2x2048x1024
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x8x257 : S_.BroadcastsInDim S1x8x257 (![] : Fin 0 → Fin S1x8x257.rank)
  reducesTo_S1x8x257_S_d0_1_2 : S1x8x257.ReducesTo [0, 1, 2] S_

variable [Facts]

def fn {F : FTy → Type} [FloatOps F] (main_arg0 : FVec F S2x2048x5640 .f32) (main_arg1 : FVec F S1x8x257 .f32) : IVec S_ 1 :=
  let main_v0 : FVec F S2x2048x1024 .f32 := (extractStridedSlice S2x2048x1024 ![0, 0, 0] · slices_S2x2048x5640_S2x2048x1024_0_0_0) main_arg0
  let main_cst : FVec F S_ .f32 := constant S_ .f32 0xFF800000#32
  let main_v1 : FVec F S2x2048x1024 .f32 := broadcastInDim S2x2048x1024 ![] bcast_S_S2x2048x1024 main_cst
  let main_v2 : IVec S2x2048x1024 1 := cmpf .ogt main_v0 main_v1
  let main_cst_0 : FVec F S_ .f32 := constant S_ .f32 0x7F800000#32
  let main_v3 : FVec F S2x2048x1024 .f32 := broadcastInDim S2x2048x1024 ![] bcast_S_S2x2048x1024 main_cst_0
  let main_v4 : IVec S2x2048x1024 1 := cmpf .olt main_v0 main_v3
  let main_v5 : IVec S2x2048x1024 1 := andi main_v2 main_v4
  let main_c : IVec S_ 1 := constantI S_ 1 1#1
  let main_v6 : IVec S_ 1 := (fun x v => Host.reduce IntOp.andi x v reducesTo_S2x2048x1024_S_d0_1_2 h_S_) main_v5 main_c
  let main_cst_1 : FVec F S_ .f32 := constant S_ .f32 0xFF800000#32
  let main_v7 : FVec F S1x8x257 .f32 := broadcastInDim S1x8x257 ![] bcast_S_S1x8x257 main_cst_1
  let main_v8 : IVec S1x8x257 1 := cmpf .ogt main_arg1 main_v7
  let main_cst_2 : FVec F S_ .f32 := constant S_ .f32 0x7F800000#32
  let main_v9 : FVec F S1x8x257 .f32 := broadcastInDim S1x8x257 ![] bcast_S_S1x8x257 main_cst_2
  let main_v10 : IVec S1x8x257 1 := cmpf .olt main_arg1 main_v9
  let main_v11 : IVec S1x8x257 1 := andi main_v8 main_v10
  let main_c_3 : IVec S_ 1 := constantI S_ 1 1#1
  let main_v12 : IVec S_ 1 := (fun x v => Host.reduce IntOp.andi x v reducesTo_S1x8x257_S_d0_1_2 h_S_) main_v11 main_c_3
  let main_v13 : IVec S_ 1 := andi main_v6 main_v12
  main_v13
-- ==== Pre_conv_ct_finite.lean ====
abbrev S2x2048x5640 : Shape := ⟨3, ![2, 2048, 5640]⟩
abbrev S1x4x1536 : Shape := ⟨3, ![1, 4, 1536]⟩
abbrev S2x2048x1536 : Shape := ⟨3, ![2, 2048, 1536]⟩
abbrev S_ : Shape := ⟨0, ![]⟩

class Facts : Prop where
  bcast_S_S2x2048x1536 : S_.BroadcastsInDim S2x2048x1536 (![] : Fin 0 → Fin S2x2048x1536.rank)
  reducesTo_S2x2048x1536_S_d0_1_2 : S2x2048x1536.ReducesTo [0, 1, 2] S_
  h_S_ : 0 < S_.numel

variable [Facts]

def fn {F : FTy → Type} [FloatOps F] (main_arg0 : FVec F S2x2048x5640 .f32) (main_arg1 : FVec F S1x4x1536 .f32) (main_arg2 : FVec F S2x2048x1536 .f32) : IVec S_ 1 :=
  let main_cst : FVec F S_ .f32 := constant S_ .f32 0xFF800000#32
  let main_v0 : FVec F S2x2048x1536 .f32 := broadcastInDim S2x2048x1536 ![] bcast_S_S2x2048x1536 main_cst
  let main_v1 : IVec S2x2048x1536 1 := cmpf .ogt main_arg2 main_v0
  let main_cst_0 : FVec F S_ .f32 := constant S_ .f32 0x7F800000#32
  let main_v2 : FVec F S2x2048x1536 .f32 := broadcastInDim S2x2048x1536 ![] bcast_S_S2x2048x1536 main_cst_0
  let main_v3 : IVec S2x2048x1536 1 := cmpf .olt main_arg2 main_v2
  let main_v4 : IVec S2x2048x1536 1 := andi main_v1 main_v3
  let main_c : IVec S_ 1 := constantI S_ 1 1#1
  let main_v5 : IVec S_ 1 := (fun x v => Host.reduce IntOp.andi x v reducesTo_S2x2048x1536_S_d0_1_2 h_S_) main_v4 main_c
  main_v5
-- ==== Pre_gate_scalars_ok.lean ====
abbrev S2x2048x5640 : Shape := ⟨3, ![2, 2048, 5640]⟩
abbrev S1x4 : Shape := ⟨2, ![1, 4]⟩
abbrev S2x2048x4 : Shape := ⟨3, ![2, 2048, 4]⟩
abbrev S4 : Shape := ⟨1, ![4]⟩
abbrev S1x1x4 : Shape := ⟨3, ![1, 1, 4]⟩
abbrev S_ : Shape := ⟨0, ![]⟩

class Facts : Prop where
  slices_S2x2048x5640_S2x2048x4_0_0_3588 : S2x2048x5640.Slices ![0, 0, 3588] S2x2048x4
  shapeCasts_S1x4_S4 : S1x4.ShapeCasts S4
  bcast_S4_S1x1x4_2 : S4.BroadcastsInDim S1x1x4 (![2] : Fin 1 → Fin S1x1x4.rank)
  bcast_S1x1x4_S2x2048x4_0_1_2 : S1x1x4.BroadcastsInDim S2x2048x4 (![0, 1, 2] : Fin 3 → Fin S2x2048x4.rank)
  bcast_S_S2x2048x4 : S_.BroadcastsInDim S2x2048x4 (![] : Fin 0 → Fin S2x2048x4.rank)
  reducesTo_S2x2048x4_S_d0_1_2 : S2x2048x4.ReducesTo [0, 1, 2] S_
  h_S_ : 0 < S_.numel
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg4 : FVec F S2x2048x4 .f32) (main_v14 : IVec S_ 1) (main_v16 : IVec S2x2048x4 1) (main_cst_4 : FVec F S_ .f32) : IVec S_ 1 :=
  let main_v17 : FVec F S2x2048x4 .f32 := broadcastInDim S2x2048x4 ![] bcast_S_S2x2048x4 main_cst_4
  let main_v18 : IVec S2x2048x4 1 := cmpf .olt main_arg4 main_v17
  let main_v19 : IVec S2x2048x4 1 := andi main_v16 main_v18
  let main_c_5 : IVec S_ 1 := constantI S_ 1 1#1
  let main_v20 : IVec S_ 1 := (fun x v => Host.reduce IntOp.andi x v reducesTo_S2x2048x4_S_d0_1_2 h_S_) main_v19 main_c_5
  let main_v21 : IVec S_ 1 := andi main_v14 main_v20
  main_v21

def fn {F : FTy → Type} [FloatOps F] (main_arg0 : FVec F S2x2048x5640 .f32) (main_arg1 : FVec F S1x4 .f32) (main_arg2 : FVec F S1x4 .f32) (main_arg3 : FVec F S2x2048x4 .f32) (main_arg4 : FVec F S2x2048x4 .f32) : IVec S_ 1 :=
  let main_v0 : FVec F S2x2048x4 .f32 := (extractStridedSlice S2x2048x4 ![0, 0, 3588] · slices_S2x2048x5640_S2x2048x4_0_0_3588) main_arg0
  let main_v1 : FVec F S4 .f32 := shapeCast S4 main_arg2 shapeCasts_S1x4_S4
  let main_v2 : FVec F S1x1x4 .f32 := broadcastInDim S1x1x4 ![2] bcast_S4_S1x1x4_2 main_v1
  let main_v3 : FVec F S2x2048x4 .f32 := broadcastInDim S2x2048x4 ![0, 1, 2] bcast_S1x1x4_S2x2048x4_0_1_2 main_v2
  let main_v4 : FVec F S2x2048x4 .f32 := addf main_v0 main_v3
  let main_cst : FVec F S_ .f32 := constant S_ .f32 0x7F800000#32
  let main_v5 : FVec F S2x2048x4 .f32 := broadcastInDim S2x2048x4 ![] bcast_S_S2x2048x4 main_cst
  let main_v6 : IVec S2x2048x4 1 := cmpf .olt main_v4 main_v5
  let main_cst_0 : FVec F S_ .f32 := constant S_ .f32 0x00000000#32
  let main_v7 : FVec F S2x2048x4 .f32 := broadcastInDim S2x2048x4 ![] bcast_S_S2x2048x4 main_cst_0
  let main_v8 : IVec S2x2048x4 1 := cmpf .une main_v4 main_v7
  let main_v9 : IVec S2x2048x4 1 := andi main_v6 main_v8
  let main_c : IVec S_ 1 := constantI S_ 1 1#1
  let main_v10 : IVec S_ 1 := (fun x v => Host.reduce IntOp.andi x v reducesTo_S2x2048x4_S_d0_1_2 h_S_) main_v9 main_c
  let main_cst_1 : FVec F S_ .f32 := constant S_ .f32 0x7F800000#32
  let main_v11 : FVec F S1x4 .f32 := broadcastInDim S1x4 ![] bcast_S_S1x4 main_cst_1
  let main_v12 : IVec S1x4 1 := cmpf .olt main_arg1 main_v11
  let main_c_2 : IVec S_ 1 := constantI S_ 1 1#1
  let main_v13 : IVec S_ 1 := (fun x v => Host.reduce IntOp.andi x v reducesTo_S1x4_S_d0_1 h_S_) main_v12 main_c_2
  let main_v14 : IVec S_ 1 := andi main_v10 main_v13
  let main_cst_3 : FVec F S_ .f32 := constant S_ .f32 0xFF800000#32
  let main_v15 : FVec F S2x2048x4 .f32 := broadcastInDim S2x2048x4 ![] bcast_S_S2x2048x4 main_cst_3
  let main_v16 : IVec S2x2048x4 1 := cmpf .ogt main_arg4 main_v15
  let main_cst_4 : FVec F S_ .f32 := constant S_ .f32 0x7F800000#32
  fn_part1 (F := F) main_arg4 main_v14 main_v16 main_cst_4
-- ==== MergeBwd.lean ====
abbrev S2x2048x5640 : Shape := ⟨3, ![2, 2048, 5640]⟩
abbrev S2x2048x1024 : Shape := ⟨3, ![2, 2048, 1024]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S4096x5760 : Shape := ⟨2, ![4096, 5760]⟩
abbrev S4096x1024 : Shape := ⟨2, ![4096, 1024]⟩
abbrev S512x512 : Shape := ⟨2, ![512, 512]⟩

abbrev nBuf : Space → Nat
  | .hbm => 46
  | .vmem => 18
  | .smem => 0
  | _ => 0

abbrev bufTy : (tb : Table) → Fin (tcTables nBuf tb) → BufTy
  | .hbm, ⟨0, _⟩ => ⟨S2x2048x5640, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S4096x5640, .f32⟩
  | .hbm, ⟨5, _⟩ => ⟨S5640x4096, .f32⟩
  | .hbm, ⟨6, _⟩ => ⟨S5760x1, .i32⟩
  | .hbm, ⟨7, _⟩ => ⟨S_, .i32⟩
  | .hbm, ⟨8, _⟩ => ⟨S_, .f32⟩
  | .hbm, ⟨9, _⟩ => ⟨S5760x4096, .f32⟩
  | .hbm, ⟨10, _⟩ => ⟨S5632x4096, .f32⟩
  | .hbm, ⟨11, _⟩ => ⟨S_, .i32⟩
  | .hbm, ⟨12, _⟩ => ⟨S_, .f32⟩
  | .hbm, ⟨13, _⟩ => ⟨S5760x4096, .f32⟩
  | .hbm, ⟨14, _⟩ => ⟨S3592x4096, .f32⟩
  | .hbm, ⟨15, _⟩ => ⟨S_, .i32⟩
  | .hbm, ⟨16, _⟩ => ⟨S_, .f32⟩
  | .hbm, ⟨17, _⟩ => ⟨S5760x4096, .f32⟩
  | .hbm, ⟨18, _⟩ => ⟨S_, .i32⟩
  | .hbm, ⟨19, _⟩ => ⟨S5760x1, .i32⟩
  | .hbm, ⟨20, _⟩ => ⟨S5760x1, .i1⟩
  | .hbm, ⟨21, _⟩ => ⟨S_, .i32⟩
  | .hbm, ⟨22, _⟩ => ⟨S5760x1, .i32⟩
  | .hbm, ⟨23, _⟩ => ⟨S5760x1, .i1⟩
  | .hbm, ⟨24, _⟩ => ⟨S_, .i32⟩
  | .hbm, ⟨25, _⟩ => ⟨S5760x1, .i32⟩
  | .hbm, ⟨26, _⟩ => ⟨S5760x1, .i1⟩
  | .hbm, ⟨27, _⟩ => ⟨S_, .f32⟩
  | .hbm, ⟨28, _⟩ => ⟨S5760x4096, .i1⟩
  | .hbm, ⟨29, _⟩ => ⟨S5760x4096, .f32⟩
  | .hbm, ⟨30, _⟩ => ⟨S5760x4096, .f32⟩
  | .hbm, ⟨31, _⟩ => ⟨S5760x4096, .i1⟩
  | .hbm, ⟨32, _⟩ => ⟨S5760x4096, .f32⟩
  | .hbm, ⟨33, _⟩ => ⟨S5760x4096, .i1⟩
  | .hbm, ⟨34, _⟩ => ⟨S5760x4096, .f32⟩
  | .hbm, ⟨35, _⟩ => ⟨S4096x5760, .f32⟩
  | .hbm, ⟨36, _⟩ => ⟨S4096x5760, .bf16⟩
  | .hbm, ⟨37, _⟩ => ⟨S4096x1024, .f32⟩
  | .hbm, ⟨38, _⟩ => ⟨S4096x1024, .bf16⟩
  | .hbm, ⟨39, _⟩ => ⟨S4096x1024, .f32⟩
  | .hbm, ⟨40, _⟩ => ⟨S4096x1024, .bf16⟩
  | .hbm, ⟨41, _⟩ => ⟨S4096x1024, .f32⟩
  | .hbm, ⟨42, _⟩ => ⟨S4096x1024, .bf16⟩
  | .hbm, ⟨43, _⟩ => ⟨S4096x1024, .bf16⟩
  | .hbm, ⟨44, _⟩ => ⟨S4096x1024, .bf16⟩
  | .hbm, ⟨45, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S2x2048x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_call3_v0 : Ref sig .tc := ⟨.hbm, 28, rfl⟩
abbrev main_call3_v1 : Ref sig .tc := ⟨.hbm, 29, rfl⟩
abbrev main_v14 : Ref sig .tc := ⟨.hbm, 30, rfl⟩
abbrev main_call4_v0 : Ref sig .tc := ⟨.hbm, 31, rfl⟩
abbrev main_v15 : Ref sig .tc := ⟨.hbm, 32, rfl⟩
abbrev main_call5_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c7_i32 : BitVec 32 := 7#32
  let v1 : BitVec 32 := Scalar.addi c7_i32 v0
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c9_i32 : BitVec 32 := 9#32
  let v1 : BitVec 32 := Scalar.addi c9_i32 v0
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S2x2048x5640 : Shape := ⟨3, ![2, 2048, 5640]⟩
abbrev S2x2048x1024 : Shape := ⟨3, ![2, 2048, 1024]⟩
abbrev S2x2048x2048 : Shape := ⟨3, ![2, 2048, 2048]⟩
abbrev S_ : Shape := ⟨0, ![]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x5640, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x2048, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S_, .f32⟩
  | .hbm, ⟨42, _⟩ => ⟨S2x2048x2048, .f32⟩
  | .hbm, ⟨43, _⟩ => ⟨S2x2048x1024, .f32⟩
  | .hbm, ⟨44, _⟩ => ⟨S_, .f32⟩
  | .hbm, ⟨45, _⟩ => ⟨S2x2048x2048, .f32⟩
  | .hbm, ⟨46, _⟩ => ⟨S2x2048x2048, .f32⟩
  | .hbm, ⟨47, _⟩ => ⟨S2x2048x1024, .f32⟩
  | .hbm, ⟨48, _⟩ => ⟨S2x2048x1024, .f32⟩
  | .hbm, ⟨49, _⟩ => ⟨S4096x1024, .f32⟩
  | .hbm, ⟨50, _⟩ => ⟨S4096x1024, .bf16⟩
  | .hbm, ⟨51, _⟩ => ⟨S4096x1024, .f32⟩
  | .hbm, ⟨52, _⟩ => ⟨S4096x1024, .bf16⟩
  | .hbm, ⟨53, _⟩ => ⟨S4096x1024, .f32⟩
  | .hbm, ⟨54, _⟩ => ⟨S4096x1024, .bf16⟩
  | .hbm, ⟨55, _⟩ => ⟨S4096x1024, .f32⟩
  | .hbm, ⟨56, _⟩ => ⟨S4096x1024, .bf16⟩
  | _, _ => ⟨S2x2048x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== ConvBwd.lean ====
abbrev S2x2048x5640 : Shape := ⟨3, ![2, 2048, 5640]⟩
abbrev S1x4x1536 : Shape := ⟨3, ![1, 4, 1536]⟩
abbrev S2x2048x1536 : Shape := ⟨3, ![2, 2048, 1536]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S4096x5760 : Shape := ⟨2, ![4096, 5760]⟩
abbrev S4x1536 : Shape := ⟨2, ![4, 1536]⟩
abbrev S4096x1536 : Shape := ⟨2, ![4096, 1536]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 40
  | .vmem => 10
  | .smem => 0
  | _ => 0

abbrev bufTy : (tb : Table) → Fin (tcTables nBuf tb) → BufTy
  | .hbm, ⟨0, _⟩ => ⟨S2x2048x5640, .f32⟩
  | .hbm, ⟨1, _⟩ => ⟨S1x4x1536, .f32⟩
  | .hbm, ⟨2, _⟩ => ⟨S2x2048x1536, .f32⟩
  | .hbm, ⟨3, _⟩ => ⟨S4096x5640, .f32⟩
  | .hbm, ⟨4, _⟩ => ⟨S5640x4096, .f32⟩
  | .hbm, ⟨5, _⟩ => ⟨S5760x1, .i32⟩
  | .hbm, ⟨6, _⟩ => ⟨S_, .i32⟩
  | .hbm, ⟨7, _⟩ => ⟨S_, .f32⟩
  | .hbm, ⟨8, _⟩ => ⟨S5760x4096, .f32⟩
  | .hbm, ⟨9, _⟩ => ⟨S5632x4096, .f32⟩
  | .hbm, ⟨10, _⟩ => ⟨S_, .i32⟩
  | .hbm, ⟨11, _⟩ => ⟨S_, .f32⟩
  | .hbm, ⟨12, _⟩ => ⟨S5760x4096, .f32⟩
  | .hbm, ⟨13, _⟩ => ⟨S3592x4096, .f32⟩
  | .hbm, ⟨14, _⟩ => ⟨S_, .i32⟩
  | .hbm, ⟨15, _⟩ => ⟨S_, .f32⟩
  | .hbm, ⟨16, _⟩ => ⟨S5760x4096, .f32⟩
  | .hbm, ⟨17, _⟩ => ⟨S_, .i32⟩
  | .hbm, ⟨18, _⟩ => ⟨S5760x1, .i32⟩
  | .hbm, ⟨19, _⟩ => ⟨S5760x1, .i1⟩
  | .hbm, ⟨20, _⟩ => ⟨S_, .i32⟩
  | .hbm, ⟨21, _⟩ => ⟨S5760x1, .i32⟩
  | .hbm, ⟨22, _⟩ => ⟨S5760x1, .i1⟩
  | .hbm, ⟨23, _⟩ => ⟨S_, .i32⟩
  | .hbm, ⟨24, _⟩ => ⟨S5760x1, .i32⟩
  | .hbm, ⟨25, _⟩ => ⟨S5760x1, .i1⟩
  | .hbm, ⟨26, _⟩ => ⟨S_, .f32⟩
  | .hbm, ⟨27, _⟩ => ⟨S5760x4096, .i1⟩
  | .hbm, ⟨28, _⟩ => ⟨S5760x4096, .f32⟩
  | .hbm, ⟨29, _⟩ => ⟨S5760x4096, .f32⟩
  | .hbm, ⟨30, _⟩ => ⟨S5760x4096, .i1⟩
  | .hbm, ⟨31, _⟩ => ⟨S5760x4096, .f32⟩
  | .hbm, ⟨32, _⟩ => ⟨S5760x4096, .i1⟩
  | .hbm, ⟨33, _⟩ => ⟨S5760x4096, .f32⟩
  | .hbm, ⟨34, _⟩ => ⟨S4096x5760, .f32⟩
  | .hbm, ⟨35, _⟩ => ⟨S4096x5760, .bf16⟩
  | .hbm, ⟨36, _⟩ => ⟨S4x1536, .f32⟩
  | .hbm, ⟨37, _⟩ => ⟨S4096x1536, .f32⟩
  | .hbm, ⟨38, _⟩ => ⟨S4096x1536, .bf16⟩
  | .hbm, ⟨39, _⟩ => ⟨S4x1536, .f32⟩
  | .local _ .vmem, ⟨0, _⟩ => ⟨S2048x256, .bf16⟩
  | .local _ .vmem, ⟨1, _⟩ => ⟨S2048x256, .bf16⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | .local _ .vmem, ⟨6, _⟩ => ⟨S2048x256, .bf16⟩
  | .local _ .vmem, ⟨7, _⟩ => ⟨S2048x256, .bf16⟩
  | .local _ .vmem, ⟨8, _⟩ => ⟨S4x256, .f32⟩
  | .local _ .vmem, ⟨9, _⟩ => ⟨S4x256, .f32⟩
  | _, _ => ⟨S2x2048x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_call3_v0 : Ref sig .tc := ⟨.hbm, 27, rfl⟩
abbrev main_call3_v1 : Ref sig .tc := ⟨.hbm, 28, rfl⟩
abbrev main_v14 : Ref sig .tc := ⟨.hbm, 29, rfl⟩
abbrev main_call4_v0 : Ref sig .tc := ⟨.hbm, 30, rfl⟩
abbrev main_v15 : Ref sig .tc := ⟨.hbm, 31, rfl⟩
abbrev main_call5_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 2], ![false, false]⟩

def k0_cond1 (i : grid0.Coords) : BitVec 1 :=
  let arg1 : BitVec 32 := BitVec.ofNat 32 (i 1).val
  let c0_i32 : BitVec 32 := 0#32
  let v82 : BitVec 1 := Scalar.cmpi .eq arg1 c0_i32
  let v83 : BitVec 32 := Scalar.extui v82
  let c0_i32_21 : BitVec 32 := 0#32
  let v84 : BitVec 1 := Scalar.cmpi .ne v83 c0_i32_21
  v84

def k0_cond2 (i : grid0.Coords) : BitVec 1 :=
  let arg1 : BitVec 32 := BitVec.ofNat 32 (i 1).val
  let c0_i32_22 : BitVec 32 := 0#32
  let v85 : BitVec 1 := Scalar.cmpi .sgt arg1 c0_i32_22
  let v86 : BitVec 32 := Scalar.extui v85
  let c0_i32_23 : BitVec 32 := 0#32
  let v87 : BitVec 1 := Scalar.cmpi .ne v86 c0_i32_23
  v87

def k0_cond3 (i : grid0.Coords) : BitVec 1 :=
  let arg1 : BitVec 32 := BitVec.ofNat 32 (i 1).val
  let c0_i32_25 : BitVec 32 := 0#32
  let v91 : BitVec 1 := Scalar.cmpi .eq arg1 c0_i32_25
  let v92 : BitVec 32 := Scalar.extui v91
  let c0_i32_26 : BitVec 32 := 0#32
  let v93 : BitVec 1 := Scalar.cmpi .ne v92 c0_i32_26
  v93

def k0_cond4 (i : grid0.Coords) : BitVec 1 :=
  let arg1 : BitVec 32 := BitVec.ofNat 32 (i 1).val
  let c0_i32_27 : BitVec 32 := 0#32
  let v94 : BitVec 1 := Scalar.cmpi .sgt arg1 c0_i32_27
  let v95 : BitVec 32 := Scalar.extui v94
  let c0_i32_28 : BitVec 32 := 0#32
  let v96 : BitVec 1 := Scalar.cmpi .ne v95 c0_i32_28
  v96

def k0_cond5 (i : grid0.Coords) : BitVec 1 :=
  let arg1 : BitVec 32 := BitVec.ofNat 32 (i 1).val
  let c0_i32_30 : BitVec 32 := 0#32
  let v100 : BitVec 1 := Scalar.cmpi .eq arg1 c0_i32_30
  let v101 : BitVec 32 := Scalar.extui v100
  let c0_i32_31 : BitVec 32 := 0#32
  let v102 : BitVec 1 := Scalar.cmpi .ne v101 c0_i32_31
  v102

def k0_cond6 (i : grid0.Coords) : BitVec 1 :=
  let arg1 : BitVec 32 := BitVec.ofNat 32 (i 1).val
  let c0_i32_32 : BitVec 32 := 0#32
  let v103 : BitVec 1 := Scalar.cmpi .sgt arg1 c0_i32_32
  let v104 : BitVec 32 := Scalar.extui v103
  let c0_i32_33 : BitVec 32 := 0#32
  let v105 : BitVec 1 := Scalar.cmpi .ne v104 c0_i32_33
  v105

def k0_cond7 (i : grid0.Coords) : BitVec 1 :=
  let arg1 : BitVec 32 := BitVec.ofNat 32 (i 1).val
  let c0_i32_35 : BitVec 32 := 0#32
  let v109 : BitVec 1 := Scalar.cmpi .eq arg1 c0_i32_35
  let v110 : BitVec 32 := Scalar.extui v109
  let c0_i32_36 : BitVec 32 := 0#32
  let v111 : BitVec 1 := Scalar.cmpi .ne v110 c0_i32_36
  v111

def k0_cond8 (i : grid0.Coords) : BitVec 1 :=
  let arg1 : BitVec 32 := BitVec.ofNat 32 (i 1).val
  let c0_i32_37 : BitVec 32 := 0#32
  let v112 : BitVec 1 := Scalar.cmpi .sgt arg1 c0_i32_37
  let v113 : BitVec 32 := Scalar.extui v112
  let c0_i32_38 : BitVec 32 := 0#32
  let v114 : BitVec 1 := Scalar.cmpi .ne v113 c0_i32_38
  v114

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvRefIdeal.lean ====
abbrev S2x2048x5640 : Shape := ⟨3, ![2, 2048, 5640]⟩
abbrev S1x4x1536 : Shape := ⟨3, ![1, 4, 1536]⟩
abbrev S2x2048x1536 : Shape := ⟨3, ![2, 2048, 1536]⟩
abbrev S4x1536 : Shape := ⟨2, ![4, 1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1536 : Shape := ⟨1, ![1536]⟩
abbrev S1x1x1536 : Shape := ⟨3, ![1, 1, 1536]⟩
abbrev S4096x1536 : Shape := ⟨2, ![4096, 1536]⟩

abbrev nBuf : Space → Nat
  | .hbm => 118
  | .vmem => 0
  | .smem => 0
  | _ => 0

abbrev bufTy : (tb : Table) → Fin (tcTables nBuf tb) → BufTy
  | .hbm, ⟨0, _⟩ => ⟨S2x2048x5640, .f32⟩
  | .hbm, ⟨1, _⟩ => ⟨S1x4x1536, .f32⟩
  | .hbm, ⟨2, _⟩ => ⟨S2x2048x1536, .f32⟩
  | .hbm, ⟨3, _⟩ => ⟨S2x2048x1536, .f32⟩
  | .hbm, ⟨4, _⟩ => ⟨S4x1536, .f32⟩
  | .hbm, ⟨5, _⟩ => ⟨S_, .f32⟩
  | .hbm, ⟨6, _⟩ => ⟨S2x3x1536, .f32⟩
  | .hbm, ⟨7, _⟩ => ⟨S2x2051x1536, .f32⟩
  | .hbm, ⟨8, _⟩ => ⟨S_, .f32⟩
  | .hbm, ⟨9, _⟩ => ⟨S2x3x1536, .f32⟩
  | .hbm, ⟨10, _⟩ => ⟨S2x2048x1536, .f32⟩
  | .hbm, ⟨11, _⟩ => ⟨S1x1536, .f32⟩
  | .hbm, ⟨12, _⟩ => ⟨S1536, .f32⟩
  | .hbm, ⟨13, _⟩ => ⟨S1x1x1536, .f32⟩
  | .hbm, ⟨14, _⟩ => ⟨S2x2048x1536, .f32⟩
  | .hbm, ⟨15, _⟩ => ⟨S2x2048x1536, .f32⟩
  | .hbm, ⟨16, _⟩ => ⟨S2x2048x1536, .f32⟩
  | .hbm, ⟨17, _⟩ => ⟨S1x1536, .f32⟩
  | .hbm, ⟨18, _⟩ => ⟨S1536, .f32⟩
  | .hbm, ⟨19, _⟩ => ⟨S1x1x1536, .f32⟩
  | .hbm, ⟨20, _⟩ => ⟨S2x2048x1536, .f32⟩
  | .hbm, ⟨21, _⟩ => ⟨S2x2048x1536, .f32⟩
  | .hbm, ⟨22, _⟩ => ⟨S2x2048x1536, .f32⟩
  | .hbm, ⟨23, _⟩ => ⟨S2x2048x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S2x2048x1536, .f32⟩
  | .hbm, ⟨28, _⟩ => ⟨S2x2048x1536, .f32⟩
  | .hbm, ⟨29, _⟩ => ⟨S2x2048x1536, .f32⟩
  | .hbm, ⟨30, _⟩ => ⟨S2x2048x1536, .f32⟩
  | .hbm, ⟨31, _⟩ => ⟨S1x1536, .f32⟩
  | .hbm, ⟨32, _⟩ => ⟨S1536, .f32⟩
  | .hbm, ⟨33, _⟩ => ⟨S1x1x1536, .f32⟩
  | .hbm, ⟨34, _⟩ => ⟨S2x2048x1536, .f32⟩
  | .hbm, ⟨35, _⟩ => ⟨S2x2048x1536, .f32⟩
  | .hbm, ⟨36, _⟩ => ⟨S2x2048x1536, .f32⟩
  | .hbm, ⟨37, _⟩ => ⟨S2x2048x1536, .f32⟩
  | .hbm, ⟨38, _⟩ => ⟨S2x2048x1536, .f32⟩
  | .hbm, ⟨39, _⟩ => ⟨S_, .f32⟩
  | .hbm, ⟨40, _⟩ => ⟨S2x2048x1536, .f32⟩
  | .hbm, ⟨41, _⟩ => ⟨S2x2048x1536, .f32⟩
  | .hbm, ⟨42, _⟩ => ⟨S_, .f32⟩
  | .hbm, ⟨43, _⟩ => ⟨S2x2048x1536, .f32⟩
  | .hbm, ⟨44, _⟩ => ⟨S2x2048x1536, .f32⟩
  | .hbm, ⟨45, _⟩ => ⟨S_, .f32⟩
  | .hbm, ⟨46, _⟩ => ⟨S2x2048x1536, .f32⟩
  | .hbm, ⟨47, _⟩ => ⟨S2x2048x1536, .f32⟩
  | .hbm, ⟨48, _⟩ => ⟨S2x2048x1536, .f32⟩
  | .hbm, ⟨49, _⟩ => ⟨S2x2048x1536, .f32⟩
  | .hbm, ⟨50, _⟩ => ⟨S2x2048x1536, .f32⟩
  | .hbm, ⟨51, _⟩ => ⟨S2x2048x1536, .f32⟩
  | .hbm, ⟨52, _⟩ => ⟨S2x2048x1536, .f32⟩
  | .hbm, ⟨53, _⟩ => ⟨S2x2048x1536, .f32⟩
  | .hbm, ⟨54, _⟩ => ⟨S2x2048x1536, .f32⟩
  | .hbm, ⟨55, _⟩ => ⟨S_, .f32⟩
  | .hbm, ⟨56, _⟩ => ⟨S1536, .f32⟩
  | .hbm, ⟨57, _⟩ => ⟨S1x1x1536, .f32⟩
  | .hbm, ⟨58, _⟩ => ⟨S2x2048x1536, .f32⟩
  | .hbm, ⟨59, _⟩ => ⟨S2x2048x1536, .f32⟩
  | .hbm, ⟨60, _⟩ => ⟨S_, .f32⟩
  | .hbm, ⟨61, _⟩ => ⟨S1536, .f32⟩
  | .hbm, ⟨62, _⟩ => ⟨S1x1536, .f32⟩
  | .hbm, ⟨63, _⟩ => ⟨S_, .f32⟩
  | .hbm, ⟨64, _⟩ => ⟨S4x1536, .f32⟩
  | .hbm, ⟨65, _⟩ => ⟨S_, .f32⟩
  | .hbm, ⟨66, _⟩ => ⟨S2x2051x1536, .f32⟩
  | .hbm, ⟨67, _⟩ => ⟨S2x2048x1536, .f32⟩
  | .hbm, ⟨68, _⟩ => ⟨S_, .f32⟩
  | .hbm, ⟨69, _⟩ => ⟨S1536, .f32⟩
  | .hbm, ⟨70, _⟩ => ⟨S1x1x1536, .f32⟩
  | .hbm, ⟨71, _⟩ => ⟨S2x2048x1536, .f32⟩
  | .hbm, ⟨72, _⟩ => ⟨S2x2048x1536, .f32⟩
  | .hbm, ⟨73, _⟩ => ⟨S_, .f32⟩
  | .hbm, ⟨74, _⟩ => ⟨S1536, .f32⟩
  | .hbm, ⟨75, _⟩ => ⟨S1x1536, .f32⟩
  | .hbm, ⟨76, _⟩ => ⟨S_, .f32⟩
  | .hbm, ⟨77, _⟩ => ⟨S4x1536, .f32⟩
  | .hbm, ⟨78, _⟩ => ⟨S4x1536, .f32⟩
  | .hbm, ⟨79, _⟩ => ⟨S_, .f32⟩
  | .hbm, ⟨80, _⟩ => ⟨S2x2051x1536, .f32⟩
  | .hbm, ⟨81, _⟩ => ⟨S2x2051x1536, .f32⟩
  | .hbm, ⟨82, _⟩ => ⟨S2x2048x1536, .f32⟩
  | .hbm, ⟨83, _⟩ => ⟨S_, .f32⟩
  | .hbm, ⟨84, _⟩ => ⟨S1536, .f32⟩
  | .hbm, ⟨85, _⟩ => ⟨S1x1x1536, .f32⟩
  | .hbm, ⟨86, _⟩ => ⟨S2x2048x1536, .f32⟩
  | .hbm, ⟨87, _⟩ => ⟨S2x2048x1536, .f32⟩
  | .hbm, ⟨88, _⟩ => ⟨S_, .f32⟩
  | .hbm, ⟨89, _⟩ => ⟨S1536, .f32⟩
  | .hbm, ⟨90, _⟩ => ⟨S1x1536, .f32⟩
  | .hbm, ⟨91, _⟩ => ⟨S_, .f32⟩
  | .hbm, ⟨92, _⟩ => ⟨S4x1536, .f32⟩
  | .hbm, ⟨93, _⟩ => ⟨S4x1536, .f32⟩
  | .hbm, ⟨94, _⟩ => ⟨S_, .f32⟩
  | .hbm, ⟨95, _⟩ => ⟨S2x2051x1536, .f32⟩
  | .hbm, ⟨96, _⟩ => ⟨S2x2051x1536, .f32⟩
  | .hbm, ⟨97, _⟩ => ⟨S2x2048x1536, .f32⟩
  | .hbm, ⟨98, _⟩ => ⟨S_, .f32⟩
  | .hbm, ⟨99, _⟩ => ⟨S1536, .f32⟩
  | .hbm, ⟨100, _⟩ => ⟨S1x1x1536, .f32⟩
  | .hbm, ⟨101, _⟩ => ⟨S2x2048x1536, .f32⟩
  | .hbm, ⟨102, _⟩ => ⟨S2x2048x1536, .f32⟩
  | .hbm, ⟨103, _⟩ => ⟨S_, .f32⟩
  | .hbm, ⟨104, _⟩ => ⟨S1536, .f32⟩
  | .hbm, ⟨105, _⟩ => ⟨S1x1536, .f32⟩
  | .hbm, ⟨106, _⟩ => ⟨S_, .f32⟩
  | .hbm, ⟨107, _⟩ => ⟨S4x1536, .f32⟩
  | .hbm, ⟨108, _⟩ => ⟨S4x1536, .f32⟩
  | .hbm, ⟨109, _⟩ => ⟨S_, .f32⟩
  | .hbm, ⟨110, _⟩ => ⟨S2x2051x1536, .f32⟩
  | .hbm, ⟨111, _⟩ => ⟨S2x2051x1536, .f32⟩
  | .hbm, ⟨112, _⟩ => ⟨S2x3x1536, .f32⟩
  | .hbm, ⟨113, _⟩ => ⟨S2x2048x1536, .f32⟩
  | .hbm, ⟨114, _⟩ => ⟨S1x4x1536, .f32⟩
  | .hbm, ⟨115, _⟩ => ⟨S4096x1536, .f32⟩
  | .hbm, ⟨116, _⟩ => ⟨S4096x1536, .bf16⟩
  | .hbm, ⟨117, _⟩ => ⟨S4x1536, .f32⟩
  | _, _ => ⟨S2x2048x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v32_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v32_1 : Ref sig .tc := ⟨.hbm, 48, rfl⟩
abbrev main_v32_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_v34 : Ref sig .tc := ⟨.hbm, 54, rfl⟩
abbrev main_cst_1 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_cst_4 : Ref sig .tc := ⟨.hbm, 65, rfl⟩
abbrev main_v42 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_cst_16 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]
-- ==== GatedNormBwd.lean ====
abbrev S2x2048x5640 : Shape := ⟨3, ![2, 2048, 5640]⟩
abbrev S2x2048x4x128 : Shape := ⟨4, ![2, 2048, 4, 128]⟩
abbrev S1x128 : Shape := ⟨2, ![1, 128]⟩
abbrev S2x2048x512 : Shape := ⟨3, ![2, 2048, 512]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S4096x5760 : Shape := ⟨2, ![4096, 5760]⟩
abbrev S4096x512 : Shape := ⟨2, ![4096, 512]⟩
abbrev S1024x128 : Shape := ⟨2, ![1024, 128]⟩
abbrev S1024 : Shape := ⟨1, ![1024]⟩
abbrev S1024x1 : Shape := ⟨2, ![1024, 1]⟩
abbrev S128 : Shape := ⟨1, ![128]⟩

abbrev nBuf : Space → Nat
  | .hbm => 42
  | .vmem => 12
  | .smem => 0
  | _ => 0

abbrev bufTy : (tb : Table) → Fin (tcTables nBuf tb) → BufTy
  | .hbm, ⟨0, _⟩ => ⟨S2x2048x5640, .f32⟩
  | .hbm, ⟨1, _⟩ => ⟨S2x2048x4x128, .f32⟩
  | .hbm, ⟨2, _⟩ => ⟨S1x128, .f32⟩
  | .hbm, ⟨3, _⟩ => ⟨S2x2048x512, .f32⟩
  | .hbm, ⟨4, _⟩ => ⟨S4096x5640, .f32⟩
  | .hbm, ⟨5, _⟩ => ⟨S5640x4096, .f32⟩
  | .hbm, ⟨6, _⟩ => ⟨S5760x1, .i32⟩
  | .hbm, ⟨7, _⟩ => ⟨S_, .i32⟩
  | .hbm, ⟨8, _⟩ => ⟨S_, .f32⟩
  | .hbm, ⟨9, _⟩ => ⟨S5760x4096, .f32⟩
  | .hbm, ⟨10, _⟩ => ⟨S5632x4096, .f32⟩
  | .hbm, ⟨11, _⟩ => ⟨S_, .i32⟩
  | .hbm, ⟨12, _⟩ => ⟨S_, .f32⟩
  | .hbm, ⟨13, _⟩ => ⟨S5760x4096, .f32⟩
  | .hbm, ⟨14, _⟩ => ⟨S3592x4096, .f32⟩
  | .hbm, ⟨15, _⟩ => ⟨S_, .i32⟩
  | .hbm, ⟨16, _⟩ => ⟨S_, .f32⟩
  | .hbm, ⟨17, _⟩ => ⟨S5760x4096, .f32⟩
  | .hbm, ⟨18, _⟩ => ⟨S_, .i32⟩
  | .hbm, ⟨19, _⟩ => ⟨S5760x1, .i32⟩
  | .hbm, ⟨20, _⟩ => ⟨S5760x1, .i1⟩
  | .hbm, ⟨21, _⟩ => ⟨S_, .i32⟩
  | .hbm, ⟨22, _⟩ => ⟨S5760x1, .i32⟩
  | .hbm, ⟨23, _⟩ => ⟨S5760x1, .i1⟩
  | .hbm, ⟨24, _⟩ => ⟨S_, .i32⟩
  | .hbm, ⟨25, _⟩ => ⟨S5760x1, .i32⟩
  | .hbm, ⟨26, _⟩ => ⟨S5760x1, .i1⟩
  | .hbm, ⟨27, _⟩ => ⟨S_, .f32⟩
  | .hbm, ⟨28, _⟩ => ⟨S5760x4096, .i1⟩
  | .hbm, ⟨29, _⟩ => ⟨S5760x4096, .f32⟩
  | .hbm, ⟨30, _⟩ => ⟨S5760x4096, .f32⟩
  | .hbm, ⟨31, _⟩ => ⟨S5760x4096, .i1⟩
  | .hbm, ⟨32, _⟩ => ⟨S5760x4096, .f32⟩
  | .hbm, ⟨33, _⟩ => ⟨S5760x4096, .i1⟩
  | .hbm, ⟨34, _⟩ => ⟨S5760x4096, .f32⟩
  | .hbm, ⟨35, _⟩ => ⟨S4096x5760, .f32⟩
  | .hbm, ⟨36, _⟩ => ⟨S4096x5760, .bf16⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .bf16⟩
  | .hbm, ⟨41, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | _, _ => ⟨S2x2048x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_call3_v0 : Ref sig .tc := ⟨.hbm, 28, rfl⟩
abbrev main_call3_v1 : Ref sig .tc := ⟨.hbm, 29, rfl⟩
abbrev main_v14 : Ref sig .tc := ⟨.hbm, 30, rfl⟩
abbrev main_call4_v0 : Ref sig .tc := ⟨.hbm, 31, rfl⟩
abbrev main_v15 : Ref sig .tc := ⟨.hbm, 32, rfl⟩
abbrev main_call5_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v57 : BitVec 1 := Scalar.cmpi .eq arg1 c0_i32
  let arg0 : BitVec 32 := BitVec.ofNat 32 (i 0).val
  let c0_i32_19 : BitVec 32 := 0#32
  let v58 : BitVec 1 := Scalar.cmpi .eq arg0 c0_i32_19
  let v59 : BitVec 1 := Scalar.andi v57 v58
  let v60 : BitVec 32 := Scalar.extui v59
  let c0_i32_20 : BitVec 32 := 0#32
  let v61 : BitVec 1 := Scalar.cmpi .ne v60 c0_i32_20
  v61

def k0_cond2 (i : grid0.Coords) : BitVec 1 :=
  let arg1 : BitVec 32 := BitVec.ofNat 32 (i 1).val
  let c0_i32 : BitVec 32 := 0#32
  let v57 : BitVec 1 := Scalar.cmpi .eq arg1 c0_i32
  let arg0 : BitVec 32 := BitVec.ofNat 32 (i 0).val
  let c0_i32_19 : BitVec 32 := 0#32
  let v58 : BitVec 1 := Scalar.cmpi .eq arg0 c0_i32_19
  let v59 : BitVec 1 := Scalar.andi v57 v58
  let v_true : BitVec 1 := 1#1
  let v62 : BitVec 1 := Scalar.xori v59 v_true
  let v63 : BitVec 32 := Scalar.extui v62
  let c0_i32_21 : BitVec 32 := 0#32
  let v64 : BitVec 1 := Scalar.cmpi .ne v63 c0_i32_21
  v64

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c24_i32 : BitVec 32 := 24#32
  let v1 : BitVec 32 := Scalar.addi c24_i32 v0
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GatedNormRefIdeal.lean ====
abbrev S2x2048x5640 : Shape := ⟨3, ![2, 2048, 5640]⟩
abbrev S2x2048x4x128 : Shape := ⟨4, ![2, 2048, 4, 128]⟩
abbrev S1x128 : Shape := ⟨2, ![1, 128]⟩
abbrev S2x2048x512 : Shape := ⟨3, ![2, 2048, 512]⟩
abbrev S128 : Shape := ⟨1, ![128]⟩
abbrev S_ : Shape := ⟨0, ![]⟩
abbrev S2x2048x4 : Shape := ⟨3, ![2, 2048, 4]⟩
abbrev S2x2048x4x1 : Shape := ⟨4, ![2, 2048, 4, 1]⟩
abbrev S1x1x1x128 : Shape := ⟨4, ![1, 1, 1, 128]⟩
abbrev S4096x512 : Shape := ⟨2, ![4096, 512]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x5640, .f32⟩
  | .hbm, ⟨1, _⟩ => ⟨S2x2048x4x128, .f32⟩
  | .hbm, ⟨2, _⟩ => ⟨S1x128, .f32⟩
  | .hbm, ⟨3, _⟩ => ⟨S2x2048x512, .f32⟩
  | .hbm, ⟨4, _⟩ => ⟨S2x2048x512, .f32⟩
  | .hbm, ⟨5, _⟩ => ⟨S128, .f32⟩
  | .hbm, ⟨6, _⟩ => ⟨S2x2048x4x128, .f32⟩
  | .hbm, ⟨7, _⟩ => ⟨S_, .f32⟩
  | .hbm, ⟨8, _⟩ => ⟨S2x2048x4, .f32⟩
  | .hbm, ⟨9, _⟩ => ⟨S2x2048x4x1, .f32⟩
  | .hbm, ⟨10, _⟩ => ⟨S_, .f32⟩
  | .hbm, ⟨11, _⟩ => ⟨S2x2048x4x1, .f32⟩
  | .hbm, ⟨12, _⟩ => ⟨S2x2048x4x1, .f32⟩
  | .hbm, ⟨13, _⟩ => ⟨S_, .f32⟩
  | .hbm, ⟨14, _⟩ => ⟨S2x2048x4x1, .f32⟩
  | .hbm, ⟨15, _⟩ => ⟨S2x2048x4x1, .f32⟩
  | .hbm, ⟨16, _⟩ => ⟨S2x2048x4x1, .f32⟩
  | .hbm, ⟨17, _⟩ => ⟨S2x2048x4x1, .f32⟩
  | .hbm, ⟨18, _⟩ => ⟨S_, .f32⟩
  | .hbm, ⟨19, _⟩ => ⟨S2x2048x4x1, .f32⟩
  | .hbm, ⟨20, _⟩ => ⟨S2x2048x4x1, .f32⟩
  | .hbm, ⟨21, _⟩ => ⟨S2x2048x4x128, .f32⟩
  | .hbm, ⟨22, _⟩ => ⟨S2x2048x4x128, .f32⟩
  | .hbm, ⟨23, _⟩ => ⟨S1x1x1x128, .f32⟩
  | .hbm, ⟨24, _⟩ => ⟨S2x2048x4x128, .f32⟩
  | .hbm, ⟨25, _⟩ => ⟨S2x2048x4x128, .f32⟩
  | .hbm, ⟨26, _⟩ => ⟨S2x2048x4x128, .f32⟩
  | .hbm, ⟨27, _⟩ => ⟨S2x2048x4x128, .f32⟩
  | .hbm, ⟨28, _⟩ => ⟨S2x2048x4x128, .f32⟩
  | .hbm, ⟨29, _⟩ => ⟨S_, .f32⟩
  | .hbm, ⟨30, _⟩ => ⟨S2x2048x4x128, .f32⟩
  | .hbm, ⟨31, _⟩ => ⟨S2x2048x4x128, .f32⟩
  | .hbm, ⟨32, _⟩ => ⟨S_, .f32⟩
  | .hbm, ⟨33, _⟩ => ⟨S2x2048x4x128, .f32⟩
  | .hbm, ⟨34, _⟩ => ⟨S2x2048x4x128, .f32⟩
  | .hbm, ⟨35, _⟩ => ⟨S_, .f32⟩
  | .hbm, ⟨36, _⟩ => ⟨S2x2048x4x128, .f32⟩
  | .hbm, ⟨37, _⟩ => ⟨S2x2048x4x128, .f32⟩
  | .hbm, ⟨38, _⟩ => ⟨S2x2048x4x128, .f32⟩
  | .hbm, ⟨39, _⟩ => ⟨S2x2048x4x128, .f32⟩
  | .hbm, ⟨40, _⟩ => ⟨S2x2048x4x128, .f32⟩
  | .hbm, ⟨41, _⟩ => ⟨S2x2048x512, .f32⟩
  | .hbm, ⟨42, _⟩ => ⟨S2x2048x4x128, .f32⟩
  | .hbm, ⟨43, _⟩ => ⟨S2x2048x4x128, .f32⟩
  | .hbm, ⟨44, _⟩ => ⟨S2x2048x4x128, .f32⟩
  | .hbm, ⟨45, _⟩ => ⟨S2x2048x4x128, .f32⟩
  | .hbm, ⟨46, _⟩ => ⟨S2x2048x4x128, .f32⟩
  | .hbm, ⟨47, _⟩ => ⟨S2x2048x4x128, .f32⟩
  | .hbm, ⟨48, _⟩ => ⟨S2x2048x4x128, .f32⟩
  | .hbm, ⟨49, _⟩ => ⟨S2x2048x512, .f32⟩
  | .hbm, ⟨50, _⟩ => ⟨S2x2048x4x128, .f32⟩
  | .hbm, ⟨51, _⟩ => ⟨S_, .f32⟩
  | .hbm, ⟨52, _⟩ => ⟨S128, .f32⟩
  | .hbm, ⟨53, _⟩ => ⟨S1x1x1x128, .f32⟩
  | .hbm, ⟨54, _⟩ => ⟨S2x2048x4x128, .f32⟩
  | .hbm, ⟨55, _⟩ => ⟨S2x2048x4x128, .f32⟩
  | .hbm, ⟨56, _⟩ => ⟨S_, .f32⟩
  | .hbm, ⟨57, _⟩ => ⟨S128, .f32⟩
  | .hbm, ⟨58, _⟩ => ⟨S2x2048x4x128, .f32⟩
  | .hbm, ⟨59, _⟩ => ⟨S_, .f32⟩
  | .hbm, ⟨60, _⟩ => ⟨S2x2048x4, .f32⟩
  | .hbm, ⟨61, _⟩ => ⟨S2x2048x4x1, .f32⟩
  | .hbm, ⟨62, _⟩ => ⟨S2x2048x4x128, .f32⟩
  | .hbm, ⟨63, _⟩ => ⟨S2x2048x4x128, .f32⟩
  | .hbm, ⟨64, _⟩ => ⟨S2x2048x4x1, .f32⟩
  | .hbm, ⟨65, _⟩ => ⟨S_, .f32⟩
  | .hbm, ⟨66, _⟩ => ⟨S2x2048x4x1, .f32⟩
  | .hbm, ⟨67, _⟩ => ⟨S2x2048x4x1, .f32⟩
  | .hbm, ⟨68, _⟩ => ⟨S_, .f32⟩
  | .hbm, ⟨69, _⟩ => ⟨S2x2048x4, .f32⟩
  | .hbm, ⟨70, _⟩ => ⟨S2x2048x4x128, .f32⟩
  | .hbm, ⟨71, _⟩ => ⟨S2x2048x4x128, .f32⟩
  | .hbm, ⟨72, _⟩ => ⟨S2x2048x4x128, .f32⟩
  | .hbm, ⟨73, _⟩ => ⟨S2x2048x4x128, .f32⟩
  | .hbm, ⟨74, _⟩ => ⟨S2x2048x4x128, .f32⟩
  | .hbm, ⟨75, _⟩ => ⟨S1x128, .f32⟩
  | .hbm, ⟨76, _⟩ => ⟨S4096x512, .f32⟩
  | .hbm, ⟨77, _⟩ => ⟨S4096x512, .f32⟩
  | .hbm, ⟨78, _⟩ => ⟨S4096x512, .bf16⟩
  | _, _ => ⟨S2x2048x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== SwigluBwd.lean ====
abbrev S2x2048x5632 : Shape := ⟨3, ![2, 2048, 5632]⟩
abbrev S1x2816x1024 : Shape := ⟨3, ![1, 2816, 1024]⟩
abbrev S2x2048x1024 : Shape := ⟨3, ![2, 2048, 1024]⟩
abbrev S4096x5632 : Shape := ⟨2, ![4096, 5632]⟩
abbrev S2816x1024 : Shape := ⟨2, ![2816, 1024]⟩
abbrev S4096x1024 : Shape := ⟨2, ![4096, 1024]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x5632, .f32⟩
  | .hbm, ⟨1, _⟩ => ⟨S1x2816x1024, .f32⟩
  | .hbm, ⟨2, _⟩ => ⟨S2x2048x1024, .f32⟩
  | .hbm, ⟨3, _⟩ => ⟨S4096x5632, .f32⟩
  | .hbm, ⟨4, _⟩ => ⟨S4096x5632, .bf16⟩
  | .hbm, ⟨5, _⟩ => ⟨S2816x1024, .f32⟩
  | .hbm, ⟨6, _⟩ => ⟨S2816x1024, .bf16⟩
  | .hbm, ⟨7, _⟩ => ⟨S4096x1024, .f32⟩
  | .hbm, ⟨8, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== SwigluRefIdeal.lean ====
abbrev S2x2048x5632 : Shape := ⟨3, ![2, 2048, 5632]⟩
abbrev S1x2816x1024 : Shape := ⟨3, ![1, 2816, 1024]⟩
abbrev S2x2048x1024 : Shape := ⟨3, ![2, 2048, 1024]⟩
abbrev S2x2048x2816 : Shape := ⟨3, ![2, 2048, 2816]⟩
abbrev S_ : Shape := ⟨0, ![]⟩
abbrev S2816x1024 : Shape := ⟨2, ![2816, 1024]⟩
abbrev S4096x5632 : Shape := ⟨2, ![4096, 5632]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S1x2816x1024, .f32⟩
  | .hbm, ⟨2, _⟩ => ⟨S2x2048x1024, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S_, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S2816x1024, .f32⟩
  | .hbm, ⟨20, _⟩ => ⟨S2x2048x1024, .f32⟩
  | .hbm, ⟨21, _⟩ => ⟨S2x2048x2816, .f32⟩
  | .hbm, ⟨22, _⟩ => ⟨S2x2048x2816, .f32⟩
  | .hbm, ⟨23, _⟩ => ⟨S2x2048x2816, .f32⟩
  | .hbm, ⟨24, _⟩ => ⟨S_, .f32⟩
  | .hbm, ⟨25, _⟩ => ⟨S2x2048x5632, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x5632, .f32⟩
  | .hbm, ⟨32, _⟩ => ⟨S2x2048x5632, .f32⟩
  | .hbm, ⟨33, _⟩ => ⟨S4096x5632, .f32⟩
  | .hbm, ⟨34, _⟩ => ⟨S4096x5632, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== RmsBwd.lean ====
abbrev S2x2048x1024 : Shape := ⟨3, ![2, 2048, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S4096x1024 : Shape := ⟨2, ![4096, 1024]⟩
abbrev S4096x5632 : Shape := ⟨2, ![4096, 5632]⟩
abbrev S1024x5632 : Shape := ⟨2, ![1024, 5632]⟩
abbrev S5632x1024 : Shape := ⟨2, ![5632, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S2x2048x5632, .f32⟩
  | .hbm, ⟨4, _⟩ => ⟨S2x2048x1024, .f32⟩
  | .hbm, ⟨5, _⟩ => ⟨S4096x1024, .f32⟩
  | .hbm, ⟨6, _⟩ => ⟨S4096x1024, .f32⟩
  | .hbm, ⟨7, _⟩ => ⟨S4096x5632, .f32⟩
  | .hbm, ⟨8, _⟩ => ⟨S4096x5632, .bf16⟩
  | .hbm, ⟨9, _⟩ => ⟨S1024x5632, .f32⟩
  | .hbm, ⟨10, _⟩ => ⟨S5632x1024, .f32⟩
  | .hbm, ⟨11, _⟩ => ⟨S5632x1024, .bf16⟩
  | .hbm, ⟨12, _⟩ => ⟨S4096x1024, .f32⟩
  | .hbm, ⟨13, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_19 : BitVec 32 := 0#32
  let v47 : BitVec 1 := Scalar.cmpi .ne v46 c0_i32_19
  v47

def k0_cond2 (i : grid0.Coords) : BitVec 1 :=
  let arg0 : BitVec 32 := BitVec.ofNat 32 (i 0).val
  let c0_i32 : BitVec 32 := 0#32
  let v45 : BitVec 1 := Scalar.cmpi .eq arg0 c0_i32
  let v_true : BitVec 1 := 1#1
  let v48 : BitVec 1 := Scalar.xori v45 v_true
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== RmsRefIdeal.lean ====
abbrev S2x2048x1024 : Shape := ⟨3, ![2, 2048, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5632, .f32⟩
  | .hbm, ⟨3, _⟩ => ⟨S2x2048x5632, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x5632, .f32⟩
  | .hbm, ⟨27, _⟩ => ⟨S2x2048x5632, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S1x1024, .f32⟩
  | .hbm, ⟨56, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== HeadLoss.lean ====
abbrev S2x2048x1024 : Shape := ⟨3, ![2, 2048, 1024]⟩
abbrev S1x1024x1024 : Shape := ⟨3, ![1, 1024, 1024]⟩
abbrev S1024 : Shape := ⟨1, ![1024]⟩
abbrev S4096x1024 : Shape := ⟨2, ![4096, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩

abbrev nBuf : Space → Nat
  | .hbm => 19
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024x1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S1x1024, .f32⟩
  | .hbm, ⟨18, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v82 : BitVec 1 := Scalar.cmpi .eq arg0 c0_i32
  let v83 : BitVec 32 := Scalar.extui v82
  let c0_i32_33 : BitVec 32 := 0#32
  let v84 : BitVec 1 := Scalar.cmpi .ne v83 c0_i32_33
  v84

def k0_cond2 (i : grid0.Coords) : BitVec 1 :=
  let arg0 : BitVec 32 := BitVec.ofNat 32 (i 0).val
  let c0_i32 : BitVec 32 := 0#32
  let v82 : BitVec 1 := Scalar.cmpi .eq arg0 c0_i32
  let v_true : BitVec 1 := 1#1
  let v85 : BitVec 1 := Scalar.xori v82 v_true
  let v86 : BitVec 32 := Scalar.extui v85
  let c0_i32_34 : BitVec 32 := 0#32
  let v87 : BitVec 1 := Scalar.cmpi .ne v86 c0_i32_34
  v87

def k0_cond3 (i : grid0.Coords) : BitVec 1 :=
  let arg0 : BitVec 32 := BitVec.ofNat 32 (i 0).val
  let c0_i32 : BitVec 32 := 0#32
  let v82 : BitVec 1 := Scalar.cmpi .eq arg0 c0_i32
  let v88 : BitVec 32 := Scalar.extui v82
  let c0_i32_35 : BitVec 32 := 0#32
  let v89 : BitVec 1 := Scalar.cmpi .ne v88 c0_i32_35
  v89

def k0_cond4 (i : grid0.Coords) : BitVec 1 :=
  let arg0 : BitVec 32 := BitVec.ofNat 32 (i 0).val
  let c0_i32 : BitVec 32 := 0#32
  let v82 : BitVec 1 := Scalar.cmpi .eq arg0 c0_i32
  let true_36 : BitVec 1 := 1#1
  let v90 : BitVec 1 := Scalar.xori v82 true_36
  let v91 : BitVec 32 := Scalar.extui v90
  let c0_i32_37 : BitVec 32 := 0#32
  let v92 : BitVec 1 := Scalar.cmpi .ne v91 c0_i32_37
  v92

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true, false]
-- ==== HeadRefIdeal.lean ====
abbrev S2x2048x1024 : Shape := ⟨3, ![2, 2048, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024x1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S1024x1024, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S_, .f32⟩
  | .hbm, ⟨35, _⟩ => ⟨S2x2048x1, .f32⟩
  | .hbm, ⟨36, _⟩ => ⟨S2x2048x1, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S2x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x2048, .f32⟩
  | .hbm, ⟨60, _⟩ => ⟨S_, .f32⟩
  | .hbm, ⟨61, _⟩ => ⟨S2x2048, .f32⟩
  | .hbm, ⟨62, _⟩ => ⟨S2x2048, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S2x2048x1024, .f32⟩
  | .hbm, ⟨70, _⟩ => ⟨S2x2048x1024, .f32⟩
  | .hbm, ⟨71, _⟩ => ⟨S_, .f32⟩
  | .hbm, ⟨72, _⟩ => ⟨S1024, .f32⟩
  | .hbm, ⟨73, _⟩ => ⟨S2x2048x1024, .f32⟩
  | .hbm, ⟨74, _⟩ => ⟨S_, .f32⟩
  | .hbm, ⟨75, _⟩ => ⟨S2x2048, .f32⟩
  | .hbm, ⟨76, _⟩ => ⟨S2x2048x1, .f32⟩
  | .hbm, ⟨77, _⟩ => ⟨S2x2048x1024, .f32⟩
  | .hbm, ⟨78, _⟩ => ⟨S2x2048x1024, .f32⟩
  | .hbm, ⟨79, _⟩ => ⟨S2x2048x1, .f32⟩
  | .hbm, ⟨80, _⟩ => ⟨S_, .f32⟩
  | .hbm, ⟨81, _⟩ => ⟨S2x2048x1, .f32⟩
  | .hbm, ⟨82, _⟩ => ⟨S2x2048x1, .f32⟩
  | .hbm, ⟨83, _⟩ => ⟨S_, .f32⟩
  | .hbm, ⟨84, _⟩ => ⟨S2x2048, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S4096x1024, .f32⟩
  | .hbm, ⟨94, _⟩ => ⟨S4096x1024, .f32⟩
  | .hbm, ⟨95, _⟩ => ⟨S4096x1024, .bf16⟩
  | .hbm, ⟨96, _⟩ => ⟨S4096x1024, .f32⟩
  | .hbm, ⟨97, _⟩ => ⟨S4096x1024, .bf16⟩
  | .hbm, ⟨98, _⟩ => ⟨S1x1024, .f32⟩
  | .hbm, ⟨99, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_cst_11 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== PleBwd.lean ====
abbrev S2x2048x1024 : Shape := ⟨3, ![2, 2048, 1024]⟩
abbrev S1x1024 : Shape := ⟨2, ![1, 1024]⟩
abbrev S1x1024x1024 : Shape := ⟨3, ![1, 1024, 1024]⟩
abbrev S4096x1024 : Shape := ⟨2, ![4096, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x1024, .f32⟩
  | .hbm, ⟨3, _⟩ => ⟨S2x2048x1024, .f32⟩
  | .hbm, ⟨4, _⟩ => ⟨S2x2048x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1024x1024, .f32⟩
  | .hbm, ⟨10, _⟩ => ⟨S1024x1024, .bf16⟩
  | .hbm, ⟨11, _⟩ => ⟨S4096x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_19 : BitVec 32 := 0#32
  let v47 : BitVec 1 := Scalar.cmpi .ne v46 c0_i32_19
  v47

def k0_cond2 (i : grid0.Coords) : BitVec 1 :=
  let arg0 : BitVec 32 := BitVec.ofNat 32 (i 0).val
  let c0_i32 : BitVec 32 := 0#32
  let v45 : BitVec 1 := Scalar.cmpi .eq arg0 c0_i32
  let v_true : BitVec 1 := 1#1
  let v48 : BitVec 1 := Scalar.xori v45 v_true
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== PleRefIdeal.lean ====
abbrev S2x2048x1024 : Shape := ⟨3, ![2, 2048, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x1024 : Shape := ⟨2, ![1024, 1024]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x1024, .f32⟩
  | .hbm, ⟨3, _⟩ => ⟨S2x2048x1024, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S1x1024, .f32⟩
  | .hbm, ⟨56, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== MixBwd.lean ====
abbrev S2x2048x1024 : Shape := ⟨3, ![2, 2048, 1024]⟩
abbrev S1x1024 : Shape := ⟨2, ![1, 1024]⟩
abbrev S1x1024x5640 : Shape := ⟨3, ![1, 1024, 5640]⟩
abbrev S2x2048x5640 : Shape := ⟨3, ![2, 2048, 5640]⟩
abbrev S4096x1024 : Shape := ⟨2, ![4096, 1024]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S4096x5760 : Shape := ⟨2, ![4096, 5760]⟩
abbrev S1024x5640 : Shape := ⟨2, ![1024, 5640]⟩
abbrev S5640x1024 : Shape := ⟨2, ![5640, 1024]⟩
abbrev S5760x1024 : Shape := ⟨2, ![5760, 1024]⟩
abbrev S5632x1024 : Shape := ⟨2, ![5632, 1024]⟩
abbrev S3592x1024 : Shape := ⟨2, ![3592, 1024]⟩
abbrev S256x5760 : Shape := ⟨2, ![256, 5760]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 74
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5640, .f32⟩
  | .hbm, ⟨3, _⟩ => ⟨S2x2048x5640, .f32⟩
  | .hbm, ⟨4, _⟩ => ⟨S2x2048x1024, .f32⟩
  | .hbm, ⟨5, _⟩ => ⟨S4096x1024, .f32⟩
  | .hbm, ⟨6, _⟩ => ⟨S4096x1024, .f32⟩
  | .hbm, ⟨7, _⟩ => ⟨S4096x5640, .f32⟩
  | .hbm, ⟨8, _⟩ => ⟨S5640x4096, .f32⟩
  | .hbm, ⟨9, _⟩ => ⟨S5760x1, .i32⟩
  | .hbm, ⟨10, _⟩ => ⟨S_, .i32⟩
  | .hbm, ⟨11, _⟩ => ⟨S_, .f32⟩
  | .hbm, ⟨12, _⟩ => ⟨S5760x4096, .f32⟩
  | .hbm, ⟨13, _⟩ => ⟨S5632x4096, .f32⟩
  | .hbm, ⟨14, _⟩ => ⟨S_, .i32⟩
  | .hbm, ⟨15, _⟩ => ⟨S_, .f32⟩
  | .hbm, ⟨16, _⟩ => ⟨S5760x4096, .f32⟩
  | .hbm, ⟨17, _⟩ => ⟨S3592x4096, .f32⟩
  | .hbm, ⟨18, _⟩ => ⟨S_, .i32⟩
  | .hbm, ⟨19, _⟩ => ⟨S_, .f32⟩
  | .hbm, ⟨20, _⟩ => ⟨S5760x4096, .f32⟩
  | .hbm, ⟨21, _⟩ => ⟨S_, .i32⟩
  | .hbm, ⟨22, _⟩ => ⟨S5760x1, .i32⟩
  | .hbm, ⟨23, _⟩ => ⟨S5760x1, .i1⟩
  | .hbm, ⟨24, _⟩ => ⟨S_, .i32⟩
  | .hbm, ⟨25, _⟩ => ⟨S5760x1, .i32⟩
  | .hbm, ⟨26, _⟩ => ⟨S5760x1, .i1⟩
  | .hbm, ⟨27, _⟩ => ⟨S_, .i32⟩
  | .hbm, ⟨28, _⟩ => ⟨S5760x1, .i32⟩
  | .hbm, ⟨29, _⟩ => ⟨S5760x1, .i1⟩
  | .hbm, ⟨30, _⟩ => ⟨S_, .f32⟩
  | .hbm, ⟨31, _⟩ => ⟨S5760x4096, .i1⟩
  | .hbm, ⟨32, _⟩ => ⟨S5760x4096, .f32⟩
  | .hbm, ⟨33, _⟩ => ⟨S5760x4096, .f32⟩
  | .hbm, ⟨34, _⟩ => ⟨S5760x4096, .i1⟩
  | .hbm, ⟨35, _⟩ => ⟨S5760x4096, .f32⟩
  | .hbm, ⟨36, _⟩ => ⟨S5760x4096, .i1⟩
  | .hbm, ⟨37, _⟩ => ⟨S5760x4096, .f32⟩
  | .hbm, ⟨38, _⟩ => ⟨S4096x5760, .f32⟩
  | .hbm, ⟨39, _⟩ => ⟨S4096x5760, .bf16⟩
  | .hbm, ⟨40, _⟩ => ⟨S1024x5640, .f32⟩
  | .hbm, ⟨41, _⟩ => ⟨S5640x1024, .f32⟩
  | .hbm, ⟨42, _⟩ => ⟨S5760x1, .i32⟩
  | .hbm, ⟨43, _⟩ => ⟨S_, .i32⟩
  | .hbm, ⟨44, _⟩ => ⟨S_, .f32⟩
  | .hbm, ⟨45, _⟩ => ⟨S5760x1024, .f32⟩
  | .hbm, ⟨46, _⟩ => ⟨S5632x1024, .f32⟩
  | .hbm, ⟨47, _⟩ => ⟨S_, .i32⟩
  | .hbm, ⟨48, _⟩ => ⟨S_, .f32⟩
  | .hbm, ⟨49, _⟩ => ⟨S5760x1024, .f32⟩
  | .hbm, ⟨50, _⟩ => ⟨S3592x1024, .f32⟩
  | .hbm, ⟨51, _⟩ => ⟨S_, .i32⟩
  | .hbm, ⟨52, _⟩ => ⟨S_, .f32⟩
  | .hbm, ⟨53, _⟩ => ⟨S5760x1024, .f32⟩
  | .hbm, ⟨54, _⟩ => ⟨S_, .i32⟩
  | .hbm, ⟨55, _⟩ => ⟨S5760x1, .i32⟩
  | .hbm, ⟨56, _⟩ => ⟨S5760x1, .i1⟩
  | .hbm, ⟨57, _⟩ => ⟨S_, .i32⟩
  | .hbm, ⟨58, _⟩ => ⟨S5760x1, .i32⟩
  | .hbm, ⟨59, _⟩ => ⟨S5760x1, .i1⟩
  | .hbm, ⟨60, _⟩ => ⟨S_, .i32⟩
  | .hbm, ⟨61, _⟩ => ⟨S5760x1, .i32⟩
  | .hbm, ⟨62, _⟩ => ⟨S5760x1, .i1⟩
  | .hbm, ⟨63, _⟩ => ⟨S_, .f32⟩
  | .hbm, ⟨64, _⟩ => ⟨S5760x1024, .i1⟩
  | .hbm, ⟨65, _⟩ => ⟨S5760x1024, .f32⟩
  | .hbm, ⟨66, _⟩ => ⟨S5760x1024, .f32⟩
  | .hbm, ⟨67, _⟩ => ⟨S5760x1024, .i1⟩
  | .hbm, ⟨68, _⟩ => ⟨S5760x1024, .f32⟩
  | .hbm, ⟨69, _⟩ => ⟨S5760x1024, .i1⟩
  | .hbm, ⟨70, _⟩ => ⟨S5760x1024, .f32⟩
  | .hbm, ⟨71, _⟩ => ⟨S5760x1024, .bf16⟩
  | .hbm, ⟨72, _⟩ => ⟨S4096x1024, .f32⟩
  | .hbm, ⟨73, _⟩ => ⟨S1x1024, .f32⟩
  | .local _ .vmem, ⟨0, _⟩ => ⟨S256x5760, .bf16⟩
  | .local _ .vmem, ⟨1, _⟩ => ⟨S256x5760, .bf16⟩
  | .local _ .vmem, ⟨2, _⟩ => ⟨S5760x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_call3_v0 : Ref sig .tc := ⟨.hbm, 31, rfl⟩
abbrev main_call3_v1 : Ref sig .tc := ⟨.hbm, 32, rfl⟩
abbrev main_v16 : Ref sig .tc := ⟨.hbm, 33, rfl⟩
abbrev main_call4_v0 : Ref sig .tc := ⟨.hbm, 34, rfl⟩
abbrev main_v17 : Ref sig .tc := ⟨.hbm, 35, rfl⟩
abbrev main_call5_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_call6_v0 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_call7_v0 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_call8_v0 : Ref sig .tc := ⟨.hbm, 52, rfl⟩
abbrev main_v28 : Ref sig .tc := ⟨.hbm, 53, rfl⟩
abbrev main_c_8 : Ref sig .tc := ⟨.hbm, 54, rfl⟩
abbrev main_v29 : Ref sig .tc := ⟨.hbm, 55, rfl⟩
abbrev main_v30 : Ref sig .tc := ⟨.hbm, 56, rfl⟩
abbrev main_c_9 : Ref sig .tc := ⟨.hbm, 57, rfl⟩
abbrev main_v31 : Ref sig .tc := ⟨.hbm, 58, rfl⟩
abbrev main_v32 : Ref sig .tc := ⟨.hbm, 59, rfl⟩
abbrev main_c_10 : Ref sig .tc := ⟨.hbm, 60, rfl⟩
abbrev main_v33 : Ref sig .tc := ⟨.hbm, 61, rfl⟩
abbrev main_v34 : Ref sig .tc := ⟨.hbm, 62, rfl⟩
abbrev main_cst_11 : Ref sig .tc := ⟨.hbm, 63, rfl⟩
abbrev main_call9_v0 : Ref sig .tc := ⟨.hbm, 64, rfl⟩
abbrev main_call9_v1 : Ref sig .tc := ⟨.hbm, 65, rfl⟩
abbrev main_v35 : Ref sig .tc := ⟨.hbm, 66, rfl⟩
abbrev main_call10_v0 : Ref sig .tc := ⟨.hbm, 67, rfl⟩
abbrev main_v36 : Ref sig .tc := ⟨.hbm, 68, rfl⟩
abbrev main_call11_v0 : Ref sig .tc := ⟨.hbm, 69, rfl⟩
abbrev main_v37 : Ref sig .tc := ⟨.hbm, 70, rfl⟩
abbrev main_v38 : Ref sig .tc := ⟨.hbm, 71, rfl⟩
abbrev main_v39_0 : Ref sig .tc := ⟨.hbm, 72, rfl⟩
abbrev main_v39_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_19 : BitVec 32 := 0#32
  let v47 : BitVec 1 := Scalar.cmpi .ne v46 c0_i32_19
  v47

def k0_cond2 (i : grid0.Coords) : BitVec 1 :=
  let arg0 : BitVec 32 := BitVec.ofNat 32 (i 0).val
  let c0_i32 : BitVec 32 := 0#32
  let v45 : BitVec 1 := Scalar.cmpi .eq arg0 c0_i32
  let v_true : BitVec 1 := 1#1
  let v48 : BitVec 1 := Scalar.xori v45 v_true
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S256x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5760x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== MixRefIdeal.lean ====
abbrev S2x2048x1024 : Shape := ⟨3, ![2, 2048, 1024]⟩
abbrev S1x1024 : Shape := ⟨2, ![1, 1024]⟩
abbrev S1x1024x5640 : Shape := ⟨3, ![1, 1024, 5640]⟩
abbrev S2x2048x5640 : Shape := ⟨3, ![2, 2048, 5640]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5640 : Shape := ⟨2, ![1024, 5640]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x5640, .f32⟩
  | .hbm, ⟨3, _⟩ => ⟨S2x2048x5640, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S1024x5640, .f32⟩
  | .hbm, ⟨27, _⟩ => ⟨S2x2048x5640, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S1x1024, .f32⟩
  | .hbm, ⟨56, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== AttnFwd.lean ====
abbrev S2x2048x5640 : Shape := ⟨3, ![2, 2048, 5640]⟩
abbrev S1x8x257 : Shape := ⟨3, ![1, 8, 257]⟩
abbrev S8x257 : Shape := ⟨2, ![8, 257]⟩
abbrev S8x1 : Shape := ⟨2, ![8, 1]⟩
abbrev S8x447 : Shape := ⟨2, ![8, 447]⟩
abbrev S8x192 : Shape := ⟨2, ![8, 192]⟩
abbrev S8x639 : Shape := ⟨2, ![8, 639]⟩
abbrev S8x576 : Shape := ⟨2, ![8, 576]⟩
abbrev S8x63 : Shape := ⟨2, ![8, 63]⟩
abbrev S1x8x1x639 : Shape := ⟨4, ![1, 8, 1, 639]⟩
abbrev S1x8x64x639 : Shape := ⟨4, ![1, 8, 64, 639]⟩
abbrev S8x40896 : Shape := ⟨2, ![8, 40896]⟩
abbrev S8x40832 : Shape := ⟨2, ![8, 40832]⟩
abbrev S8x64x638 : Shape := ⟨3, ![8, 64, 638]⟩
abbrev S8x64x576 : Shape := ⟨3, ![8, 64, 576]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S4096x5760 : Shape := ⟨2, ![4096, 5760]⟩
abbrev S4096x512 : Shape := ⟨2, ![4096, 512]⟩
abbrev S2048x128 : Shape := ⟨2, ![2048, 128]⟩
abbrev S2x64x576 : Shape := ⟨3, ![2, 64, 576]⟩
abbrev S2560x128 : Shape := ⟨2, ![2560, 128]⟩
abbrev S512x128 : Shape := ⟨2, ![512, 128]⟩
abbrev S64x576 : Shape := ⟨2, ![64, 576]⟩
abbrev S1x128 : Shape := ⟨2, ![1, 128]⟩
abbrev S64x128 : Shape := ⟨2, ![64, 128]⟩
abbrev S576x128 : Shape := ⟨2, ![576, 128]⟩
abbrev S1x64x576 : Shape := ⟨3, ![1, 64, 576]⟩
abbrev S64 : Shape := ⟨1, ![64]⟩
abbrev S64x1 : Shape := ⟨2, ![64, 1]⟩

abbrev nBuf : Space → Nat
  | .hbm => 52
  | .vmem => 12
  | .smem => 0
  | _ => 0

abbrev bufTy : (tb : Table) → Fin (tcTables nBuf tb) → BufTy
  | .hbm, ⟨0, _⟩ => ⟨S2x2048x5640, .f32⟩
  | .hbm, ⟨1, _⟩ => ⟨S1x8x257, .f32⟩
  | .hbm, ⟨2, _⟩ => ⟨S8x257, .f32⟩
  | .hbm, ⟨3, _⟩ => ⟨S8x1, .f32⟩
  | .hbm, ⟨4, _⟩ => ⟨S8x447, .f32⟩
  | .hbm, ⟨5, _⟩ => ⟨S8x192, .f32⟩
  | .hbm, ⟨6, _⟩ => ⟨S8x639, .f32⟩
  | .hbm, ⟨7, _⟩ => ⟨S8x576, .f32⟩
  | .hbm, ⟨8, _⟩ => ⟨S8x576, .f32⟩
  | .hbm, ⟨9, _⟩ => ⟨S8x63, .f32⟩
  | .hbm, ⟨10, _⟩ => ⟨S8x63, .f32⟩
  | .hbm, ⟨11, _⟩ => ⟨S8x639, .f32⟩
  | .hbm, ⟨12, _⟩ => ⟨S1x8x1x639, .f32⟩
  | .hbm, ⟨13, _⟩ => ⟨S1x8x64x639, .f32⟩
  | .hbm, ⟨14, _⟩ => ⟨S8x40896, .f32⟩
  | .hbm, ⟨15, _⟩ => ⟨S8x40832, .f32⟩
  | .hbm, ⟨16, _⟩ => ⟨S8x64x638, .f32⟩
  | .hbm, ⟨17, _⟩ => ⟨S8x64x576, .f32⟩
  | .hbm, ⟨18, _⟩ => ⟨S4096x5640, .f32⟩
  | .hbm, ⟨19, _⟩ => ⟨S5640x4096, .f32⟩
  | .hbm, ⟨20, _⟩ => ⟨S5760x1, .i32⟩
  | .hbm, ⟨21, _⟩ => ⟨S_, .i32⟩
  | .hbm, ⟨22, _⟩ => ⟨S_, .f32⟩
  | .hbm, ⟨23, _⟩ => ⟨S5760x4096, .f32⟩
  | .hbm, ⟨24, _⟩ => ⟨S5632x4096, .f32⟩
  | .hbm, ⟨25, _⟩ => ⟨S_, .i32⟩
  | .hbm, ⟨26, _⟩ => ⟨S_, .f32⟩
  | .hbm, ⟨27, _⟩ => ⟨S5760x4096, .f32⟩
  | .hbm, ⟨28, _⟩ => ⟨S3592x4096, .f32⟩
  | .hbm, ⟨29, _⟩ => ⟨S_, .i32⟩
  | .hbm, ⟨30, _⟩ => ⟨S_, .f32⟩
  | .hbm, ⟨31, _⟩ => ⟨S5760x4096, .f32⟩
  | .hbm, ⟨32, _⟩ => ⟨S_, .i32⟩
  | .hbm, ⟨33, _⟩ => ⟨S5760x1, .i32⟩
  | .hbm, ⟨34, _⟩ => ⟨S5760x1, .i1⟩
  | .hbm, ⟨35, _⟩ => ⟨S_, .i32⟩
  | .hbm, ⟨36, _⟩ => ⟨S5760x1, .i32⟩
  | .hbm, ⟨37, _⟩ => ⟨S5760x1, .i1⟩
  | .hbm, ⟨38, _⟩ => ⟨S_, .i32⟩
  | .hbm, ⟨39, _⟩ => ⟨S5760x1, .i32⟩
  | .hbm, ⟨40, _⟩ => ⟨S5760x1, .i1⟩
  | .hbm, ⟨41, _⟩ => ⟨S_, .f32⟩
  | .hbm, ⟨42, _⟩ => ⟨S5760x4096, .i1⟩
  | .hbm, ⟨43, _⟩ => ⟨S5760x4096, .f32⟩
  | .hbm, ⟨44, _⟩ => ⟨S5760x4096, .f32⟩
  | .hbm, ⟨45, _⟩ => ⟨S5760x4096, .i1⟩
  | .hbm, ⟨46, _⟩ => ⟨S5760x4096, .f32⟩
  | .hbm, ⟨47, _⟩ => ⟨S5760x4096, .i1⟩
  | .hbm, ⟨48, _⟩ => ⟨S5760x4096, .f32⟩
  | .hbm, ⟨49, _⟩ => ⟨S4096x5760, .f32⟩
  | .hbm, ⟨50, _⟩ => ⟨S4096x5760, .bf16⟩
  | .hbm, ⟨51, _⟩ => ⟨S4096x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x64x576, .f32⟩
  | .local _ .vmem, ⟨7, _⟩ => ⟨S2x64x576, .f32⟩
  | .local _ .vmem, ⟨8, _⟩ => ⟨S2048x128, .bf16⟩
  | .local _ .vmem, ⟨9, _⟩ => ⟨S2048x128, .bf16⟩
  | .local _ .vmem, ⟨10, _⟩ => ⟨S2560x128, .f32⟩
  | .local _ .vmem, ⟨11, _⟩ => ⟨S2560x128, .f32⟩
  | _, _ => ⟨S2x2048x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_call0_v0 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_call1_v0 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_call2_v0 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_call3_v0 : Ref sig .tc := ⟨.hbm, 42, rfl⟩
abbrev main_call3_v1 : Ref sig .tc := ⟨.hbm, 43, rfl⟩
abbrev main_v30 : Ref sig .tc := ⟨.hbm, 44, rfl⟩
abbrev main_call4_v0 : Ref sig .tc := ⟨.hbm, 45, rfl⟩
abbrev main_v31 : Ref sig .tc := ⟨.hbm, 46, rfl⟩
abbrev main_call5_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_mult1 : BitVec 32 :=
  let c0_i32 : BitVec 32 := 0#32
  let c8_i32 : BitVec 32 := 8#32
  let v26 : BitVec 32 := Scalar.muli c0_i32 c8_i32
  let c0_i32_14 : BitVec 32 := 0#32
  let v27 : BitVec 32 := Scalar.addi v26 c0_i32_14
  let c64_i32_15 : BitVec 32 := 64#32
  let v28 : BitVec 32 := Scalar.muli v27 c64_i32_15
  v28
def k0_mult2 : BitVec 32 :=
  let c0_i32 : BitVec 32 := 0#32
  let c8_i32_16 : BitVec 32 := 8#32
  let v30 : BitVec 32 := Scalar.muli c0_i32 c8_i32_16
  let c1_i32 : BitVec 32 := 1#32
  let v31 : BitVec 32 := Scalar.addi v30 c1_i32
  let c64_i32_17 : BitVec 32 := 64#32
  let v32 : BitVec 32 := Scalar.muli v31 c64_i32_17
  v32
def k0_mult3 : BitVec 32 :=
  let c0_i32 : BitVec 32 := 0#32
  let c8_i32_18 : BitVec 32 := 8#32
  let v34 : BitVec 32 := Scalar.muli c0_i32 c8_i32_18
  let c2_i32 : BitVec 32 := 2#32
  let v35 : BitVec 32 := Scalar.addi v34 c2_i32
  let c64_i32_19 : BitVec 32 := 64#32
  let v36 : BitVec 32 := Scalar.muli v35 c64_i32_19
  v36
def k0_mult4 : BitVec 32 :=
  let c0_i32 : BitVec 32 := 0#32
  let c8_i32_20 : BitVec 32 := 8#32
  let v38 : BitVec 32 := Scalar.muli c0_i32 c8_i32_20
  let c3_i32 : BitVec 32 := 3#32
  let v39 : BitVec 32 := Scalar.addi v38 c3_i32
  let c64_i32_21 : BitVec 32 := 64#32
  let v40 : BitVec 32 := Scalar.muli v39 c64_i32_21
  v40
def k0_mult5 : BitVec 32 :=
  let c0_i32 : BitVec 32 := 0#32
  let c8_i32_22 : BitVec 32 := 8#32
  let v42 : BitVec 32 := Scalar.muli c0_i32 c8_i32_22
  let c4_i32 : BitVec 32 := 4#32
  let v43 : BitVec 32 := Scalar.addi v42 c4_i32
  let c64_i32_23 : BitVec 32 := 64#32
  let v44 : BitVec 32 := Scalar.muli v43 c64_i32_23
  v44
def k0_mult6 : BitVec 32 :=
  let c0_i32 : BitVec 32 := 0#32
  let c8_i32_24 : BitVec 32 := 8#32
  let v46 : BitVec 32 := Scalar.muli c0_i32 c8_i32_24
  let c5_i32 : BitVec 32 := 5#32
  let v47 : BitVec 32 := Scalar.addi v46 c5_i32
  let c64_i32_25 : BitVec 32 := 64#32
  let v48 : BitVec 32 := Scalar.muli v47 c64_i32_25
  v48
def k0_mult7 : BitVec 32 :=
  let c0_i32 : BitVec 32 := 0#32
  let c8_i32_26 : BitVec 32 := 8#32
  let v50 : BitVec 32 := Scalar.muli c0_i32 c8_i32_26
  let c6_i32 : BitVec 32 := 6#32
  let v51 : BitVec 32 := Scalar.addi v50 c6_i32
  let c64_i32_27 : BitVec 32 := 64#32
  let v52 : BitVec 32 := Scalar.muli v51 c64_i32_27
  v52
def k0_mult8 : BitVec 32 :=
  let c0_i32 : BitVec 32 := 0#32
  let c8_i32_28 : BitVec 32 := 8#32
  let v54 : BitVec 32 := Scalar.muli c0_i32 c8_i32_28
  let c7_i32 : BitVec 32 := 7#32
  let v55 : BitVec 32 := Scalar.addi v54 c7_i32
  let c64_i32_29 : BitVec 32 := 64#32
  let v56 : BitVec 32 := Scalar.muli v55 c64_i32_29
  v56
def k0_off1 (c0_i32_14 : BitVec 32) : Fin 2 → Nat :=
  let c0_i32 : BitVec 32 := 0#32
  let c8_i32 : BitVec 32 := 8#32
  let v26 : BitVec 32 := Scalar.muli c0_i32 c8_i32
  let v27 : BitVec 32 := Scalar.addi v26 c0_i32_14
  let c64_i32_15 : BitVec 32 := 64#32
  let v28 : BitVec 32 := Scalar.muli v27 c64_i32_15
  let v29 : BitVec 32 := v28
  let v90 : Index := Scalar.indexCast v29
  let c0_37 : Index := 0#32
  ![v90.toNat, 0]
def k0_off2 (c0_i32_14 : BitVec 32) : Fin 2 → Nat :=
  let c0_i32 : BitVec 32 := 0#32
  let c8_i32 : BitVec 32 := 8#32
  let v26 : BitVec 32 := Scalar.muli c0_i32 c8_i32
  let v27 : BitVec 32 := Scalar.addi v26 c0_i32_14
  let c64_i32_15 : BitVec 32 := 64#32
  let v28 : BitVec 32 := Scalar.muli v27 c64_i32_15
  let v29 : BitVec 32 := v28
  let v122 : Index := Scalar.indexCast v29
  let c0_45 : Index := 0#32
  ![v122.toNat, 0]
@[reducible] def k0_t1_loop : Scf.Loop 32 :=
  let c1_i32_215 : BitVec 32 := 1#32
  let c3_i32_216 : BitVec 32 := 3#32
  let v683 : BitVec 32 := Scalar.addi c1_i32_215 c3_i32_216
  let c1_i32_217 : BitVec 32 := 1#32
  ⟨c1_i32_215, v683, c1_i32_217⟩
def k0_mult9 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_220 : BitVec 32 := 8#32
  let v687 : BitVec 32 := Scalar.muli arg9 c8_i32_220
  let c0_i32_221 : BitVec 32 := 0#32
  let v688 : BitVec 32 := Scalar.addi v687 c0_i32_221
  let c64_i32_222 : BitVec 32 := 64#32
  let v689 : BitVec 32 := Scalar.muli v688 c64_i32_222
  v689
def k0_mult10 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_223 : BitVec 32 := 8#32
  let v691 : BitVec 32 := Scalar.muli arg9 c8_i32_223
  let c1_i32_224 : BitVec 32 := 1#32
  let v692 : BitVec 32 := Scalar.addi v691 c1_i32_224
  let c64_i32_225 : BitVec 32 := 64#32
  let v693 : BitVec 32 := Scalar.muli v692 c64_i32_225
  v693
def k0_mult11 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_226 : BitVec 32 := 8#32
  let v695 : BitVec 32 := Scalar.muli arg9 c8_i32_226
  let c2_i32_227 : BitVec 32 := 2#32
  let v696 : BitVec 32 := Scalar.addi v695 c2_i32_227
  let c64_i32_228 : BitVec 32 := 64#32
  let v697 : BitVec 32 := Scalar.muli v696 c64_i32_228
  v697
def k0_mult12 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_229 : BitVec 32 := 8#32
  let v699 : BitVec 32 := Scalar.muli arg9 c8_i32_229
  let c3_i32_230 : BitVec 32 := 3#32
  let v700 : BitVec 32 := Scalar.addi v699 c3_i32_230
  let c64_i32_231 : BitVec 32 := 64#32
  let v701 : BitVec 32 := Scalar.muli v700 c64_i32_231
  v701
def k0_mult13 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_232 : BitVec 32 := 8#32
  let v703 : BitVec 32 := Scalar.muli arg9 c8_i32_232
  let c4_i32_233 : BitVec 32 := 4#32
  let v704 : BitVec 32 := Scalar.addi v703 c4_i32_233
  let c64_i32_234 : BitVec 32 := 64#32
  let v705 : BitVec 32 := Scalar.muli v704 c64_i32_234
  v705
def k0_mult14 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_235 : BitVec 32 := 8#32
  let v707 : BitVec 32 := Scalar.muli arg9 c8_i32_235
  let c5_i32_236 : BitVec 32 := 5#32
  let v708 : BitVec 32 := Scalar.addi v707 c5_i32_236
  let c64_i32_237 : BitVec 32 := 64#32
  let v709 : BitVec 32 := Scalar.muli v708 c64_i32_237
  v709
def k0_mult15 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_238 : BitVec 32 := 8#32
  let v711 : BitVec 32 := Scalar.muli arg9 c8_i32_238
  let c6_i32_239 : BitVec 32 := 6#32
  let v712 : BitVec 32 := Scalar.addi v711 c6_i32_239
  let c64_i32_240 : BitVec 32 := 64#32
  let v713 : BitVec 32 := Scalar.muli v712 c64_i32_240
  v713
def k0_mult16 (k0_t1 : Fin k0_t1_loop.trips) : BitVec 32 :=
  let c1_i32_215 : BitVec 32 := 1#32
  let c1_i32_217 : BitVec 32 := 1#32
  let arg9 : BitVec 32 := Scf.iv c1_i32_215 c1_i32_217 k0_t1
  let c8_i32_241 : BitVec 32 := 8#32
  let v715 : BitVec 32 := Scalar.muli arg9 c8_i32_241
  let c7_i32_242 : BitVec 32 := 7#32
  let v716 : BitVec 32 := Scalar.addi v715 c7_i32_242
  let c64_i32_243 : BitVec 32 := 64#32
  let v717 : BitVec 32 := Scalar.muli v716 c64_i32_243
  v717
def k0_off3 (k0_t1 : Fin k0_t1_loop.trips) (c0_i32_221 : BitVec 32) : Fin 2 → Nat :=
  let c1_i32_215 : BitVec 32 := 1#32
  let c1_i32_217 : BitVec 32 := 1#32
  let arg9 : BitVec 32 := Scf.iv c1_i32_215 c1_i32_217 k0_t1
  let c8_i32_220 : BitVec 32 := 8#32
  let v687 : BitVec 32 := Scalar.muli arg9 c8_i32_220
  let v688 : BitVec 32 := Scalar.addi v687 c0_i32_221
  let c64_i32_222 : BitVec 32 := 64#32
  let v689 : BitVec 32 := Scalar.muli v688 c64_i32_222
  let v690 : BitVec 32 := v689
  let v719 : Index := Scalar.indexCast v690
  let c0_244 : Index := 0#32
  ![v719.toNat, 0]
def k0_off4 (k0_t1 : Fin k0_t1_loop.trips) (c0_i32_221 : BitVec 32) : Fin 2 → Nat :=
  let c1_i32_215 : BitVec 32 := 1#32
  let c1_i32_217 : BitVec 32 := 1#32
  let arg9 : BitVec 32 := Scf.iv c1_i32_215 c1_i32_217 k0_t1
  let c8_i32_220 : BitVec 32 := 8#32
  let v687 : BitVec 32 := Scalar.muli arg9 c8_i32_220
  let v688 : BitVec 32 := Scalar.addi v687 c0_i32_221
  let c64_i32_222 : BitVec 32 := 64#32
  let v689 : BitVec 32 := Scalar.muli v688 c64_i32_222
  let v690 : BitVec 32 := v689
  let v751 : Index := Scalar.indexCast v690
  let c0_252 : Index := 0#32
  ![v751.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFRefIdeal.lean ====
abbrev S2x2048x5640 : Shape := ⟨3, ![2, 2048, 5640]⟩
abbrev S1x8x257 : Shape := ⟨3, ![1, 8, 257]⟩
abbrev S64 : Shape := ⟨1, ![64]⟩
abbrev S576 : Shape := ⟨1, ![576]⟩
abbrev S64x1 : Shape := ⟨2, ![64, 1]⟩
abbrev S_ : Shape := ⟨0, ![]⟩
abbrev S1x576 : Shape := ⟨2, ![1, 576]⟩
abbrev S64x576 : Shape := ⟨2, ![64, 576]⟩
abbrev S8x257 : Shape := ⟨2, ![8, 257]⟩
abbrev S64x576x1 : Shape := ⟨3, ![64, 576, 1]⟩
abbrev S8x64x576 : Shape := ⟨3, ![8, 64, 576]⟩
abbrev S2x2048x512 : Shape := ⟨3, ![2, 2048, 512]⟩
abbrev S2x2048x8x64 : Shape := ⟨4, ![2, 2048, 8, 64]⟩
abbrev S2x32x64x8x64 : Shape := ⟨5, ![2, 32, 64, 8, 64]⟩
abbrev S2x8x64x8x64 : Shape := ⟨5, ![2, 8, 64, 8, 64]⟩
abbrev S2x40x64x8x64 : Shape := ⟨5, ![2, 40, 64, 8, 64]⟩
abbrev S2x32x1x64x8x64 : Shape := ⟨6, ![2, 32, 1, 64, 8, 64]⟩
abbrev S2x32x9x64x8x64 : Shape := ⟨6, ![2, 32, 9, 64, 8, 64]⟩
abbrev S2x32x576x8x64 : Shape := ⟨5, ![2, 32, 576, 8, 64]⟩
abbrev S2x8x32x64x576 : Shape := ⟨5, ![2, 8, 32, 64, 576]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x64 : Shape := ⟨3, ![32, 9, 64]⟩
abbrev S32x576 : Shape := ⟨2, ![32, 576]⟩
abbrev S1x1x32x1x576 : Shape := ⟨5, ![1, 1, 32, 1, 576]⟩
abbrev S1x8x1x64x576 : Shape := ⟨5, ![1, 8, 1, 64, 576]⟩
abbrev S2x8x32x64 : Shape := ⟨4, ![2, 8, 32, 64]⟩
abbrev S2x8x32x64x1 : Shape := ⟨5, ![2, 8, 32, 64, 1]⟩
abbrev S2x32x8x64x64 : Shape := ⟨5, ![2, 32, 8, 64, 64]⟩
abbrev S4096x512 : Shape := ⟨2, ![4096, 512]⟩

abbrev nBuf : Space → Nat
  | .hbm => 130
  | .vmem => 0
  | .smem => 0
  | _ => 0

abbrev hbmTy0_0 (i : Nat) : BufTy := match i % 128 with
  | 0 => ⟨S2x2048x5640, .f32⟩
  | 1 => ⟨S1x8x257, .f32⟩
  | 2 => ⟨S64, .i32⟩
  | 3 => ⟨S576, .i32⟩
  | 4 => ⟨S64x1, .i32⟩
  | 5 => ⟨S_, .i32⟩
  | 6 => ⟨S64x1, .i32⟩
  | 7 => ⟨S64x1, .i32⟩
  | 8 => ⟨S1x576, .i32⟩
  | 9 => ⟨S64x576, .i32⟩
  | 10 => ⟨S64x576, .i32⟩
  | 11 => ⟨S64x576, .i32⟩
  | 12 => ⟨S_, .i32⟩
  | 13 => ⟨S_, .i32⟩
  | 14 => ⟨S_, .i32⟩
  | 15 => ⟨S64x576, .i32⟩
  | 16 => ⟨S64x576, .i32⟩
  | 17 => ⟨S_, .i32⟩
  | 18 => ⟨S64x576, .i32⟩
  | 19 => ⟨S64x576, .i32⟩
  | 20 => ⟨S_, .i32⟩
  | 21 => ⟨S64x576, .i32⟩
  | 22 => ⟨S64x576, .i32⟩
  | 23 => ⟨S8x257, .f32⟩
  | 24 => ⟨S_, .i32⟩
  | 25 => ⟨S64x576, .i32⟩
  | 26 => ⟨S64x576, .i1⟩
  | 27 => ⟨S_, .i32⟩
  | 28 => ⟨S64x576, .i32⟩
  | 29 => ⟨S64x576, .i32⟩
  | 30 => ⟨S64x576, .i32⟩
  | 31 => ⟨S64x576x1, .i32⟩
  | 32 => ⟨S8x64x576, .f32⟩
  | 33 => ⟨S2x2048x512, .f32⟩
  | 34 => ⟨S2x2048x8x64, .f32⟩
  | 35 => ⟨S2x2048x512, .f32⟩
  | 36 => ⟨S2x2048x8x64, .f32⟩
  | 37 => ⟨S2x2048x512, .f32⟩
  | 38 => ⟨S2x2048x8x64, .f32⟩
  | 39 => ⟨S2x32x64x8x64, .f32⟩
  | 40 => ⟨S_, .f32⟩
  | 41 => ⟨S2x32x64x8x64, .f32⟩
  | 42 => ⟨S2x32x64x8x64, .f32⟩
  | 43 => ⟨S_, .f32⟩
  | 44 => ⟨S2x8x64x8x64, .f32⟩
  | 45 => ⟨S2x32x64x8x64, .f32⟩
  | 46 => ⟨S2x40x64x8x64, .f32⟩
  | 47 => ⟨S2x32x64x8x64, .f32⟩
  | 48 => ⟨S2x32x64x8x64, .f32⟩
  | 49 => ⟨S2x32x64x8x64, .f32⟩
  | 50 => ⟨S2x32x64x8x64, .f32⟩
  | 51 => ⟨S2x32x64x8x64, .f32⟩
  | 52 => ⟨S2x32x64x8x64, .f32⟩
  | 53 => ⟨S2x32x64x8x64, .f32⟩
  | 54 => ⟨S2x32x64x8x64, .f32⟩
  | 55 => ⟨S2x32x64x8x64, .f32⟩
  | 56 => ⟨S2x32x1x64x8x64, .f32⟩
  | 57 => ⟨S2x32x1x64x8x64, .f32⟩
  | 58 => ⟨S2x32x1x64x8x64, .f32⟩
  | 59 => ⟨S2x32x1x64x8x64, .f32⟩
  | 60 => ⟨S2x32x1x64x8x64, .f32⟩
  | 61 => ⟨S2x32x1x64x8x64, .f32⟩
  | 62 => ⟨S2x32x1x64x8x64, .f32⟩
  | 63 => ⟨S2x32x1x64x8x64, .f32⟩
  | 64 => ⟨S2x32x1x64x8x64, .f32⟩
  | 65 => ⟨S2x32x9x64x8x64, .f32⟩
  | 66 => ⟨S2x32x576x8x64, .f32⟩
  | 67 => ⟨S2x8x32x64x576, .f32⟩
  | 68 => ⟨S32, .i32⟩
  | 69 => ⟨S32x1, .i32⟩
  | 70 => ⟨S9, .i32⟩
  | 71 => ⟨S1x9, .i32⟩
  | 72 => ⟨S32x9, .i32⟩
  | 73 => ⟨S32x9, .i32⟩
  | 74 => ⟨S32x9, .i32⟩
  | 75 => ⟨S_, .i32⟩
  | 76 => ⟨S32x9, .i32⟩
  | 77 => ⟨S32x9, .i1⟩
  | 78 => ⟨S32x9x64, .i1⟩
  | 79 => ⟨S32x576, .i1⟩
  | 80 => ⟨S1x1x32x1x576, .i1⟩
  | 81 => ⟨S1x8x1x64x576, .f32⟩
  | 82 => ⟨S2x8x32x64x576, .f32⟩
  | 83 => ⟨S2x8x32x64x576, .f32⟩
  | 84 => ⟨S_, .f32⟩
  | 85 => ⟨S_, .f32⟩
  | 86 => ⟨S2x8x32x64x576, .i1⟩
  | 87 => ⟨S2x8x32x64x576, .f32⟩
  | 88 => ⟨S2x8x32x64x576, .f32⟩
  | 89 => ⟨S_, .f32⟩
  | 90 => ⟨S2x8x32x64, .f32⟩
  | 91 => ⟨S_, .f32⟩
  | 92 => ⟨S2x8x32x64, .f32⟩
  | 93 => ⟨S2x8x32x64, .f32⟩
  | 94 => ⟨S2x8x32x64x1, .f32⟩
  | 95 => ⟨S2x8x32x64x576, .f32⟩
  | 96 => ⟨S2x8x32x64x576, .f32⟩
  | 97 => ⟨S2x8x32x64x576, .f32⟩
  | 98 => ⟨S_, .f32⟩
  | 99 => ⟨S2x8x32x64, .f32⟩
  | 100 => ⟨S2x8x32x64x1, .f32⟩
  | 101 => ⟨S2x8x32x64x576, .f32⟩
  | 102 => ⟨S2x8x32x64x576, .f32⟩
  | 103 => ⟨S2x32x64x8x64, .f32⟩
  | 104 => ⟨S2x40x64x8x64, .f32⟩
  | 105 => ⟨S2x32x64x8x64, .f32⟩
  | 106 => ⟨S2x32x64x8x64, .f32⟩
  | 107 => ⟨S2x32x64x8x64, .f32⟩
  | 108 => ⟨S2x32x64x8x64, .f32⟩
  | 109 => ⟨S2x32x64x8x64, .f32⟩
  | 110 => ⟨S2x32x64x8x64, .f32⟩
  | 111 => ⟨S2x32x64x8x64, .f32⟩
  | 112 => ⟨S2x32x64x8x64, .f32⟩
  | 113 => ⟨S2x32x64x8x64, .f32⟩
  | 114 => ⟨S2x32x1x64x8x64, .f32⟩
  | 115 => ⟨S2x32x1x64x8x64, .f32⟩
  | 116 => ⟨S2x32x1x64x8x64, .f32⟩
  | 117 => ⟨S2x32x1x64x8x64, .f32⟩
  | 118 => ⟨S2x32x1x64x8x64, .f32⟩
  | 119 => ⟨S2x32x1x64x8x64, .f32⟩
  | 120 => ⟨S2x32x1x64x8x64, .f32⟩
  | 121 => ⟨S2x32x1x64x8x64, .f32⟩
  | 122 => ⟨S2x32x1x64x8x64, .f32⟩
  | 123 => ⟨S2x32x9x64x8x64, .f32⟩
  | 124 => ⟨S2x32x576x8x64, .f32⟩
  | 125 => ⟨S2x32x8x64x64, .f32⟩
  | 126 => ⟨S2x32x64x8x64, .f32⟩
  | 127 => ⟨S2x2048x512, .f32⟩
  | _ => ⟨S2x2048x5640, .f32⟩

abbrev hbmTy0_1 (i : Nat) : BufTy := match i % 128 with
  | 0 => ⟨S4096x512, .f32⟩
  | 1 => ⟨S4096x512, .bf16⟩
  | _ => ⟨S2x2048x5640, .f32⟩

abbrev hbmTy (i : Nat) : BufTy := match i / 128 with
  | 0 => hbmTy0_0 i
  | 1 => hbmTy0_1 i
  | _ => ⟨S2x2048x5640, .f32⟩

abbrev bufTy : (tb : Table) → Fin (tcTables nBuf tb) → BufTy
  | .hbm, ⟨i, _⟩ => hbmTy i
  | _, _ => ⟨S2x2048x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v68 : Ref sig .tc := ⟨.hbm, 88, rfl⟩
abbrev main_cst_8 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩

abbrev nD : Nat := 1
abbrev τ : Topo := Topo.v7x

variable {F : FTy → Type} [FloatOps F]
-- ==== RmsMix.lean ====
abbrev S2x2048x1024 : Shape := ⟨3, ![2, 2048, 1024]⟩
abbrev S1x1024 : Shape := ⟨2, ![1, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== RmsMixRefIdeal.lean ====
abbrev S2x2048x1024 : Shape := ⟨3, ![2, 2048, 1024]⟩
abbrev S1x1024 : Shape := ⟨2, ![1, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | .hbm, ⟨20, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== ConvFwd.lean ====
abbrev S2x2048x5640 : Shape := ⟨3, ![2, 2048, 5640]⟩
abbrev S1x4x1536 : Shape := ⟨3, ![1, 4, 1536]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S4096x5760 : Shape := ⟨2, ![4096, 5760]⟩
abbrev S4x1536 : Shape := ⟨2, ![4, 1536]⟩
abbrev S4096x1536 : Shape := ⟨2, ![4096, 1536]⟩
abbrev S2048x256 : Shape := ⟨2, ![2048, 256]⟩
abbrev S4x256 : Shape := ⟨2, ![4, 256]⟩
abbrev S1x256 : Shape := ⟨2, ![1, 256]⟩

abbrev nBuf : Space → Nat
  | .hbm => 37
  | .vmem => 6
  | .smem => 0
  | _ => 0

abbrev bufTy : (tb : Table) → Fin (tcTables nBuf tb) → BufTy
  | .hbm, ⟨0, _⟩ => ⟨S2x2048x5640, .f32⟩
  | .hbm, ⟨1, _⟩ => ⟨S1x4x1536, .f32⟩
  | .hbm, ⟨2, _⟩ => ⟨S4096x5640, .f32⟩
  | .hbm, ⟨3, _⟩ => ⟨S5640x4096, .f32⟩
  | .hbm, ⟨4, _⟩ => ⟨S5760x1, .i32⟩
  | .hbm, ⟨5, _⟩ => ⟨S_, .i32⟩
  | .hbm, ⟨6, _⟩ => ⟨S_, .f32⟩
  | .hbm, ⟨7, _⟩ => ⟨S5760x4096, .f32⟩
  | .hbm, ⟨8, _⟩ => ⟨S5632x4096, .f32⟩
  | .hbm, ⟨9, _⟩ => ⟨S_, .i32⟩
  | .hbm, ⟨10, _⟩ => ⟨S_, .f32⟩
  | .hbm, ⟨11, _⟩ => ⟨S5760x4096, .f32⟩
  | .hbm, ⟨12, _⟩ => ⟨S3592x4096, .f32⟩
  | .hbm, ⟨13, _⟩ => ⟨S_, .i32⟩
  | .hbm, ⟨14, _⟩ => ⟨S_, .f32⟩
  | .hbm, ⟨15, _⟩ => ⟨S5760x4096, .f32⟩
  | .hbm, ⟨16, _⟩ => ⟨S_, .i32⟩
  | .hbm, ⟨17, _⟩ => ⟨S5760x1, .i32⟩
  | .hbm, ⟨18, _⟩ => ⟨S5760x1, .i1⟩
  | .hbm, ⟨19, _⟩ => ⟨S_, .i32⟩
  | .hbm, ⟨20, _⟩ => ⟨S5760x1, .i32⟩
  | .hbm, ⟨21, _⟩ => ⟨S5760x1, .i1⟩
  | .hbm, ⟨22, _⟩ => ⟨S_, .i32⟩
  | .hbm, ⟨23, _⟩ => ⟨S5760x1, .i32⟩
  | .hbm, ⟨24, _⟩ => ⟨S5760x1, .i1⟩
  | .hbm, ⟨25, _⟩ => ⟨S_, .f32⟩
  | .hbm, ⟨26, _⟩ => ⟨S5760x4096, .i1⟩
  | .hbm, ⟨27, _⟩ => ⟨S5760x4096, .f32⟩
  | .hbm, ⟨28, _⟩ => ⟨S5760x4096, .f32⟩
  | .hbm, ⟨29, _⟩ => ⟨S5760x4096, .i1⟩
  | .hbm, ⟨30, _⟩ => ⟨S5760x4096, .f32⟩
  | .hbm, ⟨31, _⟩ => ⟨S5760x4096, .i1⟩
  | .hbm, ⟨32, _⟩ => ⟨S5760x4096, .f32⟩
  | .hbm, ⟨33, _⟩ => ⟨S4096x5760, .f32⟩
  | .hbm, ⟨34, _⟩ => ⟨S4096x5760, .bf16⟩
  | .hbm, ⟨35, _⟩ => ⟨S4x1536, .f32⟩
  | .hbm, ⟨36, _⟩ => ⟨S4096x1536, .f32⟩
  | .local _ .vmem, ⟨0, _⟩ => ⟨S2048x256, .bf16⟩
  | .local _ .vmem, ⟨1, _⟩ => ⟨S2048x256, .bf16⟩
  | .local _ .vmem, ⟨2, _⟩ => ⟨S4x256, .f32⟩
  | .local _ .vmem, ⟨3, _⟩ => ⟨S4x256, .f32⟩
  | .local _ .vmem, ⟨4, _⟩ => ⟨S2048x256, .f32⟩
  | .local _ .vmem, ⟨5, _⟩ => ⟨S2048x256, .f32⟩
  | _, _ => ⟨S2x2048x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_call3_v0 : Ref sig .tc := ⟨.hbm, 26, rfl⟩
abbrev main_call3_v1 : Ref sig .tc := ⟨.hbm, 27, rfl⟩
abbrev main_v14 : Ref sig .tc := ⟨.hbm, 28, rfl⟩
abbrev main_call4_v0 : Ref sig .tc := ⟨.hbm, 29, rfl⟩
abbrev main_v15 : Ref sig .tc := ⟨.hbm, 30, rfl⟩
abbrev main_call5_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvFRefIdeal.lean ====
abbrev S2x2048x5640 : Shape := ⟨3, ![2, 2048, 5640]⟩
abbrev S1x4x1536 : Shape := ⟨3, ![1, 4, 1536]⟩
abbrev S2x2048x1536 : Shape := ⟨3, ![2, 2048, 1536]⟩
abbrev S4x1536 : Shape := ⟨2, ![4, 1536]⟩
abbrev S_ : Shape := ⟨0, ![]⟩
abbrev S2x3x1536 : Shape := ⟨3, ![2, 3, 1536]⟩
abbrev S2x2051x1536 : Shape := ⟨3, ![2, 2051, 1536]⟩
abbrev S1x1536 : Shape := ⟨2, ![1, 1536]⟩
abbrev S1536 : Shape := ⟨1, ![1536]⟩
abbrev S1x1x1536 : Shape := ⟨3, ![1, 1, 1536]⟩
abbrev S4096x1536 : Shape := ⟨2, ![4096, 1536]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x5640, .f32⟩
  | .hbm, ⟨1, _⟩ => ⟨S1x4x1536, .f32⟩
  | .hbm, ⟨2, _⟩ => ⟨S2x2048x1536, .f32⟩
  | .hbm, ⟨3, _⟩ => ⟨S4x1536, .f32⟩
  | .hbm, ⟨4, _⟩ => ⟨S_, .f32⟩
  | .hbm, ⟨5, _⟩ => ⟨S2x3x1536, .f32⟩
  | .hbm, ⟨6, _⟩ => ⟨S2x2051x1536, .f32⟩
  | .hbm, ⟨7, _⟩ => ⟨S2x2048x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S2x2048x1536, .f32⟩
  | .hbm, ⟨12, _⟩ => ⟨S2x2048x1536, .f32⟩
  | .hbm, ⟨13, _⟩ => ⟨S2x2048x1536, .f32⟩
  | .hbm, ⟨14, _⟩ => ⟨S1x1536, .f32⟩
  | .hbm, ⟨15, _⟩ => ⟨S1536, .f32⟩
  | .hbm, ⟨16, _⟩ => ⟨S1x1x1536, .f32⟩
  | .hbm, ⟨17, _⟩ => ⟨S2x2048x1536, .f32⟩
  | .hbm, ⟨18, _⟩ => ⟨S2x2048x1536, .f32⟩
  | .hbm, ⟨19, _⟩ => ⟨S2x2048x1536, .f32⟩
  | .hbm, ⟨20, _⟩ => ⟨S2x2048x1536, .f32⟩
  | .hbm, ⟨21, _⟩ => ⟨S1x1536, .f32⟩
  | .hbm, ⟨22, _⟩ => ⟨S1536, .f32⟩
  | .hbm, ⟨23, _⟩ => ⟨S1x1x1536, .f32⟩
  | .hbm, ⟨24, _⟩ => ⟨S2x2048x1536, .f32⟩
  | .hbm, ⟨25, _⟩ => ⟨S2x2048x1536, .f32⟩
  | .hbm, ⟨26, _⟩ => ⟨S2x2048x1536, .f32⟩
  | .hbm, ⟨27, _⟩ => ⟨S2x2048x1536, .f32⟩
  | .hbm, ⟨28, _⟩ => ⟨S1x1536, .f32⟩
  | .hbm, ⟨29, _⟩ => ⟨S1536, .f32⟩
  | .hbm, ⟨30, _⟩ => ⟨S1x1x1536, .f32⟩
  | .hbm, ⟨31, _⟩ => ⟨S2x2048x1536, .f32⟩
  | .hbm, ⟨32, _⟩ => ⟨S2x2048x1536, .f32⟩
  | .hbm, ⟨33, _⟩ => ⟨S2x2048x1536, .f32⟩
  | .hbm, ⟨34, _⟩ => ⟨S2x2048x1536, .f32⟩
  | .hbm, ⟨35, _⟩ => ⟨S2x2048x1536, .f32⟩
  | .hbm, ⟨36, _⟩ => ⟨S_, .f32⟩
  | .hbm, ⟨37, _⟩ => ⟨S2x2048x1536, .f32⟩
  | .hbm, ⟨38, _⟩ => ⟨S2x2048x1536, .f32⟩
  | .hbm, ⟨39, _⟩ => ⟨S_, .f32⟩
  | .hbm, ⟨40, _⟩ => ⟨S2x2048x1536, .f32⟩
  | .hbm, ⟨41, _⟩ => ⟨S2x2048x1536, .f32⟩
  | .hbm, ⟨42, _⟩ => ⟨S2x2048x1536, .f32⟩
  | .hbm, ⟨43, _⟩ => ⟨S4096x1536, .f32⟩
  | _, _ => ⟨S2x2048x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== GateScalarsFwd.lean ====
abbrev S2x2048x5640 : Shape := ⟨3, ![2, 2048, 5640]⟩
abbrev S1x4 : Shape := ⟨2, ![1, 4]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S128x4096 : Shape := ⟨2, ![128, 4096]⟩
abbrev S4096x128 : Shape := ⟨2, ![4096, 128]⟩
abbrev S1x120 : Shape := ⟨2, ![1, 120]⟩
abbrev S1x128 : Shape := ⟨2, ![1, 128]⟩
abbrev S1024x128 : Shape := ⟨2, ![1024, 128]⟩

abbrev nBuf : Space → Nat
  | .hbm => 47
  | .vmem => 6
  | .smem => 0
  | _ => 0

abbrev bufTy : (tb : Table) → Fin (tcTables nBuf tb) → BufTy
  | .hbm, ⟨0, _⟩ => ⟨S2x2048x5640, .f32⟩
  | .hbm, ⟨1, _⟩ => ⟨S1x4, .f32⟩
  | .hbm, ⟨2, _⟩ => ⟨S1x4, .f32⟩
  | .hbm, ⟨3, _⟩ => ⟨S4096x5640, .f32⟩
  | .hbm, ⟨4, _⟩ => ⟨S5640x4096, .f32⟩
  | .hbm, ⟨5, _⟩ => ⟨S5760x1, .i32⟩
  | .hbm, ⟨6, _⟩ => ⟨S_, .i32⟩
  | .hbm, ⟨7, _⟩ => ⟨S_, .f32⟩
  | .hbm, ⟨8, _⟩ => ⟨S5760x4096, .f32⟩
  | .hbm, ⟨9, _⟩ => ⟨S5632x4096, .f32⟩
  | .hbm, ⟨10, _⟩ => ⟨S_, .i32⟩
  | .hbm, ⟨11, _⟩ => ⟨S_, .f32⟩
  | .hbm, ⟨12, _⟩ => ⟨S5760x4096, .f32⟩
  | .hbm, ⟨13, _⟩ => ⟨S3592x4096, .f32⟩
  | .hbm, ⟨14, _⟩ => ⟨S_, .i32⟩
  | .hbm, ⟨15, _⟩ => ⟨S_, .f32⟩
  | .hbm, ⟨16, _⟩ => ⟨S5760x4096, .f32⟩
  | .hbm, ⟨17, _⟩ => ⟨S_, .i32⟩
  | .hbm, ⟨18, _⟩ => ⟨S5760x1, .i32⟩
  | .hbm, ⟨19, _⟩ => ⟨S5760x1, .i1⟩
  | .hbm, ⟨20, _⟩ => ⟨S_, .i32⟩
  | .hbm, ⟨21, _⟩ => ⟨S5760x1, .i32⟩
  | .hbm, ⟨22, _⟩ => ⟨S5760x1, .i1⟩
  | .hbm, ⟨23, _⟩ => ⟨S_, .i32⟩
  | .hbm, ⟨24, _⟩ => ⟨S5760x1, .i32⟩
  | .hbm, ⟨25, _⟩ => ⟨S5760x1, .i1⟩
  | .hbm, ⟨26, _⟩ => ⟨S_, .f32⟩
  | .hbm, ⟨27, _⟩ => ⟨S5760x4096, .i1⟩
  | .hbm, ⟨28, _⟩ => ⟨S5760x4096, .f32⟩
  | .hbm, ⟨29, _⟩ => ⟨S5760x4096, .f32⟩
  | .hbm, ⟨30, _⟩ => ⟨S5760x4096, .i1⟩
  | .hbm, ⟨31, _⟩ => ⟨S5760x4096, .f32⟩
  | .hbm, ⟨32, _⟩ => ⟨S5760x4096, .i1⟩
  | .hbm, ⟨33, _⟩ => ⟨S5760x4096, .f32⟩
  | .hbm, ⟨34, _⟩ => ⟨S128x4096, .f32⟩
  | .hbm, ⟨35, _⟩ => ⟨S4096x128, .f32⟩
  | .hbm, ⟨36, _⟩ => ⟨S_, .f32⟩
  | .hbm, ⟨37, _⟩ => ⟨S1x4, .f32⟩
  | .hbm, ⟨38, _⟩ => ⟨S_, .f32⟩
  | .hbm, ⟨39, _⟩ => ⟨S1x120, .f32⟩
  | .hbm, ⟨40, _⟩ => ⟨S1x128, .f32⟩
  | .hbm, ⟨41, _⟩ => ⟨S_, .f32⟩
  | .hbm, ⟨42, _⟩ => ⟨S1x4, .f32⟩
  | .hbm, ⟨43, _⟩ => ⟨S_, .f32⟩
  | .hbm, ⟨44, _⟩ => ⟨S1x120, .f32⟩
  | .hbm, ⟨45, _⟩ => ⟨S1x128, .f32⟩
  | .hbm, ⟨46, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S2x2048x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_call3_v0 : Ref sig .tc := ⟨.hbm, 27, rfl⟩
abbrev main_call3_v1 : Ref sig .tc := ⟨.hbm, 28, rfl⟩
abbrev main_v14 : Ref sig .tc := ⟨.hbm, 29, rfl⟩
abbrev main_call4_v0 : Ref sig .tc := ⟨.hbm, 30, rfl⟩
abbrev main_v15 : Ref sig .tc := ⟨.hbm, 31, rfl⟩
abbrev main_call5_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_cst_7 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== GateScalarsFRefIdeal.lean ====
abbrev S2x2048x5640 : Shape := ⟨3, ![2, 2048, 5640]⟩
abbrev S1x4 : Shape := ⟨2, ![1, 4]⟩
abbrev S2x2048x4 : Shape := ⟨3, ![2, 2048, 4]⟩
abbrev S_ : Shape := ⟨0, ![]⟩
abbrev S4 : Shape := ⟨1, ![4]⟩
abbrev S1x1x4 : Shape := ⟨3, ![1, 1, 4]⟩
abbrev S4096x4 : Shape := ⟨2, ![4096, 4]⟩
abbrev S4096x120 : Shape := ⟨2, ![4096, 120]⟩
abbrev S4096x128 : Shape := ⟨2, ![4096, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x5640, .f32⟩
  | .hbm, ⟨1, _⟩ => ⟨S1x4, .f32⟩
  | .hbm, ⟨2, _⟩ => ⟨S1x4, .f32⟩
  | .hbm, ⟨3, _⟩ => ⟨S2x2048x4, .f32⟩
  | .hbm, ⟨4, _⟩ => ⟨S2x2048x4, .f32⟩
  | .hbm, ⟨5, _⟩ => ⟨S2x2048x4, .f32⟩
  | .hbm, ⟨6, _⟩ => ⟨S_, .f32⟩
  | .hbm, ⟨7, _⟩ => ⟨S2x2048x4, .f32⟩
  | .hbm, ⟨8, _⟩ => ⟨S2x2048x4, .f32⟩
  | .hbm, ⟨9, _⟩ => ⟨S_, .f32⟩
  | .hbm, ⟨10, _⟩ => ⟨S2x2048x4, .f32⟩
  | .hbm, ⟨11, _⟩ => ⟨S2x2048x4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S2x2048x4, .f32⟩
  | .hbm, ⟨16, _⟩ => ⟨S4, .f32⟩
  | .hbm, ⟨17, _⟩ => ⟨S1x1x4, .f32⟩
  | .hbm, ⟨18, _⟩ => ⟨S2x2048x4, .f32⟩
  | .hbm, ⟨19, _⟩ => ⟨S2x2048x4, .f32⟩
  | .hbm, ⟨20, _⟩ => ⟨S_, .f32⟩
  | .hbm, ⟨21, _⟩ => ⟨S2x2048x4, .f32⟩
  | .hbm, ⟨22, _⟩ => ⟨S2x2048x4, .f32⟩
  | .hbm, ⟨23, _⟩ => ⟨S2x2048x4, .f32⟩
  | .hbm, ⟨24, _⟩ => ⟨S2x2048x4, .f32⟩
  | .hbm, ⟨25, _⟩ => ⟨S2x2048x4, .i1⟩
  | .hbm, ⟨26, _⟩ => ⟨S2x2048x4, .f32⟩
  | .hbm, ⟨27, _⟩ => ⟨S2x2048x4, .f32⟩
  | .hbm, ⟨28, _⟩ => ⟨S2x2048x4, .f32⟩
  | .hbm, ⟨29, _⟩ => ⟨S2x2048x4, .f32⟩
  | .hbm, ⟨30, _⟩ => ⟨S2x2048x4, .f32⟩
  | .hbm, ⟨31, _⟩ => ⟨S2x2048x4, .f32⟩
  | .hbm, ⟨32, _⟩ => ⟨S2x2048x4, .f32⟩
  | .hbm, ⟨33, _⟩ => ⟨S2x2048x4, .f32⟩
  | .hbm, ⟨34, _⟩ => ⟨S1x1x4, .f32⟩
  | .hbm, ⟨35, _⟩ => ⟨S2x2048x4, .f32⟩
  | .hbm, ⟨36, _⟩ => ⟨S2x2048x4, .f32⟩
  | .hbm, ⟨37, _⟩ => ⟨S4096x4, .f32⟩
  | .hbm, ⟨38, _⟩ => ⟨S4096x4, .f32⟩
  | .hbm, ⟨39, _⟩ => ⟨S_, .f32⟩
  | .hbm, ⟨40, _⟩ => ⟨S4096x120, .f32⟩
  | .hbm, ⟨41, _⟩ => ⟨S4096x128, .f32⟩
  | _, _ => ⟨S2x2048x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== GatedNormFwd.lean ====
abbrev S2x2048x5640 : Shape := ⟨3, ![2, 2048, 5640]⟩
abbrev S2x2048x4x128 : Shape := ⟨4, ![2, 2048, 4, 128]⟩
abbrev S1x128 : Shape := ⟨2, ![1, 128]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S4096x5760 : Shape := ⟨2, ![4096, 5760]⟩
abbrev S4096x512 : Shape := ⟨2, ![4096, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 38
  | .vmem => 7
  | .smem => 0
  | _ => 0

abbrev bufTy : (tb : Table) → Fin (tcTables nBuf tb) → BufTy
  | .hbm, ⟨0, _⟩ => ⟨S2x2048x5640, .f32⟩
  | .hbm, ⟨1, _⟩ => ⟨S2x2048x4x128, .f32⟩
  | .hbm, ⟨2, _⟩ => ⟨S1x128, .f32⟩
  | .hbm, ⟨3, _⟩ => ⟨S4096x5640, .f32⟩
  | .hbm, ⟨4, _⟩ => ⟨S5640x4096, .f32⟩
  | .hbm, ⟨5, _⟩ => ⟨S5760x1, .i32⟩
  | .hbm, ⟨6, _⟩ => ⟨S_, .i32⟩
  | .hbm, ⟨7, _⟩ => ⟨S_, .f32⟩
  | .hbm, ⟨8, _⟩ => ⟨S5760x4096, .f32⟩
  | .hbm, ⟨9, _⟩ => ⟨S5632x4096, .f32⟩
  | .hbm, ⟨10, _⟩ => ⟨S_, .i32⟩
  | .hbm, ⟨11, _⟩ => ⟨S_, .f32⟩
  | .hbm, ⟨12, _⟩ => ⟨S5760x4096, .f32⟩
  | .hbm, ⟨13, _⟩ => ⟨S3592x4096, .f32⟩
  | .hbm, ⟨14, _⟩ => ⟨S_, .i32⟩
  | .hbm, ⟨15, _⟩ => ⟨S_, .f32⟩
  | .hbm, ⟨16, _⟩ => ⟨S5760x4096, .f32⟩
  | .hbm, ⟨17, _⟩ => ⟨S_, .i32⟩
  | .hbm, ⟨18, _⟩ => ⟨S5760x1, .i32⟩
  | .hbm, ⟨19, _⟩ => ⟨S5760x1, .i1⟩
  | .hbm, ⟨20, _⟩ => ⟨S_, .i32⟩
  | .hbm, ⟨21, _⟩ => ⟨S5760x1, .i32⟩
  | .hbm, ⟨22, _⟩ => ⟨S5760x1, .i1⟩
  | .hbm, ⟨23, _⟩ => ⟨S_, .i32⟩
  | .hbm, ⟨24, _⟩ => ⟨S5760x1, .i32⟩
  | .hbm, ⟨25, _⟩ => ⟨S5760x1, .i1⟩
  | .hbm, ⟨26, _⟩ => ⟨S_, .f32⟩
  | .hbm, ⟨27, _⟩ => ⟨S5760x4096, .i1⟩
  | .hbm, ⟨28, _⟩ => ⟨S5760x4096, .f32⟩
  | .hbm, ⟨29, _⟩ => ⟨S5760x4096, .f32⟩
  | .hbm, ⟨30, _⟩ => ⟨S5760x4096, .i1⟩
  | .hbm, ⟨31, _⟩ => ⟨S5760x4096, .f32⟩
  | .hbm, ⟨32, _⟩ => ⟨S5760x4096, .i1⟩
  | .hbm, ⟨33, _⟩ => ⟨S5760x4096, .f32⟩
  | .hbm, ⟨34, _⟩ => ⟨S4096x5760, .f32⟩
  | .hbm, ⟨35, _⟩ => ⟨S4096x5760, .bf16⟩
  | .hbm, ⟨36, _⟩ => ⟨S4096x512, .f32⟩
  | .hbm, ⟨37, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S1024x128, .bf16⟩
  | .local _ .vmem, ⟨6, _⟩ => ⟨S1024x128, .bf16⟩
  | _, _ => ⟨S2x2048x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_call3_v0 : Ref sig .tc := ⟨.hbm, 27, rfl⟩
abbrev main_call3_v1 : Ref sig .tc := ⟨.hbm, 28, rfl⟩
abbrev main_v14 : Ref sig .tc := ⟨.hbm, 29, rfl⟩
abbrev main_call4_v0 : Ref sig .tc := ⟨.hbm, 30, rfl⟩
abbrev main_v15 : Ref sig .tc := ⟨.hbm, 31, rfl⟩
abbrev main_call5_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c24_i32 : BitVec 32 := 24#32
  let v1 : BitVec 32 := Scalar.addi c24_i32 v0
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatedNormFRefIdeal.lean ====
abbrev S2x2048x5640 : Shape := ⟨3, ![2, 2048, 5640]⟩
abbrev S2x2048x4x128 : Shape := ⟨4, ![2, 2048, 4, 128]⟩
abbrev S1x128 : Shape := ⟨2, ![1, 128]⟩
abbrev S128 : Shape := ⟨1, ![128]⟩
abbrev S_ : Shape := ⟨0, ![]⟩
abbrev S2x2048x4 : Shape := ⟨3, ![2, 2048, 4]⟩
abbrev S2x2048x4x1 : Shape := ⟨4, ![2, 2048, 4, 1]⟩
abbrev S1x1x1x128 : Shape := ⟨4, ![1, 1, 1, 128]⟩
abbrev S2x2048x512 : Shape := ⟨3, ![2, 2048, 512]⟩
abbrev S4096x512 : Shape := ⟨2, ![4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S2x2048x5640, .f32⟩
  | .hbm, ⟨1, _⟩ => ⟨S2x2048x4x128, .f32⟩
  | .hbm, ⟨2, _⟩ => ⟨S1x128, .f32⟩
  | .hbm, ⟨3, _⟩ => ⟨S128, .f32⟩
  | .hbm, ⟨4, _⟩ => ⟨S2x2048x4x128, .f32⟩
  | .hbm, ⟨5, _⟩ => ⟨S_, .f32⟩
  | .hbm, ⟨6, _⟩ => ⟨S2x2048x4, .f32⟩
  | .hbm, ⟨7, _⟩ => ⟨S2x2048x4x1, .f32⟩
  | .hbm, ⟨8, _⟩ => ⟨S_, .f32⟩
  | .hbm, ⟨9, _⟩ => ⟨S2x2048x4x1, .f32⟩
  | .hbm, ⟨10, _⟩ => ⟨S2x2048x4x1, .f32⟩
  | .hbm, ⟨11, _⟩ => ⟨S_, .f32⟩
  | .hbm, ⟨12, _⟩ => ⟨S2x2048x4x1, .f32⟩
  | .hbm, ⟨13, _⟩ => ⟨S2x2048x4x1, .f32⟩
  | .hbm, ⟨14, _⟩ => ⟨S2x2048x4x1, .f32⟩
  | .hbm, ⟨15, _⟩ => ⟨S2x2048x4x128, .f32⟩
  | .hbm, ⟨16, _⟩ => ⟨S2x2048x4x128, .f32⟩
  | .hbm, ⟨17, _⟩ => ⟨S1x1x1x128, .f32⟩
  | .hbm, ⟨18, _⟩ => ⟨S2x2048x4x128, .f32⟩
  | .hbm, ⟨19, _⟩ => ⟨S2x2048x4x128, .f32⟩
  | .hbm, ⟨20, _⟩ => ⟨S2x2048x512, .f32⟩
  | .hbm, ⟨21, _⟩ => ⟨S2x2048x4x128, .f32⟩
  | .hbm, ⟨22, _⟩ => ⟨S2x2048x4x128, .f32⟩
  | .hbm, ⟨23, _⟩ => ⟨S2x2048x4x128, .f32⟩
  | .hbm, ⟨24, _⟩ => ⟨S_, .f32⟩
  | .hbm, ⟨25, _⟩ => ⟨S2x2048x4x128, .f32⟩
  | .hbm, ⟨26, _⟩ => ⟨S2x2048x4x128, .f32⟩
  | .hbm, ⟨27, _⟩ => ⟨S_, .f32⟩
  | .hbm, ⟨28, _⟩ => ⟨S2x2048x4x128, .f32⟩
  | .hbm, ⟨29, _⟩ => ⟨S2x2048x4x128, .f32⟩
  | .hbm, ⟨30, _⟩ => ⟨S2x2048x4x128, .f32⟩
  | .hbm, ⟨31, _⟩ => ⟨S2x2048x4x128, .f32⟩
  | .hbm, ⟨32, _⟩ => ⟨S4096x512, .f32⟩
  | .hbm, ⟨33, _⟩ => ⟨S4096x512, .bf16⟩
  | _, _ => ⟨S2x2048x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== MergeFwd.lean ====
abbrev S2x2048x5640 : Shape := ⟨3, ![2, 2048, 5640]⟩
abbrev S2x2048x1024 : Shape := ⟨3, ![2, 2048, 1024]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S4096x5760 : Shape := ⟨2, ![4096, 5760]⟩
abbrev S4096x1024 : Shape := ⟨2, ![4096, 1024]⟩
abbrev S512x512 : Shape := ⟨2, ![512, 512]⟩

abbrev nBuf : Space → Nat
  | .hbm => 41
  | .vmem => 10
  | .smem => 0
  | _ => 0

abbrev bufTy : (tb : Table) → Fin (tcTables nBuf tb) → BufTy
  | .hbm, ⟨0, _⟩ => ⟨S2x2048x5640, .f32⟩
  | .hbm, ⟨1, _⟩ => ⟨S2x2048x1024, .f32⟩
  | .hbm, ⟨2, _⟩ => ⟨S2x2048x1024, .f32⟩
  | .hbm, ⟨3, _⟩ => ⟨S4096x5640, .f32⟩
  | .hbm, ⟨4, _⟩ => ⟨S5640x4096, .f32⟩
  | .hbm, ⟨5, _⟩ => ⟨S5760x1, .i32⟩
  | .hbm, ⟨6, _⟩ => ⟨S_, .i32⟩
  | .hbm, ⟨7, _⟩ => ⟨S_, .f32⟩
  | .hbm, ⟨8, _⟩ => ⟨S5760x4096, .f32⟩
  | .hbm, ⟨9, _⟩ => ⟨S5632x4096, .f32⟩
  | .hbm, ⟨10, _⟩ => ⟨S_, .i32⟩
  | .hbm, ⟨11, _⟩ => ⟨S_, .f32⟩
  | .hbm, ⟨12, _⟩ => ⟨S5760x4096, .f32⟩
  | .hbm, ⟨13, _⟩ => ⟨S3592x4096, .f32⟩
  | .hbm, ⟨14, _⟩ => ⟨S_, .i32⟩
  | .hbm, ⟨15, _⟩ => ⟨S_, .f32⟩
  | .hbm, ⟨16, _⟩ => ⟨S5760x4096, .f32⟩
  | .hbm, ⟨17, _⟩ => ⟨S_, .i32⟩
  | .hbm, ⟨18, _⟩ => ⟨S5760x1, .i32⟩
  | .hbm, ⟨19, _⟩ => ⟨S5760x1, .i1⟩
  | .hbm, ⟨20, _⟩ => ⟨S_, .i32⟩
  | .hbm, ⟨21, _⟩ => ⟨S5760x1, .i32⟩
  | .hbm, ⟨22, _⟩ => ⟨S5760x1, .i1⟩
  | .hbm, ⟨23, _⟩ => ⟨S_, .i32⟩
  | .hbm, ⟨24, _⟩ => ⟨S5760x1, .i32⟩
  | .hbm, ⟨25, _⟩ => ⟨S5760x1, .i1⟩
  | .hbm, ⟨26, _⟩ => ⟨S_, .f32⟩
  | .hbm, ⟨27, _⟩ => ⟨S5760x4096, .i1⟩
  | .hbm, ⟨28, _⟩ => ⟨S5760x4096, .f32⟩
  | .hbm, ⟨29, _⟩ => ⟨S5760x4096, .f32⟩
  | .hbm, ⟨30, _⟩ => ⟨S5760x4096, .i1⟩
  | .hbm, ⟨31, _⟩ => ⟨S5760x4096, .f32⟩
  | .hbm, ⟨32, _⟩ => ⟨S5760x4096, .i1⟩
  | .hbm, ⟨33, _⟩ => ⟨S5760x4096, .f32⟩
  | .hbm, ⟨34, _⟩ => ⟨S4096x5760, .f32⟩
  | .hbm, ⟨35, _⟩ => ⟨S4096x5760, .bf16⟩
  | .hbm, ⟨36, _⟩ => ⟨S4096x1024, .f32⟩
  | .hbm, ⟨37, _⟩ => ⟨S4096x1024, .bf16⟩
  | .hbm, ⟨38, _⟩ => ⟨S4096x1024, .f32⟩
  | .hbm, ⟨39, _⟩ => ⟨S4096x1024, .bf16⟩
  | .hbm, ⟨40, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S2x2048x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_call3_v0 : Ref sig .tc := ⟨.hbm, 27, rfl⟩
abbrev main_call3_v1 : Ref sig .tc := ⟨.hbm, 28, rfl⟩
abbrev main_v14 : Ref sig .tc := ⟨.hbm, 29, rfl⟩
abbrev main_call4_v0 : Ref sig .tc := ⟨.hbm, 30, rfl⟩
abbrev main_v15 : Ref sig .tc := ⟨.hbm, 31, rfl⟩
abbrev main_call5_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c7_i32 : BitVec 32 := 7#32
  let v1 : BitVec 32 := Scalar.addi c7_i32 v0
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c9_i32 : BitVec 32 := 9#32
  let v1 : BitVec 32 := Scalar.addi c9_i32 v0
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  ![arg1.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFRefIdeal.lean ====
abbrev S2x2048x5640 : Shape := ⟨3, ![2, 2048, 5640]⟩
abbrev S2x2048x1024 : Shape := ⟨3, ![2, 2048, 1024]⟩
abbrev S2x2048x2048 : Shape := ⟨3, ![2, 2048, 2048]⟩
abbrev S_ : Shape := ⟨0, ![]⟩
abbrev S4096x1024 : Shape := ⟨2, ![4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x5640, .f32⟩
  | .hbm, ⟨1, _⟩ => ⟨S2x2048x1024, .f32⟩
  | .hbm, ⟨2, _⟩ => ⟨S2x2048x1024, .f32⟩
  | .hbm, ⟨3, _⟩ => ⟨S2x2048x2048, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S4096x1024, .f32⟩
  | .hbm, ⟨26, _⟩ => ⟨S4096x1024, .bf16⟩
  | _, _ => ⟨S2x2048x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== ResidualMix.lean ====
abbrev S2x2048x1024 : Shape := ⟨3, ![2, 2048, 1024]⟩
abbrev S1x1024x1024 : Shape := ⟨3, ![1, 1024, 1024]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1x1024x1024, .f32⟩
  | .hbm, ⟨2, _⟩ => ⟨S2x2048x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1024x1024, .f32⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ResidualMixRefIdeal.lean ====
abbrev S2x2048x1024 : Shape := ⟨3, ![2, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x1024, .f32⟩
  | .hbm, ⟨2, _⟩ => ⟨S2x2048x1024, .f32⟩
  | .hbm, ⟨3, _⟩ => ⟨S1x1024, .f32⟩
  | .hbm, ⟨4, _⟩ => ⟨S1024x1024, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S4096x1024, .f32⟩
  | .hbm, ⟨26, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== SwigluFwd.lean ====
abbrev S2x2048x1024 : Shape := ⟨3, ![2, 2048, 1024]⟩
abbrev S1x1024x5632 : Shape := ⟨3, ![1, 1024, 5632]⟩
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 9
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1x1024x5632, .f32⟩
  | .hbm, ⟨2, _⟩ => ⟨S4096x1024, .f32⟩
  | .hbm, ⟨3, _⟩ => ⟨S4096x1024, .bf16⟩
  | .hbm, ⟨4, _⟩ => ⟨S1024x5632, .f32⟩
  | .hbm, ⟨5, _⟩ => ⟨S5632x1024, .f32⟩
  | .hbm, ⟨6, _⟩ => ⟨S5632x1024, .bf16⟩
  | .hbm, ⟨7, _⟩ => ⟨S4096x5632, .bf16⟩
  | .hbm, ⟨8, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S5632x1024, .bf16⟩
  | .local _ .vmem, ⟨3, _⟩ => ⟨S256x5632, .bf16⟩
  | .local _ .vmem, ⟨4, _⟩ => ⟨S256x5632, .bf16⟩
  | .local _ .vmem, ⟨5, _⟩ => ⟨S256x2816, .bf16⟩
  | .local _ .vmem, ⟨6, _⟩ => ⟨S256x2816, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== SwigluFRefIdeal.lean ====
abbrev S2x2048x1024 : Shape := ⟨3, ![2, 2048, 1024]⟩
abbrev S1x1024x5632 : Shape := ⟨3, ![1, 1024, 5632]⟩
abbrev S1024x5632 : Shape := ⟨2, ![1024, 5632]⟩
abbrev S2x2048x5632 : Shape := ⟨3, ![2, 2048, 5632]⟩
abbrev S4096x5632 : Shape := ⟨2, ![4096, 5632]⟩
abbrev S2x2048x2816 : Shape := ⟨3, ![2, 2048, 2816]⟩
abbrev S_ : Shape := ⟨0, ![]⟩
abbrev S4096x2816 : Shape := ⟨2, ![4096, 2816]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024x5632, .f32⟩
  | .hbm, ⟨2, _⟩ => ⟨S1024x5632, .f32⟩
  | .hbm, ⟨3, _⟩ => ⟨S2x2048x5632, .f32⟩
  | .hbm, ⟨4, _⟩ => ⟨S4096x5632, .f32⟩
  | .hbm, ⟨5, _⟩ => ⟨S4096x5632, .bf16⟩
  | .hbm, ⟨6, _⟩ => ⟨S2x2048x2816, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S_, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S4096x2816, .f32⟩
  | .hbm, ⟨19, _⟩ => ⟨S4096x2816, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== ResidualFfn.lean ====
abbrev S2x2048x2816 : Shape := ⟨3, ![2, 2048, 2816]⟩
abbrev S1x2816x1024 : Shape := ⟨3, ![1, 2816, 1024]⟩
abbrev S2x2048x1024 : Shape := ⟨3, ![2, 2048, 1024]⟩
abbrev S1x1024 : Shape := ⟨2, ![1, 1024]⟩
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x2816, .f32⟩
  | .hbm, ⟨1, _⟩ => ⟨S1x2816x1024, .f32⟩
  | .hbm, ⟨2, _⟩ => ⟨S2x2048x1024, .f32⟩
  | .hbm, ⟨3, _⟩ => ⟨S1x1024, .f32⟩
  | .hbm, ⟨4, _⟩ => ⟨S4096x2816, .f32⟩
  | .hbm, ⟨5, _⟩ => ⟨S4096x2816, .bf16⟩
  | .hbm, ⟨6, _⟩ => ⟨S2816x1024, .f32⟩
  | .hbm, ⟨7, _⟩ => ⟨S2816x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ResidualFfnRefIdeal.lean ====
abbrev S2x2048x2816 : Shape := ⟨3, ![2, 2048, 2816]⟩
abbrev S1x2816x1024 : Shape := ⟨3, ![1, 2816, 1024]⟩
abbrev S2x2048x1024 : Shape := ⟨3, ![2, 2048, 1024]⟩
abbrev S1x1024 : Shape := ⟨2, ![1, 1024]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S1x2816x1024, .f32⟩
  | .hbm, ⟨2, _⟩ => ⟨S2x2048x1024, .f32⟩
  | .hbm, ⟨3, _⟩ => ⟨S1x1024, .f32⟩
  | .hbm, ⟨4, _⟩ => ⟨S2816x1024, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S4096x1024, .f32⟩
  | .hbm, ⟨26, _⟩ => ⟨S4096x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== GateScalarsBwd.lean ====
abbrev S2x2048x5640 : Shape := ⟨3, ![2, 2048, 5640]⟩
abbrev S1x4 : Shape := ⟨2, ![1, 4]⟩
abbrev S2x2048x4 : Shape := ⟨3, ![2, 2048, 4]⟩
abbrev S4096x5640 : Shape := ⟨2, ![4096, 5640]⟩
abbrev S5640x4096 : Shape := ⟨2, ![5640, 4096]⟩
abbrev S5760x1 : Shape := ⟨2, ![5760, 1]⟩
abbrev S_ : Shape := ⟨0, ![]⟩
abbrev S5760x4096 : Shape := ⟨2, ![5760, 4096]⟩
abbrev S5632x4096 : Shape := ⟨2, ![5632, 4096]⟩
abbrev S3592x4096 : Shape := ⟨2, ![3592, 4096]⟩
abbrev S128x4096 : Shape := ⟨2, ![128, 4096]⟩
abbrev S4096x128 : Shape := ⟨2, ![4096, 128]⟩
abbrev S1x120 : Shape := ⟨2, ![1, 120]⟩
abbrev S1x128 : Shape := ⟨2, ![1, 128]⟩
abbrev S4096x4 : Shape := ⟨2, ![4096, 4]⟩
abbrev S4096x120 : Shape := ⟨2, ![4096, 120]⟩
abbrev S1024x128 : Shape := ⟨2, ![1024, 128]⟩
abbrev S128 : Shape := ⟨1, ![128]⟩

abbrev nBuf : Space → Nat
  | .hbm => 56
  | .vmem => 10
  | .smem => 0
  | _ => 0

abbrev bufTy : (tb : Table) → Fin (tcTables nBuf tb) → BufTy
  | .hbm, ⟨0, _⟩ => ⟨S2x2048x5640, .f32⟩
  | .hbm, ⟨1, _⟩ => ⟨S1x4, .f32⟩
  | .hbm, ⟨2, _⟩ => ⟨S1x4, .f32⟩
  | .hbm, ⟨3, _⟩ => ⟨S2x2048x4, .f32⟩
  | .hbm, ⟨4, _⟩ => ⟨S2x2048x4, .f32⟩
  | .hbm, ⟨5, _⟩ => ⟨S4096x5640, .f32⟩
  | .hbm, ⟨6, _⟩ => ⟨S5640x4096, .f32⟩
  | .hbm, ⟨7, _⟩ => ⟨S5760x1, .i32⟩
  | .hbm, ⟨8, _⟩ => ⟨S_, .i32⟩
  | .hbm, ⟨9, _⟩ => ⟨S_, .f32⟩
  | .hbm, ⟨10, _⟩ => ⟨S5760x4096, .f32⟩
  | .hbm, ⟨11, _⟩ => ⟨S5632x4096, .f32⟩
  | .hbm, ⟨12, _⟩ => ⟨S_, .i32⟩
  | .hbm, ⟨13, _⟩ => ⟨S_, .f32⟩
  | .hbm, ⟨14, _⟩ => ⟨S5760x4096, .f32⟩
  | .hbm, ⟨15, _⟩ => ⟨S3592x4096, .f32⟩
  | .hbm, ⟨16, _⟩ => ⟨S_, .i32⟩
  | .hbm, ⟨17, _⟩ => ⟨S_, .f32⟩
  | .hbm, ⟨18, _⟩ => ⟨S5760x4096, .f32⟩
  | .hbm, ⟨19, _⟩ => ⟨S_, .i32⟩
  | .hbm, ⟨20, _⟩ => ⟨S5760x1, .i32⟩
  | .hbm, ⟨21, _⟩ => ⟨S5760x1, .i1⟩
  | .hbm, ⟨22, _⟩ => ⟨S_, .i32⟩
  | .hbm, ⟨23, _⟩ => ⟨S5760x1, .i32⟩
  | .hbm, ⟨24, _⟩ => ⟨S5760x1, .i1⟩
  | .hbm, ⟨25, _⟩ => ⟨S_, .i32⟩
  | .hbm, ⟨26, _⟩ => ⟨S5760x1, .i32⟩
  | .hbm, ⟨27, _⟩ => ⟨S5760x1, .i1⟩
  | .hbm, ⟨28, _⟩ => ⟨S_, .f32⟩
  | .hbm, ⟨29, _⟩ => ⟨S5760x4096, .i1⟩
  | .hbm, ⟨30, _⟩ => ⟨S5760x4096, .f32⟩
  | .hbm, ⟨31, _⟩ => ⟨S5760x4096, .f32⟩
  | .hbm, ⟨32, _⟩ => ⟨S5760x4096, .i1⟩
  | .hbm, ⟨33, _⟩ => ⟨S5760x4096, .f32⟩
  | .hbm, ⟨34, _⟩ => ⟨S5760x4096, .i1⟩
  | .hbm, ⟨35, _⟩ => ⟨S5760x4096, .f32⟩
  | .hbm, ⟨36, _⟩ => ⟨S128x4096, .f32⟩
  | .hbm, ⟨37, _⟩ => ⟨S4096x128, .f32⟩
  | .hbm, ⟨38, _⟩ => ⟨S_, .f32⟩
  | .hbm, ⟨39, _⟩ => ⟨S1x4, .f32⟩
  | .hbm, ⟨40, _⟩ => ⟨S_, .f32⟩
  | .hbm, ⟨41, _⟩ => ⟨S1x120, .f32⟩
  | .hbm, ⟨42, _⟩ => ⟨S1x128, .f32⟩
  | .hbm, ⟨43, _⟩ => ⟨S_, .f32⟩
  | .hbm, ⟨44, _⟩ => ⟨S1x4, .f32⟩
  | .hbm, ⟨45, _⟩ => ⟨S_, .f32⟩
  | .hbm, ⟨46, _⟩ => ⟨S1x120, .f32⟩
  | .hbm, ⟨47, _⟩ => ⟨S1x128, .f32⟩
  | .hbm, ⟨48, _⟩ => ⟨S4096x4, .f32⟩
  | .hbm, ⟨49, _⟩ => ⟨S4096x4, .f32⟩
  | .hbm, ⟨50, _⟩ => ⟨S_, .f32⟩
  | .hbm, ⟨51, _⟩ => ⟨S4096x120, .f32⟩
  | .hbm, ⟨52, _⟩ => ⟨S4096x128, .f32⟩
  | .hbm, ⟨53, _⟩ => ⟨S4096x128, .bf16⟩
  | .hbm, ⟨54, _⟩ => ⟨S1x128, .f32⟩
  | .hbm, ⟨55, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1x128, .f32⟩
  | .local _ .vmem, ⟨6, _⟩ => ⟨S1024x128, .bf16⟩
  | .local _ .vmem, ⟨7, _⟩ => ⟨S1024x128, .bf16⟩
  | .local _ .vmem, ⟨8, _⟩ => ⟨S1x128, .f32⟩
  | .local _ .vmem, ⟨9, _⟩ => ⟨S1x128, .f32⟩
  | _, _ => ⟨S2x2048x5640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_call3_v0 : Ref sig .tc := ⟨.hbm, 29, rfl⟩
abbrev main_call3_v1 : Ref sig .tc := ⟨.hbm, 30, rfl⟩
abbrev main_v14 : Ref sig .tc := ⟨.hbm, 31, rfl⟩
abbrev main_call4_v0 : Ref sig .tc := ⟨.hbm, 32, rfl⟩
abbrev main_v15 : Ref sig .tc := ⟨.hbm, 33, rfl⟩
abbrev main_call5_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_v21 : Ref sig .tc := ⟨.hbm, 42, rfl⟩
abbrev main_cst_7 : Ref sig .tc := ⟨.hbm, 43, rfl⟩
abbrev main_v22 : Ref sig .tc := ⟨.hbm, 44, rfl⟩
abbrev main_cst_8 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_9 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v74 : BitVec 1 := Scalar.cmpi .eq arg1 c0_i32
  let arg0 : BitVec 32 := BitVec.ofNat 32 (i 0).val
  let c0_i32_27 : BitVec 32 := 0#32
  let v75 : BitVec 1 := Scalar.cmpi .eq arg0 c0_i32_27
  let v76 : BitVec 1 := Scalar.andi v74 v75
  let v77 : BitVec 32 := Scalar.extui v76
  let c0_i32_28 : BitVec 32 := 0#32
  let v78 : BitVec 1 := Scalar.cmpi .ne v77 c0_i32_28
  v78

def k0_cond2 (i : grid0.Coords) : BitVec 1 :=
  let arg1 : BitVec 32 := BitVec.ofNat 32 (i 1).val
  let c0_i32 : BitVec 32 := 0#32
  let v74 : BitVec 1 := Scalar.cmpi .eq arg1 c0_i32
  let arg0 : BitVec 32 := BitVec.ofNat 32 (i 0).val
  let c0_i32_27 : BitVec 32 := 0#32
  let v75 : BitVec 1 := Scalar.cmpi .eq arg0 c0_i32_27
  let v76 : BitVec 1 := Scalar.andi v74 v75
  let v_true : BitVec 1 := 1#1
  let v79 : BitVec 1 := Scalar.xori v76 v_true
  let v80 : BitVec 32 := Scalar.extui v79
  let c0_i32_29 : BitVec 32 := 0#32
  let v81 : BitVec 1 := Scalar.cmpi .ne v80 c0_i32_29
  v81

def k0_cond3 (i : grid0.Coords) : BitVec 1 :=
  let arg1 : BitVec 32 := BitVec.ofNat 32 (i 1).val
  let c0_i32_30 : BitVec 32 := 0#32
  let v82 : BitVec 1 := Scalar.cmpi .eq arg1 c0_i32_30
  let arg0 : BitVec 32 := BitVec.ofNat 32 (i 0).val
  let c0_i32_31 : BitVec 32 := 0#32
  let v83 : BitVec 1 := Scalar.cmpi .eq arg0 c0_i32_31
  let v84 : BitVec 1 := Scalar.andi v82 v83
  let v85 : BitVec 32 := Scalar.extui v84
  let c0_i32_32 : BitVec 32 := 0#32
  let v86 : BitVec 1 := Scalar.cmpi .ne v85 c0_i32_32
  v86

def k0_cond4 (i : grid0.Coords) : BitVec 1 :=
  let arg1 : BitVec 32 := BitVec.ofNat 32 (i 1).val
  let c0_i32_30 : BitVec 32 := 0#32
  let v82 : BitVec 1 := Scalar.cmpi .eq arg1 c0_i32_30
  let arg0 : BitVec 32 := BitVec.ofNat 32 (i 0).val
  let c0_i32_31 : BitVec 32 := 0#32
  let v83 : BitVec 1 := Scalar.cmpi .eq arg0 c0_i32_31
  let v84 : BitVec 1 := Scalar.andi v82 v83
  let true_33 : BitVec 1 := 1#1
  let v87 : BitVec 1 := Scalar.xori v84 true_33
  let v88 : BitVec 32 := Scalar.extui v87
  let c0_i32_34 : BitVec 32 := 0#32
  let v89 : BitVec 1 := Scalar.cmpi .ne v88 c0_i32_34
  v89

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GateScalarsRefIdeal.lean ====
abbrev S2x2048x5640 : Shape := ⟨3, ![2, 2048, 5640]⟩
abbrev S1x4 : Shape := ⟨2, ![1, 4]⟩
abbrev S2x2048x4 : Shape := ⟨3, ![2, 2048, 4]⟩
abbrev S_ : Shape := ⟨0, ![]⟩
abbrev S4 : Shape := ⟨1, ![4]⟩
abbrev S1x1x4 : Shape := ⟨3, ![1, 1, 4]⟩
abbrev S4096x4 : Shape := ⟨2, ![4096, 4]⟩
abbrev S4096x120 : Shape := ⟨2, ![4096, 120]⟩
abbrev S4096x128 : Shape := ⟨2, ![4096, 128]⟩
abbrev S1x120 : Shape := ⟨2, ![1, 120]⟩
abbrev S1x128 : Shape := ⟨2, ![1, 128]⟩

abbrev nBuf : Space → Nat
  | .hbm => 110
  | .vmem => 0
  | .smem => 0
  | _ => 0

abbrev bufTy : (tb : Table) → Fin (tcTables nBuf tb) → BufTy
  | .hbm, ⟨0, _⟩ => ⟨S2x2048x5640, .f32⟩
  | .hbm, ⟨1, _⟩ => ⟨S1x4, .f32⟩
  | .hbm, ⟨2, _⟩ => ⟨S1x4, .f32⟩
  | .hbm, ⟨3, _⟩ => ⟨S2x2048x4, .f32⟩
  | .hbm, ⟨4, _⟩ => ⟨S2x2048x4, .f32⟩
  | .hbm, ⟨5, _⟩ => ⟨S2x2048x4, .f32⟩
  | .hbm, ⟨6, _⟩ => ⟨S2x2048x4, .f32⟩
  | .hbm, ⟨7, _⟩ => ⟨S2x2048x4, .f32⟩
  | .hbm, ⟨8, _⟩ => ⟨S2x2048x4, .f32⟩
  | .hbm, ⟨9, _⟩ => ⟨S_, .f32⟩
  | .hbm, ⟨10, _⟩ => ⟨S2x2048x4, .f32⟩
  | .hbm, ⟨11, _⟩ => ⟨S2x2048x4, .f32⟩
  | .hbm, ⟨12, _⟩ => ⟨S_, .f32⟩
  | .hbm, ⟨13, _⟩ => ⟨S2x2048x4, .f32⟩
  | .hbm, ⟨14, _⟩ => ⟨S2x2048x4, .f32⟩
  | .hbm, ⟨15, _⟩ => ⟨S_, .f32⟩
  | .hbm, ⟨16, _⟩ => ⟨S2x2048x4, .f32⟩
  | .hbm, ⟨17, _⟩ => ⟨S2x2048x4, .f32⟩
  | .hbm, ⟨18, _⟩ => ⟨S2x2048x4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S1x1x4, .f32⟩
  | .hbm, ⟨24, _⟩ => ⟨S2x2048x4, .f32⟩
  | .hbm, ⟨25, _⟩ => ⟨S2x2048x4, .f32⟩
  | .hbm, ⟨26, _⟩ => ⟨S_, .f32⟩
  | .hbm, ⟨27, _⟩ => ⟨S2x2048x4, .f32⟩
  | .hbm, ⟨28, _⟩ => ⟨S2x2048x4, .f32⟩
  | .hbm, ⟨29, _⟩ => ⟨S2x2048x4, .f32⟩
  | .hbm, ⟨30, _⟩ => ⟨S2x2048x4, .f32⟩
  | .hbm, ⟨31, _⟩ => ⟨S2x2048x4, .i1⟩
  | .hbm, ⟨32, _⟩ => ⟨S2x2048x4, .f32⟩
  | .hbm, ⟨33, _⟩ => ⟨S2x2048x4, .f32⟩
  | .hbm, ⟨34, _⟩ => ⟨S2x2048x4, .f32⟩
  | .hbm, ⟨35, _⟩ => ⟨S2x2048x4, .f32⟩
  | .hbm, ⟨36, _⟩ => ⟨S2x2048x4, .f32⟩
  | .hbm, ⟨37, _⟩ => ⟨S2x2048x4, .f32⟩
  | .hbm, ⟨38, _⟩ => ⟨S2x2048x4, .f32⟩
  | .hbm, ⟨39, _⟩ => ⟨S2x2048x4, .f32⟩
  | .hbm, ⟨40, _⟩ => ⟨S_, .f32⟩
  | .hbm, ⟨41, _⟩ => ⟨S2x2048x4, .f32⟩
  | .hbm, ⟨42, _⟩ => ⟨S2x2048x4, .i1⟩
  | .hbm, ⟨43, _⟩ => ⟨S_, .f32⟩
  | .hbm, ⟨44, _⟩ => ⟨S2x2048x4, .f32⟩
  | .hbm, ⟨45, _⟩ => ⟨S2x2048x4, .f32⟩
  | .hbm, ⟨46, _⟩ => ⟨S_, .f32⟩
  | .hbm, ⟨47, _⟩ => ⟨S2x2048x4, .f32⟩
  | .hbm, ⟨48, _⟩ => ⟨S2x2048x4, .i1⟩
  | .hbm, ⟨49, _⟩ => ⟨S_, .f32⟩
  | .hbm, ⟨50, _⟩ => ⟨S2x2048x4, .f32⟩
  | .hbm, ⟨51, _⟩ => ⟨S2x2048x4, .f32⟩
  | .hbm, ⟨52, _⟩ => ⟨S2x2048x4, .f32⟩
  | .hbm, ⟨53, _⟩ => ⟨S2x2048x4, .f32⟩
  | .hbm, ⟨54, _⟩ => ⟨S_, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2x2048x4, .f32⟩
  | .hbm, ⟨62, _⟩ => ⟨S2x2048x4, .i1⟩
  | .hbm, ⟨63, _⟩ => ⟨S_, .f32⟩
  | .hbm, ⟨64, _⟩ => ⟨S2x2048x4, .f32⟩
  | .hbm, ⟨65, _⟩ => ⟨S2x2048x4, .f32⟩
  | .hbm, ⟨66, _⟩ => ⟨S2x2048x4, .f32⟩
  | .hbm, ⟨67, _⟩ => ⟨S2x2048x4, .f32⟩
  | .hbm, ⟨68, _⟩ => ⟨S2x2048x4, .f32⟩
  | .hbm, ⟨69, _⟩ => ⟨S_, .f32⟩
  | .hbm, ⟨70, _⟩ => ⟨S2x2048x4, .f32⟩
  | .hbm, ⟨71, _⟩ => ⟨S2x2048x4, .f32⟩
  | .hbm, ⟨72, _⟩ => ⟨S1x1x4, .f32⟩
  | .hbm, ⟨73, _⟩ => ⟨S2x2048x4, .f32⟩
  | .hbm, ⟨74, _⟩ => ⟨S2x2048x4, .f32⟩
  | .hbm, ⟨75, _⟩ => ⟨S2x2048x4, .f32⟩
  | .hbm, ⟨76, _⟩ => ⟨S2x2048x4, .f32⟩
  | .hbm, ⟨77, _⟩ => ⟨S2x2048x4, .f32⟩
  | .hbm, ⟨78, _⟩ => ⟨S_, .f32⟩
  | .hbm, ⟨79, _⟩ => ⟨S4, .f32⟩
  | .hbm, ⟨80, _⟩ => ⟨S1x1x4, .f32⟩
  | .hbm, ⟨81, _⟩ => ⟨S_, .f32⟩
  | .hbm, ⟨82, _⟩ => ⟨S4, .f32⟩
  | .hbm, ⟨83, _⟩ => ⟨S2x2048x4, .f32⟩
  | .hbm, ⟨84, _⟩ => ⟨S_, .f32⟩
  | .hbm, ⟨85, _⟩ => ⟨S4, .f32⟩
  | .hbm, ⟨86, _⟩ => ⟨S1x1x4, .f32⟩
  | .hbm, ⟨87, _⟩ => ⟨S_, .f32⟩
  | .hbm, ⟨88, _⟩ => ⟨S4, .f32⟩
  | .hbm, ⟨89, _⟩ => ⟨S1x4, .f32⟩
  | .hbm, ⟨90, _⟩ => ⟨S4, .f32⟩
  | .hbm, ⟨91, _⟩ => ⟨S4, .f32⟩
  | .hbm, ⟨92, _⟩ => ⟨S1x4, .f32⟩
  | .hbm, ⟨93, _⟩ => ⟨S2x2048x4, .f32⟩
  | .hbm, ⟨94, _⟩ => ⟨S4096x4, .f32⟩
  | .hbm, ⟨95, _⟩ => ⟨S4096x4, .f32⟩
  | .hbm, ⟨96, _⟩ => ⟨S_, .f32⟩
  | .hbm, ⟨97, _⟩ => ⟨S4096x120, .f32⟩
  | .hbm, ⟨98, _⟩ => ⟨S4096x128, .f32⟩
  | .hbm, ⟨99, _⟩ => ⟨S4096x128, .bf16⟩
  | .hbm, ⟨100, _⟩ => ⟨S_, .f32⟩
  | .hbm, ⟨101, _⟩ => ⟨S1x4, .f32⟩
  | .hbm, ⟨102, _⟩ => ⟨S_, .f32⟩
  | .hbm, ⟨103, _⟩ => ⟨S1x120, .f32⟩
  | .hbm, ⟨104, _⟩ => ⟨S1x128, .f32⟩
  | .hbm, ⟨105, _⟩ => ⟨S_, .f32⟩
  | .hbm, ⟨106, _⟩ => ⟨S1x4, .f32⟩
  | .hbm, ⟨107, _⟩ => ⟨S_, .f32⟩
  | .hbm, ⟨108, _⟩ => ⟨S1x120, .f32⟩
  | .hbm, ⟨109, _⟩ => ⟨S1x128, .f32⟩
  | _, _ => ⟨S2x2048x5640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v18_0 : Ref sig .tc := ⟨.hbm, 39, rfl⟩
abbrev main_call0_cst_0 : Ref sig .tc := ⟨.hbm, 40, rfl⟩
abbrev main_call0_v13 : Ref sig .tc := ⟨.hbm, 41, rfl⟩
abbrev main_call0_v14 : Ref sig .tc := ⟨.hbm, 42, rfl⟩
abbrev main_call0_cst_1 : Ref sig .tc := ⟨.hbm, 43, rfl⟩
abbrev main_call0_v15 : Ref sig .tc := ⟨.hbm, 44, rfl⟩
abbrev main_call0_v16 : Ref sig .tc := ⟨.hbm, 45, rfl⟩
abbrev main_call0_cst_2 : Ref sig .tc := ⟨.hbm, 46, rfl⟩
abbrev main_call0_v17 : Ref sig .tc := ⟨.hbm, 47, rfl⟩
abbrev main_call0_v18 : Ref sig .tc := ⟨.hbm, 48, rfl⟩
abbrev main_call0_cst_3 : Ref sig .tc := ⟨.hbm, 49, rfl⟩
abbrev main_call0_v19 : Ref sig .tc := ⟨.hbm, 50, rfl⟩
abbrev main_call0_v20 : Ref sig .tc := ⟨.hbm, 51, rfl⟩
abbrev main_call0_v21 : Ref sig .tc := ⟨.hbm, 52, rfl⟩
abbrev main_v18_1 : Ref sig .tc := ⟨.hbm, 53, rfl⟩
abbrev main_call0_cst_4 : Ref sig .tc := ⟨.hbm, 54, rfl⟩
abbrev main_call0_cst_5 : Ref sig .tc := ⟨.hbm, 55, rfl⟩
abbrev main_call0_v23 : Ref sig .tc := ⟨.hbm, 56, rfl⟩
abbrev main_call0_cst_6 : Ref sig .tc := ⟨.hbm, 57, rfl⟩
abbrev main_call0_cst_7 : Ref sig .tc := ⟨.hbm, 58, rfl⟩
abbrev main_call0_v24 : Ref sig .tc := ⟨.hbm, 59, rfl⟩
abbrev main_call0_cst_8 : Ref sig .tc := ⟨.hbm, 60, rfl⟩
abbrev main_call0_v25 : Ref sig .tc := ⟨.hbm, 61, rfl⟩
abbrev main_call0_v26 : Ref sig .tc := ⟨.hbm, 62, rfl⟩
abbrev main_call0_cst_9 : Ref sig .tc := ⟨.hbm, 63, rfl⟩
abbrev main_call0_v27 : Ref sig .tc := ⟨.hbm, 64, rfl⟩
abbrev main_call0_v28 : Ref sig .tc := ⟨.hbm, 65, rfl⟩
abbrev main_call0_v29 : Ref sig .tc := ⟨.hbm, 66, rfl⟩
abbrev main_call0_v30 : Ref sig .tc := ⟨.hbm, 67, rfl⟩
abbrev main_call0_v31 : Ref sig .tc := ⟨.hbm, 68, rfl⟩
abbrev main_call0_cst_10 : Ref sig .tc := ⟨.hbm, 69, rfl⟩
abbrev main_call0_v32 : Ref sig .tc := ⟨.hbm, 70, rfl⟩
abbrev main_v18_2 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_cst_2 : Ref sig .tc := ⟨.hbm, 78, rfl⟩
abbrev main_v25 : Ref sig .tc := ⟨.hbm, 79, rfl⟩
abbrev main_v26 : Ref sig .tc := ⟨.hbm, 80, rfl⟩
abbrev main_cst_3 : Ref sig .tc := ⟨.hbm, 81, rfl⟩
abbrev main_v27 : Ref sig .tc := ⟨.hbm, 82, rfl⟩
abbrev main_v28 : Ref sig .tc := ⟨.hbm, 83, rfl⟩
abbrev main_cst_4 : Ref sig .tc := ⟨.hbm, 84, rfl⟩
abbrev main_v29 : Ref sig .tc := ⟨.hbm, 85, rfl⟩
abbrev main_v30 : Ref sig .tc := ⟨.hbm, 86, rfl⟩
abbrev main_cst_5 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_cst_6 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_cst_7 : Ref sig .tc := ⟨.hbm, 100, rfl⟩
abbrev main_v42 : Ref sig .tc := ⟨.hbm, 101, rfl⟩
abbrev main_cst_8 : Ref sig .tc := ⟨.hbm, 102, rfl⟩
abbrev main_v43 : Ref sig .tc := ⟨.hbm, 103, rfl⟩
abbrev main_v44 : Ref sig .tc := ⟨.hbm, 104, rfl⟩
abbrev main_cst_9 : Ref sig .tc := ⟨.hbm, 105, rfl⟩
abbrev main_v45 : Ref sig .tc := ⟨.hbm, 106, rfl⟩
abbrev main_cst_10 : Ref sig .tc := ⟨.hbm, 107, rfl⟩
abbrev main_v46 : Ref sig .tc := ⟨.hbm, 108, rfl⟩
abbrev main_v47 : Ref sig .tc := ⟨.hbm, 109, rfl⟩

abbrev nD : Nat := 1
abbrev τ : Topo := Topo.v7x

variable {F : FTy → Type} [FloatOps F]
-- ==== WeightBwd.lean ====
abbrev S2x2048x1024 : Shape := ⟨3, ![2, 2048, 1024]⟩
abbrev S2x2048x5632 : Shape := ⟨3, ![2, 2048, 5632]⟩
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S4096x5632, .f32⟩
  | .hbm, ⟨3, _⟩ => ⟨S4096x5632, .bf16⟩
  | .hbm, ⟨4, _⟩ => ⟨S4096x1024, .f32⟩
  | .hbm, ⟨5, _⟩ => ⟨S4096x1024, .bf16⟩
  | .hbm, ⟨6, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightRefIdeal.lean ====
abbrev S2x2048x1024 : Shape := ⟨3, ![2, 2048, 1024]⟩
abbrev S2x2048x5632 : Shape := ⟨3, ![2, 2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x5632, .f32⟩
  | .hbm, ⟨2, _⟩ => ⟨S_, .f32⟩
  | .hbm, ⟨3, _⟩ => ⟨S1024x5632, .f32⟩
  | .hbm, ⟨4, _⟩ => ⟨S2x2048x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InputBwd.lean ====
abbrev S1x1024x1024 : Shape := ⟨3, ![1, 1024, 1024]⟩
abbrev S2x2048x1024 : Shape := ⟨3, ![2, 2048, 1024]⟩
abbrev S4096x1024 : Shape := ⟨2, ![4096, 1024]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S2x2048x1024, .f32⟩
  | .hbm, ⟨2, _⟩ => ⟨S4096x1024, .f32⟩
  | .hbm, ⟨3, _⟩ => ⟨S4096x1024, .bf16⟩
  | .hbm, ⟨4, _⟩ => ⟨S1024x1024, .f32⟩
  | .hbm, ⟨5, _⟩ => ⟨S1024x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InputRefIdeal.lean ====
abbrev S1x1024x1024 : Shape := ⟨3, ![1, 1024, 1024]⟩
abbrev S2x2048x1024 : Shape := ⟨3, ![2, 2048, 1024]⟩
abbrev S_ : Shape := ⟨0, ![]⟩
abbrev S1024x1024 : Shape := ⟨2, ![1024, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S2x2048x1024, .f32⟩
  | .hbm, ⟨2, _⟩ => ⟨S_, .f32⟩
  | .hbm, ⟨3, _⟩ => ⟨S2x2048x1024, .f32⟩
  | .hbm, ⟨4, _⟩ => ⟨S1024x1024, .f32⟩
  | .hbm, ⟨5, _⟩ => ⟨S2x2048x1024, .f32⟩
  | .hbm, ⟨6, _⟩ => ⟨S2x2048x1024, .f32⟩
  | .hbm, ⟨7, _⟩ => ⟨S4096x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adamw.lean ====
abbrev S1x1024 : Shape := ⟨2, ![1, 1024]⟩
abbrev S1x512 : Shape := ⟨2, ![1, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shared.Rows.lean ====
/-
  Indices shared by the pairs: the step works on the two sequences' rows one under the other (4096 rows), reference.py on [batch, position, channel].
-/
module

public import Idealize.ShloMosaic.Lib.Pointwise

@[expose] public section

namespace Cert.Rows

open Idealize.ShloMosaic

/-- Row `r` of the 4096 stacked rows, channel `k`: batch `r / 2048`, position `r % 2048`. -/
abbrev tok {n : Nat} (r : Fin 4096) (k : Fin n) : (⟨3, ![2, 2048, n]⟩ : Shape).Idx :=
  ix3 ⟨r.1 / 2048, by omega⟩ ⟨r.1 % 2048, by omega⟩ k

theorem tok_congr {n : Nat} {r r' : Fin 4096} {k k' : Fin n} (hr : r.1 = r'.1) (hk : k.1 = k'.1) : tok r k = tok r' k' := by
  obtain rfl := Fin.ext hr
  obtain rfl := Fin.ext hk
  rfl

/-- A function of row and column, as an array. -/
abbrev arr {α : Type} {p n : Nat} (f : Fin p → Fin n → α) : (⟨2, ![p, n]⟩ : Shape).Idx → α := fun j => f (j 0) (j 1)

/-- An array is such a function when it is at every row and column. -/
theorem arr_ext {α : Type} {p n : Nat} {x : (⟨2, ![p, n]⟩ : Shape).Idx → α} {f : Fin p → Fin n → α} (h : ∀ r k, x (ix2 r k) = f r k) : x = arr f := by
  funext j
  have e : ix2 (j 0) (j 1) = j := funext fun a => match a with | ⟨0, _⟩ => rfl | ⟨1, _⟩ => rfl
  exact (congrArg x e).symm.trans (h (j 0) (j 1))

theorem hostReduceAdd_all (n0 n1 : Nat) (h : (⟨2, ![n0, n1]⟩ : Shape).ReducesTo [0, 1] ⟨0, ![]⟩)
    (v : (⟨2, ![n0, n1]⟩ : Shape).Idx → EReal) (c : EReal) (j : (⟨0, ![]⟩ : Shape).Idx) :
    Ideal.hostReduceAdd h v c j = c + ∑ b : Fin n0, ∑ l : Fin n1, v (ix2 b l) := by
  have fiber : ∀ i : (⟨2, ![n0, n1]⟩ : Shape).Idx, h.drop i = j ↔ ∃ p : Fin n0 × Fin n1, ix2 p.1 p.2 = i := by
    intro i
    refine ⟨fun _ => ⟨(i 0, i 1), ?_⟩, fun _ => Subsingleton.elim _ _⟩
    funext a
    match a with
    | ⟨0, _⟩ => rfl
    | ⟨1, _⟩ => rfl
  unfold Ideal.hostReduceAdd
  refine congrArg (c + ·) ((Finset.sum_filter_eq_sum_of_fiber _ (fun p : Fin n0 × Fin n1 => ix2 p.1 p.2)
    (fun _ _ e => Prod.ext (congrFun e 0) (congrFun e 1)) fiber v).trans ?_)
  simp only [Fintype.sum_prod_type]

end Cert.Rows

end
-- ==== Proof.Merge.Spec.lean ====
/-
  The gradient of `sigmoid(gate_a) * t_a + sigmoid(gate_b) * t_b`, element by element: what both programs of the pair are shown to compute.
-/
module

public import proofs.«01_k».proof.Proof.Shared.Rows
public import Idealize.ShloMosaic.PureOps.Ideal

@[expose] public section

noncomputable section

namespace Cert.Merge

open Idealize.ShloMosaic Cert.Rows

/-- An array [2, 2048, n] over the extended reals. -/
abbrev Arr (n : Nat) := (⟨3, ![2, 2048, n]⟩ : Shape).Idx → EReal

/-- The gate's gradient at stacked row `r`, channel `k`, for the gate whose channel `k` is the projection's column `q k`. -/
def dgate (q : Fin 1024 → Fin 5640) (proj : Arr 5640) (t dm : Arr 1024) (r : Fin 4096) (k : Fin 1024) : EReal :=
  dm (tok r k) * t (tok r k) * (Ideal.logistic (proj (tok r (q k))) * (1 - Ideal.logistic (proj (tok r (q k)))))

/-- The gradient of the branch output that the gate multiplies. -/
def dbranch (q : Fin 1024 → Fin 5640) (proj : Arr 5640) (dm : Arr 1024) (r : Fin 4096) (k : Fin 1024) : EReal :=
  Ideal.logistic (proj (tok r (q k))) * dm (tok r k)

/-- The columns of the first gate, -/
def colA (k : Fin 1024) : Fin 5640 := ⟨3592 + k.1, by omega⟩

/-- and of the second. -/
def colB (k : Fin 1024) : Fin 5640 := ⟨4616 + k.1, by omega⟩

/-- The merge itself. -/
def fwd (proj : Arr 5640) (ta tb : Arr 1024) (r : Fin 4096) (k : Fin 1024) : EReal :=
  Ideal.logistic (proj (tok r (colA k))) * ta (tok r k) + Ideal.logistic (proj (tok r (colB k))) * tb (tok r k)

end Cert.Merge

end
-- ==== Proof.Merge.Ref.lean ====
/-
  What the reference's four results hold: the specification's four gradients.
-/
module

public import proofs.«01_k».proof.Proof.Merge.Spec
public import proofs.«01_k».proof.Proof.Gen.MergeRefIdeal.Run
public import Idealize.ShloMosaic.Lib.StableHlo.ReadAt
public import Idealize.ShloMosaic.Lib.Tactic.WordOmega

@[expose] public section

set_option maxRecDepth 16384

noncomputable section

namespace Cert.MergeRefIdeal.Val

open Cert.MergeRefIdeal Cert.MergeRefIdeal.Value Cert.Rows
open Idealize.ShloMosaic Idealize.ShloMosaic.TcCoe Idealize.SL.Sem Idealize.ShloMosaic.StableHlo

variable (U : Valuation τ sig (Elt Ideal))

theorem colB_eq (k : Fin 1024) (h : 3592 + (1024 + k.1) < 5640) : (⟨3592 + (1024 + k.1), h⟩ : Fin 5640) = Cert.Merge.colB k :=
  Fin.ext (by simp only [Cert.Merge.colB]; omega)

theorem res_ga (r : Fin 4096) (k : Fin 1024) : after ops U (Proc.devRef .tc main_v38) (ix2 r k)
    = Cert.Merge.dgate Cert.Merge.colA (U (Proc.devRef .tc main_arg0)) (U (Proc.devRef .tc main_arg1)) (U (Proc.devRef .tc main_arg3)) r k := by
  after_reads_at
  split_ifs with h1 h2 h2
  · exact h1.2.2.1.elim
  · omega
  · exact zero_add (_ : EReal)
  · omega

theorem res_gb (r : Fin 4096) (k : Fin 1024) : after ops U (Proc.devRef .tc main_v40) (ix2 r k)
    = Cert.Merge.dgate Cert.Merge.colB (U (Proc.devRef .tc main_arg0)) (U (Proc.devRef .tc main_arg2)) (U (Proc.devRef .tc main_arg3)) r k := by
  after_reads_at
  simp only [colB_eq]
  split_ifs with h1 h2 h2
  · exact h2.2.2.elim
  · exact add_zero (_ : EReal)
  · omega
  · omega

theorem res_ta (r : Fin 4096) (k : Fin 1024) : after ops U (Proc.devRef .tc main_v42) (ix2 r k)
    = Cert.Merge.dbranch Cert.Merge.colA (U (Proc.devRef .tc main_arg0)) (U (Proc.devRef .tc main_arg3)) r k := by
  after_reads_at
  rfl

theorem res_tb (r : Fin 4096) (k : Fin 1024) : after ops U (Proc.devRef .tc main_v44) (ix2 r k)
    = Cert.Merge.dbranch Cert.Merge.colB (U (Proc.devRef .tc main_arg0)) (U (Proc.devRef .tc main_arg3)) r k := by
  after_reads_at
  simp only [colB_eq]
  rfl

/-- The run: the four results at the specification, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = arr (Cert.Merge.dgate Cert.Merge.colA (m ((c.tc : Thread nD τ).loc main_arg0)) (m ((c.tc : Thread nD τ).loc main_arg1)) (m ((c.tc : Thread nD τ).loc main_arg3)))
      ∧ r.2.mem ((c.tc : Thread nD τ).loc main_v40) = arr (Cert.Merge.dgate Cert.Merge.colB (m ((c.tc : Thread nD τ).loc main_arg0)) (m ((c.tc : Thread nD τ).loc main_arg2)) (m ((c.tc : Thread nD τ).loc main_arg3)))
      ∧ r.2.mem ((c.tc : Thread nD τ).loc main_v42) = arr (Cert.Merge.dbranch Cert.Merge.colA (m ((c.tc : Thread nD τ).loc main_arg0)) (m ((c.tc : Thread nD τ).loc main_arg3)))
      ∧ r.2.mem ((c.tc : Thread nD τ).loc main_v44) = arr (Cert.Merge.dbranch Cert.Merge.colB (m ((c.tc : Thread nD τ).loc main_arg0)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c _).trans (arr_ext fun _ _ => res_ga _ _ _), (h c _).trans (arr_ext fun _ _ => res_gb _ _ _),
      (h c _).trans (arr_ext fun _ _ => res_ta _ _ _), (h c _).trans (arr_ext fun _ _ => res_tb _ _ _),
      (h c _).trans (by after_reads_simp), (h c _).trans (by after_reads_simp), (h c _).trans (by after_reads_simp),
      (h c _).trans (by after_reads_simp)⟩)
    (run_seq scopedRefs_eq scopedSems_eq defs main (fun _ => ops) main_eq (fun _ => ops_sub) m ρ)

end Cert.MergeRefIdeal.Val

end
-- ==== Proof.Conv.Spec.lean ====
/-
  The gradient of `silu(pre)`, `pre` the causal depthwise convolution with four taps, element by element: what both programs of the pair are
  shown to compute. Rows are the two sequences' 2048 positions one under the other.
-/
module

public import proofs.«01_k».proof.Proof.Shared.Rows
public import Idealize.ShloMosaic.PureOps.Ideal

@[expose] public section

noncomputable section

namespace Cert.Conv

open Idealize.ShloMosaic Cert.Rows

/-- An array [2, 2048, n] over the extended reals. -/
abbrev Arr (n : Nat) := (⟨3, ![2, 2048, n]⟩ : Shape).Idx → EReal

/-- The taps, [1, 4, 1536]. -/
abbrev Taps := (⟨3, ![1, 4, 1536]⟩ : Shape).Idx → EReal

/-- The projection's column of the convolution's channel `k`. -/
def colX (k : Fin 1536) : Fin 5640 := ⟨1536 + k.1, by omega⟩

/-- A function of row and channel, `s` positions earlier in the sequence: zero before its start. -/
def behind (s : Nat) (f : Fin 4096 → Fin 1536 → EReal) (r : Fin 4096) (k : Fin 1536) : EReal :=
  if s ≤ r.1 % 2048 then f ⟨r.1 - s, by omega⟩ k else 0

/-- The same `s` positions later: zero past its end. -/
def ahead (s : Nat) (f : Fin 4096 → Fin 1536 → EReal) (r : Fin 4096) (k : Fin 1536) : EReal :=
  if h : r.1 % 2048 + s < 2048 then f ⟨r.1 + s, by omega⟩ k else 0

/-- The convolution's input. -/
def input (proj : Arr 5640) (r : Fin 4096) (k : Fin 1536) : EReal := proj (tok r (colX k))

/-- The convolution: tap 3 at the position itself, tap 0 three positions earlier. -/
def pre (proj : Arr 5640) (w : Taps) (r : Fin 4096) (k : Fin 1536) : EReal :=
  input proj r k * w (ix3 0 3 k) + behind 1 (input proj) r k * w (ix3 0 2 k) + behind 2 (input proj) r k * w (ix3 0 1 k)
    + behind 3 (input proj) r k * w (ix3 0 0 k)

/-- The gradient at the convolution's output: the cotangent times the derivative of SiLU. -/
def dpre (proj : Arr 5640) (w : Taps) (dc : Arr 1536) (r : Fin 4096) (k : Fin 1536) : EReal :=
  dc (tok r k) * (Ideal.logistic (pre proj w r k) * (1 + pre proj w r k * (1 - Ideal.logistic (pre proj w r k))))

/-- The input's gradient. -/
def dx (proj : Arr 5640) (w : Taps) (dc : Arr 1536) (r : Fin 4096) (k : Fin 1536) : EReal :=
  dpre proj w dc r k * w (ix3 0 3 k) + ahead 1 (dpre proj w dc) r k * w (ix3 0 2 k) + ahead 2 (dpre proj w dc) r k * w (ix3 0 1 k)
    + ahead 3 (dpre proj w dc) r k * w (ix3 0 0 k)

/-- Tap `j`'s gradient: the sum over both sequences. -/
def dw (proj : Arr 5640) (w : Taps) (dc : Arr 1536) (j : Fin 4) (k : Fin 1536) : EReal :=
  ∑ b : Fin 2, ∑ l : Fin 2048, dpre proj w dc ⟨2048 * b.1 + l.1, by omega⟩ k * behind (3 - j.1) (input proj) ⟨2048 * b.1 + l.1, by omega⟩ k

/-- The convolution's SiLU. -/
def fwd (proj : Arr 5640) (w : Taps) (r : Fin 4096) (k : Fin 1536) : EReal := pre proj w r k * Ideal.logistic (pre proj w r k)

/-! ## The same values in the order of operations of the derivative of the plain convolution -/

/-- The convolution, tap 0 first. -/
def preR (proj : Arr 5640) (w : Taps) (r : Fin 4096) (k : Fin 1536) : EReal :=
  behind 3 (input proj) r k * w (ix3 0 0 k) + behind 2 (input proj) r k * w (ix3 0 1 k) + behind 1 (input proj) r k * w (ix3 0 2 k)
    + input proj r k * w (ix3 0 3 k)

/-- The product rule's two terms. -/
def dpreR (proj : Arr 5640) (w : Taps) (dc : Arr 1536) (r : Fin 4096) (k : Fin 1536) : EReal :=
  dc (tok r k) * Ideal.logistic (preR proj w r k)
    + preR proj w r k * dc (tok r k) * (Ideal.logistic (preR proj w r k) * (1 - Ideal.logistic (preR proj w r k)))

def dxR (proj : Arr 5640) (w : Taps) (dc : Arr 1536) (r : Fin 4096) (k : Fin 1536) : EReal :=
  dpreR proj w dc r k * w (ix3 0 3 k) + ahead 1 (dpreR proj w dc) r k * w (ix3 0 2 k) + ahead 2 (dpreR proj w dc) r k * w (ix3 0 1 k)
    + ahead 3 (dpreR proj w dc) r k * w (ix3 0 0 k)

def dwR (proj : Arr 5640) (w : Taps) (dc : Arr 1536) (j : Fin 4) (k : Fin 1536) : EReal :=
  ∑ b : Fin 2, ∑ l : Fin 2048, behind (3 - j.1) (input proj) ⟨2048 * b.1 + l.1, by omega⟩ k * dpreR proj w dc ⟨2048 * b.1 + l.1, by omega⟩ k

theorem preR_eq (proj : Arr 5640) (w : Taps) (r : Fin 4096) (k : Fin 1536) : preR proj w r k = pre proj w r k := by
  simp only [preR, pre]
  ac_rfl

/-- The two spellings of the derivative of SiLU agree where the cotangent is finite. -/
theorem silu_deriv (p d : EReal) (h : d ≠ ⊥ ∧ d ≠ ⊤) :
    d * Ideal.logistic p + p * d * (Ideal.logistic p * (1 - Ideal.logistic p)) = d * (Ideal.logistic p * (1 + p * (1 - Ideal.logistic p))) := by
  lift d to ℝ using ⟨h.2, h.1⟩
  induction p with
  | bot => simp
  | top =>
    have e : (1 : EReal) - 1 = 0 := by rw [← EReal.coe_one, ← EReal.coe_sub]; simp
    simp [e]
  | coe p =>
    rw [Ideal.logistic_coe, ← EReal.coe_one]
    norm_cast
    ring

theorem dpreR_eq (proj : Arr 5640) (w : Taps) (dc : Arr 1536) (h : ∀ i, dc i ≠ ⊥ ∧ dc i ≠ ⊤) : dpreR proj w dc = dpre proj w dc := by
  funext r k
  simp only [dpreR, dpre, preR_eq]
  exact silu_deriv _ _ (h _)

theorem dxR_eq (proj : Arr 5640) (w : Taps) (dc : Arr 1536) (h : ∀ i, dc i ≠ ⊥ ∧ dc i ≠ ⊤) : dxR proj w dc = dx proj w dc := by
  funext r k
  simp only [dxR, dx, dpreR_eq proj w dc h]

theorem dwR_eq (proj : Arr 5640) (w : Taps) (dc : Arr 1536) (h : ∀ i, dc i ≠ ⊥ ∧ dc i ≠ ⊤) : dwR proj w dc = dw proj w dc := by
  funext j k
  simp only [dwR, dw, dpreR_eq proj w dc h]
  exact Finset.sum_congr rfl fun _ _ => Finset.sum_congr rfl fun _ _ => mul_comm _ _

end Cert.Conv

end
-- ==== Proof.Shared.Sums.lean ====
/-
  Host reductions by addition over all axes but the last, of arrays of rank 3 and 4, read at an index.
-/
module

public import Idealize.ShloMosaic.Lib.Pointwise.Reduce

@[expose] public section

noncomputable section

namespace Cert.Rows

open Idealize.ShloMosaic

theorem hostReduceAdd_lead (n0 n1 n2 : Nat) (h : (⟨3, ![n0, n1, n2]⟩ : Shape).ReducesTo [0, 1] ⟨1, ![n2]⟩)
    (v : (⟨3, ![n0, n1, n2]⟩ : Shape).Idx → EReal) (c : EReal) (k : Fin n2) :
    Ideal.hostReduceAdd h v c (ix1 k) = c + ∑ b : Fin n0, ∑ l : Fin n1, v (ix3 b l k) := by
  have fiber : ∀ i : (⟨3, ![n0, n1, n2]⟩ : Shape).Idx, h.drop i = ix1 k ↔ ∃ p : Fin n0 × Fin n1, ix3 p.1 p.2 k = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl
  unfold Ideal.hostReduceAdd
  refine congrArg (c + ·) ((Finset.sum_filter_eq_sum_of_fiber _ (fun p : Fin n0 × Fin n1 => ix3 p.1 p.2 k)
    (fun _ _ e => Prod.ext (congrFun e 0) (congrFun e 1)) fiber v).trans ?_)
  simp only [Fintype.sum_prod_type]

theorem hostReduceAdd_lead3 (n0 n1 n2 n3 : Nat) (h : (⟨4, ![n0, n1, n2, n3]⟩ : Shape).ReducesTo [0, 1, 2] ⟨1, ![n3]⟩)
    (v : (⟨4, ![n0, n1, n2, n3]⟩ : Shape).Idx → EReal) (c : EReal) (k : Fin n3) :
    Ideal.hostReduceAdd h v c (ix1 k) = c + ∑ b : Fin n0, ∑ l : Fin n1, ∑ g : Fin n2, v (ix4 b l g k) := by
  have fiber : ∀ i : (⟨4, ![n0, n1, n2, n3]⟩ : Shape).Idx, h.drop i = ix1 k ↔ ∃ p : Fin n0 × Fin n1 × Fin n2, ix4 p.1 p.2.1 p.2.2 k = i := by
    intro i
    constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e 0)).symm
    · rintro ⟨p, rfl⟩
      funext b
      apply Fin.ext
      match b with
      | ⟨0, _⟩ => rfl
  unfold Ideal.hostReduceAdd
  refine congrArg (c + ·) ((Finset.sum_filter_eq_sum_of_fiber _ (fun p : Fin n0 × Fin n1 × Fin n2 => ix4 p.1 p.2.1 p.2.2 k)
    (fun _ _ e => Prod.ext (congrFun e 0) (Prod.ext (congrFun e 1) (congrFun e 2))) fiber v).trans ?_)
  simp only [Fintype.sum_prod_type]

end Cert.Rows

end
-- ==== Proof.Shared.Split.lean ====
/-
  A line of host operations read in two parts.
-/
module

public import Idealize.ShloMosaic.Lib.StableHlo.RunRead

@[expose] public section

noncomputable section

namespace Cert.Rows

open Idealize.ShloMosaic Idealize.ShloMosaic.StableHlo

/-- The contents after the line: those the operations from number `n` on leave, from the contents after the first `n`. -/
theorem after_split {τ : Topo} {sig : RefSig} {Val : EltTy → Type} (n : Nat) (ops : List (HloOp τ sig Val)) (V : Valuation τ sig Val) :
    after ops V = after (ops.drop n) (upto ops V n) := by
  unfold upto
  induction n generalizing ops V with
  | zero => rfl
  | succ n ih =>
    cases ops with
    | nil => rfl
    | cons op ops => exact ih ops _

end Cert.Rows

end
-- ==== Proof.Conv.Ref.lean ====
/-
  What the reference's two results hold.
-/
module

public import proofs.«01_k».proof.Proof.Conv.Spec
public import proofs.«01_k».proof.Proof.Shared.Sums
public import proofs.«01_k».proof.Proof.Shared.Split
public import proofs.«01_k».proof.Proof.Gen.ConvRefIdeal.Run
public import Idealize.ShloMosaic.Lib.StableHlo.ReadAt
public import Idealize.ShloMosaic.Lib.Tactic.WordOmega

@[expose] public section

set_option maxRecDepth 16384

noncomputable section

namespace Cert.ConvRefIdeal.Val

open Cert.ConvRefIdeal Cert.ConvRefIdeal.Value Cert.Rows
open Idealize.ShloMosaic Idealize.ShloMosaic.TcCoe Idealize.SL.Sem Idealize.ShloMosaic.StableHlo

variable (U : Valuation τ sig (Elt Ideal))

/-- The input behind three zero rows. -/
def padded (x : Cert.Conv.Arr 5640) (b : Fin 2) (p : Fin 2051) (k : Fin 1536) : EReal :=
  if h : 3 ≤ p.1 then x (ix3 b ⟨p.1 - 3, by omega⟩ (Cert.Conv.colX k)) else 0

theorem padded_ge (x : Cert.Conv.Arr 5640) (b : Fin 2) (p : Fin 2051) (k : Fin 1536) (h : 3 ≤ p.1) :
    padded x b p k = x (ix3 b ⟨p.1 - 3, by omega⟩ (Cert.Conv.colX k)) := dif_pos h

theorem padded_lt (x : Cert.Conv.Arr 5640) (b : Fin 2) (p : Fin 2051) (k : Fin 1536) (h : ¬ 3 ≤ p.1) : padded x b p k = 0 := dif_neg h

def preP (x : Cert.Conv.Arr 5640) (w : Cert.Conv.Taps) (b : Fin 2) (l : Fin 2048) (k : Fin 1536) : EReal :=
  padded x b ⟨l.1, by omega⟩ k * w (ix3 0 0 k) + padded x b ⟨1 + l.1, by omega⟩ k * w (ix3 0 1 k)
    + padded x b ⟨2 + l.1, by omega⟩ k * w (ix3 0 2 k) + padded x b ⟨3 + l.1, by omega⟩ k * w (ix3 0 3 k)

theorem padded_eq (x : Cert.Conv.Arr 5640) (b : Fin 2) (s : Nat) (hs : s ≤ 3) (l : Fin 2048) (k : Fin 1536) (p : Fin 2051) (hp : p.1 + s = l.1 + 3) :
    padded x b p k = Cert.Conv.behind s (Cert.Conv.input x) ⟨2048 * b.1 + l.1, by omega⟩ k := by
  unfold padded Cert.Conv.behind Cert.Conv.input
  split_ifs with h h' h'
  · refine congrArg x ?_
    unfold tok
    exact congrArg₂ (fun a c => ix3 a c _) (Fin.ext (by simp only; omega)) (Fin.ext (by simp only; omega))
  · exfalso; simp only at h'; omega
  · exfalso; simp only at h'; omega
  · rfl

theorem preP_eq (x : Cert.Conv.Arr 5640) (w : Cert.Conv.Taps) (b : Fin 2) (l : Fin 2048) (k : Fin 1536) :
    preP x w b l k = Cert.Conv.preR x w ⟨2048 * b.1 + l.1, by omega⟩ k := by
  unfold preP Cert.Conv.preR
  rw [padded_eq x b 3 (by omega) l k _ rfl, padded_eq x b 2 (by omega) l k _ (by simp only; omega), padded_eq x b 1 (by omega) l k _ (by simp only; omega),
    padded_eq x b 0 (by omega) l k _ (by simp only; omega)]
  unfold Cert.Conv.behind
  rw [if_pos (Nat.zero_le _)]
  rfl

/-! ## The first operations: the padded input and the taps -/

theorem at_pad (b : Fin 2) (p : Fin 2051) (k : Fin 1536) : upto (ops.take 51) U 5 (Proc.devRef .tc main_v3) (ix3 b p k) = padded (U (Proc.devRef .tc main_arg0)) b p k := by
  after_reads_simp
  clean_types
  pointwise [fn_main_v3]
  split_ifs with h
  all_goals first | exact (padded_ge _ _ _ _ (by omega)).symm | exact (padded_lt _ _ _ _ (by omega)).symm | omega

theorem at_w (j : Fin 4) (k : Fin 1536) : upto (ops.take 51) U 5 (Proc.devRef .tc main_v1) (ix2 j k) = U (Proc.devRef .tc main_arg1) (ix3 0 j k) := by
  after_reads_at

theorem at_ct : upto (ops.take 51) U 5 (Proc.devRef .tc main_arg2) = U (Proc.devRef .tc main_arg2) := by
  after_reads_simp

/-- The position of a row. -/
theorem tok_pos (b : Fin 2) (l : Fin 2048) (k : Fin 1536) : tok ⟨2048 * b.1 + l.1, by omega⟩ k = ix3 b l k := by
  unfold tok
  exact congrArg₂ (fun a c => ix3 a c _) (Fin.ext (by simp only; omega)) (Fin.ext (by simp only; omega))

/-! ## The derivative of SiLU and what it is multiplied with -/

variable (A : Valuation τ sig (Elt Ideal)) (x : Cert.Conv.Arr 5640) (w : Cert.Conv.Taps) (hx : ∀ b p k, A (Proc.devRef .tc main_v3) (ix3 b p k) = padded x b p k)
  (hw : ∀ j k, A (Proc.devRef .tc main_v1) (ix2 j k) = w (ix3 0 j k))

include hx hw in
theorem at_dpre (b : Fin 2) (l : Fin 2048) (k : Fin 1536) : after ((ops.take 51).drop 5) A (Proc.devRef .tc main_v33) (ix3 b l k)
    = Cert.Conv.dpreR x w (A (Proc.devRef .tc main_arg2)) ⟨2048 * b.1 + l.1, by omega⟩ k := by
  unfold Cert.Conv.dpreR
  rw [← preP_eq, tok_pos]
  after_reads_at
  simp only [hx, hw]
  unfold preP
  rfl

include hx in
theorem at_x0 (b : Fin 2) (l : Fin 2048) (k : Fin 1536) : after ((ops.take 51).drop 5) A (Proc.devRef .tc main_v25) (ix3 b l k) = Cert.Conv.behind 0 (Cert.Conv.input x) ⟨2048 * b.1 + l.1, by omega⟩ k := by
  rw [← padded_eq x b 0 (by omega) l k ⟨3 + l.1, by omega⟩ (by simp only; omega), ← hx]
  after_reads_at

include hx in
theorem at_x1 (b : Fin 2) (l : Fin 2048) (k : Fin 1536) : after ((ops.take 51).drop 5) A (Proc.devRef .tc main_v18) (ix3 b l k) = Cert.Conv.behind 1 (Cert.Conv.input x) ⟨2048 * b.1 + l.1, by omega⟩ k := by
  rw [← padded_eq x b 1 (by omega) l k ⟨2 + l.1, by omega⟩ (by simp only; omega), ← hx]
  after_reads_at

include hx in
theorem at_x2 (b : Fin 2) (l : Fin 2048) (k : Fin 1536) : after ((ops.take 51).drop 5) A (Proc.devRef .tc main_v11) (ix3 b l k) = Cert.Conv.behind 2 (Cert.Conv.input x) ⟨2048 * b.1 + l.1, by omega⟩ k := by
  rw [← padded_eq x b 2 (by omega) l k ⟨1 + l.1, by omega⟩ (by simp only; omega), ← hx]
  after_reads_at

include hx in
theorem at_x3 (b : Fin 2) (l : Fin 2048) (k : Fin 1536) : after ((ops.take 51).drop 5) A (Proc.devRef .tc main_v5) (ix3 b l k) = Cert.Conv.behind 3 (Cert.Conv.input x) ⟨2048 * b.1 + l.1, by omega⟩ k := by
  rw [← padded_eq x b 3 (by omega) l k ⟨l.1, by omega⟩ (by simp only), ← hx]
  after_reads_at

include hw in
theorem at_w3 (k : Fin 1536) : after ((ops.take 51).drop 5) A (Proc.devRef .tc main_v28) (ix3 0 0 k) = w (ix3 0 3 k) := by
  rw [← hw]
  after_reads_at

include hw in
theorem at_w2 (k : Fin 1536) : after ((ops.take 51).drop 5) A (Proc.devRef .tc main_v21) (ix3 0 0 k) = w (ix3 0 2 k) := by
  rw [← hw]
  after_reads_at

include hw in
theorem at_w1 (k : Fin 1536) : after ((ops.take 51).drop 5) A (Proc.devRef .tc main_v14) (ix3 0 0 k) = w (ix3 0 1 k) := by
  rw [← hw]
  after_reads_at

include hw in
theorem at_w0 (k : Fin 1536) : after ((ops.take 51).drop 5) A (Proc.devRef .tc main_v8) (ix3 0 0 k) = w (ix3 0 0 k) := by
  rw [← hw]
  after_reads_at

/-! ## The two sums of four terms -/

variable (W : Valuation τ sig (Elt Ideal)) (g : Fin 4096 → Fin 1536 → EReal)
  (hg : ∀ (b : Fin 2) (l : Fin 2048) (k : Fin 1536), W (Proc.devRef .tc main_v33) (ix3 b l k) = g ⟨2048 * b.1 + l.1, by omega⟩ k)
  (h0 : ∀ k : Fin 1536, W (Proc.devRef .tc main_v8) (ix3 0 0 k) = w (ix3 0 0 k)) (h1 : ∀ k : Fin 1536, W (Proc.devRef .tc main_v14) (ix3 0 0 k) = w (ix3 0 1 k))
  (h2 : ∀ k : Fin 1536, W (Proc.devRef .tc main_v21) (ix3 0 0 k) = w (ix3 0 2 k)) (h3 : ∀ k : Fin 1536, W (Proc.devRef .tc main_v28) (ix3 0 0 k) = w (ix3 0 3 k))
  (f0 : ∀ (b : Fin 2) (l : Fin 2048) (k : Fin 1536), W (Proc.devRef .tc main_v25) (ix3 b l k) = Cert.Conv.behind 0 (Cert.Conv.input x) ⟨2048 * b.1 + l.1, by omega⟩ k)
  (f1 : ∀ (b : Fin 2) (l : Fin 2048) (k : Fin 1536), W (Proc.devRef .tc main_v18) (ix3 b l k) = Cert.Conv.behind 1 (Cert.Conv.input x) ⟨2048 * b.1 + l.1, by omega⟩ k)
  (f2 : ∀ (b : Fin 2) (l : Fin 2048) (k : Fin 1536), W (Proc.devRef .tc main_v11) (ix3 b l k) = Cert.Conv.behind 2 (Cert.Conv.input x) ⟨2048 * b.1 + l.1, by omega⟩ k)
  (f3 : ∀ (b : Fin 2) (l : Fin 2048) (k : Fin 1536), W (Proc.devRef .tc main_v5) (ix3 b l k) = Cert.Conv.behind 3 (Cert.Conv.input x) ⟨2048 * b.1 + l.1, by omega⟩ k)

theorem ahead_mul (s : Nat) (r : Fin 4096) (k : Fin 1536) (v : EReal) (c : Prop) [Decidable c] (hc : c ↔ r.1 % 2048 + s < 2048) (r' : c → Fin 4096)
    (hr : ∀ h : c, (r' h).1 = r.1 + s) : (if h : c then g (r' h) k * v else 0) = Cert.Conv.ahead s g r k * v := by
  unfold Cert.Conv.ahead
  by_cases h : c
  · rw [dif_pos h, dif_pos (hc.mp h)]
    exact congrArg (g · k * v) (Fin.ext (hr h))
  · rw [dif_neg h, dif_neg (fun h' => h (hc.mpr h')), zero_mul]

include hg h0 h1 h2 h3 in
theorem sum_dx (r : Fin 4096) (k : Fin 1536) : after (ops.drop 51) W (Proc.devRef .tc main_v80) (ix2 r k)
    = g r k * w (ix3 0 3 k) + Cert.Conv.ahead 1 g r k * w (ix3 0 2 k) + Cert.Conv.ahead 2 g r k * w (ix3 0 1 k) + Cert.Conv.ahead 3 g r k * w (ix3 0 0 k) := by
  after_reads_at
  simp only [hg, h0, h1, h2, h3]
  refine congrArg₂ _ (congrArg₂ _ (congrArg₂ _ ?_ ?_) ?_) ?_
  · rw [dif_pos ⟨by omega, by omega⟩]
    exact congrArg (g · k * _) (Fin.ext (by simp only; omega))
  all_goals exact ahead_mul g _ r k _ _ (by omega) _ (fun h => by simp only; omega)

include hg f0 f1 f2 f3 in
theorem sum_dw (j : Fin 4) (k : Fin 1536) : after (ops.drop 51) W (Proc.devRef .tc main_v81) (ix2 j k)
    = ∑ b : Fin 2, ∑ l : Fin 2048, Cert.Conv.behind (3 - j.1) (Cert.Conv.input x) ⟨2048 * b.1 + l.1, by omega⟩ k * g ⟨2048 * b.1 + l.1, by omega⟩ k := by
  after_reads_simp
  clean_types
  pointwise [hostReduceAdd_lead]
  simp only [hg, f0, f1, f2, f3]
  simp only [Fin.sum_univ_one]
  fin_cases j <;> simp

/-! ## The whole line -/

theorem line_eq : after ops U = after (ops.drop 51) (after ((ops.take 51).drop 5) (upto (ops.take 51) U 5)) :=
  (after_split 51 ops U).trans (congrArg _ (after_split 5 (ops.take 51) U))

theorem res_dx (r : Fin 4096) (k : Fin 1536) : after ops U (Proc.devRef .tc main_v80) (ix2 r k)
    = Cert.Conv.dxR (U (Proc.devRef .tc main_arg0)) (U (Proc.devRef .tc main_arg1)) (U (Proc.devRef .tc main_arg2)) r k := by
  rw [line_eq, sum_dx (U (Proc.devRef .tc main_arg1)) _ _ (at_dpre _ _ _ (at_pad U) (at_w U)) (at_w0 _ _ (at_w U)) (at_w1 _ _ (at_w U)) (at_w2 _ _ (at_w U)) (at_w3 _ _ (at_w U)), at_ct]
  rfl

theorem res_dw (j : Fin 4) (k : Fin 1536) : after ops U (Proc.devRef .tc main_v81) (ix2 j k)
    = Cert.Conv.dwR (U (Proc.devRef .tc main_arg0)) (U (Proc.devRef .tc main_arg1)) (U (Proc.devRef .tc main_arg2)) j k := by
  rw [line_eq, sum_dw (U (Proc.devRef .tc main_arg0)) _ _ (at_dpre _ _ _ (at_pad U) (at_w U)) (at_x0 _ _ (at_pad U)) (at_x1 _ _ (at_pad U)) (at_x2 _ _ (at_pad U)) (at_x3 _ _ (at_pad U)), at_ct]
  rfl

/-- The run: the two results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = arr (Cert.Conv.dxR (m ((c.tc : Thread nD τ).loc main_arg0)) (m ((c.tc : Thread nD τ).loc main_arg1)) (m ((c.tc : Thread nD τ).loc main_arg2)))
      ∧ r.2.mem ((c.tc : Thread nD τ).loc main_v81) = arr (Cert.Conv.dwR (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c _).trans (arr_ext fun _ _ => res_dx _ _ _), (h c _).trans (arr_ext fun _ _ => res_dw _ _ _),
      (h c _).trans (by after_reads_simp), (h c _).trans (by after_reads_simp), (h c _).trans (by after_reads_simp)⟩)
    (run_seq scopedRefs_eq scopedSems_eq defs main (fun _ => ops) main_eq (fun _ => ops_sub) m ρ)

end Cert.ConvRefIdeal.Val

end
-- ==== Proof.Shared.RmsNorm.lean ====
/-
  The gradient of `x / sqrt(mean(x²) + ε)` in `x`, of a row `x` of any width: the mean's divisor is given as the 32 bits of the program's
  constant, as are ε (897988541) and −1/2 (3204448256).
-/
module

public import Idealize.ShloMosaic.PureOps.Ideal
public import Idealize.ShloMosaic.Lib.Pipeline.ValueKit

@[expose] public section

noncomputable section

namespace Cert.RmsNorm

open Idealize.ShloMosaic

variable {n : Nat}

def ms (w : BitVec 32) (x : Fin n → EReal) : EReal :=
  Ideal.div (∑ k, x k * x k) (Ideal.ofBits .f32 w) + Ideal.ofBits .f32 897988541#32

def inv (w : BitVec 32) (x : Fin n → EReal) : EReal := Ideal.rsqrt (ms w x)

/-- The cotangent that reaches the mean of squares, divided by the width. Both programs sum it over an axis of one element. -/
def coef (w : BitVec 32) (x d : Fin n → EReal) : EReal :=
  ∑ _ : Fin 1, Ideal.div ((∑ k, x k * d k) * (Ideal.ofBits .f32 3204448256#32 * Ideal.div (inv w x) (ms w x))) (Ideal.ofBits .f32 w)

/-- The gradient at the cotangent `d` of the normalised row. -/
def dnorm (w : BitVec 32) (x d : Fin n → EReal) (k : Fin n) : EReal := d k * inv w x + x k * coef w x d + coef w x d * x k

/-- A sum over the batch and the position is the sum over the stacked rows. -/
theorem sum_rows (f : Fin 2 → Fin 2048 → EReal) : ∑ b, ∑ l, f b l = ∑ r : Fin 4096, f ⟨r.1 / 2048, by omega⟩ ⟨r.1 % 2048, by omega⟩ :=
  (Fin.sum_divmod_fin 2048 f).symm

end Cert.RmsNorm

end
-- ==== Proof.GatedNorm.Spec.lean ====
/-
  The gradient of `rmsnorm(o) w * silu(z)` by head, element by element: what both programs of the pair are shown to compute.
-/
module

public import proofs.«01_k».proof.Proof.Shared.Rows
public import proofs.«01_k».proof.Proof.Shared.RmsNorm

@[expose] public section

noncomputable section

namespace Cert.GatedNorm

open Idealize.ShloMosaic Cert.Rows Cert.RmsNorm

abbrev Arr (n : Nat) := (⟨3, ![2, 2048, n]⟩ : Shape).Idx → EReal

abbrev Heads := (⟨4, ![2, 2048, 4, 128]⟩ : Shape).Idx → EReal

abbrev Gain := (⟨2, ![1, 128]⟩ : Shape).Idx → EReal

/-- Row `r`, head `h`, channel `j` of an array by heads. -/
abbrev tok4 (r : Fin 4096) (h : Fin 4) (j : Fin 128) : (⟨4, ![2, 2048, 4, 128]⟩ : Shape).Idx :=
  ix4 ⟨r.1 / 2048, by omega⟩ ⟨r.1 % 2048, by omega⟩ h j

/-- A head's channel as a column of the 512. -/
abbrev colOf (h : Fin 4) (j : Fin 128) : Fin 512 := ⟨h.1 * 128 + j.1, by omega⟩

/-- A function of row, head and channel, by row and column. -/
abbrev byHead (f : Fin 4096 → Fin 4 → Fin 128 → EReal) (r : Fin 4096) (k : Fin 512) : EReal := f r ⟨k.1 / 128, by omega⟩ ⟨k.1 % 128, by omega⟩

def rowOf (o : Heads) (r : Fin 4096) (h : Fin 4) (j : Fin 128) : EReal := o (tok4 r h j)

def gate (p : Arr 5640) (r : Fin 4096) (h : Fin 4) (j : Fin 128) : EReal := p (tok r ⟨3072 + (colOf h j).1, by have := (colOf h j).2; omega⟩)

def ct (dy : Arr 512) (r : Fin 4096) (h : Fin 4) (j : Fin 128) : EReal := dy (tok r (colOf h j))

/-- The cotangent of the scaled norm. -/
def dscaled (p : Arr 5640) (dy : Arr 512) (r : Fin 4096) (h : Fin 4) (j : Fin 128) : EReal :=
  ct dy r h j * (gate p r h j * Ideal.logistic (gate p r h j))

def dout (p : Arr 5640) (o : Heads) (w : Gain) (dy : Arr 512) (r : Fin 4096) (h : Fin 4) (j : Fin 128) : EReal :=
  dnorm 1124073472#32 (rowOf o r h) (fun k => dscaled p dy r h k * w (ix2 0 k)) j

/-- The normalised row. -/
def normed (o : Heads) (r : Fin 4096) (h : Fin 4) (j : Fin 128) : EReal := rowOf o r h j * inv 1124073472#32 (rowOf o r h)

/-- The cotangent of the gate's `silu`. -/
def dsilu (o : Heads) (w : Gain) (dy : Arr 512) (r : Fin 4096) (h : Fin 4) (j : Fin 128) : EReal := normed o r h j * w (ix2 0 j) * ct dy r h j

def dz (p : Arr 5640) (o : Heads) (w : Gain) (dy : Arr 512) (r : Fin 4096) (h : Fin 4) (j : Fin 128) : EReal :=
  dsilu o w dy r h j * Ideal.logistic (gate p r h j)
    + gate p r h j * dsilu o w dy r h j * (Ideal.logistic (gate p r h j) * (1 - Ideal.logistic (gate p r h j)))

def dw (p : Arr 5640) (o : Heads) (dy : Arr 512) (_ : Fin 1) (j : Fin 128) : EReal :=
  ∑ h : Fin 4, ∑ r : Fin 4096, normed o r h j * dscaled p dy r h j

/-- The gated norm itself. -/
def fwd (p : Arr 5640) (o : Heads) (w : Gain) (r : Fin 4096) (h : Fin 4) (j : Fin 128) : EReal :=
  normed o r h j * w (ix2 0 j) * (gate p r h j * Ideal.logistic (gate p r h j))

end Cert.GatedNorm

end
-- ==== Proof.GatedNorm.Ref.lean ====
/-
  What the reference's three results hold.
-/
module

public import proofs.«01_k».proof.Proof.GatedNorm.Spec
public import proofs.«01_k».proof.Proof.Shared.Sums
public import proofs.«01_k».proof.Proof.Gen.GatedNormRefIdeal.Run
public import Idealize.ShloMosaic.Lib.StableHlo.ReadAt
public import Idealize.ShloMosaic.Lib.Tactic.WordOmega

@[expose] public section

set_option maxRecDepth 16384

noncomputable section

namespace Cert.GatedNormRefIdeal.Val

open Cert.GatedNormRefIdeal Cert.GatedNormRefIdeal.Value Cert.Rows
open Idealize.ShloMosaic Idealize.ShloMosaic.TcCoe Idealize.SL.Sem Idealize.ShloMosaic.StableHlo

variable (U : Valuation τ sig (Elt Ideal))

theorem res_o (r : Fin 4096) (k : Fin 512) : after ops U (Proc.devRef .tc main_v48) (ix2 r k)
    = Cert.GatedNorm.byHead (Cert.GatedNorm.dout (U (Proc.devRef .tc main_arg0)) (U (Proc.devRef .tc main_arg1)) (U (Proc.devRef .tc main_arg2)) (U (Proc.devRef .tc main_arg3))) r k := by
  after_reads_at
  rfl

theorem res_z (r : Fin 4096) (k : Fin 512) : after ops U (Proc.devRef .tc main_v50) (ix2 r k)
    = Cert.GatedNorm.byHead (Cert.GatedNorm.dz (U (Proc.devRef .tc main_arg0)) (U (Proc.devRef .tc main_arg1)) (U (Proc.devRef .tc main_arg2)) (U (Proc.devRef .tc main_arg3))) r k := by
  after_reads_at
  rfl

theorem res_w (z : Fin 1) (k : Fin 128) : after ops U (Proc.devRef .tc main_v47) (ix2 z k)
    = Cert.GatedNorm.dw (U (Proc.devRef .tc main_arg0)) (U (Proc.devRef .tc main_arg1)) (U (Proc.devRef .tc main_arg3)) z k := by
  after_reads_simp
  all_goals try simp -implicitDefEqProofs only [StableHlo.TRef.toBuf, StableHlo.TRef.ofBuf, cast_cast, cast_eq]
  all_goals clean_types
  pointwise [hostReduceAdd_lead3]
  refine (Fin.sum_univ_one (M := EReal) _).trans ((Fin.sum_univ_one (M := EReal) _).trans ((Fin.sum_univ_one (M := EReal) _).trans ?_))
  exact (Cert.RmsNorm.sum_rows _).trans (Finset.sum_comm)

/-- The run: the three results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = arr (Cert.GatedNorm.byHead (Cert.GatedNorm.dout (m ((c.tc : Thread nD τ).loc main_arg0)) (m ((c.tc : Thread nD τ).loc main_arg1)) (m ((c.tc : Thread nD τ).loc main_arg2)) (m ((c.tc : Thread nD τ).loc main_arg3))))
      ∧ r.2.mem ((c.tc : Thread nD τ).loc main_v50) = arr (Cert.GatedNorm.byHead (Cert.GatedNorm.dz (m ((c.tc : Thread nD τ).loc main_arg0)) (m ((c.tc : Thread nD τ).loc main_arg1)) (m ((c.tc : Thread nD τ).loc main_arg2)) (m ((c.tc : Thread nD τ).loc main_arg3))))
      ∧ r.2.mem ((c.tc : Thread nD τ).loc main_v47) = arr (Cert.GatedNorm.dw (m ((c.tc : Thread nD τ).loc main_arg0)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c _).trans (arr_ext fun _ _ => res_o _ _ _), (h c _).trans (arr_ext fun _ _ => res_z _ _ _),
      (h c _).trans (arr_ext fun _ _ => res_w _ _ _),
      (h c _).trans (by after_reads_simp), (h c _).trans (by after_reads_simp), (h c _).trans (by after_reads_simp), (h c _).trans (by after_reads_simp)⟩)
    (run_seq scopedRefs_eq scopedSems_eq defs main (fun _ => ops) main_eq (fun _ => ops_sub) m ρ)

end Cert.GatedNormRefIdeal.Val

end
-- ==== Proof.Swiglu.Spec.lean ====
/-
  The gradient of `silu(gate) * up` at the cotangent `dx2 @ w_down'`, element by element: what both programs of the pair are shown to
  compute. Columns 0 to 2815 are the gate's, the rest are the other factor's.
-/
module

public import proofs.«01_k».proof.Proof.Shared.Rows
public import Idealize.ShloMosaic.PureOps.Ideal

@[expose] public section

noncomputable section

namespace Cert.Swiglu

open Idealize.ShloMosaic Cert.Rows

abbrev Arr (n : Nat) := (⟨3, ![2, 2048, n]⟩ : Shape).Idx → EReal

abbrev Weights := (⟨3, ![1, 2816, 1024]⟩ : Shape).Idx → EReal

def gate (gu : Arr 5632) (r : Fin 4096) (k : Fin 2816) : EReal := gu (tok r ⟨k.1, by omega⟩)

def up (gu : Arr 5632) (r : Fin 4096) (k : Fin 2816) : EReal := gu (tok r ⟨2816 + k.1, by omega⟩)

/-- The cotangent of the product. -/
def ct (w : Weights) (dx : Arr 1024) (r : Fin 4096) (k : Fin 2816) : EReal := ∑ c : Fin 1024, dx (tok r c) * w (ix3 0 k c)

def dgate (gu : Arr 5632) (w : Weights) (dx : Arr 1024) (r : Fin 4096) (k : Fin 2816) : EReal :=
  ct w dx r k * up gu r k * Ideal.logistic (gate gu r k)
    + gate gu r k * (ct w dx r k * up gu r k) * (Ideal.logistic (gate gu r k) * (1 - Ideal.logistic (gate gu r k)))

def dup (gu : Arr 5632) (w : Weights) (dx : Arr 1024) (r : Fin 4096) (k : Fin 2816) : EReal :=
  gate gu r k * Ideal.logistic (gate gu r k) * ct w dx r k

def dgu (gu : Arr 5632) (w : Weights) (dx : Arr 1024) (r : Fin 4096) (k : Fin 5632) : EReal :=
  if h : k.1 < 2816 then dgate gu w dx r ⟨k.1, h⟩ else dup gu w dx r ⟨k.1 - 2816, by omega⟩

/-! ## The forward product and its SwiGLU -/

/-- Gate and up projection side by side. -/
def both (h : Arr 1024) (w : (⟨3, ![1, 1024, 5632]⟩ : Shape).Idx → EReal) (r : Fin 4096) (k : Fin 5632) : EReal := ∑ c : Fin 1024, h (tok r c) * w (ix3 0 c k)

def act (h : Arr 1024) (w : (⟨3, ![1, 1024, 5632]⟩ : Shape).Idx → EReal) (r : Fin 4096) (k : Fin 2816) : EReal :=
  both h w r ⟨k.1, by omega⟩ * Ideal.logistic (both h w r ⟨k.1, by omega⟩) * both h w r ⟨2816 + k.1, by omega⟩

end Cert.Swiglu

end
-- ==== Proof.Swiglu.Ref.lean ====
/-
  What the reference's result holds.
-/
module

public import proofs.«01_k».proof.Proof.Swiglu.Spec
public import proofs.«01_k».proof.Proof.Gen.SwigluRefIdeal.Run
public import Idealize.ShloMosaic.Lib.StableHlo.ReadAt
public import Idealize.ShloMosaic.Lib.Tactic.WordOmega

@[expose] public section

set_option maxRecDepth 16384

noncomputable section

namespace Cert.SwigluRefIdeal.Val

open Cert.SwigluRefIdeal Cert.SwigluRefIdeal.Value Cert.Rows
open Idealize.ShloMosaic Idealize.ShloMosaic.TcCoe Idealize.SL.Sem Idealize.ShloMosaic.StableHlo

variable (U : Valuation τ sig (Elt Ideal))

/-- The two padded halves, added. -/
theorem halves (A : Cert.Swiglu.Arr 5632) (W : Cert.Swiglu.Weights) (X : Cert.Swiglu.Arr 1024) (r : Fin 4096) (k : Fin 5632) (p q : Prop) [Decidable p] [Decidable q]
    (f : p → EReal) (g : q → EReal) (hp : p ↔ 2816 ≤ k.1) (hq : q ↔ k.1 < 2816)
    (hf : ∀ (h : p) (h' : k.1 - 2816 < 2816), f h = Cert.Swiglu.dup A W X r ⟨k.1 - 2816, h'⟩)
    (hg : ∀ (h : q) (h' : k.1 < 2816), g h = Cert.Swiglu.dgate A W X r ⟨k.1, h'⟩) :
    ((if h : p then f h else 0) + if h : q then g h else 0) = Cert.Swiglu.dgu A W X r k := by
  unfold Cert.Swiglu.dgu
  by_cases h : k.1 < 2816
  · rw [dif_neg (fun e => absurd (hp.mp e) (by omega)), dif_pos (hq.mpr h), dif_pos h, zero_add]
    exact hg _ _
  · rw [dif_pos (hp.mpr (by omega)), dif_neg (fun e => h (hq.mp e)), dif_neg h, add_zero]
    exact hf _ _

theorem res (r : Fin 4096) (k : Fin 5632) : after ops U (Proc.devRef .tc main_v14) (ix2 r k)
    = Cert.Swiglu.dgu (U (Proc.devRef .tc main_arg0)) (U (Proc.devRef .tc main_arg1)) (U (Proc.devRef .tc main_arg2)) r k := by
  after_reads_at
  exact halves _ _ _ r k _ _ _ _ (by omega) (by omega) (fun _ _ => rfl) (fun _ _ => rfl)

/-- The run: the result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = arr (Cert.Swiglu.dgu (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c _).trans (arr_ext fun _ _ => res _ _ _),
      (h c _).trans (by after_reads_simp), (h c _).trans (by after_reads_simp), (h c _).trans (by after_reads_simp)⟩)
    (run_seq scopedRefs_eq scopedSems_eq defs main (fun _ => ops) main_eq (fun _ => ops_sub) m ρ)

end Cert.SwigluRefIdeal.Val

end
-- ==== Proof.Rms.Spec.lean ====
/-
  The gradient of `x ↦ (x, rmsnorm(x) g @ w)` for a weight of any width, element by element: what both programs of each of the three pairs (mm_dh1,
  mm_dh2, mm_dh3) are shown to compute.
-/
module

public import proofs.«01_k».proof.Proof.Shared.Rows
public import proofs.«01_k».proof.Proof.Shared.RmsNorm

@[expose] public section

noncomputable section

namespace Cert.Rms

open Idealize.ShloMosaic Cert.Rows Cert.RmsNorm

abbrev Arr (n : Nat) := (⟨3, ![2, 2048, n]⟩ : Shape).Idx → EReal

abbrev Gain := (⟨2, ![1, 1024]⟩ : Shape).Idx → EReal

abbrev Weights (n : Nat) := (⟨3, ![1, 1024, n]⟩ : Shape).Idx → EReal

variable {n : Nat}

/-- A row of `x`. -/
def rowOf (x : Arr 1024) (r : Fin 4096) (k : Fin 1024) : EReal := x (tok r k)

/-- The cotangent of the scaled row. -/
def ct (w : Weights n) (d : Arr n) (r : Fin 4096) (q : Fin 1024) : EReal := ∑ k : Fin n, d (tok r k) * w (ix3 0 q k)

/-- The cotangent of the normalised row. -/
def dn (g : Gain) (w : Weights n) (d : Arr n) (r : Fin 4096) (q : Fin 1024) : EReal := ct w d r q * g (ix2 0 q)

def dx (x : Arr 1024) (g : Gain) (w : Weights n) (d : Arr n) (y : Arr 1024) (r : Fin 4096) (q : Fin 1024) : EReal :=
  dnorm 1149239296#32 (rowOf x r) (dn g w d r) q + y (tok r q)

def dgRow (x : Arr 1024) (w : Weights n) (d : Arr n) (r : Fin 4096) (q : Fin 1024) : EReal :=
  rowOf x r q * inv 1149239296#32 (rowOf x r) * ct w d r q

def dg (x : Arr 1024) (w : Weights n) (d : Arr n) (_ : Fin 1) (q : Fin 1024) : EReal := ∑ r : Fin 4096, dgRow x w d r q

end Cert.Rms

end
-- ==== Proof.Rms.Ref.lean ====
/-
  What the reference's two results hold.
-/
module

public import proofs.«01_k».proof.Proof.Rms.Spec
public import proofs.«01_k».proof.Proof.Shared.Sums
public import proofs.«01_k».proof.Proof.Gen.RmsRefIdeal.Run
public import Idealize.ShloMosaic.Lib.StableHlo.ReadAt
public import Idealize.ShloMosaic.Lib.Tactic.WordOmega

@[expose] public section

set_option maxRecDepth 16384

noncomputable section

namespace Cert.RmsRefIdeal.Val

open Cert.RmsRefIdeal Cert.RmsRefIdeal.Value Cert.Rows
open Idealize.ShloMosaic Idealize.ShloMosaic.TcCoe Idealize.SL.Sem Idealize.ShloMosaic.StableHlo

variable (U : Valuation τ sig (Elt Ideal))

/-- The residual's cotangent is added first. -/
theorem assoc (y a b c : EReal) : y + a + b + c = a + b + c + y := by
  rw [add_assoc y a b, add_assoc y, add_comm y]

theorem res_x (r : Fin 4096) (k : Fin 1024) : after ops U (Proc.devRef .tc main_v42) (ix2 r k)
    = Cert.Rms.dx (U (Proc.devRef .tc main_arg0)) (U (Proc.devRef .tc main_arg1)) (U (Proc.devRef .tc main_arg2)) (U (Proc.devRef .tc main_arg3)) (U (Proc.devRef .tc main_arg4)) r k := by
  after_reads_at
  exact assoc _ _ _ _

theorem res_g (z : Fin 1) (k : Fin 1024) : after ops U (Proc.devRef .tc main_v41) (ix2 z k)
    = Cert.Rms.dg (U (Proc.devRef .tc main_arg0)) (U (Proc.devRef .tc main_arg2)) (U (Proc.devRef .tc main_arg3)) z k := by
  after_reads_simp
  all_goals try simp -implicitDefEqProofs only [StableHlo.TRef.toBuf, StableHlo.TRef.ofBuf, cast_cast, cast_eq]
  all_goals clean_types
  pointwise [hostReduceAdd_lead]
  exact (Fin.sum_univ_one (M := EReal) _).trans ((Fin.sum_univ_one (M := EReal) _).trans (Cert.RmsNorm.sum_rows _))

/-- The run: the two results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = arr (Cert.Rms.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v41) = arr (Cert.Rms.dg (m ((c.tc : Thread nD τ).loc main_arg0)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c _).trans (arr_ext fun _ _ => res_x _ _ _), (h c _).trans (arr_ext fun _ _ => res_g _ _ _),
      (h c _).trans (by after_reads_simp), (h c _).trans (by after_reads_simp), (h c _).trans (by after_reads_simp), (h c _).trans (by after_reads_simp),
      (h c _).trans (by after_reads_simp)⟩)
    (run_seq scopedRefs_eq scopedSems_eq defs main (fun _ => ops) main_eq (fun _ => ops_sub) m ρ)

end Cert.RmsRefIdeal.Val

end
-- ==== Proof.Head.Spec.lean ====
/-
  The loss of the normalised output and its gradients, element by element: what both programs of the pair are shown to compute.
-/
module

public import proofs.«01_k».proof.Proof.Shared.Rows
public import proofs.«01_k».proof.Proof.Shared.RmsNorm
public import Idealize.ShloMosaic.Lib.IdealHost

@[expose] public section

noncomputable section

namespace Cert.Head

open Idealize.ShloMosaic Cert.Rows Cert.RmsNorm

abbrev Arr := (⟨3, ![2, 2048, 1024]⟩ : Shape).Idx → EReal

abbrev Gain := (⟨1, ![1024]⟩ : Shape).Idx → EReal

abbrev Weights := (⟨3, ![1, 1024, 1024]⟩ : Shape).Idx → EReal

/-- The operands: the residual stream, the gate's input and weights, the embedding, the norm's gain and the target. -/
structure Args where
  x : Arr
  h : Arr
  w : Weights
  p : Arr
  g : Gain
  t : Arr

variable (a : Args)

def gate (r : Fin 4096) (q : Fin 1024) : EReal := Ideal.logistic (∑ k : Fin 1024, a.h (tok r k) * a.w (ix3 0 k q))

/-- The row that is normalised. -/
def res (r : Fin 4096) (q : Fin 1024) : EReal := a.x (tok r q) + gate a r q * a.p (tok r q)

def err (r : Fin 4096) (q : Fin 1024) : EReal := res a r q * inv 1149239296#32 (res a r) * a.g (ix1 q) - a.t (tok r q)

/-- The loss's derivative in the mean over a row, divided by the row's width. -/
def unit : EReal := Ideal.div (Ideal.ofBits .f32 1056964608#32) (Ideal.ofBits .f32 1149239296#32)

/-- The cotangent of the scaled row. -/
def ct (r : Fin 4096) (q : Fin 1024) : EReal := err a r q * unit + unit * err a r q

def dx (r : Fin 4096) (q : Fin 1024) : EReal := dnorm 1149239296#32 (res a r) (fun k => ct a r k * a.g (ix1 k)) q

def dgate (r : Fin 4096) (q : Fin 1024) : EReal := dx a r q * a.p (tok r q) * (gate a r q * (1 - gate a r q))

def demb (r : Fin 4096) (q : Fin 1024) : EReal := gate a r q * dx a r q

def dgRow (r : Fin 4096) (q : Fin 1024) : EReal := res a r q * inv 1149239296#32 (res a r) * ct a r q

def dg (_ : Fin 1) (q : Fin 1024) : EReal := ∑ r : Fin 4096, dgRow a r q

/-- The mean square of a row's error. -/
def lossRow (r : Fin 4096) : EReal := Ideal.div (∑ k, err a r k * err a r k) (Ideal.ofBits .f32 1149239296#32)

def loss (_ : Fin 1) (_ : Fin 1024) : EReal := Ideal.ofBits .f32 1056964608#32 * ∑ r : Fin 4096, lossRow a r

theorem half : Ideal.ofBits .f32 1056964608#32 = ((1 / 2 : ℝ) : EReal) := by
  simp [Ideal.ofBits, Ideal.ieee, -EReal.coe_mul, -EReal.coe_neg]; norm_num

theorem two : Ideal.ofBits .f32 1073741824#32 = ((2 : ℝ) : EReal) := by
  simp [Ideal.ofBits, Ideal.ieee, -EReal.coe_mul, -EReal.coe_neg]; norm_num

/-- A half distributes over every sum. -/
theorem half_mul_sum {ι : Type} (s : Finset ι) (f : ι → EReal) :
    ∑ i ∈ s, Ideal.ofBits .f32 1056964608#32 * f i = Ideal.ofBits .f32 1056964608#32 * ∑ i ∈ s, f i := by
  classical
  induction s using Finset.induction_on with
  | empty => simp
  | insert i s hi ih =>
    rw [Finset.sum_insert hi, Finset.sum_insert hi, ih, half]
    exact (EReal.left_distrib_of_nonneg_of_ne_top (EReal.coe_nonneg.mpr (by norm_num)) (EReal.coe_ne_top _) _ _).symm

/-- The square's derivative, as a sum of two products and as twice one. -/
theorem twice (u e : EReal) : u * (Ideal.ofBits .f32 1073741824#32 * e) = e * u + u * e := by
  have h2 : (Ideal.ofBits .f32 1073741824#32 : EReal) = 1 + 1 := by rw [two]; norm_cast
  rw [mul_comm e u, mul_left_comm, h2, EReal.right_distrib_of_nonneg zero_le_one zero_le_one, one_mul]

end Cert.Head

end
-- ==== Proof.Head.Ref.lean ====
/-
  What the reference's five results hold.
-/
module

public import proofs.«01_k».proof.Proof.Head.Spec
public import proofs.«01_k».proof.Proof.Shared.Sums
public import proofs.«01_k».proof.Proof.Gen.HeadRefIdeal.Run
public import Idealize.ShloMosaic.Lib.StableHlo.ReadAt
public import Idealize.ShloMosaic.Lib.Tactic.WordOmega

@[expose] public section

set_option maxRecDepth 16384

noncomputable section

namespace Cert.HeadRefIdeal.Val

open Cert.HeadRefIdeal Cert.HeadRefIdeal.Value Cert.Rows
open Idealize.ShloMosaic Idealize.ShloMosaic.TcCoe Idealize.SL.Sem Idealize.ShloMosaic.StableHlo

variable (U : Valuation τ sig (Elt Ideal))

/-- The operands, from the valuation. -/
def args : Cert.Head.Args :=
  ⟨U (Proc.devRef .tc main_arg0), U (Proc.devRef .tc main_arg1), U (Proc.devRef .tc main_arg2), U (Proc.devRef .tc main_arg3), U (Proc.devRef .tc main_arg4), U (Proc.devRef .tc main_arg5)⟩

theorem res_x (r : Fin 4096) (k : Fin 1024) : after ops U (Proc.devRef .tc main_v67) (ix2 r k) = Cert.Head.dx (args U) r k := by
  after_reads_at
  simp only [Cert.Head.twice]
  rfl

theorem res_gate (r : Fin 4096) (k : Fin 1024) : after ops U (Proc.devRef .tc main_v69) (ix2 r k) = Cert.Head.dgate (args U) r k := by
  after_reads_at
  simp only [Cert.Head.twice]
  rfl

theorem res_emb (r : Fin 4096) (k : Fin 1024) : after ops U (Proc.devRef .tc main_v71) (ix2 r k) = Cert.Head.demb (args U) r k := by
  after_reads_at
  simp only [Cert.Head.twice]
  rfl

theorem res_g (z : Fin 1) (k : Fin 1024) : after ops U (Proc.devRef .tc main_v72) (ix2 z k) = Cert.Head.dg (args U) z k := by
  obtain rfl : z = 0 := Subsingleton.elim _ _
  after_reads_simp
  all_goals try simp -implicitDefEqProofs only [StableHlo.TRef.toBuf, StableHlo.TRef.ofBuf, cast_cast, cast_eq]
  all_goals clean_types
  pointwise [hostReduceAdd_lead]
  simp only [Cert.Head.twice]
  exact (Fin.sum_univ_one (M := EReal) _).trans ((Fin.sum_univ_one (M := EReal) _).trans (Cert.RmsNorm.sum_rows _))

theorem res_loss (z : Fin 1) (k : Fin 1024) : after ops U (Proc.devRef .tc main_v73) (ix2 z k) = Cert.Head.loss (args U) z k := by
  after_reads_simp
  all_goals try simp -implicitDefEqProofs only [StableHlo.TRef.toBuf, StableHlo.TRef.ofBuf, cast_cast, cast_eq]
  all_goals clean_types
  pointwise [hostReduceAdd_all]
  exact congrArg (fun v : EReal => Ideal.ofBits .f32 1056964608#32 * v) (Cert.RmsNorm.sum_rows _)

/-- The run: the five results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = arr (Cert.Head.dx ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5)⟩)
      ∧ r.2.mem ((c.tc : Thread nD τ).loc main_v69) = arr (Cert.Head.dgate ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5)⟩)
      ∧ r.2.mem ((c.tc : Thread nD τ).loc main_v71) = arr (Cert.Head.demb ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5)⟩)
      ∧ r.2.mem ((c.tc : Thread nD τ).loc main_v72) = arr (Cert.Head.dg ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5)⟩)
      ∧ r.2.mem ((c.tc : Thread nD τ).loc main_v73) = arr (Cert.Head.loss ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5)⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c _).trans (arr_ext fun _ _ => res_x _ _ _), (h c _).trans (arr_ext fun _ _ => res_gate _ _ _), (h c _).trans (arr_ext fun _ _ => res_emb _ _ _), (h c _).trans (arr_ext fun _ _ => res_g _ _ _), (h c _).trans (arr_ext fun _ _ => res_loss _ _ _),
      (h c _).trans (by after_reads_simp), (h c _).trans (by after_reads_simp), (h c _).trans (by after_reads_simp), (h c _).trans (by after_reads_simp), (h c _).trans (by after_reads_simp), (h c _).trans (by after_reads_simp)⟩)
    (run_seq scopedRefs_eq scopedSems_eq defs main (fun _ => ops) main_eq (fun _ => ops_sub) m ρ)

end Cert.HeadRefIdeal.Val

end
-- ==== Proof.Ple.Ref.lean ====
/-
  What the reference's two results hold.
-/
module

public import proofs.«01_k».proof.Proof.Rms.Spec
public import proofs.«01_k».proof.Proof.Shared.Sums
public import proofs.«01_k».proof.Proof.Gen.PleRefIdeal.Run
public import Idealize.ShloMosaic.Lib.StableHlo.ReadAt
public import Idealize.ShloMosaic.Lib.Tactic.WordOmega

@[expose] public section

set_option maxRecDepth 16384

noncomputable section

namespace Cert.PleRefIdeal.Val

open Cert.PleRefIdeal Cert.PleRefIdeal.Value Cert.Rows
open Idealize.ShloMosaic Idealize.ShloMosaic.TcCoe Idealize.SL.Sem Idealize.ShloMosaic.StableHlo

variable (U : Valuation τ sig (Elt Ideal))

/-- The residual's cotangent is added first. -/
theorem assoc (y a b c : EReal) : y + a + b + c = a + b + c + y := by
  rw [add_assoc y a b, add_assoc y, add_comm y]

theorem res_x (r : Fin 4096) (k : Fin 1024) : after ops U (Proc.devRef .tc main_v42) (ix2 r k)
    = Cert.Rms.dx (U (Proc.devRef .tc main_arg0)) (U (Proc.devRef .tc main_arg1)) (U (Proc.devRef .tc main_arg2)) (U (Proc.devRef .tc main_arg3)) (U (Proc.devRef .tc main_arg4)) r k := by
  after_reads_at
  exact assoc _ _ _ _

theorem res_g (z : Fin 1) (k : Fin 1024) : after ops U (Proc.devRef .tc main_v41) (ix2 z k)
    = Cert.Rms.dg (U (Proc.devRef .tc main_arg0)) (U (Proc.devRef .tc main_arg2)) (U (Proc.devRef .tc main_arg3)) z k := by
  after_reads_simp
  all_goals try simp -implicitDefEqProofs only [StableHlo.TRef.toBuf, StableHlo.TRef.ofBuf, cast_cast, cast_eq]
  all_goals clean_types
  pointwise [hostReduceAdd_lead]
  exact (Fin.sum_univ_one (M := EReal) _).trans ((Fin.sum_univ_one (M := EReal) _).trans (Cert.RmsNorm.sum_rows _))

/-- The run: the two results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = arr (Cert.Rms.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v41) = arr (Cert.Rms.dg (m ((c.tc : Thread nD τ).loc main_arg0)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c _).trans (arr_ext fun _ _ => res_x _ _ _), (h c _).trans (arr_ext fun _ _ => res_g _ _ _),
      (h c _).trans (by after_reads_simp), (h c _).trans (by after_reads_simp), (h c _).trans (by after_reads_simp), (h c _).trans (by after_reads_simp),
      (h c _).trans (by after_reads_simp)⟩)
    (run_seq scopedRefs_eq scopedSems_eq defs main (fun _ => ops) main_eq (fun _ => ops_sub) m ρ)

end Cert.PleRefIdeal.Val

end
-- ==== Proof.Mix.Ref.lean ====
/-
  What the reference's two results hold.
-/
module

public import proofs.«01_k».proof.Proof.Rms.Spec
public import proofs.«01_k».proof.Proof.Shared.Sums
public import proofs.«01_k».proof.Proof.Gen.MixRefIdeal.Run
public import Idealize.ShloMosaic.Lib.StableHlo.ReadAt
public import Idealize.ShloMosaic.Lib.Tactic.WordOmega

@[expose] public section

set_option maxRecDepth 16384

noncomputable section

namespace Cert.MixRefIdeal.Val

open Cert.MixRefIdeal Cert.MixRefIdeal.Value Cert.Rows
open Idealize.ShloMosaic Idealize.ShloMosaic.TcCoe Idealize.SL.Sem Idealize.ShloMosaic.StableHlo

variable (U : Valuation τ sig (Elt Ideal))

/-- The residual's cotangent is added first. -/
theorem assoc (y a b c : EReal) : y + a + b + c = a + b + c + y := by
  rw [add_assoc y a b, add_assoc y, add_comm y]

theorem res_x (r : Fin 4096) (k : Fin 1024) : after ops U (Proc.devRef .tc main_v42) (ix2 r k)
    = Cert.Rms.dx (U (Proc.devRef .tc main_arg0)) (U (Proc.devRef .tc main_arg1)) (U (Proc.devRef .tc main_arg2)) (U (Proc.devRef .tc main_arg3)) (U (Proc.devRef .tc main_arg4)) r k := by
  after_reads_at
  exact assoc _ _ _ _

theorem res_g (z : Fin 1) (k : Fin 1024) : after ops U (Proc.devRef .tc main_v41) (ix2 z k)
    = Cert.Rms.dg (U (Proc.devRef .tc main_arg0)) (U (Proc.devRef .tc main_arg2)) (U (Proc.devRef .tc main_arg3)) z k := by
  after_reads_simp
  all_goals try simp -implicitDefEqProofs only [StableHlo.TRef.toBuf, StableHlo.TRef.ofBuf, cast_cast, cast_eq]
  all_goals clean_types
  pointwise [hostReduceAdd_lead]
  exact (Fin.sum_univ_one (M := EReal) _).trans ((Fin.sum_univ_one (M := EReal) _).trans (Cert.RmsNorm.sum_rows _))

/-- The run: the two results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = arr (Cert.Rms.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v41) = arr (Cert.Rms.dg (m ((c.tc : Thread nD τ).loc main_arg0)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c _).trans (arr_ext fun _ _ => res_x _ _ _), (h c _).trans (arr_ext fun _ _ => res_g _ _ _),
      (h c _).trans (by after_reads_simp), (h c _).trans (by after_reads_simp), (h c _).trans (by after_reads_simp), (h c _).trans (by after_reads_simp),
      (h c _).trans (by after_reads_simp)⟩)
    (run_seq scopedRefs_eq scopedSems_eq defs main (fun _ => ops) main_eq (fun _ => ops_sub) m ρ)

end Cert.MixRefIdeal.Val

end
-- ==== Proof.AttnF.Spec.lean ====
/-
  The chunked band attention: what both programs compute, over the extended reals.
-/
module

public import Idealize.ShloMosaic.Lib.IdealHost

@[expose] public section

noncomputable section

namespace Cert.AttnF

open Idealize.ShloMosaic

/-- The scale of the queries, one eighth. -/
abbrev eighth : EReal := Ideal.ofBits .f32 0x3E000000#32

/-- The score of a column that is left out. -/
abbrev low : EReal := Ideal.ofBits .f32 0xF149F2CA#32

/-- The largest entry of a row. -/
def top (s : Fin 576 → EReal) : EReal := Finset.fold max (Ideal.ofBits .f32 0xFF800000#32) s Finset.univ

/-- The exponentials of a row, from its largest entry. -/
def expd (s : Fin 576 → EReal) (c : Fin 576) : EReal := Ideal.exp (s c - top s)

/-- The row's softmax, dotted with `v`. -/
def softDot (s v : Fin 576 → EReal) : EReal := ∑ c, Ideal.div (expd s c) (∑ x, expd s x) * v c

abbrev Proj := Fin 2 → Fin 2048 → Fin 5640 → EReal
abbrev Bias := Fin 8 → Fin 257 → EReal

/-- The query of row `i` of chunk `n`, head `h`. -/
def qry (x : Proj) (b : Fin 2) (h : Fin 8) (n : Fin 32) (i d : Fin 64) : EReal := x b ⟨64 * n.1 + i.1, by omega⟩ ⟨64 * h.1 + d.1, by omega⟩

/-- Row `c` of the band of chunk `n`: the row 512 before, zero before the first one; the keys at column 512, the values at 1024. -/
def band (x : Proj) (o : Fin 2) (b : Fin 2) (h : Fin 8) (n : Fin 32) (c : Fin 576) (d : Fin 64) : EReal :=
  if _ : 512 ≤ 64 * n.1 + c.1 then x b ⟨64 * n.1 + c.1 - 512, by omega⟩ ⟨512 + 512 * o.1 + 64 * h.1 + d.1, by omega⟩ else 0

/-- The bias of row `i` against column `c`: by their distance, cut off at 128. -/
def bias (w : Bias) (h : Fin 8) (i : Fin 64) (c : Fin 576) : EReal := w h ⟨min (640 + i.1 - c.1) 256, by omega⟩

/-- The scores. -/
def score (x : Proj) (w : Bias) (b : Fin 2) (h : Fin 8) (n : Fin 32) (i : Fin 64) (c : Fin 576) : EReal :=
  if 512 ≤ 64 * n.1 + c.1 then (∑ d, qry x b h n i d * eighth * band x 0 b h n c d) + bias w h i c else low

/-- The attention of row `i` of chunk `n`. -/
def out (x : Proj) (w : Bias) (b : Fin 2) (h : Fin 8) (n : Fin 32) (i d : Fin 64) : EReal :=
  softDot (score x w b h n i) fun c => band x 1 b h n c d

/-- The result's row `r`, column `k`: batch `r / 2048`, chunk `r % 2048 / 64`, head `k / 64`. -/
def flat (f : Fin 2 → Fin 8 → Fin 32 → Fin 64 → Fin 64 → EReal) (r : Fin 4096) (k : Fin 512) : EReal :=
  f ⟨r.1 / 2048, by omega⟩ ⟨k.1 / 64, by omega⟩ ⟨r.1 % 2048 / 64, by omega⟩ ⟨r.1 % 64, by omega⟩ ⟨k.1 % 64, by omega⟩

end Cert.AttnF

end
-- ==== Proof.AttnF.RefBand.lean ====
/-
  The reference's bands: nine chunks of keys, or of values, side by side.
-/
module

public import proofs.«01_k».proof.Proof.AttnF.Spec
public import proofs.«01_k».proof.Proof.Shared.Rows
public import proofs.«01_k».proof.Proof.Gen.AttnFRefIdeal.Run
public import Idealize.ShloMosaic.Lib.StableHlo.ReadAt
public import Idealize.ShloMosaic.Lib.Tactic.WordOmega

@[expose] public section

set_option maxRecDepth 16384

noncomputable section

namespace Cert.AttnFRefIdeal.Val

open Cert.AttnFRefIdeal Cert.AttnFRefIdeal.Value Cert.Rows Cert.AttnF
open Idealize.ShloMosaic Idealize.ShloMosaic.TcCoe Idealize.SL.Sem Idealize.ShloMosaic.StableHlo

variable (A : Valuation τ sig (Elt Ideal))

/-- A row of nine chunks side by side, read at chunk `q`. -/
theorem pick9 (r : Fin 9 → EReal) (g0 g1 g2 g3 g4 g5 g6 g7 g8 : Fin 1 → EReal) (e0 : ∀ z, g0 z = r 0) (e1 : ∀ z, g1 z = r 1) (e2 : ∀ z, g2 z = r 2)
    (e3 : ∀ z, g3 z = r 3) (e4 : ∀ z, g4 z = r 4) (e5 : ∀ z, g5 z = r 5) (e6 : ∀ z, g6 z = r 6) (e7 : ∀ z, g7 z = r 7) (e8 : ∀ z, g8 z = r 8) (q : ℕ) (hq : q < 9) :
    (if h : q < 1 then g0 ⟨q, h⟩ else if h : q - 1 < 1 then g1 ⟨q - 1, h⟩ else if h : q - 1 - 1 < 1 then g2 ⟨q - 1 - 1, h⟩
      else if h : q - 1 - 1 - 1 < 1 then g3 ⟨q - 1 - 1 - 1, h⟩ else if h : q - 1 - 1 - 1 - 1 < 1 then g4 ⟨q - 1 - 1 - 1 - 1, h⟩
      else if h : q - 1 - 1 - 1 - 1 - 1 < 1 then g5 ⟨q - 1 - 1 - 1 - 1 - 1, h⟩ else if h : q - 1 - 1 - 1 - 1 - 1 - 1 < 1 then g6 ⟨q - 1 - 1 - 1 - 1 - 1 - 1, h⟩
      else if h : q - 1 - 1 - 1 - 1 - 1 - 1 - 1 < 1 then g7 ⟨q - 1 - 1 - 1 - 1 - 1 - 1 - 1, h⟩
      else g8 ⟨q - 1 - 1 - 1 - 1 - 1 - 1 - 1 - 1, by omega⟩) = r ⟨q, hq⟩ := by
  simp only [e0, e1, e2, e3, e4, e5, e6, e7, e8, dite_eq_ite]
  split_ifs
  all_goals exact congrArg r (Fin.ext (by dsimp only; omega))

variable (f : Fin 2 → Fin 40 → Fin 64 → Fin 8 → Fin 64 → EReal)

/-! ## The keys' bands: nine chunks side by side -/

theorem at_v41 (hf : ∀ b p i h d, A (Proc.devRef .tc main_v31) (ix5 b p i h d) = f b p i h d) (b : Fin 2) (n : Fin 32) (i : Fin 64) (h : Fin 8) (d : Fin 64) (z : Fin 1) :
    upto (ops.drop 45) A 18 (Proc.devRef .tc main_v41) (ix6 b n z i h d) = f b ⟨n.1 + 0, by omega⟩ i h d := by
  obtain rfl : z = 0 := Subsingleton.elim _ _
  after_reads_at
  exact (hf _ _ _ _ _).trans (congrArg (f b · i h d) (Fin.ext (by dsimp only <;> omega)))

theorem at_v42 (hf : ∀ b p i h d, A (Proc.devRef .tc main_v31) (ix5 b p i h d) = f b p i h d) (b : Fin 2) (n : Fin 32) (i : Fin 64) (h : Fin 8) (d : Fin 64) (z : Fin 1) :
    upto (ops.drop 45) A 18 (Proc.devRef .tc main_v42) (ix6 b n z i h d) = f b ⟨n.1 + 1, by omega⟩ i h d := by
  obtain rfl : z = 0 := Subsingleton.elim _ _
  after_reads_at
  exact (hf _ _ _ _ _).trans (congrArg (f b · i h d) (Fin.ext (by dsimp only <;> omega)))

theorem at_v43 (hf : ∀ b p i h d, A (Proc.devRef .tc main_v31) (ix5 b p i h d) = f b p i h d) (b : Fin 2) (n : Fin 32) (i : Fin 64) (h : Fin 8) (d : Fin 64) (z : Fin 1) :
    upto (ops.drop 45) A 18 (Proc.devRef .tc main_v43) (ix6 b n z i h d) = f b ⟨n.1 + 2, by omega⟩ i h d := by
  obtain rfl : z = 0 := Subsingleton.elim _ _
  after_reads_at
  exact (hf _ _ _ _ _).trans (congrArg (f b · i h d) (Fin.ext (by dsimp only <;> omega)))

theorem at_v44 (hf : ∀ b p i h d, A (Proc.devRef .tc main_v31) (ix5 b p i h d) = f b p i h d) (b : Fin 2) (n : Fin 32) (i : Fin 64) (h : Fin 8) (d : Fin 64) (z : Fin 1) :
    upto (ops.drop 45) A 18 (Proc.devRef .tc main_v44) (ix6 b n z i h d) = f b ⟨n.1 + 3, by omega⟩ i h d := by
  obtain rfl : z = 0 := Subsingleton.elim _ _
  after_reads_at
  exact (hf _ _ _ _ _).trans (congrArg (f b · i h d) (Fin.ext (by dsimp only <;> omega)))

theorem at_v45 (hf : ∀ b p i h d, A (Proc.devRef .tc main_v31) (ix5 b p i h d) = f b p i h d) (b : Fin 2) (n : Fin 32) (i : Fin 64) (h : Fin 8) (d : Fin 64) (z : Fin 1) :
    upto (ops.drop 45) A 18 (Proc.devRef .tc main_v45) (ix6 b n z i h d) = f b ⟨n.1 + 4, by omega⟩ i h d := by
  obtain rfl : z = 0 := Subsingleton.elim _ _
  after_reads_at
  exact (hf _ _ _ _ _).trans (congrArg (f b · i h d) (Fin.ext (by dsimp only <;> omega)))

theorem at_v46 (hf : ∀ b p i h d, A (Proc.devRef .tc main_v31) (ix5 b p i h d) = f b p i h d) (b : Fin 2) (n : Fin 32) (i : Fin 64) (h : Fin 8) (d : Fin 64) (z : Fin 1) :
    upto (ops.drop 45) A 18 (Proc.devRef .tc main_v46) (ix6 b n z i h d) = f b ⟨n.1 + 5, by omega⟩ i h d := by
  obtain rfl : z = 0 := Subsingleton.elim _ _
  after_reads_at
  exact (hf _ _ _ _ _).trans (congrArg (f b · i h d) (Fin.ext (by dsimp only <;> omega)))

theorem at_v47 (hf : ∀ b p i h d, A (Proc.devRef .tc main_v31) (ix5 b p i h d) = f b p i h d) (b : Fin 2) (n : Fin 32) (i : Fin 64) (h : Fin 8) (d : Fin 64) (z : Fin 1) :
    upto (ops.drop 45) A 18 (Proc.devRef .tc main_v47) (ix6 b n z i h d) = f b ⟨n.1 + 6, by omega⟩ i h d := by
  obtain rfl : z = 0 := Subsingleton.elim _ _
  after_reads_at
  exact (hf _ _ _ _ _).trans (congrArg (f b · i h d) (Fin.ext (by dsimp only <;> omega)))

theorem at_v48 (hf : ∀ b p i h d, A (Proc.devRef .tc main_v31) (ix5 b p i h d) = f b p i h d) (b : Fin 2) (n : Fin 32) (i : Fin 64) (h : Fin 8) (d : Fin 64) (z : Fin 1) :
    upto (ops.drop 45) A 18 (Proc.devRef .tc main_v48) (ix6 b n z i h d) = f b ⟨n.1 + 7, by omega⟩ i h d := by
  obtain rfl : z = 0 := Subsingleton.elim _ _
  after_reads_at
  exact (hf _ _ _ _ _).trans (congrArg (f b · i h d) (Fin.ext (by dsimp only <;> omega)))

theorem at_v49 (hf : ∀ b p i h d, A (Proc.devRef .tc main_v31) (ix5 b p i h d) = f b p i h d) (b : Fin 2) (n : Fin 32) (i : Fin 64) (h : Fin 8) (d : Fin 64) (z : Fin 1) :
    upto (ops.drop 45) A 18 (Proc.devRef .tc main_v49) (ix6 b n z i h d) = f b ⟨n.1 + 8, by omega⟩ i h d := by
  obtain rfl : z = 0 := Subsingleton.elim _ _
  after_reads_at
  exact (hf _ _ _ _ _).trans (congrArg (f b · i h d) (Fin.ext (by dsimp only <;> omega)))

theorem at_v51 (g0 : ∀ (b : Fin 2) (n : Fin 32) (i : Fin 64) (h : Fin 8) (d : Fin 64) (z : Fin 1), A (Proc.devRef .tc main_v41) (ix6 b n z i h d) = f b ⟨n.1 + 0, by omega⟩ i h d) (g1 : ∀ (b : Fin 2) (n : Fin 32) (i : Fin 64) (h : Fin 8) (d : Fin 64) (z : Fin 1), A (Proc.devRef .tc main_v42) (ix6 b n z i h d) = f b ⟨n.1 + 1, by omega⟩ i h d) (g2 : ∀ (b : Fin 2) (n : Fin 32) (i : Fin 64) (h : Fin 8) (d : Fin 64) (z : Fin 1), A (Proc.devRef .tc main_v43) (ix6 b n z i h d) = f b ⟨n.1 + 2, by omega⟩ i h d) (g3 : ∀ (b : Fin 2) (n : Fin 32) (i : Fin 64) (h : Fin 8) (d : Fin 64) (z : Fin 1), A (Proc.devRef .tc main_v44) (ix6 b n z i h d) = f b ⟨n.1 + 3, by omega⟩ i h d) (g4 : ∀ (b : Fin 2) (n : Fin 32) (i : Fin 64) (h : Fin 8) (d : Fin 64) (z : Fin 1), A (Proc.devRef .tc main_v45) (ix6 b n z i h d) = f b ⟨n.1 + 4, by omega⟩ i h d) (g5 : ∀ (b : Fin 2) (n : Fin 32) (i : Fin 64) (h : Fin 8) (d : Fin 64) (z : Fin 1), A (Proc.devRef .tc main_v46) (ix6 b n z i h d) = f b ⟨n.1 + 5, by omega⟩ i h d) (g6 : ∀ (b : Fin 2) (n : Fin 32) (i : Fin 64) (h : Fin 8) (d : Fin 64) (z : Fin 1), A (Proc.devRef .tc main_v47) (ix6 b n z i h d) = f b ⟨n.1 + 6, by omega⟩ i h d) (g7 : ∀ (b : Fin 2) (n : Fin 32) (i : Fin 64) (h : Fin 8) (d : Fin 64) (z : Fin 1), A (Proc.devRef .tc main_v48) (ix6 b n z i h d) = f b ⟨n.1 + 7, by omega⟩ i h d) (g8 : ∀ (b : Fin 2) (n : Fin 32) (i : Fin 64) (h : Fin 8) (d : Fin 64) (z : Fin 1), A (Proc.devRef .tc main_v49) (ix6 b n z i h d) = f b ⟨n.1 + 8, by omega⟩ i h d)
    (b : Fin 2) (n : Fin 32) (c : Fin 576) (h : Fin 8) (d : Fin 64) :
    upto (ops.drop 63) A 2 (Proc.devRef .tc main_v51) (ix5 b n c h d) = f b ⟨n.1 + c.1 / 64, by omega⟩ ⟨c.1 % 64, by omega⟩ h d := by
  after_reads_simp
  clean_types
  pointwise [fn_main_v50]
  exact pick9 (fun j => f b ⟨n.1 + j.1, by omega⟩ ⟨c.1 % 64, by omega⟩ h d)
    (fun z => A (Proc.devRef .tc main_v41) (ix6 b n z ⟨c.1 % 64, by omega⟩ h d)) (fun z => A (Proc.devRef .tc main_v42) (ix6 b n z ⟨c.1 % 64, by omega⟩ h d)) (fun z => A (Proc.devRef .tc main_v43) (ix6 b n z ⟨c.1 % 64, by omega⟩ h d)) (fun z => A (Proc.devRef .tc main_v44) (ix6 b n z ⟨c.1 % 64, by omega⟩ h d)) (fun z => A (Proc.devRef .tc main_v45) (ix6 b n z ⟨c.1 % 64, by omega⟩ h d)) (fun z => A (Proc.devRef .tc main_v46) (ix6 b n z ⟨c.1 % 64, by omega⟩ h d)) (fun z => A (Proc.devRef .tc main_v47) (ix6 b n z ⟨c.1 % 64, by omega⟩ h d)) (fun z => A (Proc.devRef .tc main_v48) (ix6 b n z ⟨c.1 % 64, by omega⟩ h d)) (fun z => A (Proc.devRef .tc main_v49) (ix6 b n z ⟨c.1 % 64, by omega⟩ h d))
    (fun z => g0 _ _ _ _ _ z) (fun z => g1 _ _ _ _ _ z) (fun z => g2 _ _ _ _ _ z) (fun z => g3 _ _ _ _ _ z) (fun z => g4 _ _ _ _ _ z) (fun z => g5 _ _ _ _ _ z) (fun z => g6 _ _ _ _ _ z) (fun z => g7 _ _ _ _ _ z) (fun z => g8 _ _ _ _ _ z) (c.1 / 64) (by omega)

/-! ## The values behind 512 rows of zeros -/

def padVal (v : Fin 2 → Fin 2048 → Fin 8 → Fin 64 → EReal) (b : Fin 2) (p : Fin 40) (i : Fin 64) (h : Fin 8) (d : Fin 64) : EReal :=
  if _ : 8 ≤ p.1 then v b ⟨64 * p.1 + i.1 - 512, by omega⟩ h d else 0

theorem padVal_of (v : Fin 2 → Fin 2048 → Fin 8 → Fin 64 → EReal) (b : Fin 2) (p : Fin 40) (i : Fin 64) (h : Fin 8) (d : Fin 64)
    (z : Fin 8 → EReal) (hz : ∀ p, z p = 0) : (if h8 : p.1 < 8 then z ⟨p.1, h8⟩ else v b ⟨(p.1 - 8) * 64 + i.1, by omega⟩ h d) = padVal v b p i h d := by
  unfold padVal
  by_cases h8 : p.1 < 8
  · rw [dif_pos h8, dif_neg (by omega), hz]
  · rw [dif_neg h8, dif_pos (by omega)]
    exact congrArg (v b · h d) (Fin.ext (by dsimp only; omega))

theorem at_v81 (v : Fin 2 → Fin 2048 → Fin 8 → Fin 64 → EReal) (hv : ∀ b r h d, A (Proc.devRef .tc main_v25) (ix4 b r h d) = v b r h d)
    (hz : ∀ (b : Fin 2) (p : Fin 8) (i : Fin 64) (h : Fin 8) (d : Fin 64), A (Proc.devRef .tc main_v29) (ix5 b p i h d) = (0 : EReal))
    (b : Fin 2) (p : Fin 40) (i : Fin 64) (h : Fin 8) (d : Fin 64) : upto (ops.drop 101) A 2 (Proc.devRef .tc main_v81) (ix5 b p i h d) = padVal v b p i h d := by
  after_reads_simp
  clean_types
  pointwise [fn_main_v81]
  simp only [hv]
  exact padVal_of v b p i h d (fun p => A (Proc.devRef .tc main_v29) (ix5 b p i h d)) (fun p => hz b p i h d)

/-! ## The values' bands -/

theorem at_v91 (hf : ∀ b p i h d, A (Proc.devRef .tc main_v81) (ix5 b p i h d) = f b p i h d) (b : Fin 2) (n : Fin 32) (i : Fin 64) (h : Fin 8) (d : Fin 64) (z : Fin 1) :
    upto (ops.drop 103) A 18 (Proc.devRef .tc main_v91) (ix6 b n z i h d) = f b ⟨n.1 + 0, by omega⟩ i h d := by
  obtain rfl : z = 0 := Subsingleton.elim _ _
  after_reads_at
  exact (hf _ _ _ _ _).trans (congrArg (f b · i h d) (Fin.ext (by dsimp only <;> omega)))

theorem at_v92 (hf : ∀ b p i h d, A (Proc.devRef .tc main_v81) (ix5 b p i h d) = f b p i h d) (b : Fin 2) (n : Fin 32) (i : Fin 64) (h : Fin 8) (d : Fin 64) (z : Fin 1) :
    upto (ops.drop 103) A 18 (Proc.devRef .tc main_v92) (ix6 b n z i h d) = f b ⟨n.1 + 1, by omega⟩ i h d := by
  obtain rfl : z = 0 := Subsingleton.elim _ _
  after_reads_at
  exact (hf _ _ _ _ _).trans (congrArg (f b · i h d) (Fin.ext (by dsimp only <;> omega)))

theorem at_v93 (hf : ∀ b p i h d, A (Proc.devRef .tc main_v81) (ix5 b p i h d) = f b p i h d) (b : Fin 2) (n : Fin 32) (i : Fin 64) (h : Fin 8) (d : Fin 64) (z : Fin 1) :
    upto (ops.drop 103) A 18 (Proc.devRef .tc main_v93) (ix6 b n z i h d) = f b ⟨n.1 + 2, by omega⟩ i h d := by
  obtain rfl : z = 0 := Subsingleton.elim _ _
  after_reads_at
  exact (hf _ _ _ _ _).trans (congrArg (f b · i h d) (Fin.ext (by dsimp only <;> omega)))

theorem at_v94 (hf : ∀ b p i h d, A (Proc.devRef .tc main_v81) (ix5 b p i h d) = f b p i h d) (b : Fin 2) (n : Fin 32) (i : Fin 64) (h : Fin 8) (d : Fin 64) (z : Fin 1) :
    upto (ops.drop 103) A 18 (Proc.devRef .tc main_v94) (ix6 b n z i h d) = f b ⟨n.1 + 3, by omega⟩ i h d := by
  obtain rfl : z = 0 := Subsingleton.elim _ _
  after_reads_at
  exact (hf _ _ _ _ _).trans (congrArg (f b · i h d) (Fin.ext (by dsimp only <;> omega)))

theorem at_v95 (hf : ∀ b p i h d, A (Proc.devRef .tc main_v81) (ix5 b p i h d) = f b p i h d) (b : Fin 2) (n : Fin 32) (i : Fin 64) (h : Fin 8) (d : Fin 64) (z : Fin 1) :
    upto (ops.drop 103) A 18 (Proc.devRef .tc main_v95) (ix6 b n z i h d) = f b ⟨n.1 + 4, by omega⟩ i h d := by
  obtain rfl : z = 0 := Subsingleton.elim _ _
  after_reads_at
  exact (hf _ _ _ _ _).trans (congrArg (f b · i h d) (Fin.ext (by dsimp only <;> omega)))

theorem at_v96 (hf : ∀ b p i h d, A (Proc.devRef .tc main_v81) (ix5 b p i h d) = f b p i h d) (b : Fin 2) (n : Fin 32) (i : Fin 64) (h : Fin 8) (d : Fin 64) (z : Fin 1) :
    upto (ops.drop 103) A 18 (Proc.devRef .tc main_v96) (ix6 b n z i h d) = f b ⟨n.1 + 5, by omega⟩ i h d := by
  obtain rfl : z = 0 := Subsingleton.elim _ _
  after_reads_at
  exact (hf _ _ _ _ _).trans (congrArg (f b · i h d) (Fin.ext (by dsimp only <;> omega)))

theorem at_v97 (hf : ∀ b p i h d, A (Proc.devRef .tc main_v81) (ix5 b p i h d) = f b p i h d) (b : Fin 2) (n : Fin 32) (i : Fin 64) (h : Fin 8) (d : Fin 64) (z : Fin 1) :
    upto (ops.drop 103) A 18 (Proc.devRef .tc main_v97) (ix6 b n z i h d) = f b ⟨n.1 + 6, by omega⟩ i h d := by
  obtain rfl : z = 0 := Subsingleton.elim _ _
  after_reads_at
  exact (hf _ _ _ _ _).trans (congrArg (f b · i h d) (Fin.ext (by dsimp only <;> omega)))

theorem at_v98 (hf : ∀ b p i h d, A (Proc.devRef .tc main_v81) (ix5 b p i h d) = f b p i h d) (b : Fin 2) (n : Fin 32) (i : Fin 64) (h : Fin 8) (d : Fin 64) (z : Fin 1) :
    upto (ops.drop 103) A 18 (Proc.devRef .tc main_v98) (ix6 b n z i h d) = f b ⟨n.1 + 7, by omega⟩ i h d := by
  obtain rfl : z = 0 := Subsingleton.elim _ _
  after_reads_at
  exact (hf _ _ _ _ _).trans (congrArg (f b · i h d) (Fin.ext (by dsimp only <;> omega)))

theorem at_v99 (hf : ∀ b p i h d, A (Proc.devRef .tc main_v81) (ix5 b p i h d) = f b p i h d) (b : Fin 2) (n : Fin 32) (i : Fin 64) (h : Fin 8) (d : Fin 64) (z : Fin 1) :
    upto (ops.drop 103) A 18 (Proc.devRef .tc main_v99) (ix6 b n z i h d) = f b ⟨n.1 + 8, by omega⟩ i h d := by
  obtain rfl : z = 0 := Subsingleton.elim _ _
  after_reads_at
  exact (hf _ _ _ _ _).trans (congrArg (f b · i h d) (Fin.ext (by dsimp only <;> omega)))

theorem at_v101 (g0 : ∀ (b : Fin 2) (n : Fin 32) (i : Fin 64) (h : Fin 8) (d : Fin 64) (z : Fin 1), A (Proc.devRef .tc main_v91) (ix6 b n z i h d) = f b ⟨n.1 + 0, by omega⟩ i h d) (g1 : ∀ (b : Fin 2) (n : Fin 32) (i : Fin 64) (h : Fin 8) (d : Fin 64) (z : Fin 1), A (Proc.devRef .tc main_v92) (ix6 b n z i h d) = f b ⟨n.1 + 1, by omega⟩ i h d) (g2 : ∀ (b : Fin 2) (n : Fin 32) (i : Fin 64) (h : Fin 8) (d : Fin 64) (z : Fin 1), A (Proc.devRef .tc main_v93) (ix6 b n z i h d) = f b ⟨n.1 + 2, by omega⟩ i h d) (g3 : ∀ (b : Fin 2) (n : Fin 32) (i : Fin 64) (h : Fin 8) (d : Fin 64) (z : Fin 1), A (Proc.devRef .tc main_v94) (ix6 b n z i h d) = f b ⟨n.1 + 3, by omega⟩ i h d) (g4 : ∀ (b : Fin 2) (n : Fin 32) (i : Fin 64) (h : Fin 8) (d : Fin 64) (z : Fin 1), A (Proc.devRef .tc main_v95) (ix6 b n z i h d) = f b ⟨n.1 + 4, by omega⟩ i h d) (g5 : ∀ (b : Fin 2) (n : Fin 32) (i : Fin 64) (h : Fin 8) (d : Fin 64) (z : Fin 1), A (Proc.devRef .tc main_v96) (ix6 b n z i h d) = f b ⟨n.1 + 5, by omega⟩ i h d) (g6 : ∀ (b : Fin 2) (n : Fin 32) (i : Fin 64) (h : Fin 8) (d : Fin 64) (z : Fin 1), A (Proc.devRef .tc main_v97) (ix6 b n z i h d) = f b ⟨n.1 + 6, by omega⟩ i h d) (g7 : ∀ (b : Fin 2) (n : Fin 32) (i : Fin 64) (h : Fin 8) (d : Fin 64) (z : Fin 1), A (Proc.devRef .tc main_v98) (ix6 b n z i h d) = f b ⟨n.1 + 7, by omega⟩ i h d) (g8 : ∀ (b : Fin 2) (n : Fin 32) (i : Fin 64) (h : Fin 8) (d : Fin 64) (z : Fin 1), A (Proc.devRef .tc main_v99) (ix6 b n z i h d) = f b ⟨n.1 + 8, by omega⟩ i h d)
    (b : Fin 2) (n : Fin 32) (c : Fin 576) (h : Fin 8) (d : Fin 64) :
    upto (ops.drop 121) A 2 (Proc.devRef .tc main_v101) (ix5 b n c h d) = f b ⟨n.1 + c.1 / 64, by omega⟩ ⟨c.1 % 64, by omega⟩ h d := by
  after_reads_simp
  clean_types
  pointwise [fn_main_v100]
  exact pick9 (fun j => f b ⟨n.1 + j.1, by omega⟩ ⟨c.1 % 64, by omega⟩ h d)
    (fun z => A (Proc.devRef .tc main_v91) (ix6 b n z ⟨c.1 % 64, by omega⟩ h d)) (fun z => A (Proc.devRef .tc main_v92) (ix6 b n z ⟨c.1 % 64, by omega⟩ h d)) (fun z => A (Proc.devRef .tc main_v93) (ix6 b n z ⟨c.1 % 64, by omega⟩ h d)) (fun z => A (Proc.devRef .tc main_v94) (ix6 b n z ⟨c.1 % 64, by omega⟩ h d)) (fun z => A (Proc.devRef .tc main_v95) (ix6 b n z ⟨c.1 % 64, by omega⟩ h d)) (fun z => A (Proc.devRef .tc main_v96) (ix6 b n z ⟨c.1 % 64, by omega⟩ h d)) (fun z => A (Proc.devRef .tc main_v97) (ix6 b n z ⟨c.1 % 64, by omega⟩ h d)) (fun z => A (Proc.devRef .tc main_v98) (ix6 b n z ⟨c.1 % 64, by omega⟩ h d)) (fun z => A (Proc.devRef .tc main_v99) (ix6 b n z ⟨c.1 % 64, by omega⟩ h d))
    (fun z => g0 _ _ _ _ _ z) (fun z => g1 _ _ _ _ _ z) (fun z => g2 _ _ _ _ _ z) (fun z => g3 _ _ _ _ _ z) (fun z => g4 _ _ _ _ _ z) (fun z => g5 _ _ _ _ _ z) (fun z => g6 _ _ _ _ _ z) (fun z => g7 _ _ _ _ _ z) (fun z => g8 _ _ _ _ _ z) (c.1 / 64) (by omega)

/-! ## The result: the weights against the values -/

theorem at_result (v : Fin 2 → Fin 32 → Fin 576 → Fin 8 → Fin 64 → EReal) (p : Fin 2 → Fin 8 → Fin 32 → Fin 64 → Fin 576 → EReal)
    (hv : ∀ b n c h d, A (Proc.devRef .tc main_v101) (ix5 b n c h d) = v b n c h d) (hp : ∀ b h n i c, A (Proc.devRef .tc main_v79) (ix5 b h n i c) = p b h n i c)
    (r : Fin 4096) (k : Fin 512) : after (ops.drop 123) A (Proc.devRef .tc main_v106) (ix2 r k)
      = flat (fun b h n i d => ∑ c, p b h n i c * v b n c h d) r k := by
  after_reads_at
  unfold flat
  refine Finset.sum_congr rfl fun x _ => (congrArg₂ (fun a b : EReal => a * b) (hv _ _ _ _ _) (hp _ _ _ _ _)).trans ((mul_comm _ _).trans ?_)
  exact congrArg (fun i : Fin 64 => p _ _ _ i x * v _ _ x _ _) (Fin.ext (by dsimp only; omega))

end Cert.AttnFRefIdeal.Val

end
-- ==== Proof.AttnF.RefRows.lean ====
/-
  The reference's biases, queries, keys and values, from its arguments.
-/
module

public import proofs.«01_k».proof.Proof.AttnF.Spec
public import proofs.«01_k».proof.Proof.Shared.Rows
public import proofs.«01_k».proof.Proof.Shared.Split
public import proofs.«01_k».proof.Proof.Gen.AttnFRefIdeal.Run
public import Idealize.ShloMosaic.Lib.StableHlo.ReadAt
public import Idealize.ShloMosaic.Lib.Tactic.WordOmega

@[expose] public section

set_option maxRecDepth 16384

noncomputable section

namespace Cert.AttnFRefIdeal.Val

open Cert.AttnFRefIdeal Cert.AttnFRefIdeal.Value Cert.Rows Cert.AttnF
open Idealize.ShloMosaic Idealize.ShloMosaic.TcCoe Idealize.SL.Sem Idealize.ShloMosaic.StableHlo

/-- The gather of the table's columns, at an index. -/
theorem gather_at (x : S8x257.Idx → EReal) (w : IVec S64x576x1 32) (h : Fin 8) (i : Fin 64) (c : Fin 576) :
    Host.gather gather_S8x257_S64x576x1_S8x64x576_0_1_n_n_1_2_81 x w (ix3 h i c) = x (ix2 h ⟨min (w (ix3 i c 0)).toInt.toNat 256, by omega⟩) := by
  unfold Host.gather
  generalize hd : gather_S8x257_S64x576x1_S8x64x576_0_1_n_n_1_2_81 = d
  have hoff : d.offsetDims = [0] := by rw [← hd]; rfl
  have hcol : d.collapsedSliceDims = [1] := by rw [← hd]; rfl
  have hob : d.operandBatchingDims = [] := by rw [← hd]; rfl
  have hsim : d.startIndexMap = [1] := by rw [← hd]; rfl
  have hivd : d.indexVectorDim = 2 := by rw [← hd]; rfl
  have hsz : d.sliceSizes 1 = 1 := by rw [← hd]; rfl
  have hb : ∀ a, a ∉ d.operandBatchingDims := fun a => by rw [hob]; exact List.not_mem_nil
  have hk0 : (0 : Fin 2) ∈ d.sKept := by rw [GatherDims.mem_sKept, hcol, hob]; simp
  have hk1 : (1 : Fin 2) ∉ d.sKept := by rw [GatherDims.mem_sKept, hcol]; simp
  have hs0 : (0 : Fin 2) ∉ d.startIndexMap := by rw [hsim]; simp
  have hs1 : (1 : Fin 2) ∈ d.startIndexMap := by rw [hsim]; simp
  refine congrArg x (funext fun a => ?_)
  match a with
  | ⟨0, _⟩ =>
    refine Fin.ext ?_
    show d.start _ _ (0 : Fin 2) + d.batchCoord _ (0 : Fin 2) + d.offCoord _ (0 : Fin 2) = h.1
    rw [d.batchCoord_eq_zero _ _ (hb _)]
    unfold GatherDims.start GatherDims.offCoord
    rw [dif_neg hs0, dif_pos hk0, Nat.zero_add]
    have e : ∀ (k : ℕ) (hk : k < d.offsetDims.length), d.offsetDims[k] = (0 : Fin 3) := by rw [hoff]; intro k hk; simp
    exact congrArg (fun z => ((ix3 h i c : S8x64x576.Idx) z).val) (e _ _)
  | ⟨1, _⟩ =>
    refine Fin.ext ?_
    show d.start _ _ (1 : Fin 2) + d.batchCoord _ (1 : Fin 2) + d.offCoord _ (1 : Fin 2) = min (w (ix3 i c 0)).toInt.toNat 256
    rw [d.batchCoord_eq_zero _ _ (hb _), d.offCoord_eq_zero _ _ hk1]
    unfold GatherDims.start
    rw [dif_pos hs1]
    show min (w _).toInt.toNat (257 - d.sliceSizes 1) = _
    rw [hsz]
    refine congrArg (fun z => min (w z).toInt.toNat 256) (funext fun b => ?_)
    have kept : d.siKept = [0, 1] := by unfold GatherDims.siKept; rw [hivd]; decide
    have bat : d.batchDims = [1, 2] := by unfold GatherDims.batchDims; rw [hoff]; decide
    have e0 : ∀ hk, d.batchDims[d.siKept.idxOf (0 : Fin 3)]'hk = (1 : Fin 3) := by rw [kept, bat]; decide
    have e1 : ∀ hk, d.batchDims[d.siKept.idxOf (1 : Fin 3)]'hk = (2 : Fin 3) := by rw [kept, bat]; decide
    match b with
    | ⟨0, _⟩ =>
      unfold GatherDims.siIdx
      rw [dif_neg (by rw [hivd]; simp)]
      exact Fin.ext (congrArg (fun z => ((ix3 h i c : S8x64x576.Idx) z).val) (e0 _))
    | ⟨1, _⟩ =>
      unfold GatherDims.siIdx
      rw [dif_neg (by rw [hivd]; simp)]
      exact Fin.ext (congrArg (fun z => ((ix3 h i c : S8x64x576.Idx) z).val) (e1 _))
    | ⟨2, _⟩ => exact Subsingleton.elim (α := Fin 1) _ _

variable (U : Valuation τ sig (Elt Ideal))

/-- The position in the table of the distance `k - 63`: cut off at 128, counted from -128. -/
def posWord (k : ℕ) : BitVec 32 :=
  IntOp.addi (IntOp.minsi 128#32 (IntOp.maxsi 4294967168#32 (BitVec.ofNat 32 k - 63#32))) 128#32

theorem posWord_eq : ∀ k : Fin 639, Scalar.select (IntOp.cmpi CmpIPredicate.slt (posWord k.1) 0#32) (IntOp.addi (posWord k.1) 257#32) (posWord k.1)
    = BitVec.ofNat 32 (min (k.1 + 65) 256) := by decide +kernel

theorem dist_word (i : Fin 64) (c : Fin 576) : IntOp.subi (IntOp.addi (512#32) (BitVec.ofNat 32 i.1)) (BitVec.ofNat 32 c.1) = BitVec.ofNat 32 (575 + i.1 - c.1) - 63#32 := by
  have hi := i.2
  have hc := c.2
  refine BitVec.eq_of_toNat_eq ?_
  simp only [IntOp.subi, IntOp.addi, BitVec.toNat_sub, BitVec.toNat_add, BitVec.toNat_ofNat]
  omega

theorem pos_eq (i : Fin 64) (c : Fin 576) (w : BitVec 32) (hw : w = IntOp.subi (IntOp.addi (512#32) (BitVec.ofNat 32 i.1)) (BitVec.ofNat 32 c.1)) :
    Scalar.select (IntOp.cmpi CmpIPredicate.slt (IntOp.addi (IntOp.minsi 128#32 (IntOp.maxsi 4294967168#32 w)) 128#32) 0#32)
      (IntOp.addi (IntOp.addi (IntOp.minsi 128#32 (IntOp.maxsi 4294967168#32 w)) 128#32) 257#32) (IntOp.addi (IntOp.minsi 128#32 (IntOp.maxsi 4294967168#32 w)) 128#32)
      = BitVec.ofNat 32 (min (640 + i.1 - c.1) 256) := by
  have h := posWord_eq ⟨575 + i.1 - c.1, by omega⟩
  rw [hw, dist_word]
  refine h.trans (congrArg (BitVec.ofNat 32) ?_)
  dsimp only
  omega

theorem at_idx (i : Fin 64) (c : Fin 576) : upto ops U 30 (Proc.devRef .tc main_v18) (ix3 i c 0) = BitVec.ofNat 32 (min (640 + i.1 - c.1) 256) := by
  after_reads_at
  exact pos_eq i c _ rfl

theorem at_bias (h : Fin 8) (k : Fin 257) : upto ops U 30 (Proc.devRef .tc main_v12) (ix2 h k) = U (Proc.devRef .tc main_arg1) (ix3 0 h k) := by
  after_reads_at

theorem at_proj : upto ops U 30 (Proc.devRef .tc main_arg0) = U (Proc.devRef .tc main_arg0) := by
  after_reads_simp

/-! ## The biases, the queries, the keys behind 512 rows of zeros -/

section
variable (A : Valuation τ sig (Elt Ideal))

def padRow (x : Proj) (o : Fin 2) (b : Fin 2) (p : Fin 40) (i : Fin 64) (h : Fin 8) (d : Fin 64) : EReal :=
  if _ : 8 ≤ p.1 then x b ⟨64 * p.1 + i.1 - 512, by omega⟩ ⟨512 + 512 * o.1 + 64 * h.1 + d.1, by omega⟩ else 0

theorem padRow_of (x : Proj) (o : Fin 2) (b : Fin 2) (p : Fin 40) (i : Fin 64) (h : Fin 8) (d : Fin 64) (r : 8 ≤ p.1 → Fin 2048) (k : Fin 5640)
    (hr : ∀ h, (r h).1 = 64 * p.1 + i.1 - 512) (hk : k.1 = 512 + 512 * o.1 + 64 * h.1 + d.1) :
    (if h : p.1 < 8 then 0 else x b (r (Nat.le_of_not_lt h)) k) = padRow x o b p i h d := by
  unfold padRow
  by_cases h8 : p.1 < 8
  · rw [dif_pos h8, dif_neg (by omega)]
  · rw [dif_neg h8, dif_pos (by omega)]
    exact congrArg₂ (x b) (Fin.ext (hr _)) (Fin.ext hk)

theorem at_table (w : Bias) (hw : ∀ h k, A (Proc.devRef .tc main_v12) (ix2 h k) = w h k)
    (hi : ∀ (i : Fin 64) (c : Fin 576), A (Proc.devRef .tc main_v18) (ix3 i c 0) = BitVec.ofNat 32 (min (640 + i.1 - c.1) 256))
    (h : Fin 8) (i : Fin 64) (c : Fin 576) : upto (ops.drop 30) A 15 (Proc.devRef .tc main_v19) (ix3 h i c) = bias w h i c := by
  after_reads_simp
  refine (gather_at _ _ h i c).trans ?_
  refine (hw _ _).trans (congrArg (w h) (Fin.ext ?_))
  have e : (A (Proc.devRef .tc main_v18) (ix3 i c 0)).toInt.toNat = min (640 + i.1 - c.1) 256 := by
    rw [hi, BitVec.toInt_ofNat', Int.bmod_eq_emod]
    split <;> omega
  show min (A (Proc.devRef .tc main_v18) (ix3 i c 0)).toInt.toNat 256 = min (640 + i.1 - c.1) 256
  rw [e]
  omega

theorem at_q (x : Proj) (hx : ∀ b r k, A (Proc.devRef .tc main_arg0) (ix3 b r k) = x b r k) (b : Fin 2) (n : Fin 32) (i : Fin 64) (h : Fin 8) (d : Fin 64) :
    upto (ops.drop 30) A 15 (Proc.devRef .tc main_v28) (ix5 b n i h d) = qry x b h n i d * eighth := by
  after_reads_at
  refine congrArg (fun z : EReal => z * eighth) ((hx _ _ _).trans ?_)
  exact congrArg₂ (x b) (Fin.ext (by dsimp only; omega)) (Fin.ext (by dsimp only; omega))

theorem at_k (x : Proj) (hx : ∀ b r k, A (Proc.devRef .tc main_arg0) (ix3 b r k) = x b r k) (b : Fin 2) (p : Fin 40) (i : Fin 64) (h : Fin 8) (d : Fin 64) :
    upto (ops.drop 30) A 15 (Proc.devRef .tc main_v31) (ix5 b p i h d) = padRow x 0 b p i h d := by
  after_reads_simp
  clean_types
  pointwise [fn_main_v31]
  simp only [hx]
  exact padRow_of x 0 b p i h d (fun _ => ⟨(p.1 - 8) * 64 + i.1, by omega⟩) ⟨512 + (h.1 * 64 + d.1), by omega⟩ (fun _ => by dsimp only; omega) (by show 512 + (h.1 * 64 + d.1) = 512 + 512 * 0 + 64 * h.1 + d.1; omega)

theorem at_v (x : Proj) (hx : ∀ b r k, A (Proc.devRef .tc main_arg0) (ix3 b r k) = x b r k) (b : Fin 2) (r : Fin 2048) (h : Fin 8) (d : Fin 64) :
    upto (ops.drop 30) A 15 (Proc.devRef .tc main_v25) (ix4 b r h d) = x b r ⟨1024 + 64 * h.1 + d.1, by omega⟩ := by
  after_reads_at
  exact (hx _ _ _).trans (congrArg (x b r) (Fin.ext (by dsimp only; omega)))

theorem at_zero (b : Fin 2) (p : Fin 8) (i : Fin 64) (h : Fin 8) (d : Fin 64) : upto (ops.drop 30) A 15 (Proc.devRef .tc main_v29) (ix5 b p i h d) = (0 : EReal) := by
  after_reads_at

end

end Cert.AttnFRefIdeal.Val

end
-- ==== Proof.AttnF.RefSoft.lean ====
/-
  The reference's scores and its softmax.
-/
module

public import proofs.«01_k».proof.Proof.AttnF.Spec
public import proofs.«01_k».proof.Proof.Shared.Rows
public import proofs.«01_k».proof.Proof.Gen.AttnFRefIdeal.Run
public import Idealize.ShloMosaic.Lib.StableHlo.ReadAt
public import Idealize.ShloMosaic.Lib.Tactic.WordOmega

@[expose] public section

set_option maxRecDepth 16384

noncomputable section

namespace Cert.AttnFRefIdeal.Val

open Cert.AttnFRefIdeal Cert.AttnFRefIdeal.Value Cert.Rows Cert.AttnF
open Idealize.ShloMosaic Idealize.ShloMosaic.TcCoe Idealize.SL.Sem Idealize.ShloMosaic.StableHlo

variable (A : Valuation τ sig (Elt Ideal))

/-! ## The scores -/

theorem valid_word (n : Fin 32) (c : Fin 576) : IntOp.cmpi CmpIPredicate.sge (IntOp.addi (BitVec.ofNat 32 n.1) (BitVec.ofNat 32 (c.1 / 64))) 8#32
    = if 512 ≤ 64 * n.1 + c.1 then 1#1 else 0#1 := by
  have h : ∀ (n : Fin 32) (j : Fin 9), IntOp.cmpi CmpIPredicate.sge (IntOp.addi (BitVec.ofNat 32 n.1) (BitVec.ofNat 32 j.1)) 8#32
      = if 8 ≤ n.1 + j.1 then 1#1 else 0#1 := by decide +kernel
  refine (h n ⟨c.1 / 64, by omega⟩).trans (if_congr ?_ rfl rfl)
  dsimp only
  omega

theorem at_scores (s : Fin 2 → Fin 32 → Fin 64 → Fin 8 → Fin 64 → EReal) (k : Fin 2 → Fin 32 → Fin 576 → Fin 8 → Fin 64 → EReal) (w : Fin 8 → Fin 64 → Fin 576 → EReal)
    (hs : ∀ b n i h d, A (Proc.devRef .tc main_v28) (ix5 b n i h d) = s b n i h d) (hk : ∀ b n c h d, A (Proc.devRef .tc main_v51) (ix5 b n c h d) = k b n c h d)
    (hw : ∀ h i c, A (Proc.devRef .tc main_v19) (ix3 h i c) = w h i c) (b : Fin 2) (h : Fin 8) (n : Fin 32) (i : Fin 64) (c : Fin 576) :
    upto (ops.drop 65) A 22 (Proc.devRef .tc main_v68) (ix5 b h n i c)
      = if 512 ≤ 64 * n.1 + c.1 then (∑ d, s b n i h d * k b n c h d) + w h i c else low := by
  after_reads_at
  simp only [hs, hk, hw]
  rw [valid_word]
  by_cases hv : 512 ≤ 64 * n.1 + c.1
  · rw [if_pos hv, if_pos hv]
    rfl
  · rw [if_neg hv, if_neg hv]
    rfl

/-! ## The softmax -/

theorem at_tops (s : Fin 2 → Fin 8 → Fin 32 → Fin 64 → Fin 576 → EReal) (hs : ∀ b h n i c, A (Proc.devRef .tc main_v68) (ix5 b h n i c) = s b h n i c)
    (b : Fin 2) (h : Fin 8) (n : Fin 32) (i : Fin 64) :
    upto (ops.drop 87) A 2 (Proc.devRef .tc main_v69) (ix4 b h n i) = top (s b h n i) := by
  after_reads_at
  simp only [hs]
  rfl

theorem at_exps (s : Fin 2 → Fin 8 → Fin 32 → Fin 64 → Fin 576 → EReal) (hs : ∀ b h n i c, A (Proc.devRef .tc main_v68) (ix5 b h n i c) = s b h n i c)
    (ht : ∀ b h n i, A (Proc.devRef .tc main_v69) (ix4 b h n i) = top (s b h n i))
    (b : Fin 2) (h : Fin 8) (n : Fin 32) (i : Fin 64) (c : Fin 576) :
    upto (ops.drop 89) A 7 (Proc.devRef .tc main_v75) (ix5 b h n i c) = expd (s b h n i) c := by
  have hb : max (Ideal.ofBits .f32 0xFF800000#32) (top (s b h n i)) = top (s b h n i) := by
    have e : Ideal.ofBits .f32 0xFF800000#32 = (⊥ : EReal) := by simp [Ideal.ofBits, Ideal.ieee]
    rw [e]
    exact max_eq_right bot_le
  after_reads_at
  rw [hs, ht, hb]
  rfl

theorem at_quot (s : Fin 2 → Fin 8 → Fin 32 → Fin 64 → Fin 576 → EReal) (hs : ∀ b h n i c, A (Proc.devRef .tc main_v75) (ix5 b h n i c) = s b h n i c)
    (b : Fin 2) (h : Fin 8) (n : Fin 32) (i : Fin 64) (c : Fin 576) :
    upto (ops.drop 96) A 5 (Proc.devRef .tc main_v79) (ix5 b h n i c) = Ideal.div (s b h n i c) (∑ x, s b h n i x) := by
  after_reads_at
  simp only [hs]

end Cert.AttnFRefIdeal.Val

end
-- ==== Proof.AttnF.Ref.lean ====
/-
  What the reference's result holds: the chunked band attention.
-/
module

public import proofs.«01_k».proof.Proof.AttnF.RefBand
public import proofs.«01_k».proof.Proof.AttnF.RefRows
public import proofs.«01_k».proof.Proof.AttnF.RefSoft
public import proofs.«01_k».proof.Proof.Shared.Split

@[expose] public section

set_option maxRecDepth 16384

noncomputable section

namespace Cert.AttnFRefIdeal.Val

open Cert.AttnFRefIdeal Cert.AttnFRefIdeal.Value Cert.Rows Cert.AttnF
open Idealize.ShloMosaic Idealize.ShloMosaic.TcCoe Idealize.SL.Sem Idealize.ShloMosaic.StableHlo

/-! ## Buffers a part of the line leaves alone -/

section
variable (A : Valuation τ sig (Elt Ideal))

theorem keep45 : upto (ops.drop 45) A 18 (Proc.devRef .tc main_v28) = A (Proc.devRef .tc main_v28) ∧ upto (ops.drop 45) A 18 (Proc.devRef .tc main_v19) = A (Proc.devRef .tc main_v19)
    ∧ upto (ops.drop 45) A 18 (Proc.devRef .tc main_v25) = A (Proc.devRef .tc main_v25) ∧ upto (ops.drop 45) A 18 (Proc.devRef .tc main_v29) = A (Proc.devRef .tc main_v29) :=
  ⟨by after_reads_simp, by after_reads_simp, by after_reads_simp, by after_reads_simp⟩

theorem keep63 : upto (ops.drop 63) A 2 (Proc.devRef .tc main_v28) = A (Proc.devRef .tc main_v28) ∧ upto (ops.drop 63) A 2 (Proc.devRef .tc main_v19) = A (Proc.devRef .tc main_v19)
    ∧ upto (ops.drop 63) A 2 (Proc.devRef .tc main_v25) = A (Proc.devRef .tc main_v25) ∧ upto (ops.drop 63) A 2 (Proc.devRef .tc main_v29) = A (Proc.devRef .tc main_v29) :=
  ⟨by after_reads_simp, by after_reads_simp, by after_reads_simp, by after_reads_simp⟩

theorem keep65 : upto (ops.drop 65) A 22 (Proc.devRef .tc main_v25) = A (Proc.devRef .tc main_v25) ∧ upto (ops.drop 65) A 22 (Proc.devRef .tc main_v29) = A (Proc.devRef .tc main_v29) :=
  ⟨by after_reads_simp, by after_reads_simp⟩

theorem keep87 : upto (ops.drop 87) A 2 (Proc.devRef .tc main_v25) = A (Proc.devRef .tc main_v25) ∧ upto (ops.drop 87) A 2 (Proc.devRef .tc main_v29) = A (Proc.devRef .tc main_v29) :=
  ⟨by after_reads_simp, by after_reads_simp⟩

theorem keep89 : upto (ops.drop 89) A 7 (Proc.devRef .tc main_v25) = A (Proc.devRef .tc main_v25) ∧ upto (ops.drop 89) A 7 (Proc.devRef .tc main_v29) = A (Proc.devRef .tc main_v29) :=
  ⟨by after_reads_simp, by after_reads_simp⟩

theorem keep96 : upto (ops.drop 96) A 5 (Proc.devRef .tc main_v25) = A (Proc.devRef .tc main_v25) ∧ upto (ops.drop 96) A 5 (Proc.devRef .tc main_v29) = A (Proc.devRef .tc main_v29) :=
  ⟨by after_reads_simp, by after_reads_simp⟩

theorem keep87s : upto (ops.drop 87) A 2 (Proc.devRef .tc main_v68) = A (Proc.devRef .tc main_v68) := by after_reads_simp
theorem keep101 : upto (ops.drop 101) A 2 (Proc.devRef .tc main_v79) = A (Proc.devRef .tc main_v79) := by after_reads_simp
theorem keep103 : upto (ops.drop 103) A 18 (Proc.devRef .tc main_v79) = A (Proc.devRef .tc main_v79) := by after_reads_simp
theorem keep121 : upto (ops.drop 121) A 2 (Proc.devRef .tc main_v79) = A (Proc.devRef .tc main_v79) := by after_reads_simp

theorem step (a b : ℕ) : after (ops.drop a) A = after (ops.drop (a + b)) (upto (ops.drop a) A b) :=
  (after_split b (ops.drop a) A).trans (by rw [List.drop_drop])
end

variable (U : Valuation τ sig (Elt Ideal))

def V1 := upto ops U 30
def V2 := upto (ops.drop 30) (V1 U) 15
def V3 := upto (ops.drop 45) (V2 U) 18
def V4 := upto (ops.drop 63) (V3 U) 2
def V5 := upto (ops.drop 65) (V4 U) 22
def V6a := upto (ops.drop 87) (V5 U) 2
def V6b := upto (ops.drop 89) (V6a U) 7
def V6 := upto (ops.drop 96) (V6b U) 5
def V7 := upto (ops.drop 101) (V6 U) 2
def V8 := upto (ops.drop 103) (V7 U) 18
def V9 := upto (ops.drop 121) (V8 U) 2

theorem line_eq : after ops U = after (ops.drop 123) (V9 U) := by
  refine (after_split 30 ops U).trans ?_
  rw [step _ 30 15, step _ 45 18, step _ 63 2, step _ 65 22, step _ 87 2, step _ 89 7, step _ 96 5, step _ 101 2, step _ 103 18, step _ 121 2]
  rfl

abbrev projOf : Proj := fun b r k => U (Proc.devRef .tc main_arg0) (ix3 b r k)
abbrev biasTable : Bias := fun h k => U (Proc.devRef .tc main_arg1) (ix3 0 h k)

theorem proj1 (b : Fin 2) (r : Fin 2048) (k : Fin 5640) : V1 U (Proc.devRef .tc main_arg0) (ix3 b r k) = projOf U b r k := congrFun (at_proj U) _

theorem padRow_band (x : Proj) (b : Fin 2) (h : Fin 8) (n : Fin 32) (c : Fin 576) (d : Fin 64) :
    padRow x 0 b ⟨n.1 + c.1 / 64, by omega⟩ ⟨c.1 % 64, by omega⟩ h d = band x 0 b h n c d := by
  unfold padRow band
  by_cases hc : 512 ≤ 64 * n.1 + c.1
  · rw [dif_pos (show 8 ≤ n.1 + c.1 / 64 by omega), dif_pos hc]
    exact congrArg (fun z => x b z _) (Fin.ext (by dsimp only; omega))
  · rw [dif_neg (show ¬ 8 ≤ n.1 + c.1 / 64 by omega), dif_neg hc]

theorem padVal_band (x : Proj) (b : Fin 2) (h : Fin 8) (n : Fin 32) (c : Fin 576) (d : Fin 64) :
    padVal (fun b r h d => x b r ⟨1024 + 64 * h.1 + d.1, by omega⟩) b ⟨n.1 + c.1 / 64, by omega⟩ ⟨c.1 % 64, by omega⟩ h d = band x 1 b h n c d := by
  unfold padVal band
  by_cases hc : 512 ≤ 64 * n.1 + c.1
  · rw [dif_pos (show 8 ≤ n.1 + c.1 / 64 by omega), dif_pos hc]
    exact congrArg₂ (fun z k => x b z k) (Fin.ext (by dsimp only; omega)) (Fin.ext (by show 1024 + 64 * h.1 + d.1 = 512 + 512 * 1 + 64 * h.1 + d.1; omega))
  · rw [dif_neg (show ¬ 8 ≤ n.1 + c.1 / 64 by omega), dif_neg hc]

theorem table2 (h : Fin 8) (i : Fin 64) (c : Fin 576) : V2 U (Proc.devRef .tc main_v19) (ix3 h i c) = bias (biasTable U) h i c :=
  at_table (V1 U) (biasTable U) (at_bias U) (at_idx U) h i c

theorem keys4 (b : Fin 2) (n : Fin 32) (c : Fin 576) (h : Fin 8) (d : Fin 64) : V4 U (Proc.devRef .tc main_v51) (ix5 b n c h d) = band (projOf U) 0 b h n c d :=
  have hf := at_k (V1 U) (projOf U) (proj1 U)
  (at_v51 (V3 U) (padRow (projOf U) 0) (at_v41 (V2 U) _ hf) (at_v42 (V2 U) _ hf) (at_v43 (V2 U) _ hf) (at_v44 (V2 U) _ hf) (at_v45 (V2 U) _ hf) (at_v46 (V2 U) _ hf)
    (at_v47 (V2 U) _ hf) (at_v48 (V2 U) _ hf) (at_v49 (V2 U) _ hf) b n c h d).trans (padRow_band _ _ _ _ _ _)

theorem scores5 (b : Fin 2) (h : Fin 8) (n : Fin 32) (i : Fin 64) (c : Fin 576) :
    V5 U (Proc.devRef .tc main_v68) (ix5 b h n i c) = score (projOf U) (biasTable U) b h n i c :=
  at_scores (V4 U) (fun b n i h d => qry (projOf U) b h n i d * eighth) (fun b n c h d => band (projOf U) 0 b h n c d) (bias (biasTable U))
    (fun b n i h d => (congrFun ((keep63 (V3 U)).1.trans (keep45 (V2 U)).1) _).trans (at_q (V1 U) (projOf U) (proj1 U) b n i h d)) (keys4 U)
    (fun h i c => (congrFun ((keep63 (V3 U)).2.1.trans (keep45 (V2 U)).2.1) _).trans (table2 U h i c)) b h n i c

theorem probs9 (b : Fin 2) (h : Fin 8) (n : Fin 32) (i : Fin 64) (c : Fin 576) : V9 U (Proc.devRef .tc main_v79) (ix5 b h n i c)
    = Ideal.div (expd (score (projOf U) (biasTable U) b h n i) c) (∑ x, expd (score (projOf U) (biasTable U) b h n i) x) :=
  (congrFun ((keep121 (V8 U)).trans ((keep103 (V7 U)).trans (keep101 (V6 U)))) _).trans (at_quot (V6b U) (fun b h n i => expd (score (projOf U) (biasTable U) b h n i))
    (at_exps (V6a U) _ (fun b h n i c => (congrFun (keep87s (V5 U)) _).trans (scores5 U b h n i c)) (at_tops (V5 U) _ (scores5 U))) b h n i c)

theorem vals6 (b : Fin 2) (r : Fin 2048) (h : Fin 8) (d : Fin 64) : V6 U (Proc.devRef .tc main_v25) (ix4 b r h d) = projOf U b r ⟨1024 + 64 * h.1 + d.1, by omega⟩ :=
  (congrFun ((keep96 (V6b U)).1.trans ((keep89 (V6a U)).1.trans ((keep87 (V5 U)).1.trans ((keep65 (V4 U)).1.trans ((keep63 (V3 U)).2.2.1.trans (keep45 (V2 U)).2.2.1))))) _).trans (at_v (V1 U) (projOf U) (proj1 U) b r h d)

theorem zeros6 (b : Fin 2) (p : Fin 8) (i : Fin 64) (h : Fin 8) (d : Fin 64) : V6 U (Proc.devRef .tc main_v29) (ix5 b p i h d) = (0 : EReal) :=
  (congrFun ((keep96 (V6b U)).2.trans ((keep89 (V6a U)).2.trans ((keep87 (V5 U)).2.trans ((keep65 (V4 U)).2.trans ((keep63 (V3 U)).2.2.2.trans (keep45 (V2 U)).2.2.2))))) _).trans (at_zero (V1 U) b p i h d)

theorem vals9 (b : Fin 2) (n : Fin 32) (c : Fin 576) (h : Fin 8) (d : Fin 64) : V9 U (Proc.devRef .tc main_v101) (ix5 b n c h d) = band (projOf U) 1 b h n c d :=
  have hf := at_v81 (V6 U) (fun b r h d => projOf U b r ⟨1024 + 64 * h.1 + d.1, by omega⟩) (vals6 U) (zeros6 U)
  (at_v101 (V8 U) _ (at_v91 (V7 U) _ hf) (at_v92 (V7 U) _ hf) (at_v93 (V7 U) _ hf) (at_v94 (V7 U) _ hf) (at_v95 (V7 U) _ hf) (at_v96 (V7 U) _ hf)
    (at_v97 (V7 U) _ hf) (at_v98 (V7 U) _ hf) (at_v99 (V7 U) _ hf) b n c h d).trans (padVal_band _ _ _ _ _ _)

theorem res (r : Fin 4096) (k : Fin 512) : after ops U (Proc.devRef .tc main_v106) (ix2 r k) = flat (out (projOf U) (biasTable U)) r k := by
  rw [line_eq]
  exact at_result (V9 U) _ _ (vals9 U) (probs9 U) r k

/-- The run: the result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v106)
        = arr (flat (out (fun b r k => m ((c.tc : Thread nD τ).loc main_arg0) (ix3 b r k)) (fun h k => m ((c.tc : Thread nD τ).loc main_arg1) (ix3 0 h k))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c _).trans (arr_ext fun _ _ => res _ _ _), (h c _).trans (by after_reads_simp), (h c _).trans (by after_reads_simp)⟩)
    (run_seq scopedRefs_eq scopedSems_eq defs main (fun _ => ops) main_eq (fun _ => ops_sub) m ρ)

end Cert.AttnFRefIdeal.Val

end
-- ==== Proof.Residual.Spec.lean ====
/-
  A product added to the residual, and the norm that follows it, element by element: what both programs of the pairs of mm_out, mm_down and rms_mix are
  shown to compute.
-/
module

public import proofs.«01_k».proof.Proof.Shared.Rows
public import proofs.«01_k».proof.Proof.Shared.RmsNorm

@[expose] public section

noncomputable section

namespace Cert.Residual

open Idealize.ShloMosaic Cert.Rows Cert.RmsNorm

abbrev Arr (n : Nat) := (⟨3, ![2, 2048, n]⟩ : Shape).Idx → EReal

abbrev Gain := (⟨2, ![1, 1024]⟩ : Shape).Idx → EReal

abbrev Weights (n : Nat) := (⟨3, ![1, n, 1024]⟩ : Shape).Idx → EReal

/-- A row's norm times its gain. -/
def scaled (x : Fin 1024 → EReal) (g : Gain) (q : Fin 1024) : EReal := x q * inv 1149239296#32 x * g (ix2 0 q)

def rowOf (x : Arr 1024) (r : Fin 4096) (q : Fin 1024) : EReal := x (tok r q)

def norm (x : Arr 1024) (g : Gain) (r : Fin 4096) (q : Fin 1024) : EReal := scaled (rowOf x r) g q

variable {n : Nat}

def stream (a : Arr n) (w : Weights n) (x : Arr 1024) (r : Fin 4096) (q : Fin 1024) : EReal := x (tok r q) + ∑ k : Fin n, a (tok r k) * w (ix3 0 k q)

def normed (a : Arr n) (w : Weights n) (x : Arr 1024) (g : Gain) (r : Fin 4096) (q : Fin 1024) : EReal := scaled (stream a w x r) g q

end Cert.Residual

end
-- ==== Proof.Residual.RmsMixRef.lean ====
/-
  What the reference's norm holds.
-/
module

public import proofs.«01_k».proof.Proof.Residual.Spec
public import proofs.«01_k».proof.Proof.Gen.RmsMixRefIdeal.Run
public import Idealize.ShloMosaic.Lib.StableHlo.ReadAt
public import Idealize.ShloMosaic.Lib.Tactic.WordOmega

@[expose] public section

set_option maxRecDepth 16384

noncomputable section

namespace Cert.RmsMixRefIdeal.Val

open Cert.RmsMixRefIdeal Cert.RmsMixRefIdeal.Value Cert.Rows
open Idealize.ShloMosaic Idealize.ShloMosaic.TcCoe Idealize.SL.Sem Idealize.ShloMosaic.StableHlo

variable (U : Valuation τ sig (Elt Ideal))

theorem res (r : Fin 4096) (k : Fin 1024) : after ops U (Proc.devRef .tc main_v15) (ix2 r k)
    = Cert.Residual.norm (U (Proc.devRef .tc main_arg0)) (U (Proc.devRef .tc main_arg1)) r k := by
  after_reads_at
  rfl

/-- The run: the results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = arr (Cert.Residual.norm (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c _).trans (arr_ext fun _ _ => res _ _ _), (h c _).trans (by after_reads_simp), (h c _).trans (by after_reads_simp)⟩)
    (run_seq scopedRefs_eq scopedSems_eq defs main (fun _ => ops) main_eq (fun _ => ops_sub) m ρ)

end Cert.RmsMixRefIdeal.Val

end
-- ==== Proof.Conv.FwdRef.lean ====
/-
  What the reference's forward convolution holds.
-/
module

public import proofs.«01_k».proof.Proof.Conv.Ref
public import proofs.«01_k».proof.Proof.Gen.ConvFRefIdeal.Run
public import Idealize.ShloMosaic.Lib.StableHlo.ReadAt
public import Idealize.ShloMosaic.Lib.Tactic.WordOmega

@[expose] public section

set_option maxRecDepth 16384

noncomputable section

namespace Cert.ConvFRefIdeal.Val

open Cert.ConvFRefIdeal Cert.ConvFRefIdeal.Value Cert.Rows
open Idealize.ShloMosaic Idealize.ShloMosaic.TcCoe Idealize.SL.Sem Idealize.ShloMosaic.StableHlo

variable (U : Valuation τ sig (Elt Ideal))

open Cert.ConvRefIdeal.Val (padded padded_ge padded_lt preP preP_eq)

theorem at_pad (b : Fin 2) (p : Fin 2051) (k : Fin 1536) : upto ops U 5 (Proc.devRef .tc main_v3) (ix3 b p k) = padded (U (Proc.devRef .tc main_arg0)) b p k := by
  after_reads_simp
  clean_types
  pointwise [fn_main_v3]
  split_ifs with h
  all_goals first | exact (padded_ge _ _ _ _ (by omega)).symm | exact (padded_lt _ _ _ _ (by omega)).symm | omega

theorem at_w (j : Fin 4) (k : Fin 1536) : upto ops U 5 (Proc.devRef .tc main_v1) (ix2 j k) = U (Proc.devRef .tc main_arg1) (ix3 0 j k) := by
  after_reads_at

theorem at_silu (A : Valuation τ sig (Elt Ideal)) (x : Cert.Conv.Arr 5640) (w : Cert.Conv.Taps) (hx : ∀ b p k, A (Proc.devRef .tc main_v3) (ix3 b p k) = padded x b p k)
    (hw : ∀ j k, A (Proc.devRef .tc main_v1) (ix2 j k) = w (ix3 0 j k)) (r : Fin 4096) (k : Fin 1536) : after (ops.drop 5) A (Proc.devRef .tc main_v32) (ix2 r k)
    = preP x w ⟨r.1 / 2048, by omega⟩ ⟨r.1 % 2048, by omega⟩ k * Ideal.logistic (preP x w ⟨r.1 / 2048, by omega⟩ ⟨r.1 % 2048, by omega⟩ k) := by
  after_reads_at
  simp only [hx, hw]
  unfold preP
  rfl

theorem res (r : Fin 4096) (k : Fin 1536) : after ops U (Proc.devRef .tc main_v32) (ix2 r k)
    = Cert.Conv.fwd (U (Proc.devRef .tc main_arg0)) (U (Proc.devRef .tc main_arg1)) r k := by
  rw [after_split 5, at_silu _ _ _ (at_pad U) (at_w U) r k, preP_eq, Cert.Conv.preR_eq]
  have e : (⟨2048 * (r.1 / 2048) + r.1 % 2048, by omega⟩ : Fin 4096) = r := Fin.ext (by dsimp only; omega)
  unfold Cert.Conv.fwd
  rw [e]

/-- The run: the results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = arr (Cert.Conv.fwd (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c _).trans (arr_ext fun _ _ => res _ _ _), (h c _).trans (by after_reads_simp), (h c _).trans (by after_reads_simp)⟩)
    (run_seq scopedRefs_eq scopedSems_eq defs main (fun _ => ops) main_eq (fun _ => ops_sub) m ρ)

end Cert.ConvFRefIdeal.Val

end
-- ==== Proof.Scalars.Spec.lean ====
/-
  The delta rule's beta and decay, element by element: what both programs of the pair of gate_scalars are shown to compute.
-/
module

public import proofs.«01_k».proof.Proof.Shared.Rows
public import Idealize.ShloMosaic.PureOps.Ideal

@[expose] public section

noncomputable section

namespace Cert.Scalars

open Idealize.ShloMosaic Cert.Rows

abbrev Arr (n : Nat) := (⟨3, ![2, 2048, n]⟩ : Shape).Idx → EReal

abbrev Heads := (⟨2, ![1, 4]⟩ : Shape).Idx → EReal

def softplus (x : EReal) : EReal := max x 0 + Ideal.log (1 + Ideal.exp (-max x (-x)))

def decay (a d x : EReal) : EReal := -Ideal.exp a * softplus (x + d)

/-- Beta in the first four lanes, the decay's logarithm in the next four, zero in the others. -/
def fwd (p : Arr 5640) (a d : Heads) (r : Fin 4096) (k : Fin 128) : EReal :=
  if h : k.1 < 4 then Ideal.logistic (p (tok r ⟨3584 + k.1, by omega⟩))
  else if h : k.1 < 8 then decay (a (ix2 0 ⟨k.1 - 4, by omega⟩)) (d (ix2 0 ⟨k.1 - 4, by omega⟩)) (p (tok r ⟨3584 + k.1, by omega⟩)) else 0

end Cert.Scalars

end
-- ==== Proof.Scalars.FwdRef.lean ====
/-
  What the reference's result holds.
-/
module

public import proofs.«01_k».proof.Proof.Scalars.Spec
public import proofs.«01_k».proof.Proof.Shared.Split
public import proofs.«01_k».proof.Proof.Gen.GateScalarsFRefIdeal.Run
public import Idealize.ShloMosaic.Lib.StableHlo.ReadAt
public import Idealize.ShloMosaic.Lib.Tactic.WordOmega

@[expose] public section

set_option maxRecDepth 16384

noncomputable section

namespace Cert.GateScalarsFRefIdeal.Val

open Cert.GateScalarsFRefIdeal Cert.GateScalarsFRefIdeal.Value Cert.Rows
open Idealize.ShloMosaic Idealize.ShloMosaic.TcCoe Idealize.SL.Sem Idealize.ShloMosaic.StableHlo

variable (U : Valuation τ sig (Elt Ideal))

theorem at_beta (r : Fin 4096) (k : Fin 4) : upto ops U 38 (Proc.devRef .tc main_v19) (ix2 r k) = Ideal.logistic (U (Proc.devRef .tc main_arg0) (tok r ⟨3584 + k.1, by omega⟩)) := by
  after_reads_at
  rfl

theorem at_decay (r : Fin 4096) (k : Fin 4) : upto ops U 38 (Proc.devRef .tc main_v20) (ix2 r k)
    = Cert.Scalars.decay (U (Proc.devRef .tc main_arg1) (ix2 0 k)) (U (Proc.devRef .tc main_arg2) (ix2 0 k)) (U (Proc.devRef .tc main_arg0) (tok r ⟨3588 + k.1, by omega⟩)) := by
  unfold Cert.Scalars.decay Cert.Scalars.softplus
  after_reads_at
  exact congrArg _ (if_neg fun h => h rfl)

theorem at_zero (r : Fin 4096) (k : Fin 120) : upto ops U 38 (Proc.devRef .tc main_v21) (ix2 r k) = (0 : EReal) := by
  after_reads_at

theorem fwd_lo (p : Cert.Scalars.Arr 5640) (a d : Cert.Scalars.Heads) (r : Fin 4096) (k : Fin 128) (h : k.1 < 4) :
    Ideal.logistic (p (tok r ⟨3584 + k.1, by omega⟩)) = Cert.Scalars.fwd p a d r k := by
  unfold Cert.Scalars.fwd
  rw [dif_pos h]

theorem fwd_mid (p : Cert.Scalars.Arr 5640) (a d : Cert.Scalars.Heads) (r : Fin 4096) (k : Fin 128) (h : ¬k.1 < 4) (h' : k.1 - 4 < 4) :
    Cert.Scalars.decay (a (ix2 0 ⟨k.1 - 4, h'⟩)) (d (ix2 0 ⟨k.1 - 4, h'⟩)) (p (tok r ⟨3588 + (k.1 - 4), by omega⟩)) = Cert.Scalars.fwd p a d r k := by
  unfold Cert.Scalars.fwd
  rw [dif_neg h, dif_pos (by omega)]
  exact congrArg (Cert.Scalars.decay _ _) (congrArg p (tok_congr rfl (by dsimp only; omega)))

theorem fwd_hi (p : Cert.Scalars.Arr 5640) (a d : Cert.Scalars.Heads) (r : Fin 4096) (k : Fin 128) (h : ¬k.1 < 4) (h' : ¬k.1 - 4 < 4) :
    (0 : EReal) = Cert.Scalars.fwd p a d r k := by
  unfold Cert.Scalars.fwd
  rw [dif_neg h, dif_neg (by omega)]

/-- The three parts side by side. -/
theorem at_cat (A : Valuation τ sig (Elt Ideal)) (p : Cert.Scalars.Arr 5640) (a d : Cert.Scalars.Heads)
    (hb : ∀ r k, A (Proc.devRef .tc main_v19) (ix2 r k) = Ideal.logistic (p (tok r ⟨3584 + k.1, by omega⟩)))
    (hd : ∀ r k, A (Proc.devRef .tc main_v20) (ix2 r k) = Cert.Scalars.decay (a (ix2 0 k)) (d (ix2 0 k)) (p (tok r ⟨3588 + k.1, by omega⟩)))
    (hz : ∀ r k, A (Proc.devRef .tc main_v21) (ix2 r k) = (0 : EReal)) (r : Fin 4096) (k : Fin 128) :
    after (ops.drop 38) A (Proc.devRef .tc main_v22) (ix2 r k) = Cert.Scalars.fwd p a d r k := by
  after_reads_simp
  clean_types
  pointwise [fn_main_v22, hb, hd, hz]
  split_ifs
  all_goals first | exact fwd_lo p a d r k (by assumption) | exact fwd_mid p a d r k (by assumption) (by assumption) | exact fwd_hi p a d r k (by assumption) (by assumption)

theorem res (r : Fin 4096) (k : Fin 128) : after ops U (Proc.devRef .tc main_v22) (ix2 r k)
    = Cert.Scalars.fwd (U (Proc.devRef .tc main_arg0)) (U (Proc.devRef .tc main_arg1)) (U (Proc.devRef .tc main_arg2)) r k := by
  rw [after_split 38]
  exact at_cat _ _ _ _ (at_beta U) (at_decay U) (at_zero U) r k

/-- The run: the results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = arr (Cert.Scalars.fwd (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c _).trans (arr_ext fun _ _ => res _ _ _), (h c _).trans (by after_reads_simp), (h c _).trans (by after_reads_simp), (h c _).trans (by after_reads_simp)⟩)
    (run_seq scopedRefs_eq scopedSems_eq defs main (fun _ => ops) main_eq (fun _ => ops_sub) m ρ)

end Cert.GateScalarsFRefIdeal.Val

end
-- ==== Proof.GatedNorm.FwdRef.lean ====
/-
  What the reference's forward gated norm holds.
-/
module

public import proofs.«01_k».proof.Proof.GatedNorm.Spec
public import proofs.«01_k».proof.Proof.Gen.GatedNormFRefIdeal.Run
public import Idealize.ShloMosaic.Lib.StableHlo.ReadAt
public import Idealize.ShloMosaic.Lib.Tactic.WordOmega

@[expose] public section

set_option maxRecDepth 16384

noncomputable section

namespace Cert.GatedNormFRefIdeal.Val

open Cert.GatedNormFRefIdeal Cert.GatedNormFRefIdeal.Value Cert.Rows
open Idealize.ShloMosaic Idealize.ShloMosaic.TcCoe Idealize.SL.Sem Idealize.ShloMosaic.StableHlo

variable (U : Valuation τ sig (Elt Ideal))

theorem res (r : Fin 4096) (k : Fin 512) : after ops U (Proc.devRef .tc main_v19) (ix2 r k)
    = Cert.GatedNorm.byHead (Cert.GatedNorm.fwd (U (Proc.devRef .tc main_arg0)) (U (Proc.devRef .tc main_arg1)) (U (Proc.devRef .tc main_arg2))) r k := by
  after_reads_at
  rfl

/-- The run: the results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = arr (Cert.GatedNorm.byHead (Cert.GatedNorm.fwd (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c _).trans (arr_ext fun _ _ => res _ _ _), (h c _).trans (by after_reads_simp), (h c _).trans (by after_reads_simp), (h c _).trans (by after_reads_simp)⟩)
    (run_seq scopedRefs_eq scopedSems_eq defs main (fun _ => ops) main_eq (fun _ => ops_sub) m ρ)

end Cert.GatedNormFRefIdeal.Val

end
-- ==== Proof.Merge.FwdRef.lean ====
/-
  What the reference's forward gated merge holds.
-/
module

public import proofs.«01_k».proof.Proof.Merge.Spec
public import proofs.«01_k».proof.Proof.Gen.MergeFRefIdeal.Run
public import Idealize.ShloMosaic.Lib.StableHlo.ReadAt
public import Idealize.ShloMosaic.Lib.Tactic.WordOmega

@[expose] public section

set_option maxRecDepth 16384

noncomputable section

namespace Cert.MergeFRefIdeal.Val

open Cert.MergeFRefIdeal Cert.MergeFRefIdeal.Value Cert.Rows
open Idealize.ShloMosaic Idealize.ShloMosaic.TcCoe Idealize.SL.Sem Idealize.ShloMosaic.StableHlo

variable (U : Valuation τ sig (Elt Ideal))

theorem colB_eq (k : Fin 1024) (h : 3592 + (1024 + k.1) < 5640) : (⟨3592 + (1024 + k.1), h⟩ : Fin 5640) = Cert.Merge.colB k :=
  Fin.ext (by simp only [Cert.Merge.colB]; omega)

theorem res (r : Fin 4096) (k : Fin 1024) : after ops U (Proc.devRef .tc main_v19) (ix2 r k)
    = Cert.Merge.fwd (U (Proc.devRef .tc main_arg0)) (U (Proc.devRef .tc main_arg1)) (U (Proc.devRef .tc main_arg2)) r k := by
  after_reads_at
  simp only [colB_eq]
  rfl

/-- The run: the results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = arr (Cert.Merge.fwd (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c _).trans (arr_ext fun _ _ => res _ _ _), (h c _).trans (by after_reads_simp), (h c _).trans (by after_reads_simp), (h c _).trans (by after_reads_simp)⟩)
    (run_seq scopedRefs_eq scopedSems_eq defs main (fun _ => ops) main_eq (fun _ => ops_sub) m ρ)

end Cert.MergeFRefIdeal.Val

end
-- ==== Proof.Residual.MixRef.lean ====
/-
  What the reference's two results hold.
-/
module

public import proofs.«01_k».proof.Proof.Residual.Spec
public import proofs.«01_k».proof.Proof.Gen.ResidualMixRefIdeal.Run
public import Idealize.ShloMosaic.Lib.StableHlo.ReadAt
public import Idealize.ShloMosaic.Lib.Tactic.WordOmega

@[expose] public section

set_option maxRecDepth 16384

noncomputable section

namespace Cert.ResidualMixRefIdeal.Val

open Cert.ResidualMixRefIdeal Cert.ResidualMixRefIdeal.Value Cert.Rows
open Idealize.ShloMosaic Idealize.ShloMosaic.TcCoe Idealize.SL.Sem Idealize.ShloMosaic.StableHlo

variable (U : Valuation τ sig (Elt Ideal))

theorem res_x (r : Fin 4096) (k : Fin 1024) : after ops U (Proc.devRef .tc main_v3) (ix2 r k)
    = Cert.Residual.stream (U (Proc.devRef .tc main_arg0)) (U (Proc.devRef .tc main_arg1)) (U (Proc.devRef .tc main_arg2)) r k := by
  after_reads_at
  rfl

theorem res_h (r : Fin 4096) (k : Fin 1024) : after ops U (Proc.devRef .tc main_v19) (ix2 r k)
    = Cert.Residual.normed (U (Proc.devRef .tc main_arg0)) (U (Proc.devRef .tc main_arg1)) (U (Proc.devRef .tc main_arg2)) (U (Proc.devRef .tc main_arg3)) r k := by
  after_reads_at
  rfl

/-- The run: the results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = arr (Cert.Residual.stream (m ((c.tc : Thread nD τ).loc main_arg0)) (m ((c.tc : Thread nD τ).loc main_arg1)) (m ((c.tc : Thread nD τ).loc main_arg2)))
      ∧ r.2.mem ((c.tc : Thread nD τ).loc main_v19) = arr (Cert.Residual.normed (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c _).trans (arr_ext fun _ _ => res_x _ _ _), (h c _).trans (arr_ext fun _ _ => res_h _ _ _), (h c _).trans (by after_reads_simp), (h c _).trans (by after_reads_simp), (h c _).trans (by after_reads_simp), (h c _).trans (by after_reads_simp)⟩)
    (run_seq scopedRefs_eq scopedSems_eq defs main (fun _ => ops) main_eq (fun _ => ops_sub) m ρ)

end Cert.ResidualMixRefIdeal.Val

end
-- ==== Proof.Swiglu.FwdRef.lean ====
/-
  What the reference's two results hold.
-/
module

public import proofs.«01_k».proof.Proof.Swiglu.Spec
public import proofs.«01_k».proof.Proof.Gen.SwigluFRefIdeal.Run
public import Idealize.ShloMosaic.Lib.StableHlo.ReadAt
public import Idealize.ShloMosaic.Lib.Tactic.WordOmega

@[expose] public section

set_option maxRecDepth 16384

noncomputable section

namespace Cert.SwigluFRefIdeal.Val

open Cert.SwigluFRefIdeal Cert.SwigluFRefIdeal.Value Cert.Rows
open Idealize.ShloMosaic Idealize.ShloMosaic.TcCoe Idealize.SL.Sem Idealize.ShloMosaic.StableHlo

variable (U : Valuation τ sig (Elt Ideal))

theorem res_gu (r : Fin 4096) (k : Fin 5632) : after ops U (Proc.devRef .tc main_v3) (ix2 r k)
    = Cert.Swiglu.both (U (Proc.devRef .tc main_arg0)) (U (Proc.devRef .tc main_arg1)) r k := by
  after_reads_at
  rfl

theorem res_act (r : Fin 4096) (k : Fin 2816) : after ops U (Proc.devRef .tc main_v9) (ix2 r k)
    = Cert.Swiglu.act (U (Proc.devRef .tc main_arg0)) (U (Proc.devRef .tc main_arg1)) r k := by
  after_reads_at
  rfl

/-- The run: the results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = arr (Cert.Swiglu.both (m ((c.tc : Thread nD τ).loc main_arg0)) (m ((c.tc : Thread nD τ).loc main_arg1)))
      ∧ r.2.mem ((c.tc : Thread nD τ).loc main_v9) = arr (Cert.Swiglu.act (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c _).trans (arr_ext fun _ _ => res_gu _ _ _), (h c _).trans (arr_ext fun _ _ => res_act _ _ _), (h c _).trans (by after_reads_simp), (h c _).trans (by after_reads_simp)⟩)
    (run_seq scopedRefs_eq scopedSems_eq defs main (fun _ => ops) main_eq (fun _ => ops_sub) m ρ)

end Cert.SwigluFRefIdeal.Val

end
-- ==== Proof.Residual.FfnRef.lean ====
/-
  What the reference's two results hold.
-/
module

public import proofs.«01_k».proof.Proof.Residual.Spec
public import proofs.«01_k».proof.Proof.Gen.ResidualFfnRefIdeal.Run
public import Idealize.ShloMosaic.Lib.StableHlo.ReadAt
public import Idealize.ShloMosaic.Lib.Tactic.WordOmega

@[expose] public section

set_option maxRecDepth 16384

noncomputable section

namespace Cert.ResidualFfnRefIdeal.Val

open Cert.ResidualFfnRefIdeal Cert.ResidualFfnRefIdeal.Value Cert.Rows
open Idealize.ShloMosaic Idealize.ShloMosaic.TcCoe Idealize.SL.Sem Idealize.ShloMosaic.StableHlo

variable (U : Valuation τ sig (Elt Ideal))

theorem res_x (r : Fin 4096) (k : Fin 1024) : after ops U (Proc.devRef .tc main_v3) (ix2 r k)
    = Cert.Residual.stream (U (Proc.devRef .tc main_arg0)) (U (Proc.devRef .tc main_arg1)) (U (Proc.devRef .tc main_arg2)) r k := by
  after_reads_at
  rfl

theorem res_h (r : Fin 4096) (k : Fin 1024) : after ops U (Proc.devRef .tc main_v19) (ix2 r k)
    = Cert.Residual.normed (U (Proc.devRef .tc main_arg0)) (U (Proc.devRef .tc main_arg1)) (U (Proc.devRef .tc main_arg2)) (U (Proc.devRef .tc main_arg3)) r k := by
  after_reads_at
  rfl

/-- The run: the results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = arr (Cert.Residual.stream (m ((c.tc : Thread nD τ).loc main_arg0)) (m ((c.tc : Thread nD τ).loc main_arg1)) (m ((c.tc : Thread nD τ).loc main_arg2)))
      ∧ r.2.mem ((c.tc : Thread nD τ).loc main_v19) = arr (Cert.Residual.normed (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c _).trans (arr_ext fun _ _ => res_x _ _ _), (h c _).trans (arr_ext fun _ _ => res_h _ _ _), (h c _).trans (by after_reads_simp), (h c _).trans (by after_reads_simp), (h c _).trans (by after_reads_simp), (h c _).trans (by after_reads_simp)⟩)
    (run_seq scopedRefs_eq scopedSems_eq defs main (fun _ => ops) main_eq (fun _ => ops_sub) m ρ)

end Cert.ResidualFfnRefIdeal.Val

end
-- ==== Proof.Scalars.Slope.lean ====
/-
  The gradient of the delta rule's beta and decay, element by element, and the two spellings of softplus's derivative.
-/
module

public import proofs.«01_k».proof.Proof.Scalars.Spec
public import proofs.«01_k».proof.Proof.Shared.RmsNorm
public import Idealize.ShloMosaic.Lib.Pipeline.ValueKit

@[expose] public section

noncomputable section

namespace Cert.Scalars

open Idealize.ShloMosaic Cert.Rows

/-- The decay's argument at row `r`, head `k`. -/
def arg (p : Arr 5640) (d : Heads) (r : Fin 4096) (k : Fin 4) : EReal := p (tok r ⟨3588 + k.1, by omega⟩) + d (ix2 0 k)

/-- The cotangent of softplus. -/
def ctS (a : Heads) (dg : Arr 4) (r : Fin 4096) (k : Fin 4) : EReal := -Ideal.exp (a (ix2 0 k)) * dg (tok r k)

/-- Softplus's derivative as the derivative of `max(x, 0) + log(1 + exp(-|x|))`, with the cotangent `c`. -/
def kernelSlope (c x : EReal) : EReal :=
  (if 0 ≤ x then 0 - Ideal.div c (1 + Ideal.exp (0 - max x (-x))) * Ideal.exp (0 - max x (-x)) else 0)
    + (0 - (if 0 ≤ x then 0 else 0 - Ideal.div c (1 + Ideal.exp (0 - max x (-x))) * Ideal.exp (0 - max x (-x))))
    + c * (if 0 < x then 1 else if x = 0 then Ideal.ofBits .f32 0x3F000000#32 else 0)

/-- Softplus's derivative as `exp(x - softplus x)`. -/
def refSlope (x : EReal) : EReal := Ideal.exp ((if x = ⊤ then 0 else x) - (if softplus x = ⊤ then 0 else softplus x))

theorem max_coe (a b : ℝ) : max (a : EReal) (b : EReal) = ((max a b : ℝ) : EReal) := (EReal.coe_strictMono.monotone.map_max).symm

theorem abs_coe (t : ℝ) : max (t : EReal) (-(t : EReal)) = ((|t| : ℝ) : EReal) := by
  rw [← EReal.coe_neg, max_coe]
  rfl

theorem exp_abs_coe (t : ℝ) : Ideal.exp (0 - max (t : EReal) (-(t : EReal))) = ((Real.exp (-|t|) : ℝ) : EReal) := by
  rw [abs_coe, zero_sub, ← EReal.coe_neg, Ideal.exp_coe]

theorem softplus_coe (t : ℝ) : softplus t = ((max t 0 + Real.log (1 + Real.exp (-|t|)) : ℝ) : EReal) := by
  unfold softplus
  have h : ¬(1 + Real.exp (-|t|) ≤ 0) := not_le.mpr (by positivity)
  rw [abs_coe, ← EReal.coe_neg, Ideal.exp_coe, ← EReal.coe_one, ← EReal.coe_add, Ideal.log_coe, if_neg h, ← EReal.coe_zero, max_coe, ← EReal.coe_add]

theorem kernelSlope_zero (x : EReal) : kernelSlope 0 x = 0 := by
  have e : ∀ y : EReal, Ideal.div 0 (1 + Ideal.exp y) = 0 := fun y => by
    have hy : 1 + Ideal.exp y ≠ 0 := by
      induction y with
      | bot => simp
      | top =>
        rw [Ideal.exp_top, ← EReal.coe_one, EReal.coe_add_top]
        exact EReal.top_ne_zero
      | coe r =>
        rw [Ideal.exp_coe, ← EReal.coe_one, ← EReal.coe_add]
        exact_mod_cast (by positivity : (1 : ℝ) + Real.exp r ≠ 0)
    unfold Ideal.div
    rw [if_neg hy, zero_mul]
  unfold kernelSlope
  rw [e]
  simp

theorem real_slope_pos (t : ℝ) (h : 0 < t) : 1 - 1 / (1 + Real.exp (-|t|)) * Real.exp (-|t|) = (1 + Real.exp (-t))⁻¹ := by
  rw [abs_of_pos h]
  have : (1 : ℝ) + Real.exp (-t) ≠ 0 := by positivity
  field_simp
  ring

theorem real_slope_neg (t : ℝ) (h : t < 0) : 1 / (1 + Real.exp (-|t|)) * Real.exp (-|t|) = (1 + Real.exp (-t))⁻¹ := by
  rw [abs_of_neg h, neg_neg, Real.exp_neg]
  have h1 : (1 : ℝ) + Real.exp t ≠ 0 := by positivity
  have h2 : (1 : ℝ) + (Real.exp t)⁻¹ ≠ 0 := by positivity
  have h3 : Real.exp t ≠ 0 := by positivity
  field_simp
  ring

theorem kernelSlope_eq (c : ℝ) (x : EReal) (h0 : x ≠ 0) (ht : x ≠ ⊤) : kernelSlope c x = c * Ideal.logistic x := by
  induction x with
  | top => exact absurd rfl ht
  | bot => simp [kernelSlope]
  | coe t =>
    have hne : (1 : ℝ) + Real.exp (-|t|) ≠ 0 := by positivity
    unfold kernelSlope
    rw [exp_abs_coe, ← EReal.coe_one, ← EReal.coe_add, Ideal.div_coe hne, Ideal.logistic_coe]
    rcases lt_trichotomy t 0 with h | h | h
    · have hn : ¬(0 : EReal) ≤ t := not_le.mpr (by exact_mod_cast h)
      have hl : ¬(0 : EReal) < t := not_lt.mpr (by exact_mod_cast h.le)
      rw [if_neg hn, if_neg hn, if_neg hl, if_neg h0, ← real_slope_neg t h]
      simp only [zero_add, mul_zero, add_zero, zero_sub, neg_neg]
      norm_cast
      ring
    · exact absurd (by rw [h]; rfl) h0
    · have hn : (0 : EReal) ≤ t := by exact_mod_cast h.le
      have hl : (0 : EReal) < t := by exact_mod_cast h
      rw [if_pos hn, if_pos hn, if_pos hl, ← real_slope_pos t h]
      simp only [zero_sub, neg_zero, add_zero]
      norm_cast
      ring

theorem real_refSlope (t : ℝ) : Real.exp (t - (max t 0 + Real.log (1 + Real.exp (-|t|)))) = (1 + Real.exp (-t))⁻¹ := by
  have hp : (0 : ℝ) < 1 + Real.exp (-|t|) := by positivity
  rw [← sub_sub, Real.exp_sub, Real.exp_log hp]
  rcases le_total 0 t with h | h
  · rw [max_eq_left h, abs_of_nonneg h, sub_self, Real.exp_zero, one_div]
  · rw [max_eq_right h, abs_of_nonpos h, neg_neg, sub_zero, Real.exp_neg]
    have h1 : (1 : ℝ) + Real.exp t ≠ 0 := by positivity
    have h2 : (1 : ℝ) + (Real.exp t)⁻¹ ≠ 0 := by positivity
    have h3 : Real.exp t ≠ 0 := by positivity
    field_simp
    ring

theorem refSlope_eq (x : EReal) (ht : x ≠ ⊤) : refSlope x = Ideal.logistic x := by
  induction x with
  | top => exact absurd rfl ht
  | bot =>
    have e : softplus ⊥ = 0 := by
      unfold softplus
      simp [← EReal.coe_one]
    unfold refSlope
    rw [e]
    simp
  | coe t =>
    unfold refSlope
    rw [softplus_coe, if_neg (EReal.coe_ne_top t), if_neg (EReal.coe_ne_top _), ← EReal.coe_sub, Ideal.exp_coe, Ideal.logistic_coe, real_refSlope]

/-! ## The gradients; `slope` is the cotangent of the decay's argument in either spelling -/

/-- Beta's part in the first four lanes, the decay's in the next four, zero in the others. -/
def dbd (slope : Fin 4096 → Fin 4 → EReal) (p : Arr 5640) (db : Arr 4) (r : Fin 4096) (k : Fin 128) : EReal :=
  if h : k.1 < 4 then db (tok r ⟨k.1, h⟩) * (Ideal.logistic (p (tok r ⟨3584 + k.1, by omega⟩)) * (1 - Ideal.logistic (p (tok r ⟨3584 + k.1, by omega⟩))))
  else if h : k.1 < 8 then slope r ⟨k.1 - 4, by omega⟩ else 0

/-- A row of heads in the lanes 4 to 7. -/
def lanes (f : Fin 4 → EReal) (_ : Fin 1) (k : Fin 128) : EReal := if h : 4 ≤ k.1 ∧ k.1 < 8 then f ⟨k.1 - 4, by omega⟩ else 0

def slopeK (p : Arr 5640) (a d : Heads) (dg : Arr 4) (r : Fin 4096) (k : Fin 4) : EReal := kernelSlope (ctS a dg r k) (arg p d r k)

def slopeR (p : Arr 5640) (a d : Heads) (dg : Arr 4) (r : Fin 4096) (k : Fin 4) : EReal := ctS a dg r k * refSlope (arg p d r k)

/-- The part of the 1024 rows `row` in the decay's logarithm's gradient. -/
def partK (p : Arr 5640) (a d : Heads) (dg : Arr 4) (row : Fin 1024 → Fin 4096) (k : Fin 4) : EReal :=
  (-∑ l : Fin 1024, dg (tok (row l) k) * softplus (arg p d (row l) k)) * Ideal.exp (a (ix2 0 k))

/-- The decay's logarithm's gradient, block of 1024 rows by block. -/
def dalK (p : Arr 5640) (a d : Heads) (dg : Arr 4) (k : Fin 4) : EReal :=
  ∑ t : Fin 4, partK p a d dg (fun l => ⟨t.1 * 1024 + l.1, by omega⟩) k

def dalR (p : Arr 5640) (a d : Heads) (dg : Arr 4) (k : Fin 4) : EReal :=
  (-∑ r : Fin 4096, dg (tok r k) * softplus (arg p d r k)) * Ideal.exp (a (ix2 0 k))

def total (f : Fin 4096 → Fin 4 → EReal) (k : Fin 4) : EReal := ∑ r : Fin 4096, f r k

/-- Where the decay's exponential is finite, softplus's argument below infinity and not zero, and the decay's cotangent finite. -/
structure Pre (p : Arr 5640) (a d : Heads) (dg : Arr 4) : Prop where
  a : ∀ i, a i ≠ ⊤
  x : ∀ r k, arg p d r k ≠ ⊤ ∧ arg p d r k ≠ 0
  dg : ∀ i, dg i ≠ ⊥ ∧ dg i ≠ ⊤

theorem exp_real (x : EReal) (h : x ≠ ⊤) : ∃ e : ℝ, Ideal.exp x = e := by
  induction x with
  | bot => exact ⟨0, rfl⟩
  | top => exact absurd rfl h
  | coe t => exact ⟨_, rfl⟩

theorem softplus_real (x : EReal) (h : x ≠ ⊤) : ∃ e : ℝ, softplus x = e := by
  induction x with
  | bot =>
    refine ⟨0, ?_⟩
    unfold softplus
    simp [← EReal.coe_one]
  | top => exact absurd rfl h
  | coe t => exact ⟨_, softplus_coe t⟩

theorem coe_sum {n : ℕ} (f : Fin n → ℝ) : ∑ i, ((f i : ℝ) : EReal) = ((∑ i, f i : ℝ) : EReal) :=
  (map_sum (⟨⟨Real.toEReal, rfl⟩, EReal.coe_add⟩ : ℝ →+ EReal) f Finset.univ).symm

variable {p : Arr 5640} {a d : Heads} {dg : Arr 4} (h : Pre p a d dg)

include h

theorem slope_eq : slopeR p a d dg = slopeK p a d dg := by
  funext r k
  unfold slopeR slopeK ctS
  obtain ⟨e, he⟩ := exp_real _ (h.a (ix2 0 k))
  obtain ⟨hb, ht⟩ := h.dg (tok r k)
  lift dg (tok r k) to ℝ using ⟨ht, hb⟩ with g
  rw [he, ← EReal.coe_neg, ← EReal.coe_mul, kernelSlope_eq _ _ (h.x r k).2 (h.x r k).1, refSlope_eq _ (h.x r k).1]

theorem dal_eq : dalR p a d dg = dalK p a d dg := by
  funext k
  unfold dalR dalK partK
  obtain ⟨e, he⟩ := exp_real _ (h.a (ix2 0 k))
  have hr : ∀ r, ∃ v : ℝ, dg (tok r k) * softplus (arg p d r k) = v := fun r => by
    obtain ⟨s, hs⟩ := softplus_real _ (h.x r k).1
    obtain ⟨hb, ht⟩ := h.dg (tok r k)
    lift dg (tok r k) to ℝ using ⟨ht, hb⟩ with g
    exact ⟨g * s, by rw [hs, EReal.coe_mul]⟩
  choose v hv using hr
  simp only [hv, he]
  have hs : ∑ r, v r = ∑ t : Fin 4, ∑ l : Fin 1024, v ⟨t.1 * 1024 + l.1, by omega⟩ := by
    exact (Fin.sum_mul_add_fin 4 1024 v rfl).symm
  simp only [coe_sum, ← EReal.coe_neg, ← EReal.coe_mul]
  rw [hs, ← Finset.sum_neg_distrib, Finset.sum_mul]

end Cert.Scalars

end
-- ==== Proof.Scalars.BwdRef.lean ====
/-
  What the three results of the derivative of the reference's beta and decay hold.
-/
module

public import proofs.«01_k».proof.Proof.Scalars.Slope
public import proofs.«01_k».proof.Proof.Shared.Split
public import proofs.«01_k».proof.Proof.Shared.Sums
public import proofs.«01_k».proof.Proof.Gen.GateScalarsRefIdeal.Run
public import Idealize.ShloMosaic.Lib.StableHlo.ReadAt
public import Idealize.ShloMosaic.Lib.Tactic.WordOmega

@[expose] public section

set_option maxRecDepth 16384

noncomputable section

namespace Cert.GateScalarsRefIdeal.Val

open Cert.GateScalarsRefIdeal Cert.GateScalarsRefIdeal.Value Cert.Rows
open Idealize.ShloMosaic Idealize.ShloMosaic.TcCoe Idealize.SL.Sem Idealize.ShloMosaic.StableHlo

variable (U : Valuation τ sig (Elt Ideal))

abbrev P : Cert.Scalars.Arr 5640 := U (Proc.devRef .tc main_arg0)
abbrev A : Cert.Scalars.Heads := U (Proc.devRef .tc main_arg1)
abbrev D : Cert.Scalars.Heads := U (Proc.devRef .tc main_arg2)
abbrev DB : Cert.Scalars.Arr 4 := U (Proc.devRef .tc main_arg3)
abbrev DG : Cert.Scalars.Arr 4 := U (Proc.devRef .tc main_arg4)

theorem top_bits : Ideal.ofBits .f32 2139095040#32 = (⊤ : EReal) := by simp [Ideal.ofBits, Ideal.ieee]

theorem at_db (r : Fin 4096) (k : Fin 4) : upto ops U 93 (Proc.devRef .tc main_v37) (ix2 r k)
    = DB U (tok r k) * (Ideal.logistic (P U (tok r ⟨3584 + k.1, by omega⟩)) * (1 - Ideal.logistic (P U (tok r ⟨3584 + k.1, by omega⟩)))) := by
  after_reads_at
  rfl

theorem at_slope (r : Fin 4096) (k : Fin 4) : upto ops U 93 (Proc.devRef .tc main_v38) (ix2 r k) = Cert.Scalars.slopeR (P U) (A U) (D U) (DG U) r k := by
  unfold Cert.Scalars.slopeR Cert.Scalars.ctS Cert.Scalars.refSlope Cert.Scalars.arg Cert.Scalars.softplus
  after_reads_at
  simp only [ne_eq, not_true_eq_false, if_false, top_bits]
  rfl

theorem at_zero (r : Fin 4096) (k : Fin 120) : upto ops U 93 (Proc.devRef .tc main_v39) (ix2 r k) = (0 : EReal) := by
  after_reads_at

/-- A sum over both sequences' positions, inside sums over two axes of extent one. -/
theorem sum_ones (f : Fin 2 → Fin 2048 → EReal) : ∑ _ : Fin 1, ∑ _ : Fin 1, ∑ b : Fin 2, ∑ l : Fin 2048, f b l
    = ∑ r : Fin 4096, f ⟨r.1 / 2048, by omega⟩ ⟨r.1 % 2048, by omega⟩ :=
  (Fin.sum_univ_one (M := EReal) _).trans ((Fin.sum_univ_one (M := EReal) _).trans (Cert.RmsNorm.sum_rows f))

theorem tok_split (b : Fin 2) (l : Fin 2048) {n : Nat} (k : Fin n) : ix3 b l k = tok ⟨b.1 * 2048 + l.1, by omega⟩ k := by
  have e0 : b = ⟨(b.1 * 2048 + l.1) / 2048, by omega⟩ := Fin.ext (by dsimp only; omega)
  have e1 : l = ⟨(b.1 * 2048 + l.1) % 2048, by omega⟩ := Fin.ext (by dsimp only; omega)
  exact congrArg₂ (fun x y => ix3 x y k) e0 e1

theorem upto_split (n k : Nat) (os : List (HloOp τ sig (Elt Ideal))) (W : Valuation τ sig (Elt Ideal)) : upto os W (n + k) = upto (os.drop n) (upto os W n) k := by
  unfold upto
  induction n generalizing os W with
  | zero => rw [Nat.zero_add]; rfl
  | succ n ih =>
    cases os with
    | nil => rw [List.take_nil, List.drop_nil, List.take_nil]; rfl
    | cons o os => rw [Nat.succ_add]; exact ih os _

theorem at_prod (b : Fin 2) (l : Fin 2048) (k : Fin 4) : upto ops U 73 (Proc.devRef .tc main_v24) (ix3 b l k)
    = DG U (tok ⟨b.1 * 2048 + l.1, by omega⟩ k) * Cert.Scalars.softplus (Cert.Scalars.arg (P U) (D U) ⟨b.1 * 2048 + l.1, by omega⟩ k) := by
  unfold Cert.Scalars.arg Cert.Scalars.softplus
  rw [← tok_split b l k, ← tok_split b l (⟨3588 + k.1, by omega⟩ : Fin 5640)]
  after_reads_at
  simp only [ne_eq, not_true_eq_false, if_false]
  rfl

theorem at_exp (k : Fin 4) : upto ops U 73 (Proc.devRef .tc main_v12) (ix1 k) = Ideal.exp (A U (ix2 0 k)) := by
  after_reads_at

theorem after_dal (W : Valuation τ sig (Elt Ideal)) (f : Fin 2 → Fin 2048 → Fin 4 → EReal) (e : Fin 4 → EReal)
    (hf : ∀ b l k, W (Proc.devRef .tc main_v24) (ix3 b l k) = f b l k) (he : ∀ k, W (Proc.devRef .tc main_v12) (ix1 k) = e k) (z : Fin 1) (k : Fin 4) :
    upto (ops.drop 73) W 26 (Proc.devRef .tc main_v35) (ix2 z k) = (-∑ r : Fin 4096, f ⟨r.1 / 2048, by omega⟩ ⟨r.1 % 2048, by omega⟩ k) * e k := by
  after_reads_simp
  clean_types
  pointwise [hostReduceAdd_lead, hf, he]
  exact congrArg (fun s : EReal => -s * e k) (sum_ones fun b l => f b l k)

theorem at_dal (z : Fin 1) (k : Fin 4) : upto ops U 99 (Proc.devRef .tc main_v35) (ix2 z k) = Cert.Scalars.dalR (P U) (A U) (D U) (DG U) k := by
  rw [upto_split 73 26]
  refine (after_dal _ _ _ (at_prod U) (at_exp U) z k).trans ?_
  unfold Cert.Scalars.dalR
  refine congrArg (fun s : EReal => -s * Ideal.exp (A U (ix2 0 k))) (Finset.sum_congr rfl fun r _ => ?_)
  have e : (⟨r.1 / 2048 * 2048 + r.1 % 2048, by omega⟩ : Fin 4096) = r := Fin.ext (by dsimp only; omega)
  dsimp only
  rw [e]

theorem at_slope3 (b : Fin 2) (l : Fin 2048) (k : Fin 4) : upto ops U 79 (Proc.devRef .tc main_v28) (ix3 b l k)
    = Cert.Scalars.slopeR (P U) (A U) (D U) (DG U) ⟨b.1 * 2048 + l.1, by omega⟩ k := by
  unfold Cert.Scalars.slopeR Cert.Scalars.ctS Cert.Scalars.refSlope Cert.Scalars.arg Cert.Scalars.softplus
  rw [← tok_split b l k, ← tok_split b l (⟨3588 + k.1, by omega⟩ : Fin 5640)]
  after_reads_at
  simp only [ne_eq, not_true_eq_false, if_false, top_bits]
  rfl

theorem after_ddt (W : Valuation τ sig (Elt Ideal)) (f : Fin 2 → Fin 2048 → Fin 4 → EReal)
    (hf : ∀ b l k, W (Proc.devRef .tc main_v28) (ix3 b l k) = f b l k) (z : Fin 1) (k : Fin 4) :
    upto (ops.drop 79) W 25 (Proc.devRef .tc main_v32) (ix2 z k) = ∑ r : Fin 4096, f ⟨r.1 / 2048, by omega⟩ ⟨r.1 % 2048, by omega⟩ k := by
  after_reads_simp
  clean_types
  pointwise [hostReduceAdd_lead, hf]
  exact sum_ones fun b l => f b l k

theorem at_ddt (z : Fin 1) (k : Fin 4) : upto ops U 104 (Proc.devRef .tc main_v32) (ix2 z k) = Cert.Scalars.total (Cert.Scalars.slopeR (P U) (A U) (D U) (DG U)) k := by
  rw [upto_split 79 25]
  refine Eq.trans (b := ∑ r : Fin 4096, Cert.Scalars.slopeR (P U) (A U) (D U) (DG U) ⟨r.1 / 2048 * 2048 + r.1 % 2048, by omega⟩ k) (after_ddt _ _ (at_slope3 U) z k) ?_
  unfold Cert.Scalars.total
  refine Finset.sum_congr rfl fun r _ => ?_
  have e : (⟨r.1 / 2048 * 2048 + r.1 % 2048, by omega⟩ : Fin 4096) = r := Fin.ext (by dsimp only; omega)
  rw [e]

/-! ## The three parts side by side -/

theorem dbd_lo (slope : Fin 4096 → Fin 4 → EReal) (p : Cert.Scalars.Arr 5640) (db : Cert.Scalars.Arr 4) (r : Fin 4096) (k : Fin 128) (h : k.1 < 4) :
    db (tok r ⟨k.1, h⟩) * (Ideal.logistic (p (tok r ⟨3584 + k.1, by omega⟩)) * (1 - Ideal.logistic (p (tok r ⟨3584 + k.1, by omega⟩)))) = Cert.Scalars.dbd slope p db r k := by
  unfold Cert.Scalars.dbd
  rw [dif_pos h]

theorem dbd_mid (slope : Fin 4096 → Fin 4 → EReal) (p : Cert.Scalars.Arr 5640) (db : Cert.Scalars.Arr 4) (r : Fin 4096) (k : Fin 128) (h : ¬k.1 < 4) (h' : k.1 - 4 < 4) :
    slope r ⟨k.1 - 4, h'⟩ = Cert.Scalars.dbd slope p db r k := by
  unfold Cert.Scalars.dbd
  rw [dif_neg h, dif_pos (by omega)]

theorem dbd_hi (slope : Fin 4096 → Fin 4 → EReal) (p : Cert.Scalars.Arr 5640) (db : Cert.Scalars.Arr 4) (r : Fin 4096) (k : Fin 128) (h : ¬k.1 < 4) (h' : ¬k.1 - 4 < 4) :
    (0 : EReal) = Cert.Scalars.dbd slope p db r k := by
  unfold Cert.Scalars.dbd
  rw [dif_neg h, dif_neg (by omega)]

theorem cat_dbd (W : Valuation τ sig (Elt Ideal)) (slope : Fin 4096 → Fin 4 → EReal) (p : Cert.Scalars.Arr 5640) (db : Cert.Scalars.Arr 4)
    (hb : ∀ r k, W (Proc.devRef .tc main_v37) (ix2 r k) = db (tok r k) * (Ideal.logistic (p (tok r ⟨3584 + k.1, by omega⟩)) * (1 - Ideal.logistic (p (tok r ⟨3584 + k.1, by omega⟩)))))
    (hd : ∀ r k, W (Proc.devRef .tc main_v38) (ix2 r k) = slope r k) (hz : ∀ r k, W (Proc.devRef .tc main_v39) (ix2 r k) = (0 : EReal)) (r : Fin 4096) (k : Fin 128) :
    after (ops.drop 93) W (Proc.devRef .tc main_v41) (ix2 r k) = Cert.Scalars.dbd slope p db r k := by
  after_reads_simp
  clean_types
  pointwise [fn_main_v40, hb, hd, hz]
  split_ifs
  all_goals first | exact dbd_lo slope p db r k (by assumption) | exact dbd_mid slope p db r k (by assumption) (by assumption) | exact dbd_hi slope p db r k (by assumption) (by assumption)

theorem lanes_out (f : Fin 4 → EReal) (z : Fin 1) (k : Fin 128) (h : ¬(4 ≤ k.1 ∧ k.1 < 8)) : (0 : EReal) = Cert.Scalars.lanes f z k := by
  unfold Cert.Scalars.lanes
  rw [dif_neg h]

theorem lanes_in (f : Fin 4 → EReal) (z : Fin 1) (k : Fin 128) (h : ¬k.1 < 4) (h' : k.1 - 4 < 4) : f ⟨k.1 - 4, h'⟩ = Cert.Scalars.lanes f z k := by
  unfold Cert.Scalars.lanes
  rw [dif_pos (by omega)]

theorem at_zeros (z : Fin 1) (k : Fin 4) : upto ops U 99 (Proc.devRef .tc main_v42) (ix2 z k) = (0 : EReal) := by
  after_reads_at

theorem at_zeros' (z : Fin 1) (k : Fin 120) : upto ops U 99 (Proc.devRef .tc main_v43) (ix2 z k) = (0 : EReal) := by
  after_reads_at

theorem at_zeros2 (z : Fin 1) (k : Fin 4) : upto ops U 104 (Proc.devRef .tc main_v45) (ix2 z k) = (0 : EReal) := by
  after_reads_at

theorem at_zeros2' (z : Fin 1) (k : Fin 120) : upto ops U 104 (Proc.devRef .tc main_v46) (ix2 z k) = (0 : EReal) := by
  after_reads_at

theorem cat_dal (W : Valuation τ sig (Elt Ideal)) (f : Fin 4 → EReal)
    (hb : ∀ r k, W (Proc.devRef .tc main_v42) (ix2 r k) = (0 : EReal)) (hd : ∀ r k, W (Proc.devRef .tc main_v35) (ix2 r k) = f k)
    (hz : ∀ r k, W (Proc.devRef .tc main_v43) (ix2 r k) = (0 : EReal)) (z : Fin 1) (k : Fin 128) :
    after (ops.drop 99) W (Proc.devRef .tc main_v44) (ix2 z k) = Cert.Scalars.lanes f z k := by
  after_reads_simp
  clean_types
  pointwise [fn_main_v44, hb, hd, hz]
  split_ifs
  all_goals first | exact lanes_out f z k (by omega) | exact lanes_in f z k (by assumption) (by assumption)

theorem cat_ddt (W : Valuation τ sig (Elt Ideal)) (f : Fin 4 → EReal)
    (hb : ∀ r k, W (Proc.devRef .tc main_v45) (ix2 r k) = (0 : EReal)) (hd : ∀ r k, W (Proc.devRef .tc main_v32) (ix2 r k) = f k)
    (hz : ∀ r k, W (Proc.devRef .tc main_v46) (ix2 r k) = (0 : EReal)) (z : Fin 1) (k : Fin 128) :
    after (ops.drop 104) W (Proc.devRef .tc main_v47) (ix2 z k) = Cert.Scalars.lanes f z k := by
  after_reads_simp
  clean_types
  pointwise [fn_main_v47, hb, hd, hz]
  split_ifs
  all_goals first | exact lanes_out f z k (by omega) | exact lanes_in f z k (by assumption) (by assumption)

theorem res_dbd (r : Fin 4096) (k : Fin 128) : after ops U (Proc.devRef .tc main_v41) (ix2 r k) = Cert.Scalars.dbd (Cert.Scalars.slopeR (P U) (A U) (D U) (DG U)) (P U) (DB U) r k := by
  rw [after_split 93]
  exact cat_dbd _ _ _ _ (at_db U) (at_slope U) (at_zero U) r k

theorem res_dal (z : Fin 1) (k : Fin 128) : after ops U (Proc.devRef .tc main_v44) (ix2 z k) = Cert.Scalars.lanes (Cert.Scalars.dalR (P U) (A U) (D U) (DG U)) z k := by
  rw [after_split 99]
  exact cat_dal _ _ (at_zeros U) (at_dal U) (at_zeros' U) z k

theorem res_ddt (z : Fin 1) (k : Fin 128) : after ops U (Proc.devRef .tc main_v47) (ix2 z k) = Cert.Scalars.lanes (Cert.Scalars.total (Cert.Scalars.slopeR (P U) (A U) (D U) (DG U))) z k := by
  rw [after_split 104]
  exact cat_ddt _ _ (at_zeros2 U) (at_ddt U) (at_zeros2' U) z k

/-- The run: the results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = arr (Cert.Scalars.dbd (Cert.Scalars.slopeR (m ((c.tc : Thread nD τ).loc main_arg0)) (m ((c.tc : Thread nD τ).loc main_arg1)) (m ((c.tc : Thread nD τ).loc main_arg2)) (m ((c.tc : Thread nD τ).loc main_arg4))) (m ((c.tc : Thread nD τ).loc main_arg0)) (m ((c.tc : Thread nD τ).loc main_arg3)))
      ∧ r.2.mem ((c.tc : Thread nD τ).loc main_v44) = arr (Cert.Scalars.lanes (Cert.Scalars.dalR (m ((c.tc : Thread nD τ).loc main_arg0)) (m ((c.tc : Thread nD τ).loc main_arg1)) (m ((c.tc : Thread nD τ).loc main_arg2)) (m ((c.tc : Thread nD τ).loc main_arg4))))
      ∧ r.2.mem ((c.tc : Thread nD τ).loc main_v47) = arr (Cert.Scalars.lanes (Cert.Scalars.total (Cert.Scalars.slopeR (m ((c.tc : Thread nD τ).loc main_arg0)) (m ((c.tc : Thread nD τ).loc main_arg1)) (m ((c.tc : Thread nD τ).loc main_arg2)) (m ((c.tc : Thread nD τ).loc main_arg4)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c _).trans (arr_ext fun _ _ => res_dbd _ _ _), (h c _).trans (arr_ext fun _ _ => res_dal _ _ _), (h c _).trans (arr_ext fun _ _ => res_ddt _ _ _),
      (h c _).trans (by after_reads_simp), (h c _).trans (by after_reads_simp), (h c _).trans (by after_reads_simp), (h c _).trans (by after_reads_simp), (h c _).trans (by after_reads_simp)⟩)
    (run_seq scopedRefs_eq scopedSems_eq defs main (fun _ => ops) main_eq (fun _ => ops_sub) m ρ)

end Cert.GateScalarsRefIdeal.Val

end
-- ==== Proof.Weight.Ref.lean ====
/-
  A weight's gradient: the sum over the tokens of the cotangent times the input, and the reference's result.
-/
module

public import proofs.«01_k».proof.Proof.Shared.Rows
public import proofs.«01_k».proof.Proof.Shared.RmsNorm
public import proofs.«01_k».proof.Proof.Gen.WeightRefIdeal.Run
public import Idealize.ShloMosaic.Lib.StableHlo.ReadAt
public import Idealize.ShloMosaic.Lib.Tactic.WordOmega

@[expose] public section

set_option maxRecDepth 16384

noncomputable section

namespace Cert.Weight

open Idealize.ShloMosaic Cert.Rows

/-- The gradient of `h @ w` in `w`, transposed: row `r`, column `k`. -/
def grad (h : (⟨3, ![2, 2048, 1024]⟩ : Shape).Idx → EReal) (d : (⟨3, ![2, 2048, 5632]⟩ : Shape).Idx → EReal) (r : Fin 5632) (k : Fin 1024) : EReal :=
  ∑ t : Fin 4096, d (tok t r) * h (tok t k)

end Cert.Weight

namespace Cert.WeightRefIdeal.Val

open Cert.WeightRefIdeal Cert.WeightRefIdeal.Value Cert.Rows
open Idealize.ShloMosaic Idealize.ShloMosaic.TcCoe Idealize.SL.Sem Idealize.ShloMosaic.StableHlo

variable (U : Valuation τ sig (Elt Ideal))

theorem res (r : Fin 5632) (k : Fin 1024) : after ops U (Proc.devRef .tc main_v5) (ix2 r k)
    = Cert.Weight.grad (U (Proc.devRef .tc main_arg0)) (U (Proc.devRef .tc main_arg1)) r k := by
  after_reads_at
  exact Cert.RmsNorm.sum_rows fun b l => (show EReal from U (Proc.devRef .tc main_arg1) (ix3 b l r)) * (show EReal from U (Proc.devRef .tc main_arg0) (ix3 b l k))

/-- The run: the result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = arr (Cert.Weight.grad (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c _).trans (arr_ext fun _ _ => res _ _ _), (h c _).trans (by after_reads_simp), (h c _).trans (by after_reads_simp)⟩)
    (run_seq scopedRefs_eq scopedSems_eq defs main (fun _ => ops) main_eq (fun _ => ops_sub) m ρ)

end Cert.WeightRefIdeal.Val

end
-- ==== Proof.Weight.InputRef.lean ====
/-
  An input's gradient: the sum over the output's columns of the cotangent times the weight, and the reference's result.
-/
module

public import proofs.«01_k».proof.Proof.Shared.Rows
public import proofs.«01_k».proof.Proof.Gen.InputRefIdeal.Run
public import Idealize.ShloMosaic.Lib.StableHlo.ReadAt
public import Idealize.ShloMosaic.Lib.Tactic.WordOmega

@[expose] public section

set_option maxRecDepth 16384

noncomputable section

namespace Cert.Weight

open Idealize.ShloMosaic Cert.Rows

/-- The gradient of `h @ w` in `h`: token `r`, column `k`. -/
def inGrad (w : (⟨3, ![1, 1024, 1024]⟩ : Shape).Idx → EReal) (d : (⟨3, ![2, 2048, 1024]⟩ : Shape).Idx → EReal) (r : Fin 4096) (k : Fin 1024) : EReal :=
  ∑ j : Fin 1024, d (tok r j) * w (ix3 0 k j)

end Cert.Weight

namespace Cert.InputRefIdeal.Val

open Cert.InputRefIdeal Cert.InputRefIdeal.Value Cert.Rows
open Idealize.ShloMosaic Idealize.ShloMosaic.TcCoe Idealize.SL.Sem Idealize.ShloMosaic.StableHlo

variable (U : Valuation τ sig (Elt Ideal))

theorem res (r : Fin 4096) (k : Fin 1024) : after ops U (Proc.devRef .tc main_v4) (ix2 r k)
    = Cert.Weight.inGrad (U (Proc.devRef .tc main_arg0)) (U (Proc.devRef .tc main_arg1)) r k := by
  after_reads_at
  rfl

/-- The run: the result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = arr (Cert.Weight.inGrad (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c _).trans (arr_ext fun _ _ => res _ _ _), (h c _).trans (by after_reads_simp), (h c _).trans (by after_reads_simp)⟩)
    (run_seq scopedRefs_eq scopedSems_eq defs main (fun _ => ops) main_eq (fun _ => ops_sub) m ρ)

end Cert.InputRefIdeal.Val

end
-- ==== Proof.Optimiser.AdamwRef.lean ====
/-
  One step of AdamW: the moments, the weight's change, and the reference's results.
-/
module

public import proofs.«01_k».proof.Proof.Shared.Rows
public import proofs.«01_k».proof.Proof.Gen.AdamwRefIdeal.Run
public import Idealize.ShloMosaic.Lib.StableHlo.ReadAt
public import Idealize.ShloMosaic.Lib.Tactic.WordOmega

@[expose] public section

set_option maxRecDepth 16384

noncomputable section

namespace Cert.Optimiser

open Idealize.ShloMosaic Cert.Rows

abbrev Row : Type := (⟨2, ![1, 1024]⟩ : Shape).Idx → EReal

/-- The value of a literal's word. -/
abbrev lit (w : BitVec 32) : EReal := Ideal.ofBits .f32 w

/-- The first moment: nine tenths of the old one and a tenth of the gradient. -/
def first (g m : EReal) : EReal := lit 0x3F666666#32 * m + lit 0x3DCCCCCD#32 * g

/-- The second moment: 0.999 of the old one and a thousandth of the gradient's square. -/
def second (g v : EReal) : EReal := lit 0x3F7FBE77#32 * v + lit 0x3A83126F#32 * (g * g)

/-- The weight's change: the corrected first moment over the root of the corrected second moment, the decay, times minus the rate. -/
def change (w g m v : EReal) : EReal :=
  lit 0xBA83126F#32 * (Ideal.div (Ideal.div (first g m) (lit 0x3F26BD02#32)) (Ideal.sqrt (Ideal.div (second g v) (lit 0x3C231ACC#32)) + lit 0x322BCC77#32) + lit 0x3C23D70A#32 * w)

def firsts (g m : Row) (z : Fin 1) (q : Fin 1024) : EReal := first (g (ix2 z q)) (m (ix2 z q))

def seconds (g v : Row) (z : Fin 1) (q : Fin 1024) : EReal := second (g (ix2 z q)) (v (ix2 z q))

def changes (w g m v : Row) (z : Fin 1) (q : Fin 1024) : EReal := change (w (ix2 z q)) (g (ix2 z q)) (m (ix2 z q)) (v (ix2 z q))

end Cert.Optimiser

namespace Cert.AdamwRefIdeal.Val

open Cert.AdamwRefIdeal Cert.AdamwRefIdeal.Value Cert.Rows
open Idealize.ShloMosaic Idealize.ShloMosaic.TcCoe Idealize.SL.Sem Idealize.ShloMosaic.StableHlo

variable (U : Valuation τ sig (Elt Ideal))

theorem res_m (z : Fin 1) (k : Fin 1024) : after ops U (Proc.devRef .tc main_v4) (ix2 z k)
    = Cert.Optimiser.firsts (U (Proc.devRef .tc main_arg1)) (U (Proc.devRef .tc main_arg2)) z k := by
  after_reads_at
  rfl

theorem res_v (z : Fin 1) (k : Fin 1024) : after ops U (Proc.devRef .tc main_v10) (ix2 z k)
    = Cert.Optimiser.seconds (U (Proc.devRef .tc main_arg1)) (U (Proc.devRef .tc main_arg3)) z k := by
  after_reads_at
  rfl

theorem res_d (z : Fin 1) (k : Fin 1024) : after ops U (Proc.devRef .tc main_v23) (ix2 z k)
    = Cert.Optimiser.changes (U (Proc.devRef .tc main_arg0)) (U (Proc.devRef .tc main_arg1)) (U (Proc.devRef .tc main_arg2)) (U (Proc.devRef .tc main_arg3)) z k := by
  after_reads_at
  rfl

/-- The run: the gradient, the change, the moments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v23) = arr (Cert.Optimiser.changes (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v4) = arr (Cert.Optimiser.firsts (m ((c.tc : Thread nD τ).loc main_arg1)) (m ((c.tc : Thread nD τ).loc main_arg2)))
      ∧ r.2.mem ((c.tc : Thread nD τ).loc main_v10) = arr (Cert.Optimiser.seconds (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c _).trans (by after_reads_simp), (h c _).trans (arr_ext fun _ _ => res_d _ _ _), (h c _).trans (arr_ext fun _ _ => res_m _ _ _),
      (h c _).trans (arr_ext fun _ _ => res_v _ _ _), (h c _).trans (by after_reads_simp), (h c _).trans (by after_reads_simp),
      (h c _).trans (by after_reads_simp), (h c _).trans (by after_reads_simp)⟩)
    (run_seq scopedRefs_eq scopedSems_eq defs main (fun _ => ops) main_eq (fun _ => ops_sub) m ρ)

end Cert.AdamwRefIdeal.Val

end
-- ==== Proof.Optimiser.SumRef.lean ====
/-
  The sum of the devices' small gradients, and the reference's result.
-/
module

public import proofs.«01_k».proof.Proof.Shared.Rows
public import proofs.«01_k».proof.Proof.Gen.SumSmallRefIdeal.Run
public import Idealize.ShloMosaic.Lib.StableHlo.ReadAt
public import Idealize.ShloMosaic.Lib.Tactic.WordOmega

@[expose] public section

set_option maxRecDepth 16384

noncomputable section

namespace Cert.Optimiser

open Idealize.ShloMosaic Cert.Rows

/-- The sum over the eight slots: row `r`, column `k`. -/
def total (got : (⟨3, ![8, 16, 1024]⟩ : Shape).Idx → EReal) (r : Fin 16) (k : Fin 1024) : EReal := ∑ s : Fin 8, got (ix3 s r k)

end Cert.Optimiser

namespace Cert.SumSmallRefIdeal.Val

open Cert.SumSmallRefIdeal Cert.SumSmallRefIdeal.Value Cert.Rows
open Idealize.ShloMosaic Idealize.ShloMosaic.TcCoe Idealize.SL.Sem Idealize.ShloMosaic.StableHlo

variable (U : Valuation τ sig (Elt Ideal))

theorem res (r : Fin 16) (k : Fin 1024) : after ops U (Proc.devRef .tc main_v0) (ix2 r k)
    = Cert.Optimiser.total (U (Proc.devRef .tc main_arg0)) r k := by
  after_reads_at
  rfl

/-- The run: the result, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = arr (Cert.Optimiser.total (m ((c.tc : Thread nD τ).loc main_arg0)))
      ∧ r.2.mem ((c.tc : Thread nD τ).loc main_arg0) = m ((c.tc : Thread nD τ).loc main_arg0) :=
  (θ_run defs _ _).mono (fun _ h c => ⟨(h c _).trans (arr_ext fun _ _ => res _ _ _), (h c _).trans (by after_reads_simp)⟩)
    (run_seq scopedRefs_eq scopedSems_eq defs main (fun _ => ops) main_eq (fun _ => ops_sub) m ρ)

end Cert.SumSmallRefIdeal.Val

end
-- ==== Proof.Merge.Kernel.lean ====
/-
  What merge_bwd's four output arrays hold after the run: the specification's four gradients.
-/
module

public import proofs.«01_k».proof.Proof.Merge.Spec
public import proofs.«01_k».proof.Proof.Gen.MergeBwdIdeal.Value
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.MergeBwdIdeal.Val

open Cert.MergeBwdIdeal Cert.MergeBwdIdeal.Gen Cert.Rows
open Idealize.ShloMosaic Idealize.ShloMosaic.TcCoe Idealize.SL.Sem

variable (m : (ℓ : Loc nD τ sig) → Buf (Elt Ideal) ℓ)

/-! ## The operands at the call, from the arguments -/

/-- The permuted projection's gate columns (3584 to 5631) are the projection's columns 3592 to 5639. -/
theorem entry_proj (c : Dev nD) (r : Fin 4096) (k : Fin 5760) (h : 3584 ≤ k.1) (h' : k.1 < 5632) :
    V m c main_v18 (ix2 r k) = m ((c : Thread nD τ).loc main_arg0) (tok r ⟨k.1 + 8, by omega⟩) := by
  unfold V
  after_reads_at
  simp (disch := word_cmp_side) only [hlo_ix]
  rw [if_neg (by omega), if_pos h', dif_pos h']
  exact congrArg _ (tok_congr rfl (Nat.add_comm _ _))

theorem entry_ta (c : Dev nD) (r : Fin 4096) (k : Fin 1024) : V m c main_v20 (ix2 r k) = m ((c : Thread nD τ).loc main_arg1) (tok r k) := by
  unfold V
  after_reads_at

theorem entry_tb (c : Dev nD) (r : Fin 4096) (k : Fin 1024) : V m c main_v22 (ix2 r k) = m ((c : Thread nD τ).loc main_arg2) (tok r k) := by
  unfold V
  after_reads_at

theorem entry_dm (c : Dev nD) (r : Fin 4096) (k : Fin 1024) : V m c main_v23 (ix2 r k) = m ((c : Thread nD τ).loc main_arg3) (tok r k) := by
  unfold V
  after_reads_at

/-! ## The blocks: grid point `t` is column block `t / 8` and row block `t % 8` -/

theorem idx : ∀ t : Fin cfg0.N, win0_0.index t = ![t.val % 8, 7 + t.val / 8] ∧ win0_1.index t = ![t.val % 8, 9 + t.val / 8]
    ∧ win0_2.index t = ![t.val % 8, t.val / 8] ∧ win0_3.index t = ![t.val % 8, t.val / 8] ∧ win0_4.index t = ![t.val % 8, t.val / 8]
    ∧ win0_5.index t = ![t.val % 8, t.val / 8] ∧ win0_6.index t = ![t.val % 8, t.val / 8] ∧ win0_7.index t = ![t.val % 8, t.val / 8]
    ∧ win0_8.index t = ![t.val % 8, t.val / 8] := (by decide +kernel : ∀ t : Fin grid0.N, _)

/-- Row `y 0` of point `t`'s block in the stacked array. -/
def row (t : Fin cfg0.N) (y : S512x512.Idx) : Fin 4096 :=
  ⟨512 * (t.val % 8) + (y 0).1, by have h := (y 0).isLt; dsimp at h; omega⟩

/-- Column `y 1` of point `t`'s block. -/
def col (t : Fin cfg0.N) (y : S512x512.Idx) : Fin 1024 :=
  ⟨512 * (t.val / 8) + (y 1).1, by have h := (y 1).isLt; dsimp at h; have := t.isLt; have hN : cfg0.N = 16 := N_0; omega⟩

theorem read_ga (c : Dev nD) (t : Fin cfg0.N) (y : S512x512.Idx) :
    X0_0 m c t y = m ((c : Thread nD τ).loc main_arg0) (tok (row t y) (Cert.Merge.colA (col t y))) := by
  have hc := (col t y).isLt
  refine Eq.trans ?_ ((entry_proj m c (row t y) ⟨3584 + (col t y).1, by omega⟩ (by dsimp only; omega) (by dsimp only; omega)).trans ?_)
  · unfold X0_0 Pipeline.Window.fill
    rw [dif_pos (moved0_0 t y)]
    unfold row col
    blk_ext [iblk, idx t]
  · exact congrArg _ (tok_congr rfl (by simp only [Cert.Merge.colA, Cert.Merge.colB]; omega))

theorem read_gb (c : Dev nD) (t : Fin cfg0.N) (y : S512x512.Idx) :
    X0_1 m c t y = m ((c : Thread nD τ).loc main_arg0) (tok (row t y) (Cert.Merge.colB (col t y))) := by
  have hc := (col t y).isLt
  refine Eq.trans ?_ ((entry_proj m c (row t y) ⟨4608 + (col t y).1, by omega⟩ (by dsimp only; omega) (by dsimp only; omega)).trans ?_)
  · unfold X0_1 Pipeline.Window.fill
    rw [dif_pos (moved0_1 t y)]
    unfold row col
    blk_ext [iblk, idx t]
  · exact congrArg _ (tok_congr rfl (by simp only [Cert.Merge.colA, Cert.Merge.colB]; omega))

theorem read_ta (c : Dev nD) (t : Fin cfg0.N) (y : S512x512.Idx) : iblk m c 2 t y = m ((c : Thread nD τ).loc main_arg1) (tok (row t y) (col t y)) := by
  refine Eq.trans ?_ (entry_ta m c (row t y) (col t y))
  unfold row col
  blk_ext [iblk, idx t]

theorem read_tb (c : Dev nD) (t : Fin cfg0.N) (y : S512x512.Idx) : iblk m c 3 t y = m ((c : Thread nD τ).loc main_arg2) (tok (row t y) (col t y)) := by
  refine Eq.trans ?_ (entry_tb m c (row t y) (col t y))
  unfold row col
  blk_ext [iblk, idx t]

theorem read_dm (c : Dev nD) (t : Fin cfg0.N) (y : S512x512.Idx) : iblk m c 4 t y = m ((c : Thread nD τ).loc main_arg3) (tok (row t y) (col t y)) := by
  refine Eq.trans ?_ (entry_dm m c (row t y) (col t y))
  unfold row col
  blk_ext [iblk, idx t]

/-! ## The output arrays -/

/-- An array given by row and channel, at the place of element `y` of point `t`'s block. -/
theorem at_block (f : Fin 4096 → Fin 1024 → EReal) (t : Fin cfg0.N) (y : S512x512.Idx) (z : S4096x1024.Idx)
    (h0 : (z 0).1 = t.val % 8 * 512 + (y 0).1) (h1 : (z 1).1 = t.val / 8 * 512 + (y 1).1) : arr f z = f (row t y) (col t y) :=
  congrArg₂ f (Fin.ext (h0.trans (by unfold row; dsimp only; omega))) (Fin.ext (h1.trans (by unfold col; dsimp only; omega)))

theorem out_ga (c : Dev nD) : (dats m 0 c).arrAt 5 cfg0.N = arr (Cert.Merge.dgate Cert.Merge.colA (m ((c : Thread nD τ).loc main_arg0)) (m ((c : Thread nD τ).loc main_arg1)) (m ((c : Thread nD τ).loc main_arg3))) := by
  refine (dats m 0 c).arrAt_eq_of_covers 5 _ (by decide +kernel) fun t hf y => ?_
  blk_simp
  rw [after0_5]
  unfold outsAt0
  frame_out
  pointwise [k0_pay4, k0_pay1, k0_pay2]
  rw [read_dm, read_ta, read_ga]
  refine Eq.trans ?_ (at_block _ t y _ (?_ : _ = _) (?_ : _ = _)).symm
  · rfl
  all_goals blk_simp [idx t]

theorem out_gb (c : Dev nD) : (dats m 0 c).arrAt 6 cfg0.N = arr (Cert.Merge.dgate Cert.Merge.colB (m ((c : Thread nD τ).loc main_arg0)) (m ((c : Thread nD τ).loc main_arg2)) (m ((c : Thread nD τ).loc main_arg3))) := by
  refine (dats m 0 c).arrAt_eq_of_covers 6 _ (by decide +kernel) fun t hf y => ?_
  blk_simp
  rw [after0_6]
  unfold outsAt0
  frame_out
  pointwise [k0_pay5, k0_pay1, k0_pay3]
  rw [read_dm, read_tb, read_gb]
  refine Eq.trans ?_ (at_block _ t y _ (?_ : _ = _) (?_ : _ = _)).symm
  · rfl
  all_goals blk_simp [idx t]

theorem out_ta (c : Dev nD) : (dats m 0 c).arrAt 7 cfg0.N = arr (Cert.Merge.dbranch Cert.Merge.colA (m ((c : Thread nD τ).loc main_arg0)) (m ((c : Thread nD τ).loc main_arg3))) := by
  refine (dats m 0 c).arrAt_eq_of_covers 7 _ (by decide +kernel) fun t hf y => ?_
  blk_simp
  rw [after0_7]
  unfold outsAt0
  frame_out
  pointwise [k0_pay6, k0_pay1, k0_pay2]
  rw [read_dm, read_ga]
  refine Eq.trans ?_ (at_block _ t y _ (?_ : _ = _) (?_ : _ = _)).symm
  · rfl
  all_goals blk_simp [idx t]

theorem out_tb (c : Dev nD) : (dats m 0 c).arrAt 8 cfg0.N = arr (Cert.Merge.dbranch Cert.Merge.colB (m ((c : Thread nD τ).loc main_arg0)) (m ((c : Thread nD τ).loc main_arg3))) := by
  refine (dats m 0 c).arrAt_eq_of_covers 8 _ (by decide +kernel) fun t hf y => ?_
  blk_simp
  rw [after0_8]
  unfold outsAt0
  frame_out
  pointwise [k0_pay7, k0_pay1, k0_pay3]
  rw [read_dm, read_gb]
  refine Eq.trans ?_ (at_block _ t y _ (?_ : _ = _) (?_ : _ = _)).symm
  · rfl
  all_goals blk_simp [idx t]

end Cert.MergeBwdIdeal.Val

end
-- ==== Proof.Merge.Pair.lean ====
/-
  merge_bwd and the derivative of the reference's gated merge compute the same four gradients, on all extended reals.
-/
module

public import proofs.«01_k».proof.Defs
public import proofs.«01_k».proof.Proof.Merge.Kernel
public import proofs.«01_k».proof.Proof.Merge.Ref

@[expose] public section

set_option maxRecDepth 16384

noncomputable section

namespace Cert.Proof

open Cert.Rows Idealize.ShloMosaic Idealize.ShloMosaic.TcCoe Idealize.SL.Sem

theorem algebraic_merge : Cert.algebraic_MergeBwdIdeal_MergeRefIdeal (hMergeBwdIdeal := Cert.MergeBwdIdeal.Gen.facts) (hMergeRefIdeal := Cert.MergeRefIdeal.Gen.facts) := by
  intro m g m' g' _ hagree
  refine ⟨fun c => arr (Cert.Merge.dgate Cert.Merge.colA (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg3))),
    fun c => arr (Cert.Merge.dgate Cert.Merge.colB (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3))),
    fun c => arr (Cert.Merge.dbranch Cert.Merge.colA (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg3))),
    fun c => arr (Cert.Merge.dbranch Cert.Merge.colB (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg3))),
    (θ_run _ _ _).mono (fun r h c => ?_) (Cert.MergeBwdIdeal.Value.run_blocks m g),
    (θ_run _ _ _).mono (fun r h c => ?_) (Cert.MergeRefIdeal.Val.run m' g')⟩
  · obtain ⟨h5, h6, h7, h8, k⟩ := h c
    exact ⟨h5.trans (Cert.MergeBwdIdeal.Val.out_ga m c), h6.trans (Cert.MergeBwdIdeal.Val.out_gb m c), h7.trans (Cert.MergeBwdIdeal.Val.out_ta m c),
      h8.trans (Cert.MergeBwdIdeal.Val.out_tb m c), k⟩
  · obtain ⟨e0, e1, e2, e3⟩ := hagree c
    obtain ⟨h0, h1, h2, h3, k⟩ := h c
    simp only [e0, e1, e2, e3] at h0 h1 h2 h3
    exact ⟨h0, h1, h2, h3, k⟩

end Cert.Proof

end
-- ==== Proof.Shared.Finite.lean ====
/-
  The mask "above -inf and below +inf" at one element, over the extended reals.
-/
module

public import Idealize.ShloMosaic.PureOps.Ideal

@[expose] public section

noncomputable section

namespace Cert.Rows

open Idealize.ShloMosaic

/-- Every element is finite. -/
abbrev AllFinite {ι : Type} (x : ι → EReal) : Prop := ∀ i, x i ≠ ⊥ ∧ x i ≠ ⊤

theorem finite_of_mask (x : EReal)
    (h : IntOp.andi (FloatOps.cmpf (F := Ideal) (φ := .f32) .ogt x (Ideal.ofBits .f32 4286578688#32))
      (FloatOps.cmpf (F := Ideal) (φ := .f32) .olt x (Ideal.ofBits .f32 2139095040#32)) = 1#1) : x ≠ ⊥ ∧ x ≠ ⊤ := by
  have hb : Ideal.ofBits .f32 4286578688#32 = ⊥ := by simp [Ideal.ofBits, Ideal.ieee]
  have ht : Ideal.ofBits .f32 2139095040#32 = ⊤ := by simp [Ideal.ofBits, Ideal.ieee]
  rw [hb, ht] at h
  constructor <;> rintro rfl <;> revert h <;> simp [FloatOps.cmpf, Ideal.cmp, IntOp.andi]

end Cert.Rows

end
-- ==== Proof.Conv.Finite.lean ====
/-
  The pair's precondition, read at an element: the cotangent is finite.
-/
module

public import proofs.«01_k».proof.Pre_conv_ct_finite
public import proofs.«01_k».proof.Proof.Shared.Finite
public import Idealize.ShloMosaic.Lib.Pointwise.Tactic
public import Idealize.ShloMosaic.Lib.ReduceAll

@[expose] public section

noncomputable section

namespace Cert.Conv

open Idealize.ShloMosaic Cert.Pre_conv_ct_finite

theorem finite_ct [Facts] (x : FVec Ideal S2x2048x5640 .f32) (w : FVec Ideal S1x4x1536 .f32) (dc : FVec Ideal S2x2048x1536 .f32)
    (h : fn x w dc = fun _ => 1#1) (i : S2x2048x1536.Idx) : dc i ≠ ⊥ ∧ dc i ≠ ⊤ := by
  haveI : Subsingleton S_.Idx := ⟨fun a b => funext fun k => k.elim0⟩
  unfold fn at h
  have e := Host.reduce_andi_all _ _ _ _ _ (congrFun h (fun k => k.elim0)) i
  clear h
  pointwise at e
  exact Cert.Rows.finite_of_mask _ e

end Cert.Conv

end
-- ==== Proof.Conv.Kernel.lean ====
/-
  What conv_bwd's two output arrays hold after the run: the specification's gradients of the input and of the taps.
-/
module

public import proofs.«01_k».proof.Proof.Conv.Spec
public import proofs.«01_k».proof.Proof.Gen.ConvBwdIdeal.Value
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.ConvBwdIdeal.Val

open Cert.ConvBwdIdeal Cert.ConvBwdIdeal.Gen Cert.Rows
open Idealize.ShloMosaic Idealize.ShloMosaic.TcCoe Idealize.SL.Sem

variable (m : (ℓ : Loc nD τ sig) → Buf (Elt Ideal) ℓ)

/-! ## The operands at the call, from the arguments -/

/-- The permuted projection's columns below 3584 are the projection's. -/
theorem entry_x (c : Dev nD) (r : Fin 4096) (k : Fin 5760) (h : k.1 < 3584) :
    V m c main_v18 (ix2 r k) = m ((c : Thread nD τ).loc main_arg0) (tok r ⟨k.1, by omega⟩) := by
  unfold V
  after_reads_at
  simp (disch := word_cmp_side) only [hlo_ix]
  rw [if_pos h, dif_pos (by omega)]

theorem entry_w (c : Dev nD) (j : Fin 4) (k : Fin 1536) : V m c main_v19 (ix2 j k) = m ((c : Thread nD τ).loc main_arg1) (ix3 0 j k) := by
  unfold V
  after_reads_at

theorem entry_dc (c : Dev nD) (r : Fin 4096) (k : Fin 1536) : V m c main_v20 (ix2 r k) = m ((c : Thread nD τ).loc main_arg2) (tok r k) := by
  unfold V
  after_reads_at

/-! ## The blocks: grid point `t` is column block `t / 2` of sequence `t % 2` -/

theorem idx : ∀ t : Fin cfg0.N, win0_0.index t = ![t.val % 2, 6 + t.val / 2] ∧ win0_1.index t = ![0, t.val / 2]
    ∧ win0_2.index t = ![t.val % 2, t.val / 2] ∧ win0_3.index t = ![t.val % 2, t.val / 2] ∧ win0_4.index t = ![0, t.val / 2] :=
  (by decide +kernel : ∀ t : Fin grid0.N, _)

/-- Row `l` of point `t`'s block in the stacked array. -/
def row (t : Fin cfg0.N) (l : Fin 2048) : Fin 4096 := ⟨2048 * (t.val % 2) + l.1, by omega⟩

/-- Channel `q` of point `t`'s block. -/
def col (t : Fin cfg0.N) (q : Fin 256) : Fin 1536 := ⟨256 * (t.val / 2) + q.1, by have := t.isLt; have hN : cfg0.N = 12 := N_0; omega⟩

theorem read_x (c : Dev nD) (t : Fin cfg0.N) (l : Fin 2048) (q : Fin 256) :
    X0_0 m c t (ix2 l q) = Cert.Conv.input (m ((c : Thread nD τ).loc main_arg0)) (row t l) (col t q) := by
  have hc := (col t q).isLt
  refine Eq.trans ?_ ((entry_x m c (row t l) ⟨1536 + (col t q).1, by omega⟩ (by dsimp only; omega)).trans ?_)
  · unfold X0_0 Pipeline.Window.fill
    rw [dif_pos (moved0_0 t _)]
    unfold row col
    blk_ext [iblk, idx t]
  · exact congrArg _ (tok_congr rfl (by simp only [Cert.Conv.colX]))

theorem read_w (c : Dev nD) (t : Fin cfg0.N) (j : Fin 4) (q : Fin 256) : iblk m c 1 t (ix2 j q) = m ((c : Thread nD τ).loc main_arg1) (ix3 0 j (col t q)) := by
  refine Eq.trans ?_ (entry_w m c j (col t q))
  unfold col
  blk_ext [iblk, idx t]

theorem read_dc (c : Dev nD) (t : Fin cfg0.N) (l : Fin 2048) (q : Fin 256) : iblk m c 2 t (ix2 l q) = m ((c : Thread nD τ).loc main_arg2) (tok (row t l) (col t q)) := by
  refine Eq.trans ?_ (entry_dc m c (row t l) (col t q))
  unfold row col
  blk_ext [iblk, idx t]

/-! ## One block: the shifted inputs, the convolution and the gradient at its output -/

theorem at_x (c : Dev nD) (t : Fin cfg0.N) (l : Fin 2048) (q : Fin 256) : k0_pay9 (F := Ideal) (X0_0 m c t) (ix2 l q) = Cert.Conv.input (m ((c : Thread nD τ).loc main_arg0)) (row t l) (col t q) := by
  pointwise [k0_pay9]
  rw [read_x]

/-- A rotation by `s` rows of a block, with the rows before the sequence's start zeroed. -/
theorem behind_at (s : Nat) (f : Fin 4096 → Fin 1536 → EReal) (t : Fin cfg0.N) (l l' : Fin 2048) (q : Fin 256) (h : s ≤ l.1 → l'.1 + s = l.1) :
    (if s ≤ l.1 then f (row t l') (col t q) else 0) = Cert.Conv.behind s f (row t l) (col t q) := by
  have e : (row t l).1 % 2048 = l.1 := by simp only [row]; omega
  simp only [Cert.Conv.behind, e]
  split_ifs with hl
  · exact congrArg (f · _) (Fin.ext (by have := h hl; simp only [row]; omega))
  · rfl

/-- A rotation by `2048 - s` rows, with the rows past the sequence's end zeroed. -/
theorem ahead_at (s : Nat) (f : Fin 4096 → Fin 1536 → EReal) (t : Fin cfg0.N) (l l' : Fin 2048) (q : Fin 256) (h : l.1 + s < 2048 → l'.1 = l.1 + s) :
    (if l.1 < 2048 - s then f (row t l') (col t q) else 0) = Cert.Conv.ahead s f (row t l) (col t q) := by
  have e : (row t l).1 % 2048 = l.1 := by simp only [row]; omega
  simp only [Cert.Conv.ahead, e]
  split_ifs with hl hl' hl'
  · exact congrArg (f · _) (Fin.ext (by have := h hl'; simp only [row]; omega))
  · omega
  · omega
  · rfl

theorem ahead_mul_at (s : Nat) (f : Fin 4096 → Fin 1536 → EReal) (w : EReal) (t : Fin cfg0.N) (l l' : Fin 2048) (q : Fin 256) (h : l.1 + s < 2048 → l'.1 = l.1 + s) :
    (if l.1 < 2048 - s then f (row t l') (col t q) * w else 0) = Cert.Conv.ahead s f (row t l) (col t q) * w := by
  rw [← ahead_at s f t l l' q h, ite_mul, zero_mul]

theorem at_x1 (c : Dev nD) (t : Fin cfg0.N) (l : Fin 2048) (q : Fin 256) : k0_pay10 (F := Ideal) (X0_0 m c t) (ix2 l q) = Cert.Conv.behind 1 (Cert.Conv.input (m ((c : Thread nD τ).loc main_arg0))) (row t l) (col t q) := by
  pointwise [k0_pay10, at_x]
  simp (disch := word_cmp_side) only [hlo_ix]
  exact behind_at 1 _ t l _ q (fun _ => by dsimp only; omega)

theorem at_x2 (c : Dev nD) (t : Fin cfg0.N) (l : Fin 2048) (q : Fin 256) : k0_pay11 (F := Ideal) (X0_0 m c t) (ix2 l q) = Cert.Conv.behind 2 (Cert.Conv.input (m ((c : Thread nD τ).loc main_arg0))) (row t l) (col t q) := by
  pointwise [k0_pay11, at_x]
  simp (disch := word_cmp_side) only [hlo_ix]
  exact behind_at 2 _ t l _ q (fun _ => by dsimp only; omega)

theorem at_x3 (c : Dev nD) (t : Fin cfg0.N) (l : Fin 2048) (q : Fin 256) : k0_pay12 (F := Ideal) (X0_0 m c t) (ix2 l q) = Cert.Conv.behind 3 (Cert.Conv.input (m ((c : Thread nD τ).loc main_arg0))) (row t l) (col t q) := by
  pointwise [k0_pay12, at_x]
  simp (disch := word_cmp_side) only [hlo_ix]
  exact behind_at 3 _ t l _ q (fun _ => by dsimp only; omega)

theorem at_pre (c : Dev nD) (t : Fin cfg0.N) (l : Fin 2048) (q : Fin 256) : k0_pay13 (F := Ideal) (iblk m c 1 t) (X0_0 m c t) (ix2 l q) = Cert.Conv.pre (m ((c : Thread nD τ).loc main_arg0)) (m ((c : Thread nD τ).loc main_arg1)) (row t l) (col t q) := by
  pointwise [k0_pay13, k0_pay8, at_x, at_x1, at_x2, at_x3]
  rw [read_w, read_w, read_w, read_w]
  rfl

/-- The gradient at the convolution's output, as the body holds it. -/
abbrev dpreBlk (c : Dev nD) (t : Fin cfg0.N) : FVec Ideal S2048x256 .f32 :=
  k0_pay17 (F := Ideal) (k0_pay14 (iblk m c 1 t) (X0_0 m c t)) (k0_pay15 (iblk m c 2 t)) (k0_pay16 (iblk m c 1 t) (X0_0 m c t))

theorem at_dpre (c : Dev nD) (t : Fin cfg0.N) (l : Fin 2048) (q : Fin 256) : dpreBlk m c t (ix2 l q) = Cert.Conv.dpre (m ((c : Thread nD τ).loc main_arg0)) (m ((c : Thread nD τ).loc main_arg1)) (m ((c : Thread nD τ).loc main_arg2)) (row t l) (col t q) := by
  unfold dpreBlk
  pointwise [k0_pay17, k0_pay14, k0_pay15, k0_pay16, at_pre]
  rw [read_dc]
  rfl

theorem at_dx (c : Dev nD) (t : Fin cfg0.N) (l : Fin 2048) (q : Fin 256) :
    k0_pay18 (F := Ideal) (k0_pay8 (iblk m c 1 t)) (k0_pay14 (iblk m c 1 t) (X0_0 m c t)) (k0_pay15 (iblk m c 2 t)) (k0_pay16 (iblk m c 1 t) (X0_0 m c t)) (ix2 l q)
      = Cert.Conv.dx (m ((c : Thread nD τ).loc main_arg0)) (m ((c : Thread nD τ).loc main_arg1)) (m ((c : Thread nD τ).loc main_arg2)) (row t l) (col t q) := by
  have e : ∀ l q, k0_pay17 (F := Ideal) (k0_pay14 (iblk m c 1 t) (X0_0 m c t)) (k0_pay15 (iblk m c 2 t)) (k0_pay16 (iblk m c 1 t) (X0_0 m c t)) (ix2 l q) = _ := at_dpre m c t
  pointwise [k0_pay18, k0_pay8, e]
  rw [read_w, read_w, read_w, read_w]
  simp (disch := word_cmp_side) only [hlo_ix]
  refine congrArg₂ _ (congrArg₂ _ (congrArg₂ _ rfl ?_) ?_) ?_
  · exact ahead_mul_at 1 _ _ t l _ q (fun _ => by dsimp only; omega)
  · exact ahead_mul_at 2 _ _ t l _ q (fun _ => by dsimp only; omega)
  · exact ahead_mul_at 3 _ _ t l _ q (fun _ => by dsimp only; omega)

/-- An array given by row and channel, at the place of element `y` of point `t`'s block. -/
theorem at_block (f : Fin 4096 → Fin 1536 → EReal) (t : Fin cfg0.N) (y : S2048x256.Idx) (z : S4096x1536.Idx)
    (h0 : (z 0).1 = t.val % 2 * 2048 + (y 0).1) (h1 : (z 1).1 = t.val / 2 * 256 + (y 1).1) : arr f z = f (row t (y 0)) (col t (y 1)) :=
  congrArg₂ f (Fin.ext (h0.trans (by unfold row; dsimp only; omega))) (Fin.ext (h1.trans (by unfold col; dsimp only; omega)))

theorem ix2_eta {a b : Nat} (y : (⟨2, ![a, b]⟩ : Shape).Idx) : y = ix2 (y 0) (y 1) := funext fun i => match i with | ⟨0, _⟩ => rfl | ⟨1, _⟩ => rfl

theorem out_dx (c : Dev nD) : (dats m 0 c).arrAt 3 cfg0.N = arr (Cert.Conv.dx (m ((c : Thread nD τ).loc main_arg0)) (m ((c : Thread nD τ).loc main_arg1)) (m ((c : Thread nD τ).loc main_arg2))) := by
  refine (dats m 0 c).arrAt_eq_of_covers 3 _ (by decide +kernel) fun t hf y => ?_
  blk_simp
  refine Eq.trans ?_ (at_block _ t y _ (?_ : _ = _) (?_ : _ = _)).symm
  rotate_left
  iterate 2 blk_simp [idx t]
  rw [after0_3]
  rcases Nat.mod_two_eq_zero_or_one t.val with h | h
  · rw [outsAt0_A m c t h (by omega) h (by omega) h (by omega) h (by omega)]
    frame_out
    rw [ix2_eta y]
    exact at_dx m c t _ _
  · rw [outsAt0_B m c t (by omega) h (by omega) h (by omega) h (by omega) h]
    frame_out
    rw [ix2_eta y]
    exact at_dx m c t _ _

/-! ## The taps' gradient -/

/-- One sequence's part of tap `j`'s gradient. -/
def part (c : Dev nD) (t : Fin cfg0.N) (j : Fin 4) (q : Fin 256) : EReal :=
  ∑ l : Fin 2048, Cert.Conv.dpre (m ((c : Thread nD τ).loc main_arg0)) (m ((c : Thread nD τ).loc main_arg1)) (m ((c : Thread nD τ).loc main_arg2)) (row t l) (col t q) * Cert.Conv.behind (3 - j.1) (Cert.Conv.input (m ((c : Thread nD τ).loc main_arg0))) (row t l) (col t q)

theorem behind_zero (f : Fin 4096 → Fin 1536 → EReal) (r : Fin 4096) (k : Fin 1536) : Cert.Conv.behind 0 f r k = f r k := if_pos (Nat.zero_le _)

theorem at_part3 (c : Dev nD) (t : Fin cfg0.N) (z : Fin 1) (q : Fin 256) :
    k0_pay19 (F := Ideal) (k0_pay9 (X0_0 m c t)) (k0_pay14 (iblk m c 1 t) (X0_0 m c t)) (k0_pay15 (iblk m c 2 t)) (k0_pay16 (iblk m c 1 t) (X0_0 m c t)) (ix2 z q) = part m c t 3 q := by
  have e : ∀ l q, k0_pay17 (F := Ideal) (k0_pay14 (iblk m c 1 t) (X0_0 m c t)) (k0_pay15 (iblk m c 2 t)) (k0_pay16 (iblk m c 1 t) (X0_0 m c t)) (ix2 l q) = _ := at_dpre m c t
  pointwise [k0_pay19, e, at_x]
  exact Finset.sum_congr rfl fun l _ => congrArg _ (behind_zero _ _ _).symm

theorem at_part2 (c : Dev nD) (t : Fin cfg0.N) (z : Fin 1) (q : Fin 256) : k0_pay2 (F := Ideal) (k0_pay10 (X0_0 m c t)) (dpreBlk m c t) (ix2 z q) = part m c t 2 q := by
  pointwise [k0_pay2, at_dpre, at_x1]
  rfl

theorem at_part1 (c : Dev nD) (t : Fin cfg0.N) (z : Fin 1) (q : Fin 256) : k0_pay4 (F := Ideal) (k0_pay11 (X0_0 m c t)) (dpreBlk m c t) (ix2 z q) = part m c t 1 q := by
  pointwise [k0_pay4, at_dpre, at_x2]
  rfl

theorem at_part0 (c : Dev nD) (t : Fin cfg0.N) (z : Fin 1) (q : Fin 256) : k0_pay6 (F := Ideal) (k0_pay12 (X0_0 m c t)) (dpreBlk m c t) (ix2 z q) = part m c t 0 q := by
  pointwise [k0_pay6, at_dpre, at_x3]
  rfl

theorem part_congr (c : Dev nD) (t : Fin cfg0.N) (j j' : Fin 4) (q q' : Fin 256) (hj : j'.1 = j.1) (hq : q'.1 = q.1) : part m c t j q = part m c t j' q' :=
  congrArg₂ _ (Fin.ext hj.symm) (Fin.ext hq.symm)

theorem even_dw (c : Dev nD) (t : Fin cfg0.N) (h : t.val % 2 = 0) (y : S4x256.Idx) : (outsAt0 m c t.val t.isLt).2 y = part m c t (y 0) (y 1) := by
  rw [outsAt0_A m c t h (by omega) h (by omega) h (by omega) h (by omega)]
  frame_out
  canon_tiles x h
  all_goals rw [ix2_eta x]
  · exact (at_part0 m c t _ _).trans (part_congr m c t _ _ _ _ (by omega) h1)
  · exact (at_part1 m c t _ _).trans (part_congr m c t _ _ _ _ (by omega) h1)
  · exact (at_part2 m c t _ _).trans (part_congr m c t _ _ _ _ (by omega) h1)
  · exact (at_part3 m c t _ _).trans (part_congr m c t _ _ _ _ (by omega) h1)

/-- A stored row of the second sequence's block: the row read, plus the part. -/
theorem add3 (p : FVec Ideal S1x256 .f32) (v : Vec Ideal S1x256 .f32) (x : S1x256.Idx) : k0_pay1 (F := Ideal) p v x = v x + p x := by pointwise [k0_pay1]

theorem add2 (a b : FVec Ideal S2048x256 .f32) (v : Vec Ideal S1x256 .f32) (x : S1x256.Idx) : k0_pay3 (F := Ideal) a b v x = v x + k0_pay2 (F := Ideal) a b x := by
  pointwise [k0_pay3, k0_pay2]

theorem add1 (a b : FVec Ideal S2048x256 .f32) (v : Vec Ideal S1x256 .f32) (x : S1x256.Idx) : k0_pay5 (F := Ideal) a b v x = v x + k0_pay4 (F := Ideal) a b x := by
  pointwise [k0_pay5, k0_pay4]

theorem add0 (a b : FVec Ideal S2048x256 .f32) (v : Vec Ideal S1x256 .f32) (x : S1x256.Idx) : k0_pay7 (F := Ideal) a b v x = v x + k0_pay6 (F := Ideal) a b x := by
  pointwise [k0_pay7, k0_pay6]

/-- A row of the block, loaded. -/
theorem ld_row (X : Vec Ideal S4x256 .f32) (o : Nat) (inb : ∀ a, (![o, 0] : Fin 2 → Nat) a + (![1, 256] : Fin 2 → Nat) a ≤ S4x256.size a) (x : S1x256.Idx) (y : S4x256.Idx)
    (h0 : (y 0).1 = o + (x 0).1) (h1 : (y 1).1 = (x 1).1) : View.ld X (Rect.unit (s := S4x256) ![o, 0] ![1, 256] inb) x = X y :=
  View.ld_unit_apply_of X _ _ inb x y (Fin.forall_fin_two.mpr ⟨h0, h1.trans (Nat.zero_add _).symm⟩)

theorem odd_dw (c : Dev nD) (t : Fin cfg0.N) (h : t.val % 2 = 1) (y : S4x256.Idx) :
    (outsAt0 m c t.val t.isLt).2 y = part m c ⟨t.val - 1, by omega⟩ (y 0) (y 1) + part m c t (y 0) (y 1) := by
  rw [← even_dw m c ⟨t.val - 1, by omega⟩ (by dsimp only; omega)]
  rw [outsAt0_B m c t (by omega) h (by omega) h (by omega) h (by omega) h]
  frame_out
  canon_tiles x h
  · rw [add0]
    refine congrArg₂ _ ?_ (by rw [ix2_eta x]; exact (at_part0 m c t _ _).trans (part_congr m c t _ _ _ _ (by omega) h1))
    exact ld_row _ _ _ x y (by omega) h1
  · rw [add1]
    refine congrArg₂ _ ?_ (by rw [ix2_eta x]; exact (at_part1 m c t _ _).trans (part_congr m c t _ _ _ _ (by omega) h1))
    exact ld_row _ _ _ x y (by omega) h1
  · rw [add2]
    refine congrArg₂ _ ?_ (by rw [ix2_eta x]; exact (at_part2 m c t _ _).trans (part_congr m c t _ _ _ _ (by omega) h1))
    exact ld_row _ _ _ x y (by omega) h1
  · rw [add3]
    refine congrArg₂ _ ?_ (by rw [ix2_eta x]; exact (at_part3 m c t _ _).trans (part_congr m c t _ _ _ _ (by omega) h1))
    exact ld_row _ _ _ x y (by omega) h1

theorem out_dw (c : Dev nD) : (dats m 0 c).arrAt 4 cfg0.N = arr (Cert.Conv.dw (m ((c : Thread nD τ).loc main_arg0)) (m ((c : Thread nD τ).loc main_arg1)) (m ((c : Thread nD τ).loc main_arg2))) := by
  refine (dats m 0 c).arrAt_eq_of_covers 4 _ (by decide +kernel) fun t hf y => ?_
  blk_simp
  rw [after0_4, odd_dw m c t ((flush0_4 t).mp hf) y]
  have ho := (flush0_4 t).mp hf
  have e0 : ((win0_4.blk t).view.emb y 0).1 = (y 0).1 := by blk_simp [idx t]
  have e1 : ((win0_4.blk t).view.emb y 1).1 = t.val / 2 * 256 + (y 1).1 := by blk_simp [idx t]
  have eC : ∀ t' : Fin cfg0.N, t'.1 / 2 = t.1 / 2 → col t' (y 1) = (win0_4.blk t).view.emb y 1 := fun t' h => Fin.ext (by rw [e1]; simp only [col]; omega)
  have eR : ∀ (t' : Fin cfg0.N) (b : Fin 2) (l : Fin 2048), t'.1 % 2 = b.1 → row t' l = ⟨2048 * b.1 + l.1, by omega⟩ :=
    fun t' b l h => Fin.ext (by simp only [row]; omega)
  refine Eq.trans ?_ (Fin.sum_univ_two (M := EReal) _).symm
  refine congrArg₂ _ (Finset.sum_congr rfl fun l _ => ?_) (Finset.sum_congr rfl fun l _ => ?_)
  · rw [eR _ 0 l (by dsimp only; omega), eC _ (by dsimp only; omega)]
    exact congrArg _ (by rw [e0])
  · rw [eR _ 1 l ho, eC _ rfl]
    exact congrArg _ (by rw [e0])

end Cert.ConvBwdIdeal.Val

end
-- ==== Proof.Conv.Pair.lean ====
/-
  The hand-written gradient of the convolution and the derivative of the plain one agree where the cotangent is finite.
-/
module

public import proofs.«01_k».proof.Defs
public import proofs.«01_k».proof.Proof.Gen.Pre_conv_ct_finite
public import proofs.«01_k».proof.Proof.Conv.Finite
public import proofs.«01_k».proof.Proof.Conv.Kernel
public import proofs.«01_k».proof.Proof.Conv.Ref

@[expose] public section

set_option maxRecDepth 16384

noncomputable section

namespace Cert.Proof

open Cert.Rows Idealize.ShloMosaic Idealize.ShloMosaic.TcCoe Idealize.SL.Sem

theorem algebraic_conv : Cert.algebraic_ConvBwdIdeal_ConvRefIdeal_pre_conv_ct_finite (hConvBwdIdeal := Cert.ConvBwdIdeal.Gen.facts)
    (hConvRefIdeal := Cert.ConvRefIdeal.Gen.facts) (hPre_conv_ct_finite := Cert.Pre_conv_ct_finite.Gen.facts) := by
  intro m g m' g' hpre hagree
  have hfin : ∀ c : Dev Cert.ConvBwdIdeal.nD, AllFinite (m ((c.tc : Thread Cert.ConvBwdIdeal.nD Cert.ConvBwdIdeal.τ).loc Cert.ConvBwdIdeal.main_arg2)) := fun c =>
    haveI := Cert.Pre_conv_ct_finite.Gen.facts
    Cert.Conv.finite_ct _ _ _ (hpre c)
  refine ⟨fun c => arr (Cert.Conv.dx (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2))),
    fun c => arr (Cert.Conv.dw (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2))),
    (θ_run _ _ _).mono (fun r h c => ?_) (Cert.ConvBwdIdeal.Value.run_blocks m g),
    (θ_run _ _ _).mono (fun r h c => ?_) (Cert.ConvRefIdeal.Val.run m' g')⟩
  · obtain ⟨h3, h4, k⟩ := h c
    exact ⟨h3.trans (Cert.ConvBwdIdeal.Val.out_dx m c), h4.trans (Cert.ConvBwdIdeal.Val.out_dw m c), k⟩
  · obtain ⟨e0, e1, e2⟩ := hagree c
    obtain ⟨h0, h1, k⟩ := h c
    simp only [e0, e1, e2] at h0 h1
    exact ⟨h0.trans (congrArg arr (Cert.Conv.dxR_eq _ _ _ (hfin c))), h1.trans (congrArg arr (Cert.Conv.dwR_eq _ _ _ (hfin c))), k⟩

end Cert.Proof

end
-- ==== Proof.GatedNorm.Kernel.lean ====
/-
  What gated_norm_bwd's three output arrays hold after the run: the specification's gradients.
-/
module

public import proofs.«01_k».proof.Proof.GatedNorm.Spec
public import proofs.«01_k».proof.Proof.Gen.GatedNormBwdIdeal.Value
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.GatedNormBwdIdeal.Val

open Cert.GatedNormBwdIdeal Cert.GatedNormBwdIdeal.Gen Cert.Rows
open Idealize.ShloMosaic Idealize.ShloMosaic.TcCoe Idealize.SL.Sem

variable (m : (ℓ : Loc nD τ sig) → Buf (Elt Ideal) ℓ)

open Cert.GatedNorm (tok4 colOf)

/-! ## The operands at the call, from the arguments -/

/-- The permuted projection keeps the columns before 3584. -/
theorem entry_p (c : Dev nD) (r : Fin 4096) (k : Fin 5760) (h : k.1 < 3584) :
    V m c main_v18 (ix2 r k) = m ((c : Thread nD τ).loc main_arg0) (tok r ⟨k.1, by omega⟩) := by
  unfold V
  after_reads_at
  simp (disch := word_cmp_side) only [hlo_ix]
  rw [if_pos h, dif_pos (by omega)]

theorem entry_o (c : Dev nD) (r : Fin 4096) (h : Fin 4) (j : Fin 128) : V m c main_v19 (ix2 r (colOf h j)) = m ((c : Thread nD τ).loc main_arg1) (tok4 r h j) := by
  have eh : (colOf h j).1 / 128 = h.1 := by dsimp only; omega
  have ej : (colOf h j).1 % 128 = j.1 := by dsimp only; omega
  unfold V
  after_reads_at
  exact congrArg₂ (fun a b => m ((c : Thread nD τ).loc main_arg1) (tok4 r a b)) (Fin.ext eh) (Fin.ext ej)

theorem entry_y (c : Dev nD) (r : Fin 4096) (k : Fin 512) : V m c main_v20 (ix2 r k) = m ((c : Thread nD τ).loc main_arg3) (tok r k) := by
  unfold V
  after_reads_at

theorem entry_w (c : Dev nD) (z : Fin 1) (q : Fin 128) : V m c main_arg2 (ix2 z q) = m ((c : Thread nD τ).loc main_arg2) (ix2 0 q) := by
  obtain rfl : z = 0 := Subsingleton.elim _ _
  unfold V
  after_reads_at

/-! ## The blocks: grid point `t` is head `t / 4` and the block `t % 4` of 1024 rows -/

theorem idx : ∀ t : Fin cfg0.N, win0_0.index t = ![t.val % 4, t.val / 4] ∧ win0_1.index t = ![t.val % 4, 24 + t.val / 4] ∧ win0_2.index t = ![t.val % 4, t.val / 4]
    ∧ win0_3.index t = ![0, 0] ∧ win0_4.index t = ![t.val % 4, t.val / 4] ∧ win0_5.index t = ![t.val % 4, t.val / 4] ∧ win0_6.index t = ![0, 0] :=
  (by decide +kernel : ∀ t : Fin grid0.N, _)

def row (t : Fin cfg0.N) (l : Fin 1024) : Fin 4096 := ⟨t.val % 4 * 1024 + l.1, by omega⟩

def head (t : Fin cfg0.N) : Fin 4 := ⟨t.val / 4, by have := t.isLt; have hN : cfg0.N = 16 := N_0; omega⟩

theorem read_o (c : Dev nD) (t : Fin cfg0.N) (l : Fin 1024) (q : Fin 128) : iblk m c 0 t (ix2 l q) = Cert.GatedNorm.rowOf (m ((c : Thread nD τ).loc main_arg1)) (row t l) (head t) q := by
  refine Eq.trans ?_ (entry_o m c (row t l) (head t) q)
  unfold row head
  blk_ext [iblk, idx t]

theorem read_p (c : Dev nD) (t : Fin cfg0.N) (l : Fin 1024) (q : Fin 128) : iblk m c 1 t (ix2 l q) = Cert.GatedNorm.gate (m ((c : Thread nD τ).loc main_arg0)) (row t l) (head t) q := by
  refine Eq.trans ?_ (entry_p m c (row t l) ⟨3072 + (colOf (head t) q).1, by have := (colOf (head t) q).2; omega⟩ (by have := (colOf (head t) q).2; dsimp only at this ⊢; omega))
  unfold row head
  blk_ext [iblk, idx t]

theorem read_y (c : Dev nD) (t : Fin cfg0.N) (l : Fin 1024) (q : Fin 128) : iblk m c 2 t (ix2 l q) = Cert.GatedNorm.ct (m ((c : Thread nD τ).loc main_arg3)) (row t l) (head t) q := by
  refine Eq.trans ?_ (entry_y m c (row t l) (colOf (head t) q))
  unfold row head
  blk_ext [iblk, idx t]

theorem read_w (c : Dev nD) (t : Fin cfg0.N) (z : Fin 1) (q : Fin 128) : iblk m c 3 t (ix2 z q) = m ((c : Thread nD τ).loc main_arg2) (ix2 0 q) := by
  refine Eq.trans ?_ (entry_w m c z q)
  blk_ext [iblk, idx t]

/-! ## The payloads, over any blocks whose elements are known -/

open Cert.RmsNorm

theorem pay7_at (x : Vec Ideal S1024x128 .f32) (l : Fin 1024) (z : Fin 1) :
    k0_pay7 (F := Ideal) x (ix2 l z) = ms 1124073472#32 fun k => x (ix2 l k) := by
  pointwise [k0_pay7, k0_pay4]
  rfl

theorem pay12_at (z : Vec Ideal S1024x128 .bf16) (y : Vec Ideal S1024x128 .f32) (l : Fin 1024) (q : Fin 128) :
    k0_pay12 (F := Ideal) z y (ix2 l q) = y (ix2 l q) * (z (ix2 l q) * Ideal.logistic (z (ix2 l q))) := by
  pointwise [k0_pay12, k0_pay11, k0_pay6, k0_pay5]

theorem pay1_at (x y : Vec Ideal S1024x128 .f32) (z : Vec Ideal S1024x128 .bf16) (w : Vec Ideal S1x128 .f32) (l : Fin 1024) (q : Fin 128)
    (X D : Fin 128 → EReal) (hx : ∀ k, x (ix2 l k) = X k) (hD : ∀ k, y (ix2 l k) * (z (ix2 l k) * Ideal.logistic (z (ix2 l k))) * w (ix2 0 k) = D k) :
    k0_pay1 (F := Ideal) (k0_pay4 x) (k0_pay9 x) (k0_pay15 z y w) (k0_pay16 x z y w) (k0_pay17 x) (ix2 l q) = dnorm 1124073472#32 X D q := by
  pointwise [k0_pay1, k0_pay17, k0_pay16, k0_pay15, k0_pay9, k0_pay8, k0_pay4, pay12_at, pay7_at]
  simp only [hx, hD]
  rfl

theorem pay13_at (x y : Vec Ideal S1024x128 .f32) (z : Vec Ideal S1024x128 .bf16) (w : Vec Ideal S1x128 .f32) (l : Fin 1024) (q : Fin 128)
    (X : Fin 128 → EReal) (Y Z W : EReal) (hx : ∀ k, x (ix2 l k) = X k) (hy : y (ix2 l q) = Y) (hz : z (ix2 l q) = Z) (hw : w (ix2 0 q) = W) :
    k0_pay2 (F := Ideal) (k0_pay13 x z y w) (ix2 l q)
      = X q * inv 1124073472#32 X * W * Y * Ideal.logistic Z + Z * (X q * inv 1124073472#32 X * W * Y) * (Ideal.logistic Z * (1 - Ideal.logistic Z)) := by
  pointwise [k0_pay2, k0_pay13, k0_pay11, k0_pay10, k0_pay8, k0_pay6, k0_pay5, k0_pay4, pay7_at]
  simp only [hx, hy, hz, hw]
  rfl

theorem pay14_at (x y : Vec Ideal S1024x128 .f32) (z : Vec Ideal S1024x128 .bf16) (o : Fin 1) (q : Fin 128)
    (X C : Fin 1024 → Fin 128 → EReal) (hx : ∀ l k, x (ix2 l k) = X l k) (hC : ∀ l k, y (ix2 l k) * (z (ix2 l k) * Ideal.logistic (z (ix2 l k))) = C l k) :
    k0_pay14 (F := Ideal) x z y (ix2 o q) = ∑ l, X l q * inv 1124073472#32 (X l) * C l q := by
  pointwise [k0_pay14, k0_pay10, k0_pay8, k0_pay4, pay12_at, pay7_at]
  simp only [hx, hC]
  rfl

theorem pay3_at (p : FVec Ideal S1x128 .f32) (v : Vec Ideal S1x128 .f32) (x : S1x128.Idx) : k0_pay3 (F := Ideal) p v x = v x + p x := by pointwise [k0_pay3]

/-! ## The output arrays -/

theorem silu_congr {y z Y Z : EReal} (hy : y = Y) (hz : z = Z) : y * (z * Ideal.logistic z) = Y * (Z * Ideal.logistic Z) := by rw [hy, hz]

theorem at_do (c : Dev nD) (t : Fin cfg0.N) (l : Fin 1024) (q : Fin 128) :
    k0_pay1 (F := Ideal) (k0_pay4 (iblk m c 0 t)) (k0_pay9 (iblk m c 0 t)) (k0_pay15 (iblk m c 1 t) (iblk m c 2 t) (iblk m c 3 t)) (k0_pay16 (iblk m c 0 t) (iblk m c 1 t) (iblk m c 2 t) (iblk m c 3 t)) (k0_pay17 (iblk m c 0 t)) (ix2 l q)
      = Cert.GatedNorm.dout (m ((c : Thread nD τ).loc main_arg0)) (m ((c : Thread nD τ).loc main_arg1)) (m ((c : Thread nD τ).loc main_arg2)) (m ((c : Thread nD τ).loc main_arg3)) (row t l) (head t) q :=
  pay1_at _ _ _ _ l q _ _ (fun k => read_o m c t l k) (fun k => congrArg₂ (fun a b : EReal => a * b) (silu_congr (read_y m c t l k) (read_p m c t l k)) (read_w m c t 0 k))

theorem at_dz (c : Dev nD) (t : Fin cfg0.N) (l : Fin 1024) (q : Fin 128) :
    k0_pay2 (F := Ideal) (k0_pay13 (iblk m c 0 t) (iblk m c 1 t) (iblk m c 2 t) (iblk m c 3 t)) (ix2 l q) = Cert.GatedNorm.dz (m ((c : Thread nD τ).loc main_arg0)) (m ((c : Thread nD τ).loc main_arg1)) (m ((c : Thread nD τ).loc main_arg2)) (m ((c : Thread nD τ).loc main_arg3)) (row t l) (head t) q :=
  pay13_at _ _ _ _ l q _ _ _ _ (fun k => read_o m c t l k) (read_y m c t l q) (read_p m c t l q) (read_w m c t 0 q)

/-- One block's part of the gain's gradient. -/
def part (c : Dev nD) (t : Fin cfg0.N) (q : Fin 128) : EReal :=
  ∑ l : Fin 1024, Cert.GatedNorm.normed (m ((c : Thread nD τ).loc main_arg1)) (row t l) (head t) q * Cert.GatedNorm.dscaled (m ((c : Thread nD τ).loc main_arg0)) (m ((c : Thread nD τ).loc main_arg3)) (row t l) (head t) q

theorem at_part (c : Dev nD) (t : Fin cfg0.N) (z : Fin 1) (q : Fin 128) : k0_pay14 (F := Ideal) (iblk m c 0 t) (iblk m c 1 t) (iblk m c 2 t) (ix2 z q) = part m c t q :=
  pay14_at _ _ _ z q (fun l => Cert.GatedNorm.rowOf (m ((c : Thread nD τ).loc main_arg1)) (row t l) (head t)) (fun l => Cert.GatedNorm.dscaled (m ((c : Thread nD τ).loc main_arg0)) (m ((c : Thread nD τ).loc main_arg3)) (row t l) (head t))
    (fun l k => read_o m c t l k) (fun l k => silu_congr (read_y m c t l k) (read_p m c t l k))

theorem at_block (f : Fin 4096 → Fin 4 → Fin 128 → EReal) (t : Fin cfg0.N) (y : S1024x128.Idx) (z : S4096x512.Idx)
    (h0 : (z 0).1 = t.val % 4 * 1024 + (y 0).1) (h1 : (z 1).1 = t.val / 4 * 128 + (y 1).1) : arr (Cert.GatedNorm.byHead f) z = f (row t (y 0)) (head t) (y 1) := by
  have hy : (y 1).1 < 128 := (y 1).isLt
  have e0 : z 0 = row t (y 0) := Fin.ext h0
  have e1 : (⟨(z 1).1 / 128, by have : (z 1).1 < 512 := (z 1).isLt; omega⟩ : Fin 4) = head t := Fin.ext (by unfold head; dsimp only; omega)
  have e2 : (⟨(z 1).1 % 128, by omega⟩ : Fin 128) = y 1 := Fin.ext (by dsimp only; omega)
  show f (z 0) ⟨(z 1).1 / 128, _⟩ ⟨(z 1).1 % 128, _⟩ = _
  rw [e0, e1, e2]

theorem ix2_eta {a b : Nat} (y : (⟨2, ![a, b]⟩ : Shape).Idx) : y = ix2 (y 0) (y 1) := funext fun i => match i with | ⟨0, _⟩ => rfl | ⟨1, _⟩ => rfl

theorem out_do (c : Dev nD) : (dats m 0 c).arrAt 4 cfg0.N = arr (Cert.GatedNorm.byHead (Cert.GatedNorm.dout (m ((c : Thread nD τ).loc main_arg0)) (m ((c : Thread nD τ).loc main_arg1)) (m ((c : Thread nD τ).loc main_arg2)) (m ((c : Thread nD τ).loc main_arg3)))) := by
  refine (dats m 0 c).arrAt_eq_of_covers 4 _ (by decide +kernel) fun t hf y => ?_
  blk_simp
  refine Eq.trans ?_ (at_block _ t y _ (?_ : _ = _) (?_ : _ = _)).symm
  rotate_left
  iterate 2 blk_simp [idx t]
  rw [after0_4]
  have hlt : t.val < 16 := lt_of_lt_of_eq t.isLt N_0
  by_cases h : t.val % 16 = 0
  · rw [outsAt0_A m c t h (by omega)]
    frame_out
    rw [ix2_eta y]
    exact at_do m c t _ _
  · rw [outsAt0_B m c t h (by omega)]
    frame_out
    rw [ix2_eta y]
    exact at_do m c t _ _

theorem out_dz (c : Dev nD) : (dats m 0 c).arrAt 5 cfg0.N = arr (Cert.GatedNorm.byHead (Cert.GatedNorm.dz (m ((c : Thread nD τ).loc main_arg0)) (m ((c : Thread nD τ).loc main_arg1)) (m ((c : Thread nD τ).loc main_arg2)) (m ((c : Thread nD τ).loc main_arg3)))) := by
  refine (dats m 0 c).arrAt_eq_of_covers 5 _ (by decide +kernel) fun t hf y => ?_
  blk_simp
  refine Eq.trans ?_ (at_block _ t y _ (?_ : _ = _) (?_ : _ = _)).symm
  rotate_left
  iterate 2 blk_simp [idx t]
  rw [after0_5]
  have hlt : t.val < 16 := lt_of_lt_of_eq t.isLt N_0
  by_cases h : t.val % 16 = 0
  · rw [outsAt0_A m c t h (by omega)]
    frame_out
    rw [ix2_eta y]
    exact at_dz m c t _ _
  · rw [outsAt0_B m c t h (by omega)]
    frame_out
    rw [ix2_eta y]
    exact at_dz m c t _ _

theorem out_dw (c : Dev nD) : (dats m 0 c).arrAt 6 cfg0.N = arr (Cert.GatedNorm.dw (m ((c : Thread nD τ).loc main_arg0)) (m ((c : Thread nD τ).loc main_arg1)) (m ((c : Thread nD τ).loc main_arg3))) := by
  have hN : cfg0.N = 16 := N_0
  refine (dats m 0 c).arrAt_eq_of_covers 6 _ (by decide +kernel) fun t hf y => ?_
  blk_simp
  rw [after0_6, Pipeline.eq_sum_fin_of_reset_step_apply_last (M := EReal) (fun n h => (outsAt0 m c n h).2.2) 16 (fun _ => 0) (fun t y => part m c t (y 1))
    (fun t h j => by rw [outsAt0_A m c t h (by have := t.isLt; have hN' : cfg0.grid.N = 16 := N_0; omega)]; frame_out; rw [ix2_eta j]; exact (at_part m c t _ _).trans (zero_add _).symm)
    (fun t h j => by rw [outsAt0_B m c t h (by omega)]; frame_out; rw [pay3_at]; exact congrArg _ ((congrArg _ (ix2_eta j)).trans (at_part m c t _ _)))
    (le_of_eq N_0) t (by have := (flush0_6 t).mp hf; have := t.isLt; have hN' : cfg0.grid.N = 16 := N_0; omega) y]
  have e : ((win0_6.blk t).view.emb y 1) = y 1 := Fin.ext (by blk_simp [idx t])
  refine (zero_add (M := EReal) _).trans (Eq.trans ?_ (congrArg (Cert.GatedNorm.dw (m ((c : Thread nD τ).loc main_arg0)) (m ((c : Thread nD τ).loc main_arg1)) (m ((c : Thread nD τ).loc main_arg3)) 0) e.symm))
  exact Fin.sum_points_lanes_fin (M := EReal) 4 (fun h r => Cert.GatedNorm.normed (m ((c : Thread nD τ).loc main_arg1)) r h (y 1) * Cert.GatedNorm.dscaled (m ((c : Thread nD τ).loc main_arg0)) (m ((c : Thread nD τ).loc main_arg3)) r h (y 1)) (by rw [hN])

end Cert.GatedNormBwdIdeal.Val

end
-- ==== Proof.GatedNorm.Pair.lean ====
/-
  gated_norm_bwd and the derivative of the reference's gated norm compute the same three gradients, on all extended reals.
-/
module

public import proofs.«01_k».proof.Defs
public import proofs.«01_k».proof.Proof.GatedNorm.Kernel
public import proofs.«01_k».proof.Proof.GatedNorm.Ref

@[expose] public section

set_option maxRecDepth 16384

noncomputable section

namespace Cert.Proof

open Cert.Rows Idealize.ShloMosaic Idealize.ShloMosaic.TcCoe Idealize.SL.Sem

theorem algebraic_gnorm : Cert.algebraic_GatedNormBwdIdeal_GatedNormRefIdeal (hGatedNormBwdIdeal := Cert.GatedNormBwdIdeal.Gen.facts) (hGatedNormRefIdeal := Cert.GatedNormRefIdeal.Gen.facts) := by
  intro m g m' g' _ hagree
  refine ⟨fun c => arr (Cert.GatedNorm.byHead (Cert.GatedNorm.dout (m ((c.tc : Thread Cert.GatedNormBwdIdeal.nD Cert.GatedNormBwdIdeal.τ).loc Cert.GatedNormBwdIdeal.main_arg0)) (m ((c.tc : Thread Cert.GatedNormBwdIdeal.nD Cert.GatedNormBwdIdeal.τ).loc Cert.GatedNormBwdIdeal.main_arg1)) (m ((c.tc : Thread Cert.GatedNormBwdIdeal.nD Cert.GatedNormBwdIdeal.τ).loc Cert.GatedNormBwdIdeal.main_arg2)) (m ((c.tc : Thread Cert.GatedNormBwdIdeal.nD Cert.GatedNormBwdIdeal.τ).loc Cert.GatedNormBwdIdeal.main_arg3)))),
    fun c => arr (Cert.GatedNorm.byHead (Cert.GatedNorm.dz (m ((c.tc : Thread Cert.GatedNormBwdIdeal.nD Cert.GatedNormBwdIdeal.τ).loc Cert.GatedNormBwdIdeal.main_arg0)) (m ((c.tc : Thread Cert.GatedNormBwdIdeal.nD Cert.GatedNormBwdIdeal.τ).loc Cert.GatedNormBwdIdeal.main_arg1)) (m ((c.tc : Thread Cert.GatedNormBwdIdeal.nD Cert.GatedNormBwdIdeal.τ).loc Cert.GatedNormBwdIdeal.main_arg2)) (m ((c.tc : Thread Cert.GatedNormBwdIdeal.nD Cert.GatedNormBwdIdeal.τ).loc Cert.GatedNormBwdIdeal.main_arg3)))),
    fun c => arr (Cert.GatedNorm.dw (m ((c.tc : Thread Cert.GatedNormBwdIdeal.nD Cert.GatedNormBwdIdeal.τ).loc Cert.GatedNormBwdIdeal.main_arg0)) (m ((c.tc : Thread Cert.GatedNormBwdIdeal.nD Cert.GatedNormBwdIdeal.τ).loc Cert.GatedNormBwdIdeal.main_arg1)) (m ((c.tc : Thread Cert.GatedNormBwdIdeal.nD Cert.GatedNormBwdIdeal.τ).loc Cert.GatedNormBwdIdeal.main_arg3))),
    (θ_run _ _ _).mono (fun r h c => ?_) (Cert.GatedNormBwdIdeal.Value.run_blocks m g),
    (θ_run _ _ _).mono (fun r h c => ?_) (Cert.GatedNormRefIdeal.Val.run m' g')⟩
  · obtain ⟨h4, h5, h6, k⟩ := h c
    exact ⟨h4.trans (Cert.GatedNormBwdIdeal.Val.out_do m c), h5.trans (Cert.GatedNormBwdIdeal.Val.out_dz m c), h6.trans (Cert.GatedNormBwdIdeal.Val.out_dw m c), k⟩
  · obtain ⟨e0, e1, e2, e3⟩ := hagree c
    obtain ⟨h0, h1, h2, k⟩ := h c
    simp only [e0, e1, e2, e3] at h0 h1 h2
    exact ⟨h0, h1, h2, k⟩

end Cert.Proof

end
-- ==== Proof.Swiglu.Kernel.lean ====
/-
  What mm_dact's output array holds after the run: the specification's gradient.
-/
module

public import proofs.«01_k».proof.Proof.Swiglu.Spec
public import proofs.«01_k».proof.Proof.Gen.SwigluBwdIdeal.Value
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.SwigluBwdIdeal.Val

open Cert.SwigluBwdIdeal Cert.SwigluBwdIdeal.Gen Cert.Rows
open Idealize.ShloMosaic Idealize.ShloMosaic.TcCoe Idealize.SL.Sem

variable (m : (ℓ : Loc nD τ sig) → Buf (Elt Ideal) ℓ)

/-! ## The operands at the call, from the arguments -/

theorem entry_gu (c : Dev nD) (r : Fin 4096) (k : Fin 5632) : V m c main_v1 (ix2 r k) = m ((c : Thread nD τ).loc main_arg0) (tok r k) := by
  unfold V
  after_reads_at

theorem entry_w (c : Dev nD) (k : Fin 2816) (j : Fin 1024) : V m c main_v3 (ix2 k j) = m ((c : Thread nD τ).loc main_arg1) (ix3 0 k j) := by
  unfold V
  after_reads_at

theorem entry_dx (c : Dev nD) (r : Fin 4096) (k : Fin 1024) : V m c main_v4 (ix2 r k) = m ((c : Thread nD τ).loc main_arg2) (tok r k) := by
  unfold V
  after_reads_at

/-! ## The blocks: grid point `t` is the block of 256 rows -/

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

def row (t : Fin cfg0.N) (l : Fin 256) : Fin 4096 :=
  ⟨256 * t.val + l.1, by have := t.isLt; have hN : cfg0.N = 16 := N_0; omega⟩

theorem read_dx (c : Dev nD) (t : Fin cfg0.N) (l : Fin 256) (q : Fin 1024) : iblk m c 0 t (ix2 l q) = m ((c : Thread nD τ).loc main_arg2) (tok (row t l) q) := by
  refine Eq.trans ?_ (entry_dx m c (row t l) q)
  unfold row
  blk_ext [iblk, idx t]

theorem read_w (c : Dev nD) (t : Fin cfg0.N) (l : Fin 2816) (q : Fin 1024) : iblk m c 1 t (ix2 l q) = m ((c : Thread nD τ).loc main_arg1) (ix3 0 l q) := by
  refine Eq.trans ?_ (entry_w m c l q)
  blk_ext [iblk, idx t]

theorem read_gu (c : Dev nD) (t : Fin cfg0.N) (l : Fin 256) (q : Fin 5632) : iblk m c 2 t (ix2 l q) = m ((c : Thread nD τ).loc main_arg0) (tok (row t l) q) := by
  refine Eq.trans ?_ (entry_gu m c (row t l) q)
  unfold row
  blk_ext [iblk, idx t]

/-! ## The payload -/

/-- The payload over any blocks, by the half its column is in. -/
theorem pay_lo (a : Vec Ideal S256x1024 .f32) (w : Vec Ideal S2816x1024 .bf16) (g : Vec Ideal S256x5632 .bf16) (l : Fin 256) (q : Fin 5632) (h : q.1 < 2816) :
    k0_pay1 (F := Ideal) a w g (ix2 l q)
      = (∑ x, a (ix2 l x) * w (ix2 ⟨q.1, h⟩ x)) * g (ix2 l ⟨2816 + q.1, by omega⟩) * Ideal.logistic (g (ix2 l ⟨q.1, q.2⟩))
        + g (ix2 l ⟨q.1, q.2⟩) * ((∑ x, a (ix2 l x) * w (ix2 ⟨q.1, h⟩ x)) * g (ix2 l ⟨2816 + q.1, by omega⟩))
          * (Ideal.logistic (g (ix2 l ⟨q.1, q.2⟩)) * (1 - Ideal.logistic (g (ix2 l ⟨q.1, q.2⟩)))) := by
  pointwise [k0_pay1]
  rw [dif_pos h, dif_pos h, zero_add]

theorem pay_hi (a : Vec Ideal S256x1024 .f32) (w : Vec Ideal S2816x1024 .bf16) (g : Vec Ideal S256x5632 .bf16) (l : Fin 256) (q : Fin 5632) (h : ¬q.1 < 2816) :
    k0_pay1 (F := Ideal) a w g (ix2 l q)
      = g (ix2 l ⟨q.1 - 2816, by omega⟩) * Ideal.logistic (g (ix2 l ⟨q.1 - 2816, by omega⟩)) * ∑ x, a (ix2 l x) * w (ix2 ⟨q.1 - 2816, by omega⟩ x) := by
  pointwise [k0_pay1]
  rw [dif_neg h, dif_neg h, add_zero]

theorem at_block (f : Fin 4096 → Fin 5632 → EReal) (t : Fin cfg0.N) (y : S256x5632.Idx) (z : S4096x5632.Idx)
    (h0 : (z 0).1 = t.val * 256 + (y 0).1) (h1 : (z 1).1 = (y 1).1) : arr f z = f (row t (y 0)) (y 1) :=
  congrArg₂ f (Fin.ext (h0.trans (by unfold row; dsimp only; omega))) (Fin.ext h1)

theorem at_pay (c : Dev nD) (t : Fin cfg0.N) (l : Fin 256) (q : Fin 5632) :
    k0_pay1 (F := Ideal) (iblk m c 0 t) (iblk m c 1 t) (iblk m c 2 t) (ix2 l q)
      = Cert.Swiglu.dgu (m ((c : Thread nD τ).loc main_arg0)) (m ((c : Thread nD τ).loc main_arg1)) (m ((c : Thread nD τ).loc main_arg2)) (row t l) q := by
  have ct : ∀ k : Fin 2816, (∑ x, (show EReal from iblk m c 0 t (ix2 l x)) * (show EReal from iblk m c 1 t (ix2 k x))) = Cert.Swiglu.ct (m ((c : Thread nD τ).loc main_arg1)) (m ((c : Thread nD τ).loc main_arg2)) (row t l) k :=
    fun k => Finset.sum_congr rfl fun x _ => congrArg₂ (fun a b : EReal => a * b) (read_dx m c t l x) (read_w m c t k x)
  unfold Cert.Swiglu.dgu
  by_cases h : q.1 < 2816
  · rw [dif_pos h]
    refine (pay_lo _ _ _ l q h).trans ?_
    unfold Cert.Swiglu.dgate Cert.Swiglu.gate Cert.Swiglu.up
    rw [ct ⟨q.1, h⟩, read_gu m c t l ⟨2816 + q.1, by omega⟩, read_gu m c t l ⟨q.1, q.2⟩]
  · rw [dif_neg h]
    refine (pay_hi _ _ _ l q h).trans ?_
    unfold Cert.Swiglu.dup Cert.Swiglu.gate
    rw [ct ⟨q.1 - 2816, by omega⟩, read_gu m c t l ⟨q.1 - 2816, by omega⟩]

theorem ix2_eta {a b : Nat} (y : (⟨2, ![a, b]⟩ : Shape).Idx) : y = ix2 (y 0) (y 1) := funext fun i => match i with | ⟨0, _⟩ => rfl | ⟨1, _⟩ => rfl

theorem out_dgu (c : Dev nD) : (dats m 0 c).arrAt 3 cfg0.N
    = arr (Cert.Swiglu.dgu (m ((c : Thread nD τ).loc main_arg0)) (m ((c : Thread nD τ).loc main_arg1)) (m ((c : Thread nD τ).loc main_arg2))) := by
  refine (dats m 0 c).arrAt_eq_of_covers 3 _ (by decide +kernel) fun t hf y => ?_
  blk_simp
  rw [after0_3]
  unfold out0_3
  frame_out
  refine Eq.trans ?_ (at_block _ t y _ (?_ : _ = _) (?_ : _ = _)).symm
  rotate_left
  iterate 2 blk_simp [idx t]
  rw [ix2_eta y]
  exact at_pay m c t _ _

end Cert.SwigluBwdIdeal.Val

end
-- ==== Proof.Swiglu.Pair.lean ====
/-
  mm_dact and the derivative of the reference's `silu(gate) * up` at the cotangent of the product after it compute the same gradient, on
  all extended reals.
-/
module

public import proofs.«01_k».proof.Defs
public import proofs.«01_k».proof.Proof.Swiglu.Kernel
public import proofs.«01_k».proof.Proof.Swiglu.Ref

@[expose] public section

set_option maxRecDepth 16384

noncomputable section

namespace Cert.Proof

open Cert.Rows Idealize.ShloMosaic Idealize.ShloMosaic.TcCoe Idealize.SL.Sem

theorem algebraic_swiglu : Cert.algebraic_SwigluBwdIdeal_SwigluRefIdeal (hSwigluBwdIdeal := Cert.SwigluBwdIdeal.Gen.facts) (hSwigluRefIdeal := Cert.SwigluRefIdeal.Gen.facts) := by
  intro m g m' g' _ hagree
  refine ⟨fun c => arr (Cert.Swiglu.dgu (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2))),
    (θ_run _ _ _).mono (fun r h c => ?_) (Cert.SwigluBwdIdeal.Value.run_blocks m g),
    (θ_run _ _ _).mono (fun r h c => ?_) (Cert.SwigluRefIdeal.Val.run m' g')⟩
  · obtain ⟨h3, k⟩ := h c
    exact ⟨h3.trans (Cert.SwigluBwdIdeal.Val.out_dgu m c), k⟩
  · obtain ⟨e0, e1, e2⟩ := hagree c
    obtain ⟨h0, k⟩ := h c
    simp only [e0, e1, e2] at h0
    exact ⟨h0, k⟩

end Cert.Proof

end
-- ==== Proof.Rms.Kernel.lean ====
/-
  What mm_dh2's two output arrays hold after the run: the specification's gradients.
-/
module

public import proofs.«01_k».proof.Proof.Rms.Spec
public import proofs.«01_k».proof.Proof.Gen.RmsBwdIdeal.Value
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.RmsBwdIdeal.Val

open Cert.RmsBwdIdeal Cert.RmsBwdIdeal.Gen Cert.Rows
open Idealize.ShloMosaic Idealize.ShloMosaic.TcCoe Idealize.SL.Sem

variable (m : (ℓ : Loc nD τ sig) → Buf (Elt Ideal) ℓ)

/-! ## The operands at the call, from the arguments -/

theorem entry_x (c : Dev nD) (r : Fin 4096) (k : Fin 1024) : V m c main_v0 (ix2 r k) = m ((c : Thread nD τ).loc main_arg0) (tok r k) := by
  unfold V
  after_reads_at

theorem entry_y (c : Dev nD) (r : Fin 4096) (k : Fin 1024) : V m c main_v1 (ix2 r k) = m ((c : Thread nD τ).loc main_arg4) (tok r k) := by
  unfold V
  after_reads_at

theorem entry_d (c : Dev nD) (r : Fin 4096) (k : Fin 5632) : V m c main_v3 (ix2 r k) = m ((c : Thread nD τ).loc main_arg3) (tok r k) := by
  unfold V
  after_reads_at

theorem entry_w (c : Dev nD) (k : Fin 5632) (q : Fin 1024) : V m c main_v6 (ix2 k q) = m ((c : Thread nD τ).loc main_arg2) (ix3 0 q k) := by
  unfold V
  after_reads_at

theorem entry_g (c : Dev nD) (z : Fin 1) (q : Fin 1024) : V m c main_arg1 (ix2 z q) = m ((c : Thread nD τ).loc main_arg1) (ix2 0 q) := by
  obtain rfl : z = 0 := Subsingleton.elim _ _
  unfold V
  after_reads_at

/-! ## The blocks: grid point `t` is the block of 256 rows -/

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] :=
  (by decide +kernel : ∀ t : Fin grid0.N, _)

def row (t : Fin cfg0.N) (l : Fin 256) : Fin 4096 :=
  ⟨256 * t.val + l.1, by have := t.isLt; have hN : cfg0.N = 16 := N_0; omega⟩

theorem read_d (c : Dev nD) (t : Fin cfg0.N) (l : Fin 256) (q : Fin 5632) : iblk m c 0 t (ix2 l q) = m ((c : Thread nD τ).loc main_arg3) (tok (row t l) q) := by
  refine Eq.trans ?_ (entry_d m c (row t l) q)
  unfold row
  blk_ext [iblk, idx t]

theorem read_w (c : Dev nD) (t : Fin cfg0.N) (l : Fin 5632) (q : Fin 1024) : iblk m c 1 t (ix2 l q) = m ((c : Thread nD τ).loc main_arg2) (ix3 0 q l) := by
  refine Eq.trans ?_ (entry_w m c l q)
  blk_ext [iblk, idx t]

theorem read_x (c : Dev nD) (t : Fin cfg0.N) (l : Fin 256) (q : Fin 1024) : iblk m c 2 t (ix2 l q) = m ((c : Thread nD τ).loc main_arg0) (tok (row t l) q) := by
  refine Eq.trans ?_ (entry_x m c (row t l) q)
  unfold row
  blk_ext [iblk, idx t]

theorem read_y (c : Dev nD) (t : Fin cfg0.N) (l : Fin 256) (q : Fin 1024) : iblk m c 3 t (ix2 l q) = m ((c : Thread nD τ).loc main_arg4) (tok (row t l) q) := by
  refine Eq.trans ?_ (entry_y m c (row t l) q)
  unfold row
  blk_ext [iblk, idx t]

theorem read_g (c : Dev nD) (t : Fin cfg0.N) (z : Fin 1) (q : Fin 1024) : iblk m c 4 t (ix2 z q) = m ((c : Thread nD τ).loc main_arg1) (ix2 0 q) := by
  refine Eq.trans ?_ (entry_g m c z q)
  blk_ext [iblk, idx t]

/-! ## The payloads, over any blocks whose elements are known -/

open Cert.RmsNorm

theorem pay3_at (d : Vec Ideal S256x5632 .bf16) (w : Vec Ideal S5632x1024 .bf16) (l : Fin 256) (q : Fin 1024) :
    k0_pay3 (F := Ideal) d w (ix2 l q) = ∑ k, d (ix2 l k) * w (ix2 k q) := by
  pointwise [k0_pay3]

theorem pay6_at (x : Vec Ideal S256x1024 .f32) (l : Fin 256) (z : Fin 1) :
    k0_pay6 (F := Ideal) x (ix2 l z) = ms 1149239296#32 fun k => x (ix2 l k) := by
  pointwise [k0_pay6, k0_pay4]
  rfl

theorem pay1_at (d : Vec Ideal S256x5632 .bf16) (w : Vec Ideal S5632x1024 .bf16) (x y : Vec Ideal S256x1024 .f32) (g : Vec Ideal S1x1024 .f32) (l : Fin 256) (q : Fin 1024)
    (X D : Fin 1024 → EReal) (Y : EReal) (hx : ∀ k, x (ix2 l k) = X k) (hD : ∀ k, (∑ j, d (ix2 l j) * w (ix2 j k)) * g (ix2 0 k) = D k) (hy : y (ix2 l q) = Y) :
    k0_pay1 (F := Ideal) (k0_pay4 x) (k0_pay5 y) (k0_pay10 d w x g) (k0_pay11 d w x g) (ix2 l q) = dnorm 1149239296#32 X D q + Y := by
  pointwise [k0_pay1, k0_pay11, k0_pay10, k0_pay9, k0_pay7, k0_pay5, k0_pay4, pay3_at, pay6_at]
  simp only [hx, hD, hy]
  rfl

theorem pay8_at (d : Vec Ideal S256x5632 .bf16) (w : Vec Ideal S5632x1024 .bf16) (x : Vec Ideal S256x1024 .f32) (z : Fin 1) (q : Fin 1024)
    (X C : Fin 256 → Fin 1024 → EReal) (hx : ∀ l k, x (ix2 l k) = X l k) (hC : ∀ l k, (∑ j, d (ix2 l j) * w (ix2 j k)) = C l k) :
    k0_pay8 (F := Ideal) d w x (ix2 z q) = ∑ l, X l q * inv 1149239296#32 (X l) * C l q := by
  pointwise [k0_pay8, k0_pay7, k0_pay4, pay3_at, pay6_at]
  simp only [hx, hC]
  rfl

theorem pay2_at (p : FVec Ideal S1x1024 .f32) (v : Vec Ideal S1x1024 .f32) (x : S1x1024.Idx) : k0_pay2 (F := Ideal) p v x = v x + p x := by pointwise [k0_pay2]

/-! ## The output arrays -/

theorem at_ct (c : Dev nD) (t : Fin cfg0.N) (l : Fin 256) (q : Fin 1024) :
    (∑ j, (show EReal from iblk m c 0 t (ix2 l j)) * (show EReal from iblk m c 1 t (ix2 j q))) = Cert.Rms.ct (m ((c : Thread nD τ).loc main_arg2)) (m ((c : Thread nD τ).loc main_arg3)) (row t l) q :=
  Finset.sum_congr rfl fun x _ => congrArg₂ (fun a b : EReal => a * b) (read_d m c t l x) (read_w m c t x q)

theorem at_dx (c : Dev nD) (t : Fin cfg0.N) (l : Fin 256) (q : Fin 1024) :
    k0_pay1 (F := Ideal) (k0_pay4 (iblk m c 2 t)) (k0_pay5 (iblk m c 3 t)) (k0_pay10 (iblk m c 0 t) (iblk m c 1 t) (iblk m c 2 t) (iblk m c 4 t)) (k0_pay11 (iblk m c 0 t) (iblk m c 1 t) (iblk m c 2 t) (iblk m c 4 t)) (ix2 l q)
      = Cert.Rms.dx (m ((c : Thread nD τ).loc main_arg0)) (m ((c : Thread nD τ).loc main_arg1)) (m ((c : Thread nD τ).loc main_arg2)) (m ((c : Thread nD τ).loc main_arg3)) (m ((c : Thread nD τ).loc main_arg4)) (row t l) q :=
  pay1_at _ _ _ _ _ l q _ _ _ (fun k => read_x m c t l k) (fun k => congrArg₂ (fun a b : EReal => a * b) (at_ct m c t l k) (read_g m c t 0 k)) (read_y m c t l q)

/-- One block's part of the gain's gradient. -/
def part (c : Dev nD) (t : Fin cfg0.N) (q : Fin 1024) : EReal :=
  ∑ l : Fin 256, Cert.Rms.dgRow (m ((c : Thread nD τ).loc main_arg0)) (m ((c : Thread nD τ).loc main_arg2)) (m ((c : Thread nD τ).loc main_arg3)) (row t l) q

theorem at_part (c : Dev nD) (t : Fin cfg0.N) (z : Fin 1) (q : Fin 1024) : k0_pay8 (F := Ideal) (iblk m c 0 t) (iblk m c 1 t) (iblk m c 2 t) (ix2 z q) = part m c t q :=
  pay8_at _ _ _ z q (fun l => Cert.Rms.rowOf (m ((c : Thread nD τ).loc main_arg0)) (row t l)) (fun l => Cert.Rms.ct (m ((c : Thread nD τ).loc main_arg2)) (m ((c : Thread nD τ).loc main_arg3)) (row t l))
    (fun l k => read_x m c t l k) (fun l k => at_ct m c t l k)

theorem at_block (f : Fin 4096 → Fin 1024 → EReal) (t : Fin cfg0.N) (y : S256x1024.Idx) (z : S4096x1024.Idx)
    (h0 : (z 0).1 = t.val * 256 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out_dx (c : Dev nD) : (dats m 0 c).arrAt 5 cfg0.N
    = arr (Cert.Rms.dx (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 5 _ (by decide +kernel) fun t hf y => ?_
  blk_simp
  refine Eq.trans ?_ (at_block _ t y _ (?_ : _ = _) (?_ : _ = _)).symm
  rotate_left
  iterate 2 blk_simp [idx t]
  rw [after0_5]
  have hN : cfg0.N = 16 := N_0
  have hlt : t.val < 16 := lt_of_lt_of_eq t.isLt hN
  by_cases h : t.val % 16 = 0
  · rw [outsAt0_A m c t h (by omega)]
    frame_out
    rw [ix2_eta y]
    exact at_dx m c t _ _
  · rw [outsAt0_B m c t h (by omega)]
    frame_out
    rw [ix2_eta y]
    exact at_dx m c t _ _

theorem out_dg (c : Dev nD) : (dats m 0 c).arrAt 6 cfg0.N
    = arr (Cert.Rms.dg (m ((c : Thread nD τ).loc main_arg0)) (m ((c : Thread nD τ).loc main_arg2)) (m ((c : Thread nD τ).loc main_arg3))) := by
  have hN : cfg0.N = 16 := N_0
  refine (dats m 0 c).arrAt_eq_of_covers 6 _ (by decide +kernel) fun t hf y => ?_
  blk_simp
  rw [after0_6, Pipeline.eq_sum_fin_of_reset_step_apply_last (M := EReal) (fun n h => (outsAt0 m c n h).2) 16 (fun _ => 0) (fun t y => part m c t (y 1))
    (fun t h j => by rw [outsAt0_A m c t h (by have := t.isLt; have hN' : cfg0.grid.N = 16 := N_0; omega)]; frame_out; rw [ix2_eta j]; exact (at_part m c t _ _).trans (zero_add _).symm)
    (fun t h j => by rw [outsAt0_B m c t h (by omega)]; frame_out; rw [pay2_at]; exact congrArg _ ((congrArg _ (ix2_eta j)).trans (at_part m c t _ _)))
    (le_of_eq N_0) t (by have := (flush0_6 t).mp hf; have := t.isLt; have hN' : cfg0.grid.N = 16 := N_0; omega) y]
  have e : ((win0_6.blk t).view.emb y 1) = y 1 := Fin.ext (by blk_simp [idx t])
  refine (zero_add (M := EReal) _).trans (Eq.trans ?_ (congrArg (Cert.Rms.dg (m ((c : Thread nD τ).loc main_arg0)) (m ((c : Thread nD τ).loc main_arg2)) (m ((c : Thread nD τ).loc main_arg3)) 0) e.symm))
  refine Fin.sum_mul_add_congr (M := EReal) (fun s k hl => ?_) (by rw [hN])
  exact congrArg (fun r => Cert.Rms.dgRow _ _ _ r (y 1)) (Fin.ext (by unfold row; dsimp only; omega))

end Cert.RmsBwdIdeal.Val

end
-- ==== Proof.Rms.Pair.lean ====
/-
  mm_dh2 with its norm's gradient and the derivative of the reference's norm, residual and product compute the same two gradients, on all
  extended reals.
-/
module

public import proofs.«01_k».proof.Defs
public import proofs.«01_k».proof.Proof.Rms.Kernel
public import proofs.«01_k».proof.Proof.Rms.Ref

@[expose] public section

set_option maxRecDepth 16384

noncomputable section

namespace Cert.Proof

open Cert.Rows Idealize.ShloMosaic Idealize.ShloMosaic.TcCoe Idealize.SL.Sem

theorem algebraic_rms : Cert.algebraic_RmsBwdIdeal_RmsRefIdeal (hRmsBwdIdeal := Cert.RmsBwdIdeal.Gen.facts) (hRmsRefIdeal := Cert.RmsRefIdeal.Gen.facts) := by
  intro m g m' g' _ hagree
  refine ⟨fun c => arr (Cert.Rms.dx (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3)) (m ((c.tc : Thread Cert.RmsBwdIdeal.nD Cert.RmsBwdIdeal.τ).loc Cert.RmsBwdIdeal.main_arg4))),
    fun c => arr (Cert.Rms.dg (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))),
    (θ_run _ _ _).mono (fun r h c => ?_) (Cert.RmsBwdIdeal.Value.run_blocks m g),
    (θ_run _ _ _).mono (fun r h c => ?_) (Cert.RmsRefIdeal.Val.run m' g')⟩
  · obtain ⟨h5, h6, k⟩ := h c
    exact ⟨h5.trans (Cert.RmsBwdIdeal.Val.out_dx m c), h6.trans (Cert.RmsBwdIdeal.Val.out_dg m c), k⟩
  · obtain ⟨e0, e1, e2, e3, e4⟩ := hagree c
    obtain ⟨h0, h1, k⟩ := h c
    simp only [e0, e1, e2, e3, e4] at h0 h1
    exact ⟨h0, h1, k⟩

end Cert.Proof

end
-- ==== Proof.Head.Kernel.lean ====
/-
  What mm_ple_gate_loss's five output arrays hold after the run: the specification's gradients and the loss.
-/
module

public import proofs.«01_k».proof.Proof.Head.Spec
public import proofs.«01_k».proof.Proof.Gen.HeadLossIdeal.Value
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.HeadLossIdeal.Val

open Cert.HeadLossIdeal Cert.HeadLossIdeal.Gen Cert.Rows
open Idealize.ShloMosaic Idealize.ShloMosaic.TcCoe Idealize.SL.Sem

variable (m : (ℓ : Loc nD τ sig) → Buf (Elt Ideal) ℓ)

/-- The operands, from the launch's memory. -/
def args (c : Dev nD) : Cert.Head.Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5)⟩

/-! ## The operands at the call, from the arguments -/

theorem entry_h (c : Dev nD) (r : Fin 4096) (k : Fin 1024) : V m c main_v4 (ix2 r k) = m ((c : Thread nD τ).loc main_arg1) (tok r k) := by
  unfold V
  after_reads_at

theorem entry_w (c : Dev nD) (k q : Fin 1024) : V m c main_v7 (ix2 k q) = m ((c : Thread nD τ).loc main_arg2) (ix3 0 k q) := by
  unfold V
  after_reads_at

theorem entry_x (c : Dev nD) (r : Fin 4096) (k : Fin 1024) : V m c main_v0 (ix2 r k) = m ((c : Thread nD τ).loc main_arg0) (tok r k) := by
  unfold V
  after_reads_at

theorem entry_p (c : Dev nD) (r : Fin 4096) (k : Fin 1024) : V m c main_v2 (ix2 r k) = m ((c : Thread nD τ).loc main_arg3) (tok r k) := by
  unfold V
  after_reads_at

theorem entry_t (c : Dev nD) (r : Fin 4096) (k : Fin 1024) : V m c main_v1 (ix2 r k) = m ((c : Thread nD τ).loc main_arg5) (tok r k) := by
  unfold V
  after_reads_at

theorem entry_g (c : Dev nD) (z : Fin 1) (q : Fin 1024) : V m c main_v5 (ix2 z q) = m ((c : Thread nD τ).loc main_arg4) (ix1 q) := by
  obtain rfl : z = 0 := Subsingleton.elim _ _
  unfold V
  after_reads_at

/-! ## The blocks: grid point `t` is the block of 256 rows -/

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![t.val, 0] ∧ win0_7.index t = ![t.val, 0] ∧ win0_8.index t = ![t.val, 0]
    ∧ win0_9.index t = ![0, 0] ∧ win0_10.index t = ![0, 0] :=
  (by decide +kernel : ∀ t : Fin grid0.N, _)

def row (t : Fin cfg0.N) (l : Fin 256) : Fin 4096 :=
  ⟨256 * t.val + l.1, by have := t.isLt; have hN : cfg0.N = 16 := N_0; omega⟩

theorem read_h (c : Dev nD) (t : Fin cfg0.N) (l : Fin 256) (q : Fin 1024) : iblk m c 0 t (ix2 l q) = m ((c : Thread nD τ).loc main_arg1) (tok (row t l) q) := by
  refine Eq.trans ?_ (entry_h m c (row t l) q)
  unfold row
  blk_ext [iblk, idx t]

theorem read_w (c : Dev nD) (t : Fin cfg0.N) (l q : Fin 1024) : iblk m c 1 t (ix2 l q) = m ((c : Thread nD τ).loc main_arg2) (ix3 0 l q) := by
  refine Eq.trans ?_ (entry_w m c l q)
  blk_ext [iblk, idx t]

theorem read_x (c : Dev nD) (t : Fin cfg0.N) (l : Fin 256) (q : Fin 1024) : iblk m c 2 t (ix2 l q) = m ((c : Thread nD τ).loc main_arg0) (tok (row t l) q) := by
  refine Eq.trans ?_ (entry_x m c (row t l) q)
  unfold row
  blk_ext [iblk, idx t]

theorem read_p (c : Dev nD) (t : Fin cfg0.N) (l : Fin 256) (q : Fin 1024) : iblk m c 3 t (ix2 l q) = m ((c : Thread nD τ).loc main_arg3) (tok (row t l) q) := by
  refine Eq.trans ?_ (entry_p m c (row t l) q)
  unfold row
  blk_ext [iblk, idx t]

theorem read_t (c : Dev nD) (t : Fin cfg0.N) (l : Fin 256) (q : Fin 1024) : iblk m c 4 t (ix2 l q) = m ((c : Thread nD τ).loc main_arg5) (tok (row t l) q) := by
  refine Eq.trans ?_ (entry_t m c (row t l) q)
  unfold row
  blk_ext [iblk, idx t]

theorem read_g (c : Dev nD) (t : Fin cfg0.N) (z : Fin 1) (q : Fin 1024) : iblk m c 5 t (ix2 z q) = m ((c : Thread nD τ).loc main_arg4) (ix1 q) := by
  refine Eq.trans ?_ (entry_g m c z q)
  blk_ext [iblk, idx t]

/-! ## The payloads, over any blocks whose elements are known -/

open Cert.RmsNorm

/-- A block's six operands hold the 256 rows `R` of the arrays `a`. -/
structure Holds (a : Cert.Head.Args) (R : Fin 256 → Fin 4096) (h : Vec Ideal S256x1024 .bf16) (w : Vec Ideal S1024x1024 .bf16) (x p t : Vec Ideal S256x1024 .f32)
    (g : Vec Ideal S1x1024 .f32) : Prop where
  h : ∀ l k, h (ix2 l k) = a.h (tok (R l) k)
  w : ∀ k q, w (ix2 k q) = a.w (ix3 0 k q)
  x : ∀ l k, x (ix2 l k) = a.x (tok (R l) k)
  p : ∀ l k, p (ix2 l k) = a.p (tok (R l) k)
  t : ∀ l k, t (ix2 l k) = a.t (tok (R l) k)
  g : ∀ q, g (ix2 0 q) = a.g (ix1 q)

section
variable {a : Cert.Head.Args} {R : Fin 256 → Fin 4096} {h : Vec Ideal S256x1024 .bf16} {w : Vec Ideal S1024x1024 .bf16} {x p t : Vec Ideal S256x1024 .f32}
  {g : Vec Ideal S1x1024 .f32} (H : Holds a R h w x p t g)
include H

theorem pay5_at (l : Fin 256) (q : Fin 1024) : k0_pay5 (F := Ideal) h w (ix2 l q) = Cert.Head.gate a (R l) q := by
  pointwise [k0_pay5]
  simp only [H.h, H.w]
  rfl

theorem pay7_at (l : Fin 256) (q : Fin 1024) : k0_pay7 (F := Ideal) h w x p (ix2 l q) = Cert.Head.res a (R l) q := by
  pointwise [k0_pay7, k0_pay3, pay5_at H]
  simp only [H.x, H.p]
  rfl

theorem pay8_at (l : Fin 256) (z : Fin 1) : k0_pay8 (F := Ideal) h w x p (ix2 l z) = ms 1149239296#32 (Cert.Head.res a (R l)) := by
  pointwise [k0_pay8, pay7_at H]
  rfl

theorem pay12_at (l : Fin 256) (q : Fin 1024) : k0_pay12 (F := Ideal) h w x p t g (ix2 l q) = Cert.Head.err a (R l) q := by
  pointwise [k0_pay12, k0_pay11, k0_pay9, k0_pay4, pay7_at H, pay8_at H]
  simp only [H.t, H.g]
  rfl

theorem pay14_at (l : Fin 256) (q : Fin 1024) : k0_pay14 (F := Ideal) (k0_pay12 h w x p t g) (ix2 l q) = Cert.Head.ct a (R l) q := by
  pointwise [k0_pay14, pay12_at H]
  rfl

theorem pay15_at (z : Fin 1) (q : Fin 1024) : k0_pay15 (F := Ideal) (k0_pay11 h w x p) (k0_pay12 h w x p t g) (ix2 z q) = ∑ l, Cert.Head.dgRow a (R l) q := by
  pointwise [k0_pay15, pay14_at H, k0_pay11, k0_pay9, pay7_at H, pay8_at H]
  rfl

theorem pay16_at (l : Fin 256) (q : Fin 1024) : k0_pay16 (F := Ideal) (k0_pay4 g) (k0_pay7 h w x p) (k0_pay9 h w x p) (k0_pay10 h w x p) (k0_pay12 h w x p t g) (ix2 l q) = Cert.Head.dx a (R l) q := by
  pointwise [k0_pay16, pay14_at H, k0_pay10, k0_pay9, k0_pay4, pay7_at H, pay8_at H]
  simp only [H.g]
  rfl

theorem pay17_at (z : Fin 1) (q : Fin 1024) : k0_pay17 (F := Ideal) (k0_pay13 h w x p t g) (Scalar.ofBits .f32 0x44800000#32) (ix2 z q)
    = Ideal.ofBits .f32 1056964608#32 * ∑ l, Cert.Head.lossRow a (R l) := by
  pointwise [k0_pay17, k0_pay13, pay12_at H]
  rfl

theorem pay18_at (l : Fin 256) (q : Fin 1024) : k0_pay18 (F := Ideal) (k0_pay3 p) (k0_pay4 g) (k0_pay6 h w) (k0_pay7 h w x p) (k0_pay9 h w x p) (k0_pay10 h w x p) (k0_pay12 h w x p t g) (ix2 l q) = Cert.Head.dgate a (R l) q := by
  pointwise [k0_pay18, pay16_at H, k0_pay6, k0_pay3, pay5_at H]
  simp only [H.p]
  rfl

theorem pay19_at (l : Fin 256) (q : Fin 1024) : k0_pay19 (F := Ideal) (k0_pay4 g) (k0_pay5 h w) (k0_pay7 h w x p) (k0_pay9 h w x p) (k0_pay10 h w x p) (k0_pay12 h w x p t g) (ix2 l q) = Cert.Head.demb a (R l) q := by
  pointwise [k0_pay19, pay16_at H, pay5_at H]
  rfl

end

theorem pay1_at (p : FVec Ideal S1x1024 .f32) (v : Vec Ideal S1x1024 .f32) (x : S1x1024.Idx) : k0_pay1 (F := Ideal) p v x = v x + p x := by pointwise [k0_pay1]

theorem pay2_at (p : FVec Ideal S1x1024 .f32) (v : Vec Ideal S1x1024 .f32) (x : S1x1024.Idx) : k0_pay2 (F := Ideal) p v x = v x + p x := by pointwise [k0_pay2]

/-! ## The output arrays -/

theorem holds (c : Dev nD) (t : Fin cfg0.N) : Holds (args m c) (row t) (iblk m c 0 t) (iblk m c 1 t) (iblk m c 2 t) (iblk m c 3 t) (iblk m c 4 t) (iblk m c 5 t) where
  h := read_h m c t
  w := read_w m c t
  x := read_x m c t
  p := read_p m c t
  t := read_t m c t
  g := read_g m c t 0

theorem at_block (f : Fin 4096 → Fin 1024 → EReal) (t : Fin cfg0.N) (y : S256x1024.Idx) (z : S4096x1024.Idx)
    (h0 : (z 0).1 = t.val * 256 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out_dx (c : Dev nD) : (dats m 0 c).arrAt 6 cfg0.N = arr (Cert.Head.dx (args m c)) := by
  refine (dats m 0 c).arrAt_eq_of_covers 6 _ (by decide +kernel) fun t hf y => ?_
  blk_simp
  refine Eq.trans ?_ (at_block _ t y _ (?_ : _ = _) (?_ : _ = _)).symm
  rotate_left
  iterate 2 blk_simp [idx t]
  rw [after0_6]
  have hlt : t.val < 16 := lt_of_lt_of_eq t.isLt N_0
  by_cases h : t.val % 16 = 0
  · rw [outsAt0_A m c t h (by omega) h (by omega)]
    frame_out
    rw [ix2_eta y]
    exact pay16_at (holds m c t) _ _
  · rw [outsAt0_B m c t h (by omega) h (by omega)]
    frame_out
    rw [ix2_eta y]
    exact pay16_at (holds m c t) _ _

theorem out_dgate (c : Dev nD) : (dats m 0 c).arrAt 7 cfg0.N = arr (Cert.Head.dgate (args m c)) := by
  refine (dats m 0 c).arrAt_eq_of_covers 7 _ (by decide +kernel) fun t hf y => ?_
  blk_simp
  refine Eq.trans ?_ (at_block _ t y _ (?_ : _ = _) (?_ : _ = _)).symm
  rotate_left
  iterate 2 blk_simp [idx t]
  rw [after0_7]
  have hlt : t.val < 16 := lt_of_lt_of_eq t.isLt N_0
  by_cases h : t.val % 16 = 0
  · rw [outsAt0_A m c t h (by omega) h (by omega)]
    frame_out
    rw [ix2_eta y]
    exact pay18_at (holds m c t) _ _
  · rw [outsAt0_B m c t h (by omega) h (by omega)]
    frame_out
    rw [ix2_eta y]
    exact pay18_at (holds m c t) _ _

theorem out_demb (c : Dev nD) : (dats m 0 c).arrAt 8 cfg0.N = arr (Cert.Head.demb (args m c)) := by
  refine (dats m 0 c).arrAt_eq_of_covers 8 _ (by decide +kernel) fun t hf y => ?_
  blk_simp
  refine Eq.trans ?_ (at_block _ t y _ (?_ : _ = _) (?_ : _ = _)).symm
  rotate_left
  iterate 2 blk_simp [idx t]
  rw [after0_8]
  have hlt : t.val < 16 := lt_of_lt_of_eq t.isLt N_0
  by_cases h : t.val % 16 = 0
  · rw [outsAt0_A m c t h (by omega) h (by omega)]
    frame_out
    rw [ix2_eta y]
    exact pay19_at (holds m c t) _ _
  · rw [outsAt0_B m c t h (by omega) h (by omega)]
    frame_out
    rw [ix2_eta y]
    exact pay19_at (holds m c t) _ _

theorem out_dg (c : Dev nD) : (dats m 0 c).arrAt 9 cfg0.N = arr (Cert.Head.dg (args m c)) := by
  have hN : cfg0.N = 16 := N_0
  refine (dats m 0 c).arrAt_eq_of_covers 9 _ (by decide +kernel) fun t hf y => ?_
  blk_simp
  rw [after0_9, Pipeline.eq_sum_fin_of_reset_step_apply_last (M := EReal) (fun n h => (outsAt0 m c n h).2.2.2.1) 16 (fun _ => 0) (fun t y => ∑ l, Cert.Head.dgRow (args m c) (row t l) (y 1))
    (fun t h j => by rw [outsAt0_A m c t h (by have := t.isLt; have hN' : cfg0.grid.N = 16 := N_0; omega) h (by have := t.isLt; have hN' : cfg0.grid.N = 16 := N_0; omega)]; frame_out; rw [ix2_eta j]; exact (pay15_at (holds m c t) _ _).trans (zero_add _).symm)
    (fun t h j => by rw [outsAt0_B m c t h (by omega) h (by omega)]; frame_out; rw [pay1_at]; exact congrArg _ ((congrArg _ (ix2_eta j)).trans (pay15_at (holds m c t) _ _)))
    (le_of_eq N_0) t (by have := (flush0_9 t).mp hf; have := t.isLt; have hN' : cfg0.grid.N = 16 := N_0; omega) y]
  have e : ((win0_9.blk t).view.emb y 1) = y 1 := Fin.ext (by blk_simp [idx t])
  refine (zero_add (M := EReal) _).trans (Eq.trans ?_ (congrArg (Cert.Head.dg (args m c) 0) e.symm))
  refine Fin.sum_mul_add_congr (M := EReal) (fun s k hl => ?_) (by rw [hN])
  exact congrArg (fun r => Cert.Head.dgRow _ r (y 1)) (Fin.ext (by unfold row; dsimp only; omega))

theorem out_loss (c : Dev nD) : (dats m 0 c).arrAt 10 cfg0.N = arr (Cert.Head.loss (args m c)) := by
  have hN : cfg0.N = 16 := N_0
  refine (dats m 0 c).arrAt_eq_of_covers 10 _ (by decide +kernel) fun t hf y => ?_
  blk_simp
  rw [after0_10, Pipeline.eq_sum_fin_of_reset_step_apply_last (M := EReal) (fun n h => (outsAt0 m c n h).2.2.2.2) 16 (fun _ => 0) (fun t y => Ideal.ofBits .f32 1056964608#32 * ∑ l, Cert.Head.lossRow (args m c) (row t l))
    (fun t h j => by rw [outsAt0_A m c t h (by have := t.isLt; have hN' : cfg0.grid.N = 16 := N_0; omega) h (by have := t.isLt; have hN' : cfg0.grid.N = 16 := N_0; omega)]; frame_out; rw [ix2_eta j]; exact (pay17_at (holds m c t) _ _).trans (zero_add _).symm)
    (fun t h j => by rw [outsAt0_B m c t h (by omega) h (by omega)]; frame_out; rw [pay2_at]; exact congrArg _ ((congrArg _ (ix2_eta j)).trans (pay17_at (holds m c t) _ _)))
    (le_of_eq N_0) t (by have := (flush0_10 t).mp hf; have := t.isLt; have hN' : cfg0.grid.N = 16 := N_0; omega) y]
  refine (zero_add (M := EReal) _).trans ((Cert.Head.half_mul_sum _ _).trans (congrArg (fun v : EReal => Ideal.ofBits .f32 1056964608#32 * v) ?_))
  refine Fin.sum_mul_add_congr (M := EReal) (fun s k hl => ?_) (by rw [hN])
  exact congrArg (fun r => Cert.Head.lossRow _ r) (Fin.ext (by unfold row; dsimp only; omega))

end Cert.HeadLossIdeal.Val

end
-- ==== Proof.Head.Pair.lean ====
/-
  mm_ple_gate_loss and the reference's loss with its derivative compute the same loss and the same four gradients, on all extended reals.
-/
module

public import proofs.«01_k».proof.Defs
public import proofs.«01_k».proof.Proof.Head.Kernel
public import proofs.«01_k».proof.Proof.Head.Ref

@[expose] public section

set_option maxRecDepth 16384

noncomputable section

namespace Cert.Proof

open Cert.Rows Idealize.ShloMosaic Idealize.ShloMosaic.TcCoe Idealize.SL.Sem

theorem algebraic_head : Cert.algebraic_HeadLossIdeal_HeadRefIdeal (hHeadLossIdeal := Cert.HeadLossIdeal.Gen.facts) (hHeadRefIdeal := Cert.HeadRefIdeal.Gen.facts) := by
  intro m g m' g' _ hagree
  refine ⟨fun c => arr (Cert.Head.dx (Cert.HeadLossIdeal.Val.args m c)),
    fun c => arr (Cert.Head.dgate (Cert.HeadLossIdeal.Val.args m c)),
    fun c => arr (Cert.Head.demb (Cert.HeadLossIdeal.Val.args m c)),
    fun c => arr (Cert.Head.dg (Cert.HeadLossIdeal.Val.args m c)),
    fun c => arr (Cert.Head.loss (Cert.HeadLossIdeal.Val.args m c)),
    (θ_run _ _ _).mono (fun r h c => ?_) (Cert.HeadLossIdeal.Value.run_blocks m g),
    (θ_run _ _ _).mono (fun r h c => ?_) (Cert.HeadRefIdeal.Val.run m' g')⟩
  · obtain ⟨h6, h7, h8, h9, h10, k⟩ := h c
    exact ⟨h6.trans (Cert.HeadLossIdeal.Val.out_dx m c), h7.trans (Cert.HeadLossIdeal.Val.out_dgate m c), h8.trans (Cert.HeadLossIdeal.Val.out_demb m c),
      h9.trans (Cert.HeadLossIdeal.Val.out_dg m c), h10.trans (Cert.HeadLossIdeal.Val.out_loss m c), k⟩
  · obtain ⟨e0, e1, e2, e3, e4, e5⟩ := hagree c
    obtain ⟨h0, h1, h2, h3, h4, k⟩ := h c
    simp only [e0, e1, e2, e3, e4, e5] at h0 h1 h2 h3 h4
    exact ⟨h0, h1, h2, h3, h4, k⟩

end Cert.Proof

end
-- ==== Proof.Ple.Kernel.lean ====
/-
  What mm_dh3's two output arrays hold after the run: the specification's gradients.
-/
module

public import proofs.«01_k».proof.Proof.Rms.Spec
public import proofs.«01_k».proof.Proof.Gen.PleBwdIdeal.Value
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.PleBwdIdeal.Val

open Cert.PleBwdIdeal Cert.PleBwdIdeal.Gen Cert.Rows
open Idealize.ShloMosaic Idealize.ShloMosaic.TcCoe Idealize.SL.Sem

variable (m : (ℓ : Loc nD τ sig) → Buf (Elt Ideal) ℓ)

/-! ## The operands at the call, from the arguments -/

theorem entry_x (c : Dev nD) (r : Fin 4096) (k : Fin 1024) : V m c main_v0 (ix2 r k) = m ((c : Thread nD τ).loc main_arg0) (tok r k) := by
  unfold V
  after_reads_at

theorem entry_y (c : Dev nD) (r : Fin 4096) (k : Fin 1024) : V m c main_v1 (ix2 r k) = m ((c : Thread nD τ).loc main_arg4) (tok r k) := by
  unfold V
  after_reads_at

theorem entry_d (c : Dev nD) (r : Fin 4096) (k : Fin 1024) : V m c main_v3 (ix2 r k) = m ((c : Thread nD τ).loc main_arg3) (tok r k) := by
  unfold V
  after_reads_at

theorem entry_w (c : Dev nD) (k : Fin 1024) (q : Fin 1024) : V m c main_v5 (ix2 q k) = m ((c : Thread nD τ).loc main_arg2) (ix3 0 q k) := by
  unfold V
  after_reads_at

theorem entry_g (c : Dev nD) (z : Fin 1) (q : Fin 1024) : V m c main_arg1 (ix2 z q) = m ((c : Thread nD τ).loc main_arg1) (ix2 0 q) := by
  obtain rfl : z = 0 := Subsingleton.elim _ _
  unfold V
  after_reads_at

/-! ## The blocks: grid point `t` is the block of 512 rows -/

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] :=
  (by decide +kernel : ∀ t : Fin grid0.N, _)

def row (t : Fin cfg0.N) (l : Fin 512) : Fin 4096 :=
  ⟨512 * t.val + l.1, by have := t.isLt; have hN : cfg0.N = 8 := N_0; omega⟩

theorem read_d (c : Dev nD) (t : Fin cfg0.N) (l : Fin 512) (q : Fin 1024) : iblk m c 0 t (ix2 l q) = m ((c : Thread nD τ).loc main_arg3) (tok (row t l) q) := by
  refine Eq.trans ?_ (entry_d m c (row t l) q)
  unfold row
  blk_ext [iblk, idx t]

theorem read_w (c : Dev nD) (t : Fin cfg0.N) (l : Fin 1024) (q : Fin 1024) : iblk m c 1 t (ix2 q l) = m ((c : Thread nD τ).loc main_arg2) (ix3 0 q l) := by
  refine Eq.trans ?_ (entry_w m c l q)
  blk_ext [iblk, idx t]

theorem read_x (c : Dev nD) (t : Fin cfg0.N) (l : Fin 512) (q : Fin 1024) : iblk m c 2 t (ix2 l q) = m ((c : Thread nD τ).loc main_arg0) (tok (row t l) q) := by
  refine Eq.trans ?_ (entry_x m c (row t l) q)
  unfold row
  blk_ext [iblk, idx t]

theorem read_y (c : Dev nD) (t : Fin cfg0.N) (l : Fin 512) (q : Fin 1024) : iblk m c 3 t (ix2 l q) = m ((c : Thread nD τ).loc main_arg4) (tok (row t l) q) := by
  refine Eq.trans ?_ (entry_y m c (row t l) q)
  unfold row
  blk_ext [iblk, idx t]

theorem read_g (c : Dev nD) (t : Fin cfg0.N) (z : Fin 1) (q : Fin 1024) : iblk m c 4 t (ix2 z q) = m ((c : Thread nD τ).loc main_arg1) (ix2 0 q) := by
  refine Eq.trans ?_ (entry_g m c z q)
  blk_ext [iblk, idx t]

/-! ## The payloads, over any blocks whose elements are known -/

open Cert.RmsNorm

theorem pay3_at (d : Vec Ideal S512x1024 .bf16) (w : Vec Ideal S1024x1024 .bf16) (l : Fin 512) (q : Fin 1024) :
    k0_pay3 (F := Ideal) d w (ix2 l q) = ∑ k, d (ix2 l k) * w (ix2 q k) := by
  pointwise [k0_pay3]

theorem pay6_at (x : Vec Ideal S512x1024 .f32) (l : Fin 512) (z : Fin 1) :
    k0_pay6 (F := Ideal) x (ix2 l z) = ms 1149239296#32 fun k => x (ix2 l k) := by
  pointwise [k0_pay6, k0_pay4]
  rfl

theorem pay1_at (d : Vec Ideal S512x1024 .bf16) (w : Vec Ideal S1024x1024 .bf16) (x y : Vec Ideal S512x1024 .f32) (g : Vec Ideal S1x1024 .f32) (l : Fin 512) (q : Fin 1024)
    (X D : Fin 1024 → EReal) (Y : EReal) (hx : ∀ k, x (ix2 l k) = X k) (hD : ∀ k, (∑ j, d (ix2 l j) * w (ix2 k j)) * g (ix2 0 k) = D k) (hy : y (ix2 l q) = Y) :
    k0_pay1 (F := Ideal) (k0_pay4 x) (k0_pay5 y) (k0_pay10 d w x g) (k0_pay11 d w x g) (ix2 l q) = dnorm 1149239296#32 X D q + Y := by
  pointwise [k0_pay1, k0_pay11, k0_pay10, k0_pay9, k0_pay7, k0_pay5, k0_pay4, pay3_at, pay6_at]
  simp only [hx, hD, hy]
  rfl

theorem pay8_at (d : Vec Ideal S512x1024 .bf16) (w : Vec Ideal S1024x1024 .bf16) (x : Vec Ideal S512x1024 .f32) (z : Fin 1) (q : Fin 1024)
    (X C : Fin 512 → Fin 1024 → EReal) (hx : ∀ l k, x (ix2 l k) = X l k) (hC : ∀ l k, (∑ j, d (ix2 l j) * w (ix2 k j)) = C l k) :
    k0_pay8 (F := Ideal) d w x (ix2 z q) = ∑ l, X l q * inv 1149239296#32 (X l) * C l q := by
  pointwise [k0_pay8, k0_pay7, k0_pay4, pay3_at, pay6_at]
  simp only [hx, hC]
  rfl

theorem pay2_at (p : FVec Ideal S1x1024 .f32) (v : Vec Ideal S1x1024 .f32) (x : S1x1024.Idx) : k0_pay2 (F := Ideal) p v x = v x + p x := by pointwise [k0_pay2]

/-! ## The output arrays -/

theorem at_ct (c : Dev nD) (t : Fin cfg0.N) (l : Fin 512) (q : Fin 1024) :
    (∑ j, (show EReal from iblk m c 0 t (ix2 l j)) * (show EReal from iblk m c 1 t (ix2 q j))) = Cert.Rms.ct (m ((c : Thread nD τ).loc main_arg2)) (m ((c : Thread nD τ).loc main_arg3)) (row t l) q :=
  Finset.sum_congr rfl fun x _ => congrArg₂ (fun a b : EReal => a * b) (read_d m c t l x) (read_w m c t x q)

theorem at_dx (c : Dev nD) (t : Fin cfg0.N) (l : Fin 512) (q : Fin 1024) :
    k0_pay1 (F := Ideal) (k0_pay4 (iblk m c 2 t)) (k0_pay5 (iblk m c 3 t)) (k0_pay10 (iblk m c 0 t) (iblk m c 1 t) (iblk m c 2 t) (iblk m c 4 t)) (k0_pay11 (iblk m c 0 t) (iblk m c 1 t) (iblk m c 2 t) (iblk m c 4 t)) (ix2 l q)
      = Cert.Rms.dx (m ((c : Thread nD τ).loc main_arg0)) (m ((c : Thread nD τ).loc main_arg1)) (m ((c : Thread nD τ).loc main_arg2)) (m ((c : Thread nD τ).loc main_arg3)) (m ((c : Thread nD τ).loc main_arg4)) (row t l) q :=
  pay1_at _ _ _ _ _ l q _ _ _ (fun k => read_x m c t l k) (fun k => congrArg₂ (fun a b : EReal => a * b) (at_ct m c t l k) (read_g m c t 0 k)) (read_y m c t l q)

/-- One block's part of the gain's gradient. -/
def part (c : Dev nD) (t : Fin cfg0.N) (q : Fin 1024) : EReal :=
  ∑ l : Fin 512, Cert.Rms.dgRow (m ((c : Thread nD τ).loc main_arg0)) (m ((c : Thread nD τ).loc main_arg2)) (m ((c : Thread nD τ).loc main_arg3)) (row t l) q

theorem at_part (c : Dev nD) (t : Fin cfg0.N) (z : Fin 1) (q : Fin 1024) : k0_pay8 (F := Ideal) (iblk m c 0 t) (iblk m c 1 t) (iblk m c 2 t) (ix2 z q) = part m c t q :=
  pay8_at _ _ _ z q (fun l => Cert.Rms.rowOf (m ((c : Thread nD τ).loc main_arg0)) (row t l)) (fun l => Cert.Rms.ct (m ((c : Thread nD τ).loc main_arg2)) (m ((c : Thread nD τ).loc main_arg3)) (row t l))
    (fun l k => read_x m c t l k) (fun l k => at_ct m c t l k)

theorem at_block (f : Fin 4096 → Fin 1024 → EReal) (t : Fin cfg0.N) (y : S512x1024.Idx) (z : S4096x1024.Idx)
    (h0 : (z 0).1 = t.val * 512 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out_dx (c : Dev nD) : (dats m 0 c).arrAt 5 cfg0.N
    = arr (Cert.Rms.dx (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 5 _ (by decide +kernel) fun t hf y => ?_
  blk_simp
  refine Eq.trans ?_ (at_block _ t y _ (?_ : _ = _) (?_ : _ = _)).symm
  rotate_left
  iterate 2 blk_simp [idx t]
  rw [after0_5]
  have hN : cfg0.N = 8 := N_0
  have hlt : t.val < 8 := lt_of_lt_of_eq t.isLt hN
  by_cases h : t.val % 8 = 0
  · rw [outsAt0_A m c t h (by omega)]
    frame_out
    rw [ix2_eta y]
    exact at_dx m c t _ _
  · rw [outsAt0_B m c t h (by omega)]
    frame_out
    rw [ix2_eta y]
    exact at_dx m c t _ _

theorem out_dg (c : Dev nD) : (dats m 0 c).arrAt 6 cfg0.N
    = arr (Cert.Rms.dg (m ((c : Thread nD τ).loc main_arg0)) (m ((c : Thread nD τ).loc main_arg2)) (m ((c : Thread nD τ).loc main_arg3))) := by
  have hN : cfg0.N = 8 := N_0
  refine (dats m 0 c).arrAt_eq_of_covers 6 _ (by decide +kernel) fun t hf y => ?_
  blk_simp
  rw [after0_6, Pipeline.eq_sum_fin_of_reset_step_apply_last (M := EReal) (fun n h => (outsAt0 m c n h).2) 8 (fun _ => 0) (fun t y => part m c t (y 1))
    (fun t h j => by rw [outsAt0_A m c t h (by have := t.isLt; have hN' : cfg0.grid.N = 8 := N_0; omega)]; frame_out; rw [ix2_eta j]; exact (at_part m c t _ _).trans (zero_add _).symm)
    (fun t h j => by rw [outsAt0_B m c t h (by omega)]; frame_out; rw [pay2_at]; exact congrArg _ ((congrArg _ (ix2_eta j)).trans (at_part m c t _ _)))
    (le_of_eq N_0) t (by have := (flush0_6 t).mp hf; have := t.isLt; have hN' : cfg0.grid.N = 8 := N_0; omega) y]
  have e : ((win0_6.blk t).view.emb y 1) = y 1 := Fin.ext (by blk_simp [idx t])
  refine (zero_add (M := EReal) _).trans (Eq.trans ?_ (congrArg (Cert.Rms.dg (m ((c : Thread nD τ).loc main_arg0)) (m ((c : Thread nD τ).loc main_arg2)) (m ((c : Thread nD τ).loc main_arg3)) 0) e.symm))
  refine Fin.sum_mul_add_congr (M := EReal) (fun s k hl => ?_) (by rw [hN])
  exact congrArg (fun r => Cert.Rms.dgRow _ _ _ r (y 1)) (Fin.ext (by unfold row; dsimp only; omega))

end Cert.PleBwdIdeal.Val

end
-- ==== Proof.Ple.Pair.lean ====
/-
  mm_dh3 with its norm's gradient and the derivative of the reference's norm, residual and product compute the same two gradients, on all
  extended reals.
-/
module

public import proofs.«01_k».proof.Defs
public import proofs.«01_k».proof.Proof.Ple.Kernel
public import proofs.«01_k».proof.Proof.Ple.Ref

@[expose] public section

set_option maxRecDepth 16384

noncomputable section

namespace Cert.Proof

open Cert.Rows Idealize.ShloMosaic Idealize.ShloMosaic.TcCoe Idealize.SL.Sem

theorem algebraic_ple : Cert.algebraic_PleBwdIdeal_PleRefIdeal (hPleBwdIdeal := Cert.PleBwdIdeal.Gen.facts) (hPleRefIdeal := Cert.PleRefIdeal.Gen.facts) := by
  intro m g m' g' _ hagree
  refine ⟨fun c => arr (Cert.Rms.dx (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4))),
    fun c => arr (Cert.Rms.dg (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3))),
    (θ_run _ _ _).mono (fun r h c => ?_) (Cert.PleBwdIdeal.Value.run_blocks m g),
    (θ_run _ _ _).mono (fun r h c => ?_) (Cert.PleRefIdeal.Val.run m' g')⟩
  · obtain ⟨h5, h6, k⟩ := h c
    exact ⟨h5.trans (Cert.PleBwdIdeal.Val.out_dx m c), h6.trans (Cert.PleBwdIdeal.Val.out_dg m c), k⟩
  · obtain ⟨e0, e1, e2, e3, e4⟩ := hagree c
    obtain ⟨h0, h1, k⟩ := h c
    simp only [e0, e1, e2, e3, e4] at h0 h1
    exact ⟨h0, h1, k⟩

end Cert.Proof

end
-- ==== Proof.Mix.Columns.lean ====
/-
  The columns of the projection in the order in which the step holds them, and a product's sum over them.
-/
module

public import proofs.«01_k».proof.Proof.Shared.Rows

@[expose] public section

noncomputable section

namespace Cert.Mix

open Idealize.ShloMosaic Cert.Rows

/-- Column `k` of the 5760 held: the first 3584 in place, then the 2048 of the gates, then the 8 of beta and decay, then zeros. -/
def held (f : Fin 5640 → EReal) (k : Fin 5760) : EReal :=
  if h : k.1 < 3584 then f ⟨k.1, by omega⟩ else if h : k.1 < 5632 then f ⟨k.1 + 8, by omega⟩
  else if h : k.1 < 5640 then f ⟨k.1 - 2048, by omega⟩ else 0

/-- The held column as the padded and joined parts read it. -/
theorem held_of_parts (f : Fin 5640 → EReal) (z : EReal) (k : Fin 5760) :
    (if k.1 < 3584 then (if h : k.1 < 5640 then f ⟨k.1, h⟩ else z)
      else if k.1 < 5632 then (if h : k.1 < 5632 then f ⟨8 + k.1, by omega⟩ else z)
      else if k.1 < 5640 then (if h : 2048 ≤ k.1 ∧ k.1 - 2048 < 3592 then f ⟨k.1 - 2048, by omega⟩ else z) else 0) = held f k := by
  unfold held
  by_cases h1 : k.1 < 3584
  · rw [if_pos h1, dif_pos (by omega), dif_pos h1]
  by_cases h2 : k.1 < 5632
  · rw [if_neg h1, if_pos h2, dif_pos h2, dif_neg h1, dif_pos h2]
    exact congrArg f (Fin.ext (Nat.add_comm _ _))
  by_cases h3 : k.1 < 5640
  · rw [if_neg h1, if_neg h2, if_pos h3, dif_pos (by omega), dif_neg h1, dif_neg h2, dif_pos h3]
  · rw [if_neg h1, if_neg h2, if_neg h3, dif_neg h1, dif_neg h2, dif_neg h3]

/-- The sum of products over the held columns is the sum over the projection's. -/
theorem sum_held (f g : Fin 5640 → EReal) : ∑ k, held f k * held g k = ∑ j, f j * g j := by
  let G : ℕ → EReal := fun n => if h : n < 5640 then f ⟨n, h⟩ * g ⟨n, h⟩ else 0
  let H : ℕ → EReal := fun n => if n < 3584 then G n else if n < 5632 then G (n + 8) else if n < 5640 then G (n - 2048) else 0
  have hG : ∑ j, f j * g j = ∑ n ∈ Finset.range 5640, G n := by
    rw [← Fin.sum_univ_eq_sum_range]
    exact Finset.sum_congr rfl fun j _ => by
      dsimp only [G]
      rw [dif_pos j.2]
  have hH : ∑ k, held f k * held g k = ∑ n ∈ Finset.range 5760, H n := by
    rw [← Fin.sum_univ_eq_sum_range]
    refine Finset.sum_congr rfl fun k _ => ?_
    unfold held
    dsimp only [H, G]
    by_cases h1 : k.1 < 3584
    · rw [dif_pos h1, dif_pos h1, if_pos h1, dif_pos (by omega)]
    by_cases h2 : k.1 < 5632
    · rw [dif_neg h1, dif_neg h1, dif_pos h2, dif_pos h2, if_neg h1, if_pos h2, dif_pos (by omega)]
    by_cases h3 : k.1 < 5640
    · rw [dif_neg h1, dif_neg h1, dif_neg h2, dif_neg h2, dif_pos h3, dif_pos h3, if_neg h1, if_neg h2, if_pos h3, dif_pos (by omega)]
    · rw [dif_neg h1, dif_neg h1, dif_neg h2, dif_neg h2, dif_neg h3, dif_neg h3, if_neg h1, if_neg h2, if_neg h3, zero_mul]
  rw [hG, hH, Finset.range_eq_Ico, Finset.range_eq_Ico, ← Finset.sum_Ico_consecutive H (by omega : 0 ≤ 3584) (by omega : 3584 ≤ 5760),
    ← Finset.sum_Ico_consecutive H (by omega : 3584 ≤ 5632) (by omega : 5632 ≤ 5760), ← Finset.sum_Ico_consecutive H (by omega : 5632 ≤ 5640) (by omega : 5640 ≤ 5760),
    ← Finset.sum_Ico_consecutive G (by omega : 0 ≤ 3584) (by omega : 3584 ≤ 5640), ← Finset.sum_Ico_consecutive G (by omega : 3584 ≤ 3592) (by omega : 3592 ≤ 5640)]
  have e1 : ∑ n ∈ Finset.Ico 0 3584, H n = ∑ n ∈ Finset.Ico 0 3584, G n :=
    Finset.sum_congr rfl fun n hn => if_pos (Finset.mem_Ico.mp hn).2
  have e2 : ∑ n ∈ Finset.Ico 3584 5632, H n = ∑ n ∈ Finset.Ico 3592 5640, G n := by
    rw [show Finset.Ico 3592 5640 = Finset.Ico (3584 + 8) (5632 + 8) from rfl, ← Finset.sum_Ico_add' G 3584 5632 8]
    refine Finset.sum_congr rfl fun n hn => ?_
    have := Finset.mem_Ico.mp hn
    dsimp only [H]
    rw [if_neg (by omega), if_pos this.2]
  have e3 : ∑ n ∈ Finset.Ico 5632 5640, H n = ∑ n ∈ Finset.Ico 3584 3592, G n := by
    rw [show Finset.Ico 5632 5640 = Finset.Ico (3584 + 2048) (3592 + 2048) from rfl, ← Finset.sum_Ico_add' H 3584 3592 2048]
    refine Finset.sum_congr rfl fun n hn => ?_
    have := Finset.mem_Ico.mp hn
    dsimp only [H]
    rw [if_neg (by omega), if_neg (by omega), if_pos (by omega), Nat.add_sub_cancel]
  have e4 : ∑ n ∈ Finset.Ico 5640 5760, H n = 0 := by
    refine Finset.sum_eq_zero fun n hn => ?_
    have := Finset.mem_Ico.mp hn
    dsimp only [H]
    rw [if_neg (by omega), if_neg (by omega), if_neg (by omega)]
  rw [e1, e2, e3, e4, add_zero, add_comm (∑ n ∈ Finset.Ico 3592 5640, G n)]

end Cert.Mix

end
-- ==== Proof.Mix.Kernel.lean ====
/-
  What mm_dh1's two output arrays hold after the run: the specification's gradients.
-/
module

public import proofs.«01_k».proof.Proof.Rms.Spec
public import proofs.«01_k».proof.Proof.Mix.Columns
public import proofs.«01_k».proof.Proof.Gen.MixBwdIdeal.Value
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.MixBwdIdeal.Val

open Cert.MixBwdIdeal Cert.MixBwdIdeal.Gen Cert.Rows
open Idealize.ShloMosaic Idealize.ShloMosaic.TcCoe Idealize.SL.Sem

variable (m : (ℓ : Loc nD τ sig) → Buf (Elt Ideal) ℓ)

/-! ## The operands at the call, from the arguments -/

theorem entry_x (c : Dev nD) (r : Fin 4096) (k : Fin 1024) : V m c main_v0 (ix2 r k) = m ((c : Thread nD τ).loc main_arg0) (tok r k) := by
  unfold V
  after_reads_at

theorem entry_y (c : Dev nD) (r : Fin 4096) (k : Fin 1024) : V m c main_v1 (ix2 r k) = m ((c : Thread nD τ).loc main_arg4) (tok r k) := by
  unfold V
  after_reads_at

theorem entry_d (c : Dev nD) (r : Fin 4096) (k : Fin 5760) :
    V m c main_v20 (ix2 r k) = Cert.Mix.held (fun j => m ((c : Thread nD τ).loc main_arg3) (tok r j)) k := by
  unfold V
  after_reads_at
  simp (disch := word_cmp_side) only [hlo_ix]
  exact Cert.Mix.held_of_parts (fun j => m ((c : Thread nD τ).loc main_arg3) (tok r j)) _ k

theorem entry_w (c : Dev nD) (k : Fin 5760) (q : Fin 1024) :
    V m c main_v38 (ix2 k q) = Cert.Mix.held (fun j => m ((c : Thread nD τ).loc main_arg2) (ix3 0 q j)) k := by
  unfold V
  after_reads_at
  simp (disch := word_cmp_side) only [hlo_ix]
  exact Cert.Mix.held_of_parts (fun j => m ((c : Thread nD τ).loc main_arg2) (ix3 0 q j)) _ k

theorem entry_g (c : Dev nD) (z : Fin 1) (q : Fin 1024) : V m c main_arg1 (ix2 z q) = m ((c : Thread nD τ).loc main_arg1) (ix2 0 q) := by
  obtain rfl : z = 0 := Subsingleton.elim _ _
  unfold V
  after_reads_at

/-! ## The blocks: grid point `t` is the block of 256 rows -/

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] :=
  (by decide +kernel : ∀ t : Fin grid0.N, _)

def row (t : Fin cfg0.N) (l : Fin 256) : Fin 4096 :=
  ⟨256 * t.val + l.1, by have := t.isLt; have hN : cfg0.N = 16 := N_0; omega⟩

theorem read_d (c : Dev nD) (t : Fin cfg0.N) (l : Fin 256) (q : Fin 5760) :
    iblk m c 0 t (ix2 l q) = Cert.Mix.held (fun j => m ((c : Thread nD τ).loc main_arg3) (tok (row t l) j)) q := by
  refine Eq.trans ?_ (entry_d m c (row t l) q)
  unfold row
  blk_ext [iblk, idx t]

theorem read_w (c : Dev nD) (t : Fin cfg0.N) (l : Fin 5760) (q : Fin 1024) :
    iblk m c 1 t (ix2 l q) = Cert.Mix.held (fun j => m ((c : Thread nD τ).loc main_arg2) (ix3 0 q j)) l := by
  refine Eq.trans ?_ (entry_w m c l q)
  blk_ext [iblk, idx t]

theorem read_x (c : Dev nD) (t : Fin cfg0.N) (l : Fin 256) (q : Fin 1024) : iblk m c 2 t (ix2 l q) = m ((c : Thread nD τ).loc main_arg0) (tok (row t l) q) := by
  refine Eq.trans ?_ (entry_x m c (row t l) q)
  unfold row
  blk_ext [iblk, idx t]

theorem read_y (c : Dev nD) (t : Fin cfg0.N) (l : Fin 256) (q : Fin 1024) : iblk m c 3 t (ix2 l q) = m ((c : Thread nD τ).loc main_arg4) (tok (row t l) q) := by
  refine Eq.trans ?_ (entry_y m c (row t l) q)
  unfold row
  blk_ext [iblk, idx t]

theorem read_g (c : Dev nD) (t : Fin cfg0.N) (z : Fin 1) (q : Fin 1024) : iblk m c 4 t (ix2 z q) = m ((c : Thread nD τ).loc main_arg1) (ix2 0 q) := by
  refine Eq.trans ?_ (entry_g m c z q)
  blk_ext [iblk, idx t]

/-! ## The payloads, over any blocks whose elements are known -/

open Cert.RmsNorm

theorem pay3_at (d : Vec Ideal S256x5760 .bf16) (w : Vec Ideal S5760x1024 .bf16) (l : Fin 256) (q : Fin 1024) :
    k0_pay3 (F := Ideal) d w (ix2 l q) = ∑ k, d (ix2 l k) * w (ix2 k q) := by
  pointwise [k0_pay3]

theorem pay6_at (x : Vec Ideal S256x1024 .f32) (l : Fin 256) (z : Fin 1) :
    k0_pay6 (F := Ideal) x (ix2 l z) = ms 1149239296#32 fun k => x (ix2 l k) := by
  pointwise [k0_pay6, k0_pay4]
  rfl

theorem pay1_at (d : Vec Ideal S256x5760 .bf16) (w : Vec Ideal S5760x1024 .bf16) (x y : Vec Ideal S256x1024 .f32) (g : Vec Ideal S1x1024 .f32) (l : Fin 256) (q : Fin 1024)
    (X D : Fin 1024 → EReal) (Y : EReal) (hx : ∀ k, x (ix2 l k) = X k) (hD : ∀ k, (∑ j, d (ix2 l j) * w (ix2 j k)) * g (ix2 0 k) = D k) (hy : y (ix2 l q) = Y) :
    k0_pay1 (F := Ideal) (k0_pay4 x) (k0_pay5 y) (k0_pay10 d w x g) (k0_pay11 d w x g) (ix2 l q) = dnorm 1149239296#32 X D q + Y := by
  pointwise [k0_pay1, k0_pay11, k0_pay10, k0_pay9, k0_pay7, k0_pay5, k0_pay4, pay3_at, pay6_at]
  simp only [hx, hD, hy]
  rfl

theorem pay8_at (d : Vec Ideal S256x5760 .bf16) (w : Vec Ideal S5760x1024 .bf16) (x : Vec Ideal S256x1024 .f32) (z : Fin 1) (q : Fin 1024)
    (X C : Fin 256 → Fin 1024 → EReal) (hx : ∀ l k, x (ix2 l k) = X l k) (hC : ∀ l k, (∑ j, d (ix2 l j) * w (ix2 j k)) = C l k) :
    k0_pay8 (F := Ideal) d w x (ix2 z q) = ∑ l, X l q * inv 1149239296#32 (X l) * C l q := by
  pointwise [k0_pay8, k0_pay7, k0_pay4, pay3_at, pay6_at]
  simp only [hx, hC]
  rfl

theorem pay2_at (p : FVec Ideal S1x1024 .f32) (v : Vec Ideal S1x1024 .f32) (x : S1x1024.Idx) : k0_pay2 (F := Ideal) p v x = v x + p x := by pointwise [k0_pay2]

/-! ## The output arrays -/

theorem at_ct (c : Dev nD) (t : Fin cfg0.N) (l : Fin 256) (q : Fin 1024) :
    (∑ j, (show EReal from iblk m c 0 t (ix2 l j)) * (show EReal from iblk m c 1 t (ix2 j q))) = Cert.Rms.ct (m ((c : Thread nD τ).loc main_arg2)) (m ((c : Thread nD τ).loc main_arg3)) (row t l) q :=
  (Finset.sum_congr rfl fun x _ => congrArg₂ (fun a b : EReal => a * b) (read_d m c t l x) (read_w m c t x q)).trans (Cert.Mix.sum_held _ _)

theorem at_dx (c : Dev nD) (t : Fin cfg0.N) (l : Fin 256) (q : Fin 1024) :
    k0_pay1 (F := Ideal) (k0_pay4 (iblk m c 2 t)) (k0_pay5 (iblk m c 3 t)) (k0_pay10 (iblk m c 0 t) (iblk m c 1 t) (iblk m c 2 t) (iblk m c 4 t)) (k0_pay11 (iblk m c 0 t) (iblk m c 1 t) (iblk m c 2 t) (iblk m c 4 t)) (ix2 l q)
      = Cert.Rms.dx (m ((c : Thread nD τ).loc main_arg0)) (m ((c : Thread nD τ).loc main_arg1)) (m ((c : Thread nD τ).loc main_arg2)) (m ((c : Thread nD τ).loc main_arg3)) (m ((c : Thread nD τ).loc main_arg4)) (row t l) q :=
  pay1_at _ _ _ _ _ l q _ _ _ (fun k => read_x m c t l k) (fun k => congrArg₂ (fun a b : EReal => a * b) (at_ct m c t l k) (read_g m c t 0 k)) (read_y m c t l q)

/-- One block's part of the gain's gradient. -/
def part (c : Dev nD) (t : Fin cfg0.N) (q : Fin 1024) : EReal :=
  ∑ l : Fin 256, Cert.Rms.dgRow (m ((c : Thread nD τ).loc main_arg0)) (m ((c : Thread nD τ).loc main_arg2)) (m ((c : Thread nD τ).loc main_arg3)) (row t l) q

theorem at_part (c : Dev nD) (t : Fin cfg0.N) (z : Fin 1) (q : Fin 1024) : k0_pay8 (F := Ideal) (iblk m c 0 t) (iblk m c 1 t) (iblk m c 2 t) (ix2 z q) = part m c t q :=
  pay8_at _ _ _ z q (fun l => Cert.Rms.rowOf (m ((c : Thread nD τ).loc main_arg0)) (row t l)) (fun l => Cert.Rms.ct (m ((c : Thread nD τ).loc main_arg2)) (m ((c : Thread nD τ).loc main_arg3)) (row t l))
    (fun l k => read_x m c t l k) (fun l k => at_ct m c t l k)

theorem at_block (f : Fin 4096 → Fin 1024 → EReal) (t : Fin cfg0.N) (y : S256x1024.Idx) (z : S4096x1024.Idx)
    (h0 : (z 0).1 = t.val * 256 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out_dx (c : Dev nD) : (dats m 0 c).arrAt 5 cfg0.N
    = arr (Cert.Rms.dx (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 5 _ (by decide +kernel) fun t hf y => ?_
  blk_simp
  refine Eq.trans ?_ (at_block _ t y _ (?_ : _ = _) (?_ : _ = _)).symm
  rotate_left
  iterate 2 blk_simp [idx t]
  rw [after0_5]
  have hN : cfg0.N = 16 := N_0
  have hlt : t.val < 16 := lt_of_lt_of_eq t.isLt hN
  by_cases h : t.val % 16 = 0
  · rw [outsAt0_A m c t h (by omega)]
    frame_out
    rw [ix2_eta y]
    exact at_dx m c t _ _
  · rw [outsAt0_B m c t h (by omega)]
    frame_out
    rw [ix2_eta y]
    exact at_dx m c t _ _

theorem out_dg (c : Dev nD) : (dats m 0 c).arrAt 6 cfg0.N
    = arr (Cert.Rms.dg (m ((c : Thread nD τ).loc main_arg0)) (m ((c : Thread nD τ).loc main_arg2)) (m ((c : Thread nD τ).loc main_arg3))) := by
  have hN : cfg0.N = 16 := N_0
  refine (dats m 0 c).arrAt_eq_of_covers 6 _ (by decide +kernel) fun t hf y => ?_
  blk_simp
  rw [after0_6, Pipeline.eq_sum_fin_of_reset_step_apply_last (M := EReal) (fun n h => (outsAt0 m c n h).2) 16 (fun _ => 0) (fun t y => part m c t (y 1))
    (fun t h j => by rw [outsAt0_A m c t h (by have := t.isLt; have hN' : cfg0.grid.N = 16 := N_0; omega)]; frame_out; rw [ix2_eta j]; exact (at_part m c t _ _).trans (zero_add _).symm)
    (fun t h j => by rw [outsAt0_B m c t h (by omega)]; frame_out; rw [pay2_at]; exact congrArg _ ((congrArg _ (ix2_eta j)).trans (at_part m c t _ _)))
    (le_of_eq N_0) t (by have := (flush0_6 t).mp hf; have := t.isLt; have hN' : cfg0.grid.N = 16 := N_0; omega) y]
  have e : ((win0_6.blk t).view.emb y 1) = y 1 := Fin.ext (by blk_simp [idx t])
  refine (zero_add (M := EReal) _).trans (Eq.trans ?_ (congrArg (Cert.Rms.dg (m ((c : Thread nD τ).loc main_arg0)) (m ((c : Thread nD τ).loc main_arg2)) (m ((c : Thread nD τ).loc main_arg3)) 0) e.symm))
  refine Fin.sum_mul_add_congr (M := EReal) (fun s k hl => ?_) (by rw [hN])
  exact congrArg (fun r => Cert.Rms.dgRow _ _ _ r (y 1)) (Fin.ext (by unfold row; dsimp only; omega))

end Cert.MixBwdIdeal.Val

end
-- ==== Proof.Mix.Pair.lean ====
/-
  mm_dh1 with its norm's gradient and the derivative of the reference's norm, residual and product compute the same two gradients, on all
  extended reals.
-/
module

public import proofs.«01_k».proof.Defs
public import proofs.«01_k».proof.Proof.Mix.Kernel
public import proofs.«01_k».proof.Proof.Mix.Ref

@[expose] public section

set_option maxRecDepth 16384

noncomputable section

namespace Cert.Proof

open Cert.Rows Idealize.ShloMosaic Idealize.ShloMosaic.TcCoe Idealize.SL.Sem

theorem algebraic_mix : Cert.algebraic_MixBwdIdeal_MixRefIdeal (hMixBwdIdeal := Cert.MixBwdIdeal.Gen.facts) (hMixRefIdeal := Cert.MixRefIdeal.Gen.facts) := by
  intro m g m' g' _ hagree
  refine ⟨fun c => arr (Cert.Rms.dx (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4))),
    fun c => arr (Cert.Rms.dg (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3))),
    (θ_run _ _ _).mono (fun r h c => ?_) (Cert.MixBwdIdeal.Value.run_blocks m g),
    (θ_run _ _ _).mono (fun r h c => ?_) (Cert.MixRefIdeal.Val.run m' g')⟩
  · obtain ⟨h5, h6, k⟩ := h c
    exact ⟨h5.trans (Cert.MixBwdIdeal.Val.out_dx m c), h6.trans (Cert.MixBwdIdeal.Val.out_dg m c), k⟩
  · obtain ⟨e0, e1, e2, e3, e4⟩ := hagree c
    obtain ⟨h0, h1, k⟩ := h c
    simp only [e0, e1, e2, e3, e4] at h0 h1
    exact ⟨h0, h1, k⟩

end Cert.Proof

end
-- ==== Proof.AttnF.Chunk.lean ====
/-
  The value of one chunk of 64 rows of the forward attention: the kernel's own operations for one item of its batch of eight,
  and that every store of the kernel, in the first trip (whose scores are masked) and in the loop's three, is that of one chunk.
-/
module

public import proofs.«01_k».proof.Proof.Gen.AttnFwdIdeal.Value

@[expose] public section

set_option maxRecDepth 16384

noncomputable section

namespace Cert.AttnF

open Cert.AttnFwdIdeal Cert.AttnFwdIdeal.Gen Idealize.ShloMosaic Idealize.ShloMosaic.TcCoe Idealize.SL.Sem

variable {F : FTy → Type} [FloatOps F]

/-- The scores of the first of the two heads held in a block's 128 lanes. -/
def scoresLo (q : Vec F S64x128 .bf16) (k : Vec F S576x128 .f32) (b : FVec F S2x64x576 .f32) : FVec F S64x576 .f32 :=
  k0_pay44 b (k0_pay18 k) (k0_pay26 k0_pay8 (k0_pay9 q))

/-- … and of the second. -/
def scoresHi (q : Vec F S64x128 .bf16) (k : Vec F S576x128 .f32) (b : FVec F S2x64x576 .f32) : FVec F S64x576 .f32 :=
  k0_pay45 b (k0_pay18 k) (k0_pay27 k0_pay8 (k0_pay9 q))

/-- The weights of a row from its scores. -/
def weights (s : FVec F S64x576 .f32) : FVec F S64x576 .f32 := k0_pay87 (k0_pay69 s)

/-- One chunk: its 64 query rows against the band of 576 key and value rows. -/
def chunk (mask : FVec F S64x576 .f32 → FVec F S64x576 .f32) (q : Vec F S64x128 .bf16) (k v : Vec F S576x128 .f32)
    (b : FVec F S2x64x576 .f32) : FVec F S64x128 .bf16 :=
  k0_pay134 (k0_pay120 k0_pay8 (k0_pay104 (k0_pay18 v) (weights (mask (scoresLo q k b)))))
    (k0_pay121 (k0_pay17 k0_pay8) (k0_pay104 (k0_pay18 v) (weights (mask (scoresHi q k b)))))

/-- The mask of the chunk that starts at row `o`: the columns before the sequence's first row are left out. -/
def masked (o : BitVec 32) (s : FVec F S64x576 .f32) : FVec F S64x576 .f32 := k0_pay206 (k0_pay146 kernelRun0_A.sl.v22 o) s

/-- The store of a chunk whose query rows start at `o` and whose band starts at `o'`. -/
def piece (mask : FVec F S64x576 .f32 → FVec F S64x576 .f32) (a2 : Memref sig .tc .vmem S2048x128 .bf16)
    (a7 a8 : Memref sig .tc .vmem S2560x128 .f32) (b : FVec F S2x64x576 .f32) (X2 : BufTy.Contents (Elt F) a2.view.ty)
    (X7 : BufTy.Contents (Elt F) a7.view.ty) (X8 : BufTy.Contents (Elt F) a8.view.ty) (o o' : Fin 2 → Nat)
    (h : ∀ a, o a + S64x128.size a ≤ S2048x128.size a) (h' : ∀ a, o' a + S576x128.size a ≤ S2560x128.size a) :
    View.Piece (Elt F) S2048x128 .bf16 :=
  ⟨Rect.unit (s := S2048x128) o S64x128.size h,
    chunk mask (a2.view.readAt (Elt F) (Rect.unit (s := S2048x128) o S64x128.size h).toLoadRect X2)
      (a7.view.readAt (Elt F) (Rect.unit (s := S2560x128) o' S576x128.size h').toLoadRect X7)
      (a8.view.readAt (Elt F) (Rect.unit (s := S2560x128) o' S576x128.size h').toLoadRect X8) b⟩

theorem inb (j : Fin 8) : ∀ a, (![64 * j.1, 0] : Fin 2 → Nat) a + S64x128.size a ≤ S2048x128.size a := by
  revert j; decide

theorem inb' (j : Fin 8) : ∀ a, (![64 * j.1, 0] : Fin 2 → Nat) a + S576x128.size a ≤ S2560x128.size a := by
  revert j; decide

section
variable (c : Dev nD) (i : grid0.Coords) (arg2 : Memref sig .tc .vmem S2048x128 .bf16) (harg2 : arg2.IsWhole)
  (arg3 : Memref sig .tc .vmem S2048x128 .bf16) (harg3 : arg3.IsWhole) (arg4 : Memref sig .tc .vmem S2048x128 .bf16) (harg4 : arg4.IsWhole)
  (arg5 : Memref sig .tc .vmem S2x64x576 .f32) (harg5 : arg5.IsWhole) (arg6 : Memref sig .tc .vmem S2048x128 .bf16) (harg6 : arg6.IsWhole)
  (arg7 : Memref sig .tc .vmem S2560x128 .f32) (harg7 : arg7.IsWhole) (arg8 : Memref sig .tc .vmem S2560x128 .f32) (harg8 : arg8.IsWhole)

/-- The stores of one trip of the loop. -/
theorem trip_pieces (𝒱 : Variants) (bd : Option 𝒱.V) (b : FVec F S2x64x576 .f32) (X2 : BufTy.Contents (Elt F) arg2.view.ty)
    (X7 : BufTy.Contents (Elt F) arg7.view.ty) (X8 : BufTy.Contents (Elt F) arg8.view.ty) (k : Fin k0_t1_loop.trips) :
    tripL_k0_t1 (F := F) 𝒱 c bd i arg2 harg2 arg3 harg3 arg4 harg4 arg5 harg5 arg6 harg6 arg7 harg7 arg8 harg8 b X2 X7 X8 k =
      [piece (fun s => s) arg2 arg7 arg8 b X2 X7 X8 (k0_off3 k 7#32) (k0_off4 k 7#32) (k0_off3_inb k 7) (k0_off4_inb k 7),
       piece (fun s => s) arg2 arg7 arg8 b X2 X7 X8 (k0_off3 k 6#32) (k0_off4 k 6#32) (k0_off3_inb k 6) (k0_off4_inb k 6),
       piece (fun s => s) arg2 arg7 arg8 b X2 X7 X8 (k0_off3 k 5#32) (k0_off4 k 5#32) (k0_off3_inb k 5) (k0_off4_inb k 5),
       piece (fun s => s) arg2 arg7 arg8 b X2 X7 X8 (k0_off3 k 4#32) (k0_off4 k 4#32) (k0_off3_inb k 4) (k0_off4_inb k 4),
       piece (fun s => s) arg2 arg7 arg8 b X2 X7 X8 (k0_off3 k 3#32) (k0_off4 k 3#32) (k0_off3_inb k 3) (k0_off4_inb k 3),
       piece (fun s => s) arg2 arg7 arg8 b X2 X7 X8 (k0_off3 k 2#32) (k0_off4 k 2#32) (k0_off3_inb k 2) (k0_off4_inb k 2),
       piece (fun s => s) arg2 arg7 arg8 b X2 X7 X8 (k0_off3 k 1#32) (k0_off4 k 1#32) (k0_off3_inb k 1) (k0_off4_inb k 1),
       piece (fun s => s) arg2 arg7 arg8 b X2 X7 X8 (k0_off3 k 0#32) (k0_off4 k 0#32) (k0_off3_inb k 0) (k0_off4_inb k 0)] := by
  unfold tripL_k0_t1 trip_k0_t1
  sl_kernel_rfl

variable (x0 x1 x2 : Vec F S2048x128 .bf16) (x3 : Vec F S2x64x576 .f32)

/-- The bias as the body reads it. -/
def biasOf : FVec F S2x64x576 .f32 := kernelRun0_A.sl.r c arg5 harg5 x3

/-- The padded keys as the body leaves them. -/
def keysOf : BufTy.Contents (Elt F) arg7.view.ty := arg7.view.writes (Elt F) arg7.view.junk (kernelRun0_A.sl.HS0_2 c arg3 harg3 x1)

/-- The padded values as the body leaves them. -/
def valuesOf : BufTy.Contents (Elt F) arg8.view.ty := arg8.view.writes (Elt F) arg8.view.junk (kernelRun0_A.sl.HS1_2 c arg4 harg4 x2)

/-- The stores of the first trip, one chunk each. -/
def firstPiece (j : Fin 8) : View.Piece (Elt F) S2048x128 .bf16 :=
  piece (masked (BitVec.ofNat 32 (64 * j.1))) arg2 arg7 arg8 (biasOf c arg5 harg5 x3) (harg2.unread x0) (keysOf c arg3 harg3 arg7 x1)
    (valuesOf c arg4 harg4 arg8 x2) ![64 * j.1, 0] ![64 * j.1, 0] (inb j) (inb' j)

/-- The body's stores: the loop's, over the first trip's. -/
theorem body_pieces :
    (kernelRun0_A (F := F) c i arg2 harg2 arg3 harg3 arg4 harg4 arg5 harg5 arg6 harg6 arg7 harg7 arg8 harg8 x0 x1 x2 x3).1 =
      pb_k0_t1 Variants.none c none i arg2 harg2 arg3 harg3 arg4 harg4 arg5 harg5 arg6 harg6 arg7 harg7 arg8 harg8
        (biasOf c arg5 harg5 x3) (harg2.unread x0) (keysOf c arg3 harg3 arg7 x1) (valuesOf c arg4 harg4 arg8 x2) 3 ++
      [firstPiece c arg2 harg2 arg3 harg3 arg4 harg4 arg5 harg5 arg7 arg8 x0 x1 x2 x3 7,
       firstPiece c arg2 harg2 arg3 harg3 arg4 harg4 arg5 harg5 arg7 arg8 x0 x1 x2 x3 6,
       firstPiece c arg2 harg2 arg3 harg3 arg4 harg4 arg5 harg5 arg7 arg8 x0 x1 x2 x3 5,
       firstPiece c arg2 harg2 arg3 harg3 arg4 harg4 arg5 harg5 arg7 arg8 x0 x1 x2 x3 4,
       firstPiece c arg2 harg2 arg3 harg3 arg4 harg4 arg5 harg5 arg7 arg8 x0 x1 x2 x3 3,
       firstPiece c arg2 harg2 arg3 harg3 arg4 harg4 arg5 harg5 arg7 arg8 x0 x1 x2 x3 2,
       firstPiece c arg2 harg2 arg3 harg3 arg4 harg4 arg5 harg5 arg7 arg8 x0 x1 x2 x3 1,
       firstPiece c arg2 harg2 arg3 harg3 arg4 harg4 arg5 harg5 arg7 arg8 x0 x1 x2 x3 0] := by
  unfold kernelRun0_A
  sl_kernel_rfl

end

end Cert.AttnF

end
-- ==== Proof.AttnF.Item.lean ====
/-
  The value of a chunk, element by element, over the extended reals.
-/
module

public import proofs.«01_k».proof.Proof.AttnF.Chunk
public import proofs.«01_k».proof.Proof.AttnF.Spec
public import Idealize.ShloMosaic.Lib.Pointwise
public import Idealize.ShloMosaic.Lib.IdealHost

@[expose] public section

set_option maxRecDepth 16384

noncomputable section

namespace Cert.AttnF

open Cert.AttnFwdIdeal Cert.AttnFwdIdeal.Gen Idealize.ShloMosaic Idealize.ShloMosaic.TcCoe Idealize.SL.Sem

theorem lo_word : ∀ l : Fin 128, IntOp.cmpi CmpIPredicate.slt (BitVec.ofNat 32 l.1) 64#32 = if l.1 < 64 then 1#1 else 0#1 := by decide
theorem hi_word : ∀ l : Fin 128, IntOp.xori (IntOp.cmpi CmpIPredicate.slt (BitVec.ofNat 32 l.1) 64#32) 1#1 = if l.1 < 64 then 0#1 else 1#1 := by decide

/-- The column `c` of the band that starts at `o` is the sequence's. -/
theorem mask_word (j : Fin 8) (c : Fin 576) :
    IntOp.cmpi CmpIPredicate.sge (IntOp.addi (BitVec.ofNat 32 c.1) (BitVec.ofNat 32 (64 * j.1))) 512#32 = if 512 ≤ 64 * j.1 + c.1 then 1#1 else 0#1 := by
  revert j c; decide +kernel

/-- A sum over the first half of the lanes. -/
theorem sum_lo (f : Fin 128 → EReal) : ∑ x : Fin 128, Scalar.select (IntOp.cmpi CmpIPredicate.slt (BitVec.ofNat 32 x.1) 64#32) (f x) 0 =
    ∑ d : Fin 64, f ⟨d.1, by omega⟩ := by
  simp only [lo_word]
  refine (Fin.sum_univ_add (a := 64) (b := 64) (fun x : Fin 128 => Scalar.select (if x.1 < 64 then 1#1 else 0#1) (f x) 0)).trans ?_
  refine (congrArg₂ (· + ·) (Finset.sum_congr rfl fun d _ => ?_) (Finset.sum_eq_zero fun d _ => ?_)).trans (add_zero _)
  · rw [if_pos (show (Fin.castAdd 64 d).1 < 64 from d.2)]; rfl
  · rw [if_neg (show ¬ (Fin.natAdd 64 d).1 < 64 from by simp)]; rfl

/-- … and over the second. -/
theorem sum_hi (f : Fin 128 → EReal) : ∑ x : Fin 128, Scalar.select (IntOp.xori (IntOp.cmpi CmpIPredicate.slt (BitVec.ofNat 32 x.1) 64#32) 1#1) (f x) 0 =
    ∑ d : Fin 64, f ⟨64 + d.1, by omega⟩ := by
  simp only [hi_word]
  refine (Fin.sum_univ_add (a := 64) (b := 64) (fun x : Fin 128 => Scalar.select (if x.1 < 64 then 0#1 else 1#1) (f x) 0)).trans ?_
  refine (congrArg₂ (· + ·) (Finset.sum_eq_zero fun d _ => ?_) (Finset.sum_congr rfl fun d _ => ?_)).trans (zero_add _)
  · rw [if_pos (show (Fin.castAdd 64 d).1 < 64 from d.2)]; rfl
  · rw [if_neg (show ¬ (Fin.natAdd 64 d).1 < 64 from by simp)]; rfl

variable (q : Vec Ideal S64x128 .bf16) (k v : Vec Ideal S576x128 .f32) (b : FVec Ideal S2x64x576 .f32)

theorem scoresLo_apply (r : Fin 64) (c : Fin 576) :
    scoresLo q k b (ix2 r c) = (∑ d : Fin 64, q (ix2 r ⟨d.1, by omega⟩) * eighth * k (ix2 c ⟨d.1, by omega⟩)) + b (ix3 0 r c) := by
  unfold scoresLo
  pointwise [k0_pay44, k0_pay18, k0_pay26, k0_pay8, k0_pay9]
  exact congrArg (· + b (ix3 0 r c)) (sum_lo (fun x => q (ix2 r x) * eighth * k (ix2 c x)))

theorem scoresHi_apply (r : Fin 64) (c : Fin 576) :
    scoresHi q k b (ix2 r c) = (∑ d : Fin 64, q (ix2 r ⟨64 + d.1, by omega⟩) * eighth * k (ix2 c ⟨64 + d.1, by omega⟩)) + b (ix3 1 r c) := by
  unfold scoresHi k0_pay27
  pointwise [k0_pay45, k0_pay18, k0_pay17, k0_pay8, k0_pay9]
  exact congrArg (· + b (ix3 1 r c)) (sum_hi (fun x => q (ix2 r x) * eighth * k (ix2 c x)))

theorem weights_apply (s : FVec Ideal S64x576 .f32) (r : Fin 64) (c : Fin 576) :
    weights s (ix2 r c) = expd (fun x => s (ix2 r x)) c * Ideal.div 1 (∑ x, expd (fun x => s (ix2 r x)) x) := by
  unfold weights
  pointwise [k0_pay87, k0_pay69]
  rfl

theorem masked_apply (j : Fin 8) (s : FVec Ideal S64x576 .f32) (r : Fin 64) (c : Fin 576) :
    masked (BitVec.ofNat 32 (64 * j.1)) s (ix2 r c) = if 512 ≤ 64 * j.1 + c.1 then s (ix2 r c) else low := by
  unfold masked
  pointwise [k0_pay206, k0_pay146, kernelRun0_A.sl.v22]
  rw [mask_word]
  split <;> rfl

/-- The softmax as the kernel takes it: the exponentials by the inverse of their sum. -/
def softDot' (s v : Fin 576 → EReal) : EReal := ∑ c, expd s c * Ideal.div 1 (∑ x, expd s x) * v c

theorem chunk_apply (mask : FVec Ideal S64x576 .f32 → FVec Ideal S64x576 .f32) (r : Fin 64) (l : Fin 128) :
    chunk mask q k v b (ix2 r l) = softDot' (fun c => mask (if l.1 < 64 then scoresLo q k b else scoresHi q k b) (ix2 r c)) fun c => v (ix2 c l) := by
  unfold chunk
  pointwise [k0_pay134, k0_pay120, k0_pay121, k0_pay8, k0_pay17, k0_pay104, k0_pay18]
  rw [hi_word, lo_word]
  simp only [weights_apply]
  by_cases h : l.1 < 64
  · simp only [if_pos h]
    exact add_zero _
  · simp only [if_neg h]
    exact zero_add _

end Cert.AttnF

end
-- ==== Proof.AttnF.Finite.lean ====
/-
  The pair's precondition: where the queries, the keys and the biases are finite, no row of exponentials sums to zero, and scaling the
  weights by the sum's reciprocal is dividing them by it.
-/
module

public import proofs.«01_k».proof.Pre_attn_finite
public import proofs.«01_k».proof.Proof.Shared.Finite
public import proofs.«01_k».proof.Proof.AttnF.Item
public import Idealize.ShloMosaic.Lib.Pointwise.Tactic
public import Idealize.ShloMosaic.Lib.ReduceAll
public import Idealize.ShloMosaic.Lib.IdealHost

@[expose] public section

noncomputable section

namespace Cert.AttnF

open Idealize.ShloMosaic Cert.Pre_attn_finite

/-- A finite value. -/
def Fin' (x : EReal) : Prop := ∃ r : ℝ, x = r

theorem Fin'.of {x : EReal} (h : x ≠ ⊥ ∧ x ≠ ⊤) : Fin' x := ⟨x.toReal, (EReal.coe_toReal h.2 h.1).symm⟩

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.sum {n : ℕ} {f : Fin n → EReal} (h : ∀ i, Fin' (f i)) : Fin' (∑ i, f i) :=
  Finset.sum_induction f Fin' (fun _ _ => Fin'.add) ⟨0, rfl⟩ fun i _ => h i

theorem eighth_finite : Fin' eighth := by
  unfold eighth
  simp only [Ideal.ofBits, Ideal.ieee]
  exact ⟨_, rfl⟩

theorem low_finite : Fin' low := by
  unfold low
  simp only [Ideal.ofBits, Ideal.ieee]
  exact ⟨_, rfl⟩

theorem exp_nonneg (x : EReal) : 0 ≤ Ideal.exp x := by
  induction x with
  | bot => exact le_rfl
  | top => exact le_top
  | coe r => exact EReal.coe_nonneg.mpr (Real.exp_nonneg r)

/-- The largest entry is one of the entries. -/
theorem top_attained (s : Fin 576 → EReal) (hs : ∀ c, Fin' (s c)) : ∃ c, top s = s c := by
  have hb : Ideal.ofBits .f32 0xFF800000#32 = (⊥ : EReal) := by simp [Ideal.ofBits, Ideal.ieee]
  unfold top
  rw [hb]
  have h : Finset.fold max (⊥ : EReal) s Finset.univ = Finset.univ.sup s := rfl
  rw [h]
  obtain ⟨c, _, hc⟩ := Finset.exists_mem_eq_sup (Finset.univ : Finset (Fin 576)) ⟨0, Finset.mem_univ _⟩ s
  exact ⟨c, hc⟩

theorem sum_ne_zero (s : Fin 576 → EReal) (hs : ∀ c, Fin' (s c)) : ∑ c, expd s c ≠ 0 := by
  obtain ⟨c, hc⟩ := top_attained s hs
  obtain ⟨r, hr⟩ := hs c
  have h1 : expd s c = 1 := by
    unfold expd
    rw [hc, hr, ← EReal.coe_sub, sub_self]
    show ((Real.exp 0 : ℝ) : EReal) = 1
    rw [Real.exp_zero]
    rfl
  have h : expd s c ≤ ∑ x, expd s x := Finset.single_le_sum (f := expd s) (fun x _ => exp_nonneg _) (Finset.mem_univ c)
  intro e
  rw [e, h1] at h
  exact absurd h (by simp)

theorem softDot_eq (s v : Fin 576 → EReal) (hs : ∀ c, Fin' (s c)) : softDot' s v = softDot s v :=
  Finset.sum_congr rfl fun c _ => congrArg (fun z : EReal => z * v c) (Ideal.mul_one_div (sum_ne_zero s hs))

theorem score_finite (x : Proj) (w : Bias) (hx : ∀ b r (k : Fin 5640), k.1 < 1024 → Fin' (x b r k)) (hw : ∀ h k, Fin' (w h k))
    (b : Fin 2) (h : Fin 8) (n : Fin 32) (i : Fin 64) (c : Fin 576) : Fin' (score x w b h n i c) := by
  unfold score
  split
  · refine Fin'.add (Fin'.sum fun d => Fin'.mul (Fin'.mul (hx _ _ _ ?_) eighth_finite) ?_) (hw _ _)
    · show 64 * h.1 + d.1 < 1024
      omega
    · unfold band
      split_ifs
      · refine hx _ _ _ ?_
        show 512 + 512 * 0 + 64 * h.1 + d.1 < 1024
        omega
  · exact low_finite

/-! ## The precondition, read at an element -/

theorem and_one {a b : BitVec 1} (h : IntOp.andi a b = 1#1) : a = 1#1 ∧ b = 1#1 := by
  revert a b
  decide

variable [Facts]

theorem finite_proj (x : FVec Ideal S2x2048x5640 .f32) (w : FVec Ideal S1x8x257 .f32) (h : fn x w = fun _ => 1#1) (b : Fin 2) (r : Fin 2048) (k : Fin 5640)
    (hk : k.1 < 1024) : Fin' (x (ix3 b r k)) := by
  haveI : Subsingleton S_.Idx := ⟨fun a b => funext fun k => k.elim0⟩
  unfold fn at h
  have e := Host.reduce_andi_all _ _ _ _ _ (and_one (congrFun h (fun k => k.elim0))).1 (ix3 b r ⟨k.1, hk⟩)
  clear h
  pointwise at e
  exact Fin'.of (Cert.Rows.finite_of_mask _ e)

theorem finite_bias (x : FVec Ideal S2x2048x5640 .f32) (w : FVec Ideal S1x8x257 .f32) (h : fn x w = fun _ => 1#1) (b : Fin 8) (k : Fin 257) :
    Fin' (w (ix3 0 b k)) := by
  haveI : Subsingleton S_.Idx := ⟨fun a b => funext fun k => k.elim0⟩
  unfold fn at h
  have e := Host.reduce_andi_all _ _ _ _ _ (and_one (congrFun h (fun k => k.elim0))).2 (ix3 0 b k)
  clear h
  pointwise at e
  exact Fin'.of (Cert.Rows.finite_of_mask _ e)

end Cert.AttnF

end
-- ==== Proof.AttnF.Block.lean ====
/-
  What one grid point leaves in its output block: each chunk's rows, from the blocks of queries, keys, values and biases.
-/
module

public import proofs.«01_k».proof.Proof.AttnF.Item
public import Idealize.ShloMosaic.Lib.Writes
public import Idealize.ShloMosaic.Lib.Pipeline.ValueKit

@[expose] public section

set_option maxRecDepth 16384

noncomputable section

namespace Cert.AttnF

open Cert.AttnFwdIdeal Cert.AttnFwdIdeal.Gen Idealize.ShloMosaic Idealize.ShloMosaic.TcCoe Idealize.SL.Sem

/-- Row `o` of a block padded with 512 zero rows in front. -/
def pad (x : Vec Ideal S2048x128 .bf16) (o : ℕ) (l : Fin 128) : EReal :=
  if h : 512 ≤ o ∧ o < 2560 then (show EReal from x (ix2 ⟨o - 512, by omega⟩ l)) else 0

theorem pad_row (x : Vec Ideal S2048x128 .bf16) (i : Fin 2048) (l : Fin 128) : pad x (512 + i.1) l = x (ix2 i l) := by
  unfold pad
  rw [dif_pos (show 512 ≤ 512 + i.1 ∧ 512 + i.1 < 2560 by omega)]
  exact congrArg (fun z => x (ix2 z l)) (Fin.ext (by show 512 + i.1 - 512 = i.1; omega))

theorem pad_zero (x : Vec Ideal S2048x128 .bf16) (i : Fin 512) (l : Fin 128) : pad x (0 + i.1) l = 0 :=
  dif_neg (by omega)

variable (x0 x1 x2 : Vec Ideal S2048x128 .bf16) (x3 : Vec Ideal S2x64x576 .f32)

/-- The scores of row `i` of chunk `n` for head `e` of the block's two. -/
def blockScore (e : Fin 2) (n : Fin 32) (i : Fin 64) (c : Fin 576) : EReal :=
  if 512 ≤ 64 * n.1 + c.1 then (∑ d : Fin 64, (show EReal from x0 (ix2 ⟨64 * n.1 + i.1, by omega⟩ ⟨64 * e.1 + d.1, by omega⟩)) * eighth
      * pad x1 (64 * n.1 + c.1) ⟨64 * e.1 + d.1, by omega⟩) + (show EReal from x3 (ix3 e i c)) else low

/-- The block's output at row `i` of chunk `n`, lane `l`. -/
def blockOut (n : Fin 32) (i : Fin 64) (l : Fin 128) : EReal :=
  softDot' (blockScore x0 x1 x3 ⟨l.1 / 64, by omega⟩ n i) fun c => pad x2 (64 * n.1 + c.1) l

/-- … as contents of the block. -/
def blockArr (y : S2048x128.Idx) : EReal :=
  have h0 : (y 0).1 < 2048 := (y 0).2
  have h1 : (y 1).1 < 128 := (y 1).2
  blockOut x0 x1 x2 x3 ⟨(y 0).1 / 64, by omega⟩ ⟨(y 0).1 % 64, by omega⟩ ⟨(y 1).1, h1⟩

theorem emb2 {a b a' b' : ℕ} {off : Fin 2 → ℕ} {o : ℕ} (ho : off = ![o, 0])
    (h : ∀ x, off x + (⟨2, ![a', b']⟩ : Shape).size x ≤ (⟨2, ![a, b]⟩ : Shape).size x) (r : Fin a') (l : Fin b') (hr : o + r.1 < a) (hl : l.1 < b) :
    (Rect.unit (s := ⟨2, ![a, b]⟩) off (⟨2, ![a', b']⟩ : Shape).size h).emb (ix2 r l) = ix2 ⟨o + r.1, hr⟩ ⟨l.1, hl⟩ := by
  subst ho
  refine funext fun x => Fin.ext ?_
  rw [Rect.emb_apply]
  match x with
  | ⟨0, _⟩ => show o + 1 * r.1 = o + r.1; omega
  | ⟨1, _⟩ => show 0 + 1 * l.1 = l.1; omega

section
variable (a2 : Memref sig .tc .vmem S2048x128 .bf16) (a7 a8 : Memref sig .tc .vmem S2560x128 .f32) (b : FVec Ideal S2x64x576 .f32)
  (X2 : BufTy.Contents (Elt Ideal) a2.view.ty) (X7 : BufTy.Contents (Elt Ideal) a7.view.ty) (X8 : BufTy.Contents (Elt Ideal) a8.view.ty)

/-- One store, element by element. -/
theorem piece_apply (h2 : ∀ r l, a2.view.read (Elt Ideal) X2 (ix2 r l) = x0 (ix2 r l))
    (h7 : ∀ r l, a7.view.read (Elt Ideal) X7 (ix2 r l) = pad x1 r.1 l) (h8 : ∀ r l, a8.view.read (Elt Ideal) X8 (ix2 r l) = pad x2 r.1 l)
    (hb : ∀ e i c, b (ix3 e i c) = x3 (ix3 e i c))
    (mask : FVec Ideal S64x576 .f32 → FVec Ideal S64x576 .f32) (n : Fin 32)
    (hm : ∀ s r c, mask s (ix2 r c) = if 512 ≤ 64 * n.1 + c.1 then s (ix2 r c) else low)
    (o o' : Fin 2 → Nat) (ho : o = ![64 * n.1, 0]) (ho' : o' = ![64 * n.1, 0])
    (h : ∀ a, o a + S64x128.size a ≤ S2048x128.size a) (h' : ∀ a, o' a + S576x128.size a ≤ S2560x128.size a)
    (x : (piece mask a2 a7 a8 b X2 X7 X8 o o' h h').1.shape.Idx) :
    (piece mask a2 a7 a8 b X2 X7 X8 o o' h h').2 x = blockArr x0 x1 x2 x3 ((piece mask a2 a7 a8 b X2 X7 X8 o o' h h').1.emb x) := by
  obtain ⟨r, l, rfl⟩ : ∃ (r : Fin 64) (l : Fin 128), x = ix2 r l := ⟨x 0, x 1, funext fun i => match i with | ⟨0, _⟩ => rfl | ⟨1, _⟩ => rfl⟩
  have hn := n.2
  have hr := r.2
  show chunk mask _ _ _ b (ix2 r l) = blockArr x0 x1 x2 x3 ((Rect.unit (s := S2048x128) o S64x128.size h).emb (ix2 r l))
  rw [chunk_apply, emb2 ho h r l (by omega) l.2]
  have e : blockArr x0 x1 x2 x3 (ix2 ⟨64 * n.1 + r.1, by omega⟩ ⟨l.1, l.2⟩) = blockOut x0 x1 x2 x3 n r l := by
    show blockOut x0 x1 x2 x3 ⟨(64 * n.1 + r.1) / 64, _⟩ ⟨(64 * n.1 + r.1) % 64, _⟩ ⟨l.1, _⟩ = _
    congr 1
    · exact Fin.ext (by dsimp only; omega)
    · exact Fin.ext (by dsimp only; omega)
  refine Eq.trans ?_ e.symm
  unfold blockOut
  have q : ∀ (r : Fin 64) (l : Fin 128), a2.view.readAt (Elt Ideal) (Rect.unit (s := S2048x128) o S64x128.size h).toLoadRect X2 (ix2 r l) =
      x0 (ix2 ⟨64 * n.1 + r.1, by omega⟩ l) := fun r l =>
    (congrArg (a2.view.read (Elt Ideal) X2) (emb2 ho h r l (by omega) l.2)).trans (h2 _ _)
  have k : ∀ (c : Fin 576) (l : Fin 128), a7.view.readAt (Elt Ideal) (Rect.unit (s := S2560x128) o' S576x128.size h').toLoadRect X7 (ix2 c l) =
      pad x1 (64 * n.1 + c.1) l := fun c l =>
    (congrArg (a7.view.read (Elt Ideal) X7) (emb2 ho' h' c l (by omega) l.2)).trans (h7 ⟨64 * n.1 + c.1, by omega⟩ l)
  have v : ∀ (c : Fin 576) (l : Fin 128), a8.view.readAt (Elt Ideal) (Rect.unit (s := S2560x128) o' S576x128.size h').toLoadRect X8 (ix2 c l) =
      pad x2 (64 * n.1 + c.1) l := fun c l =>
    (congrArg (a8.view.read (Elt Ideal) X8) (emb2 ho' h' c l (by omega) l.2)).trans (h8 ⟨64 * n.1 + c.1, by omega⟩ l)
  refine congrArg₂ softDot' (funext fun c => ?_) (funext fun c => v c l)
  rw [hm]
  unfold blockScore
  refine if_congr Iff.rfl ?_ rfl
  by_cases hl : l.1 < 64
  · rw [if_pos hl, scoresLo_apply]
    have e0 : (⟨l.1 / 64, by omega⟩ : Fin 2) = 0 := Fin.ext (by show l.1 / 64 = 0; omega)
    rw [e0]
    refine congrArg₂ (fun a b : EReal => a + b) (Finset.sum_congr rfl fun d _ => ?_) (hb 0 r c)
    refine congrArg₂ (fun a b : EReal => a * b) (congrArg (fun a : EReal => a * eighth) ((q r _).trans ?_)) ((k c _).trans ?_)
    · exact congrArg (fun z => x0 (ix2 _ z)) (Fin.ext (by show d.1 = 64 * 0 + d.1; omega))
    · exact congrArg (pad x1 _) (Fin.ext (by show d.1 = 64 * 0 + d.1; omega))
  · rw [if_neg hl, scoresHi_apply]
    have e0 : (⟨l.1 / 64, by omega⟩ : Fin 2) = 1 := Fin.ext (by show l.1 / 64 = 1; omega)
    rw [e0]
    refine congrArg₂ (fun a b : EReal => a + b) (Finset.sum_congr rfl fun d _ => ?_) (hb 1 r c)
    refine congrArg₂ (fun a b : EReal => a * b) (congrArg (fun a : EReal => a * eighth) ((q r _).trans ?_)) ((k c _).trans ?_)
    · exact congrArg (fun z => x0 (ix2 _ z)) (Fin.ext (by show 64 + d.1 = 64 * 1 + d.1; omega))
    · exact congrArg (pad x1 _) (Fin.ext (by show 64 + d.1 = 64 * 1 + d.1; omega))

/-- The padded block: 512 rows of zeros, then the block. -/
theorem padded_apply (v : View sig .tc .vmem S2560x128 .f32) (f : BufTy.Contents (Elt Ideal) v.ty) (x : Vec Ideal S2048x128 .bf16)
    (p : FVec Ideal S2048x128 .f32) (z : FVec Ideal S512x128 .f32) (hp : ∀ r l, p (ix2 r l) = x (ix2 r l)) (hz : ∀ y, z y = 0)
    (h : ∀ a, (![512, 0] : Fin 2 → ℕ) a + S2048x128.size a ≤ S2560x128.size a) (h' : ∀ a, (![0, 0] : Fin 2 → ℕ) a + S512x128.size a ≤ S2560x128.size a)
    (r : Fin 2560) (l : Fin 128) :
    v.read (Elt Ideal) (v.writes (Elt Ideal) f [⟨Rect.unit (s := S2560x128) ![512, 0] S2048x128.size h, p⟩,
      ⟨Rect.unit (s := S2560x128) ![0, 0] S512x128.size h', z⟩]) (ix2 r l) = pad x r.1 l := by
  refine View.read_writes_apply_of_pieces (v := v) (f := f) (fun y => (show EReal from pad x (y 0).1 ⟨(y 1).1, (y 1).2⟩)) _ ?_ (ix2 r l) ?_
  · intro q hq y
    rcases List.mem_cons.mp hq with rfl | hq
    · obtain ⟨i, j, rfl⟩ : ∃ (i : Fin 2048) (j : Fin 128), y = ix2 i j := ⟨y 0, y 1, funext fun i => match i with | ⟨0, _⟩ => rfl | ⟨1, _⟩ => rfl⟩
      have hi := i.2
      refine (hp i j).trans ?_
      dsimp only
      rw [emb2 rfl h i j (by omega) j.2]
      exact (pad_row x i j).symm
    · rw [List.mem_singleton] at hq
      subst hq
      obtain ⟨i, j, rfl⟩ : ∃ (i : Fin 512) (j : Fin 128), y = ix2 i j := ⟨y 0, y 1, funext fun i => match i with | ⟨0, _⟩ => rfl | ⟨1, _⟩ => rfl⟩
      have hi := i.2
      refine (hz _).trans ?_
      dsimp only
      rw [emb2 rfl h' i j (by omega) j.2]
      exact (pad_zero x i j).symm
  · have hr := r.2
    have hl := l.2
    by_cases hc : 512 ≤ r.1
    · refine ⟨⟨Rect.unit (s := S2560x128) ![512, 0] S2048x128.size h, p⟩, List.mem_cons_self, (Rect.mem_set_unit (inb := h)).mpr fun a => ?_⟩
      match a with
      | ⟨0, _⟩ => show 512 ≤ r.1 ∧ r.1 < 512 + 2048; omega
      | ⟨1, _⟩ => show 0 ≤ l.1 ∧ l.1 < 0 + 128; omega
    · refine ⟨⟨Rect.unit (s := S2560x128) ![0, 0] S512x128.size h', z⟩, List.mem_cons_of_mem _ List.mem_cons_self, (Rect.mem_set_unit (inb := h')).mpr fun a => ?_⟩
      match a with
      | ⟨0, _⟩ => show 0 ≤ r.1 ∧ r.1 < 0 + 512; omega
      | ⟨1, _⟩ => show 0 ≤ l.1 ∧ l.1 < 0 + 128; omega

end

theorem off3 : ∀ (k : Fin k0_t1_loop.trips) (j : Fin 8), k0_off3 k (BitVec.ofNat 32 j.1) = ![64 * (8 * (k.1 + 1) + j.1), 0] := by decide +kernel
theorem off4 : ∀ (k : Fin k0_t1_loop.trips) (j : Fin 8), k0_off4 k (BitVec.ofNat 32 j.1) = ![64 * (8 * (k.1 + 1) + j.1), 0] := by decide +kernel
theorem trips_eq : k0_t1_loop.trips = 3 := by decide +kernel

section
variable (c : Dev nD) (i : grid0.Coords) (arg2 : Memref sig .tc .vmem S2048x128 .bf16) (harg2 : arg2.IsWhole)
  (arg3 : Memref sig .tc .vmem S2048x128 .bf16) (harg3 : arg3.IsWhole) (arg4 : Memref sig .tc .vmem S2048x128 .bf16) (harg4 : arg4.IsWhole)
  (arg5 : Memref sig .tc .vmem S2x64x576 .f32) (harg5 : arg5.IsWhole) (arg6 : Memref sig .tc .vmem S2048x128 .bf16) (harg6 : arg6.IsWhole)
  (arg7 : Memref sig .tc .vmem S2560x128 .f32) (harg7 : arg7.IsWhole) (arg8 : Memref sig .tc .vmem S2560x128 .f32) (harg8 : arg8.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

theorem keys_apply (r : Fin 2560) (l : Fin 128) : arg7.view.read (Elt Ideal) (keysOf c arg3 harg3 arg7 x1) (ix2 r l) = pad x1 r.1 l := by
  unfold keysOf kernelRun0_A.sl.HS0_2
  refine padded_apply _ _ x1 _ _ (fun r l => ?_) (fun y => ?_) _ _ r l
  · rw [View.readAt_eq_ld, harg3.read_unread, View.ld_unit_zero (S := S2048x128) hz2]
    pointwise [k0_pay142]
  · pointwise [k0_pay140]

theorem values_apply (r : Fin 2560) (l : Fin 128) : arg8.view.read (Elt Ideal) (valuesOf c arg4 harg4 arg8 x2) (ix2 r l) = pad x2 r.1 l := by
  unfold valuesOf kernelRun0_A.sl.HS1_2
  refine padded_apply _ _ x2 _ _ (fun r l => ?_) (fun y => ?_) _ _ r l
  · rw [View.readAt_eq_ld, harg4.read_unread, View.ld_unit_zero (S := S2048x128) hz2]
    pointwise [k0_pay143]
  · pointwise [k0_pay141]

theorem bias_apply (e : Fin 2) (r : Fin 64) (q : Fin 576) : biasOf c arg5 harg5 x3 (ix3 e r q) = x3 (ix3 e r q) := by
  unfold biasOf kernelRun0_A.sl.r
  rw [View.readAt_eq_ld, harg5.read_unread, View.ld_unit_zero (S := S2x64x576) hz3]
  pointwise [k0_pay144]

/-- What the body leaves in the output's block. -/
theorem body_apply (y : S2048x128.Idx) :
    out0_A_4 c i arg2 harg2 arg3 harg3 arg4 harg4 arg5 harg5 arg6 harg6 arg7 harg7 arg8 harg8 x0 x1 x2 x3 y = blockArr x0 x1 x2 x3 y := by
  unfold out0_A_4
  refine View.read_writes_apply_of_pieces (v := VO0_4) (f := VO0_4.junk) (blockArr x0 x1 x2 x3) _ ?_ y (cover0_A_4 c i arg2 harg2 arg3 harg3 arg4 harg4 arg5 harg5 arg6 harg6 arg7 harg7 arg8 harg8 x0 x1 x2 x3 y)
  have h2 : ∀ r l, arg2.view.read (Elt Ideal) (harg2.unread x0) (ix2 r l) = x0 (ix2 r l) := fun r l => congrFun (harg2.read_unread x0) _
  have step := piece_apply x0 x1 x2 x3 arg2 arg7 arg8 (biasOf c arg5 harg5 x3) (harg2.unread x0) (keysOf c arg3 harg3 arg7 x1)
    (valuesOf c arg4 harg4 arg8 x2) h2 (keys_apply x1 c arg3 harg3 arg7) (values_apply x2 c arg4 harg4 arg8) (bias_apply x3 c arg5 harg5)
  have first : ∀ (j : Fin 8) (x), (firstPiece c arg2 harg2 arg3 harg3 arg4 harg4 arg5 harg5 arg7 arg8 x0 x1 x2 x3 j).2 x =
      blockArr x0 x1 x2 x3 ((firstPiece c arg2 harg2 arg3 harg3 arg4 harg4 arg5 harg5 arg7 arg8 x0 x1 x2 x3 j).1.emb x) := fun j x =>
    step _ ⟨j.1, by omega⟩ (fun s r q => masked_apply j s r q) _ _ rfl rfl (inb j) (inb' j) x
  have later : ∀ (k : Fin k0_t1_loop.trips) (j : Fin 8) (x), _ = _ := fun k j x =>
    step (fun s => s) ⟨8 * (k.1 + 1) + j.1, by have := lt_of_lt_of_eq k.2 trips_eq; omega⟩
      (fun s r q => (if_pos (by dsimp only; omega)).symm) _ _ (off3 k j) (off4 k j) (k0_off3_inb k j) (k0_off4_inb k j) x
  have trips : ∀ n ≤ 3, ∀ p ∈ pb_k0_t1 Variants.none c none i arg2 harg2 arg3 harg3 arg4 harg4 arg5 harg5 arg6 harg6 arg7 harg7 arg8 harg8
        (biasOf c arg5 harg5 x3) (harg2.unread x0) (keysOf c arg3 harg3 arg7 x1) (valuesOf c arg4 harg4 arg8 x2) n, ∀ x, p.2 x = blockArr x0 x1 x2 x3 (p.1.emb x) := by
    intro n
    induction n with
    | zero => intro _ p hp; exact absurd hp List.not_mem_nil
    | succ n ih =>
      intro hn p hp
      have e := pb_k0_t1_succ (F := Ideal) Variants.none c none i arg2 harg2 arg3 harg3 arg4 harg4 arg5 harg5 arg6 harg6 arg7 harg7 arg8 harg8
        (biasOf c arg5 harg5 x3) (harg2.unread x0) (keysOf c arg3 harg3 arg7 x1) (valuesOf c arg4 harg4 arg8 x2) ⟨n, by rw [trips_eq]; omega⟩
      rw [e, trip_pieces] at hp
      rcases List.mem_append.mp hp with hp | hp
      · simp only [List.mem_cons, List.not_mem_nil, or_false] at hp
        rcases hp with rfl | rfl | rfl | rfl | rfl | rfl | rfl | rfl
        · exact later _ 7
        · exact later _ 6
        · exact later _ 5
        · exact later _ 4
        · exact later _ 3
        · exact later _ 2
        · exact later _ 1
        · exact later _ 0
      · exact ih (by omega) p hp
  rw [body_pieces]
  intro p hp
  rcases List.mem_append.mp hp with hp | hp
  · exact trips 3 le_rfl p hp
  · simp only [List.mem_cons, List.not_mem_nil, or_false] at hp
    rcases hp with rfl | rfl | rfl | rfl | rfl | rfl | rfl | rfl
    all_goals exact first _

end

end Cert.AttnF

end
-- ==== Proof.AttnF.Kernel.lean ====
/-
  What the attention kernel's output array holds after the run: the band attention, each row's weights scaled by one reciprocal.
-/
module

public import proofs.«01_k».proof.Proof.AttnF.Block
public import proofs.«01_k».proof.Proof.Rms.Spec
public import Idealize.ShloMosaic.Lib.Claim
public import Idealize.ShloMosaic.Lib.StableHlo.ReadAt
public import Idealize.ShloMosaic.Lib.Tactic.WordOmega

@[expose] public section

set_option maxRecDepth 16384

noncomputable section

namespace Cert.AttnFwdIdeal.Val

open Cert.AttnFwdIdeal Cert.AttnFwdIdeal.Gen Cert.Rows Cert.AttnF
open Idealize.ShloMosaic Idealize.ShloMosaic.TcCoe Idealize.SL.Sem

variable (m : (ℓ : Loc nD τ sig) → Buf (Elt Ideal) ℓ)

/-! ## The operands at the call, from the arguments -/

theorem entry_p (c : Dev nD) (r : Fin 4096) (k : Fin 5760) (hk : k.1 < 1536) :
    V m c main_v34 (ix2 r k) = m ((c : Thread nD τ).loc main_arg0) (tok r ⟨k.1, by omega⟩) := by
  unfold V
  after_reads_at
  simp (disch := word_cmp_side) only [hlo_ix]
  rw [if_pos (show k.1 < 3584 by omega), dif_pos (by omega)]
  done

/-- The table's row of 192 entries followed by 447 copies of the last one. -/
theorem far_or (f3 : S8x192.Idx → EReal) (f2 : S8x447.Idx → EReal) (w : Fin 8 → Fin 257 → EReal) (h : Fin 8)
    (h3 : ∀ k, f3 (ix2 h k) = w h ⟨65 + k.1, by omega⟩) (h2 : ∀ k, f2 (ix2 h k) = w h ⟨256, by omega⟩) (p : ℕ) (hp : p < 639) (z : Fin 257)
    (hz : z.1 = min (65 + p) 256) :
    (if h1 : p < 192 then f3 (ix2 h ⟨p, h1⟩) else f2 (ix2 h ⟨p - 192, by omega⟩)) = w h z := by
  by_cases h1 : p < 192
  · rw [dif_pos h1, h3]
    exact congrArg (w h) (Fin.ext (by rw [hz]; dsimp only; omega))
  · rw [dif_neg h1, h2]
    exact congrArg (w h) (Fin.ext (by rw [hz]; dsimp only; omega))

theorem entry_b (c : Dev nD) (h : Fin 8) (i : Fin 64) (q : Fin 576) :
    V m c main_v15 (ix3 h i q) = m ((c : Thread nD τ).loc main_arg1) (ix3 0 h ⟨min (640 + i.1 - q.1) 256, by omega⟩) := by
  unfold V
  after_reads_at
  have hi := i.2
  have hq := q.2
  have hm : (i.1 * 638 + q.1) % 639 = if i.1 ≤ q.1 then q.1 - i.1 else 639 + q.1 - i.1 := by
    split
    · rw [show i.1 * 638 + q.1 = (q.1 - i.1) + 639 * i.1 by omega, Nat.add_mul_mod_self_left, Nat.mod_eq_of_lt (by omega)]
    · rw [show i.1 * 638 + q.1 = (639 + q.1 - i.1) + 639 * (i.1 - 1) by omega, Nat.add_mul_mod_self_left, Nat.mod_eq_of_lt (by omega)]
  by_cases hp : (i.1 * 638 + q.1) % 639 < 576
  · rw [dif_pos hp]
    after_reads_at
    refine far_or _ _ (fun a b => m ((c : Thread nD τ).loc main_arg1) (ix3 0 a b)) h ?_ ?_ (576 - ((i.1 * 638 + q.1) % 639 + 1)) (by omega) _ (by show min _ _ = min _ _; rw [hm] at hp ⊢; split_ifs at hp ⊢ <;> omega)
    · intro k
      after_reads_at
      done
    · intro k
      after_reads_at
      done
  · rw [dif_neg hp]
    after_reads_at
    refine far_or _ _ (fun a b => m ((c : Thread nD τ).loc main_arg1) (ix3 0 a b)) h ?_ ?_ (576 + (63 - ((i.1 * 638 + q.1) % 639 - 576 + 1))) (by omega) _ (by show min _ _ = min _ _; rw [hm] at hp ⊢; split_ifs at hp ⊢ <;> omega)
    · intro k
      after_reads_at
      done
    · intro k
      after_reads_at
      done

theorem idx : ∀ t : Fin cfg0.N, win0_0.index t = ![t.val % 2, t.val / 2] ∧ win0_1.index t = ![t.val % 2, 4 + t.val / 2] ∧ win0_2.index t = ![t.val % 2, 8 + t.val / 2]
    ∧ win0_3.index t = ![t.val / 2, 0, 0] ∧ win0_4.index t = ![t.val % 2, t.val / 2] :=
  (by decide +kernel : ∀ t : Fin grid0.N, _)

/-! ## The blocks: grid point `t` is batch `t % 2` and the heads `2 (t / 2)` and `2 (t / 2) + 1` -/

def bat (t : Fin cfg0.N) : Fin 2 := ⟨t.val % 2, by omega⟩

def row (t : Fin cfg0.N) (r : Fin 2048) : Fin 4096 := ⟨2048 * (t.val % 2) + r.1, by omega⟩

def col (o : Fin 3) (t : Fin cfg0.N) (l : Fin 128) : Fin 5760 :=
  ⟨512 * o.1 + 128 * (t.val / 2) + l.1, by have := t.isLt; have hN : cfg0.N = 8 := N_0; omega⟩

def head (t : Fin cfg0.N) (e : Fin 2) : Fin 8 := ⟨2 * (t.val / 2) + e.1, by have := t.isLt; have hN : cfg0.N = 8 := N_0; omega⟩

theorem col_lt (o : Fin 3) (t : Fin cfg0.N) (l : Fin 128) : (col o t l).1 < 1536 := by
  have := t.isLt
  have hN : cfg0.N = 8 := N_0
  unfold col
  dsimp only
  omega

theorem read_q (c : Dev nD) (t : Fin cfg0.N) (r : Fin 2048) (l : Fin 128) : iblk m c 0 t (ix2 r l) = V m c main_v34 (ix2 (row t r) (col 0 t l)) := by
  unfold row col
  blk_ext [iblk, idx t]

theorem read_k (c : Dev nD) (t : Fin cfg0.N) (r : Fin 2048) (l : Fin 128) : iblk m c 1 t (ix2 r l) = V m c main_v34 (ix2 (row t r) (col 1 t l)) := by
  unfold row col
  blk_ext [iblk, idx t]

theorem read_v (c : Dev nD) (t : Fin cfg0.N) (r : Fin 2048) (l : Fin 128) : iblk m c 2 t (ix2 r l) = V m c main_v34 (ix2 (row t r) (col 2 t l)) := by
  unfold row col
  blk_ext [iblk, idx t]

theorem read_b (c : Dev nD) (t : Fin cfg0.N) (e : Fin 2) (i : Fin 64) (q : Fin 576) : iblk m c 3 t (ix3 e i q) = V m c main_v15 (ix3 (head t e) i q) := by
  unfold head
  blk_ext [iblk, idx t]

/-! ## The output array -/

/-- A block of the specification: when the operands' blocks are parts of `x` and `w`. -/
theorem block_eq (x0 x1 x2 : Vec Ideal S2048x128 .bf16) (x3 : Vec Ideal S2x64x576 .f32) (x : Proj) (w : Bias) (b : Fin 2) (p : ℕ) (hp : p < 4)
    (h0 : ∀ r l, x0 (ix2 r l) = x b r ⟨128 * p + l.1, by omega⟩) (h1 : ∀ r l, x1 (ix2 r l) = x b r ⟨512 + 128 * p + l.1, by omega⟩)
    (h2 : ∀ r l, x2 (ix2 r l) = x b r ⟨1024 + 128 * p + l.1, by omega⟩) (h3 : ∀ e i c, x3 (ix3 e i c) = bias w ⟨2 * p + e.1, by omega⟩ i c)
    (n : Fin 32) (i : Fin 64) (l : Fin 128) :
    blockOut x0 x1 x2 x3 n i l = softDot' (score x w b ⟨2 * p + l.1 / 64, by omega⟩ n i) fun c => band x 1 b ⟨2 * p + l.1 / 64, by omega⟩ n c ⟨l.1 % 64, by omega⟩ := by
  have hk : ∀ (c : Fin 576) (d : Fin 64), pad x1 (64 * n.1 + c.1) ⟨64 * (l.1 / 64) + d.1, by omega⟩ = band x 0 b ⟨2 * p + l.1 / 64, by omega⟩ n c d := fun c d => by
    unfold Cert.AttnF.pad band
    by_cases h : 512 ≤ 64 * n.1 + c.1
    · rw [dif_pos ⟨h, by omega⟩, dif_pos h]
      exact (h1 _ _).trans (congrArg (x b _) (Fin.ext (by show 512 + 128 * p + (64 * (l.1 / 64) + d.1) = 512 + 512 * 0 + 64 * (2 * p + l.1 / 64) + d.1; omega)))
    · rw [dif_neg (fun h' => h h'.1), dif_neg h]
  have hv : ∀ c : Fin 576, pad x2 (64 * n.1 + c.1) l = band x 1 b ⟨2 * p + l.1 / 64, by omega⟩ n c ⟨l.1 % 64, by omega⟩ := fun c => by
    unfold Cert.AttnF.pad band
    by_cases h : 512 ≤ 64 * n.1 + c.1
    · rw [dif_pos ⟨h, by omega⟩, dif_pos h]
      exact (h2 _ _).trans (congrArg (x b _) (Fin.ext (by show 1024 + 128 * p + l.1 = 512 + 512 * 1 + 64 * (2 * p + l.1 / 64) + l.1 % 64; omega)))
    · rw [dif_neg (fun h' => h h'.1), dif_neg h]
  have hs : blockScore x0 x1 x3 ⟨l.1 / 64, by omega⟩ n i = score x w b ⟨2 * p + l.1 / 64, by omega⟩ n i := funext fun c => by
    unfold blockScore score
    by_cases h : 512 ≤ 64 * n.1 + c.1
    · rw [if_pos h, if_pos h]
      refine congrArg₂ (fun a b : EReal => a + b) (Finset.sum_congr rfl fun d _ => ?_) (h3 _ _ _)
      refine congrArg₂ (fun a b : EReal => a * eighth * b) ((h0 _ _).trans ?_) (hk c d)
      exact congrArg (x b _) (Fin.ext (by show 128 * p + (64 * (l.1 / 64) + d.1) = 64 * (2 * p + l.1 / 64) + d.1; omega))
    · rw [if_neg h, if_neg h]
  unfold blockOut
  rw [hs]
  exact congrArg _ (funext hv)

/-- The projections and the table of biases. -/
def projOf (c : Dev nD) : Proj := fun b r k => m ((c : Thread nD τ).loc main_arg0) (ix3 b r k)
def biasTable (c : Dev nD) : Bias := fun h k => m ((c : Thread nD τ).loc main_arg1) (ix3 0 h k)

theorem tok_row (t : Fin cfg0.N) (r : Fin 2048) {n : ℕ} (k k' : Fin n) (hk : k.1 = k'.1) : tok (row t r) k = ix3 (bat t) r k' := by
  obtain rfl := Fin.ext hk
  have h0 : (row t r).1 / 2048 = t.val % 2 := by unfold row; dsimp only; omega
  have h1 : (row t r).1 % 2048 = r.1 := by unfold row; dsimp only; omega
  exact congrArg₂ (fun a b => ix3 a b k) (Fin.ext h0) (Fin.ext h1)

theorem at_out (c : Dev nD) (t : Fin cfg0.N) (n : Fin 32) (i : Fin 64) (l : Fin 128) :
    blockOut (iblk m c 0 t) (iblk m c 1 t) (iblk m c 2 t) (iblk m c 3 t) n i l
      = softDot' (score (projOf m c) (biasTable m c) (bat t) ⟨2 * (t.val / 2) + l.1 / 64, by have := t.isLt; have hN : cfg0.N = 8 := N_0; omega⟩ n i)
        fun q => band (projOf m c) 1 (bat t) ⟨2 * (t.val / 2) + l.1 / 64, by have := t.isLt; have hN : cfg0.N = 8 := N_0; omega⟩ n q ⟨l.1 % 64, by omega⟩ :=
  block_eq _ _ _ _ (projOf m c) (biasTable m c) (bat t) (t.val / 2) (by have := t.isLt; have hN : cfg0.N = 8 := N_0; omega)
    (fun r l => (read_q m c t r l).trans ((entry_p m c _ _ (col_lt 0 t l)).trans (congrArg (m ((c : Thread nD τ).loc main_arg0)) (tok_row t r _ _ (by show 512 * 0 + 128 * (t.val / 2) + l.1 = 128 * (t.val / 2) + l.1; omega)))))
    (fun r l => (read_k m c t r l).trans ((entry_p m c _ _ (col_lt 1 t l)).trans (congrArg (m ((c : Thread nD τ).loc main_arg0)) (tok_row t r _ _ (by show 512 * 1 + 128 * (t.val / 2) + l.1 = 512 + 128 * (t.val / 2) + l.1; omega)))))
    (fun r l => (read_v m c t r l).trans ((entry_p m c _ _ (col_lt 2 t l)).trans (congrArg (m ((c : Thread nD τ).loc main_arg0)) (tok_row t r _ _ (by show 512 * 2 + 128 * (t.val / 2) + l.1 = 1024 + 128 * (t.val / 2) + l.1; omega)))))
    (fun e i q => (read_b m c t e i q).trans (entry_b m c _ i q)) n i l

/-- The row's attention as the kernel writes it. -/
def outK (x : Proj) (w : Bias) (r : Fin 4096) (k : Fin 512) : EReal :=
  softDot' (score x w ⟨r.1 / 2048, by omega⟩ ⟨k.1 / 64, by omega⟩ ⟨r.1 % 2048 / 64, by omega⟩ ⟨r.1 % 64, by omega⟩)
    fun q => band x 1 ⟨r.1 / 2048, by omega⟩ ⟨k.1 / 64, by omega⟩ ⟨r.1 % 2048 / 64, by omega⟩ q ⟨k.1 % 64, by omega⟩

theorem outK_of (x : Proj) (w : Bias) (r : Fin 4096) (k : Fin 512) (b : Fin 2) (h : Fin 8) (n : Fin 32) (i d : Fin 64)
    (hb : b.1 = r.1 / 2048) (hh : h.1 = k.1 / 64) (hn : n.1 = r.1 % 2048 / 64) (hi : i.1 = r.1 % 64) (hd : d.1 = k.1 % 64) :
    softDot' (score x w b h n i) (fun q => band x 1 b h n q d) = outK x w r k := by
  unfold outK
  have eb : b = ⟨r.1 / 2048, by omega⟩ := Fin.ext hb
  have eh : h = ⟨k.1 / 64, by omega⟩ := Fin.ext hh
  have en : n = ⟨r.1 % 2048 / 64, by omega⟩ := Fin.ext hn
  have ei : i = ⟨r.1 % 64, by omega⟩ := Fin.ext hi
  have ed : d = ⟨k.1 % 64, by omega⟩ := Fin.ext hd
  rw [eb, eh, en, ei, ed]

theorem at_block (x : Proj) (w : Bias) (t : Fin cfg0.N) (y : S2048x128.Idx) (z : S4096x512.Idx) (v : EReal)
    (hv : v = softDot' (score x w (bat t) ⟨2 * (t.val / 2) + (y 1).1 / 64, by have := t.isLt; have hN : cfg0.N = 8 := N_0; have h1 : (y 1).1 < 128 := (y 1).2; omega⟩
        ⟨(y 0).1 / 64, by have h0 : (y 0).1 < 2048 := (y 0).2; omega⟩ ⟨(y 0).1 % 64, by omega⟩)
      fun q => band x 1 (bat t) ⟨2 * (t.val / 2) + (y 1).1 / 64, by have := t.isLt; have hN : cfg0.N = 8 := N_0; have h1 : (y 1).1 < 128 := (y 1).2; omega⟩
        ⟨(y 0).1 / 64, by have h0 : (y 0).1 < 2048 := (y 0).2; omega⟩ q ⟨(y 1).1 % 64, by omega⟩)
    (h0 : (z 0).1 = t.val % 2 * 2048 + (y 0).1) (h1 : (z 1).1 = t.val / 2 * 128 + (y 1).1) : v = arr (outK x w) z := by
  have hy0 : (y 0).1 < 2048 := (y 0).2
  have hy1 : (y 1).1 < 128 := (y 1).2
  rw [hv]
  refine outK_of x w (z 0) (z 1) _ _ _ _ _ ?_ ?_ ?_ ?_ ?_
  · show t.val % 2 = (z 0).1 / 2048; omega
  · show 2 * (t.val / 2) + (y 1).1 / 64 = (z 1).1 / 64; omega
  · show (y 0).1 / 64 = (z 0).1 % 2048 / 64; omega
  · show (y 0).1 % 64 = (z 0).1 % 64; omega
  · show (y 1).1 % 64 = (z 1).1 % 64; omega

theorem out_eq (c : Dev nD) : (dats m 0 c).arrAt 4 cfg0.N = arr (outK (projOf m c) (biasTable m c)) := by
  refine (dats m 0 c).arrAt_eq_of_covers 4 _ (by decide +kernel) fun t hf y => ?_
  blk_simp
  refine at_block _ _ t y _ _ ?_ (?_ : _ = _) (?_ : _ = _)
  rotate_left
  iterate 2 blk_simp [idx t]
  rw [after0_4]
  unfold outsAt0
  exact (body_apply _ _ _ _ _ _ _ _ _ _ _ _ _ _ _ _ _ _ _ _ _).trans (at_out m c t _ _ _)

end Cert.AttnFwdIdeal.Val

end
-- ==== Proof.AttnF.Pair.lean ====
/-
  The attention kernel and the plain band attention agree where the queries, the keys and the biases are finite.
-/
module

public import proofs.«01_k».proof.Defs
public import proofs.«01_k».proof.Proof.Gen.Pre_attn_finite
public import proofs.«01_k».proof.Proof.Gen.AttnFwdIdeal.Value
public import proofs.«01_k».proof.Proof.AttnF.Finite
public import proofs.«01_k».proof.Proof.AttnF.Kernel
public import proofs.«01_k».proof.Proof.AttnF.Ref

@[expose] public section

set_option maxRecDepth 16384

noncomputable section

namespace Cert.Proof

open Cert.Rows Cert.AttnF Idealize.ShloMosaic Idealize.ShloMosaic.TcCoe Idealize.SL.Sem

theorem algebraic_attnf : Cert.algebraic_AttnFwdIdeal_AttnFRefIdeal_pre_attn_finite (hAttnFwdIdeal := Cert.AttnFwdIdeal.Gen.facts)
    (hAttnFRefIdeal := Cert.AttnFRefIdeal.Gen.facts) (hPre_attn_finite := Cert.Pre_attn_finite.Gen.facts) := by
  intro m g m' g' hpre hagree
  have hs : ∀ (c : Dev Cert.AttnFwdIdeal.nD) b h n i q, Fin' (score (Cert.AttnFwdIdeal.Val.projOf m c) (Cert.AttnFwdIdeal.Val.biasTable m c) b h n i q) := fun c =>
    haveI := Cert.Pre_attn_finite.Gen.facts
    score_finite _ _ (fun b r k hk => finite_proj _ _ (hpre c) b r k hk) (fun h k => finite_bias _ _ (hpre c) h k)
  have hk : ∀ c : Dev Cert.AttnFwdIdeal.nD, Cert.AttnFwdIdeal.Val.outK (Cert.AttnFwdIdeal.Val.projOf m c) (Cert.AttnFwdIdeal.Val.biasTable m c)
      = flat (out (Cert.AttnFwdIdeal.Val.projOf m c) (Cert.AttnFwdIdeal.Val.biasTable m c)) := fun c =>
    funext fun r => funext fun k => softDot_eq _ _ (hs c _ _ _ _)
  refine ⟨fun c => arr (flat (out (Cert.AttnFwdIdeal.Val.projOf m c) (Cert.AttnFwdIdeal.Val.biasTable m c))),
    (θ_run _ _ _).mono (fun r h c => ?_) (Cert.AttnFwdIdeal.Value.run_blocks m g),
    (θ_run _ _ _).mono (fun r h c => ?_) (Cert.AttnFRefIdeal.Val.run m' g')⟩
  · obtain ⟨h4, k⟩ := h c
    exact ⟨(h4.trans (Cert.AttnFwdIdeal.Val.out_eq m c)).trans (congrArg arr (hk c)), k⟩
  · obtain ⟨e0, e1⟩ := hagree c
    obtain ⟨h0, k⟩ := h c
    simp only [e0, e1] at h0
    exact ⟨h0, k⟩

end Cert.Proof

end
-- ==== Proof.Residual.RmsMix.lean ====
/-
  The norm before the projection: the kernel's output array, and the pair with the reference.
-/
module

public import proofs.«01_k».proof.Proof.Residual.Spec
public import proofs.«01_k».proof.Proof.Gen.RmsMixIdeal.Value
public import proofs.«01_k».proof.Defs
public import proofs.«01_k».proof.Proof.Residual.RmsMixRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.RmsMixIdeal.Val

open Cert.RmsMixIdeal Cert.RmsMixIdeal.Gen Cert.Rows
open Idealize.ShloMosaic Idealize.ShloMosaic.TcCoe Idealize.SL.Sem

variable (m : (ℓ : Loc nD τ sig) → Buf (Elt Ideal) ℓ)

theorem entry_x (c : Dev nD) (r : Fin 4096) (k : Fin 1024) : V m c main_v0 (ix2 r k) = m ((c : Thread nD τ).loc main_arg0) (tok r k) := by
  unfold V
  after_reads_at

theorem entry_g (c : Dev nD) (z : Fin 1) (q : Fin 1024) : V m c main_arg1 (ix2 z q) = m ((c : Thread nD τ).loc main_arg1) (ix2 0 q) := by
  obtain rfl : z = 0 := Subsingleton.elim _ _
  unfold V
  after_reads_at

/-! ## The blocks: grid point `t` is the block of 512 rows -/

theorem idx : ∀ t : Fin cfg0.N, win0_0.index t = ![t.val, 0] ∧ win0_1.index t = ![0, 0] ∧ win0_2.index t = ![t.val, 0] :=
  (by decide +kernel : ∀ t : Fin grid0.N, _)

def row (t : Fin cfg0.N) (l : Fin 512) : Fin 4096 := ⟨512 * t.val + l.1, by have := t.isLt; have hN : cfg0.N = 8 := N_0; omega⟩

theorem read_x (c : Dev nD) (t : Fin cfg0.N) (l : Fin 512) (q : Fin 1024) : iblk m c 0 t (ix2 l q) = m ((c : Thread nD τ).loc main_arg0) (tok (row t l) q) := by
  refine Eq.trans ?_ (entry_x m c (row t l) q)
  unfold row
  blk_ext [iblk, idx t]

theorem read_g (c : Dev nD) (t : Fin cfg0.N) (z : Fin 1) (q : Fin 1024) : iblk m c 1 t (ix2 z q) = m ((c : Thread nD τ).loc main_arg1) (ix2 0 q) := by
  refine Eq.trans ?_ (entry_g m c z q)
  blk_ext [iblk, idx t]

theorem pay_at (x : Vec Ideal S512x1024 .f32) (g : Vec Ideal S1x1024 .f32) (l : Fin 512) (q : Fin 1024)
    (X : Fin 1024 → EReal) (G : Cert.Residual.Gain) (hx : ∀ k, x (ix2 l k) = X k) (hg : g (ix2 0 q) = G (ix2 0 q)) :
    k0_pay1 (F := Ideal) x g (ix2 l q) = Cert.Residual.scaled X G q := by
  pointwise [k0_pay1]
  simp only [hx, hg]
  rfl

theorem at_block (f : Fin 4096 → Fin 1024 → EReal) (t : Fin cfg0.N) (y : S512x1024.Idx) (z : S4096x1024.Idx)
    (h0 : (z 0).1 = t.val * 512 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out (c : Dev nD) : (dats m 0 c).arrAt 2 cfg0.N = arr (Cert.Residual.norm (m ((c : Thread nD τ).loc main_arg0)) (m ((c : Thread nD τ).loc main_arg1))) := by
  refine (dats m 0 c).arrAt_eq_of_covers 2 _ (by decide +kernel) fun t hf y => ?_
  blk_simp
  refine Eq.trans ?_ (at_block _ t y _ (?_ : _ = _) (?_ : _ = _)).symm
  rotate_left
  iterate 2 blk_simp [idx t]
  rw [after0_2]
  unfold out0_2
  frame_out
  rw [ix2_eta y]
  exact pay_at _ _ _ _ _ _ (fun k => read_x m c t _ k) (read_g m c t 0 _)

end Cert.RmsMixIdeal.Val

namespace Cert.Proof

open Cert.Rows Idealize.ShloMosaic Idealize.ShloMosaic.TcCoe Idealize.SL.Sem

theorem algebraic_rms_mix : Cert.algebraic_RmsMixIdeal_RmsMixRefIdeal (hRmsMixIdeal := Cert.RmsMixIdeal.Gen.facts) (hRmsMixRefIdeal := Cert.RmsMixRefIdeal.Gen.facts) := by
  intro m g m' g' _ hagree
  refine ⟨fun c => arr (Cert.Residual.norm (m ((c.tc : Thread Cert.RmsMixIdeal.nD Cert.RmsMixIdeal.τ).loc Cert.RmsMixIdeal.main_arg0)) (m ((c.tc : Thread Cert.RmsMixIdeal.nD Cert.RmsMixIdeal.τ).loc Cert.RmsMixIdeal.main_arg1))),
    (θ_run _ _ _).mono (fun r h c => ?_) (Cert.RmsMixIdeal.Value.run_blocks m g), (θ_run _ _ _).mono (fun r h c => ?_) (Cert.RmsMixRefIdeal.Val.run m' g')⟩
  · obtain ⟨h0, k⟩ := h c
    exact ⟨h0.trans (Cert.RmsMixIdeal.Val.out m c), k⟩
  · obtain ⟨e0, e1⟩ := hagree c
    obtain ⟨h0, k⟩ := h c
    simp only [e0, e1] at h0
    exact ⟨h0, k⟩

end Cert.Proof

end
-- ==== Proof.Conv.Fwd.lean ====
/-
  The forward convolution and its SiLU: the kernel's output array, and the pair with the reference.
-/
module

public import proofs.«01_k».proof.Proof.Conv.Spec
public import proofs.«01_k».proof.Proof.Gen.ConvFwdIdeal.Value
public import proofs.«01_k».proof.Defs
public import proofs.«01_k».proof.Proof.Conv.FwdRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.ConvFwdIdeal.Val

open Cert.ConvFwdIdeal Cert.ConvFwdIdeal.Gen Cert.Rows
open Idealize.ShloMosaic Idealize.ShloMosaic.TcCoe Idealize.SL.Sem

variable (m : (ℓ : Loc nD τ sig) → Buf (Elt Ideal) ℓ)

/-! ## The operands at the call, from the arguments -/

/-- The permuted projection's columns below 3584 are the projection's. -/
theorem entry_x (c : Dev nD) (r : Fin 4096) (k : Fin 5760) (h : k.1 < 3584) :
    V m c main_v18 (ix2 r k) = m ((c : Thread nD τ).loc main_arg0) (tok r ⟨k.1, by omega⟩) := by
  unfold V
  after_reads_at
  simp (disch := word_cmp_side) only [hlo_ix]
  rw [if_pos h, dif_pos (by omega)]

theorem entry_w (c : Dev nD) (j : Fin 4) (k : Fin 1536) : V m c main_v19 (ix2 j k) = m ((c : Thread nD τ).loc main_arg1) (ix3 0 j k) := by
  unfold V
  after_reads_at

/-! ## The blocks: grid point `t` is column block `t / 2` of sequence `t % 2` -/

theorem idx : ∀ t : Fin cfg0.N, win0_0.index t = ![t.val % 2, 6 + t.val / 2] ∧ win0_1.index t = ![0, t.val / 2] ∧ win0_2.index t = ![t.val % 2, t.val / 2] :=
  (by decide +kernel : ∀ t : Fin grid0.N, _)

/-- Row `l` of point `t`'s block in the stacked array. -/
def row (t : Fin cfg0.N) (l : Fin 2048) : Fin 4096 := ⟨2048 * (t.val % 2) + l.1, by omega⟩

/-- Channel `q` of point `t`'s block. -/
def col (t : Fin cfg0.N) (q : Fin 256) : Fin 1536 := ⟨256 * (t.val / 2) + q.1, by have := t.isLt; have hN : cfg0.N = 12 := N_0; omega⟩

theorem read_x (c : Dev nD) (t : Fin cfg0.N) (l : Fin 2048) (q : Fin 256) :
    X0_0 m c t (ix2 l q) = Cert.Conv.input (m ((c : Thread nD τ).loc main_arg0)) (row t l) (col t q) := by
  have hc := (col t q).isLt
  refine Eq.trans ?_ ((entry_x m c (row t l) ⟨1536 + (col t q).1, by omega⟩ (by dsimp only; omega)).trans ?_)
  · unfold X0_0 Pipeline.Window.fill
    rw [dif_pos (moved0_0 t _)]
    unfold row col
    blk_ext [iblk, idx t]
  · exact congrArg _ (tok_congr rfl (by simp only [Cert.Conv.colX]))

theorem read_w (c : Dev nD) (t : Fin cfg0.N) (j : Fin 4) (q : Fin 256) : iblk m c 1 t (ix2 j q) = m ((c : Thread nD τ).loc main_arg1) (ix3 0 j (col t q)) := by
  refine Eq.trans ?_ (entry_w m c j (col t q))
  unfold col
  blk_ext [iblk, idx t]

/-- A rotation by `s` rows of a block, with the rows before the sequence's start zeroed. -/
theorem behind_at (s : Nat) (f : Fin 4096 → Fin 1536 → EReal) (t : Fin cfg0.N) (l l' : Fin 2048) (q : Fin 256) (h : s ≤ l.1 → l'.1 + s = l.1) :
    (if s ≤ l.1 then f (row t l') (col t q) else 0) = Cert.Conv.behind s f (row t l) (col t q) := by
  have e : (row t l).1 % 2048 = l.1 := by simp only [row]; omega
  simp only [Cert.Conv.behind, e]
  split_ifs with hl
  · exact congrArg (f · _) (Fin.ext (by have := h hl; simp only [row]; omega))
  · rfl

theorem behind_mul_at (s : Nat) (f : Fin 4096 → Fin 1536 → EReal) (w : EReal) (t : Fin cfg0.N) (l l' : Fin 2048) (q : Fin 256) (h : s ≤ l.1 → l'.1 + s = l.1) :
    (if s ≤ l.1 then f (row t l') (col t q) * w else 0) = Cert.Conv.behind s f (row t l) (col t q) * w := by
  rw [← behind_at s f t l l' q h, ite_mul, zero_mul]

theorem at_pay (c : Dev nD) (t : Fin cfg0.N) (l : Fin 2048) (q : Fin 256) :
    k0_pay1 (F := Ideal) (X0_0 m c t) (iblk m c 1 t) (ix2 l q) = Cert.Conv.fwd (m ((c : Thread nD τ).loc main_arg0)) (m ((c : Thread nD τ).loc main_arg1)) (row t l) (col t q) := by
  pointwise [k0_pay1, read_x]
  simp (disch := word_cmp_side) only [hlo_ix]
  rw [read_w, read_w, read_w, read_w, behind_mul_at 1 _ _ t l _ q (fun _ => by dsimp only; omega), behind_mul_at 2 _ _ t l _ q (fun _ => by dsimp only; omega),
    behind_mul_at 3 _ _ t l _ q (fun _ => by dsimp only; omega)]
  rfl

theorem at_block (f : Fin 4096 → Fin 1536 → EReal) (t : Fin cfg0.N) (y : S2048x256.Idx) (z : S4096x1536.Idx)
    (h0 : (z 0).1 = t.val % 2 * 2048 + (y 0).1) (h1 : (z 1).1 = t.val / 2 * 256 + (y 1).1) : arr f z = f (row t (y 0)) (col t (y 1)) :=
  congrArg₂ f (Fin.ext (h0.trans (by unfold row; dsimp only; omega))) (Fin.ext (h1.trans (by unfold col; dsimp only; omega)))

theorem ix2_eta {a b : Nat} (y : (⟨2, ![a, b]⟩ : Shape).Idx) : y = ix2 (y 0) (y 1) := funext fun i => match i with | ⟨0, _⟩ => rfl | ⟨1, _⟩ => rfl

theorem out (c : Dev nD) : (dats m 0 c).arrAt 2 cfg0.N = arr (Cert.Conv.fwd (m ((c : Thread nD τ).loc main_arg0)) (m ((c : Thread nD τ).loc main_arg1))) := by
  refine (dats m 0 c).arrAt_eq_of_covers 2 _ (by decide +kernel) fun t hf y => ?_
  blk_simp
  refine Eq.trans ?_ (at_block _ t y _ (?_ : _ = _) (?_ : _ = _)).symm
  rotate_left
  iterate 2 blk_simp [idx t]
  rw [after0_2]
  unfold outsAt0
  frame_out
  rw [ix2_eta y]
  exact at_pay m c t _ _

end Cert.ConvFwdIdeal.Val

namespace Cert.Proof

open Cert.Rows Idealize.ShloMosaic Idealize.ShloMosaic.TcCoe Idealize.SL.Sem

theorem algebraic_conv_fwd : Cert.algebraic_ConvFwdIdeal_ConvFRefIdeal (hConvFwdIdeal := Cert.ConvFwdIdeal.Gen.facts) (hConvFRefIdeal := Cert.ConvFRefIdeal.Gen.facts) := by
  intro m g m' g' _ hagree
  refine ⟨fun c => arr (Cert.Conv.fwd (m ((c.tc : Thread Cert.ConvFwdIdeal.nD Cert.ConvFwdIdeal.τ).loc Cert.ConvFwdIdeal.main_arg0)) (m ((c.tc : Thread Cert.ConvFwdIdeal.nD Cert.ConvFwdIdeal.τ).loc Cert.ConvFwdIdeal.main_arg1))),
    (θ_run _ _ _).mono (fun r h c => ?_) (Cert.ConvFwdIdeal.Value.run_blocks m g), (θ_run _ _ _).mono (fun r h c => ?_) (Cert.ConvFRefIdeal.Val.run m' g')⟩
  · obtain ⟨h0, k⟩ := h c
    exact ⟨h0.trans (Cert.ConvFwdIdeal.Val.out m c), k⟩
  · obtain ⟨e0, e1⟩ := hagree c
    obtain ⟨h0, k⟩ := h c
    simp only [e0, e1] at h0
    exact ⟨h0, k⟩

end Cert.Proof

end
-- ==== Proof.Scalars.Fwd.lean ====
/-
  gate_scalars: the kernel's output array, and the pair with the reference.
-/
module

public import proofs.«01_k».proof.Proof.Scalars.Spec
public import proofs.«01_k».proof.Proof.Gen.GateScalarsFwdIdeal.Value
public import proofs.«01_k».proof.Defs
public import proofs.«01_k».proof.Proof.Scalars.FwdRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.GateScalarsFwdIdeal.Val

open Cert.GateScalarsFwdIdeal Cert.GateScalarsFwdIdeal.Gen Cert.Rows
open Idealize.ShloMosaic Idealize.ShloMosaic.TcCoe Idealize.SL.Sem

variable (m : (ℓ : Loc nD τ sig) → Buf (Elt Ideal) ℓ)

/-! ## The operands at the call, from the arguments -/

/-- The permuted projection's last block starts with the projection's columns 3584 to 3591. -/
theorem entry_p (c : Dev nD) (r : Fin 4096) (k : Fin 128) (h : k.1 < 8) : V m c main_v18 (ix2 r k) = m ((c : Thread nD τ).loc main_arg0) (tok r ⟨3584 + k.1, by omega⟩) := by
  unfold V
  after_reads_at
  simp (disch := word_cmp_side) only [hlo_ix]
  rw [if_neg (by omega), if_neg (by omega), if_pos (by omega), dif_pos (by omega)]
  exact congrArg _ (tok_congr rfl (by dsimp only; omega))

theorem entry_a (c : Dev nD) (z : Fin 1) (k : Fin 128) (h : 4 ≤ k.1) (h' : k.1 < 8) : V m c main_v21 (ix2 z k) = m ((c : Thread nD τ).loc main_arg1) (ix2 0 ⟨k.1 - 4, by omega⟩) := by
  obtain rfl : z = 0 := Subsingleton.elim _ _
  unfold V
  after_reads_at
  rw [dif_neg (by omega), dif_pos (by omega)]

theorem entry_d (c : Dev nD) (z : Fin 1) (k : Fin 128) (h : 4 ≤ k.1) (h' : k.1 < 8) : V m c main_v24 (ix2 z k) = m ((c : Thread nD τ).loc main_arg2) (ix2 0 ⟨k.1 - 4, by omega⟩) := by
  obtain rfl : z = 0 := Subsingleton.elim _ _
  unfold V
  after_reads_at
  rw [dif_neg (by omega), dif_pos (by omega)]

/-! ## The blocks: grid point `t` is the block of 1024 rows -/

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

def row (t : Fin cfg0.N) (l : Fin 1024) : Fin 4096 := ⟨1024 * t.val + l.1, by have := t.isLt; have hN : cfg0.N = 4 := N_0; omega⟩

theorem read_p (c : Dev nD) (t : Fin cfg0.N) (l : Fin 1024) (q : Fin 128) (h : q.1 < 8) :
    iblk m c 0 t (ix2 l q) = m ((c : Thread nD τ).loc main_arg0) (tok (row t l) ⟨3584 + q.1, by omega⟩) := by
  refine Eq.trans ?_ (entry_p m c (row t l) q h)
  unfold row
  blk_ext [iblk, idx t]

theorem read_a (c : Dev nD) (t : Fin cfg0.N) (z : Fin 1) (q : Fin 128) (h : 4 ≤ q.1) (h' : q.1 < 8) : iblk m c 1 t (ix2 z q) = m ((c : Thread nD τ).loc main_arg1) (ix2 0 ⟨q.1 - 4, by omega⟩) := by
  refine Eq.trans ?_ (entry_a m c z q h h')
  blk_ext [iblk, idx t]

theorem read_d (c : Dev nD) (t : Fin cfg0.N) (z : Fin 1) (q : Fin 128) (h : 4 ≤ q.1) (h' : q.1 < 8) : iblk m c 2 t (ix2 z q) = m ((c : Thread nD τ).loc main_arg2) (ix2 0 ⟨q.1 - 4, by omega⟩) := by
  refine Eq.trans ?_ (entry_d m c z q h h')
  blk_ext [iblk, idx t]

/-- The payload by the lane, over any blocks. -/
theorem pay_at (x : Vec Ideal S1024x128 .f32) (a d : Vec Ideal S1x128 .f32) (l : Fin 1024) (q : Fin 128) :
    k0_pay1 (F := Ideal) x a d (ix2 l q) = if q.1 < 4 then Ideal.logistic (x (ix2 l q)) else if q.1 < 8 then Cert.Scalars.decay (a (ix2 0 q)) (d (ix2 0 q)) (x (ix2 l q)) else 0 := by
  unfold Cert.Scalars.decay Cert.Scalars.softplus
  pointwise [k0_pay1]
  simp (disch := word_cmp_side) only [hlo_ix, zero_sub]
  rfl

theorem at_pay (c : Dev nD) (t : Fin cfg0.N) (l : Fin 1024) (q : Fin 128) :
    k0_pay1 (F := Ideal) (iblk m c 0 t) (iblk m c 1 t) (iblk m c 2 t) (ix2 l q) = Cert.Scalars.fwd (m ((c : Thread nD τ).loc main_arg0)) (m ((c : Thread nD τ).loc main_arg1)) (m ((c : Thread nD τ).loc main_arg2)) (row t l) q := by
  rw [pay_at]
  unfold Cert.Scalars.fwd
  split_ifs with h h'
  · rw [read_p m c t l q (by omega)]
  · rw [read_p m c t l q h', read_a m c t 0 q (by omega) h', read_d m c t 0 q (by omega) h']
  · rfl

theorem at_block (f : Fin 4096 → Fin 128 → EReal) (t : Fin cfg0.N) (y : S1024x128.Idx) (z : S4096x128.Idx)
    (h0 : (z 0).1 = t.val * 1024 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out (c : Dev nD) : (dats m 0 c).arrAt 3 cfg0.N = arr (Cert.Scalars.fwd (m ((c : Thread nD τ).loc main_arg0)) (m ((c : Thread nD τ).loc main_arg1)) (m ((c : Thread nD τ).loc main_arg2))) := by
  refine (dats m 0 c).arrAt_eq_of_covers 3 _ (by decide +kernel) fun t hf y => ?_
  blk_simp
  refine Eq.trans ?_ (at_block _ t y _ (?_ : _ = _) (?_ : _ = _)).symm
  rotate_left
  iterate 2 blk_simp [idx t]
  rw [after0_3]
  unfold out0_3
  frame_out
  rw [ix2_eta y]
  exact at_pay m c t _ _

end Cert.GateScalarsFwdIdeal.Val

namespace Cert.Proof

open Cert.Rows Idealize.ShloMosaic Idealize.ShloMosaic.TcCoe Idealize.SL.Sem

theorem algebraic_scalars_fwd : Cert.algebraic_GateScalarsFwdIdeal_GateScalarsFRefIdeal (hGateScalarsFwdIdeal := Cert.GateScalarsFwdIdeal.Gen.facts) (hGateScalarsFRefIdeal := Cert.GateScalarsFRefIdeal.Gen.facts) := by
  intro m g m' g' _ hagree
  refine ⟨fun c => arr (Cert.Scalars.fwd (m ((c.tc : Thread Cert.GateScalarsFwdIdeal.nD Cert.GateScalarsFwdIdeal.τ).loc Cert.GateScalarsFwdIdeal.main_arg0)) (m ((c.tc : Thread Cert.GateScalarsFwdIdeal.nD Cert.GateScalarsFwdIdeal.τ).loc Cert.GateScalarsFwdIdeal.main_arg1)) (m ((c.tc : Thread Cert.GateScalarsFwdIdeal.nD Cert.GateScalarsFwdIdeal.τ).loc Cert.GateScalarsFwdIdeal.main_arg2))),
    (θ_run _ _ _).mono (fun r h c => ?_) (Cert.GateScalarsFwdIdeal.Value.run_blocks m g), (θ_run _ _ _).mono (fun r h c => ?_) (Cert.GateScalarsFRefIdeal.Val.run m' g')⟩
  · obtain ⟨h0, k⟩ := h c
    exact ⟨h0.trans (Cert.GateScalarsFwdIdeal.Val.out m c), k⟩
  · obtain ⟨e0, e1, e2⟩ := hagree c
    obtain ⟨h0, k⟩ := h c
    simp only [e0, e1, e2] at h0
    exact ⟨h0, k⟩

end Cert.Proof

end
-- ==== Proof.GatedNorm.Fwd.lean ====
/-
  The forward gated norm: the kernel's output array, and the pair with the reference.
-/
module

public import proofs.«01_k».proof.Proof.GatedNorm.Spec
public import proofs.«01_k».proof.Proof.Gen.GatedNormFwdIdeal.Value
public import proofs.«01_k».proof.Defs
public import proofs.«01_k».proof.Proof.GatedNorm.FwdRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.GatedNormFwdIdeal.Val

open Cert.GatedNormFwdIdeal Cert.GatedNormFwdIdeal.Gen Cert.Rows
open Idealize.ShloMosaic Idealize.ShloMosaic.TcCoe Idealize.SL.Sem

variable (m : (ℓ : Loc nD τ sig) → Buf (Elt Ideal) ℓ)

open Cert.GatedNorm (tok4 colOf)

/-! ## The operands at the call, from the arguments -/

/-- The permuted projection keeps the columns before 3584. -/
theorem entry_p (c : Dev nD) (r : Fin 4096) (k : Fin 5760) (h : k.1 < 3584) :
    V m c main_v18 (ix2 r k) = m ((c : Thread nD τ).loc main_arg0) (tok r ⟨k.1, by omega⟩) := by
  unfold V
  after_reads_at
  simp (disch := word_cmp_side) only [hlo_ix]
  rw [if_pos h, dif_pos (by omega)]

theorem entry_o (c : Dev nD) (r : Fin 4096) (h : Fin 4) (j : Fin 128) : V m c main_v19 (ix2 r (colOf h j)) = m ((c : Thread nD τ).loc main_arg1) (tok4 r h j) := by
  have eh : (colOf h j).1 / 128 = h.1 := by dsimp only; omega
  have ej : (colOf h j).1 % 128 = j.1 := by dsimp only; omega
  unfold V
  after_reads_at
  exact congrArg₂ (fun a b => m ((c : Thread nD τ).loc main_arg1) (tok4 r a b)) (Fin.ext eh) (Fin.ext ej)

theorem entry_w (c : Dev nD) (z : Fin 1) (q : Fin 128) : V m c main_arg2 (ix2 z q) = m ((c : Thread nD τ).loc main_arg2) (ix2 0 q) := by
  obtain rfl : z = 0 := Subsingleton.elim _ _
  unfold V
  after_reads_at

/-! ## The blocks: grid point `t` is head `t / 4` and the block `t % 4` of 1024 rows -/

theorem idx : ∀ t : Fin cfg0.N, win0_0.index t = ![t.val % 4, t.val / 4] ∧ win0_1.index t = ![t.val % 4, 24 + t.val / 4] ∧ win0_2.index t = ![0, 0]
    ∧ win0_3.index t = ![t.val % 4, t.val / 4] :=
  (by decide +kernel : ∀ t : Fin grid0.N, _)

def row (t : Fin cfg0.N) (l : Fin 1024) : Fin 4096 := ⟨t.val % 4 * 1024 + l.1, by omega⟩

def head (t : Fin cfg0.N) : Fin 4 := ⟨t.val / 4, by have := t.isLt; have hN : cfg0.N = 16 := N_0; omega⟩

theorem read_o (c : Dev nD) (t : Fin cfg0.N) (l : Fin 1024) (q : Fin 128) : iblk m c 0 t (ix2 l q) = Cert.GatedNorm.rowOf (m ((c : Thread nD τ).loc main_arg1)) (row t l) (head t) q := by
  refine Eq.trans ?_ (entry_o m c (row t l) (head t) q)
  unfold row head
  blk_ext [iblk, idx t]

theorem read_p (c : Dev nD) (t : Fin cfg0.N) (l : Fin 1024) (q : Fin 128) : iblk m c 1 t (ix2 l q) = Cert.GatedNorm.gate (m ((c : Thread nD τ).loc main_arg0)) (row t l) (head t) q := by
  refine Eq.trans ?_ (entry_p m c (row t l) ⟨3072 + (colOf (head t) q).1, by have := (colOf (head t) q).2; omega⟩ (by have := (colOf (head t) q).2; dsimp only at this ⊢; omega))
  unfold row head
  blk_ext [iblk, idx t]

theorem read_w (c : Dev nD) (t : Fin cfg0.N) (z : Fin 1) (q : Fin 128) : iblk m c 2 t (ix2 z q) = m ((c : Thread nD τ).loc main_arg2) (ix2 0 q) := by
  refine Eq.trans ?_ (entry_w m c z q)
  blk_ext [iblk, idx t]

open Cert.RmsNorm

theorem pay_at (x : Vec Ideal S1024x128 .f32) (z : Vec Ideal S1024x128 .bf16) (w : Vec Ideal S1x128 .f32) (l : Fin 1024) (q : Fin 128)
    (X : Fin 128 → EReal) (Z W : EReal) (hx : ∀ k, x (ix2 l k) = X k) (hz : z (ix2 l q) = Z) (hw : w (ix2 0 q) = W) :
    k0_pay1 (F := Ideal) x z w (ix2 l q) = X q * inv 1124073472#32 X * W * (Z * Ideal.logistic Z) := by
  pointwise [k0_pay1]
  simp only [hx, hz, hw]
  rfl

theorem at_block (f : Fin 4096 → Fin 4 → Fin 128 → EReal) (t : Fin cfg0.N) (y : S1024x128.Idx) (z : S4096x512.Idx)
    (h0 : (z 0).1 = t.val % 4 * 1024 + (y 0).1) (h1 : (z 1).1 = t.val / 4 * 128 + (y 1).1) : arr (Cert.GatedNorm.byHead f) z = f (row t (y 0)) (head t) (y 1) := by
  have hy : (y 1).1 < 128 := (y 1).isLt
  have e0 : z 0 = row t (y 0) := Fin.ext h0
  have e1 : (⟨(z 1).1 / 128, by have : (z 1).1 < 512 := (z 1).isLt; omega⟩ : Fin 4) = head t := Fin.ext (by unfold head; dsimp only; omega)
  have e2 : (⟨(z 1).1 % 128, by omega⟩ : Fin 128) = y 1 := Fin.ext (by dsimp only; omega)
  show f (z 0) ⟨(z 1).1 / 128, _⟩ ⟨(z 1).1 % 128, _⟩ = _
  rw [e0, e1, e2]

theorem ix2_eta {a b : Nat} (y : (⟨2, ![a, b]⟩ : Shape).Idx) : y = ix2 (y 0) (y 1) := funext fun i => match i with | ⟨0, _⟩ => rfl | ⟨1, _⟩ => rfl

theorem out (c : Dev nD) : (dats m 0 c).arrAt 3 cfg0.N = arr (Cert.GatedNorm.byHead (Cert.GatedNorm.fwd (m ((c : Thread nD τ).loc main_arg0)) (m ((c : Thread nD τ).loc main_arg1)) (m ((c : Thread nD τ).loc main_arg2)))) := by
  refine (dats m 0 c).arrAt_eq_of_covers 3 _ (by decide +kernel) fun t hf y => ?_
  blk_simp
  refine Eq.trans ?_ (at_block _ t y _ (?_ : _ = _) (?_ : _ = _)).symm
  rotate_left
  iterate 2 blk_simp [idx t]
  rw [after0_3]
  unfold out0_3
  frame_out
  rw [ix2_eta y]
  exact pay_at _ _ _ _ _ _ _ _ (fun k => read_o m c t _ k) (read_p m c t _ _) (read_w m c t 0 _)

end Cert.GatedNormFwdIdeal.Val

namespace Cert.Proof

open Cert.Rows Idealize.ShloMosaic Idealize.ShloMosaic.TcCoe Idealize.SL.Sem

theorem algebraic_gnorm_fwd : Cert.algebraic_GatedNormFwdIdeal_GatedNormFRefIdeal (hGatedNormFwdIdeal := Cert.GatedNormFwdIdeal.Gen.facts) (hGatedNormFRefIdeal := Cert.GatedNormFRefIdeal.Gen.facts) := by
  intro m g m' g' _ hagree
  refine ⟨fun c => arr (Cert.GatedNorm.byHead (Cert.GatedNorm.fwd (m ((c.tc : Thread Cert.GatedNormFwdIdeal.nD Cert.GatedNormFwdIdeal.τ).loc Cert.GatedNormFwdIdeal.main_arg0)) (m ((c.tc : Thread Cert.GatedNormFwdIdeal.nD Cert.GatedNormFwdIdeal.τ).loc Cert.GatedNormFwdIdeal.main_arg1)) (m ((c.tc : Thread Cert.GatedNormFwdIdeal.nD Cert.GatedNormFwdIdeal.τ).loc Cert.GatedNormFwdIdeal.main_arg2)))),
    (θ_run _ _ _).mono (fun r h c => ?_) (Cert.GatedNormFwdIdeal.Value.run_blocks m g), (θ_run _ _ _).mono (fun r h c => ?_) (Cert.GatedNormFRefIdeal.Val.run m' g')⟩
  · obtain ⟨h0, k⟩ := h c
    exact ⟨h0.trans (Cert.GatedNormFwdIdeal.Val.out m c), k⟩
  · obtain ⟨e0, e1, e2⟩ := hagree c
    obtain ⟨h0, k⟩ := h c
    simp only [e0, e1, e2] at h0
    exact ⟨h0, k⟩

end Cert.Proof

end
-- ==== Proof.Merge.Fwd.lean ====
/-
  The forward gated merge: the kernel's output array, and the pair with the reference.
-/
module

public import proofs.«01_k».proof.Proof.Merge.Spec
public import proofs.«01_k».proof.Proof.Gen.MergeFwdIdeal.Value
public import proofs.«01_k».proof.Defs
public import proofs.«01_k».proof.Proof.Merge.FwdRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.MergeFwdIdeal.Val

open Cert.MergeFwdIdeal Cert.MergeFwdIdeal.Gen Cert.Rows
open Idealize.ShloMosaic Idealize.ShloMosaic.TcCoe Idealize.SL.Sem

variable (m : (ℓ : Loc nD τ sig) → Buf (Elt Ideal) ℓ)

/-! ## The operands at the call, from the arguments -/

/-- The permuted projection's gate columns (3584 to 5631) are the projection's columns 3592 to 5639. -/
theorem entry_proj (c : Dev nD) (r : Fin 4096) (k : Fin 5760) (h : 3584 ≤ k.1) (h' : k.1 < 5632) :
    V m c main_v18 (ix2 r k) = m ((c : Thread nD τ).loc main_arg0) (tok r ⟨k.1 + 8, by omega⟩) := by
  unfold V
  after_reads_at
  simp (disch := word_cmp_side) only [hlo_ix]
  rw [if_neg (by omega), if_pos h', dif_pos h']
  exact congrArg _ (tok_congr rfl (Nat.add_comm _ _))

theorem entry_ta (c : Dev nD) (r : Fin 4096) (k : Fin 1024) : V m c main_v20 (ix2 r k) = m ((c : Thread nD τ).loc main_arg1) (tok r k) := by
  unfold V
  after_reads_at

theorem entry_tb (c : Dev nD) (r : Fin 4096) (k : Fin 1024) : V m c main_v22 (ix2 r k) = m ((c : Thread nD τ).loc main_arg2) (tok r k) := by
  unfold V
  after_reads_at

/-! ## The blocks: grid point `t` is column block `t / 8` and row block `t % 8` -/

theorem idx : ∀ t : Fin cfg0.N, win0_0.index t = ![t.val % 8, 7 + t.val / 8] ∧ win0_1.index t = ![t.val % 8, 9 + t.val / 8]
    ∧ win0_2.index t = ![t.val % 8, t.val / 8] ∧ win0_3.index t = ![t.val % 8, t.val / 8] ∧ win0_4.index t = ![t.val % 8, t.val / 8] :=
  (by decide +kernel : ∀ t : Fin grid0.N, _)

/-- Row `y 0` of point `t`'s block in the stacked array. -/
def row (t : Fin cfg0.N) (y : S512x512.Idx) : Fin 4096 :=
  ⟨512 * (t.val % 8) + (y 0).1, by have h := (y 0).isLt; dsimp at h; omega⟩

/-- Column `y 1` of point `t`'s block. -/
def col (t : Fin cfg0.N) (y : S512x512.Idx) : Fin 1024 :=
  ⟨512 * (t.val / 8) + (y 1).1, by have h := (y 1).isLt; dsimp at h; have := t.isLt; have hN : cfg0.N = 16 := N_0; omega⟩

theorem read_ga (c : Dev nD) (t : Fin cfg0.N) (y : S512x512.Idx) :
    X0_0 m c t y = m ((c : Thread nD τ).loc main_arg0) (tok (row t y) (Cert.Merge.colA (col t y))) := by
  have hc := (col t y).isLt
  refine Eq.trans ?_ ((entry_proj m c (row t y) ⟨3584 + (col t y).1, by omega⟩ (by dsimp only; omega) (by dsimp only; omega)).trans ?_)
  · unfold X0_0 Pipeline.Window.fill
    rw [dif_pos (moved0_0 t y)]
    unfold row col
    blk_ext [iblk, idx t]
  · exact congrArg _ (tok_congr rfl (by simp only [Cert.Merge.colA, Cert.Merge.colB]; omega))

theorem read_gb (c : Dev nD) (t : Fin cfg0.N) (y : S512x512.Idx) :
    X0_1 m c t y = m ((c : Thread nD τ).loc main_arg0) (tok (row t y) (Cert.Merge.colB (col t y))) := by
  have hc := (col t y).isLt
  refine Eq.trans ?_ ((entry_proj m c (row t y) ⟨4608 + (col t y).1, by omega⟩ (by dsimp only; omega) (by dsimp only; omega)).trans ?_)
  · unfold X0_1 Pipeline.Window.fill
    rw [dif_pos (moved0_1 t y)]
    unfold row col
    blk_ext [iblk, idx t]
  · exact congrArg _ (tok_congr rfl (by simp only [Cert.Merge.colA, Cert.Merge.colB]; omega))

theorem read_ta (c : Dev nD) (t : Fin cfg0.N) (y : S512x512.Idx) : iblk m c 2 t y = m ((c : Thread nD τ).loc main_arg1) (tok (row t y) (col t y)) := by
  refine Eq.trans ?_ (entry_ta m c (row t y) (col t y))
  unfold row col
  blk_ext [iblk, idx t]

theorem read_tb (c : Dev nD) (t : Fin cfg0.N) (y : S512x512.Idx) : iblk m c 3 t y = m ((c : Thread nD τ).loc main_arg2) (tok (row t y) (col t y)) := by
  refine Eq.trans ?_ (entry_tb m c (row t y) (col t y))
  unfold row col
  blk_ext [iblk, idx t]

/-! ## The output arrays -/

/-- An array given by row and channel, at the place of element `y` of point `t`'s block. -/
theorem at_block (f : Fin 4096 → Fin 1024 → EReal) (t : Fin cfg0.N) (y : S512x512.Idx) (z : S4096x1024.Idx)
    (h0 : (z 0).1 = t.val % 8 * 512 + (y 0).1) (h1 : (z 1).1 = t.val / 8 * 512 + (y 1).1) : arr f z = f (row t y) (col t y) :=
  congrArg₂ f (Fin.ext (h0.trans (by unfold row; dsimp only; omega))) (Fin.ext (h1.trans (by unfold col; dsimp only; omega)))

theorem out (c : Dev nD) : (dats m 0 c).arrAt 4 cfg0.N = arr (Cert.Merge.fwd (m ((c : Thread nD τ).loc main_arg0)) (m ((c : Thread nD τ).loc main_arg1)) (m ((c : Thread nD τ).loc main_arg2))) := by
  refine (dats m 0 c).arrAt_eq_of_covers 4 _ (by decide +kernel) fun t hf y => ?_
  blk_simp
  rw [after0_4]
  unfold outsAt0
  frame_out
  pointwise [k0_pay1]
  rw [read_ga, read_gb, read_ta, read_tb]
  refine Eq.trans ?_ (at_block _ t y _ (?_ : _ = _) (?_ : _ = _)).symm
  · rfl
  all_goals blk_simp [idx t]

end Cert.MergeFwdIdeal.Val

namespace Cert.Proof

open Cert.Rows Idealize.ShloMosaic Idealize.ShloMosaic.TcCoe Idealize.SL.Sem

theorem algebraic_merge_fwd : Cert.algebraic_MergeFwdIdeal_MergeFRefIdeal (hMergeFwdIdeal := Cert.MergeFwdIdeal.Gen.facts) (hMergeFRefIdeal := Cert.MergeFRefIdeal.Gen.facts) := by
  intro m g m' g' _ hagree
  refine ⟨fun c => arr (Cert.Merge.fwd (m ((c.tc : Thread Cert.MergeFwdIdeal.nD Cert.MergeFwdIdeal.τ).loc Cert.MergeFwdIdeal.main_arg0)) (m ((c.tc : Thread Cert.MergeFwdIdeal.nD Cert.MergeFwdIdeal.τ).loc Cert.MergeFwdIdeal.main_arg1)) (m ((c.tc : Thread Cert.MergeFwdIdeal.nD Cert.MergeFwdIdeal.τ).loc Cert.MergeFwdIdeal.main_arg2))),
    (θ_run _ _ _).mono (fun r h c => ?_) (Cert.MergeFwdIdeal.Value.run_blocks m g), (θ_run _ _ _).mono (fun r h c => ?_) (Cert.MergeFRefIdeal.Val.run m' g')⟩
  · obtain ⟨h0, k⟩ := h c
    exact ⟨h0.trans (Cert.MergeFwdIdeal.Val.out m c), k⟩
  · obtain ⟨e0, e1, e2⟩ := hagree c
    obtain ⟨h0, k⟩ := h c
    simp only [e0, e1, e2] at h0
    exact ⟨h0, k⟩

end Cert.Proof

end
-- ==== Proof.Residual.Mix.lean ====
/-
  mm_out: the kernel's two output arrays, and the pair with the reference.
-/
module

public import proofs.«01_k».proof.Proof.Residual.Spec
public import proofs.«01_k».proof.Proof.Gen.ResidualMixIdeal.Value
public import proofs.«01_k».proof.Defs
public import proofs.«01_k».proof.Proof.Residual.MixRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.ResidualMixIdeal.Val

open Cert.ResidualMixIdeal Cert.ResidualMixIdeal.Gen Cert.Rows
open Idealize.ShloMosaic Idealize.ShloMosaic.TcCoe Idealize.SL.Sem

variable (m : (ℓ : Loc nD τ sig) → Buf (Elt Ideal) ℓ)

theorem entry_a (c : Dev nD) (r : Fin 4096) (k : Fin 1024) : V m c main_v1 (ix2 r k) = m ((c : Thread nD τ).loc main_arg0) (tok r k) := by
  unfold V
  after_reads_at

theorem entry_w (c : Dev nD) (k : Fin 1024) (q : Fin 1024) : V m c main_v3 (ix2 k q) = m ((c : Thread nD τ).loc main_arg1) (ix3 0 k q) := by
  unfold V
  after_reads_at

theorem entry_x (c : Dev nD) (r : Fin 4096) (k : Fin 1024) : V m c main_v4 (ix2 r k) = m ((c : Thread nD τ).loc main_arg2) (tok r k) := by
  unfold V
  after_reads_at

theorem entry_g (c : Dev nD) (z : Fin 1) (q : Fin 1024) : V m c main_arg3 (ix2 z q) = m ((c : Thread nD τ).loc main_arg3) (ix2 0 q) := by
  obtain rfl : z = 0 := Subsingleton.elim _ _
  unfold V
  after_reads_at

/-! ## The blocks: grid point `t` is the block of 1024 rows -/

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

def row (t : Fin cfg0.N) (l : Fin 1024) : Fin 4096 := ⟨1024 * t.val + l.1, by have := t.isLt; have hN : cfg0.N = 4 := N_0; omega⟩

theorem read_a (c : Dev nD) (t : Fin cfg0.N) (l : Fin 1024) (q : Fin 1024) : iblk m c 0 t (ix2 l q) = m ((c : Thread nD τ).loc main_arg0) (tok (row t l) q) := by
  refine Eq.trans ?_ (entry_a m c (row t l) q)
  unfold row
  blk_ext [iblk, idx t]

theorem read_w (c : Dev nD) (t : Fin cfg0.N) (k : Fin 1024) (q : Fin 1024) : iblk m c 1 t (ix2 k q) = m ((c : Thread nD τ).loc main_arg1) (ix3 0 k q) := by
  refine Eq.trans ?_ (entry_w m c k q)
  blk_ext [iblk, idx t]

theorem read_x (c : Dev nD) (t : Fin cfg0.N) (l : Fin 1024) (q : Fin 1024) : iblk m c 2 t (ix2 l q) = m ((c : Thread nD τ).loc main_arg2) (tok (row t l) q) := by
  refine Eq.trans ?_ (entry_x m c (row t l) q)
  unfold row
  blk_ext [iblk, idx t]

theorem read_g (c : Dev nD) (t : Fin cfg0.N) (z : Fin 1) (q : Fin 1024) : iblk m c 3 t (ix2 z q) = m ((c : Thread nD τ).loc main_arg3) (ix2 0 q) := by
  refine Eq.trans ?_ (entry_g m c z q)
  blk_ext [iblk, idx t]

/-! ## The payloads, over any blocks whose elements are known -/

theorem pay1_at (a : Vec Ideal S1024x1024 .bf16) (w : Vec Ideal S1024x1024 .bf16) (x : Vec Ideal S1024x1024 .f32) (l : Fin 1024) (q : Fin 1024) :
    k0_pay1 (F := Ideal) a w x (ix2 l q) = x (ix2 l q) + ∑ k, a (ix2 l k) * w (ix2 k q) := by
  pointwise [k0_pay1]

theorem pay2_at (a : Vec Ideal S1024x1024 .bf16) (w : Vec Ideal S1024x1024 .bf16) (x : Vec Ideal S1024x1024 .f32) (g : Vec Ideal S1x1024 .f32) (l : Fin 1024) (q : Fin 1024)
    (X : Fin 1024 → EReal) (G : Cert.Residual.Gain) (hx : ∀ k, x (ix2 l k) + ∑ j, a (ix2 l j) * w (ix2 j k) = X k) (hg : g (ix2 0 q) = G (ix2 0 q)) :
    k0_pay2 (F := Ideal) a w x g (ix2 l q) = Cert.Residual.scaled X G q := by
  pointwise [k0_pay2, pay1_at]
  simp only [hx, hg]
  rfl

theorem at_stream (c : Dev nD) (t : Fin cfg0.N) (l : Fin 1024) (q : Fin 1024) :
    (show EReal from iblk m c 2 t (ix2 l q)) + (∑ j, (show EReal from iblk m c 0 t (ix2 l j)) * (show EReal from iblk m c 1 t (ix2 j q)))
      = Cert.Residual.stream (m ((c : Thread nD τ).loc main_arg0)) (m ((c : Thread nD τ).loc main_arg1)) (m ((c : Thread nD τ).loc main_arg2)) (row t l) q :=
  congrArg₂ (fun a b : EReal => a + b) (read_x m c t l q)
    (Finset.sum_congr rfl fun j _ => congrArg₂ (fun a b : EReal => a * b) (read_a m c t l j) (read_w m c t j q))

/-! ## The output arrays -/

theorem at_block (f : Fin 4096 → Fin 1024 → EReal) (t : Fin cfg0.N) (y : S1024x1024.Idx) (z : S4096x1024.Idx)
    (h0 : (z 0).1 = t.val * 1024 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out_x (c : Dev nD) : (dats m 0 c).arrAt 4 cfg0.N = arr (Cert.Residual.stream (m ((c : Thread nD τ).loc main_arg0)) (m ((c : Thread nD τ).loc main_arg1)) (m ((c : Thread nD τ).loc main_arg2))) := by
  refine (dats m 0 c).arrAt_eq_of_covers 4 _ (by decide +kernel) fun t hf y => ?_
  blk_simp
  refine Eq.trans ?_ (at_block _ t y _ (?_ : _ = _) (?_ : _ = _)).symm
  rotate_left
  iterate 2 blk_simp [idx t]
  rw [after0_4]
  unfold out0_4
  frame_out
  rw [ix2_eta y]
  exact (pay1_at _ _ _ _ _).trans (at_stream m c t _ _)

theorem out_h (c : Dev nD) : (dats m 0 c).arrAt 5 cfg0.N = arr (Cert.Residual.normed (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp
  refine Eq.trans ?_ (at_block _ t y _ (?_ : _ = _) (?_ : _ = _)).symm
  rotate_left
  iterate 2 blk_simp [idx t]
  rw [after0_5]
  unfold out0_5
  frame_out
  rw [ix2_eta y]
  exact pay2_at _ _ _ _ _ _ _ _ (fun k => at_stream m c t _ k) (read_g m c t 0 _)

end Cert.ResidualMixIdeal.Val

namespace Cert.Proof

open Cert.Rows Idealize.ShloMosaic Idealize.ShloMosaic.TcCoe Idealize.SL.Sem

theorem algebraic_residual_mix : Cert.algebraic_ResidualMixIdeal_ResidualMixRefIdeal (hResidualMixIdeal := Cert.ResidualMixIdeal.Gen.facts) (hResidualMixRefIdeal := Cert.ResidualMixRefIdeal.Gen.facts) := by
  intro m g m' g' _ hagree
  refine ⟨fun c => arr (Cert.Residual.stream (m ((c.tc : Thread Cert.ResidualMixIdeal.nD Cert.ResidualMixIdeal.τ).loc Cert.ResidualMixIdeal.main_arg0)) (m ((c.tc : Thread Cert.ResidualMixIdeal.nD Cert.ResidualMixIdeal.τ).loc Cert.ResidualMixIdeal.main_arg1)) (m ((c.tc : Thread Cert.ResidualMixIdeal.nD Cert.ResidualMixIdeal.τ).loc Cert.ResidualMixIdeal.main_arg2))),
    fun c => arr (Cert.Residual.normed (m ((c.tc : Thread Cert.ResidualMixIdeal.nD Cert.ResidualMixIdeal.τ).loc Cert.ResidualMixIdeal.main_arg0)) (m ((c.tc : Thread Cert.ResidualMixIdeal.nD Cert.ResidualMixIdeal.τ).loc Cert.ResidualMixIdeal.main_arg1)) (m ((c.tc : Thread Cert.ResidualMixIdeal.nD Cert.ResidualMixIdeal.τ).loc Cert.ResidualMixIdeal.main_arg2)) (m ((c.tc : Thread Cert.ResidualMixIdeal.nD Cert.ResidualMixIdeal.τ).loc Cert.ResidualMixIdeal.main_arg3))),
    (θ_run _ _ _).mono (fun r h c => ?_) (Cert.ResidualMixIdeal.Value.run_blocks m g), (θ_run _ _ _).mono (fun r h c => ?_) (Cert.ResidualMixRefIdeal.Val.run m' g')⟩
  · obtain ⟨h0, h1, k⟩ := h c
    exact ⟨h0.trans (Cert.ResidualMixIdeal.Val.out_x m c), h1.trans (Cert.ResidualMixIdeal.Val.out_h m c), k⟩
  · obtain ⟨e0, e1, e2, e3⟩ := hagree c
    obtain ⟨h0, h1, k⟩ := h c
    simp only [e0, e1, e2, e3] at h0 h1
    exact ⟨h0, h1, k⟩

end Cert.Proof

end
-- ==== Proof.Swiglu.Fwd.lean ====
/-
  mm_gate_up: the kernel's two output arrays, and the pair with the reference.
-/
module

public import proofs.«01_k».proof.Proof.Swiglu.Spec
public import proofs.«01_k».proof.Proof.Gen.SwigluFwdIdeal.Value
public import proofs.«01_k».proof.Defs
public import proofs.«01_k».proof.Proof.Swiglu.FwdRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.SwigluFwdIdeal.Val

open Cert.SwigluFwdIdeal Cert.SwigluFwdIdeal.Gen Cert.Rows
open Idealize.ShloMosaic Idealize.ShloMosaic.TcCoe Idealize.SL.Sem

variable (m : (ℓ : Loc nD τ sig) → Buf (Elt Ideal) ℓ)

theorem entry_h (c : Dev nD) (r : Fin 4096) (k : Fin 1024) : V m c main_v1 (ix2 r k) = m ((c : Thread nD τ).loc main_arg0) (tok r k) := by
  unfold V
  after_reads_at

theorem entry_w (c : Dev nD) (k : Fin 5632) (q : Fin 1024) : V m c main_v4 (ix2 k q) = m ((c : Thread nD τ).loc main_arg1) (ix3 0 q k) := by
  unfold V
  after_reads_at

/-! ## The blocks: grid point `t` is the block of 256 rows -/

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

def row (t : Fin cfg0.N) (l : Fin 256) : Fin 4096 := ⟨256 * t.val + l.1, by have := t.isLt; have hN : cfg0.N = 16 := N_0; omega⟩

theorem read_h (c : Dev nD) (t : Fin cfg0.N) (l : Fin 256) (q : Fin 1024) : iblk m c 0 t (ix2 l q) = m ((c : Thread nD τ).loc main_arg0) (tok (row t l) q) := by
  refine Eq.trans ?_ (entry_h m c (row t l) q)
  unfold row
  blk_ext [iblk, idx t]

theorem read_w (c : Dev nD) (t : Fin cfg0.N) (k : Fin 5632) (q : Fin 1024) : iblk m c 1 t (ix2 k q) = m ((c : Thread nD τ).loc main_arg1) (ix3 0 q k) := by
  refine Eq.trans ?_ (entry_w m c k q)
  blk_ext [iblk, idx t]

/-! ## The payloads -/

theorem pay1_at (a : Vec Ideal S256x1024 .bf16) (w : Vec Ideal S5632x1024 .bf16) (l : Fin 256) (q : Fin 5632) :
    k0_pay1 (F := Ideal) a w (ix2 l q) = ∑ k, a (ix2 l k) * w (ix2 q k) := by
  pointwise [k0_pay1]

theorem pay2_at (a : Vec Ideal S256x1024 .bf16) (w : Vec Ideal S5632x1024 .bf16) (l : Fin 256) (q : Fin 5632) :
    k0_pay2 (F := Ideal) a w (ix2 l q) = ∑ k, a (ix2 l k) * w (ix2 q k) := by
  pointwise [k0_pay2, pay1_at]

theorem pay3_at (a : Vec Ideal S256x1024 .bf16) (w : Vec Ideal S5632x1024 .bf16) (l : Fin 256) (q : Fin 2816)
    (G : Fin 5632 → EReal) (h : ∀ k, (∑ j, a (ix2 l j) * w (ix2 k j)) = G k) :
    k0_pay3 (F := Ideal) a w (ix2 l q) = G ⟨q.1, by omega⟩ * Ideal.logistic (G ⟨q.1, by omega⟩) * G ⟨2816 + q.1, by omega⟩ := by
  pointwise [k0_pay3, pay1_at]
  simp only [h]

theorem at_gu (c : Dev nD) (t : Fin cfg0.N) (l : Fin 256) (q : Fin 5632) :
    (∑ j, (show EReal from iblk m c 0 t (ix2 l j)) * (show EReal from iblk m c 1 t (ix2 q j))) = Cert.Swiglu.both (m ((c : Thread nD τ).loc main_arg0)) (m ((c : Thread nD τ).loc main_arg1)) (row t l) q :=
  Finset.sum_congr rfl fun j _ => congrArg₂ (fun a b : EReal => a * b) (read_h m c t l j) (read_w m c t q j)

/-! ## The output arrays -/

theorem at_block (f : Fin 4096 → Fin 5632 → EReal) (t : Fin cfg0.N) (y : S256x5632.Idx) (z : S4096x5632.Idx)
    (h0 : (z 0).1 = t.val * 256 + (y 0).1) (h1 : (z 1).1 = (y 1).1) : arr f z = f (row t (y 0)) (y 1) :=
  congrArg₂ f (Fin.ext (h0.trans (by unfold row; dsimp only; omega))) (Fin.ext h1)

theorem at_half (f : Fin 4096 → Fin 2816 → EReal) (t : Fin cfg0.N) (y : S256x2816.Idx) (z : S4096x2816.Idx)
    (h0 : (z 0).1 = t.val * 256 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out_gu (c : Dev nD) : (dats m 0 c).arrAt 2 cfg0.N = arr (Cert.Swiglu.both (m ((c : Thread nD τ).loc main_arg0)) (m ((c : Thread nD τ).loc main_arg1))) := by
  refine (dats m 0 c).arrAt_eq_of_covers 2 _ (by decide +kernel) fun t hf y => ?_
  blk_simp
  refine Eq.trans ?_ (at_block _ t y _ (?_ : _ = _) (?_ : _ = _)).symm
  rotate_left
  iterate 2 blk_simp [idx t]
  rw [after0_2]
  unfold out0_2
  frame_out
  rw [ix2_eta y]
  exact (pay2_at _ _ _ _).trans (at_gu m c t _ _)

theorem out_act (c : Dev nD) : (dats m 0 c).arrAt 3 cfg0.N = arr (Cert.Swiglu.act (m ((c : Thread nD τ).loc main_arg0)) (m ((c : Thread nD τ).loc main_arg1))) := by
  refine (dats m 0 c).arrAt_eq_of_covers 3 _ (by decide +kernel) fun t hf y => ?_
  blk_simp
  refine Eq.trans ?_ (at_half _ t y _ (?_ : _ = _) (?_ : _ = _)).symm
  rotate_left
  iterate 2 blk_simp [idx t]
  rw [after0_3]
  unfold out0_3
  frame_out
  rw [ix2_eta y]
  exact pay3_at _ _ _ _ _ (fun k => at_gu m c t _ k)

end Cert.SwigluFwdIdeal.Val

namespace Cert.Proof

open Cert.Rows Idealize.ShloMosaic Idealize.ShloMosaic.TcCoe Idealize.SL.Sem

theorem algebraic_swiglu_fwd : Cert.algebraic_SwigluFwdIdeal_SwigluFRefIdeal (hSwigluFwdIdeal := Cert.SwigluFwdIdeal.Gen.facts) (hSwigluFRefIdeal := Cert.SwigluFRefIdeal.Gen.facts) := by
  intro m g m' g' _ hagree
  refine ⟨fun c => arr (Cert.Swiglu.both (m ((c.tc : Thread Cert.SwigluFwdIdeal.nD Cert.SwigluFwdIdeal.τ).loc Cert.SwigluFwdIdeal.main_arg0)) (m ((c.tc : Thread Cert.SwigluFwdIdeal.nD Cert.SwigluFwdIdeal.τ).loc Cert.SwigluFwdIdeal.main_arg1))),
    fun c => arr (Cert.Swiglu.act (m ((c.tc : Thread Cert.SwigluFwdIdeal.nD Cert.SwigluFwdIdeal.τ).loc Cert.SwigluFwdIdeal.main_arg0)) (m ((c.tc : Thread Cert.SwigluFwdIdeal.nD Cert.SwigluFwdIdeal.τ).loc Cert.SwigluFwdIdeal.main_arg1))),
    (θ_run _ _ _).mono (fun r h c => ?_) (Cert.SwigluFwdIdeal.Value.run_blocks m g), (θ_run _ _ _).mono (fun r h c => ?_) (Cert.SwigluFRefIdeal.Val.run m' g')⟩
  · obtain ⟨h0, h1, k⟩ := h c
    exact ⟨h0.trans (Cert.SwigluFwdIdeal.Val.out_gu m c), h1.trans (Cert.SwigluFwdIdeal.Val.out_act m c), k⟩
  · obtain ⟨e0, e1⟩ := hagree c
    obtain ⟨h0, h1, k⟩ := h c
    simp only [e0, e1] at h0 h1
    exact ⟨h0, h1, k⟩

end Cert.Proof

end
-- ==== Proof.Residual.Ffn.lean ====
/-
  mm_down: the kernel's two output arrays, and the pair with the reference.
-/
module

public import proofs.«01_k».proof.Proof.Residual.Spec
public import proofs.«01_k».proof.Proof.Gen.ResidualFfnIdeal.Value
public import proofs.«01_k».proof.Defs
public import proofs.«01_k».proof.Proof.Residual.FfnRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.ResidualFfnIdeal.Val

open Cert.ResidualFfnIdeal Cert.ResidualFfnIdeal.Gen Cert.Rows
open Idealize.ShloMosaic Idealize.ShloMosaic.TcCoe Idealize.SL.Sem

variable (m : (ℓ : Loc nD τ sig) → Buf (Elt Ideal) ℓ)

theorem entry_a (c : Dev nD) (r : Fin 4096) (k : Fin 2816) : V m c main_v1 (ix2 r k) = m ((c : Thread nD τ).loc main_arg0) (tok r k) := by
  unfold V
  after_reads_at

theorem entry_w (c : Dev nD) (k : Fin 2816) (q : Fin 1024) : V m c main_v3 (ix2 k q) = m ((c : Thread nD τ).loc main_arg1) (ix3 0 k q) := by
  unfold V
  after_reads_at

theorem entry_x (c : Dev nD) (r : Fin 4096) (k : Fin 1024) : V m c main_v4 (ix2 r k) = m ((c : Thread nD τ).loc main_arg2) (tok r k) := by
  unfold V
  after_reads_at

theorem entry_g (c : Dev nD) (z : Fin 1) (q : Fin 1024) : V m c main_arg3 (ix2 z q) = m ((c : Thread nD τ).loc main_arg3) (ix2 0 q) := by
  obtain rfl : z = 0 := Subsingleton.elim _ _
  unfold V
  after_reads_at

/-! ## The blocks: grid point `t` is the block of 512 rows -/

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

def row (t : Fin cfg0.N) (l : Fin 512) : Fin 4096 := ⟨512 * t.val + l.1, by have := t.isLt; have hN : cfg0.N = 8 := N_0; omega⟩

theorem read_a (c : Dev nD) (t : Fin cfg0.N) (l : Fin 512) (q : Fin 2816) : iblk m c 0 t (ix2 l q) = m ((c : Thread nD τ).loc main_arg0) (tok (row t l) q) := by
  refine Eq.trans ?_ (entry_a m c (row t l) q)
  unfold row
  blk_ext [iblk, idx t]

theorem read_w (c : Dev nD) (t : Fin cfg0.N) (k : Fin 2816) (q : Fin 1024) : iblk m c 1 t (ix2 k q) = m ((c : Thread nD τ).loc main_arg1) (ix3 0 k q) := by
  refine Eq.trans ?_ (entry_w m c k q)
  blk_ext [iblk, idx t]

theorem read_x (c : Dev nD) (t : Fin cfg0.N) (l : Fin 512) (q : Fin 1024) : iblk m c 2 t (ix2 l q) = m ((c : Thread nD τ).loc main_arg2) (tok (row t l) q) := by
  refine Eq.trans ?_ (entry_x m c (row t l) q)
  unfold row
  blk_ext [iblk, idx t]

theorem read_g (c : Dev nD) (t : Fin cfg0.N) (z : Fin 1) (q : Fin 1024) : iblk m c 3 t (ix2 z q) = m ((c : Thread nD τ).loc main_arg3) (ix2 0 q) := by
  refine Eq.trans ?_ (entry_g m c z q)
  blk_ext [iblk, idx t]

/-! ## The payloads, over any blocks whose elements are known -/

theorem pay1_at (a : Vec Ideal S512x2816 .bf16) (w : Vec Ideal S2816x1024 .bf16) (x : Vec Ideal S512x1024 .f32) (l : Fin 512) (q : Fin 1024) :
    k0_pay1 (F := Ideal) a w x (ix2 l q) = x (ix2 l q) + ∑ k, a (ix2 l k) * w (ix2 k q) := by
  pointwise [k0_pay1]

theorem pay2_at (a : Vec Ideal S512x2816 .bf16) (w : Vec Ideal S2816x1024 .bf16) (x : Vec Ideal S512x1024 .f32) (g : Vec Ideal S1x1024 .f32) (l : Fin 512) (q : Fin 1024)
    (X : Fin 1024 → EReal) (G : Cert.Residual.Gain) (hx : ∀ k, x (ix2 l k) + ∑ j, a (ix2 l j) * w (ix2 j k) = X k) (hg : g (ix2 0 q) = G (ix2 0 q)) :
    k0_pay2 (F := Ideal) a w x g (ix2 l q) = Cert.Residual.scaled X G q := by
  pointwise [k0_pay2, pay1_at]
  simp only [hx, hg]
  rfl

theorem at_stream (c : Dev nD) (t : Fin cfg0.N) (l : Fin 512) (q : Fin 1024) :
    (show EReal from iblk m c 2 t (ix2 l q)) + (∑ j, (show EReal from iblk m c 0 t (ix2 l j)) * (show EReal from iblk m c 1 t (ix2 j q)))
      = Cert.Residual.stream (m ((c : Thread nD τ).loc main_arg0)) (m ((c : Thread nD τ).loc main_arg1)) (m ((c : Thread nD τ).loc main_arg2)) (row t l) q :=
  congrArg₂ (fun a b : EReal => a + b) (read_x m c t l q)
    (Finset.sum_congr rfl fun j _ => congrArg₂ (fun a b : EReal => a * b) (read_a m c t l j) (read_w m c t j q))

/-! ## The output arrays -/

theorem at_block (f : Fin 4096 → Fin 1024 → EReal) (t : Fin cfg0.N) (y : S512x1024.Idx) (z : S4096x1024.Idx)
    (h0 : (z 0).1 = t.val * 512 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out_x (c : Dev nD) : (dats m 0 c).arrAt 4 cfg0.N = arr (Cert.Residual.stream (m ((c : Thread nD τ).loc main_arg0)) (m ((c : Thread nD τ).loc main_arg1)) (m ((c : Thread nD τ).loc main_arg2))) := by
  refine (dats m 0 c).arrAt_eq_of_covers 4 _ (by decide +kernel) fun t hf y => ?_
  blk_simp
  refine Eq.trans ?_ (at_block _ t y _ (?_ : _ = _) (?_ : _ = _)).symm
  rotate_left
  iterate 2 blk_simp [idx t]
  rw [after0_4]
  unfold out0_4
  frame_out
  rw [ix2_eta y]
  exact (pay1_at _ _ _ _ _).trans (at_stream m c t _ _)

theorem out_h (c : Dev nD) : (dats m 0 c).arrAt 5 cfg0.N = arr (Cert.Residual.normed (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp
  refine Eq.trans ?_ (at_block _ t y _ (?_ : _ = _) (?_ : _ = _)).symm
  rotate_left
  iterate 2 blk_simp [idx t]
  rw [after0_5]
  unfold out0_5
  frame_out
  rw [ix2_eta y]
  exact pay2_at _ _ _ _ _ _ _ _ (fun k => at_stream m c t _ k) (read_g m c t 0 _)

end Cert.ResidualFfnIdeal.Val

namespace Cert.Proof

open Cert.Rows Idealize.ShloMosaic Idealize.ShloMosaic.TcCoe Idealize.SL.Sem

theorem algebraic_residual_ffn : Cert.algebraic_ResidualFfnIdeal_ResidualFfnRefIdeal (hResidualFfnIdeal := Cert.ResidualFfnIdeal.Gen.facts) (hResidualFfnRefIdeal := Cert.ResidualFfnRefIdeal.Gen.facts) := by
  intro m g m' g' _ hagree
  refine ⟨fun c => arr (Cert.Residual.stream (m ((c.tc : Thread Cert.ResidualFfnIdeal.nD Cert.ResidualFfnIdeal.τ).loc Cert.ResidualFfnIdeal.main_arg0)) (m ((c.tc : Thread Cert.ResidualFfnIdeal.nD Cert.ResidualFfnIdeal.τ).loc Cert.ResidualFfnIdeal.main_arg1)) (m ((c.tc : Thread Cert.ResidualFfnIdeal.nD Cert.ResidualFfnIdeal.τ).loc Cert.ResidualFfnIdeal.main_arg2))),
    fun c => arr (Cert.Residual.normed (m ((c.tc : Thread Cert.ResidualFfnIdeal.nD Cert.ResidualFfnIdeal.τ).loc Cert.ResidualFfnIdeal.main_arg0)) (m ((c.tc : Thread Cert.ResidualFfnIdeal.nD Cert.ResidualFfnIdeal.τ).loc Cert.ResidualFfnIdeal.main_arg1)) (m ((c.tc : Thread Cert.ResidualFfnIdeal.nD Cert.ResidualFfnIdeal.τ).loc Cert.ResidualFfnIdeal.main_arg2)) (m ((c.tc : Thread Cert.ResidualFfnIdeal.nD Cert.ResidualFfnIdeal.τ).loc Cert.ResidualFfnIdeal.main_arg3))),
    (θ_run _ _ _).mono (fun r h c => ?_) (Cert.ResidualFfnIdeal.Value.run_blocks m g), (θ_run _ _ _).mono (fun r h c => ?_) (Cert.ResidualFfnRefIdeal.Val.run m' g')⟩
  · obtain ⟨h0, h1, k⟩ := h c
    exact ⟨h0.trans (Cert.ResidualFfnIdeal.Val.out_x m c), h1.trans (Cert.ResidualFfnIdeal.Val.out_h m c), k⟩
  · obtain ⟨e0, e1, e2, e3⟩ := hagree c
    obtain ⟨h0, h1, k⟩ := h c
    simp only [e0, e1, e2, e3] at h0 h1
    exact ⟨h0, h1, k⟩

end Cert.Proof

end
-- ==== Proof.Scalars.Bwd.lean ====
/-
  What gate_scalars_bwd's three output arrays hold after the run.
-/
module

public import proofs.«01_k».proof.Proof.Scalars.Slope
public import proofs.«01_k».proof.Proof.Gen.GateScalarsBwdIdeal.Value
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.GateScalarsBwdIdeal.Val

open Cert.GateScalarsBwdIdeal Cert.GateScalarsBwdIdeal.Gen Cert.Rows
open Idealize.ShloMosaic Idealize.ShloMosaic.TcCoe Idealize.SL.Sem

variable (m : (ℓ : Loc nD τ sig) → Buf (Elt Ideal) ℓ)

/-! ## The operands at the call, from the arguments -/

/-- The permuted projection's last block starts with the projection's columns 3584 to 3591. -/
theorem entry_p (c : Dev nD) (r : Fin 4096) (k : Fin 128) (h : k.1 < 8) : V m c main_v18 (ix2 r k) = m ((c : Thread nD τ).loc main_arg0) (tok r ⟨3584 + k.1, by omega⟩) := by
  unfold V
  after_reads_at
  simp (disch := word_cmp_side) only [hlo_ix]
  rw [if_neg (by omega), if_neg (by omega), if_pos (by omega), dif_pos (by omega)]
  exact congrArg _ (tok_congr rfl (by dsimp only; omega))

theorem entry_a (c : Dev nD) (z : Fin 1) (k : Fin 128) (h : 4 ≤ k.1) (h' : k.1 < 8) : V m c main_v21 (ix2 z k) = m ((c : Thread nD τ).loc main_arg1) (ix2 0 ⟨k.1 - 4, by omega⟩) := by
  obtain rfl : z = 0 := Subsingleton.elim _ _
  unfold V
  after_reads_at
  rw [dif_neg (by omega), dif_pos (by omega)]

theorem entry_d (c : Dev nD) (z : Fin 1) (k : Fin 128) (h : 4 ≤ k.1) (h' : k.1 < 8) : V m c main_v24 (ix2 z k) = m ((c : Thread nD τ).loc main_arg2) (ix2 0 ⟨k.1 - 4, by omega⟩) := by
  obtain rfl : z = 0 := Subsingleton.elim _ _
  unfold V
  after_reads_at
  rw [dif_neg (by omega), dif_pos (by omega)]

theorem entry_b (c : Dev nD) (r : Fin 4096) (k : Fin 128) (h : k.1 < 4) : V m c main_v28 (ix2 r k) = m ((c : Thread nD τ).loc main_arg3) (tok r ⟨k.1, h⟩) := by
  unfold V
  after_reads_at
  rw [dif_pos h]
  after_reads_at

theorem entry_g (c : Dev nD) (r : Fin 4096) (k : Fin 128) (h : 4 ≤ k.1) (h' : k.1 < 8) : V m c main_v28 (ix2 r k) = m ((c : Thread nD τ).loc main_arg4) (tok r ⟨k.1 - 4, by omega⟩) := by
  unfold V
  after_reads_at
  rw [dif_neg (by omega), dif_pos (by omega)]
  after_reads_at

/-! ## The blocks: grid point `t` is the block of 1024 rows -/

theorem idx : ∀ t : Fin cfg0.N, win0_0.index t = ![t.val, 0] ∧ win0_1.index t = ![t.val, 0] ∧ win0_2.index t = ![0, 0] ∧ win0_3.index t = ![0, 0] ∧ win0_4.index t = ![t.val, 0]
    ∧ win0_5.index t = ![0, 0] ∧ win0_6.index t = ![0, 0] :=
  (by decide +kernel : ∀ t : Fin grid0.N, _)

def row (t : Fin cfg0.N) (l : Fin 1024) : Fin 4096 := ⟨t.val * 1024 + l.1, by have := t.isLt; have hN : cfg0.N = 4 := N_0; omega⟩

abbrev bp (c : Dev nD) (t : Fin cfg0.N) : Vec Ideal S1024x128 .f32 := iblk m c 0 t
abbrev by' (c : Dev nD) (t : Fin cfg0.N) : Vec Ideal S1024x128 .f32 := iblk m c 1 t
abbrev ba (c : Dev nD) (t : Fin cfg0.N) : Vec Ideal S1x128 .f32 := iblk m c 2 t
abbrev bd (c : Dev nD) (t : Fin cfg0.N) : Vec Ideal S1x128 .f32 := iblk m c 3 t

theorem read_p (c : Dev nD) (t : Fin cfg0.N) (l : Fin 1024) (q : Fin 128) (h : q.1 < 8) :
    bp m c t (ix2 l q) = m ((c : Thread nD τ).loc main_arg0) (tok (row t l) ⟨3584 + q.1, by omega⟩) := by
  refine Eq.trans ?_ (entry_p m c (row t l) q h)
  unfold row
  show iblk m c 0 t (ix2 l q) = _
  blk_ext [iblk, idx t]

theorem read_b (c : Dev nD) (t : Fin cfg0.N) (l : Fin 1024) (q : Fin 128) (h : q.1 < 4) :
    by' m c t (ix2 l q) = m ((c : Thread nD τ).loc main_arg3) (tok (row t l) ⟨q.1, h⟩) := by
  refine Eq.trans ?_ (entry_b m c (row t l) q h)
  unfold row
  show iblk m c 1 t (ix2 l q) = _
  blk_ext [iblk, idx t]

theorem read_g (c : Dev nD) (t : Fin cfg0.N) (l : Fin 1024) (q : Fin 128) (h : 4 ≤ q.1) (h' : q.1 < 8) :
    by' m c t (ix2 l q) = m ((c : Thread nD τ).loc main_arg4) (tok (row t l) ⟨q.1 - 4, by omega⟩) := by
  refine Eq.trans ?_ (entry_g m c (row t l) q h h')
  unfold row
  show iblk m c 1 t (ix2 l q) = _
  blk_ext [iblk, idx t]

theorem read_a (c : Dev nD) (t : Fin cfg0.N) (z : Fin 1) (q : Fin 128) (h : 4 ≤ q.1) (h' : q.1 < 8) : ba m c t (ix2 z q) = m ((c : Thread nD τ).loc main_arg1) (ix2 0 ⟨q.1 - 4, by omega⟩) := by
  refine Eq.trans ?_ (entry_a m c z q h h')
  show iblk m c 2 t (ix2 z q) = _
  blk_ext [iblk, idx t]

theorem read_d (c : Dev nD) (t : Fin cfg0.N) (z : Fin 1) (q : Fin 128) (h : 4 ≤ q.1) (h' : q.1 < 8) : bd m c t (ix2 z q) = m ((c : Thread nD τ).loc main_arg2) (ix2 0 ⟨q.1 - 4, by omega⟩) := by
  refine Eq.trans ?_ (entry_d m c z q h h')
  show iblk m c 3 t (ix2 z q) = _
  blk_ext [iblk, idx t]

/-! ## The payloads by the lane, over any blocks -/

/-- The lanes' numbers. -/
abbrev lane : IVec S1024x128 32 := iota .tc S1024x128 32 [1] iota_S1024x128_d1_w32

theorem pay4_eq (y : Vec Ideal S1024x128 .f32) : k0_pay4 (F := Ideal) y = y := by
  funext j
  pointwise [k0_pay4]

/-- The decay's cotangent: lanes 4 to 7 only. -/
theorem pay16_at (y : Vec Ideal S1024x128 .f32) (l : Fin 1024) (q : Fin 128) :
    k0_pay16 (F := Ideal) (k0_pay4 y) lane (ix2 l q) = if 4 ≤ q.1 ∧ q.1 < 8 then y (ix2 l q) else 0 := by
  pointwise [k0_pay16, k0_pay14, k0_pay15, k0_pay4]
  simp (disch := word_cmp_side) only [hlo_ix]
  split_ifs <;> first | rfl | omega

theorem pay17_at (x y : Vec Ideal S1024x128 .f32) (a d : Vec Ideal S1x128 .f32) (l : Fin 1024) (q : Fin 128) :
    k0_pay17 (F := Ideal) (k0_pay4 y) lane (k0_pay7 a) (k0_pay9 x d) (k0_pay10 x d) (k0_pay11 x d) (k0_pay12 x d) (ix2 l q)
      = Cert.Scalars.kernelSlope (-Ideal.exp (a (ix2 0 q)) * if 4 ≤ q.1 ∧ q.1 < 8 then y (ix2 l q) else 0) (x (ix2 l q) + d (ix2 0 q)) := by
  unfold Cert.Scalars.kernelSlope
  pointwise [k0_pay17, k0_pay12, k0_pay11, k0_pay10, k0_pay9, k0_pay8, k0_pay7, k0_pay6, k0_pay3, pay16_at]
  simp (disch := word_cmp_side) only [hlo_ix, zero_sub]
  rfl

theorem pay18_at (x y : Vec Ideal S1024x128 .f32) (a d : Vec Ideal S1x128 .f32) (z : Fin 1) (q : Fin 128) :
    k0_pay18 (F := Ideal) (k0_pay4 y) lane (k0_pay7 a) (k0_pay9 x d) (k0_pay10 x d) (k0_pay11 x d) (k0_pay12 x d) (ix2 z q)
      = ∑ l : Fin 1024, Cert.Scalars.kernelSlope (-Ideal.exp (a (ix2 0 q)) * if 4 ≤ q.1 ∧ q.1 < 8 then y (ix2 l q) else 0) (x (ix2 l q) + d (ix2 0 q)) := by
  pointwise [k0_pay18, pay17_at]

theorem pay19_at (x y : Vec Ideal S1024x128 .f32) (a d : Vec Ideal S1x128 .f32) (z : Fin 1) (q : Fin 128) :
    k0_pay19 (F := Ideal) (k0_pay4 y) lane (k0_pay6 a) (k0_pay13 x d) (ix2 z q)
      = (-∑ l : Fin 1024, (if 4 ≤ q.1 ∧ q.1 < 8 then y (ix2 l q) else 0) * Cert.Scalars.softplus (x (ix2 l q) + d (ix2 0 q))) * Ideal.exp (a (ix2 0 q)) := by
  obtain rfl : z = 0 := Subsingleton.elim _ _
  unfold Cert.Scalars.softplus
  pointwise [k0_pay19, k0_pay13, k0_pay12, k0_pay11, k0_pay8, k0_pay6, k0_pay3, pay16_at]
  simp only [zero_sub]
  rfl

theorem pay20_at (x y : Vec Ideal S1024x128 .f32) (a d : Vec Ideal S1x128 .f32) (l : Fin 1024) (q : Fin 128) :
    k0_pay20 (F := Ideal) (k0_pay4 y) lane (k0_pay5 x) (k0_pay7 a) (k0_pay9 x d) (k0_pay10 x d) (k0_pay11 x d) (k0_pay12 x d) (ix2 l q)
      = Cert.Scalars.kernelSlope (-Ideal.exp (a (ix2 0 q)) * if 4 ≤ q.1 ∧ q.1 < 8 then y (ix2 l q) else 0) (x (ix2 l q) + d (ix2 0 q))
        + (if q.1 < 4 then y (ix2 l q) else 0) * (Ideal.logistic (x (ix2 l q)) * (1 - Ideal.logistic (x (ix2 l q)))) := by
  pointwise [k0_pay20, pay17_at, k0_pay14, k0_pay15, k0_pay5, k0_pay4, k0_pay3]
  simp (disch := word_cmp_side) only [hlo_ix]
  refine congrArg₂ (fun u v : EReal => u + v) ?_ ?_
  · have e := pay17_at x y a d l q
    rw [pay4_eq] at e
    exact e
  · split_ifs
    · rfl
    · exact (zero_mul _).symm

theorem pay1_at (p : FVec Ideal S1x128 .f32) (v : Vec Ideal S1x128 .f32) (x : S1x128.Idx) : k0_pay1 (F := Ideal) p v x = v x + p x := by pointwise [k0_pay1]

theorem pay2_at (p : FVec Ideal S1x128 .f32) (v : Vec Ideal S1x128 .f32) (x : S1x128.Idx) : k0_pay2 (F := Ideal) p v x = v x + p x := by pointwise [k0_pay2]

/-! ## The output arrays -/

/-- The slope at a block's row, in the lanes 4 to 7; zero in the others, whatever they hold. -/
theorem at_slope (c : Dev nD) (t : Fin cfg0.N) (l : Fin 1024) (q : Fin 128) :
    Cert.Scalars.kernelSlope (-Ideal.exp (ba m c t (ix2 0 q)) * if 4 ≤ q.1 ∧ q.1 < 8 then by' m c t (ix2 l q) else 0) (bp m c t (ix2 l q) + bd m c t (ix2 0 q))
      = Cert.Scalars.lanes (Cert.Scalars.slopeK (m ((c : Thread nD τ).loc main_arg0)) (m ((c : Thread nD τ).loc main_arg1)) (m ((c : Thread nD τ).loc main_arg2)) (m ((c : Thread nD τ).loc main_arg4)) (row t l)) 0 q := by
  unfold Cert.Scalars.lanes
  split_ifs with h
  · rw [read_p m c t l q h.2, read_a m c t 0 q h.1 h.2, read_d m c t 0 q h.1 h.2, read_g m c t l q h.1 h.2]
    unfold Cert.Scalars.slopeK Cert.Scalars.ctS Cert.Scalars.arg
    exact congrArg (fun v : EReal => Cert.Scalars.kernelSlope _ (v + _)) (congrArg (m ((c : Thread nD τ).loc main_arg0)) (tok_congr rfl (by dsimp only; omega)))
  · rw [mul_zero, Cert.Scalars.kernelSlope_zero]

theorem at_dbd (c : Dev nD) (t : Fin cfg0.N) (l : Fin 1024) (q : Fin 128) :
    k0_pay20 (F := Ideal) (k0_pay4 (by' m c t)) lane (k0_pay5 (bp m c t)) (k0_pay7 (ba m c t)) (k0_pay9 (bp m c t) (bd m c t)) (k0_pay10 (bp m c t) (bd m c t)) (k0_pay11 (bp m c t) (bd m c t)) (k0_pay12 (bp m c t) (bd m c t)) (ix2 l q)
      = Cert.Scalars.dbd (Cert.Scalars.slopeK (m ((c : Thread nD τ).loc main_arg0)) (m ((c : Thread nD τ).loc main_arg1)) (m ((c : Thread nD τ).loc main_arg2)) (m ((c : Thread nD τ).loc main_arg4))) (m ((c : Thread nD τ).loc main_arg0)) (m ((c : Thread nD τ).loc main_arg3)) (row t l) q := by
  rw [pay20_at, at_slope]
  unfold Cert.Scalars.lanes Cert.Scalars.dbd
  by_cases h : q.1 < 4
  · rw [dif_neg (by omega), if_pos h, dif_pos h, zero_add, read_b m c t l q h, read_p m c t l q (by omega)]
  · rw [if_neg h, dif_neg h, zero_mul, add_zero]
    by_cases h' : q.1 < 8
    · rw [dif_pos ⟨by omega, h'⟩, dif_pos h']
    · rw [dif_neg (by omega), dif_neg h']

/-- One block's part of the decay's logarithm's gradient. -/
def partA (c : Dev nD) (t : Fin cfg0.N) (k : Fin 4) : EReal :=
  Cert.Scalars.partK (m ((c : Thread nD τ).loc main_arg0)) (m ((c : Thread nD τ).loc main_arg1)) (m ((c : Thread nD τ).loc main_arg2)) (m ((c : Thread nD τ).loc main_arg4)) (row t) k

theorem at_partA (c : Dev nD) (t : Fin cfg0.N) (z : Fin 1) (q : Fin 128) :
    k0_pay19 (F := Ideal) (k0_pay4 (by' m c t)) lane (k0_pay6 (ba m c t)) (k0_pay13 (bp m c t) (bd m c t)) (ix2 z q) = Cert.Scalars.lanes (partA m c t) z q := by
  rw [pay19_at]
  unfold Cert.Scalars.lanes partA Cert.Scalars.partK
  split_ifs with h
  · rw [read_a m c t 0 q h.1 h.2]
    refine congrArg (fun s : EReal => -s * _) (Finset.sum_congr rfl fun l _ => ?_)
    rw [read_p m c t l q h.2, read_d m c t 0 q h.1 h.2, read_g m c t l q h.1 h.2]
    unfold Cert.Scalars.arg
    exact congrArg (fun v : EReal => _ * Cert.Scalars.softplus (v + _)) (congrArg (m ((c : Thread nD τ).loc main_arg0)) (tok_congr rfl (by dsimp only; omega)))
  · simp only [zero_mul, Finset.sum_const_zero, neg_zero]

theorem at_partD (c : Dev nD) (t : Fin cfg0.N) (z : Fin 1) (q : Fin 128) :
    k0_pay18 (F := Ideal) (k0_pay4 (by' m c t)) lane (k0_pay7 (ba m c t)) (k0_pay9 (bp m c t) (bd m c t)) (k0_pay10 (bp m c t) (bd m c t)) (k0_pay11 (bp m c t) (bd m c t)) (k0_pay12 (bp m c t) (bd m c t)) (ix2 z q)
      = Cert.Scalars.lanes (fun k => ∑ l : Fin 1024, Cert.Scalars.slopeK (m ((c : Thread nD τ).loc main_arg0)) (m ((c : Thread nD τ).loc main_arg1)) (m ((c : Thread nD τ).loc main_arg2)) (m ((c : Thread nD τ).loc main_arg4)) (row t l) k) z q := by
  rw [pay18_at]
  refine (Finset.sum_congr rfl fun l _ => at_slope m c t l q).trans ?_
  unfold Cert.Scalars.lanes
  split_ifs with h
  · rfl
  · exact Finset.sum_const_zero

theorem at_block (f : Fin 4096 → Fin 128 → EReal) (t : Fin cfg0.N) (y : S1024x128.Idx) (z : S4096x128.Idx)
    (h0 : (z 0).1 = t.val * 1024 + (y 0).1) (h1 : (z 1).1 = (y 1).1) : arr f z = f (row t (y 0)) (y 1) :=
  congrArg₂ f (Fin.ext h0) (Fin.ext h1)

theorem ix2_eta {a b : Nat} (y : (⟨2, ![a, b]⟩ : Shape).Idx) : y = ix2 (y 0) (y 1) := funext fun i => match i with | ⟨0, _⟩ => rfl | ⟨1, _⟩ => rfl

theorem out_dbd (c : Dev nD) : (dats m 0 c).arrAt 4 cfg0.N = arr (Cert.Scalars.dbd (Cert.Scalars.slopeK (m ((c : Thread nD τ).loc main_arg0)) (m ((c : Thread nD τ).loc main_arg1)) (m ((c : Thread nD τ).loc main_arg2)) (m ((c : Thread nD τ).loc main_arg4))) (m ((c : Thread nD τ).loc main_arg0)) (m ((c : Thread nD τ).loc main_arg3))) := by
  refine (dats m 0 c).arrAt_eq_of_covers 4 _ (by decide +kernel) fun t hf y => ?_
  blk_simp
  refine Eq.trans ?_ (at_block _ t y _ (?_ : _ = _) (?_ : _ = _)).symm
  rotate_left
  iterate 2 blk_simp [idx t]
  rw [after0_4]
  have hlt : t.val < 4 := lt_of_lt_of_eq t.isLt N_0
  by_cases h : t.val % 4 = 0
  · rw [outsAt0_A m c t h (by omega) h (by omega)]
    frame_out
    rw [ix2_eta y]
    exact at_dbd m c t _ _
  · rw [outsAt0_B m c t h (by omega) h (by omega)]
    frame_out
    rw [ix2_eta y]
    exact at_dbd m c t _ _

/-- A sum over the grid's points, lane by lane. -/
theorem sum_lanes (f : Fin cfg0.N → Fin 4 → EReal) (z : Fin 1) (q : Fin 128) : ∑ t, Cert.Scalars.lanes (f t) z q = Cert.Scalars.lanes (fun k => ∑ t, f t k) z q := by
  unfold Cert.Scalars.lanes
  split_ifs with h
  · rfl
  · exact Finset.sum_const_zero

theorem sum_points (f : Fin 4 → EReal) : ∑ t : Fin cfg0.N, f ⟨t.1, lt_of_lt_of_eq t.isLt N_0⟩ = ∑ t : Fin 4, f t :=
  Fintype.sum_equiv (finCongr N_0) _ _ fun _ => rfl

theorem out_dal (c : Dev nD) : (dats m 0 c).arrAt 5 cfg0.N = arr (Cert.Scalars.lanes (Cert.Scalars.dalK (m ((c : Thread nD τ).loc main_arg0)) (m ((c : Thread nD τ).loc main_arg1)) (m ((c : Thread nD τ).loc main_arg2)) (m ((c : Thread nD τ).loc main_arg4)))) := by
  have hN : cfg0.N = 4 := N_0
  refine (dats m 0 c).arrAt_eq_of_covers 5 _ (by decide +kernel) fun t hf y => ?_
  blk_simp
  rw [after0_5, Pipeline.eq_sum_fin_of_reset_step_apply_last (M := EReal) (fun n h => (outsAt0 m c n h).2.1) 4 (fun _ => 0) (fun t y => Cert.Scalars.lanes (partA m c t) (y 0) (y 1))
    (fun t h j => by rw [outsAt0_A m c t h (by have := t.isLt; have hN' : cfg0.grid.N = 4 := N_0; omega) h (by have := t.isLt; have hN' : cfg0.grid.N = 4 := N_0; omega)]; frame_out; rw [ix2_eta j]; exact (at_partA m c t _ _).trans (zero_add _).symm)
    (fun t h j => by rw [outsAt0_B m c t h (by omega) h (by omega)]; frame_out; rw [pay1_at]; exact congrArg _ ((congrArg _ (ix2_eta j)).trans (at_partA m c t _ _)))
    (le_of_eq N_0) t (by have := (flush0_5 t).mp hf; have := t.isLt; have hN' : cfg0.grid.N = 4 := N_0; omega) y]
  have e : ((win0_5.blk t).view.emb y 1) = y 1 := Fin.ext (by blk_simp [idx t])
  refine (zero_add (M := EReal) _).trans ((sum_lanes (partA m c) (y 0) (y 1)).trans ?_)
  refine Eq.trans ?_ (congrArg (Cert.Scalars.lanes (Cert.Scalars.dalK (m ((c : Thread nD τ).loc main_arg0)) (m ((c : Thread nD τ).loc main_arg1)) (m ((c : Thread nD τ).loc main_arg2)) (m ((c : Thread nD τ).loc main_arg4))) (y 0)) e.symm)
  exact congrArg (fun f => Cert.Scalars.lanes f (y 0) (y 1)) (funext fun k => sum_points fun t => Cert.Scalars.partK (m ((c : Thread nD τ).loc main_arg0)) (m ((c : Thread nD τ).loc main_arg1)) (m ((c : Thread nD τ).loc main_arg2)) (m ((c : Thread nD τ).loc main_arg4)) (fun l => ⟨t.1 * 1024 + l.1, by omega⟩) k)

theorem out_ddt (c : Dev nD) : (dats m 0 c).arrAt 6 cfg0.N = arr (Cert.Scalars.lanes (Cert.Scalars.total (Cert.Scalars.slopeK (m ((c : Thread nD τ).loc main_arg0)) (m ((c : Thread nD τ).loc main_arg1)) (m ((c : Thread nD τ).loc main_arg2)) (m ((c : Thread nD τ).loc main_arg4))))) := by
  have hN : cfg0.N = 4 := N_0
  refine (dats m 0 c).arrAt_eq_of_covers 6 _ (by decide +kernel) fun t hf y => ?_
  blk_simp
  rw [after0_6, Pipeline.eq_sum_fin_of_reset_step_apply_last (M := EReal) (fun n h => (outsAt0 m c n h).2.2) 4 (fun _ => 0)
    (fun t y => Cert.Scalars.lanes (fun k => ∑ l : Fin 1024, Cert.Scalars.slopeK (m ((c : Thread nD τ).loc main_arg0)) (m ((c : Thread nD τ).loc main_arg1)) (m ((c : Thread nD τ).loc main_arg2)) (m ((c : Thread nD τ).loc main_arg4)) (row t l) k) (y 0) (y 1))
    (fun t h j => by rw [outsAt0_A m c t h (by have := t.isLt; have hN' : cfg0.grid.N = 4 := N_0; omega) h (by have := t.isLt; have hN' : cfg0.grid.N = 4 := N_0; omega)]; frame_out; rw [ix2_eta j]; exact (at_partD m c t _ _).trans (zero_add _).symm)
    (fun t h j => by rw [outsAt0_B m c t h (by omega) h (by omega)]; frame_out; rw [pay2_at]; exact congrArg _ ((congrArg _ (ix2_eta j)).trans (at_partD m c t _ _)))
    (le_of_eq N_0) t (by have := (flush0_6 t).mp hf; have := t.isLt; have hN' : cfg0.grid.N = 4 := N_0; omega) y]
  have e : ((win0_6.blk t).view.emb y 1) = y 1 := Fin.ext (by blk_simp [idx t])
  refine (zero_add (M := EReal) _).trans ((sum_lanes (fun t k => ∑ l : Fin 1024, Cert.Scalars.slopeK (m ((c : Thread nD τ).loc main_arg0)) (m ((c : Thread nD τ).loc main_arg1)) (m ((c : Thread nD τ).loc main_arg2)) (m ((c : Thread nD τ).loc main_arg4)) (row t l) k) (y 0) (y 1)).trans ?_)
  refine Eq.trans ?_ (congrArg (Cert.Scalars.lanes (Cert.Scalars.total (Cert.Scalars.slopeK (m ((c : Thread nD τ).loc main_arg0)) (m ((c : Thread nD τ).loc main_arg1)) (m ((c : Thread nD τ).loc main_arg2)) (m ((c : Thread nD τ).loc main_arg4)))) (y 0)) e.symm)
  exact congrArg (fun f => Cert.Scalars.lanes f (y 0) (y 1)) (funext fun k => (sum_points fun t => ∑ l : Fin 1024, Cert.Scalars.slopeK (m ((c : Thread nD τ).loc main_arg0)) (m ((c : Thread nD τ).loc main_arg1)) (m ((c : Thread nD τ).loc main_arg2)) (m ((c : Thread nD τ).loc main_arg4)) ⟨t.1 * 1024 + l.1, by omega⟩ k).trans
    (Fin.sum_mul_add_fin (M := EReal) 4 1024 (fun r => Cert.Scalars.slopeK (m ((c : Thread nD τ).loc main_arg0)) (m ((c : Thread nD τ).loc main_arg1)) (m ((c : Thread nD τ).loc main_arg2)) (m ((c : Thread nD τ).loc main_arg4)) r k) rfl))

end Cert.GateScalarsBwdIdeal.Val

end
-- ==== Proof.Scalars.BwdPair.lean ====
/-
  The gradient of the beta and the decay, and the derivative of the plain ones, agree where softplus's argument is not zero and below
  infinity, the decay's rate is below infinity and the decay's cotangent is finite.
-/
module

public import proofs.«01_k».proof.Defs
public import proofs.«01_k».proof.Proof.Gen.Pre_gate_scalars_ok
public import proofs.«01_k».proof.Proof.Gen.GateScalarsBwdIdeal.Value
public import proofs.«01_k».proof.Proof.Shared.Finite
public import proofs.«01_k».proof.Proof.Scalars.Slope
public import proofs.«01_k».proof.Proof.Scalars.Bwd
public import proofs.«01_k».proof.Proof.Scalars.BwdRef
public import Idealize.ShloMosaic.Lib.Pointwise.Tactic
public import Idealize.ShloMosaic.Lib.ReduceAll

@[expose] public section

set_option maxRecDepth 16384

noncomputable section

namespace Cert.Scalars

open Idealize.ShloMosaic Cert.Pre_gate_scalars_ok Cert.Rows

/-! ## The precondition, read at an element -/

theorem both {a b : BitVec 1} (h : IntOp.andi a b = 1#1) : a = 1#1 ∧ b = 1#1 := by
  revert a b
  decide

theorem below_of_mask (x : EReal) (h : FloatOps.cmpf (F := Ideal) (φ := .f32) .olt x (Ideal.ofBits .f32 0x7F800000#32) = 1#1) : x ≠ ⊤ := by
  have ht : Ideal.ofBits .f32 0x7F800000#32 = ⊤ := by simp [Ideal.ofBits, Ideal.ieee]
  rw [ht] at h
  rintro rfl
  revert h
  simp [FloatOps.cmpf, Ideal.cmp]

theorem nonzero_of_mask (x : EReal) [Decidable (x ≠ 0)] (h : BitVec.ofBool (decide (x ≠ 0)) = 1#1) : x ≠ 0 := by
  intro e
  rw [decide_eq_false (not_not.mpr e)] at h
  exact absurd h (by decide)

theorem pre_of [Facts] (p : FVec Ideal S2x2048x5640 .f32) (a d : FVec Ideal S1x4 .f32) (db dg : FVec Ideal S2x2048x4 .f32)
    (h : fn p a d db dg = fun _ => 1#1) : Pre p a d dg := by
  haveI : Subsingleton S_.Idx := ⟨fun a b => funext fun k => k.elim0⟩
  unfold fn fn_part1 at h
  obtain ⟨h1, h3⟩ := both (congrFun h (fun k => k.elim0))
  obtain ⟨h1, h2⟩ := both h1
  clear h
  refine ⟨fun i => ?_, fun r k => ?_, fun i => ?_⟩
  · have e := Host.reduce_andi_all _ _ _ _ _ h2 i
    clear h1 h2 h3
    pointwise at e
    exact below_of_mask _ e
  · have e := Host.reduce_andi_all _ _ _ _ _ h1 (tok r k)
    clear h1 h2 h3
    pointwise at e
    exact ⟨below_of_mask _ (both e).1, nonzero_of_mask _ (both e).2⟩
  · have e := Host.reduce_andi_all _ _ _ _ _ h3 i
    clear h1 h2 h3
    pointwise at e
    exact finite_of_mask _ e

end Cert.Scalars

namespace Cert.Proof

open Cert.Rows Cert.GateScalarsBwdIdeal Idealize.ShloMosaic Idealize.ShloMosaic.TcCoe Idealize.SL.Sem

theorem algebraic_scalars : Cert.algebraic_GateScalarsBwdIdeal_GateScalarsRefIdeal_pre_gate_scalars_ok (hGateScalarsBwdIdeal := Cert.GateScalarsBwdIdeal.Gen.facts)
    (hGateScalarsRefIdeal := Cert.GateScalarsRefIdeal.Gen.facts) (hPre_gate_scalars_ok := Cert.Pre_gate_scalars_ok.Gen.facts) := by
  intro m g m' g' hpre hagree
  have hp := fun c : Dev nD =>
    haveI := Cert.Pre_gate_scalars_ok.Gen.facts
    Cert.Scalars.pre_of _ _ _ _ _ (hpre c)
  refine ⟨fun c => arr (Cert.Scalars.dbd (Cert.Scalars.slopeK (m ((c : Thread nD τ).loc main_arg0)) (m ((c : Thread nD τ).loc main_arg1)) (m ((c : Thread nD τ).loc main_arg2)) (m ((c : Thread nD τ).loc main_arg4))) (m ((c : Thread nD τ).loc main_arg0)) (m ((c : Thread nD τ).loc main_arg3))),
    fun c => arr (Cert.Scalars.lanes (Cert.Scalars.dalK (m ((c : Thread nD τ).loc main_arg0)) (m ((c : Thread nD τ).loc main_arg1)) (m ((c : Thread nD τ).loc main_arg2)) (m ((c : Thread nD τ).loc main_arg4)))),
    fun c => arr (Cert.Scalars.lanes (Cert.Scalars.total (Cert.Scalars.slopeK (m ((c : Thread nD τ).loc main_arg0)) (m ((c : Thread nD τ).loc main_arg1)) (m ((c : Thread nD τ).loc main_arg2)) (m ((c : Thread nD τ).loc main_arg4))))),
    (θ_run _ _ _).mono (fun r h c => ?_) (Cert.GateScalarsBwdIdeal.Value.run_blocks m g),
    (θ_run _ _ _).mono (fun r h c => ?_) (Cert.GateScalarsRefIdeal.Val.run m' g')⟩
  · obtain ⟨h4, h5, h6, k⟩ := h c
    exact ⟨h4.trans (Cert.GateScalarsBwdIdeal.Val.out_dbd m c), h5.trans (Cert.GateScalarsBwdIdeal.Val.out_dal m c), h6.trans (Cert.GateScalarsBwdIdeal.Val.out_ddt m c), k⟩
  · obtain ⟨e0, e1, e2, e3, e4⟩ := hagree c
    obtain ⟨h0, h1, h2, k⟩ := h c
    simp only [e0, e1, e2, e3, e4] at h0 h1 h2
    rw [Cert.Scalars.slope_eq (hp c)] at h0 h2
    rw [Cert.Scalars.dal_eq (hp c)] at h1
    exact ⟨h0, h1, h2, k⟩

end Cert.Proof

end
-- ==== Proof.Weight.Pair.lean ====
/-
  mm_d_gate_up: the kernel's output array, and the pair with the reference.
-/
module

public import proofs.«01_k».proof.Proof.Gen.WeightBwdIdeal.Value
public import proofs.«01_k».proof.Defs
public import proofs.«01_k».proof.Proof.Weight.Ref
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.WeightBwdIdeal.Val

open Cert.WeightBwdIdeal Cert.WeightBwdIdeal.Gen Cert.Rows
open Idealize.ShloMosaic Idealize.ShloMosaic.TcCoe Idealize.SL.Sem

variable (m : (ℓ : Loc nD τ sig) → Buf (Elt Ideal) ℓ)

theorem entry_d (c : Dev nD) (r : Fin 4096) (k : Fin 5632) : V m c main_v1 (ix2 r k) = m ((c : Thread nD τ).loc main_arg1) (tok r k) := by
  unfold V
  after_reads_at

theorem entry_h (c : Dev nD) (r : Fin 4096) (k : Fin 1024) : V m c main_v3 (ix2 r k) = m ((c : Thread nD τ).loc main_arg0) (tok r k) := by
  unfold V
  after_reads_at

/-! ## The blocks: grid point `t` is the block of 512 columns of the cotangent -/

theorem idx : ∀ t : Fin cfg0.N, win0_0.index t = ![0, t.val] ∧ win0_1.index t = ![0, 0] ∧ win0_2.index t = ![t.val, 0] :=
  (by decide +kernel : ∀ t : Fin grid0.N, _)

def col (t : Fin cfg0.N) (l : Fin 512) : Fin 5632 := ⟨512 * t.val + l.1, by have := t.isLt; have hN : cfg0.N = 11 := N_0; omega⟩

theorem read_d (c : Dev nD) (t : Fin cfg0.N) (r : Fin 4096) (l : Fin 512) : iblk m c 0 t (ix2 r l) = m ((c : Thread nD τ).loc main_arg1) (tok r (col t l)) := by
  refine Eq.trans ?_ (entry_d m c r (col t l))
  unfold col
  blk_ext [iblk, idx t]

theorem read_h (c : Dev nD) (t : Fin cfg0.N) (r : Fin 4096) (q : Fin 1024) : iblk m c 1 t (ix2 r q) = m ((c : Thread nD τ).loc main_arg0) (tok r q) := by
  refine Eq.trans ?_ (entry_h m c r q)
  blk_ext [iblk, idx t]

theorem pay_at (a : Vec Ideal S4096x512 .bf16) (b : Vec Ideal S4096x1024 .bf16) (l : Fin 512) (q : Fin 1024) :
    k0_pay1 (F := Ideal) a b (ix2 l q) = ∑ t, a (ix2 t l) * b (ix2 t q) := by
  pointwise [k0_pay1]

theorem at_sum (c : Dev nD) (t : Fin cfg0.N) (l : Fin 512) (q : Fin 1024) :
    (∑ j, (show EReal from iblk m c 0 t (ix2 j l)) * (show EReal from iblk m c 1 t (ix2 j q)))
      = Cert.Weight.grad (m ((c : Thread nD τ).loc main_arg0)) (m ((c : Thread nD τ).loc main_arg1)) (col t l) q :=
  Finset.sum_congr rfl fun j _ => congrArg₂ (fun a b : EReal => a * b) (read_d m c t j l) (read_h m c t j q)

theorem at_block (f : Fin 5632 → Fin 1024 → EReal) (t : Fin cfg0.N) (y : S512x1024.Idx) (z : S5632x1024.Idx)
    (h0 : (z 0).1 = t.val * 512 + (y 0).1) (h1 : (z 1).1 = (y 1).1) : arr f z = f (col t (y 0)) (y 1) :=
  congrArg₂ f (Fin.ext (h0.trans (by unfold col; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out (c : Dev nD) : (dats m 0 c).arrAt 2 cfg0.N = arr (Cert.Weight.grad (m ((c : Thread nD τ).loc main_arg0)) (m ((c : Thread nD τ).loc main_arg1))) := by
  refine (dats m 0 c).arrAt_eq_of_covers 2 _ (by decide +kernel) fun t hf y => ?_
  blk_simp
  refine Eq.trans ?_ (at_block _ t y _ (?_ : _ = _) (?_ : _ = _)).symm
  rotate_left
  iterate 2 blk_simp [idx t]
  rw [after0_2]
  unfold out0_2
  frame_out
  rw [ix2_eta y]
  exact (pay_at _ _ _ _).trans (at_sum m c t _ _)

end Cert.WeightBwdIdeal.Val

namespace Cert.Proof

open Cert.Rows Idealize.ShloMosaic Idealize.ShloMosaic.TcCoe Idealize.SL.Sem

theorem algebraic_weight : Cert.algebraic_WeightBwdIdeal_WeightRefIdeal (hWeightBwdIdeal := Cert.WeightBwdIdeal.Gen.facts) (hWeightRefIdeal := Cert.WeightRefIdeal.Gen.facts) := by
  intro m g m' g' _ hagree
  refine ⟨fun c => arr (Cert.Weight.grad (m ((c.tc : Thread Cert.WeightBwdIdeal.nD Cert.WeightBwdIdeal.τ).loc Cert.WeightBwdIdeal.main_arg0)) (m ((c.tc : Thread Cert.WeightBwdIdeal.nD Cert.WeightBwdIdeal.τ).loc Cert.WeightBwdIdeal.main_arg1))),
    (θ_run _ _ _).mono (fun r h c => ?_) (Cert.WeightBwdIdeal.Value.run_blocks m g), (θ_run _ _ _).mono (fun r h c => ?_) (Cert.WeightRefIdeal.Val.run m' g')⟩
  · obtain ⟨h0, k⟩ := h c
    exact ⟨h0.trans (Cert.WeightBwdIdeal.Val.out m c), k⟩
  · obtain ⟨e0, e1⟩ := hagree c
    obtain ⟨h0, k⟩ := h c
    simp only [e0, e1] at h0
    exact ⟨h0, k⟩

end Cert.Proof

end
-- ==== Proof.Weight.Input.lean ====
/-
  mm_dmerged: the kernel's output array, and the pair with the reference.
-/
module

public import proofs.«01_k».proof.Proof.Gen.InputBwdIdeal.Value
public import proofs.«01_k».proof.Defs
public import proofs.«01_k».proof.Proof.Weight.InputRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.InputBwdIdeal.Val

open Cert.InputBwdIdeal Cert.InputBwdIdeal.Gen Cert.Rows
open Idealize.ShloMosaic Idealize.ShloMosaic.TcCoe Idealize.SL.Sem

variable (m : (ℓ : Loc nD τ sig) → Buf (Elt Ideal) ℓ)

theorem entry_d (c : Dev nD) (r : Fin 4096) (k : Fin 1024) : V m c main_v1 (ix2 r k) = m ((c : Thread nD τ).loc main_arg1) (tok r k) := by
  unfold V
  after_reads_at

theorem entry_w (c : Dev nD) (r k : Fin 1024) : V m c main_v3 (ix2 r k) = m ((c : Thread nD τ).loc main_arg0) (ix3 0 r k) := by
  unfold V
  after_reads_at

/-! ## The blocks: grid point `t` is the block of 1024 rows of the cotangent -/

theorem idx : ∀ t : Fin cfg0.N, win0_0.index t = ![t.val, 0] ∧ win0_1.index t = ![0, 0] ∧ win0_2.index t = ![t.val, 0] :=
  (by decide +kernel : ∀ t : Fin grid0.N, _)

def row (t : Fin cfg0.N) (l : Fin 1024) : Fin 4096 := ⟨1024 * t.val + l.1, by have := t.isLt; have hN : cfg0.N = 4 := N_0; omega⟩

theorem read_d (c : Dev nD) (t : Fin cfg0.N) (l q : Fin 1024) : iblk m c 0 t (ix2 l q) = m ((c : Thread nD τ).loc main_arg1) (tok (row t l) q) := by
  refine Eq.trans ?_ (entry_d m c (row t l) q)
  unfold row
  blk_ext [iblk, idx t]

theorem read_w (c : Dev nD) (t : Fin cfg0.N) (r q : Fin 1024) : iblk m c 1 t (ix2 r q) = m ((c : Thread nD τ).loc main_arg0) (ix3 0 r q) := by
  refine Eq.trans ?_ (entry_w m c r q)
  blk_ext [iblk, idx t]

theorem pay_at (a b : Vec Ideal S1024x1024 .bf16) (l q : Fin 1024) :
    k0_pay1 (F := Ideal) a b (ix2 l q) = ∑ j, a (ix2 l j) * b (ix2 q j) := by
  pointwise [k0_pay1]

theorem at_sum (c : Dev nD) (t : Fin cfg0.N) (l q : Fin 1024) :
    (∑ j, (show EReal from iblk m c 0 t (ix2 l j)) * (show EReal from iblk m c 1 t (ix2 q j)))
      = Cert.Weight.inGrad (m ((c : Thread nD τ).loc main_arg0)) (m ((c : Thread nD τ).loc main_arg1)) (row t l) q :=
  Finset.sum_congr rfl fun j _ => congrArg₂ (fun a b : EReal => a * b) (read_d m c t l j) (read_w m c t q j)

theorem at_block (f : Fin 4096 → Fin 1024 → EReal) (t : Fin cfg0.N) (y : S1024x1024.Idx) (z : S4096x1024.Idx)
    (h0 : (z 0).1 = t.val * 1024 + (y 0).1) (h1 : (z 1).1 = (y 1).1) : arr f z = f (row t (y 0)) (y 1) :=
  congrArg₂ f (Fin.ext (h0.trans (by unfold row; dsimp only; omega))) (Fin.ext h1)

theorem ix2_eta {a b : Nat} (y : (⟨2, ![a, b]⟩ : Shape).Idx) : y = ix2 (y 0) (y 1) := funext fun i => match i with | ⟨0, _⟩ => rfl | ⟨1, _⟩ => rfl

theorem out (c : Dev nD) : (dats m 0 c).arrAt 2 cfg0.N = arr (Cert.Weight.inGrad (m ((c : Thread nD τ).loc main_arg0)) (m ((c : Thread nD τ).loc main_arg1))) := by
  refine (dats m 0 c).arrAt_eq_of_covers 2 _ (by decide +kernel) fun t hf y => ?_
  blk_simp
  refine Eq.trans ?_ (at_block _ t y _ (?_ : _ = _) (?_ : _ = _)).symm
  rotate_left
  iterate 2 blk_simp [idx t]
  rw [after0_2]
  unfold out0_2
  frame_out
  rw [ix2_eta y]
  exact (pay_at _ _ _ _).trans (at_sum m c t _ _)

end Cert.InputBwdIdeal.Val

namespace Cert.Proof

open Cert.Rows Idealize.ShloMosaic Idealize.ShloMosaic.TcCoe Idealize.SL.Sem

theorem algebraic_input : Cert.algebraic_InputBwdIdeal_InputRefIdeal (hInputBwdIdeal := Cert.InputBwdIdeal.Gen.facts) (hInputRefIdeal := Cert.InputRefIdeal.Gen.facts) := by
  intro m g m' g' _ hagree
  refine ⟨fun c => arr (Cert.Weight.inGrad (m ((c.tc : Thread Cert.InputBwdIdeal.nD Cert.InputBwdIdeal.τ).loc Cert.InputBwdIdeal.main_arg0)) (m ((c.tc : Thread Cert.InputBwdIdeal.nD Cert.InputBwdIdeal.τ).loc Cert.InputBwdIdeal.main_arg1))),
    (θ_run _ _ _).mono (fun r h c => ?_) (Cert.InputBwdIdeal.Value.run_blocks m g), (θ_run _ _ _).mono (fun r h c => ?_) (Cert.InputRefIdeal.Val.run m' g')⟩
  · obtain ⟨h0, k⟩ := h c
    exact ⟨h0.trans (Cert.InputBwdIdeal.Val.out m c), k⟩
  · obtain ⟨e0, e1⟩ := hagree c
    obtain ⟨h0, k⟩ := h c
    simp only [e0, e1] at h0
    exact ⟨h0, k⟩

end Cert.Proof

end
-- ==== Proof.Optimiser.Adamw.lean ====
/-
  adamw: the kernel's output arrays, and the pair with the reference.
-/
module

public import proofs.«01_k».proof.Proof.Gen.AdamwIdeal.Value
public import proofs.«01_k».proof.Defs
public import proofs.«01_k».proof.Proof.Optimiser.AdamwRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.AdamwIdeal.Val

open Cert.AdamwIdeal Cert.AdamwIdeal.Gen Cert.Rows
open Idealize.ShloMosaic Idealize.ShloMosaic.TcCoe Idealize.SL.Sem

variable (m : (ℓ : Loc nD τ sig) → Buf (Elt Ideal) ℓ)

theorem entry_w (c : Dev nD) (z : Fin 1) (k : Fin 1024) : V m c main_arg0 (ix2 z k) = m ((c : Thread nD τ).loc main_arg0) (ix2 z k) := by
  unfold V
  after_reads_at

theorem entry_g (c : Dev nD) (z : Fin 1) (k : Fin 1024) : V m c main_arg1 (ix2 z k) = m ((c : Thread nD τ).loc main_arg1) (ix2 z k) := by
  unfold V
  after_reads_at

theorem entry_m (c : Dev nD) (z : Fin 1) (k : Fin 1024) : V m c main_arg2 (ix2 z k) = m ((c : Thread nD τ).loc main_arg2) (ix2 z k) := by
  unfold V
  after_reads_at

theorem entry_v (c : Dev nD) (z : Fin 1) (k : Fin 1024) : V m c main_arg3 (ix2 z k) = m ((c : Thread nD τ).loc main_arg3) (ix2 z k) := by
  unfold V
  after_reads_at

/-! ## The blocks: grid point `t` is the block of 512 columns -/

theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] ∧ win0_7.index t = ![0, t.val] :=
  (by decide +kernel : ∀ t : Fin grid0.N, _)

def col (t : Fin cfg0.N) (l : Fin 512) : Fin 1024 := ⟨512 * t.val + l.1, by have := t.isLt; have hN : cfg0.N = 2 := N_0; omega⟩

theorem read_w (c : Dev nD) (t : Fin cfg0.N) (z : Fin 1) (l : Fin 512) : iblk m c 0 t (ix2 z l) = m ((c : Thread nD τ).loc main_arg0) (ix2 z (col t l)) := by
  refine Eq.trans ?_ (entry_w m c z (col t l))
  unfold col
  blk_ext [iblk, idx t]

theorem read_g (c : Dev nD) (t : Fin cfg0.N) (z : Fin 1) (l : Fin 512) : iblk m c 1 t (ix2 z l) = m ((c : Thread nD τ).loc main_arg1) (ix2 z (col t l)) := by
  refine Eq.trans ?_ (entry_g m c z (col t l))
  unfold col
  blk_ext [iblk, idx t]

theorem read_m (c : Dev nD) (t : Fin cfg0.N) (z : Fin 1) (l : Fin 512) : iblk m c 2 t (ix2 z l) = m ((c : Thread nD τ).loc main_arg2) (ix2 z (col t l)) := by
  refine Eq.trans ?_ (entry_m m c z (col t l))
  unfold col
  blk_ext [iblk, idx t]

theorem read_v (c : Dev nD) (t : Fin cfg0.N) (z : Fin 1) (l : Fin 512) : iblk m c 3 t (ix2 z l) = m ((c : Thread nD τ).loc main_arg3) (ix2 z (col t l)) := by
  refine Eq.trans ?_ (entry_v m c z (col t l))
  unfold col
  blk_ext [iblk, idx t]

theorem first_at (g m : Vec Ideal S1x512 .f32) (z : Fin 1) (l : Fin 512) :
    k0_pay1 (F := Ideal) g m (ix2 z l) = Cert.Optimiser.first (g (ix2 z l)) (m (ix2 z l)) := by
  pointwise [k0_pay1]
  rfl

theorem second_at (g v : Vec Ideal S1x512 .f32) (z : Fin 1) (l : Fin 512) :
    k0_pay2 (F := Ideal) g v (ix2 z l) = Cert.Optimiser.second (g (ix2 z l)) (v (ix2 z l)) := by
  pointwise [k0_pay2]
  rfl

theorem change_at (g m v w : Vec Ideal S1x512 .f32) (z : Fin 1) (l : Fin 512) :
    k0_pay3 (F := Ideal) g m v w (ix2 z l) = Cert.Optimiser.change (w (ix2 z l)) (g (ix2 z l)) (m (ix2 z l)) (v (ix2 z l)) := by
  pointwise [k0_pay3]
  simp only [first_at, second_at]
  rfl

theorem change_congr {w w' g g' m m' v v' : EReal} (hw : w = w') (hg : g = g') (hm : m = m') (hv : v = v') :
    Cert.Optimiser.change w g m v = Cert.Optimiser.change w' g' m' v' := by
  rw [hw, hg, hm, hv]

theorem at_block (f : Fin 1 → Fin 1024 → EReal) (t : Fin cfg0.N) (y : S1x512.Idx) (z : S1x1024.Idx)
    (h0 : (z 0).1 = (y 0).1) (h1 : (z 1).1 = t.val * 512 + (y 1).1) : arr f z = f (y 0) (col t (y 1)) :=
  congrArg₂ f (Fin.ext h0) (Fin.ext (h1.trans (by unfold col; dsimp only; omega)))

theorem ix2_eta {a b : Nat} (y : (⟨2, ![a, b]⟩ : Shape).Idx) : y = ix2 (y 0) (y 1) := funext fun i => match i with | ⟨0, _⟩ => rfl | ⟨1, _⟩ => rfl

/-- An array is its rows and columns. -/
theorem arr_self (a : Cert.Optimiser.Row) : arr (fun z k => a (ix2 z k)) = a := funext fun y => congrArg a (ix2_eta y).symm

theorem out_g (c : Dev nD) : (dats m 0 c).arrAt 4 cfg0.N = arr (fun z k => (m ((c : Thread nD τ).loc main_arg1)) (ix2 z k)) := by
  refine (dats m 0 c).arrAt_eq_of_covers 4 _ (by decide +kernel) fun t hf y => ?_
  blk_simp
  refine Eq.trans ?_ (at_block _ t y _ (?_ : _ = _) (?_ : _ = _)).symm
  rotate_left
  iterate 2 blk_simp [idx t]
  rw [after0_4]
  unfold out0_4
  frame_out
  rw [ix2_eta y]
  exact read_g m c t _ _

theorem out_d (c : Dev nD) : (dats m 0 c).arrAt 5 cfg0.N = arr (Cert.Optimiser.changes (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp
  refine Eq.trans ?_ (at_block _ t y _ (?_ : _ = _) (?_ : _ = _)).symm
  rotate_left
  iterate 2 blk_simp [idx t]
  rw [after0_5]
  unfold out0_5
  frame_out
  rw [ix2_eta y]
  refine (change_at _ _ _ _ _ _).trans ?_
  exact change_congr (read_w m c t _ _) (read_g m c t _ _) (read_m m c t _ _) (read_v m c t _ _)

theorem out_m (c : Dev nD) : (dats m 0 c).arrAt 6 cfg0.N = arr (Cert.Optimiser.firsts (m ((c : Thread nD τ).loc main_arg1)) (m ((c : Thread nD τ).loc main_arg2))) := by
  refine (dats m 0 c).arrAt_eq_of_covers 6 _ (by decide +kernel) fun t hf y => ?_
  blk_simp
  refine Eq.trans ?_ (at_block _ t y _ (?_ : _ = _) (?_ : _ = _)).symm
  rotate_left
  iterate 2 blk_simp [idx t]
  rw [after0_6]
  unfold out0_6
  frame_out
  rw [ix2_eta y]
  exact (first_at _ _ _ _).trans (congrArg₂ Cert.Optimiser.first (read_g m c t _ _) (read_m m c t _ _))

theorem out_v (c : Dev nD) : (dats m 0 c).arrAt 7 cfg0.N = arr (Cert.Optimiser.seconds (m ((c : Thread nD τ).loc main_arg1)) (m ((c : Thread nD τ).loc main_arg3))) := by
  refine (dats m 0 c).arrAt_eq_of_covers 7 _ (by decide +kernel) fun t hf y => ?_
  blk_simp
  refine Eq.trans ?_ (at_block _ t y _ (?_ : _ = _) (?_ : _ = _)).symm
  rotate_left
  iterate 2 blk_simp [idx t]
  rw [after0_7]
  unfold out0_7
  frame_out
  rw [ix2_eta y]
  exact (second_at _ _ _ _).trans (congrArg₂ Cert.Optimiser.second (read_g m c t _ _) (read_v m c t _ _))

end Cert.AdamwIdeal.Val

namespace Cert.Proof

open Cert.Rows Idealize.ShloMosaic Idealize.ShloMosaic.TcCoe Idealize.SL.Sem

theorem algebraic_adamw : Cert.algebraic_AdamwIdeal_AdamwRefIdeal (hAdamwIdeal := Cert.AdamwIdeal.Gen.facts) (hAdamwRefIdeal := Cert.AdamwRefIdeal.Gen.facts) := by
  intro m g m' g' _ hagree
  refine ⟨fun c => (m ((c.tc : Thread Cert.AdamwIdeal.nD Cert.AdamwIdeal.τ).loc Cert.AdamwIdeal.main_arg1)), fun c => arr (Cert.Optimiser.changes (m ((c.tc : Thread Cert.AdamwIdeal.nD Cert.AdamwIdeal.τ).loc Cert.AdamwIdeal.main_arg0)) (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg2)) (m ((c.tc : Thread Cert.AdamwIdeal.nD Cert.AdamwIdeal.τ).loc Cert.AdamwIdeal.main_arg3))),
    fun c => arr (Cert.Optimiser.firsts (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg2))), fun c => arr (Cert.Optimiser.seconds (m ((c.tc : Thread Cert.AdamwIdeal.nD Cert.AdamwIdeal.τ).loc Cert.AdamwIdeal.main_arg1)) (m ((c.tc : Thread Cert.AdamwIdeal.nD Cert.AdamwIdeal.τ).loc Cert.AdamwIdeal.main_arg3))),
    (θ_run _ _ _).mono (fun r h c => ?_) (Cert.AdamwIdeal.Value.run_blocks m g), (θ_run _ _ _).mono (fun r h c => ?_) (Cert.AdamwRefIdeal.Val.run m' g')⟩
  · obtain ⟨h0, h1, h2, h3, k⟩ := h c
    exact ⟨(h0.trans (Cert.AdamwIdeal.Val.out_g m c)).trans (Cert.AdamwIdeal.Val.arr_self _), h1.trans (Cert.AdamwIdeal.Val.out_d m c),
      h2.trans (Cert.AdamwIdeal.Val.out_m m c), h3.trans (Cert.AdamwIdeal.Val.out_v m c), k⟩
  · obtain ⟨e0, e1, e2, e3⟩ := hagree c
    obtain ⟨h0, h1, h2, h3, k⟩ := h c
    simp only [e0, e1, e2, e3] at h1 h2 h3
    exact ⟨h0.trans e1, h1, h2, h3, k⟩

end Cert.Proof

end
-- ==== Proof.Optimiser.Sum.lean ====
/-
  sum_small_grads: the kernel's output array, and the pair with the reference.
-/
module

public import proofs.«01_k».proof.Proof.Gen.SumSmallIdeal.Value
public import proofs.«01_k».proof.Defs
public import proofs.«01_k».proof.Proof.Optimiser.SumRef
public import Idealize.ShloMosaic.Lib.Claim
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.SumSmallIdeal.Val

open Cert.SumSmallIdeal Cert.SumSmallIdeal.Gen Cert.Rows
open Idealize.ShloMosaic Idealize.ShloMosaic.TcCoe Idealize.SL.Sem

variable (m : (ℓ : Loc nD τ sig) → Buf (Elt Ideal) ℓ)

theorem entry (c : Dev nD) (s : Fin 8) (r : Fin 16) (k : Fin 1024) : V m c main_arg0 (ix3 s r k) = m ((c : Thread nD τ).loc main_arg0) (ix3 s r k) := by
  unfold V
  after_reads_at

/-! ## The one block -/

theorem idx : ∀ t : Fin cfg0.N, win0_0.index t = ![0, 0, 0] ∧ win0_1.index t = ![0, 0] :=
  (by decide +kernel : ∀ t : Fin grid0.N, _)

theorem read (c : Dev nD) (t : Fin cfg0.N) (s : Fin 8) (r : Fin 16) (q : Fin 1024) : iblk m c 0 t (ix3 s r q) = m ((c : Thread nD τ).loc main_arg0) (ix3 s r q) := by
  refine Eq.trans ?_ (entry m c s r q)
  blk_ext [iblk, idx t]

theorem pay_at (a b d e f g h i : Vec Ideal S1x16x1024 .f32) (r : Fin 16) (q : Fin 1024) :
    k0_pay1 (F := Ideal) a b d e f g h i (ix2 r q)
      = a (ix3 0 r q) + b (ix3 0 r q) + d (ix3 0 r q) + e (ix3 0 r q) + f (ix3 0 r q) + g (ix3 0 r q) + h (ix3 0 r q) + i (ix3 0 r q) := by
  pointwise [k0_pay1]

/-- A load of one slot reads that slot. -/
theorem slot (c : Dev nD) (t : Fin cfg0.N) (s : Fin 8) (inb : ∀ a, (![s.1, 0, 0] : Fin 3 → Nat) a + S1x16x1024.size a ≤ S8x16x1024.size a) (r : Fin 16) (q : Fin 1024) :
    View.ld (iblk m c 0 t) (Rect.unit (s := S8x16x1024) ![s.1, 0, 0] S1x16x1024.size inb) (ix3 0 r q) = m ((c : Thread nD τ).loc main_arg0) (ix3 s r q) := by
  refine Eq.trans ?_ (read m c t s r q)
  rw [View.ld_unit]
  exact congrArg (iblk m c 0 t) (funext fun a => match a with
    | ⟨0, _⟩ => Fin.ext (Nat.add_zero _)
    | ⟨1, _⟩ => Fin.ext (Nat.zero_add _)
    | ⟨2, _⟩ => Fin.ext (Nat.zero_add _))

theorem add_congr {a b d e f g h i a' b' d' e' f' g' h' i' : EReal} (ha : a = a') (hb : b = b') (hd : d = d') (he : e = e') (hf : f = f') (hg : g = g') (hh : h = h') (hi : i = i') :
    a + b + d + e + f + g + h + i = a' + b' + d' + e' + f' + g' + h' + i' := by
  rw [ha, hb, hd, he, hf, hg, hh, hi]

theorem at_sum (c : Dev nD) (t : Fin cfg0.N) (r : Fin 16) (q : Fin 1024) :
    (show EReal from View.ld (iblk m c 0 t) r0_0 (ix3 0 r q)) + (show EReal from View.ld (iblk m c 0 t) r0_1 (ix3 0 r q)) + (show EReal from View.ld (iblk m c 0 t) r0_2 (ix3 0 r q)) + (show EReal from View.ld (iblk m c 0 t) r0_3 (ix3 0 r q))
      + (show EReal from View.ld (iblk m c 0 t) r0_4 (ix3 0 r q)) + (show EReal from View.ld (iblk m c 0 t) r0_5 (ix3 0 r q)) + (show EReal from View.ld (iblk m c 0 t) r0_6 (ix3 0 r q)) + (show EReal from View.ld (iblk m c 0 t) r0_7 (ix3 0 r q))
      = Cert.Optimiser.total (m ((c : Thread nD τ).loc main_arg0)) r q := by
  have h := fun (s : Fin 8) inb => slot m c t s inb r q
  refine (add_congr (h 0 inb_S8x16x1024_S1x16x1024_0_0_0) (h 1 inb_S8x16x1024_S1x16x1024_1_0_0) (h 2 inb_S8x16x1024_S1x16x1024_2_0_0) (h 3 inb_S8x16x1024_S1x16x1024_3_0_0)
      (h 4 inb_S8x16x1024_S1x16x1024_4_0_0) (h 5 inb_S8x16x1024_S1x16x1024_5_0_0) (h 6 inb_S8x16x1024_S1x16x1024_6_0_0) (h 7 inb_S8x16x1024_S1x16x1024_7_0_0)).trans ?_
  exact (Fin.sum_univ_eight fun s : Fin 8 => (show EReal from m ((c : Thread nD τ).loc main_arg0) (ix3 s r q))).symm

theorem at_block (f : Fin 16 → Fin 1024 → EReal) (y z : S16x1024.Idx)
    (h0 : (z 0).1 = (y 0).1) (h1 : (z 1).1 = (y 1).1) : arr f z = f (y 0) (y 1) :=
  congrArg₂ f (Fin.ext h0) (Fin.ext h1)

theorem ix2_eta {a b : Nat} (y : (⟨2, ![a, b]⟩ : Shape).Idx) : y = ix2 (y 0) (y 1) := funext fun i => match i with | ⟨0, _⟩ => rfl | ⟨1, _⟩ => rfl

theorem out (c : Dev nD) : (dats m 0 c).arrAt 1 cfg0.N = arr (Cert.Optimiser.total (m ((c : Thread nD τ).loc main_arg0))) := by
  refine (dats m 0 c).arrAt_eq_of_covers 1 _ (by decide +kernel) fun t hf y => ?_
  blk_simp
  refine Eq.trans ?_ (at_block _ y _ (?_ : _ = _) (?_ : _ = _)).symm
  rotate_left
  iterate 2 blk_simp [idx t]
  rw [after0_1]
  unfold out0_1
  frame_out
  rw [ix2_eta y]
  exact (pay_at _ _ _ _ _ _ _ _ _ _).trans (at_sum m c t _ _)

end Cert.SumSmallIdeal.Val

namespace Cert.Proof

open Cert.Rows Idealize.ShloMosaic Idealize.ShloMosaic.TcCoe Idealize.SL.Sem

theorem algebraic_sum : Cert.algebraic_SumSmallIdeal_SumSmallRefIdeal (hSumSmallIdeal := Cert.SumSmallIdeal.Gen.facts) (hSumSmallRefIdeal := Cert.SumSmallRefIdeal.Gen.facts) := by
  intro m g m' g' _ hagree
  refine ⟨fun c => arr (Cert.Optimiser.total (m ((c.tc : Thread Cert.SumSmallIdeal.nD Cert.SumSmallIdeal.τ).loc Cert.SumSmallIdeal.main_arg0))),
    (θ_run _ _ _).mono (fun r h c => ?_) (Cert.SumSmallIdeal.Value.run_blocks m g), (θ_run _ _ _).mono (fun r h c => ?_) (Cert.SumSmallRefIdeal.Val.run m' g')⟩
  · obtain ⟨h0, k⟩ := h c
    exact ⟨h0.trans (Cert.SumSmallIdeal.Val.out m c), k⟩
  · have e0 := hagree c
    obtain ⟨h0, k⟩ := h c
    simp only [e0] at h0
    exact ⟨h0, k⟩

end Cert.Proof

end
-- ==== Proof.lean ====
/-
  The claim: each pair's frames, preserves and value theorem, put together.
-/
module

public import proofs.«01_k».proof.Defs
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.MergeRefIdeal
public import proofs.«01_k».proof.Proof.Gen.MergeRefIdeal.Run
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvBwdIdeal.Value
public import proofs.«01_k».proof.Proof.Gen.ConvRefIdeal
public import proofs.«01_k».proof.Proof.Gen.ConvRefIdeal.Run
public import proofs.«01_k».proof.Proof.Gen.GatedNormBwd
public import proofs.«01_k».proof.Proof.Gen.GatedNormBwd.Frame
public import proofs.«01_k».proof.Proof.Gen.GatedNormBwdIdeal
public import proofs.«01_k».proof.Proof.Gen.GatedNormBwdIdeal.Frame
public import proofs.«01_k».proof.Proof.Gen.GatedNormBwdIdeal.Value
public import proofs.«01_k».proof.Proof.Gen.GatedNormRefIdeal
public import proofs.«01_k».proof.Proof.Gen.GatedNormRefIdeal.Run
public import proofs.«01_k».proof.Proof.Gen.SwigluBwd
public import proofs.«01_k».proof.Proof.Gen.SwigluBwd.Frame
public import proofs.«01_k».proof.Proof.Gen.SwigluBwdIdeal
public import proofs.«01_k».proof.Proof.Gen.SwigluBwdIdeal.Frame
public import proofs.«01_k».proof.Proof.Gen.SwigluBwdIdeal.Value
public import proofs.«01_k».proof.Proof.Gen.SwigluRefIdeal
public import proofs.«01_k».proof.Proof.Gen.SwigluRefIdeal.Run
public import proofs.«01_k».proof.Proof.Gen.RmsBwd
public import proofs.«01_k».proof.Proof.Gen.RmsBwd.Frame
public import proofs.«01_k».proof.Proof.Gen.RmsBwdIdeal
public import proofs.«01_k».proof.Proof.Gen.RmsBwdIdeal.Frame
public import proofs.«01_k».proof.Proof.Gen.RmsBwdIdeal.Value
public import proofs.«01_k».proof.Proof.Gen.RmsRefIdeal
public import proofs.«01_k».proof.Proof.Gen.RmsRefIdeal.Run
public import proofs.«01_k».proof.Proof.Gen.HeadLoss
public import proofs.«01_k».proof.Proof.Gen.HeadLoss.Frame
public import proofs.«01_k».proof.Proof.Gen.HeadLossIdeal
public import proofs.«01_k».proof.Proof.Gen.HeadLossIdeal.Frame
public import proofs.«01_k».proof.Proof.Gen.HeadLossIdeal.Value
public import proofs.«01_k».proof.Proof.Gen.HeadRefIdeal
public import proofs.«01_k».proof.Proof.Gen.HeadRefIdeal.Run
public import proofs.«01_k».proof.Proof.Gen.PleBwd
public import proofs.«01_k».proof.Proof.Gen.PleBwd.Frame
public import proofs.«01_k».proof.Proof.Gen.PleBwdIdeal
public import proofs.«01_k».proof.Proof.Gen.PleBwdIdeal.Frame
public import proofs.«01_k».proof.Proof.Gen.PleBwdIdeal.Value
public import proofs.«01_k».proof.Proof.Gen.PleRefIdeal
public import proofs.«01_k».proof.Proof.Gen.PleRefIdeal.Run
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixBwdIdeal.Value
public import proofs.«01_k».proof.Proof.Gen.MixRefIdeal
public import proofs.«01_k».proof.Proof.Gen.MixRefIdeal.Run
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFRefIdeal
public import proofs.«01_k».proof.Proof.Gen.AttnFRefIdeal.Run
public import proofs.«01_k».proof.Proof.Gen.RmsMix
public import proofs.«01_k».proof.Proof.Gen.RmsMix.Frame
public import proofs.«01_k».proof.Proof.Gen.RmsMixIdeal
public import proofs.«01_k».proof.Proof.Gen.RmsMixIdeal.Frame
public import proofs.«01_k».proof.Proof.Gen.RmsMixIdeal.Value
public import proofs.«01_k».proof.Proof.Gen.RmsMixRefIdeal
public import proofs.«01_k».proof.Proof.Gen.RmsMixRefIdeal.Run
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFRefIdeal
public import proofs.«01_k».proof.Proof.Gen.ConvFRefIdeal.Run
public import proofs.«01_k».proof.Proof.Gen.GateScalarsFwd
public import proofs.«01_k».proof.Proof.Gen.GateScalarsFwd.Frame
public import proofs.«01_k».proof.Proof.Gen.GateScalarsFwdIdeal
public import proofs.«01_k».proof.Proof.Gen.GateScalarsFwdIdeal.Frame
public import proofs.«01_k».proof.Proof.Gen.GateScalarsFwdIdeal.Value
public import proofs.«01_k».proof.Proof.Gen.GateScalarsFRefIdeal
public import proofs.«01_k».proof.Proof.Gen.GateScalarsFRefIdeal.Run
public import proofs.«01_k».proof.Proof.Gen.GatedNormFwd
public import proofs.«01_k».proof.Proof.Gen.GatedNormFwd.Frame
public import proofs.«01_k».proof.Proof.Gen.GatedNormFwdIdeal
public import proofs.«01_k».proof.Proof.Gen.GatedNormFwdIdeal.Frame
public import proofs.«01_k».proof.Proof.Gen.GatedNormFwdIdeal.Value
public import proofs.«01_k».proof.Proof.Gen.GatedNormFRefIdeal
public import proofs.«01_k».proof.Proof.Gen.GatedNormFRefIdeal.Run
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFRefIdeal
public import proofs.«01_k».proof.Proof.Gen.MergeFRefIdeal.Run
public import proofs.«01_k».proof.Proof.Gen.ResidualMix
public import proofs.«01_k».proof.Proof.Gen.ResidualMix.Frame
public import proofs.«01_k».proof.Proof.Gen.ResidualMixIdeal
public import proofs.«01_k».proof.Proof.Gen.ResidualMixIdeal.Frame
public import proofs.«01_k».proof.Proof.Gen.ResidualMixIdeal.Value
public import proofs.«01_k».proof.Proof.Gen.ResidualMixRefIdeal
public import proofs.«01_k».proof.Proof.Gen.ResidualMixRefIdeal.Run
public import proofs.«01_k».proof.Proof.Gen.SwigluFwd
public import proofs.«01_k».proof.Proof.Gen.SwigluFwd.Frame
public import proofs.«01_k».proof.Proof.Gen.SwigluFwdIdeal
public import proofs.«01_k».proof.Proof.Gen.SwigluFwdIdeal.Frame
public import proofs.«01_k».proof.Proof.Gen.SwigluFwdIdeal.Value
public import proofs.«01_k».proof.Proof.Gen.SwigluFRefIdeal
public import proofs.«01_k».proof.Proof.Gen.SwigluFRefIdeal.Run
public import proofs.«01_k».proof.Proof.Gen.ResidualFfn
public import proofs.«01_k».proof.Proof.Gen.ResidualFfn.Frame
public import proofs.«01_k».proof.Proof.Gen.ResidualFfnIdeal
public import proofs.«01_k».proof.Proof.Gen.ResidualFfnIdeal.Frame
public import proofs.«01_k».proof.Proof.Gen.ResidualFfnIdeal.Value
public import proofs.«01_k».proof.Proof.Gen.ResidualFfnRefIdeal
public import proofs.«01_k».proof.Proof.Gen.ResidualFfnRefIdeal.Run
public import proofs.«01_k».proof.Proof.Gen.GateScalarsBwd
public import proofs.«01_k».proof.Proof.Gen.GateScalarsBwd.Frame
public import proofs.«01_k».proof.Proof.Gen.GateScalarsBwdIdeal
public import proofs.«01_k».proof.Proof.Gen.GateScalarsBwdIdeal.Frame
public import proofs.«01_k».proof.Proof.Gen.GateScalarsBwdIdeal.Value
public import proofs.«01_k».proof.Proof.Gen.GateScalarsRefIdeal
public import proofs.«01_k».proof.Proof.Gen.GateScalarsRefIdeal.Run
public import proofs.«01_k».proof.Proof.Gen.WeightBwd
public import proofs.«01_k».proof.Proof.Gen.WeightBwd.Frame
public import proofs.«01_k».proof.Proof.Gen.WeightBwdIdeal
public import proofs.«01_k».proof.Proof.Gen.WeightBwdIdeal.Frame
public import proofs.«01_k».proof.Proof.Gen.WeightBwdIdeal.Value
public import proofs.«01_k».proof.Proof.Gen.WeightRefIdeal
public import proofs.«01_k».proof.Proof.Gen.WeightRefIdeal.Run
public import proofs.«01_k».proof.Proof.Gen.InputBwd
public import proofs.«01_k».proof.Proof.Gen.InputBwd.Frame
public import proofs.«01_k».proof.Proof.Gen.InputBwdIdeal
public import proofs.«01_k».proof.Proof.Gen.InputBwdIdeal.Frame
public import proofs.«01_k».proof.Proof.Gen.InputBwdIdeal.Value
public import proofs.«01_k».proof.Proof.Gen.InputRefIdeal
public import proofs.«01_k».proof.Proof.Gen.InputRefIdeal.Run
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.Pre_conv_ct_finite
public import proofs.«01_k».proof.Proof.Gen.Pre_attn_finite
public import proofs.«01_k».proof.Proof.Gen.Pre_gate_scalars_ok
public import proofs.«01_k».proof.Proof.Merge.Ref
public import proofs.«01_k».proof.Proof.Conv.Ref
public import proofs.«01_k».proof.Proof.GatedNorm.Ref
public import proofs.«01_k».proof.Proof.Swiglu.Ref
public import proofs.«01_k».proof.Proof.Rms.Ref
public import proofs.«01_k».proof.Proof.Head.Ref
public import proofs.«01_k».proof.Proof.Ple.Ref
public import proofs.«01_k».proof.Proof.Mix.Ref
public import proofs.«01_k».proof.Proof.AttnF.Ref
public import proofs.«01_k».proof.Proof.Residual.RmsMixRef
public import proofs.«01_k».proof.Proof.Conv.FwdRef
public import proofs.«01_k».proof.Proof.Scalars.FwdRef
public import proofs.«01_k».proof.Proof.GatedNorm.FwdRef
public import proofs.«01_k».proof.Proof.Merge.FwdRef
public import proofs.«01_k».proof.Proof.Residual.MixRef
public import proofs.«01_k».proof.Proof.Swiglu.FwdRef
public import proofs.«01_k».proof.Proof.Residual.FfnRef
public import proofs.«01_k».proof.Proof.Scalars.BwdRef
public import proofs.«01_k».proof.Proof.Weight.Ref
public import proofs.«01_k».proof.Proof.Weight.InputRef
public import proofs.«01_k».proof.Proof.Optimiser.AdamwRef
public import proofs.«01_k».proof.Proof.Optimiser.SumRef
public import proofs.«01_k».proof.Proof.Merge.Pair
public import proofs.«01_k».proof.Proof.Conv.Pair
public import proofs.«01_k».proof.Proof.GatedNorm.Pair
public import proofs.«01_k».proof.Proof.Swiglu.Pair
public import proofs.«01_k».proof.Proof.Rms.Pair
public import proofs.«01_k».proof.Proof.Head.Pair
public import proofs.«01_k».proof.Proof.Ple.Pair
public import proofs.«01_k».proof.Proof.Mix.Pair
public import proofs.«01_k».proof.Proof.AttnF.Pair
public import proofs.«01_k».proof.Proof.Residual.RmsMix
public import proofs.«01_k».proof.Proof.Conv.Fwd
public import proofs.«01_k».proof.Proof.Scalars.Fwd
public import proofs.«01_k».proof.Proof.GatedNorm.Fwd
public import proofs.«01_k».proof.Proof.Merge.Fwd
public import proofs.«01_k».proof.Proof.Residual.Mix
public import proofs.«01_k».proof.Proof.Swiglu.Fwd
public import proofs.«01_k».proof.Proof.Residual.Ffn
public import proofs.«01_k».proof.Proof.Scalars.BwdPair
public import proofs.«01_k».proof.Proof.Weight.Pair
public import proofs.«01_k».proof.Proof.Weight.Input
public import proofs.«01_k».proof.Proof.Optimiser.Adamw
public import proofs.«01_k».proof.Proof.Optimiser.Sum
public import Idealize.ShloMosaic.Adequacy
public import Idealize.ShloMosaic.Init

@[expose] public section

noncomputable section

namespace Cert.Proof

open Idealize.ShloMosaic Idealize.SL.Sem

theorem claim : Cert.Claim := ⟨
  Cert.MergeBwd.Gen.facts, Cert.MergeBwdIdeal.Gen.facts, Cert.MergeRefIdeal.Gen.facts, Cert.ConvBwd.Gen.facts, Cert.ConvBwdIdeal.Gen.facts, Cert.ConvRefIdeal.Gen.facts, Cert.GatedNormBwd.Gen.facts, Cert.GatedNormBwdIdeal.Gen.facts, Cert.GatedNormRefIdeal.Gen.facts, Cert.SwigluBwd.Gen.facts, Cert.SwigluBwdIdeal.Gen.facts, Cert.SwigluRefIdeal.Gen.facts, Cert.RmsBwd.Gen.facts, Cert.RmsBwdIdeal.Gen.facts, Cert.RmsRefIdeal.Gen.facts, Cert.HeadLoss.Gen.facts, Cert.HeadLossIdeal.Gen.facts, Cert.HeadRefIdeal.Gen.facts, Cert.PleBwd.Gen.facts, Cert.PleBwdIdeal.Gen.facts, Cert.PleRefIdeal.Gen.facts, Cert.MixBwd.Gen.facts, Cert.MixBwdIdeal.Gen.facts, Cert.MixRefIdeal.Gen.facts, Cert.AttnFwd.Gen.facts, Cert.AttnFwdIdeal.Gen.facts, Cert.AttnFRefIdeal.Gen.facts, Cert.RmsMix.Gen.facts, Cert.RmsMixIdeal.Gen.facts, Cert.RmsMixRefIdeal.Gen.facts, Cert.ConvFwd.Gen.facts, Cert.ConvFwdIdeal.Gen.facts, Cert.ConvFRefIdeal.Gen.facts, Cert.GateScalarsFwd.Gen.facts, Cert.GateScalarsFwdIdeal.Gen.facts, Cert.GateScalarsFRefIdeal.Gen.facts, Cert.GatedNormFwd.Gen.facts, Cert.GatedNormFwdIdeal.Gen.facts, Cert.GatedNormFRefIdeal.Gen.facts, Cert.MergeFwd.Gen.facts, Cert.MergeFwdIdeal.Gen.facts, Cert.MergeFRefIdeal.Gen.facts, Cert.ResidualMix.Gen.facts, Cert.ResidualMixIdeal.Gen.facts, Cert.ResidualMixRefIdeal.Gen.facts, Cert.SwigluFwd.Gen.facts, Cert.SwigluFwdIdeal.Gen.facts, Cert.SwigluFRefIdeal.Gen.facts, Cert.ResidualFfn.Gen.facts, Cert.ResidualFfnIdeal.Gen.facts, Cert.ResidualFfnRefIdeal.Gen.facts, Cert.GateScalarsBwd.Gen.facts, Cert.GateScalarsBwdIdeal.Gen.facts, Cert.GateScalarsRefIdeal.Gen.facts, Cert.WeightBwd.Gen.facts, Cert.WeightBwdIdeal.Gen.facts, Cert.WeightRefIdeal.Gen.facts, Cert.InputBwd.Gen.facts, Cert.InputBwdIdeal.Gen.facts, Cert.InputRefIdeal.Gen.facts, Cert.Adamw.Gen.facts, Cert.AdamwIdeal.Gen.facts, Cert.AdamwRefIdeal.Gen.facts, Cert.SumSmall.Gen.facts, Cert.SumSmallIdeal.Gen.facts, Cert.SumSmallRefIdeal.Gen.facts, Cert.Pre_conv_ct_finite.Gen.facts, Cert.Pre_attn_finite.Gen.facts, Cert.Pre_gate_scalars_ok.Gen.facts,
  fun m ρ _ => Cert.MergeBwd.Gen.frame m ρ,
  fun m ρ _ => Cert.MergeBwdIdeal.Gen.frame m ρ,
  fun m ρ _ => (θ_run Cert.MergeRefIdeal.defs _ _).mono (fun r h => ⟨fun c => (h c).2.2.2.2, sem_eq_zero_of_no_sems (by decide) r.2⟩) (Cert.MergeRefIdeal.Val.run m ρ),
  fun m ρ _ => Cert.ConvBwd.Gen.frame m ρ,
  fun m ρ _ => Cert.ConvBwdIdeal.Gen.frame m ρ,
  fun m ρ _ => Cert.ConvBwdIdeal.Gen.frame m ρ,
  fun m ρ _ => (θ_run Cert.ConvRefIdeal.defs _ _).mono (fun r h => ⟨fun c => (h c).2.2, sem_eq_zero_of_no_sems (by decide) r.2⟩) (Cert.ConvRefIdeal.Val.run m ρ),
  fun m ρ _ => (θ_run Cert.ConvRefIdeal.defs _ _).mono (fun r h => ⟨fun c => (h c).2.2, sem_eq_zero_of_no_sems (by decide) r.2⟩) (Cert.ConvRefIdeal.Val.run m ρ),
  fun m ρ _ => Cert.GatedNormBwd.Gen.frame m ρ,
  fun m ρ _ => Cert.GatedNormBwdIdeal.Gen.frame m ρ,
  fun m ρ _ => (θ_run Cert.GatedNormRefIdeal.defs _ _).mono (fun r h => ⟨fun c => (h c).2.2.2, sem_eq_zero_of_no_sems (by decide) r.2⟩) (Cert.GatedNormRefIdeal.Val.run m ρ),
  fun m ρ _ => Cert.SwigluBwd.Gen.frame m ρ,
  fun m ρ _ => Cert.SwigluBwdIdeal.Gen.frame m ρ,
  fun m ρ _ => (θ_run Cert.SwigluRefIdeal.defs _ _).mono (fun r h => ⟨fun c => (h c).2, sem_eq_zero_of_no_sems (by decide) r.2⟩) (Cert.SwigluRefIdeal.Val.run m ρ),
  fun m ρ _ => Cert.RmsBwd.Gen.frame m ρ,
  fun m ρ _ => Cert.RmsBwdIdeal.Gen.frame m ρ,
  fun m ρ _ => (θ_run Cert.RmsRefIdeal.defs _ _).mono (fun r h => ⟨fun c => (h c).2.2, sem_eq_zero_of_no_sems (by decide) r.2⟩) (Cert.RmsRefIdeal.Val.run m ρ),
  fun m ρ _ => Cert.HeadLoss.Gen.frame m ρ,
  fun m ρ _ => Cert.HeadLossIdeal.Gen.frame m ρ,
  fun m ρ _ => (θ_run Cert.HeadRefIdeal.defs _ _).mono (fun r h => ⟨fun c => (h c).2.2.2.2.2, sem_eq_zero_of_no_sems (by decide) r.2⟩) (Cert.HeadRefIdeal.Val.run m ρ),
  fun m ρ _ => Cert.PleBwd.Gen.frame m ρ,
  fun m ρ _ => Cert.PleBwdIdeal.Gen.frame m ρ,
  fun m ρ _ => (θ_run Cert.PleRefIdeal.defs _ _).mono (fun r h => ⟨fun c => (h c).2.2, sem_eq_zero_of_no_sems (by decide) r.2⟩) (Cert.PleRefIdeal.Val.run m ρ),
  fun m ρ _ => Cert.MixBwd.Gen.frame m ρ,
  fun m ρ _ => Cert.MixBwdIdeal.Gen.frame m ρ,
  fun m ρ _ => (θ_run Cert.MixRefIdeal.defs _ _).mono (fun r h => ⟨fun c => (h c).2.2, sem_eq_zero_of_no_sems (by decide) r.2⟩) (Cert.MixRefIdeal.Val.run m ρ),
  fun m ρ _ => Cert.AttnFwd.Gen.frame m ρ,
  fun m ρ _ => Cert.AttnFwdIdeal.Gen.frame m ρ,
  fun m ρ _ => Cert.AttnFwdIdeal.Gen.frame m ρ,
  fun m ρ _ => (θ_run Cert.AttnFRefIdeal.defs _ _).mono (fun r h => ⟨fun c => (h c).2, sem_eq_zero_of_no_sems (by decide) r.2⟩) (Cert.AttnFRefIdeal.Val.run m ρ),
  fun m ρ _ => (θ_run Cert.AttnFRefIdeal.defs _ _).mono (fun r h => ⟨fun c => (h c).2, sem_eq_zero_of_no_sems (by decide) r.2⟩) (Cert.AttnFRefIdeal.Val.run m ρ),
  fun m ρ _ => Cert.RmsMix.Gen.frame m ρ,
  fun m ρ _ => Cert.RmsMixIdeal.Gen.frame m ρ,
  fun m ρ _ => (θ_run Cert.RmsMixRefIdeal.defs _ _).mono (fun r h => ⟨fun c => (h c).2, sem_eq_zero_of_no_sems (by decide) r.2⟩) (Cert.RmsMixRefIdeal.Val.run m ρ),
  fun m ρ _ => Cert.ConvFwd.Gen.frame m ρ,
  fun m ρ _ => Cert.ConvFwdIdeal.Gen.frame m ρ,
  fun m ρ _ => (θ_run Cert.ConvFRefIdeal.defs _ _).mono (fun r h => ⟨fun c => (h c).2, sem_eq_zero_of_no_sems (by decide) r.2⟩) (Cert.ConvFRefIdeal.Val.run m ρ),
  fun m ρ _ => Cert.GateScalarsFwd.Gen.frame m ρ,
  fun m ρ _ => Cert.GateScalarsFwdIdeal.Gen.frame m ρ,
  fun m ρ _ => (θ_run Cert.GateScalarsFRefIdeal.defs _ _).mono (fun r h => ⟨fun c => (h c).2, sem_eq_zero_of_no_sems (by decide) r.2⟩) (Cert.GateScalarsFRefIdeal.Val.run m ρ),
  fun m ρ _ => Cert.GatedNormFwd.Gen.frame m ρ,
  fun m ρ _ => Cert.GatedNormFwdIdeal.Gen.frame m ρ,
  fun m ρ _ => (θ_run Cert.GatedNormFRefIdeal.defs _ _).mono (fun r h => ⟨fun c => (h c).2, sem_eq_zero_of_no_sems (by decide) r.2⟩) (Cert.GatedNormFRefIdeal.Val.run m ρ),
  fun m ρ _ => Cert.MergeFwd.Gen.frame m ρ,
  fun m ρ _ => Cert.MergeFwdIdeal.Gen.frame m ρ,
  fun m ρ _ => (θ_run Cert.MergeFRefIdeal.defs _ _).mono (fun r h => ⟨fun c => (h c).2, sem_eq_zero_of_no_sems (by decide) r.2⟩) (Cert.MergeFRefIdeal.Val.run m ρ),
  fun m ρ _ => Cert.ResidualMix.Gen.frame m ρ,
  fun m ρ _ => Cert.ResidualMixIdeal.Gen.frame m ρ,
  fun m ρ _ => (θ_run Cert.ResidualMixRefIdeal.defs _ _).mono (fun r h => ⟨fun c => (h c).2.2, sem_eq_zero_of_no_sems (by decide) r.2⟩) (Cert.ResidualMixRefIdeal.Val.run m ρ),
  fun m ρ _ => Cert.SwigluFwd.Gen.frame m ρ,
  fun m ρ _ => Cert.SwigluFwdIdeal.Gen.frame m ρ,
  fun m ρ _ => (θ_run Cert.SwigluFRefIdeal.defs _ _).mono (fun r h => ⟨fun c => (h c).2.2, sem_eq_zero_of_no_sems (by decide) r.2⟩) (Cert.SwigluFRefIdeal.Val.run m ρ),
  fun m ρ _ => Cert.ResidualFfn.Gen.frame m ρ,
  fun m ρ _ => Cert.ResidualFfnIdeal.Gen.frame m ρ,
  fun m ρ _ => (θ_run Cert.ResidualFfnRefIdeal.defs _ _).mono (fun r h => ⟨fun c => (h c).2.2, sem_eq_zero_of_no_sems (by decide) r.2⟩) (Cert.ResidualFfnRefIdeal.Val.run m ρ),
  fun m ρ _ => Cert.GateScalarsBwd.Gen.frame m ρ,
  fun m ρ _ => Cert.GateScalarsBwdIdeal.Gen.frame m ρ,
  fun m ρ _ => Cert.GateScalarsBwdIdeal.Gen.frame m ρ,
  fun m ρ _ => (θ_run Cert.GateScalarsRefIdeal.defs _ _).mono (fun r h => ⟨fun c => (h c).2.2.2, sem_eq_zero_of_no_sems (by decide) r.2⟩) (Cert.GateScalarsRefIdeal.Val.run m ρ),
  fun m ρ _ => (θ_run Cert.GateScalarsRefIdeal.defs _ _).mono (fun r h => ⟨fun c => (h c).2.2.2, sem_eq_zero_of_no_sems (by decide) r.2⟩) (Cert.GateScalarsRefIdeal.Val.run m ρ),
  fun m ρ _ => Cert.WeightBwd.Gen.frame m ρ,
  fun m ρ _ => Cert.WeightBwdIdeal.Gen.frame m ρ,
  fun m ρ _ => (θ_run Cert.WeightRefIdeal.defs _ _).mono (fun r h => ⟨fun c => (h c).2, sem_eq_zero_of_no_sems (by decide) r.2⟩) (Cert.WeightRefIdeal.Val.run m ρ),
  fun m ρ _ => Cert.InputBwd.Gen.frame m ρ,
  fun m ρ _ => Cert.InputBwdIdeal.Gen.frame m ρ,
  fun m ρ _ => (θ_run Cert.InputRefIdeal.defs _ _).mono (fun r h => ⟨fun c => (h c).2, sem_eq_zero_of_no_sems (by decide) r.2⟩) (Cert.InputRefIdeal.Val.run m ρ),
  fun m ρ _ => Cert.Adamw.Gen.frame m ρ,
  fun m ρ _ => Cert.AdamwIdeal.Gen.frame m ρ,
  fun m ρ _ => (θ_run Cert.AdamwRefIdeal.defs _ _).mono (fun r h => ⟨fun c => (h c).2.2.2.2, sem_eq_zero_of_no_sems (by decide) r.2⟩) (Cert.AdamwRefIdeal.Val.run m ρ),
  fun m ρ _ => Cert.SumSmall.Gen.frame m ρ,
  fun m ρ _ => Cert.SumSmallIdeal.Gen.frame m ρ,
  fun m ρ _ => (θ_run Cert.SumSmallRefIdeal.defs _ _).mono (fun r h => ⟨fun c => (h c).2, sem_eq_zero_of_no_sems (by decide) r.2⟩) (Cert.SumSmallRefIdeal.Val.run m ρ),
  trivial,
  algebraic_merge,
  trivial,
  algebraic_conv,
  trivial,
  algebraic_gnorm,
  trivial,
  algebraic_swiglu,
  trivial,
  algebraic_rms,
  trivial,
  algebraic_head,
  trivial,
  algebraic_ple,
  trivial,
  algebraic_mix,
  trivial,
  algebraic_attnf,
  trivial,
  algebraic_rms_mix,
  trivial,
  algebraic_conv_fwd,
  trivial,
  algebraic_scalars_fwd,
  trivial,
  algebraic_gnorm_fwd,
  trivial,
  algebraic_merge_fwd,
  trivial,
  algebraic_residual_mix,
  trivial,
  algebraic_swiglu_fwd,
  trivial,
  algebraic_residual_ffn,
  trivial,
  algebraic_scalars,
  trivial,
  algebraic_weight,
  trivial,
  algebraic_input,
  trivial,
  algebraic_adamw,
  trivial,
  algebraic_sum⟩

end Cert.Proof

end
